-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_documents_in_order [hPre_documents_in_order : Cert.Pre_documents_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_documents_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_documents_in_order [hPre_documents_in_order : Cert.Pre_documents_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_documents_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_documents_in_order [hKernelIdeal : Cert.KernelIdeal.Facts] [hPre_documents_in_order : Cert.Pre_documents_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_documents_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_documents_in_order [hReferenceIdeal : Cert.ReferenceIdeal.Facts] [hPre_documents_in_order : Cert.Pre_documents_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_documents_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "open" .f32 0x7149F2CA#32 ⊤
  ∧ IdealRules.named_const.Statement Cert.KernelIdeal.κ "masked" .f32 0xF149F2CA#32 ⊥
  ∧ IdealRules.named_const.Statement Cert.KernelIdeal.κ "alpha" .f32 0x3DE995B3#32 (((10610843 / 134217728) * (Real.log 2)⁻¹ : ℝ) : EReal)
  ∧ IdealRules.named_const.Statement Cert.KernelIdeal.κ "inv_v" .f32 0x3B4CCCCD#32 ((1 / 320 : ℝ) : EReal)

def algebraic_KernelIdeal_ReferenceIdeal_pre_documents_in_order [hKernelIdeal : Cert.KernelIdeal.Facts] [hReferenceIdeal : Cert.ReferenceIdeal.Facts] [hPre_documents_in_order : Cert.Pre_documents_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_documents_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_documents_in_order : Cert.Pre_documents_in_order.Facts),
    quiescent_Kernel (hKernel := hKernel)
    ∧ quiescent_KernelIdeal (hKernelIdeal := hKernelIdeal)
    ∧ quiescent_KernelIdeal_pre_documents_in_order (hKernelIdeal := hKernelIdeal) (hPre_documents_in_order := hPre_documents_in_order)
    ∧ quiescent_ReferenceIdeal (hReferenceIdeal := hReferenceIdeal)
    ∧ quiescent_ReferenceIdeal_pre_documents_in_order (hReferenceIdeal := hReferenceIdeal) (hPre_documents_in_order := hPre_documents_in_order)
    ∧ preserves_Kernel_KernelIdeal
    ∧ algebraic_KernelIdeal_ReferenceIdeal_pre_documents_in_order (hKernelIdeal := hKernelIdeal) (hReferenceIdeal := hReferenceIdeal) (hPre_documents_in_order := hPre_documents_in_order)
-- ==== Pre_documents_in_order.lean ====
abbrev S24x2048x6x2x160 : Shape := ⟨5, ![24, 2048, 6, 2, 160]⟩
abbrev S24x2048x6x2 : Shape := ⟨4, ![24, 2048, 6, 2]⟩
abbrev S24x2048x6x320 : Shape := ⟨4, ![24, 2048, 6, 320]⟩
abbrev S6x320 : Shape := ⟨2, ![6, 320]⟩
abbrev S24x2048 : Shape := ⟨2, ![24, 2048]⟩
abbrev S160 : Shape := ⟨1, ![160]⟩
abbrev S320 : Shape := ⟨1, ![320]⟩
abbrev S24x2047 : Shape := ⟨2, ![24, 2047]⟩
abbrev S_ : Shape := ⟨0, ![]⟩

class Facts : Prop where
  slices_S24x2048_S24x2047_0_1 : S24x2048.Slices ![0, 1] S24x2047
  slices_S24x2048_S24x2047_0_0 : S24x2048.Slices ![0, 0] S24x2047
  reducesTo_S24x2047_S_d0_1 : S24x2047.ReducesTo [0, 1] S_
  h_S_ : 0 < S_.numel

variable [Facts]

def fn {F : FTy → Type} [FloatOps F] (main_arg0 : FVec F S24x2048x6x2x160 .fp8e4m3) (main_arg1 : FVec F S24x2048x6x2 .f32) (main_arg2 : FVec F S24x2048x6x2x160 .fp8e4m3) (main_arg3 : FVec F S24x2048x6x2 .f32) (main_arg4 : FVec F S24x2048x6x320 .fp8e4m3) (main_arg5 : FVec F S6x320 .f32) (main_arg6 : IVec S24x2048 32) (main_arg7 : FVec F S160 .f32) (main_arg8 : FVec F S160 .f32) (main_arg9 : FVec F S160 .f32) (main_arg10 : FVec F S160 .f32) (main_arg11 : FVec F S320 .f32) : IVec S_ 1 :=
  let main_v0 : IVec S24x2047 32 := (extractStridedSlice S24x2047 ![0, 1] · slices_S24x2048_S24x2047_0_1) main_arg6
  let main_v1 : IVec S24x2047 32 := (extractStridedSlice S24x2047 ![0, 0] · slices_S24x2048_S24x2047_0_0) main_arg6
  let main_v2 : IVec S24x2047 1 := cmpi .sge main_v0 main_v1
  let main_c : IVec S_ 1 := constantI S_ 1 1#1
  let main_v3 : IVec S_ 1 := (fun x v => Host.reduce IntOp.andi x v reducesTo_S24x2047_S_d0_1 h_S_) main_v2 main_c
  main_v3
-- ==== Kernel.lean ====
abbrev S24x2048x6x2x160 : Shape := ⟨5, ![24, 2048, 6, 2, 160]⟩
abbrev S24x2048x6x2 : Shape := ⟨4, ![24, 2048, 6, 2]⟩
abbrev S24x2048x6x320 : Shape := ⟨4, ![24, 2048, 6, 320]⟩
abbrev S6x320 : Shape := ⟨2, ![6, 320]⟩
abbrev S24x2048 : Shape := ⟨2, ![24, 2048]⟩
abbrev S160 : Shape := ⟨1, ![160]⟩
abbrev S320 : Shape := ⟨1, ![320]⟩
abbrev S_ : Shape := ⟨0, ![]⟩
abbrev S24x6x2x160x2048 : Shape := ⟨5, ![24, 6, 2, 160, 2048]⟩
abbrev S24x6x320x2048 : Shape := ⟨4, ![24, 6, 320, 2048]⟩
abbrev S24x6x2x2048 : Shape := ⟨4, ![24, 6, 2, 2048]⟩
abbrev S6x320x1 : Shape := ⟨3, ![6, 320, 1]⟩
abbrev S6x320x128 : Shape := ⟨3, ![6, 320, 128]⟩
abbrev S320x1 : Shape := ⟨2, ![320, 1]⟩
abbrev S320x128 : Shape := ⟨2, ![320, 128]⟩
abbrev S24x8 : Shape := ⟨2, ![24, 8]⟩
abbrev S24x1x2048 : Shape := ⟨3, ![24, 1, 2048]⟩
abbrev S24x8x1 : Shape := ⟨3, ![24, 8, 1]⟩
abbrev S24x8x2048 : Shape := ⟨3, ![24, 8, 2048]⟩
abbrev S1x128 : Shape := ⟨2, ![1, 128]⟩
abbrev S24x2048x1920 : Shape := ⟨3, ![24, 2048, 1920]⟩
abbrev S1x6x2x160x256 : Shape := ⟨5, ![1, 6, 2, 160, 256]⟩
abbrev S1x6x2x256 : Shape := ⟨4, ![1, 6, 2, 256]⟩
abbrev S1x6x320x256 : Shape := ⟨4, ![1, 6, 320, 256]⟩
abbrev S1x1x256 : Shape := ⟨3, ![1, 1, 256]⟩
abbrev S1x256x1920 : Shape := ⟨3, ![1, 256, 1920]⟩
abbrev S6x2x2048x160 : Shape := ⟨4, ![6, 2, 2048, 160]⟩
abbrev S6x320x2048 : Shape := ⟨3, ![6, 320, 2048]⟩
abbrev S6x2x2048x128 : Shape := ⟨4, ![6, 2, 2048, 128]⟩
abbrev S2x2048x256 : Shape := ⟨3, ![2, 2048, 256]⟩
abbrev S256x256 : Shape := ⟨2, ![256, 256]⟩
abbrev S256x128 : Shape := ⟨2, ![256, 128]⟩
abbrev S8x256 : Shape := ⟨2, ![8, 256]⟩
abbrev S640x256 : Shape := ⟨2, ![640, 256]⟩
abbrev S320x256 : Shape := ⟨2, ![320, 256]⟩
abbrev S1x1 : Shape := ⟨2, ![1, 1]⟩
abbrev S1x256 : Shape := ⟨2, ![1, 256]⟩
abbrev S128x128 : Shape := ⟨2, ![128, 128]⟩
abbrev S1x1x1x160x256 : Shape := ⟨5, ![1, 1, 1, 160, 256]⟩
abbrev S160x256 : Shape := ⟨2, ![160, 256]⟩
abbrev S256x160 : Shape := ⟨2, ![256, 160]⟩
abbrev S1x1x256x160 : Shape := ⟨4, ![1, 1, 256, 160]⟩
abbrev S1x1x1x256 : Shape := ⟨4, ![1, 1, 1, 256]⟩
abbrev S1x1x256x128 : Shape := ⟨4, ![1, 1, 256, 128]⟩
abbrev S1x1x320x256 : Shape := ⟨4, ![1, 1, 320, 256]⟩
abbrev S1x320x256 : Shape := ⟨3, ![1, 320, 256]⟩
abbrev S1x256x256 : Shape := ⟨3, ![1, 256, 256]⟩
abbrev S32x8x256 : Shape := ⟨3, ![32, 8, 256]⟩
abbrev S256 : Shape := ⟨1, ![256]⟩
abbrev S1x320x128 : Shape := ⟨3, ![1, 320, 128]⟩
abbrev S128 : Shape := ⟨1, ![128]⟩
abbrev S256x640 : Shape := ⟨2, ![256, 640]⟩
abbrev S1x256x640 : Shape := ⟨3, ![1, 256, 640]⟩
abbrev S1x8x256 : Shape := ⟨3, ![1, 8, 256]⟩
abbrev S1 : Shape := ⟨1, ![1]⟩
abbrev S1x1x1 : Shape := ⟨3, ![1, 1, 1]⟩

abbrev nBuf : Space → Nat
  | .hbm => 46
  | .vmem => 28
  | .smem => 2
  | _ => 0

abbrev bufTy : (tb : Table) → Fin (tcTables nBuf tb) → BufTy
  | .hbm, ⟨0, _⟩ => ⟨S24x2048x6x2x160, .fp8e4m3⟩
  | .hbm, ⟨1, _⟩ => ⟨S24x2048x6x2, .f32⟩
  | .hbm, ⟨2, _⟩ => ⟨S24x2048x6x2x160, .fp8e4m3⟩
  | .hbm, ⟨3, _⟩ => ⟨S24x2048x6x2, .f32⟩
  | .hbm, ⟨4, _⟩ => ⟨S24x2048x6x320, .fp8e4m3⟩
  | .hbm, ⟨5, _⟩ => ⟨S6x320, .f32⟩
  | .hbm, ⟨6, _⟩ => ⟨S24x2048, .i32⟩
  | .hbm, ⟨7, _⟩ => ⟨S160, .f32⟩
  | .hbm, ⟨8, _⟩ => ⟨S160, .f32⟩
  | .hbm, ⟨9, _⟩ => ⟨S160, .f32⟩
  | .hbm, ⟨10, _⟩ => ⟨S160, .f32⟩
  | .hbm, ⟨11, _⟩ => ⟨S320, .f32⟩
  | .hbm, ⟨12, _⟩ => ⟨S160, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S160, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S24x6x2x160x2048, .fp8e4m3⟩
  | .hbm, ⟨24, _⟩ => ⟨S24x6x2x160x2048, .fp8e4m3⟩
  | .hbm, ⟨25, _⟩ => ⟨S24x6x320x2048, .fp8e4m3⟩
  | .hbm, ⟨26, _⟩ => ⟨S24x6x2x2048, .f32⟩
  | .hbm, ⟨27, _⟩ => ⟨S24x6x2x2048, .f32⟩
  | .hbm, ⟨28, _⟩ => ⟨S6x320x1, .f32⟩
  | .hbm, ⟨29, _⟩ => ⟨S6x320x128, .f32⟩
  | .hbm, ⟨30, _⟩ => ⟨S_, .f32⟩
  | .hbm, ⟨31, _⟩ => ⟨S320, .f32⟩
  | .hbm, ⟨32, _⟩ => ⟨S320, .f32⟩
  | .hbm, ⟨33, _⟩ => ⟨S320x1, .f32⟩
  | .hbm, ⟨34, _⟩ => ⟨S320x128, .f32⟩
  | .hbm, ⟨35, _⟩ => ⟨S24x8, .i32⟩
  | .hbm, ⟨36, _⟩ => ⟨S24x1x2048, .i32⟩
  | .hbm, ⟨37, _⟩ => ⟨S24x8x1, .i32⟩
  | .hbm, ⟨38, _⟩ => ⟨S24x8x2048, .i32⟩
  | .hbm, ⟨39, _⟩ => ⟨S24x8x2048, .i32⟩
  | .hbm, ⟨40, _⟩ => ⟨S24x8x2048, .i1⟩
  | .hbm, ⟨41, _⟩ => ⟨S24x8x2048, .i32⟩
  | .hbm, ⟨42, _⟩ => ⟨S_, .i32⟩
  | .hbm, ⟨43, _⟩ => ⟨S24x1x2048, .i32⟩
  | .hbm, ⟨44, _⟩ => ⟨S1x128, .f32⟩
  | .hbm, ⟨45, _⟩ => ⟨S24x2048x1920, .bf16⟩
  | .local _ .vmem, ⟨0, _⟩ => ⟨S1x6x2x160x256, .fp8e4m3⟩
  | .local _ .vmem, ⟨1, _⟩ => ⟨S1x6x2x160x256, .fp8e4m3⟩
  | .local _ .vmem, ⟨2, _⟩ => ⟨S1x6x2x256, .f32⟩
  | .local _ .vmem, ⟨3, _⟩ => ⟨S1x6x2x256, .f32⟩
  | .local _ .vmem, ⟨4, _⟩ => ⟨S1x6x2x160x256, .fp8e4m3⟩
  | .local _ .vmem, ⟨5, _⟩ => ⟨S1x6x2x160x256, .fp8e4m3⟩
  | .local _ .vmem, ⟨6, _⟩ => ⟨S1x6x2x256, .f32⟩
  | .local _ .vmem, ⟨7, _⟩ => ⟨S1x6x2x256, .f32⟩
  | .local _ .vmem, ⟨8, _⟩ => ⟨S1x6x320x256, .fp8e4m3⟩
  | .local _ .vmem, ⟨9, _⟩ => ⟨S1x6x320x256, .fp8e4m3⟩
  | .local _ .vmem, ⟨10, _⟩ => ⟨S1x1x256, .i32⟩
  | .local _ .vmem, ⟨11, _⟩ => ⟨S1x1x256, .i32⟩
  | .local _ .vmem, ⟨12, _⟩ => ⟨S6x320x128, .f32⟩
  | .local _ .vmem, ⟨13, _⟩ => ⟨S320x128, .f32⟩
  | .local _ .vmem, ⟨14, _⟩ => ⟨S1x128, .f32⟩
  | .local _ .vmem, ⟨15, _⟩ => ⟨S1x256x1920, .bf16⟩
  | .local _ .vmem, ⟨16, _⟩ => ⟨S1x256x1920, .bf16⟩
  | .local _ .vmem, ⟨17, _⟩ => ⟨S6x2x2048x160, .fp8e4m3⟩
  | .local _ .vmem, ⟨18, _⟩ => ⟨S6x320x2048, .bf16⟩
  | .local _ .vmem, ⟨19, _⟩ => ⟨S6x2x2048x128, .f32⟩
  | .local _ .vmem, ⟨20, _⟩ => ⟨S2x2048x256, .f32⟩
  | .local _ .vmem, ⟨21, _⟩ => ⟨S2x2048x256, .f32⟩
  | .local _ .vmem, ⟨22, _⟩ => ⟨S256x256, .f32⟩
  | .local _ .vmem, ⟨23, _⟩ => ⟨S256x128, .f32⟩
  | .local _ .vmem, ⟨24, _⟩ => ⟨S8x256, .f32⟩
  | .local _ .vmem, ⟨25, _⟩ => ⟨S8x256, .f32⟩
  | .local _ .vmem, ⟨26, _⟩ => ⟨S640x256, .bf16⟩
  | .local _ .vmem, ⟨27, _⟩ => ⟨S320x256, .f32⟩
  | .local _ .smem, ⟨0, _⟩ => ⟨S24x8, .i32⟩
  | .local _ .smem, ⟨1, _⟩ => ⟨S24x8, .i32⟩
  | _, _ => ⟨S24x2048x6x2x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v26 : Ref sig .tc := ⟨.smem, 0, rfl⟩
abbrev main_v27 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_scratch8 : Ref sig .tc := ⟨.vmem, 25, rfl⟩
abbrev cc0_scratch9 : Ref sig .tc := ⟨.vmem, 26, rfl⟩
abbrev cc0_scratch10 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![24, 8], ![false, false]⟩

abbrev pre0 : Pipeline.Prefetch sig := ⟨2, ![main_v26.idx, main_v27.idx], fun | 0 => main_v26.names | 1 => main_v27.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
def k0_mult1 (i : grid0.Coords) : BitVec 32 :=
  let arg1 : BitVec 32 := BitVec.ofNat 32 (i 1).val
  let c256_i32_27 : BitVec 32 := 256#32
  let v82 : BitVec 32 := Scalar.muli arg1 c256_i32_27
  v82
@[reducible] def k0_t1_loop : Scf.Loop 32 :=
  let c0_i32_46 : BitVec 32 := 0#32
  let c3_i32_47 : BitVec 32 := 3#32
  let v124 : BitVec 32 := Scalar.addi c0_i32_46 c3_i32_47
  let c1_i32_48 : BitVec 32 := 1#32
  ⟨c0_i32_46, v124, c1_i32_48⟩
def k0_off2 (k0_t1 : Fin k0_t1_loop.trips) : Fin 5 → Nat :=
  let c0_51 : Index := 0#32
  let c2_i32_50 : BitVec 32 := 2#32
  let c0_i32_46 : BitVec 32 := 0#32
  let c1_i32_48 : BitVec 32 := 1#32
  let arg25 : BitVec 32 := Scf.iv c0_i32_46 c1_i32_48 k0_t1
  let v125 : BitVec 32 := Scalar.muli c2_i32_50 arg25
  let v126 : Index := Scalar.indexCast v125
  let c0_52 : Index := 0#32
  let c0_53 : Index := 0#32
  let c0_54 : Index := 0#32
  ![0, v126.toNat, 0, 0, 0]
def k0_off3 (i : grid0.Coords) (k0_t1 : Fin k0_t1_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t1
  let v125 : BitVec 32 := Scalar.muli c2_i32_50 arg25
  let v132 : Index := Scalar.indexCast v125
  let c0_55 : Index := 0#32
  let arg1 : BitVec 32 := BitVec.ofNat 32 (i 1).val
  let c256_i32_27 : BitVec 32 := 256#32
  let v82 : BitVec 32 := Scalar.muli arg1 c256_i32_27
  let v83 : BitVec 32 := v82
  let v133 : Index := Scalar.indexCast v83
  let c0_56 : Index := 0#32
  ![v132.toNat, 0, v133.toNat, 0]
def k0_off4 (k0_t1 : Fin k0_t1_loop.trips) : Fin 4 → Nat :=
  let c0_57 : Index := 0#32
  let c2_i32_50 : BitVec 32 := 2#32
  let c0_i32_46 : BitVec 32 := 0#32
  let c1_i32_48 : BitVec 32 := 1#32
  let arg25 : BitVec 32 := Scf.iv c0_i32_46 c1_i32_48 k0_t1
  let v125 : BitVec 32 := Scalar.muli c2_i32_50 arg25
  let v137 : Index := Scalar.indexCast v125
  let c0_58 : Index := 0#32
  let c0_59 : Index := 0#32
  ![0, v137.toNat, 0, 0]
def k0_off5 (i : grid0.Coords) (k0_t1 : Fin k0_t1_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t1
  let v125 : BitVec 32 := Scalar.muli c2_i32_50 arg25
  let v149 : Index := Scalar.indexCast v125
  let c0_60 : Index := 0#32
  let arg1 : BitVec 32 := BitVec.ofNat 32 (i 1).val
  let c256_i32_27 : BitVec 32 := 256#32
  let v82 : BitVec 32 := Scalar.muli arg1 c256_i32_27
  let v83 : BitVec 32 := v82
  let v150 : Index := Scalar.indexCast v83
  let c0_61 : Index := 0#32
  ![v149.toNat, 0, v150.toNat, 0]
def k0_off6 (k0_t1 : Fin k0_t1_loop.trips) : Fin 5 → Nat :=
  let c0_62 : Index := 0#32
  let c2_i32_50 : BitVec 32 := 2#32
  let c0_i32_46 : BitVec 32 := 0#32
  let c1_i32_48 : BitVec 32 := 1#32
  let arg25 : BitVec 32 := Scf.iv c0_i32_46 c1_i32_48 k0_t1
  let v125 : BitVec 32 := Scalar.muli c2_i32_50 arg25
  let v154 : Index := Scalar.indexCast v125
  let c1 : Index := 1#32
  let c0_63 : Index := 0#32
  let c0_64 : Index := 0#32
  ![0, v154.toNat, 1, 0, 0]
def k0_off7 (i : grid0.Coords) (k0_t1 : Fin k0_t1_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t1
  let v125 : BitVec 32 := Scalar.muli c2_i32_50 arg25
  let v160 : Index := Scalar.indexCast v125
  let c1_65 : Index := 1#32
  let arg1 : BitVec 32 := BitVec.ofNat 32 (i 1).val
  let c256_i32_27 : BitVec 32 := 256#32
  let v82 : BitVec 32 := Scalar.muli arg1 c256_i32_27
  let v83 : BitVec 32 := v82
  let v161 : Index := Scalar.indexCast v83
  let c0_66 : Index := 0#32
  ![v160.toNat, 1, v161.toNat, 0]
def k0_off8 (k0_t1 : Fin k0_t1_loop.trips) : Fin 4 → Nat :=
  let c0_67 : Index := 0#32
  let c2_i32_50 : BitVec 32 := 2#32
  let c0_i32_46 : BitVec 32 := 0#32
  let c1_i32_48 : BitVec 32 := 1#32
  let arg25 : BitVec 32 := Scf.iv c0_i32_46 c1_i32_48 k0_t1
  let v125 : BitVec 32 := Scalar.muli c2_i32_50 arg25
  let v165 : Index := Scalar.indexCast v125
  let c1_68 : Index := 1#32
  let c0_69 : Index := 0#32
  ![0, v165.toNat, 1, 0]
def k0_off9 (i : grid0.Coords) (k0_t1 : Fin k0_t1_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t1
  let v125 : BitVec 32 := Scalar.muli c2_i32_50 arg25
  let v177 : Index := Scalar.indexCast v125
  let c1_70 : Index := 1#32
  let arg1 : BitVec 32 := BitVec.ofNat 32 (i 1).val
  let c256_i32_27 : BitVec 32 := 256#32
  let v82 : BitVec 32 := Scalar.muli arg1 c256_i32_27
  let v83 : BitVec 32 := v82
  let v178 : Index := Scalar.indexCast v83
  let c0_71 : Index := 0#32
  ![v177.toNat, 1, v178.toNat, 0]
def k0_off10 (k0_t1 : Fin k0_t1_loop.trips) : Fin 4 → Nat :=
  let c0_72 : Index := 0#32
  let c2_i32_50 : BitVec 32 := 2#32
  let c0_i32_46 : BitVec 32 := 0#32
  let c1_i32_48 : BitVec 32 := 1#32
  let arg25 : BitVec 32 := Scf.iv c0_i32_46 c1_i32_48 k0_t1
  let v125 : BitVec 32 := Scalar.muli c2_i32_50 arg25
  let v182 : Index := Scalar.indexCast v125
  let c0_73 : Index := 0#32
  let c0_74 : Index := 0#32
  ![0, v182.toNat, 0, 0]
def k0_off11 (i : grid0.Coords) (k0_t1 : Fin k0_t1_loop.trips) : Fin 3 → Nat :=
  let c2_i32_50 : BitVec 32 := 2#32
  let c0_i32_46 : BitVec 32 := 0#32
  let c1_i32_48 : BitVec 32 := 1#32
  let arg25 : BitVec 32 := Scf.iv c0_i32_46 c1_i32_48 k0_t1
  let v125 : BitVec 32 := Scalar.muli c2_i32_50 arg25
  let v186 : Index := Scalar.indexCast v125
  let c0_75 : Index := 0#32
  let arg1 : BitVec 32 := BitVec.ofNat 32 (i 1).val
  let c256_i32_27 : BitVec 32 := 256#32
  let v82 : BitVec 32 := Scalar.muli arg1 c256_i32_27
  let v83 : BitVec 32 := v82
  let v187 : Index := Scalar.indexCast v83
  ![v186.toNat, 0, v187.toNat]
def k0_mult2 (i : grid0.Coords) : BitVec 32 :=
  let arg1 : BitVec 32 := BitVec.ofNat 32 (i 1).val
  let c0_i32_82 : BitVec 32 := 0#32
  let v198 : BitVec 32 := Scalar.subi arg1 c0_i32_82
  let c0_i32_83 : BitVec 32 := 0#32
  let v199 : BitVec 32 := Scalar.addi v198 c0_i32_83
  let c256_i32_84 : BitVec 32 := 256#32
  let v200 : BitVec 32 := Scalar.muli v199 c256_i32_84
  v200
def k0_off12 (i : grid0.Coords) (k0_t1 : Fin k0_t1_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t1
  let v125 : BitVec 32 := Scalar.muli c2_i32_50 arg25
  let v202 : Index := Scalar.indexCast v125
  let c0_85 : Index := 0#32
  let arg1 : BitVec 32 := BitVec.ofNat 32 (i 1).val
  let c0_i32_82 : BitVec 32 := 0#32
  let v198 : BitVec 32 := Scalar.subi arg1 c0_i32_82
  let c0_i32_83 : BitVec 32 := 0#32
  let v199 : BitVec 32 := Scalar.addi v198 c0_i32_83
  let c256_i32_84 : BitVec 32 := 256#32
  let v200 : BitVec 32 := Scalar.muli v199 c256_i32_84
  let v201 : BitVec 32 := v200
  let v203 : Index := Scalar.indexCast v201
  let c0_86 : Index := 0#32
  ![v202.toNat, 0, v203.toNat, 0]
def k0_off13 (i : grid0.Coords) (k0_t1 : Fin k0_t1_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t1
  let v125 : BitVec 32 := Scalar.muli c2_i32_50 arg25
  let v210 : Index := Scalar.indexCast v125
  let c0_92 : Index := 0#32
  let arg1 : BitVec 32 := BitVec.ofNat 32 (i 1).val
  let c0_i32_82 : BitVec 32 := 0#32
  let v198 : BitVec 32 := Scalar.subi arg1 c0_i32_82
  let c0_i32_83 : BitVec 32 := 0#32
  let v199 : BitVec 32 := Scalar.addi v198 c0_i32_83
  let c256_i32_84 : BitVec 32 := 256#32
  let v200 : BitVec 32 := Scalar.muli v199 c256_i32_84
  let v201 : BitVec 32 := v200
  let v211 : Index := Scalar.indexCast v201
  let c0_93 : Index := 0#32
  ![v210.toNat, 0, v211.toNat, 0]
def k0_mult3 (i : grid0.Coords) : BitVec 32 :=
  let arg1 : BitVec 32 := BitVec.ofNat 32 (i 1).val
  let c0_i32_116 : BitVec 32 := 0#32
  let v251 : BitVec 32 := Scalar.subi arg1 c0_i32_116
  let c0_i32_117 : BitVec 32 := 0#32
  let v252 : BitVec 32 := Scalar.addi v251 c0_i32_117
  let c256_i32_118 : BitVec 32 := 256#32
  let v253 : BitVec 32 := Scalar.muli v252 c256_i32_118
  v253
def k0_off14 (i : grid0.Coords) (k0_t1 : Fin k0_t1_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t1
  let v125 : BitVec 32 := Scalar.muli c2_i32_50 arg25
  let v255 : Index := Scalar.indexCast v125
  let c1_119 : Index := 1#32
  let arg1 : BitVec 32 := BitVec.ofNat 32 (i 1).val
  let c0_i32_116 : BitVec 32 := 0#32
  let v251 : BitVec 32 := Scalar.subi arg1 c0_i32_116
  let c0_i32_117 : BitVec 32 := 0#32
  let v252 : BitVec 32 := Scalar.addi v251 c0_i32_117
  let c256_i32_118 : BitVec 32 := 256#32
  let v253 : BitVec 32 := Scalar.muli v252 c256_i32_118
  let v254 : BitVec 32 := v253
  let v256 : Index := Scalar.indexCast v254
  let c0_120 : Index := 0#32
  ![v255.toNat, 1, v256.toNat, 0]
def k0_off15 (i : grid0.Coords) (k0_t1 : Fin k0_t1_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t1
  let v125 : BitVec 32 := Scalar.muli c2_i32_50 arg25
  let v263 : Index := Scalar.indexCast v125
  let c1_126 : Index := 1#32
  let arg1 : BitVec 32 := BitVec.ofNat 32 (i 1).val
  let c0_i32_116 : BitVec 32 := 0#32
  let v251 : BitVec 32 := Scalar.subi arg1 c0_i32_116
  let c0_i32_117 : BitVec 32 := 0#32
  let v252 : BitVec 32 := Scalar.addi v251 c0_i32_117
  let c256_i32_118 : BitVec 32 := 256#32
  let v253 : BitVec 32 := Scalar.muli v252 c256_i32_118
  let v254 : BitVec 32 := v253
  let v264 : Index := Scalar.indexCast v254
  let c0_127 : Index := 0#32
  ![v263.toNat, 1, v264.toNat, 0]
def k0_mult4 (i : grid0.Coords) : BitVec 32 :=
  let arg1 : BitVec 32 := BitVec.ofNat 32 (i 1).val
  let c0_i32_144 : BitVec 32 := 0#32
  let v299 : BitVec 32 := Scalar.subi arg1 c0_i32_144
  let c0_i32_145 : BitVec 32 := 0#32
  let v300 : BitVec 32 := Scalar.addi v299 c0_i32_145
  let c256_i32_146 : BitVec 32 := 256#32
  let v301 : BitVec 32 := Scalar.muli v300 c256_i32_146
  v301
def k0_off16 (i : grid0.Coords) (k0_t1 : Fin k0_t1_loop.trips) : Fin 3 → Nat :=
  let c2_i32_50 : BitVec 32 := 2#32
  let c0_i32_46 : BitVec 32 := 0#32
  let c1_i32_48 : BitVec 32 := 1#32
  let arg25 : BitVec 32 := Scf.iv c0_i32_46 c1_i32_48 k0_t1
  let v125 : BitVec 32 := Scalar.muli c2_i32_50 arg25
  let v313 : Index := Scalar.indexCast v125
  let c0_153 : Index := 0#32
  let arg1 : BitVec 32 := BitVec.ofNat 32 (i 1).val
  let c0_i32_144 : BitVec 32 := 0#32
  let v299 : BitVec 32 := Scalar.subi arg1 c0_i32_144
  let c0_i32_145 : BitVec 32 := 0#32
  let v300 : BitVec 32 := Scalar.addi v299 c0_i32_145
  let c256_i32_146 : BitVec 32 := 256#32
  let v301 : BitVec 32 := Scalar.muli v300 c256_i32_146
  let v302 : BitVec 32 := v301
  let v314 : Index := Scalar.indexCast v302
  ![v313.toNat, 0, v314.toNat]
def k0_off17 (k0_t1 : Fin k0_t1_loop.trips) : Fin 3 → Nat :=
  let c2_i32_50 : BitVec 32 := 2#32
  let c0_i32_46 : BitVec 32 := 0#32
  let c1_i32_48 : BitVec 32 := 1#32
  let arg25 : BitVec 32 := Scf.iv c0_i32_46 c1_i32_48 k0_t1
  let v125 : BitVec 32 := Scalar.muli c2_i32_50 arg25
  let v319 : Index := Scalar.indexCast v125
  let c0_155 : Index := 0#32
  let c0_156 : Index := 0#32
  ![v319.toNat, 0, 0]
def k0_off18 (k0_t1 : Fin k0_t1_loop.trips) : Fin 5 → Nat :=
  let c0_175 : Index := 0#32
  let c2_i32_173 : BitVec 32 := 2#32
  let c0_i32_46 : BitVec 32 := 0#32
  let c1_i32_48 : BitVec 32 := 1#32
  let arg25 : BitVec 32 := Scf.iv c0_i32_46 c1_i32_48 k0_t1
  let v362 : BitVec 32 := Scalar.muli c2_i32_173 arg25
  let c1_i32_174 : BitVec 32 := 1#32
  let v363 : BitVec 32 := Scalar.addi v362 c1_i32_174
  let v364 : Index := Scalar.indexCast v363
  let c0_176 : Index := 0#32
  let c0_177 : Index := 0#32
  let c0_178 : Index := 0#32
  ![0, v364.toNat, 0, 0, 0]
def k0_off19 (i : grid0.Coords) (k0_t1 : Fin k0_t1_loop.trips) : Fin 4 → Nat :=
  let c2_i32_173 : BitVec 32 := 2#32
  let c0_i32_46 : BitVec 32 := 0#32
  let c1_i32_48 : BitVec 32 := 1#32
  let arg25 : BitVec 32 := Scf.iv c0_i32_46 c1_i32_48 k0_t1
  let v362 : BitVec 32 := Scalar.muli c2_i32_173 arg25
  let c1_i32_174 : BitVec 32 := 1#32
  let v363 : BitVec 32 := Scalar.addi v362 c1_i32_174
  let v370 : Index := Scalar.indexCast v363
  let c0_179 : Index := 0#32
  let arg1 : BitVec 32 := BitVec.ofNat 32 (i 1).val
  let c256_i32_27 : BitVec 32 := 256#32
  let v82 : BitVec 32 := Scalar.muli arg1 c256_i32_27
  let v83 : BitVec 32 := v82
  let v371 : Index := Scalar.indexCast v83
  let c0_180 : Index := 0#32
  ![v370.toNat, 0, v371.toNat, 0]
def k0_off20 (k0_t1 : Fin k0_t1_loop.trips) : Fin 4 → Nat :=
  let c0_181 : Index := 0#32
  let c2_i32_173 : BitVec 32 := 2#32
  let c0_i32_46 : BitVec 32 := 0#32
  let c1_i32_48 : BitVec 32 := 1#32
  let arg25 : BitVec 32 := Scf.iv c0_i32_46 c1_i32_48 k0_t1
  let v362 : BitVec 32 := Scalar.muli c2_i32_173 arg25
  let c1_i32_174 : BitVec 32 := 1#32
  let v363 : BitVec 32 := Scalar.addi v362 c1_i32_174
  let v375 : Index := Scalar.indexCast v363
  let c0_182 : Index := 0#32
  let c0_183 : Index := 0#32
  ![0, v375.toNat, 0, 0]
def k0_off21 (i : grid0.Coords) (k0_t1 : Fin k0_t1_loop.trips) : Fin 4 → Nat :=
  let c2_i32_173 : BitVec 32 := 2#32
  let c0_i32_46 : BitVec 32 := 0#32
  let c1_i32_48 : BitVec 32 := 1#32
  let arg25 : BitVec 32 := Scf.iv c0_i32_46 c1_i32_48 k0_t1
  let v362 : BitVec 32 := Scalar.muli c2_i32_173 arg25
  let c1_i32_174 : BitVec 32 := 1#32
  let v363 : BitVec 32 := Scalar.addi v362 c1_i32_174
  let v387 : Index := Scalar.indexCast v363
  let c0_184 : Index := 0#32
  let arg1 : BitVec 32 := BitVec.ofNat 32 (i 1).val
  let c256_i32_27 : BitVec 32 := 256#32
  let v82 : BitVec 32 := Scalar.muli arg1 c256_i32_27
  let v83 : BitVec 32 := v82
  let v388 : Index := Scalar.indexCast v83
  let c0_185 : Index := 0#32
  ![v387.toNat, 0, v388.toNat, 0]
def k0_off22 (k0_t1 : Fin k0_t1_loop.trips) : Fin 5 → Nat :=
  let c0_186 : Index := 0#32
  let c2_i32_173 : BitVec 32 := 2#32
  let c0_i32_46 : BitVec 32 := 0#32
  let c1_i32_48 : BitVec 32 := 1#32
  let arg25 : BitVec 32 := Scf.iv c0_i32_46 c1_i32_48 k0_t1
  let v362 : BitVec 32 := Scalar.muli c2_i32_173 arg25
  let c1_i32_174 : BitVec 32 := 1#32
  let v363 : BitVec 32 := Scalar.addi v362 c1_i32_174
  let v392 : Index := Scalar.indexCast v363
  let c1_187 : Index := 1#32
  let c0_188 : Index := 0#32
  let c0_189 : Index := 0#32
  ![0, v392.toNat, 1, 0, 0]
def k0_off23 (i : grid0.Coords) (k0_t1 : Fin k0_t1_loop.trips) : Fin 4 → Nat :=
  let c2_i32_173 : BitVec 32 := 2#32
  let c0_i32_46 : BitVec 32 := 0#32
  let c1_i32_48 : BitVec 32 := 1#32
  let arg25 : BitVec 32 := Scf.iv c0_i32_46 c1_i32_48 k0_t1
  let v362 : BitVec 32 := Scalar.muli c2_i32_173 arg25
  let c1_i32_174 : BitVec 32 := 1#32
  let v363 : BitVec 32 := Scalar.addi v362 c1_i32_174
  let v398 : Index := Scalar.indexCast v363
  let c1_190 : Index := 1#32
  let arg1 : BitVec 32 := BitVec.ofNat 32 (i 1).val
  let c256_i32_27 : BitVec 32 := 256#32
  let v82 : BitVec 32 := Scalar.muli arg1 c256_i32_27
  let v83 : BitVec 32 := v82
  let v399 : Index := Scalar.indexCast v83
  let c0_191 : Index := 0#32
  ![v398.toNat, 1, v399.toNat, 0]
def k0_off24 (k0_t1 : Fin k0_t1_loop.trips) : Fin 4 → Nat :=
  let c0_192 : Index := 0#32
  let c2_i32_173 : BitVec 32 := 2#32
  let c0_i32_46 : BitVec 32 := 0#32
  let c1_i32_48 : BitVec 32 := 1#32
  let arg25 : BitVec 32 := Scf.iv c0_i32_46 c1_i32_48 k0_t1
  let v362 : BitVec 32 := Scalar.muli c2_i32_173 arg25
  let c1_i32_174 : BitVec 32 := 1#32
  let v363 : BitVec 32 := Scalar.addi v362 c1_i32_174
  let v403 : Index := Scalar.indexCast v363
  let c1_193 : Index := 1#32
  let c0_194 : Index := 0#32
  ![0, v403.toNat, 1, 0]
def k0_off25 (i : grid0.Coords) (k0_t1 : Fin k0_t1_loop.trips) : Fin 4 → Nat :=
  let c2_i32_173 : BitVec 32 := 2#32
  let c0_i32_46 : BitVec 32 := 0#32
  let c1_i32_48 : BitVec 32 := 1#32
  let arg25 : BitVec 32 := Scf.iv c0_i32_46 c1_i32_48 k0_t1
  let v362 : BitVec 32 := Scalar.muli c2_i32_173 arg25
  let c1_i32_174 : BitVec 32 := 1#32
  let v363 : BitVec 32 := Scalar.addi v362 c1_i32_174
  let v415 : Index := Scalar.indexCast v363
  let c1_195 : Index := 1#32
  let arg1 : BitVec 32 := BitVec.ofNat 32 (i 1).val
  let c256_i32_27 : BitVec 32 := 256#32
  let v82 : BitVec 32 := Scalar.muli arg1 c256_i32_27
  let v83 : BitVec 32 := v82
  let v416 : Index := Scalar.indexCast v83
  let c0_196 : Index := 0#32
  ![v415.toNat, 1, v416.toNat, 0]
def k0_off26 (k0_t1 : Fin k0_t1_loop.trips) : Fin 4 → Nat :=
  let c0_197 : Index := 0#32
  let c2_i32_173 : BitVec 32 := 2#32
  let c0_i32_46 : BitVec 32 := 0#32
  let c1_i32_48 : BitVec 32 := 1#32
  let arg25 : BitVec 32 := Scf.iv c0_i32_46 c1_i32_48 k0_t1
  let v362 : BitVec 32 := Scalar.muli c2_i32_173 arg25
  let c1_i32_174 : BitVec 32 := 1#32
  let v363 : BitVec 32 := Scalar.addi v362 c1_i32_174
  let v420 : Index := Scalar.indexCast v363
  let c0_198 : Index := 0#32
  let c0_199 : Index := 0#32
  ![0, v420.toNat, 0, 0]
def k0_off27 (i : grid0.Coords) (k0_t1 : Fin k0_t1_loop.trips) : Fin 3 → Nat :=
  let c2_i32_173 : BitVec 32 := 2#32
  let c0_i32_46 : BitVec 32 := 0#32
  let c1_i32_48 : BitVec 32 := 1#32
  let arg25 : BitVec 32 := Scf.iv c0_i32_46 c1_i32_48 k0_t1
  let v362 : BitVec 32 := Scalar.muli c2_i32_173 arg25
  let c1_i32_174 : BitVec 32 := 1#32
  let v363 : BitVec 32 := Scalar.addi v362 c1_i32_174
  let v424 : Index := Scalar.indexCast v363
  let c0_200 : Index := 0#32
  let arg1 : BitVec 32 := BitVec.ofNat 32 (i 1).val
  let c256_i32_27 : BitVec 32 := 256#32
  let v82 : BitVec 32 := Scalar.muli arg1 c256_i32_27
  let v83 : BitVec 32 := v82
  let v425 : Index := Scalar.indexCast v83
  ![v424.toNat, 0, v425.toNat]
def k0_mult5 (i : grid0.Coords) : BitVec 32 :=
  let arg1 : BitVec 32 := BitVec.ofNat 32 (i 1).val
  let c0_i32_207 : BitVec 32 := 0#32
  let v436 : BitVec 32 := Scalar.subi arg1 c0_i32_207
  let c0_i32_208 : BitVec 32 := 0#32
  let v437 : BitVec 32 := Scalar.addi v436 c0_i32_208
  let c256_i32_209 : BitVec 32 := 256#32
  let v438 : BitVec 32 := Scalar.muli v437 c256_i32_209
  v438
def k0_off28 (i : grid0.Coords) (k0_t1 : Fin k0_t1_loop.trips) : Fin 4 → Nat :=
  let c2_i32_173 : BitVec 32 := 2#32
  let c0_i32_46 : BitVec 32 := 0#32
  let c1_i32_48 : BitVec 32 := 1#32
  let arg25 : BitVec 32 := Scf.iv c0_i32_46 c1_i32_48 k0_t1
  let v362 : BitVec 32 := Scalar.muli c2_i32_173 arg25
  let c1_i32_174 : BitVec 32 := 1#32
  let v363 : BitVec 32 := Scalar.addi v362 c1_i32_174
  let v440 : Index := Scalar.indexCast v363
  let c0_210 : Index := 0#32
  let arg1 : BitVec 32 := BitVec.ofNat 32 (i 1).val
  let c0_i32_207 : BitVec 32 := 0#32
  let v436 : BitVec 32 := Scalar.subi arg1 c0_i32_207
  let c0_i32_208 : BitVec 32 := 0#32
  let v437 : BitVec 32 := Scalar.addi v436 c0_i32_208
  let c256_i32_209 : BitVec 32 := 256#32
  let v438 : BitVec 32 := Scalar.muli v437 c256_i32_209
  let v439 : BitVec 32 := v438
  let v441 : Index := Scalar.indexCast v439
  let c0_211 : Index := 0#32
  ![v440.toNat, 0, v441.toNat, 0]
def k0_off29 (i : grid0.Coords) (k0_t1 : Fin k0_t1_loop.trips) : Fin 4 → Nat :=
  let c2_i32_173 : BitVec 32 := 2#32
  let c0_i32_46 : BitVec 32 := 0#32
  let c1_i32_48 : BitVec 32 := 1#32
  let arg25 : BitVec 32 := Scf.iv c0_i32_46 c1_i32_48 k0_t1
  let v362 : BitVec 32 := Scalar.muli c2_i32_173 arg25
  let c1_i32_174 : BitVec 32 := 1#32
  let v363 : BitVec 32 := Scalar.addi v362 c1_i32_174
  let v448 : Index := Scalar.indexCast v363
  let c0_217 : Index := 0#32
  let arg1 : BitVec 32 := BitVec.ofNat 32 (i 1).val
  let c0_i32_207 : BitVec 32 := 0#32
  let v436 : BitVec 32 := Scalar.subi arg1 c0_i32_207
  let c0_i32_208 : BitVec 32 := 0#32
  let v437 : BitVec 32 := Scalar.addi v436 c0_i32_208
  let c256_i32_209 : BitVec 32 := 256#32
  let v438 : BitVec 32 := Scalar.muli v437 c256_i32_209
  let v439 : BitVec 32 := v438
  let v449 : Index := Scalar.indexCast v439
  let c0_218 : Index := 0#32
  ![v448.toNat, 0, v449.toNat, 0]
def k0_mult6 (i : grid0.Coords) : BitVec 32 :=
  let arg1 : BitVec 32 := BitVec.ofNat 32 (i 1).val
  let c0_i32_241 : BitVec 32 := 0#32
  let v489 : BitVec 32 := Scalar.subi arg1 c0_i32_241
  let c0_i32_242 : BitVec 32 := 0#32
  let v490 : BitVec 32 := Scalar.addi v489 c0_i32_242
  let c256_i32_243 : BitVec 32 := 256#32
  let v491 : BitVec 32 := Scalar.muli v490 c256_i32_243
  v491
def k0_off30 (i : grid0.Coords) (k0_t1 : Fin k0_t1_loop.trips) : Fin 4 → Nat :=
  let c2_i32_173 : BitVec 32 := 2#32
  let c0_i32_46 : BitVec 32 := 0#32
  let c1_i32_48 : BitVec 32 := 1#32
  let arg25 : BitVec 32 := Scf.iv c0_i32_46 c1_i32_48 k0_t1
  let v362 : BitVec 32 := Scalar.muli c2_i32_173 arg25
  let c1_i32_174 : BitVec 32 := 1#32
  let v363 : BitVec 32 := Scalar.addi v362 c1_i32_174
  let v493 : Index := Scalar.indexCast v363
  let c1_244 : Index := 1#32
  let arg1 : BitVec 32 := BitVec.ofNat 32 (i 1).val
  let c0_i32_241 : BitVec 32 := 0#32
  let v489 : BitVec 32 := Scalar.subi arg1 c0_i32_241
  let c0_i32_242 : BitVec 32 := 0#32
  let v490 : BitVec 32 := Scalar.addi v489 c0_i32_242
  let c256_i32_243 : BitVec 32 := 256#32
  let v491 : BitVec 32 := Scalar.muli v490 c256_i32_243
  let v492 : BitVec 32 := v491
  let v494 : Index := Scalar.indexCast v492
  let c0_245 : Index := 0#32
  ![v493.toNat, 1, v494.toNat, 0]
def k0_off31 (i : grid0.Coords) (k0_t1 : Fin k0_t1_loop.trips) : Fin 4 → Nat :=
  let c2_i32_173 : BitVec 32 := 2#32
  let c0_i32_46 : BitVec 32 := 0#32
  let c1_i32_48 : BitVec 32 := 1#32
  let arg25 : BitVec 32 := Scf.iv c0_i32_46 c1_i32_48 k0_t1
  let v362 : BitVec 32 := Scalar.muli c2_i32_173 arg25
  let c1_i32_174 : BitVec 32 := 1#32
  let v363 : BitVec 32 := Scalar.addi v362 c1_i32_174
  let v501 : Index := Scalar.indexCast v363
  let c1_251 : Index := 1#32
  let arg1 : BitVec 32 := BitVec.ofNat 32 (i 1).val
  let c0_i32_241 : BitVec 32 := 0#32
  let v489 : BitVec 32 := Scalar.subi arg1 c0_i32_241
  let c0_i32_242 : BitVec 32 := 0#32
  let v490 : BitVec 32 := Scalar.addi v489 c0_i32_242
  let c256_i32_243 : BitVec 32 := 256#32
  let v491 : BitVec 32 := Scalar.muli v490 c256_i32_243
  let v492 : BitVec 32 := v491
  let v502 : Index := Scalar.indexCast v492
  let c0_252 : Index := 0#32
  ![v501.toNat, 1, v502.toNat, 0]
def k0_mult7 (i : grid0.Coords) : BitVec 32 :=
  let arg1 : BitVec 32 := BitVec.ofNat 32 (i 1).val
  let c0_i32_269 : BitVec 32 := 0#32
  let v537 : BitVec 32 := Scalar.subi arg1 c0_i32_269
  let c0_i32_270 : BitVec 32 := 0#32
  let v538 : BitVec 32 := Scalar.addi v537 c0_i32_270
  let c256_i32_271 : BitVec 32 := 256#32
  let v539 : BitVec 32 := Scalar.muli v538 c256_i32_271
  v539
def k0_off32 (i : grid0.Coords) (k0_t1 : Fin k0_t1_loop.trips) : Fin 3 → Nat :=
  let c2_i32_173 : BitVec 32 := 2#32
  let c0_i32_46 : BitVec 32 := 0#32
  let c1_i32_48 : BitVec 32 := 1#32
  let arg25 : BitVec 32 := Scf.iv c0_i32_46 c1_i32_48 k0_t1
  let v362 : BitVec 32 := Scalar.muli c2_i32_173 arg25
  let c1_i32_174 : BitVec 32 := 1#32
  let v363 : BitVec 32 := Scalar.addi v362 c1_i32_174
  let v551 : Index := Scalar.indexCast v363
  let c0_278 : Index := 0#32
  let arg1 : BitVec 32 := BitVec.ofNat 32 (i 1).val
  let c0_i32_269 : BitVec 32 := 0#32
  let v537 : BitVec 32 := Scalar.subi arg1 c0_i32_269
  let c0_i32_270 : BitVec 32 := 0#32
  let v538 : BitVec 32 := Scalar.addi v537 c0_i32_270
  let c256_i32_271 : BitVec 32 := 256#32
  let v539 : BitVec 32 := Scalar.muli v538 c256_i32_271
  let v540 : BitVec 32 := v539
  let v552 : Index := Scalar.indexCast v540
  ![v551.toNat, 0, v552.toNat]
def k0_off33 (k0_t1 : Fin k0_t1_loop.trips) : Fin 3 → Nat :=
  let c2_i32_173 : BitVec 32 := 2#32
  let c0_i32_46 : BitVec 32 := 0#32
  let c1_i32_48 : BitVec 32 := 1#32
  let arg25 : BitVec 32 := Scf.iv c0_i32_46 c1_i32_48 k0_t1
  let v362 : BitVec 32 := Scalar.muli c2_i32_173 arg25
  let c1_i32_174 : BitVec 32 := 1#32
  let v363 : BitVec 32 := Scalar.addi v362 c1_i32_174
  let v557 : Index := Scalar.indexCast v363
  let c0_280 : Index := 0#32
  let c0_281 : Index := 0#32
  ![v557.toNat, 0, 0]
def k0_mult8 (k0_t1 : Fin k0_t1_loop.trips) : BitVec 32 :=
  let c0_i32_46 : BitVec 32 := 0#32
  let c1_i32_48 : BitVec 32 := 1#32
  let arg25 : BitVec 32 := Scf.iv c0_i32_46 c1_i32_48 k0_t1
  let c2_i32_297 : BitVec 32 := 2#32
  let v600 : BitVec 32 := Scalar.muli arg25 c2_i32_297
  let c320_i32 : BitVec 32 := 320#32
  let v601 : BitVec 32 := Scalar.muli v600 c320_i32
  v601
def k0_off34 (k0_t1 : Fin k0_t1_loop.trips) : Fin 3 → Nat :=
  let c0_300 : Index := 0#32
  let c0_301 : Index := 0#32
  let c0_i32_46 : BitVec 32 := 0#32
  let c1_i32_48 : BitVec 32 := 1#32
  let arg25 : BitVec 32 := Scf.iv c0_i32_46 c1_i32_48 k0_t1
  let c2_i32_297 : BitVec 32 := 2#32
  let v600 : BitVec 32 := Scalar.muli arg25 c2_i32_297
  let c320_i32 : BitVec 32 := 320#32
  let v601 : BitVec 32 := Scalar.muli v600 c320_i32
  let v602 : BitVec 32 := v601
  let v605 : Index := Scalar.indexCast v602
  ![0, 0, v605.toNat]
@[reducible] def k0_t2_loop : Scf.Loop 32 :=
  let c0_i32_46 : BitVec 32 := 0#32
  let c3_i32_47 : BitVec 32 := 3#32
  let v124 : BitVec 32 := Scalar.addi c0_i32_46 c3_i32_47
  let c1_i32_48 : BitVec 32 := 1#32
  ⟨c0_i32_46, v124, c1_i32_48⟩
def k0_off35 (k0_t2 : Fin k0_t2_loop.trips) : Fin 5 → Nat :=
  let c0_51 : Index := 0#32
  let c2_i32_50 : BitVec 32 := 2#32
  let c0_i32_46 : BitVec 32 := 0#32
  let c1_i32_48 : BitVec 32 := 1#32
  let arg25 : BitVec 32 := Scf.iv c0_i32_46 c1_i32_48 k0_t2
  let v125 : BitVec 32 := Scalar.muli c2_i32_50 arg25
  let v126 : Index := Scalar.indexCast v125
  let c0_52 : Index := 0#32
  let c0_53 : Index := 0#32
  let c0_54 : Index := 0#32
  ![0, v126.toNat, 0, 0, 0]
def k0_off36 (i : grid0.Coords) (k0_t2 : Fin k0_t2_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t2
  let v125 : BitVec 32 := Scalar.muli c2_i32_50 arg25
  let v132 : Index := Scalar.indexCast v125
  let c0_55 : Index := 0#32
  let arg1 : BitVec 32 := BitVec.ofNat 32 (i 1).val
  let c256_i32_27 : BitVec 32 := 256#32
  let v82 : BitVec 32 := Scalar.muli arg1 c256_i32_27
  let v83 : BitVec 32 := v82
  let v133 : Index := Scalar.indexCast v83
  let c0_56 : Index := 0#32
  ![v132.toNat, 0, v133.toNat, 0]
def k0_off37 (k0_t2 : Fin k0_t2_loop.trips) : Fin 4 → Nat :=
  let c0_57 : Index := 0#32
  let c2_i32_50 : BitVec 32 := 2#32
  let c0_i32_46 : BitVec 32 := 0#32
  let c1_i32_48 : BitVec 32 := 1#32
  let arg25 : BitVec 32 := Scf.iv c0_i32_46 c1_i32_48 k0_t2
  let v125 : BitVec 32 := Scalar.muli c2_i32_50 arg25
  let v137 : Index := Scalar.indexCast v125
  let c0_58 : Index := 0#32
  let c0_59 : Index := 0#32
  ![0, v137.toNat, 0, 0]
def k0_off38 (i : grid0.Coords) (k0_t2 : Fin k0_t2_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t2
  let v125 : BitVec 32 := Scalar.muli c2_i32_50 arg25
  let v149 : Index := Scalar.indexCast v125
  let c0_60 : Index := 0#32
  let arg1 : BitVec 32 := BitVec.ofNat 32 (i 1).val
  let c256_i32_27 : BitVec 32 := 256#32
  let v82 : BitVec 32 := Scalar.muli arg1 c256_i32_27
  let v83 : BitVec 32 := v82
  let v150 : Index := Scalar.indexCast v83
  let c0_61 : Index := 0#32
  ![v149.toNat, 0, v150.toNat, 0]
def k0_off39 (k0_t2 : Fin k0_t2_loop.trips) : Fin 5 → Nat :=
  let c0_62 : Index := 0#32
  let c2_i32_50 : BitVec 32 := 2#32
  let c0_i32_46 : BitVec 32 := 0#32
  let c1_i32_48 : BitVec 32 := 1#32
  let arg25 : BitVec 32 := Scf.iv c0_i32_46 c1_i32_48 k0_t2
  let v125 : BitVec 32 := Scalar.muli c2_i32_50 arg25
  let v154 : Index := Scalar.indexCast v125
  let c1 : Index := 1#32
  let c0_63 : Index := 0#32
  let c0_64 : Index := 0#32
  ![0, v154.toNat, 1, 0, 0]
def k0_off40 (i : grid0.Coords) (k0_t2 : Fin k0_t2_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t2
  let v125 : BitVec 32 := Scalar.muli c2_i32_50 arg25
  let v160 : Index := Scalar.indexCast v125
  let c1_65 : Index := 1#32
  let arg1 : BitVec 32 := BitVec.ofNat 32 (i 1).val
  let c256_i32_27 : BitVec 32 := 256#32
  let v82 : BitVec 32 := Scalar.muli arg1 c256_i32_27
  let v83 : BitVec 32 := v82
  let v161 : Index := Scalar.indexCast v83
  let c0_66 : Index := 0#32
  ![v160.toNat, 1, v161.toNat, 0]
def k0_off41 (k0_t2 : Fin k0_t2_loop.trips) : Fin 4 → Nat :=
  let c0_67 : Index := 0#32
  let c2_i32_50 : BitVec 32 := 2#32
  let c0_i32_46 : BitVec 32 := 0#32
  let c1_i32_48 : BitVec 32 := 1#32
  let arg25 : BitVec 32 := Scf.iv c0_i32_46 c1_i32_48 k0_t2
  let v125 : BitVec 32 := Scalar.muli c2_i32_50 arg25
  let v165 : Index := Scalar.indexCast v125
  let c1_68 : Index := 1#32
  let c0_69 : Index := 0#32
  ![0, v165.toNat, 1, 0]
def k0_off42 (i : grid0.Coords) (k0_t2 : Fin k0_t2_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t2
  let v125 : BitVec 32 := Scalar.muli c2_i32_50 arg25
  let v177 : Index := Scalar.indexCast v125
  let c1_70 : Index := 1#32
  let arg1 : BitVec 32 := BitVec.ofNat 32 (i 1).val
  let c256_i32_27 : BitVec 32 := 256#32
  let v82 : BitVec 32 := Scalar.muli arg1 c256_i32_27
  let v83 : BitVec 32 := v82
  let v178 : Index := Scalar.indexCast v83
  let c0_71 : Index := 0#32
  ![v177.toNat, 1, v178.toNat, 0]
def k0_off43 (k0_t2 : Fin k0_t2_loop.trips) : Fin 4 → Nat :=
  let c0_72 : Index := 0#32
  let c2_i32_50 : BitVec 32 := 2#32
  let c0_i32_46 : BitVec 32 := 0#32
  let c1_i32_48 : BitVec 32 := 1#32
  let arg25 : BitVec 32 := Scf.iv c0_i32_46 c1_i32_48 k0_t2
  let v125 : BitVec 32 := Scalar.muli c2_i32_50 arg25
  let v182 : Index := Scalar.indexCast v125
  let c0_73 : Index := 0#32
  let c0_74 : Index := 0#32
  ![0, v182.toNat, 0, 0]
def k0_off44 (i : grid0.Coords) (k0_t2 : Fin k0_t2_loop.trips) : Fin 3 → Nat :=
  let c2_i32_50 : BitVec 32 := 2#32
  let c0_i32_46 : BitVec 32 := 0#32
  let c1_i32_48 : BitVec 32 := 1#32
  let arg25 : BitVec 32 := Scf.iv c0_i32_46 c1_i32_48 k0_t2
  let v125 : BitVec 32 := Scalar.muli c2_i32_50 arg25
  let v186 : Index := Scalar.indexCast v125
  let c0_75 : Index := 0#32
  let arg1 : BitVec 32 := BitVec.ofNat 32 (i 1).val
  let c256_i32_27 : BitVec 32 := 256#32
  let v82 : BitVec 32 := Scalar.muli arg1 c256_i32_27
  let v83 : BitVec 32 := v82
  let v187 : Index := Scalar.indexCast v83
  ![v186.toNat, 0, v187.toNat]
def k0_mult9 (i : grid0.Coords) : BitVec 32 :=
  let arg1 : BitVec 32 := BitVec.ofNat 32 (i 1).val
  let c1_i32_82 : BitVec 32 := 1#32
  let v198 : BitVec 32 := Scalar.subi arg1 c1_i32_82
  let c0_i32_83 : BitVec 32 := 0#32
  let v199 : BitVec 32 := Scalar.addi v198 c0_i32_83
  let c256_i32_84 : BitVec 32 := 256#32
  let v200 : BitVec 32 := Scalar.muli v199 c256_i32_84
  v200
def k0_off45 (i : grid0.Coords) (k0_t2 : Fin k0_t2_loop.trips) (c0_i32_83 : BitVec 32) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t2
  let v125 : BitVec 32 := Scalar.muli c2_i32_50 arg25
  let v202 : Index := Scalar.indexCast v125
  let c0_85 : Index := 0#32
  let arg1 : BitVec 32 := BitVec.ofNat 32 (i 1).val
  let c1_i32_82 : BitVec 32 := 1#32
  let v198 : BitVec 32 := Scalar.subi arg1 c1_i32_82
  let v199 : BitVec 32 := Scalar.addi v198 c0_i32_83
  let c256_i32_84 : BitVec 32 := 256#32
  let v200 : BitVec 32 := Scalar.muli v199 c256_i32_84
  let v201 : BitVec 32 := v200
  let v203 : Index := Scalar.indexCast v201
  let c0_86 : Index := 0#32
  ![v202.toNat, 0, v203.toNat, 0]
def k0_cond2 (i : grid0.Coords) (v2 : BitVec 32) : BitVec 1 :=
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let c2_i32 : BitVec 32 := 2#32
  let v87 : BitVec 1 := Scalar.cmpi .eq v21 c2_i32
  let v88 : BitVec 32 := Scalar.extui v87
  let c0_i32_30 : BitVec 32 := 0#32
  let v89 : BitVec 1 := Scalar.cmpi .ne v88 c0_i32_30
  v89

def k0_off46 (i : grid0.Coords) (k0_t2 : Fin k0_t2_loop.trips) (c0_i32_83 : BitVec 32) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t2
  let v125 : BitVec 32 := Scalar.muli c2_i32_50 arg25
  let v210 : Index := Scalar.indexCast v125
  let c0_92 : Index := 0#32
  let arg1 : BitVec 32 := BitVec.ofNat 32 (i 1).val
  let c1_i32_82 : BitVec 32 := 1#32
  let v198 : BitVec 32 := Scalar.subi arg1 c1_i32_82
  let v199 : BitVec 32 := Scalar.addi v198 c0_i32_83
  let c256_i32_84 : BitVec 32 := 256#32
  let v200 : BitVec 32 := Scalar.muli v199 c256_i32_84
  let v201 : BitVec 32 := v200
  let v211 : Index := Scalar.indexCast v201
  let c0_93 : Index := 0#32
  ![v210.toNat, 0, v211.toNat, 0]
def k0_off47 (i : grid0.Coords) : Fin 2 → Nat :=
  let arg0 : BitVec 32 := BitVec.ofNat 32 (i 0).val
  let v227 : Index := Scalar.indexCast arg0
  let arg1 : BitVec 32 := BitVec.ofNat 32 (i 1).val
  let c1_i32_82 : BitVec 32 := 1#32
  let v198 : BitVec 32 := Scalar.subi arg1 c1_i32_82
  let c0_i32_83 : BitVec 32 := 0#32
  let v199 : BitVec 32 := Scalar.addi v198 c0_i32_83
  let v228 : Index := Scalar.indexCast v199
  ![v227.toNat, v228.toNat]
def k0_mult10 (i : grid0.Coords) : BitVec 32 :=
  let arg1 : BitVec 32 := BitVec.ofNat 32 (i 1).val
  let c1_i32_101 : BitVec 32 := 1#32
  let v238 : BitVec 32 := Scalar.subi arg1 c1_i32_101
  let c1_i32_102 : BitVec 32 := 1#32
  let v239 : BitVec 32 := Scalar.addi v238 c1_i32_102
  let c256_i32_103 : BitVec 32 := 256#32
  let v240 : BitVec 32 := Scalar.muli v239 c256_i32_103
  v240
def k0_mult11 (i : grid0.Coords) : BitVec 32 :=
  let arg1 : BitVec 32 := BitVec.ofNat 32 (i 1).val
  let c1_i32_134 : BitVec 32 := 1#32
  let v291 : BitVec 32 := Scalar.subi arg1 c1_i32_134
  let c0_i32_135 : BitVec 32 := 0#32
  let v292 : BitVec 32 := Scalar.addi v291 c0_i32_135
  let c256_i32_136 : BitVec 32 := 256#32
  let v293 : BitVec 32 := Scalar.muli v292 c256_i32_136
  v293
def k0_off48 (i : grid0.Coords) (k0_t2 : Fin k0_t2_loop.trips) (c0_i32_135 : BitVec 32) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t2
  let v125 : BitVec 32 := Scalar.muli c2_i32_50 arg25
  let v295 : Index := Scalar.indexCast v125
  let c1_137 : Index := 1#32
  let arg1 : BitVec 32 := BitVec.ofNat 32 (i 1).val
  let c1_i32_134 : BitVec 32 := 1#32
  let v291 : BitVec 32 := Scalar.subi arg1 c1_i32_134
  let v292 : BitVec 32 := Scalar.addi v291 c0_i32_135
  let c256_i32_136 : BitVec 32 := 256#32
  let v293 : BitVec 32 := Scalar.muli v292 c256_i32_136
  let v294 : BitVec 32 := v293
  let v296 : Index := Scalar.indexCast v294
  let c0_138 : Index := 0#32
  ![v295.toNat, 1, v296.toNat, 0]
def k0_off49 (i : grid0.Coords) (k0_t2 : Fin k0_t2_loop.trips) (c0_i32_135 : BitVec 32) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t2
  let v125 : BitVec 32 := Scalar.muli c2_i32_50 arg25
  let v303 : Index := Scalar.indexCast v125
  let c1_144 : Index := 1#32
  let arg1 : BitVec 32 := BitVec.ofNat 32 (i 1).val
  let c1_i32_134 : BitVec 32 := 1#32
  let v291 : BitVec 32 := Scalar.subi arg1 c1_i32_134
  let v292 : BitVec 32 := Scalar.addi v291 c0_i32_135
  let c256_i32_136 : BitVec 32 := 256#32
  let v293 : BitVec 32 := Scalar.muli v292 c256_i32_136
  let v294 : BitVec 32 := v293
  let v304 : Index := Scalar.indexCast v294
  let c0_145 : Index := 0#32
  ![v303.toNat, 1, v304.toNat, 0]
def k0_mult12 (i : grid0.Coords) : BitVec 32 :=
  let arg1 : BitVec 32 := BitVec.ofNat 32 (i 1).val
  let c1_i32_153 : BitVec 32 := 1#32
  let v331 : BitVec 32 := Scalar.subi arg1 c1_i32_153
  let c1_i32_154 : BitVec 32 := 1#32
  let v332 : BitVec 32 := Scalar.addi v331 c1_i32_154
  let c256_i32_155 : BitVec 32 := 256#32
  let v333 : BitVec 32 := Scalar.muli v332 c256_i32_155
  v333
def k0_mult13 (i : grid0.Coords) : BitVec 32 :=
  let arg1 : BitVec 32 := BitVec.ofNat 32 (i 1).val
  let c1_i32_181 : BitVec 32 := 1#32
  let v379 : BitVec 32 := Scalar.subi arg1 c1_i32_181
  let c0_i32_182 : BitVec 32 := 0#32
  let v380 : BitVec 32 := Scalar.addi v379 c0_i32_182
  let c256_i32_183 : BitVec 32 := 256#32
  let v381 : BitVec 32 := Scalar.muli v380 c256_i32_183
  v381
def k0_off50 (i : grid0.Coords) (k0_t2 : Fin k0_t2_loop.trips) (c0_i32_182 : BitVec 32) : Fin 3 → Nat :=
  let c2_i32_50 : BitVec 32 := 2#32
  let c0_i32_46 : BitVec 32 := 0#32
  let c1_i32_48 : BitVec 32 := 1#32
  let arg25 : BitVec 32 := Scf.iv c0_i32_46 c1_i32_48 k0_t2
  let v125 : BitVec 32 := Scalar.muli c2_i32_50 arg25
  let v402 : Index := Scalar.indexCast v125
  let c0_192 : Index := 0#32
  let arg1 : BitVec 32 := BitVec.ofNat 32 (i 1).val
  let c1_i32_181 : BitVec 32 := 1#32
  let v379 : BitVec 32 := Scalar.subi arg1 c1_i32_181
  let v380 : BitVec 32 := Scalar.addi v379 c0_i32_182
  let c256_i32_183 : BitVec 32 := 256#32
  let v381 : BitVec 32 := Scalar.muli v380 c256_i32_183
  let v382 : BitVec 32 := v381
  let v403 : Index := Scalar.indexCast v382
  ![v402.toNat, 0, v403.toNat]
def k0_mult14 (i : grid0.Coords) : BitVec 32 :=
  let arg1 : BitVec 32 := BitVec.ofNat 32 (i 1).val
  let c1_i32_194 : BitVec 32 := 1#32
  let v407 : BitVec 32 := Scalar.subi arg1 c1_i32_194
  let c1_i32_195 : BitVec 32 := 1#32
  let v408 : BitVec 32 := Scalar.addi v407 c1_i32_195
  let c256_i32_196 : BitVec 32 := 256#32
  let v409 : BitVec 32 := Scalar.muli v408 c256_i32_196
  v409
def k0_off51 (k0_t2 : Fin k0_t2_loop.trips) : Fin 3 → Nat :=
  let c2_i32_50 : BitVec 32 := 2#32
  let c0_i32_46 : BitVec 32 := 0#32
  let c1_i32_48 : BitVec 32 := 1#32
  let arg25 : BitVec 32 := Scf.iv c0_i32_46 c1_i32_48 k0_t2
  let v125 : BitVec 32 := Scalar.muli c2_i32_50 arg25
  let v428 : Index := Scalar.indexCast v125
  let c0_205 : Index := 0#32
  let c0_206 : Index := 0#32
  ![v428.toNat, 0, 0]
def k0_off52 (k0_t2 : Fin k0_t2_loop.trips) : Fin 5 → Nat :=
  let c0_225 : Index := 0#32
  let c2_i32_223 : BitVec 32 := 2#32
  let c0_i32_46 : BitVec 32 := 0#32
  let c1_i32_48 : BitVec 32 := 1#32
  let arg25 : BitVec 32 := Scf.iv c0_i32_46 c1_i32_48 k0_t2
  let v471 : BitVec 32 := Scalar.muli c2_i32_223 arg25
  let c1_i32_224 : BitVec 32 := 1#32
  let v472 : BitVec 32 := Scalar.addi v471 c1_i32_224
  let v473 : Index := Scalar.indexCast v472
  let c0_226 : Index := 0#32
  let c0_227 : Index := 0#32
  let c0_228 : Index := 0#32
  ![0, v473.toNat, 0, 0, 0]
def k0_off53 (i : grid0.Coords) (k0_t2 : Fin k0_t2_loop.trips) : Fin 4 → Nat :=
  let c2_i32_223 : BitVec 32 := 2#32
  let c0_i32_46 : BitVec 32 := 0#32
  let c1_i32_48 : BitVec 32 := 1#32
  let arg25 : BitVec 32 := Scf.iv c0_i32_46 c1_i32_48 k0_t2
  let v471 : BitVec 32 := Scalar.muli c2_i32_223 arg25
  let c1_i32_224 : BitVec 32 := 1#32
  let v472 : BitVec 32 := Scalar.addi v471 c1_i32_224
  let v479 : Index := Scalar.indexCast v472
  let c0_229 : Index := 0#32
  let arg1 : BitVec 32 := BitVec.ofNat 32 (i 1).val
  let c256_i32_27 : BitVec 32 := 256#32
  let v82 : BitVec 32 := Scalar.muli arg1 c256_i32_27
  let v83 : BitVec 32 := v82
  let v480 : Index := Scalar.indexCast v83
  let c0_230 : Index := 0#32
  ![v479.toNat, 0, v480.toNat, 0]
def k0_off54 (k0_t2 : Fin k0_t2_loop.trips) : Fin 4 → Nat :=
  let c0_231 : Index := 0#32
  let c2_i32_223 : BitVec 32 := 2#32
  let c0_i32_46 : BitVec 32 := 0#32
  let c1_i32_48 : BitVec 32 := 1#32
  let arg25 : BitVec 32 := Scf.iv c0_i32_46 c1_i32_48 k0_t2
  let v471 : BitVec 32 := Scalar.muli c2_i32_223 arg25
  let c1_i32_224 : BitVec 32 := 1#32
  let v472 : BitVec 32 := Scalar.addi v471 c1_i32_224
  let v484 : Index := Scalar.indexCast v472
  let c0_232 : Index := 0#32
  let c0_233 : Index := 0#32
  ![0, v484.toNat, 0, 0]
def k0_off55 (i : grid0.Coords) (k0_t2 : Fin k0_t2_loop.trips) : Fin 4 → Nat :=
  let c2_i32_223 : BitVec 32 := 2#32
  let c0_i32_46 : BitVec 32 := 0#32
  let c1_i32_48 : BitVec 32 := 1#32
  let arg25 : BitVec 32 := Scf.iv c0_i32_46 c1_i32_48 k0_t2
  let v471 : BitVec 32 := Scalar.muli c2_i32_223 arg25
  let c1_i32_224 : BitVec 32 := 1#32
  let v472 : BitVec 32 := Scalar.addi v471 c1_i32_224
  let v496 : Index := Scalar.indexCast v472
  let c0_234 : Index := 0#32
  let arg1 : BitVec 32 := BitVec.ofNat 32 (i 1).val
  let c256_i32_27 : BitVec 32 := 256#32
  let v82 : BitVec 32 := Scalar.muli arg1 c256_i32_27
  let v83 : BitVec 32 := v82
  let v497 : Index := Scalar.indexCast v83
  let c0_235 : Index := 0#32
  ![v496.toNat, 0, v497.toNat, 0]
def k0_off56 (k0_t2 : Fin k0_t2_loop.trips) : Fin 5 → Nat :=
  let c0_236 : Index := 0#32
  let c2_i32_223 : BitVec 32 := 2#32
  let c0_i32_46 : BitVec 32 := 0#32
  let c1_i32_48 : BitVec 32 := 1#32
  let arg25 : BitVec 32 := Scf.iv c0_i32_46 c1_i32_48 k0_t2
  let v471 : BitVec 32 := Scalar.muli c2_i32_223 arg25
  let c1_i32_224 : BitVec 32 := 1#32
  let v472 : BitVec 32 := Scalar.addi v471 c1_i32_224
  let v501 : Index := Scalar.indexCast v472
  let c1_237 : Index := 1#32
  let c0_238 : Index := 0#32
  let c0_239 : Index := 0#32
  ![0, v501.toNat, 1, 0, 0]
def k0_off57 (i : grid0.Coords) (k0_t2 : Fin k0_t2_loop.trips) : Fin 4 → Nat :=
  let c2_i32_223 : BitVec 32 := 2#32
  let c0_i32_46 : BitVec 32 := 0#32
  let c1_i32_48 : BitVec 32 := 1#32
  let arg25 : BitVec 32 := Scf.iv c0_i32_46 c1_i32_48 k0_t2
  let v471 : BitVec 32 := Scalar.muli c2_i32_223 arg25
  let c1_i32_224 : BitVec 32 := 1#32
  let v472 : BitVec 32 := Scalar.addi v471 c1_i32_224
  let v507 : Index := Scalar.indexCast v472
  let c1_240 : Index := 1#32
  let arg1 : BitVec 32 := BitVec.ofNat 32 (i 1).val
  let c256_i32_27 : BitVec 32 := 256#32
  let v82 : BitVec 32 := Scalar.muli arg1 c256_i32_27
  let v83 : BitVec 32 := v82
  let v508 : Index := Scalar.indexCast v83
  let c0_241 : Index := 0#32
  ![v507.toNat, 1, v508.toNat, 0]
def k0_off58 (k0_t2 : Fin k0_t2_loop.trips) : Fin 4 → Nat :=
  let c0_242 : Index := 0#32
  let c2_i32_223 : BitVec 32 := 2#32
  let c0_i32_46 : BitVec 32 := 0#32
  let c1_i32_48 : BitVec 32 := 1#32
  let arg25 : BitVec 32 := Scf.iv c0_i32_46 c1_i32_48 k0_t2
  let v471 : BitVec 32 := Scalar.muli c2_i32_223 arg25
  let c1_i32_224 : BitVec 32 := 1#32
  let v472 : BitVec 32 := Scalar.addi v471 c1_i32_224
  let v512 : Index := Scalar.indexCast v472
  let c1_243 : Index := 1#32
  let c0_244 : Index := 0#32
  ![0, v512.toNat, 1, 0]
def k0_off59 (i : grid0.Coords) (k0_t2 : Fin k0_t2_loop.trips) : Fin 4 → Nat :=
  let c2_i32_223 : BitVec 32 := 2#32
  let c0_i32_46 : BitVec 32 := 0#32
  let c1_i32_48 : BitVec 32 := 1#32
  let arg25 : BitVec 32 := Scf.iv c0_i32_46 c1_i32_48 k0_t2
  let v471 : BitVec 32 := Scalar.muli c2_i32_223 arg25
  let c1_i32_224 : BitVec 32 := 1#32
  let v472 : BitVec 32 := Scalar.addi v471 c1_i32_224
  let v524 : Index := Scalar.indexCast v472
  let c1_245 : Index := 1#32
  let arg1 : BitVec 32 := BitVec.ofNat 32 (i 1).val
  let c256_i32_27 : BitVec 32 := 256#32
  let v82 : BitVec 32 := Scalar.muli arg1 c256_i32_27
  let v83 : BitVec 32 := v82
  let v525 : Index := Scalar.indexCast v83
  let c0_246 : Index := 0#32
  ![v524.toNat, 1, v525.toNat, 0]
def k0_off60 (k0_t2 : Fin k0_t2_loop.trips) : Fin 4 → Nat :=
  let c0_247 : Index := 0#32
  let c2_i32_223 : BitVec 32 := 2#32
  let c0_i32_46 : BitVec 32 := 0#32
  let c1_i32_48 : BitVec 32 := 1#32
  let arg25 : BitVec 32 := Scf.iv c0_i32_46 c1_i32_48 k0_t2
  let v471 : BitVec 32 := Scalar.muli c2_i32_223 arg25
  let c1_i32_224 : BitVec 32 := 1#32
  let v472 : BitVec 32 := Scalar.addi v471 c1_i32_224
  let v529 : Index := Scalar.indexCast v472
  let c0_248 : Index := 0#32
  let c0_249 : Index := 0#32
  ![0, v529.toNat, 0, 0]
def k0_off61 (i : grid0.Coords) (k0_t2 : Fin k0_t2_loop.trips) : Fin 3 → Nat :=
  let c2_i32_223 : BitVec 32 := 2#32
  let c0_i32_46 : BitVec 32 := 0#32
  let c1_i32_48 : BitVec 32 := 1#32
  let arg25 : BitVec 32 := Scf.iv c0_i32_46 c1_i32_48 k0_t2
  let v471 : BitVec 32 := Scalar.muli c2_i32_223 arg25
  let c1_i32_224 : BitVec 32 := 1#32
  let v472 : BitVec 32 := Scalar.addi v471 c1_i32_224
  let v533 : Index := Scalar.indexCast v472
  let c0_250 : Index := 0#32
  let arg1 : BitVec 32 := BitVec.ofNat 32 (i 1).val
  let c256_i32_27 : BitVec 32 := 256#32
  let v82 : BitVec 32 := Scalar.muli arg1 c256_i32_27
  let v83 : BitVec 32 := v82
  let v534 : Index := Scalar.indexCast v83
  ![v533.toNat, 0, v534.toNat]
def k0_mult15 (i : grid0.Coords) : BitVec 32 :=
  let arg1 : BitVec 32 := BitVec.ofNat 32 (i 1).val
  let c1_i32_257 : BitVec 32 := 1#32
  let v545 : BitVec 32 := Scalar.subi arg1 c1_i32_257
  let c0_i32_258 : BitVec 32 := 0#32
  let v546 : BitVec 32 := Scalar.addi v545 c0_i32_258
  let c256_i32_259 : BitVec 32 := 256#32
  let v547 : BitVec 32 := Scalar.muli v546 c256_i32_259
  v547
def k0_off62 (i : grid0.Coords) (k0_t2 : Fin k0_t2_loop.trips) (c0_i32_258 : BitVec 32) : Fin 4 → Nat :=
  let c2_i32_223 : BitVec 32 := 2#32
  let c0_i32_46 : BitVec 32 := 0#32
  let c1_i32_48 : BitVec 32 := 1#32
  let arg25 : BitVec 32 := Scf.iv c0_i32_46 c1_i32_48 k0_t2
  let v471 : BitVec 32 := Scalar.muli c2_i32_223 arg25
  let c1_i32_224 : BitVec 32 := 1#32
  let v472 : BitVec 32 := Scalar.addi v471 c1_i32_224
  let v549 : Index := Scalar.indexCast v472
  let c0_260 : Index := 0#32
  let arg1 : BitVec 32 := BitVec.ofNat 32 (i 1).val
  let c1_i32_257 : BitVec 32 := 1#32
  let v545 : BitVec 32 := Scalar.subi arg1 c1_i32_257
  let v546 : BitVec 32 := Scalar.addi v545 c0_i32_258
  let c256_i32_259 : BitVec 32 := 256#32
  let v547 : BitVec 32 := Scalar.muli v546 c256_i32_259
  let v548 : BitVec 32 := v547
  let v550 : Index := Scalar.indexCast v548
  let c0_261 : Index := 0#32
  ![v549.toNat, 0, v550.toNat, 0]
def k0_off63 (i : grid0.Coords) (k0_t2 : Fin k0_t2_loop.trips) (c0_i32_258 : BitVec 32) : Fin 4 → Nat :=
  let c2_i32_223 : BitVec 32 := 2#32
  let c0_i32_46 : BitVec 32 := 0#32
  let c1_i32_48 : BitVec 32 := 1#32
  let arg25 : BitVec 32 := Scf.iv c0_i32_46 c1_i32_48 k0_t2
  let v471 : BitVec 32 := Scalar.muli c2_i32_223 arg25
  let c1_i32_224 : BitVec 32 := 1#32
  let v472 : BitVec 32 := Scalar.addi v471 c1_i32_224
  let v557 : Index := Scalar.indexCast v472
  let c0_267 : Index := 0#32
  let arg1 : BitVec 32 := BitVec.ofNat 32 (i 1).val
  let c1_i32_257 : BitVec 32 := 1#32
  let v545 : BitVec 32 := Scalar.subi arg1 c1_i32_257
  let v546 : BitVec 32 := Scalar.addi v545 c0_i32_258
  let c256_i32_259 : BitVec 32 := 256#32
  let v547 : BitVec 32 := Scalar.muli v546 c256_i32_259
  let v548 : BitVec 32 := v547
  let v558 : Index := Scalar.indexCast v548
  let c0_268 : Index := 0#32
  ![v557.toNat, 0, v558.toNat, 0]
def k0_mult16 (i : grid0.Coords) : BitVec 32 :=
  let arg1 : BitVec 32 := BitVec.ofNat 32 (i 1).val
  let c1_i32_276 : BitVec 32 := 1#32
  let v585 : BitVec 32 := Scalar.subi arg1 c1_i32_276
  let c1_i32_277 : BitVec 32 := 1#32
  let v586 : BitVec 32 := Scalar.addi v585 c1_i32_277
  let c256_i32_278 : BitVec 32 := 256#32
  let v587 : BitVec 32 := Scalar.muli v586 c256_i32_278
  v587
def k0_mult17 (i : grid0.Coords) : BitVec 32 :=
  let arg1 : BitVec 32 := BitVec.ofNat 32 (i 1).val
  let c1_i32_310 : BitVec 32 := 1#32
  let v638 : BitVec 32 := Scalar.subi arg1 c1_i32_310
  let c0_i32_311 : BitVec 32 := 0#32
  let v639 : BitVec 32 := Scalar.addi v638 c0_i32_311
  let c256_i32_312 : BitVec 32 := 256#32
  let v640 : BitVec 32 := Scalar.muli v639 c256_i32_312
  v640
def k0_off64 (i : grid0.Coords) (k0_t2 : Fin k0_t2_loop.trips) (c0_i32_311 : BitVec 32) : Fin 4 → Nat :=
  let c2_i32_223 : BitVec 32 := 2#32
  let c0_i32_46 : BitVec 32 := 0#32
  let c1_i32_48 : BitVec 32 := 1#32
  let arg25 : BitVec 32 := Scf.iv c0_i32_46 c1_i32_48 k0_t2
  let v471 : BitVec 32 := Scalar.muli c2_i32_223 arg25
  let c1_i32_224 : BitVec 32 := 1#32
  let v472 : BitVec 32 := Scalar.addi v471 c1_i32_224
  let v642 : Index := Scalar.indexCast v472
  let c1_313 : Index := 1#32
  let arg1 : BitVec 32 := BitVec.ofNat 32 (i 1).val
  let c1_i32_310 : BitVec 32 := 1#32
  let v638 : BitVec 32 := Scalar.subi arg1 c1_i32_310
  let v639 : BitVec 32 := Scalar.addi v638 c0_i32_311
  let c256_i32_312 : BitVec 32 := 256#32
  let v640 : BitVec 32 := Scalar.muli v639 c256_i32_312
  let v641 : BitVec 32 := v640
  let v643 : Index := Scalar.indexCast v641
  let c0_314 : Index := 0#32
  ![v642.toNat, 1, v643.toNat, 0]
def k0_off65 (i : grid0.Coords) (k0_t2 : Fin k0_t2_loop.trips) (c0_i32_311 : BitVec 32) : Fin 4 → Nat :=
  let c2_i32_223 : BitVec 32 := 2#32
  let c0_i32_46 : BitVec 32 := 0#32
  let c1_i32_48 : BitVec 32 := 1#32
  let arg25 : BitVec 32 := Scf.iv c0_i32_46 c1_i32_48 k0_t2
  let v471 : BitVec 32 := Scalar.muli c2_i32_223 arg25
  let c1_i32_224 : BitVec 32 := 1#32
  let v472 : BitVec 32 := Scalar.addi v471 c1_i32_224
  let v650 : Index := Scalar.indexCast v472
  let c1_320 : Index := 1#32
  let arg1 : BitVec 32 := BitVec.ofNat 32 (i 1).val
  let c1_i32_310 : BitVec 32 := 1#32
  let v638 : BitVec 32 := Scalar.subi arg1 c1_i32_310
  let v639 : BitVec 32 := Scalar.addi v638 c0_i32_311
  let c256_i32_312 : BitVec 32 := 256#32
  let v640 : BitVec 32 := Scalar.muli v639 c256_i32_312
  let v641 : BitVec 32 := v640
  let v651 : Index := Scalar.indexCast v641
  let c0_321 : Index := 0#32
  ![v650.toNat, 1, v651.toNat, 0]
def k0_mult18 (i : grid0.Coords) : BitVec 32 :=
  let arg1 : BitVec 32 := BitVec.ofNat 32 (i 1).val
  let c1_i32_329 : BitVec 32 := 1#32
  let v678 : BitVec 32 := Scalar.subi arg1 c1_i32_329
  let c1_i32_330 : BitVec 32 := 1#32
  let v679 : BitVec 32 := Scalar.addi v678 c1_i32_330
  let c256_i32_331 : BitVec 32 := 256#32
  let v680 : BitVec 32 := Scalar.muli v679 c256_i32_331
  v680
def k0_mult19 (i : grid0.Coords) : BitVec 32 :=
  let arg1 : BitVec 32 := BitVec.ofNat 32 (i 1).val
  let c1_i32_357 : BitVec 32 := 1#32
  let v726 : BitVec 32 := Scalar.subi arg1 c1_i32_357
  let c0_i32_358 : BitVec 32 := 0#32
  let v727 : BitVec 32 := Scalar.addi v726 c0_i32_358
  let c256_i32_359 : BitVec 32 := 256#32
  let v728 : BitVec 32 := Scalar.muli v727 c256_i32_359
  v728
def k0_off66 (i : grid0.Coords) (k0_t2 : Fin k0_t2_loop.trips) (c0_i32_358 : BitVec 32) : Fin 3 → Nat :=
  let c2_i32_223 : BitVec 32 := 2#32
  let c0_i32_46 : BitVec 32 := 0#32
  let c1_i32_48 : BitVec 32 := 1#32
  let arg25 : BitVec 32 := Scf.iv c0_i32_46 c1_i32_48 k0_t2
  let v471 : BitVec 32 := Scalar.muli c2_i32_223 arg25
  let c1_i32_224 : BitVec 32 := 1#32
  let v472 : BitVec 32 := Scalar.addi v471 c1_i32_224
  let v749 : Index := Scalar.indexCast v472
  let c0_368 : Index := 0#32
  let arg1 : BitVec 32 := BitVec.ofNat 32 (i 1).val
  let c1_i32_357 : BitVec 32 := 1#32
  let v726 : BitVec 32 := Scalar.subi arg1 c1_i32_357
  let v727 : BitVec 32 := Scalar.addi v726 c0_i32_358
  let c256_i32_359 : BitVec 32 := 256#32
  let v728 : BitVec 32 := Scalar.muli v727 c256_i32_359
  let v729 : BitVec 32 := v728
  let v750 : Index := Scalar.indexCast v729
  ![v749.toNat, 0, v750.toNat]
def k0_mult20 (i : grid0.Coords) : BitVec 32 :=
  let arg1 : BitVec 32 := BitVec.ofNat 32 (i 1).val
  let c1_i32_370 : BitVec 32 := 1#32
  let v754 : BitVec 32 := Scalar.subi arg1 c1_i32_370
  let c1_i32_371 : BitVec 32 := 1#32
  let v755 : BitVec 32 := Scalar.addi v754 c1_i32_371
  let c256_i32_372 : BitVec 32 := 256#32
  let v756 : BitVec 32 := Scalar.muli v755 c256_i32_372
  v756
def k0_off67 (k0_t2 : Fin k0_t2_loop.trips) : Fin 3 → Nat :=
  let c2_i32_223 : BitVec 32 := 2#32
  let c0_i32_46 : BitVec 32 := 0#32
  let c1_i32_48 : BitVec 32 := 1#32
  let arg25 : BitVec 32 := Scf.iv c0_i32_46 c1_i32_48 k0_t2
  let v471 : BitVec 32 := Scalar.muli c2_i32_223 arg25
  let c1_i32_224 : BitVec 32 := 1#32
  let v472 : BitVec 32 := Scalar.addi v471 c1_i32_224
  let v775 : Index := Scalar.indexCast v472
  let c0_381 : Index := 0#32
  let c0_382 : Index := 0#32
  ![v775.toNat, 0, 0]
def k0_mult21 (k0_t2 : Fin k0_t2_loop.trips) : BitVec 32 :=
  let c0_i32_46 : BitVec 32 := 0#32
  let c1_i32_48 : BitVec 32 := 1#32
  let arg25 : BitVec 32 := Scf.iv c0_i32_46 c1_i32_48 k0_t2
  let c2_i32_398 : BitVec 32 := 2#32
  let v818 : BitVec 32 := Scalar.muli arg25 c2_i32_398
  let c320_i32 : BitVec 32 := 320#32
  let v819 : BitVec 32 := Scalar.muli v818 c320_i32
  v819
def k0_off68 (k0_t2 : Fin k0_t2_loop.trips) : Fin 3 → Nat :=
  let c0_401 : Index := 0#32
  let c0_402 : Index := 0#32
  let c0_i32_46 : BitVec 32 := 0#32
  let c1_i32_48 : BitVec 32 := 1#32
  let arg25 : BitVec 32 := Scf.iv c0_i32_46 c1_i32_48 k0_t2
  let c2_i32_398 : BitVec 32 := 2#32
  let v818 : BitVec 32 := Scalar.muli arg25 c2_i32_398
  let c320_i32 : BitVec 32 := 320#32
  let v819 : BitVec 32 := Scalar.muli v818 c320_i32
  let v820 : BitVec 32 := v819
  let v823 : Index := Scalar.indexCast v820
  ![0, 0, v823.toNat]
@[reducible] def k0_t3_loop : Scf.Loop 32 :=
  let c0_i32_46 : BitVec 32 := 0#32
  let c3_i32_47 : BitVec 32 := 3#32
  let v124 : BitVec 32 := Scalar.addi c0_i32_46 c3_i32_47
  let c1_i32_48 : BitVec 32 := 1#32
  ⟨c0_i32_46, v124, c1_i32_48⟩
def k0_off69 (k0_t3 : Fin k0_t3_loop.trips) : Fin 5 → Nat :=
  let c0_51 : Index := 0#32
  let c2_i32_50 : BitVec 32 := 2#32
  let c0_i32_46 : BitVec 32 := 0#32
  let c1_i32_48 : BitVec 32 := 1#32
  let arg25 : BitVec 32 := Scf.iv c0_i32_46 c1_i32_48 k0_t3
  let v125 : BitVec 32 := Scalar.muli c2_i32_50 arg25
  let v126 : Index := Scalar.indexCast v125
  let c0_52 : Index := 0#32
  let c0_53 : Index := 0#32
  let c0_54 : Index := 0#32
  ![0, v126.toNat, 0, 0, 0]
def k0_off70 (i : grid0.Coords) (k0_t3 : Fin k0_t3_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t3
  let v125 : BitVec 32 := Scalar.muli c2_i32_50 arg25
  let v132 : Index := Scalar.indexCast v125
  let c0_55 : Index := 0#32
  let arg1 : BitVec 32 := BitVec.ofNat 32 (i 1).val
  let c256_i32_27 : BitVec 32 := 256#32
  let v82 : BitVec 32 := Scalar.muli arg1 c256_i32_27
  let v83 : BitVec 32 := v82
  let v133 : Index := Scalar.indexCast v83
  let c0_56 : Index := 0#32
  ![v132.toNat, 0, v133.toNat, 0]
def k0_off71 (k0_t3 : Fin k0_t3_loop.trips) : Fin 4 → Nat :=
  let c0_57 : Index := 0#32
  let c2_i32_50 : BitVec 32 := 2#32
  let c0_i32_46 : BitVec 32 := 0#32
  let c1_i32_48 : BitVec 32 := 1#32
  let arg25 : BitVec 32 := Scf.iv c0_i32_46 c1_i32_48 k0_t3
  let v125 : BitVec 32 := Scalar.muli c2_i32_50 arg25
  let v137 : Index := Scalar.indexCast v125
  let c0_58 : Index := 0#32
  let c0_59 : Index := 0#32
  ![0, v137.toNat, 0, 0]
def k0_off72 (i : grid0.Coords) (k0_t3 : Fin k0_t3_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t3
  let v125 : BitVec 32 := Scalar.muli c2_i32_50 arg25
  let v149 : Index := Scalar.indexCast v125
  let c0_60 : Index := 0#32
  let arg1 : BitVec 32 := BitVec.ofNat 32 (i 1).val
  let c256_i32_27 : BitVec 32 := 256#32
  let v82 : BitVec 32 := Scalar.muli arg1 c256_i32_27
  let v83 : BitVec 32 := v82
  let v150 : Index := Scalar.indexCast v83
  let c0_61 : Index := 0#32
  ![v149.toNat, 0, v150.toNat, 0]
def k0_off73 (k0_t3 : Fin k0_t3_loop.trips) : Fin 5 → Nat :=
  let c0_62 : Index := 0#32
  let c2_i32_50 : BitVec 32 := 2#32
  let c0_i32_46 : BitVec 32 := 0#32
  let c1_i32_48 : BitVec 32 := 1#32
  let arg25 : BitVec 32 := Scf.iv c0_i32_46 c1_i32_48 k0_t3
  let v125 : BitVec 32 := Scalar.muli c2_i32_50 arg25
  let v154 : Index := Scalar.indexCast v125
  let c1 : Index := 1#32
  let c0_63 : Index := 0#32
  let c0_64 : Index := 0#32
  ![0, v154.toNat, 1, 0, 0]
def k0_off74 (i : grid0.Coords) (k0_t3 : Fin k0_t3_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t3
  let v125 : BitVec 32 := Scalar.muli c2_i32_50 arg25
  let v160 : Index := Scalar.indexCast v125
  let c1_65 : Index := 1#32
  let arg1 : BitVec 32 := BitVec.ofNat 32 (i 1).val
  let c256_i32_27 : BitVec 32 := 256#32
  let v82 : BitVec 32 := Scalar.muli arg1 c256_i32_27
  let v83 : BitVec 32 := v82
  let v161 : Index := Scalar.indexCast v83
  let c0_66 : Index := 0#32
  ![v160.toNat, 1, v161.toNat, 0]
def k0_off75 (k0_t3 : Fin k0_t3_loop.trips) : Fin 4 → Nat :=
  let c0_67 : Index := 0#32
  let c2_i32_50 : BitVec 32 := 2#32
  let c0_i32_46 : BitVec 32 := 0#32
  let c1_i32_48 : BitVec 32 := 1#32
  let arg25 : BitVec 32 := Scf.iv c0_i32_46 c1_i32_48 k0_t3
  let v125 : BitVec 32 := Scalar.muli c2_i32_50 arg25
  let v165 : Index := Scalar.indexCast v125
  let c1_68 : Index := 1#32
  let c0_69 : Index := 0#32
  ![0, v165.toNat, 1, 0]
def k0_off76 (i : grid0.Coords) (k0_t3 : Fin k0_t3_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t3
  let v125 : BitVec 32 := Scalar.muli c2_i32_50 arg25
  let v177 : Index := Scalar.indexCast v125
  let c1_70 : Index := 1#32
  let arg1 : BitVec 32 := BitVec.ofNat 32 (i 1).val
  let c256_i32_27 : BitVec 32 := 256#32
  let v82 : BitVec 32 := Scalar.muli arg1 c256_i32_27
  let v83 : BitVec 32 := v82
  let v178 : Index := Scalar.indexCast v83
  let c0_71 : Index := 0#32
  ![v177.toNat, 1, v178.toNat, 0]
def k0_off77 (k0_t3 : Fin k0_t3_loop.trips) : Fin 4 → Nat :=
  let c0_72 : Index := 0#32
  let c2_i32_50 : BitVec 32 := 2#32
  let c0_i32_46 : BitVec 32 := 0#32
  let c1_i32_48 : BitVec 32 := 1#32
  let arg25 : BitVec 32 := Scf.iv c0_i32_46 c1_i32_48 k0_t3
  let v125 : BitVec 32 := Scalar.muli c2_i32_50 arg25
  let v182 : Index := Scalar.indexCast v125
  let c0_73 : Index := 0#32
  let c0_74 : Index := 0#32
  ![0, v182.toNat, 0, 0]
def k0_off78 (i : grid0.Coords) (k0_t3 : Fin k0_t3_loop.trips) : Fin 3 → Nat :=
  let c2_i32_50 : BitVec 32 := 2#32
  let c0_i32_46 : BitVec 32 := 0#32
  let c1_i32_48 : BitVec 32 := 1#32
  let arg25 : BitVec 32 := Scf.iv c0_i32_46 c1_i32_48 k0_t3
  let v125 : BitVec 32 := Scalar.muli c2_i32_50 arg25
  let v186 : Index := Scalar.indexCast v125
  let c0_75 : Index := 0#32
  let arg1 : BitVec 32 := BitVec.ofNat 32 (i 1).val
  let c256_i32_27 : BitVec 32 := 256#32
  let v82 : BitVec 32 := Scalar.muli arg1 c256_i32_27
  let v83 : BitVec 32 := v82
  let v187 : Index := Scalar.indexCast v83
  ![v186.toNat, 0, v187.toNat]
def k0_mult22 (i : grid0.Coords) : BitVec 32 :=
  let arg1 : BitVec 32 := BitVec.ofNat 32 (i 1).val
  let c2_i32_82 : BitVec 32 := 2#32
  let v198 : BitVec 32 := Scalar.subi arg1 c2_i32_82
  let c0_i32_83 : BitVec 32 := 0#32
  let v199 : BitVec 32 := Scalar.addi v198 c0_i32_83
  let c256_i32_84 : BitVec 32 := 256#32
  let v200 : BitVec 32 := Scalar.muli v199 c256_i32_84
  v200
def k0_off79 (i : grid0.Coords) (k0_t3 : Fin k0_t3_loop.trips) (c0_i32_83 : BitVec 32) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t3
  let v125 : BitVec 32 := Scalar.muli c2_i32_50 arg25
  let v202 : Index := Scalar.indexCast v125
  let c0_85 : Index := 0#32
  let arg1 : BitVec 32 := BitVec.ofNat 32 (i 1).val
  let c2_i32_82 : BitVec 32 := 2#32
  let v198 : BitVec 32 := Scalar.subi arg1 c2_i32_82
  let v199 : BitVec 32 := Scalar.addi v198 c0_i32_83
  let c256_i32_84 : BitVec 32 := 256#32
  let v200 : BitVec 32 := Scalar.muli v199 c256_i32_84
  let v201 : BitVec 32 := v200
  let v203 : Index := Scalar.indexCast v201
  let c0_86 : Index := 0#32
  ![v202.toNat, 0, v203.toNat, 0]
def k0_cond3 (i : grid0.Coords) (v2 : BitVec 32) : BitVec 1 :=
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let c3_i32 : BitVec 32 := 3#32
  let v90 : BitVec 1 := Scalar.cmpi .eq v21 c3_i32
  let v91 : BitVec 32 := Scalar.extui v90
  let c0_i32_31 : BitVec 32 := 0#32
  let v92 : BitVec 1 := Scalar.cmpi .ne v91 c0_i32_31
  v92

def k0_off80 (i : grid0.Coords) (k0_t3 : Fin k0_t3_loop.trips) (c0_i32_83 : BitVec 32) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t3
  let v125 : BitVec 32 := Scalar.muli c2_i32_50 arg25
  let v210 : Index := Scalar.indexCast v125
  let c0_92 : Index := 0#32
  let arg1 : BitVec 32 := BitVec.ofNat 32 (i 1).val
  let c2_i32_82 : BitVec 32 := 2#32
  let v198 : BitVec 32 := Scalar.subi arg1 c2_i32_82
  let v199 : BitVec 32 := Scalar.addi v198 c0_i32_83
  let c256_i32_84 : BitVec 32 := 256#32
  let v200 : BitVec 32 := Scalar.muli v199 c256_i32_84
  let v201 : BitVec 32 := v200
  let v211 : Index := Scalar.indexCast v201
  let c0_93 : Index := 0#32
  ![v210.toNat, 0, v211.toNat, 0]
def k0_off81 (i : grid0.Coords) (c0_i32_83 : BitVec 32) : Fin 2 → Nat :=
  let arg0 : BitVec 32 := BitVec.ofNat 32 (i 0).val
  let v227 : Index := Scalar.indexCast arg0
  let arg1 : BitVec 32 := BitVec.ofNat 32 (i 1).val
  let c2_i32_82 : BitVec 32 := 2#32
  let v198 : BitVec 32 := Scalar.subi arg1 c2_i32_82
  let v199 : BitVec 32 := Scalar.addi v198 c0_i32_83
  let v228 : Index := Scalar.indexCast v199
  ![v227.toNat, v228.toNat]
def k0_mult23 (i : grid0.Coords) : BitVec 32 :=
  let arg1 : BitVec 32 := BitVec.ofNat 32 (i 1).val
  let c2_i32_101 : BitVec 32 := 2#32
  let v238 : BitVec 32 := Scalar.subi arg1 c2_i32_101
  let c1_i32_102 : BitVec 32 := 1#32
  let v239 : BitVec 32 := Scalar.addi v238 c1_i32_102
  let c256_i32_103 : BitVec 32 := 256#32
  let v240 : BitVec 32 := Scalar.muli v239 c256_i32_103
  v240
def k0_mult24 (i : grid0.Coords) : BitVec 32 :=
  let arg1 : BitVec 32 := BitVec.ofNat 32 (i 1).val
  let c2_i32_117 : BitVec 32 := 2#32
  let v275 : BitVec 32 := Scalar.subi arg1 c2_i32_117
  let c2_i32_118 : BitVec 32 := 2#32
  let v276 : BitVec 32 := Scalar.addi v275 c2_i32_118
  let c256_i32_119 : BitVec 32 := 256#32
  let v277 : BitVec 32 := Scalar.muli v276 c256_i32_119
  v277
def k0_mult25 (i : grid0.Coords) : BitVec 32 :=
  let arg1 : BitVec 32 := BitVec.ofNat 32 (i 1).val
  let c2_i32_150 : BitVec 32 := 2#32
  let v328 : BitVec 32 := Scalar.subi arg1 c2_i32_150
  let c0_i32_151 : BitVec 32 := 0#32
  let v329 : BitVec 32 := Scalar.addi v328 c0_i32_151
  let c256_i32_152 : BitVec 32 := 256#32
  let v330 : BitVec 32 := Scalar.muli v329 c256_i32_152
  v330
def k0_off82 (i : grid0.Coords) (k0_t3 : Fin k0_t3_loop.trips) (c0_i32_151 : BitVec 32) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t3
  let v125 : BitVec 32 := Scalar.muli c2_i32_50 arg25
  let v332 : Index := Scalar.indexCast v125
  let c1_153 : Index := 1#32
  let arg1 : BitVec 32 := BitVec.ofNat 32 (i 1).val
  let c2_i32_150 : BitVec 32 := 2#32
  let v328 : BitVec 32 := Scalar.subi arg1 c2_i32_150
  let v329 : BitVec 32 := Scalar.addi v328 c0_i32_151
  let c256_i32_152 : BitVec 32 := 256#32
  let v330 : BitVec 32 := Scalar.muli v329 c256_i32_152
  let v331 : BitVec 32 := v330
  let v333 : Index := Scalar.indexCast v331
  let c0_154 : Index := 0#32
  ![v332.toNat, 1, v333.toNat, 0]
def k0_off83 (i : grid0.Coords) (k0_t3 : Fin k0_t3_loop.trips) (c0_i32_151 : BitVec 32) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t3
  let v125 : BitVec 32 := Scalar.muli c2_i32_50 arg25
  let v340 : Index := Scalar.indexCast v125
  let c1_160 : Index := 1#32
  let arg1 : BitVec 32 := BitVec.ofNat 32 (i 1).val
  let c2_i32_150 : BitVec 32 := 2#32
  let v328 : BitVec 32 := Scalar.subi arg1 c2_i32_150
  let v329 : BitVec 32 := Scalar.addi v328 c0_i32_151
  let c256_i32_152 : BitVec 32 := 256#32
  let v330 : BitVec 32 := Scalar.muli v329 c256_i32_152
  let v331 : BitVec 32 := v330
  let v341 : Index := Scalar.indexCast v331
  let c0_161 : Index := 0#32
  ![v340.toNat, 1, v341.toNat, 0]
def k0_mult26 (i : grid0.Coords) : BitVec 32 :=
  let arg1 : BitVec 32 := BitVec.ofNat 32 (i 1).val
  let c2_i32_169 : BitVec 32 := 2#32
  let v368 : BitVec 32 := Scalar.subi arg1 c2_i32_169
  let c1_i32_170 : BitVec 32 := 1#32
  let v369 : BitVec 32 := Scalar.addi v368 c1_i32_170
  let c256_i32_171 : BitVec 32 := 256#32
  let v370 : BitVec 32 := Scalar.muli v369 c256_i32_171
  v370
def k0_mult27 (i : grid0.Coords) : BitVec 32 :=
  let arg1 : BitVec 32 := BitVec.ofNat 32 (i 1).val
  let c2_i32_186 : BitVec 32 := 2#32
  let v405 : BitVec 32 := Scalar.subi arg1 c2_i32_186
  let c2_i32_187 : BitVec 32 := 2#32
  let v406 : BitVec 32 := Scalar.addi v405 c2_i32_187
  let c256_i32_188 : BitVec 32 := 256#32
  let v407 : BitVec 32 := Scalar.muli v406 c256_i32_188
  v407
def k0_mult28 (i : grid0.Coords) : BitVec 32 :=
  let arg1 : BitVec 32 := BitVec.ofNat 32 (i 1).val
  let c2_i32_214 : BitVec 32 := 2#32
  let v453 : BitVec 32 := Scalar.subi arg1 c2_i32_214
  let c0_i32_215 : BitVec 32 := 0#32
  let v454 : BitVec 32 := Scalar.addi v453 c0_i32_215
  let c256_i32_216 : BitVec 32 := 256#32
  let v455 : BitVec 32 := Scalar.muli v454 c256_i32_216
  v455
def k0_off84 (i : grid0.Coords) (k0_t3 : Fin k0_t3_loop.trips) (c0_i32_215 : BitVec 32) : Fin 3 → Nat :=
  let c2_i32_50 : BitVec 32 := 2#32
  let c0_i32_46 : BitVec 32 := 0#32
  let c1_i32_48 : BitVec 32 := 1#32
  let arg25 : BitVec 32 := Scf.iv c0_i32_46 c1_i32_48 k0_t3
  let v125 : BitVec 32 := Scalar.muli c2_i32_50 arg25
  let v476 : Index := Scalar.indexCast v125
  let c0_225 : Index := 0#32
  let arg1 : BitVec 32 := BitVec.ofNat 32 (i 1).val
  let c2_i32_214 : BitVec 32 := 2#32
  let v453 : BitVec 32 := Scalar.subi arg1 c2_i32_214
  let v454 : BitVec 32 := Scalar.addi v453 c0_i32_215
  let c256_i32_216 : BitVec 32 := 256#32
  let v455 : BitVec 32 := Scalar.muli v454 c256_i32_216
  let v456 : BitVec 32 := v455
  let v477 : Index := Scalar.indexCast v456
  ![v476.toNat, 0, v477.toNat]
def k0_mult29 (i : grid0.Coords) : BitVec 32 :=
  let arg1 : BitVec 32 := BitVec.ofNat 32 (i 1).val
  let c2_i32_227 : BitVec 32 := 2#32
  let v481 : BitVec 32 := Scalar.subi arg1 c2_i32_227
  let c1_i32_228 : BitVec 32 := 1#32
  let v482 : BitVec 32 := Scalar.addi v481 c1_i32_228
  let c256_i32_229 : BitVec 32 := 256#32
  let v483 : BitVec 32 := Scalar.muli v482 c256_i32_229
  v483
def k0_mult30 (i : grid0.Coords) : BitVec 32 :=
  let arg1 : BitVec 32 := BitVec.ofNat 32 (i 1).val
  let c2_i32_240 : BitVec 32 := 2#32
  let v510 : BitVec 32 := Scalar.subi arg1 c2_i32_240
  let c2_i32_241 : BitVec 32 := 2#32
  let v511 : BitVec 32 := Scalar.addi v510 c2_i32_241
  let c256_i32_242 : BitVec 32 := 256#32
  let v512 : BitVec 32 := Scalar.muli v511 c256_i32_242
  v512
def k0_off85 (k0_t3 : Fin k0_t3_loop.trips) : Fin 3 → Nat :=
  let c2_i32_50 : BitVec 32 := 2#32
  let c0_i32_46 : BitVec 32 := 0#32
  let c1_i32_48 : BitVec 32 := 1#32
  let arg25 : BitVec 32 := Scf.iv c0_i32_46 c1_i32_48 k0_t3
  let v125 : BitVec 32 := Scalar.muli c2_i32_50 arg25
  let v531 : Index := Scalar.indexCast v125
  let c0_251 : Index := 0#32
  let c0_252 : Index := 0#32
  ![v531.toNat, 0, 0]
def k0_off86 (k0_t3 : Fin k0_t3_loop.trips) : Fin 5 → Nat :=
  let c0_271 : Index := 0#32
  let c2_i32_269 : BitVec 32 := 2#32
  let c0_i32_46 : BitVec 32 := 0#32
  let c1_i32_48 : BitVec 32 := 1#32
  let arg25 : BitVec 32 := Scf.iv c0_i32_46 c1_i32_48 k0_t3
  let v574 : BitVec 32 := Scalar.muli c2_i32_269 arg25
  let c1_i32_270 : BitVec 32 := 1#32
  let v575 : BitVec 32 := Scalar.addi v574 c1_i32_270
  let v576 : Index := Scalar.indexCast v575
  let c0_272 : Index := 0#32
  let c0_273 : Index := 0#32
  let c0_274 : Index := 0#32
  ![0, v576.toNat, 0, 0, 0]
def k0_off87 (i : grid0.Coords) (k0_t3 : Fin k0_t3_loop.trips) : Fin 4 → Nat :=
  let c2_i32_269 : BitVec 32 := 2#32
  let c0_i32_46 : BitVec 32 := 0#32
  let c1_i32_48 : BitVec 32 := 1#32
  let arg25 : BitVec 32 := Scf.iv c0_i32_46 c1_i32_48 k0_t3
  let v574 : BitVec 32 := Scalar.muli c2_i32_269 arg25
  let c1_i32_270 : BitVec 32 := 1#32
  let v575 : BitVec 32 := Scalar.addi v574 c1_i32_270
  let v582 : Index := Scalar.indexCast v575
  let c0_275 : Index := 0#32
  let arg1 : BitVec 32 := BitVec.ofNat 32 (i 1).val
  let c256_i32_27 : BitVec 32 := 256#32
  let v82 : BitVec 32 := Scalar.muli arg1 c256_i32_27
  let v83 : BitVec 32 := v82
  let v583 : Index := Scalar.indexCast v83
  let c0_276 : Index := 0#32
  ![v582.toNat, 0, v583.toNat, 0]
def k0_off88 (k0_t3 : Fin k0_t3_loop.trips) : Fin 4 → Nat :=
  let c0_277 : Index := 0#32
  let c2_i32_269 : BitVec 32 := 2#32
  let c0_i32_46 : BitVec 32 := 0#32
  let c1_i32_48 : BitVec 32 := 1#32
  let arg25 : BitVec 32 := Scf.iv c0_i32_46 c1_i32_48 k0_t3
  let v574 : BitVec 32 := Scalar.muli c2_i32_269 arg25
  let c1_i32_270 : BitVec 32 := 1#32
  let v575 : BitVec 32 := Scalar.addi v574 c1_i32_270
  let v587 : Index := Scalar.indexCast v575
  let c0_278 : Index := 0#32
  let c0_279 : Index := 0#32
  ![0, v587.toNat, 0, 0]
def k0_off89 (i : grid0.Coords) (k0_t3 : Fin k0_t3_loop.trips) : Fin 4 → Nat :=
  let c2_i32_269 : BitVec 32 := 2#32
  let c0_i32_46 : BitVec 32 := 0#32
  let c1_i32_48 : BitVec 32 := 1#32
  let arg25 : BitVec 32 := Scf.iv c0_i32_46 c1_i32_48 k0_t3
  let v574 : BitVec 32 := Scalar.muli c2_i32_269 arg25
  let c1_i32_270 : BitVec 32 := 1#32
  let v575 : BitVec 32 := Scalar.addi v574 c1_i32_270
  let v599 : Index := Scalar.indexCast v575
  let c0_280 : Index := 0#32
  let arg1 : BitVec 32 := BitVec.ofNat 32 (i 1).val
  let c256_i32_27 : BitVec 32 := 256#32
  let v82 : BitVec 32 := Scalar.muli arg1 c256_i32_27
  let v83 : BitVec 32 := v82
  let v600 : Index := Scalar.indexCast v83
  let c0_281 : Index := 0#32
  ![v599.toNat, 0, v600.toNat, 0]
def k0_off90 (k0_t3 : Fin k0_t3_loop.trips) : Fin 5 → Nat :=
  let c0_282 : Index := 0#32
  let c2_i32_269 : BitVec 32 := 2#32
  let c0_i32_46 : BitVec 32 := 0#32
  let c1_i32_48 : BitVec 32 := 1#32
  let arg25 : BitVec 32 := Scf.iv c0_i32_46 c1_i32_48 k0_t3
  let v574 : BitVec 32 := Scalar.muli c2_i32_269 arg25
  let c1_i32_270 : BitVec 32 := 1#32
  let v575 : BitVec 32 := Scalar.addi v574 c1_i32_270
  let v604 : Index := Scalar.indexCast v575
  let c1_283 : Index := 1#32
  let c0_284 : Index := 0#32
  let c0_285 : Index := 0#32
  ![0, v604.toNat, 1, 0, 0]
def k0_off91 (i : grid0.Coords) (k0_t3 : Fin k0_t3_loop.trips) : Fin 4 → Nat :=
  let c2_i32_269 : BitVec 32 := 2#32
  let c0_i32_46 : BitVec 32 := 0#32
  let c1_i32_48 : BitVec 32 := 1#32
  let arg25 : BitVec 32 := Scf.iv c0_i32_46 c1_i32_48 k0_t3
  let v574 : BitVec 32 := Scalar.muli c2_i32_269 arg25
  let c1_i32_270 : BitVec 32 := 1#32
  let v575 : BitVec 32 := Scalar.addi v574 c1_i32_270
  let v610 : Index := Scalar.indexCast v575
  let c1_286 : Index := 1#32
  let arg1 : BitVec 32 := BitVec.ofNat 32 (i 1).val
  let c256_i32_27 : BitVec 32 := 256#32
  let v82 : BitVec 32 := Scalar.muli arg1 c256_i32_27
  let v83 : BitVec 32 := v82
  let v611 : Index := Scalar.indexCast v83
  let c0_287 : Index := 0#32
  ![v610.toNat, 1, v611.toNat, 0]
def k0_off92 (k0_t3 : Fin k0_t3_loop.trips) : Fin 4 → Nat :=
  let c0_288 : Index := 0#32
  let c2_i32_269 : BitVec 32 := 2#32
  let c0_i32_46 : BitVec 32 := 0#32
  let c1_i32_48 : BitVec 32 := 1#32
  let arg25 : BitVec 32 := Scf.iv c0_i32_46 c1_i32_48 k0_t3
  let v574 : BitVec 32 := Scalar.muli c2_i32_269 arg25
  let c1_i32_270 : BitVec 32 := 1#32
  let v575 : BitVec 32 := Scalar.addi v574 c1_i32_270
  let v615 : Index := Scalar.indexCast v575
  let c1_289 : Index := 1#32
  let c0_290 : Index := 0#32
  ![0, v615.toNat, 1, 0]
def k0_off93 (i : grid0.Coords) (k0_t3 : Fin k0_t3_loop.trips) : Fin 4 → Nat :=
  let c2_i32_269 : BitVec 32 := 2#32
  let c0_i32_46 : BitVec 32 := 0#32
  let c1_i32_48 : BitVec 32 := 1#32
  let arg25 : BitVec 32 := Scf.iv c0_i32_46 c1_i32_48 k0_t3
  let v574 : BitVec 32 := Scalar.muli c2_i32_269 arg25
  let c1_i32_270 : BitVec 32 := 1#32
  let v575 : BitVec 32 := Scalar.addi v574 c1_i32_270
  let v627 : Index := Scalar.indexCast v575
  let c1_291 : Index := 1#32
  let arg1 : BitVec 32 := BitVec.ofNat 32 (i 1).val
  let c256_i32_27 : BitVec 32 := 256#32
  let v82 : BitVec 32 := Scalar.muli arg1 c256_i32_27
  let v83 : BitVec 32 := v82
  let v628 : Index := Scalar.indexCast v83
  let c0_292 : Index := 0#32
  ![v627.toNat, 1, v628.toNat, 0]
def k0_off94 (k0_t3 : Fin k0_t3_loop.trips) : Fin 4 → Nat :=
  let c0_293 : Index := 0#32
  let c2_i32_269 : BitVec 32 := 2#32
  let c0_i32_46 : BitVec 32 := 0#32
  let c1_i32_48 : BitVec 32 := 1#32
  let arg25 : BitVec 32 := Scf.iv c0_i32_46 c1_i32_48 k0_t3
  let v574 : BitVec 32 := Scalar.muli c2_i32_269 arg25
  let c1_i32_270 : BitVec 32 := 1#32
  let v575 : BitVec 32 := Scalar.addi v574 c1_i32_270
  let v632 : Index := Scalar.indexCast v575
  let c0_294 : Index := 0#32
  let c0_295 : Index := 0#32
  ![0, v632.toNat, 0, 0]
def k0_off95 (i : grid0.Coords) (k0_t3 : Fin k0_t3_loop.trips) : Fin 3 → Nat :=
  let c2_i32_269 : BitVec 32 := 2#32
  let c0_i32_46 : BitVec 32 := 0#32
  let c1_i32_48 : BitVec 32 := 1#32
  let arg25 : BitVec 32 := Scf.iv c0_i32_46 c1_i32_48 k0_t3
  let v574 : BitVec 32 := Scalar.muli c2_i32_269 arg25
  let c1_i32_270 : BitVec 32 := 1#32
  let v575 : BitVec 32 := Scalar.addi v574 c1_i32_270
  let v636 : Index := Scalar.indexCast v575
  let c0_296 : Index := 0#32
  let arg1 : BitVec 32 := BitVec.ofNat 32 (i 1).val
  let c256_i32_27 : BitVec 32 := 256#32
  let v82 : BitVec 32 := Scalar.muli arg1 c256_i32_27
  let v83 : BitVec 32 := v82
  let v637 : Index := Scalar.indexCast v83
  ![v636.toNat, 0, v637.toNat]
def k0_mult31 (i : grid0.Coords) : BitVec 32 :=
  let arg1 : BitVec 32 := BitVec.ofNat 32 (i 1).val
  let c2_i32_303 : BitVec 32 := 2#32
  let v648 : BitVec 32 := Scalar.subi arg1 c2_i32_303
  let c0_i32_304 : BitVec 32 := 0#32
  let v649 : BitVec 32 := Scalar.addi v648 c0_i32_304
  let c256_i32_305 : BitVec 32 := 256#32
  let v650 : BitVec 32 := Scalar.muli v649 c256_i32_305
  v650
def k0_off96 (i : grid0.Coords) (k0_t3 : Fin k0_t3_loop.trips) (c0_i32_304 : BitVec 32) : Fin 4 → Nat :=
  let c2_i32_269 : BitVec 32 := 2#32
  let c0_i32_46 : BitVec 32 := 0#32
  let c1_i32_48 : BitVec 32 := 1#32
  let arg25 : BitVec 32 := Scf.iv c0_i32_46 c1_i32_48 k0_t3
  let v574 : BitVec 32 := Scalar.muli c2_i32_269 arg25
  let c1_i32_270 : BitVec 32 := 1#32
  let v575 : BitVec 32 := Scalar.addi v574 c1_i32_270
  let v652 : Index := Scalar.indexCast v575
  let c0_306 : Index := 0#32
  let arg1 : BitVec 32 := BitVec.ofNat 32 (i 1).val
  let c2_i32_303 : BitVec 32 := 2#32
  let v648 : BitVec 32 := Scalar.subi arg1 c2_i32_303
  let v649 : BitVec 32 := Scalar.addi v648 c0_i32_304
  let c256_i32_305 : BitVec 32 := 256#32
  let v650 : BitVec 32 := Scalar.muli v649 c256_i32_305
  let v651 : BitVec 32 := v650
  let v653 : Index := Scalar.indexCast v651
  let c0_307 : Index := 0#32
  ![v652.toNat, 0, v653.toNat, 0]
def k0_off97 (i : grid0.Coords) (k0_t3 : Fin k0_t3_loop.trips) (c0_i32_304 : BitVec 32) : Fin 4 → Nat :=
  let c2_i32_269 : BitVec 32 := 2#32
  let c0_i32_46 : BitVec 32 := 0#32
  let c1_i32_48 : BitVec 32 := 1#32
  let arg25 : BitVec 32 := Scf.iv c0_i32_46 c1_i32_48 k0_t3
  let v574 : BitVec 32 := Scalar.muli c2_i32_269 arg25
  let c1_i32_270 : BitVec 32 := 1#32
  let v575 : BitVec 32 := Scalar.addi v574 c1_i32_270
  let v660 : Index := Scalar.indexCast v575
  let c0_313 : Index := 0#32
  let arg1 : BitVec 32 := BitVec.ofNat 32 (i 1).val
  let c2_i32_303 : BitVec 32 := 2#32
  let v648 : BitVec 32 := Scalar.subi arg1 c2_i32_303
  let v649 : BitVec 32 := Scalar.addi v648 c0_i32_304
  let c256_i32_305 : BitVec 32 := 256#32
  let v650 : BitVec 32 := Scalar.muli v649 c256_i32_305
  let v651 : BitVec 32 := v650
  let v661 : Index := Scalar.indexCast v651
  let c0_314 : Index := 0#32
  ![v660.toNat, 0, v661.toNat, 0]
def k0_mult32 (i : grid0.Coords) : BitVec 32 :=
  let arg1 : BitVec 32 := BitVec.ofNat 32 (i 1).val
  let c2_i32_322 : BitVec 32 := 2#32
  let v688 : BitVec 32 := Scalar.subi arg1 c2_i32_322
  let c1_i32_323 : BitVec 32 := 1#32
  let v689 : BitVec 32 := Scalar.addi v688 c1_i32_323
  let c256_i32_324 : BitVec 32 := 256#32
  let v690 : BitVec 32 := Scalar.muli v689 c256_i32_324
  v690
def k0_mult33 (i : grid0.Coords) : BitVec 32 :=
  let arg1 : BitVec 32 := BitVec.ofNat 32 (i 1).val
  let c2_i32_339 : BitVec 32 := 2#32
  let v725 : BitVec 32 := Scalar.subi arg1 c2_i32_339
  let c2_i32_340 : BitVec 32 := 2#32
  let v726 : BitVec 32 := Scalar.addi v725 c2_i32_340
  let c256_i32_341 : BitVec 32 := 256#32
  let v727 : BitVec 32 := Scalar.muli v726 c256_i32_341
  v727
def k0_mult34 (i : grid0.Coords) : BitVec 32 :=
  let arg1 : BitVec 32 := BitVec.ofNat 32 (i 1).val
  let c2_i32_373 : BitVec 32 := 2#32
  let v778 : BitVec 32 := Scalar.subi arg1 c2_i32_373
  let c0_i32_374 : BitVec 32 := 0#32
  let v779 : BitVec 32 := Scalar.addi v778 c0_i32_374
  let c256_i32_375 : BitVec 32 := 256#32
  let v780 : BitVec 32 := Scalar.muli v779 c256_i32_375
  v780
def k0_off98 (i : grid0.Coords) (k0_t3 : Fin k0_t3_loop.trips) (c0_i32_374 : BitVec 32) : Fin 4 → Nat :=
  let c2_i32_269 : BitVec 32 := 2#32
  let c0_i32_46 : BitVec 32 := 0#32
  let c1_i32_48 : BitVec 32 := 1#32
  let arg25 : BitVec 32 := Scf.iv c0_i32_46 c1_i32_48 k0_t3
  let v574 : BitVec 32 := Scalar.muli c2_i32_269 arg25
  let c1_i32_270 : BitVec 32 := 1#32
  let v575 : BitVec 32 := Scalar.addi v574 c1_i32_270
  let v782 : Index := Scalar.indexCast v575
  let c1_376 : Index := 1#32
  let arg1 : BitVec 32 := BitVec.ofNat 32 (i 1).val
  let c2_i32_373 : BitVec 32 := 2#32
  let v778 : BitVec 32 := Scalar.subi arg1 c2_i32_373
  let v779 : BitVec 32 := Scalar.addi v778 c0_i32_374
  let c256_i32_375 : BitVec 32 := 256#32
  let v780 : BitVec 32 := Scalar.muli v779 c256_i32_375
  let v781 : BitVec 32 := v780
  let v783 : Index := Scalar.indexCast v781
  let c0_377 : Index := 0#32
  ![v782.toNat, 1, v783.toNat, 0]
def k0_off99 (i : grid0.Coords) (k0_t3 : Fin k0_t3_loop.trips) (c0_i32_374 : BitVec 32) : Fin 4 → Nat :=
  let c2_i32_269 : BitVec 32 := 2#32
  let c0_i32_46 : BitVec 32 := 0#32
  let c1_i32_48 : BitVec 32 := 1#32
  let arg25 : BitVec 32 := Scf.iv c0_i32_46 c1_i32_48 k0_t3
  let v574 : BitVec 32 := Scalar.muli c2_i32_269 arg25
  let c1_i32_270 : BitVec 32 := 1#32
  let v575 : BitVec 32 := Scalar.addi v574 c1_i32_270
  let v790 : Index := Scalar.indexCast v575
  let c1_383 : Index := 1#32
  let arg1 : BitVec 32 := BitVec.ofNat 32 (i 1).val
  let c2_i32_373 : BitVec 32 := 2#32
  let v778 : BitVec 32 := Scalar.subi arg1 c2_i32_373
  let v779 : BitVec 32 := Scalar.addi v778 c0_i32_374
  let c256_i32_375 : BitVec 32 := 256#32
  let v780 : BitVec 32 := Scalar.muli v779 c256_i32_375
  let v781 : BitVec 32 := v780
  let v791 : Index := Scalar.indexCast v781
  let c0_384 : Index := 0#32
  ![v790.toNat, 1, v791.toNat, 0]
def k0_mult35 (i : grid0.Coords) : BitVec 32 :=
  let arg1 : BitVec 32 := BitVec.ofNat 32 (i 1).val
  let c2_i32_392 : BitVec 32 := 2#32
  let v818 : BitVec 32 := Scalar.subi arg1 c2_i32_392
  let c1_i32_393 : BitVec 32 := 1#32
  let v819 : BitVec 32 := Scalar.addi v818 c1_i32_393
  let c256_i32_394 : BitVec 32 := 256#32
  let v820 : BitVec 32 := Scalar.muli v819 c256_i32_394
  v820
def k0_mult36 (i : grid0.Coords) : BitVec 32 :=
  let arg1 : BitVec 32 := BitVec.ofNat 32 (i 1).val
  let c2_i32_409 : BitVec 32 := 2#32
  let v855 : BitVec 32 := Scalar.subi arg1 c2_i32_409
  let c2_i32_410 : BitVec 32 := 2#32
  let v856 : BitVec 32 := Scalar.addi v855 c2_i32_410
  let c256_i32_411 : BitVec 32 := 256#32
  let v857 : BitVec 32 := Scalar.muli v856 c256_i32_411
  v857
def k0_mult37 (i : grid0.Coords) : BitVec 32 :=
  let arg1 : BitVec 32 := BitVec.ofNat 32 (i 1).val
  let c2_i32_437 : BitVec 32 := 2#32
  let v903 : BitVec 32 := Scalar.subi arg1 c2_i32_437
  let c0_i32_438 : BitVec 32 := 0#32
  let v904 : BitVec 32 := Scalar.addi v903 c0_i32_438
  let c256_i32_439 : BitVec 32 := 256#32
  let v905 : BitVec 32 := Scalar.muli v904 c256_i32_439
  v905
def k0_off100 (i : grid0.Coords) (k0_t3 : Fin k0_t3_loop.trips) (c0_i32_438 : BitVec 32) : Fin 3 → Nat :=
  let c2_i32_269 : BitVec 32 := 2#32
  let c0_i32_46 : BitVec 32 := 0#32
  let c1_i32_48 : BitVec 32 := 1#32
  let arg25 : BitVec 32 := Scf.iv c0_i32_46 c1_i32_48 k0_t3
  let v574 : BitVec 32 := Scalar.muli c2_i32_269 arg25
  let c1_i32_270 : BitVec 32 := 1#32
  let v575 : BitVec 32 := Scalar.addi v574 c1_i32_270
  let v926 : Index := Scalar.indexCast v575
  let c0_448 : Index := 0#32
  let arg1 : BitVec 32 := BitVec.ofNat 32 (i 1).val
  let c2_i32_437 : BitVec 32 := 2#32
  let v903 : BitVec 32 := Scalar.subi arg1 c2_i32_437
  let v904 : BitVec 32 := Scalar.addi v903 c0_i32_438
  let c256_i32_439 : BitVec 32 := 256#32
  let v905 : BitVec 32 := Scalar.muli v904 c256_i32_439
  let v906 : BitVec 32 := v905
  let v927 : Index := Scalar.indexCast v906
  ![v926.toNat, 0, v927.toNat]
def k0_mult38 (i : grid0.Coords) : BitVec 32 :=
  let arg1 : BitVec 32 := BitVec.ofNat 32 (i 1).val
  let c2_i32_450 : BitVec 32 := 2#32
  let v931 : BitVec 32 := Scalar.subi arg1 c2_i32_450
  let c1_i32_451 : BitVec 32 := 1#32
  let v932 : BitVec 32 := Scalar.addi v931 c1_i32_451
  let c256_i32_452 : BitVec 32 := 256#32
  let v933 : BitVec 32 := Scalar.muli v932 c256_i32_452
  v933
def k0_mult39 (i : grid0.Coords) : BitVec 32 :=
  let arg1 : BitVec 32 := BitVec.ofNat 32 (i 1).val
  let c2_i32_463 : BitVec 32 := 2#32
  let v960 : BitVec 32 := Scalar.subi arg1 c2_i32_463
  let c2_i32_464 : BitVec 32 := 2#32
  let v961 : BitVec 32 := Scalar.addi v960 c2_i32_464
  let c256_i32_465 : BitVec 32 := 256#32
  let v962 : BitVec 32 := Scalar.muli v961 c256_i32_465
  v962
def k0_off101 (k0_t3 : Fin k0_t3_loop.trips) : Fin 3 → Nat :=
  let c2_i32_269 : BitVec 32 := 2#32
  let c0_i32_46 : BitVec 32 := 0#32
  let c1_i32_48 : BitVec 32 := 1#32
  let arg25 : BitVec 32 := Scf.iv c0_i32_46 c1_i32_48 k0_t3
  let v574 : BitVec 32 := Scalar.muli c2_i32_269 arg25
  let c1_i32_270 : BitVec 32 := 1#32
  let v575 : BitVec 32 := Scalar.addi v574 c1_i32_270
  let v981 : Index := Scalar.indexCast v575
  let c0_474 : Index := 0#32
  let c0_475 : Index := 0#32
  ![v981.toNat, 0, 0]
def k0_mult40 (k0_t3 : Fin k0_t3_loop.trips) : BitVec 32 :=
  let c0_i32_46 : BitVec 32 := 0#32
  let c1_i32_48 : BitVec 32 := 1#32
  let arg25 : BitVec 32 := Scf.iv c0_i32_46 c1_i32_48 k0_t3
  let c2_i32_491 : BitVec 32 := 2#32
  let v1024 : BitVec 32 := Scalar.muli arg25 c2_i32_491
  let c320_i32 : BitVec 32 := 320#32
  let v1025 : BitVec 32 := Scalar.muli v1024 c320_i32
  v1025
def k0_off102 (k0_t3 : Fin k0_t3_loop.trips) : Fin 3 → Nat :=
  let c0_494 : Index := 0#32
  let c0_495 : Index := 0#32
  let c0_i32_46 : BitVec 32 := 0#32
  let c1_i32_48 : BitVec 32 := 1#32
  let arg25 : BitVec 32 := Scf.iv c0_i32_46 c1_i32_48 k0_t3
  let c2_i32_491 : BitVec 32 := 2#32
  let v1024 : BitVec 32 := Scalar.muli arg25 c2_i32_491
  let c320_i32 : BitVec 32 := 320#32
  let v1025 : BitVec 32 := Scalar.muli v1024 c320_i32
  let v1026 : BitVec 32 := v1025
  let v1029 : Index := Scalar.indexCast v1026
  ![0, 0, v1029.toNat]
@[reducible] def k0_t4_loop : Scf.Loop 32 :=
  let c0_i32_46 : BitVec 32 := 0#32
  let c3_i32_47 : BitVec 32 := 3#32
  let v124 : BitVec 32 := Scalar.addi c0_i32_46 c3_i32_47
  let c1_i32_48 : BitVec 32 := 1#32
  ⟨c0_i32_46, v124, c1_i32_48⟩
def k0_off103 (k0_t4 : Fin k0_t4_loop.trips) : Fin 5 → Nat :=
  let c0_51 : Index := 0#32
  let c2_i32_50 : BitVec 32 := 2#32
  let c0_i32_46 : BitVec 32 := 0#32
  let c1_i32_48 : BitVec 32 := 1#32
  let arg25 : BitVec 32 := Scf.iv c0_i32_46 c1_i32_48 k0_t4
  let v125 : BitVec 32 := Scalar.muli c2_i32_50 arg25
  let v126 : Index := Scalar.indexCast v125
  let c0_52 : Index := 0#32
  let c0_53 : Index := 0#32
  let c0_54 : Index := 0#32
  ![0, v126.toNat, 0, 0, 0]
def k0_off104 (i : grid0.Coords) (k0_t4 : Fin k0_t4_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t4
  let v125 : BitVec 32 := Scalar.muli c2_i32_50 arg25
  let v132 : Index := Scalar.indexCast v125
  let c0_55 : Index := 0#32
  let arg1 : BitVec 32 := BitVec.ofNat 32 (i 1).val
  let c256_i32_27 : BitVec 32 := 256#32
  let v82 : BitVec 32 := Scalar.muli arg1 c256_i32_27
  let v83 : BitVec 32 := v82
  let v133 : Index := Scalar.indexCast v83
  let c0_56 : Index := 0#32
  ![v132.toNat, 0, v133.toNat, 0]
def k0_off105 (k0_t4 : Fin k0_t4_loop.trips) : Fin 4 → Nat :=
  let c0_57 : Index := 0#32
  let c2_i32_50 : BitVec 32 := 2#32
  let c0_i32_46 : BitVec 32 := 0#32
  let c1_i32_48 : BitVec 32 := 1#32
  let arg25 : BitVec 32 := Scf.iv c0_i32_46 c1_i32_48 k0_t4
  let v125 : BitVec 32 := Scalar.muli c2_i32_50 arg25
  let v137 : Index := Scalar.indexCast v125
  let c0_58 : Index := 0#32
  let c0_59 : Index := 0#32
  ![0, v137.toNat, 0, 0]
def k0_off106 (i : grid0.Coords) (k0_t4 : Fin k0_t4_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t4
  let v125 : BitVec 32 := Scalar.muli c2_i32_50 arg25
  let v149 : Index := Scalar.indexCast v125
  let c0_60 : Index := 0#32
  let arg1 : BitVec 32 := BitVec.ofNat 32 (i 1).val
  let c256_i32_27 : BitVec 32 := 256#32
  let v82 : BitVec 32 := Scalar.muli arg1 c256_i32_27
  let v83 : BitVec 32 := v82
  let v150 : Index := Scalar.indexCast v83
  let c0_61 : Index := 0#32
  ![v149.toNat, 0, v150.toNat, 0]
def k0_off107 (k0_t4 : Fin k0_t4_loop.trips) : Fin 5 → Nat :=
  let c0_62 : Index := 0#32
  let c2_i32_50 : BitVec 32 := 2#32
  let c0_i32_46 : BitVec 32 := 0#32
  let c1_i32_48 : BitVec 32 := 1#32
  let arg25 : BitVec 32 := Scf.iv c0_i32_46 c1_i32_48 k0_t4
  let v125 : BitVec 32 := Scalar.muli c2_i32_50 arg25
  let v154 : Index := Scalar.indexCast v125
  let c1 : Index := 1#32
  let c0_63 : Index := 0#32
  let c0_64 : Index := 0#32
  ![0, v154.toNat, 1, 0, 0]
def k0_off108 (i : grid0.Coords) (k0_t4 : Fin k0_t4_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t4
  let v125 : BitVec 32 := Scalar.muli c2_i32_50 arg25
  let v160 : Index := Scalar.indexCast v125
  let c1_65 : Index := 1#32
  let arg1 : BitVec 32 := BitVec.ofNat 32 (i 1).val
  let c256_i32_27 : BitVec 32 := 256#32
  let v82 : BitVec 32 := Scalar.muli arg1 c256_i32_27
  let v83 : BitVec 32 := v82
  let v161 : Index := Scalar.indexCast v83
  let c0_66 : Index := 0#32
  ![v160.toNat, 1, v161.toNat, 0]
def k0_off109 (k0_t4 : Fin k0_t4_loop.trips) : Fin 4 → Nat :=
  let c0_67 : Index := 0#32
  let c2_i32_50 : BitVec 32 := 2#32
  let c0_i32_46 : BitVec 32 := 0#32
  let c1_i32_48 : BitVec 32 := 1#32
  let arg25 : BitVec 32 := Scf.iv c0_i32_46 c1_i32_48 k0_t4
  let v125 : BitVec 32 := Scalar.muli c2_i32_50 arg25
  let v165 : Index := Scalar.indexCast v125
  let c1_68 : Index := 1#32
  let c0_69 : Index := 0#32
  ![0, v165.toNat, 1, 0]
def k0_off110 (i : grid0.Coords) (k0_t4 : Fin k0_t4_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t4
  let v125 : BitVec 32 := Scalar.muli c2_i32_50 arg25
  let v177 : Index := Scalar.indexCast v125
  let c1_70 : Index := 1#32
  let arg1 : BitVec 32 := BitVec.ofNat 32 (i 1).val
  let c256_i32_27 : BitVec 32 := 256#32
  let v82 : BitVec 32 := Scalar.muli arg1 c256_i32_27
  let v83 : BitVec 32 := v82
  let v178 : Index := Scalar.indexCast v83
  let c0_71 : Index := 0#32
  ![v177.toNat, 1, v178.toNat, 0]
def k0_off111 (k0_t4 : Fin k0_t4_loop.trips) : Fin 4 → Nat :=
  let c0_72 : Index := 0#32
  let c2_i32_50 : BitVec 32 := 2#32
  let c0_i32_46 : BitVec 32 := 0#32
  let c1_i32_48 : BitVec 32 := 1#32
  let arg25 : BitVec 32 := Scf.iv c0_i32_46 c1_i32_48 k0_t4
  let v125 : BitVec 32 := Scalar.muli c2_i32_50 arg25
  let v182 : Index := Scalar.indexCast v125
  let c0_73 : Index := 0#32
  let c0_74 : Index := 0#32
  ![0, v182.toNat, 0, 0]
def k0_off112 (i : grid0.Coords) (k0_t4 : Fin k0_t4_loop.trips) : Fin 3 → Nat :=
  let c2_i32_50 : BitVec 32 := 2#32
  let c0_i32_46 : BitVec 32 := 0#32
  let c1_i32_48 : BitVec 32 := 1#32
  let arg25 : BitVec 32 := Scf.iv c0_i32_46 c1_i32_48 k0_t4
  let v125 : BitVec 32 := Scalar.muli c2_i32_50 arg25
  let v186 : Index := Scalar.indexCast v125
  let c0_75 : Index := 0#32
  let arg1 : BitVec 32 := BitVec.ofNat 32 (i 1).val
  let c256_i32_27 : BitVec 32 := 256#32
  let v82 : BitVec 32 := Scalar.muli arg1 c256_i32_27
  let v83 : BitVec 32 := v82
  let v187 : Index := Scalar.indexCast v83
  ![v186.toNat, 0, v187.toNat]
def k0_mult41 (i : grid0.Coords) : BitVec 32 :=
  let arg1 : BitVec 32 := BitVec.ofNat 32 (i 1).val
  let c3_i32_82 : BitVec 32 := 3#32
  let v198 : BitVec 32 := Scalar.subi arg1 c3_i32_82
  let c0_i32_83 : BitVec 32 := 0#32
  let v199 : BitVec 32 := Scalar.addi v198 c0_i32_83
  let c256_i32_84 : BitVec 32 := 256#32
  let v200 : BitVec 32 := Scalar.muli v199 c256_i32_84
  v200
def k0_off113 (i : grid0.Coords) (k0_t4 : Fin k0_t4_loop.trips) (c0_i32_83 : BitVec 32) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t4
  let v125 : BitVec 32 := Scalar.muli c2_i32_50 arg25
  let v202 : Index := Scalar.indexCast v125
  let c0_85 : Index := 0#32
  let arg1 : BitVec 32 := BitVec.ofNat 32 (i 1).val
  let c3_i32_82 : BitVec 32 := 3#32
  let v198 : BitVec 32 := Scalar.subi arg1 c3_i32_82
  let v199 : BitVec 32 := Scalar.addi v198 c0_i32_83
  let c256_i32_84 : BitVec 32 := 256#32
  let v200 : BitVec 32 := Scalar.muli v199 c256_i32_84
  let v201 : BitVec 32 := v200
  let v203 : Index := Scalar.indexCast v201
  let c0_86 : Index := 0#32
  ![v202.toNat, 0, v203.toNat, 0]
def k0_cond4 (i : grid0.Coords) (v2 : BitVec 32) : BitVec 1 :=
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let c4_i32 : BitVec 32 := 4#32
  let v93 : BitVec 1 := Scalar.cmpi .eq v21 c4_i32
  let v94 : BitVec 32 := Scalar.extui v93
  let c0_i32_32 : BitVec 32 := 0#32
  let v95 : BitVec 1 := Scalar.cmpi .ne v94 c0_i32_32
  v95

def k0_off114 (i : grid0.Coords) (k0_t4 : Fin k0_t4_loop.trips) (c0_i32_83 : BitVec 32) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t4
  let v125 : BitVec 32 := Scalar.muli c2_i32_50 arg25
  let v210 : Index := Scalar.indexCast v125
  let c0_92 : Index := 0#32
  let arg1 : BitVec 32 := BitVec.ofNat 32 (i 1).val
  let c3_i32_82 : BitVec 32 := 3#32
  let v198 : BitVec 32 := Scalar.subi arg1 c3_i32_82
  let v199 : BitVec 32 := Scalar.addi v198 c0_i32_83
  let c256_i32_84 : BitVec 32 := 256#32
  let v200 : BitVec 32 := Scalar.muli v199 c256_i32_84
  let v201 : BitVec 32 := v200
  let v211 : Index := Scalar.indexCast v201
  let c0_93 : Index := 0#32
  ![v210.toNat, 0, v211.toNat, 0]
def k0_off115 (i : grid0.Coords) (c0_i32_83 : BitVec 32) : Fin 2 → Nat :=
  let arg0 : BitVec 32 := BitVec.ofNat 32 (i 0).val
  let v227 : Index := Scalar.indexCast arg0
  let arg1 : BitVec 32 := BitVec.ofNat 32 (i 1).val
  let c3_i32_82 : BitVec 32 := 3#32
  let v198 : BitVec 32 := Scalar.subi arg1 c3_i32_82
  let v199 : BitVec 32 := Scalar.addi v198 c0_i32_83
  let v228 : Index := Scalar.indexCast v199
  ![v227.toNat, v228.toNat]
def k0_mult42 (i : grid0.Coords) : BitVec 32 :=
  let arg1 : BitVec 32 := BitVec.ofNat 32 (i 1).val
  let c3_i32_101 : BitVec 32 := 3#32
  let v238 : BitVec 32 := Scalar.subi arg1 c3_i32_101
  let c1_i32_102 : BitVec 32 := 1#32
  let v239 : BitVec 32 := Scalar.addi v238 c1_i32_102
  let c256_i32_103 : BitVec 32 := 256#32
  let v240 : BitVec 32 := Scalar.muli v239 c256_i32_103
  v240
def k0_mult43 (i : grid0.Coords) : BitVec 32 :=
  let arg1 : BitVec 32 := BitVec.ofNat 32 (i 1).val
  let c3_i32_117 : BitVec 32 := 3#32
  let v275 : BitVec 32 := Scalar.subi arg1 c3_i32_117
  let c2_i32_118 : BitVec 32 := 2#32
  let v276 : BitVec 32 := Scalar.addi v275 c2_i32_118
  let c256_i32_119 : BitVec 32 := 256#32
  let v277 : BitVec 32 := Scalar.muli v276 c256_i32_119
  v277
def k0_mult44 (i : grid0.Coords) : BitVec 32 :=
  let arg1 : BitVec 32 := BitVec.ofNat 32 (i 1).val
  let c3_i32_133 : BitVec 32 := 3#32
  let v312 : BitVec 32 := Scalar.subi arg1 c3_i32_133
  let c3_i32_134 : BitVec 32 := 3#32
  let v313 : BitVec 32 := Scalar.addi v312 c3_i32_134
  let c256_i32_135 : BitVec 32 := 256#32
  let v314 : BitVec 32 := Scalar.muli v313 c256_i32_135
  v314
def k0_mult45 (i : grid0.Coords) : BitVec 32 :=
  let arg1 : BitVec 32 := BitVec.ofNat 32 (i 1).val
  let c3_i32_166 : BitVec 32 := 3#32
  let v365 : BitVec 32 := Scalar.subi arg1 c3_i32_166
  let c0_i32_167 : BitVec 32 := 0#32
  let v366 : BitVec 32 := Scalar.addi v365 c0_i32_167
  let c256_i32_168 : BitVec 32 := 256#32
  let v367 : BitVec 32 := Scalar.muli v366 c256_i32_168
  v367
def k0_off116 (i : grid0.Coords) (k0_t4 : Fin k0_t4_loop.trips) (c0_i32_167 : BitVec 32) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t4
  let v125 : BitVec 32 := Scalar.muli c2_i32_50 arg25
  let v369 : Index := Scalar.indexCast v125
  let c1_169 : Index := 1#32
  let arg1 : BitVec 32 := BitVec.ofNat 32 (i 1).val
  let c3_i32_166 : BitVec 32 := 3#32
  let v365 : BitVec 32 := Scalar.subi arg1 c3_i32_166
  let v366 : BitVec 32 := Scalar.addi v365 c0_i32_167
  let c256_i32_168 : BitVec 32 := 256#32
  let v367 : BitVec 32 := Scalar.muli v366 c256_i32_168
  let v368 : BitVec 32 := v367
  let v370 : Index := Scalar.indexCast v368
  let c0_170 : Index := 0#32
  ![v369.toNat, 1, v370.toNat, 0]
def k0_off117 (i : grid0.Coords) (k0_t4 : Fin k0_t4_loop.trips) (c0_i32_167 : BitVec 32) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t4
  let v125 : BitVec 32 := Scalar.muli c2_i32_50 arg25
  let v377 : Index := Scalar.indexCast v125
  let c1_176 : Index := 1#32
  let arg1 : BitVec 32 := BitVec.ofNat 32 (i 1).val
  let c3_i32_166 : BitVec 32 := 3#32
  let v365 : BitVec 32 := Scalar.subi arg1 c3_i32_166
  let v366 : BitVec 32 := Scalar.addi v365 c0_i32_167
  let c256_i32_168 : BitVec 32 := 256#32
  let v367 : BitVec 32 := Scalar.muli v366 c256_i32_168
  let v368 : BitVec 32 := v367
  let v378 : Index := Scalar.indexCast v368
  let c0_177 : Index := 0#32
  ![v377.toNat, 1, v378.toNat, 0]
def k0_mult46 (i : grid0.Coords) : BitVec 32 :=
  let arg1 : BitVec 32 := BitVec.ofNat 32 (i 1).val
  let c3_i32_185 : BitVec 32 := 3#32
  let v405 : BitVec 32 := Scalar.subi arg1 c3_i32_185
  let c1_i32_186 : BitVec 32 := 1#32
  let v406 : BitVec 32 := Scalar.addi v405 c1_i32_186
  let c256_i32_187 : BitVec 32 := 256#32
  let v407 : BitVec 32 := Scalar.muli v406 c256_i32_187
  v407
def k0_mult47 (i : grid0.Coords) : BitVec 32 :=
  let arg1 : BitVec 32 := BitVec.ofNat 32 (i 1).val
  let c3_i32_202 : BitVec 32 := 3#32
  let v442 : BitVec 32 := Scalar.subi arg1 c3_i32_202
  let c2_i32_203 : BitVec 32 := 2#32
  let v443 : BitVec 32 := Scalar.addi v442 c2_i32_203
  let c256_i32_204 : BitVec 32 := 256#32
  let v444 : BitVec 32 := Scalar.muli v443 c256_i32_204
  v444
def k0_mult48 (i : grid0.Coords) : BitVec 32 :=
  let arg1 : BitVec 32 := BitVec.ofNat 32 (i 1).val
  let c3_i32_219 : BitVec 32 := 3#32
  let v479 : BitVec 32 := Scalar.subi arg1 c3_i32_219
  let c3_i32_220 : BitVec 32 := 3#32
  let v480 : BitVec 32 := Scalar.addi v479 c3_i32_220
  let c256_i32_221 : BitVec 32 := 256#32
  let v481 : BitVec 32 := Scalar.muli v480 c256_i32_221
  v481
def k0_mult49 (i : grid0.Coords) : BitVec 32 :=
  let arg1 : BitVec 32 := BitVec.ofNat 32 (i 1).val
  let c3_i32_247 : BitVec 32 := 3#32
  let v527 : BitVec 32 := Scalar.subi arg1 c3_i32_247
  let c0_i32_248 : BitVec 32 := 0#32
  let v528 : BitVec 32 := Scalar.addi v527 c0_i32_248
  let c256_i32_249 : BitVec 32 := 256#32
  let v529 : BitVec 32 := Scalar.muli v528 c256_i32_249
  v529
def k0_off118 (i : grid0.Coords) (k0_t4 : Fin k0_t4_loop.trips) (c0_i32_248 : BitVec 32) : Fin 3 → Nat :=
  let c2_i32_50 : BitVec 32 := 2#32
  let c0_i32_46 : BitVec 32 := 0#32
  let c1_i32_48 : BitVec 32 := 1#32
  let arg25 : BitVec 32 := Scf.iv c0_i32_46 c1_i32_48 k0_t4
  let v125 : BitVec 32 := Scalar.muli c2_i32_50 arg25
  let v550 : Index := Scalar.indexCast v125
  let c0_258 : Index := 0#32
  let arg1 : BitVec 32 := BitVec.ofNat 32 (i 1).val
  let c3_i32_247 : BitVec 32 := 3#32
  let v527 : BitVec 32 := Scalar.subi arg1 c3_i32_247
  let v528 : BitVec 32 := Scalar.addi v527 c0_i32_248
  let c256_i32_249 : BitVec 32 := 256#32
  let v529 : BitVec 32 := Scalar.muli v528 c256_i32_249
  let v530 : BitVec 32 := v529
  let v551 : Index := Scalar.indexCast v530
  ![v550.toNat, 0, v551.toNat]
def k0_mult50 (i : grid0.Coords) : BitVec 32 :=
  let arg1 : BitVec 32 := BitVec.ofNat 32 (i 1).val
  let c3_i32_260 : BitVec 32 := 3#32
  let v555 : BitVec 32 := Scalar.subi arg1 c3_i32_260
  let c1_i32_261 : BitVec 32 := 1#32
  let v556 : BitVec 32 := Scalar.addi v555 c1_i32_261
  let c256_i32_262 : BitVec 32 := 256#32
  let v557 : BitVec 32 := Scalar.muli v556 c256_i32_262
  v557
def k0_mult51 (i : grid0.Coords) : BitVec 32 :=
  let arg1 : BitVec 32 := BitVec.ofNat 32 (i 1).val
  let c3_i32_273 : BitVec 32 := 3#32
  let v584 : BitVec 32 := Scalar.subi arg1 c3_i32_273
  let c2_i32_274 : BitVec 32 := 2#32
  let v585 : BitVec 32 := Scalar.addi v584 c2_i32_274
  let c256_i32_275 : BitVec 32 := 256#32
  let v586 : BitVec 32 := Scalar.muli v585 c256_i32_275
  v586
def k0_mult52 (i : grid0.Coords) : BitVec 32 :=
  let arg1 : BitVec 32 := BitVec.ofNat 32 (i 1).val
  let c3_i32_286 : BitVec 32 := 3#32
  let v613 : BitVec 32 := Scalar.subi arg1 c3_i32_286
  let c3_i32_287 : BitVec 32 := 3#32
  let v614 : BitVec 32 := Scalar.addi v613 c3_i32_287
  let c256_i32_288 : BitVec 32 := 256#32
  let v615 : BitVec 32 := Scalar.muli v614 c256_i32_288
  v615
def k0_off119 (k0_t4 : Fin k0_t4_loop.trips) : Fin 3 → Nat :=
  let c2_i32_50 : BitVec 32 := 2#32
  let c0_i32_46 : BitVec 32 := 0#32
  let c1_i32_48 : BitVec 32 := 1#32
  let arg25 : BitVec 32 := Scf.iv c0_i32_46 c1_i32_48 k0_t4
  let v125 : BitVec 32 := Scalar.muli c2_i32_50 arg25
  let v634 : Index := Scalar.indexCast v125
  let c0_297 : Index := 0#32
  let c0_298 : Index := 0#32
  ![v634.toNat, 0, 0]
def k0_off120 (k0_t4 : Fin k0_t4_loop.trips) : Fin 5 → Nat :=
  let c0_317 : Index := 0#32
  let c2_i32_315 : BitVec 32 := 2#32
  let c0_i32_46 : BitVec 32 := 0#32
  let c1_i32_48 : BitVec 32 := 1#32
  let arg25 : BitVec 32 := Scf.iv c0_i32_46 c1_i32_48 k0_t4
  let v677 : BitVec 32 := Scalar.muli c2_i32_315 arg25
  let c1_i32_316 : BitVec 32 := 1#32
  let v678 : BitVec 32 := Scalar.addi v677 c1_i32_316
  let v679 : Index := Scalar.indexCast v678
  let c0_318 : Index := 0#32
  let c0_319 : Index := 0#32
  let c0_320 : Index := 0#32
  ![0, v679.toNat, 0, 0, 0]
def k0_off121 (i : grid0.Coords) (k0_t4 : Fin k0_t4_loop.trips) : Fin 4 → Nat :=
  let c2_i32_315 : BitVec 32 := 2#32
  let c0_i32_46 : BitVec 32 := 0#32
  let c1_i32_48 : BitVec 32 := 1#32
  let arg25 : BitVec 32 := Scf.iv c0_i32_46 c1_i32_48 k0_t4
  let v677 : BitVec 32 := Scalar.muli c2_i32_315 arg25
  let c1_i32_316 : BitVec 32 := 1#32
  let v678 : BitVec 32 := Scalar.addi v677 c1_i32_316
  let v685 : Index := Scalar.indexCast v678
  let c0_321 : Index := 0#32
  let arg1 : BitVec 32 := BitVec.ofNat 32 (i 1).val
  let c256_i32_27 : BitVec 32 := 256#32
  let v82 : BitVec 32 := Scalar.muli arg1 c256_i32_27
  let v83 : BitVec 32 := v82
  let v686 : Index := Scalar.indexCast v83
  let c0_322 : Index := 0#32
  ![v685.toNat, 0, v686.toNat, 0]
def k0_off122 (k0_t4 : Fin k0_t4_loop.trips) : Fin 4 → Nat :=
  let c0_323 : Index := 0#32
  let c2_i32_315 : BitVec 32 := 2#32
  let c0_i32_46 : BitVec 32 := 0#32
  let c1_i32_48 : BitVec 32 := 1#32
  let arg25 : BitVec 32 := Scf.iv c0_i32_46 c1_i32_48 k0_t4
  let v677 : BitVec 32 := Scalar.muli c2_i32_315 arg25
  let c1_i32_316 : BitVec 32 := 1#32
  let v678 : BitVec 32 := Scalar.addi v677 c1_i32_316
  let v690 : Index := Scalar.indexCast v678
  let c0_324 : Index := 0#32
  let c0_325 : Index := 0#32
  ![0, v690.toNat, 0, 0]
def k0_off123 (i : grid0.Coords) (k0_t4 : Fin k0_t4_loop.trips) : Fin 4 → Nat :=
  let c2_i32_315 : BitVec 32 := 2#32
  let c0_i32_46 : BitVec 32 := 0#32
  let c1_i32_48 : BitVec 32 := 1#32
  let arg25 : BitVec 32 := Scf.iv c0_i32_46 c1_i32_48 k0_t4
  let v677 : BitVec 32 := Scalar.muli c2_i32_315 arg25
  let c1_i32_316 : BitVec 32 := 1#32
  let v678 : BitVec 32 := Scalar.addi v677 c1_i32_316
  let v702 : Index := Scalar.indexCast v678
  let c0_326 : Index := 0#32
  let arg1 : BitVec 32 := BitVec.ofNat 32 (i 1).val
  let c256_i32_27 : BitVec 32 := 256#32
  let v82 : BitVec 32 := Scalar.muli arg1 c256_i32_27
  let v83 : BitVec 32 := v82
  let v703 : Index := Scalar.indexCast v83
  let c0_327 : Index := 0#32
  ![v702.toNat, 0, v703.toNat, 0]
def k0_off124 (k0_t4 : Fin k0_t4_loop.trips) : Fin 5 → Nat :=
  let c0_328 : Index := 0#32
  let c2_i32_315 : BitVec 32 := 2#32
  let c0_i32_46 : BitVec 32 := 0#32
  let c1_i32_48 : BitVec 32 := 1#32
  let arg25 : BitVec 32 := Scf.iv c0_i32_46 c1_i32_48 k0_t4
  let v677 : BitVec 32 := Scalar.muli c2_i32_315 arg25
  let c1_i32_316 : BitVec 32 := 1#32
  let v678 : BitVec 32 := Scalar.addi v677 c1_i32_316
  let v707 : Index := Scalar.indexCast v678
  let c1_329 : Index := 1#32
  let c0_330 : Index := 0#32
  let c0_331 : Index := 0#32
  ![0, v707.toNat, 1, 0, 0]
def k0_off125 (i : grid0.Coords) (k0_t4 : Fin k0_t4_loop.trips) : Fin 4 → Nat :=
  let c2_i32_315 : BitVec 32 := 2#32
  let c0_i32_46 : BitVec 32 := 0#32
  let c1_i32_48 : BitVec 32 := 1#32
  let arg25 : BitVec 32 := Scf.iv c0_i32_46 c1_i32_48 k0_t4
  let v677 : BitVec 32 := Scalar.muli c2_i32_315 arg25
  let c1_i32_316 : BitVec 32 := 1#32
  let v678 : BitVec 32 := Scalar.addi v677 c1_i32_316
  let v713 : Index := Scalar.indexCast v678
  let c1_332 : Index := 1#32
  let arg1 : BitVec 32 := BitVec.ofNat 32 (i 1).val
  let c256_i32_27 : BitVec 32 := 256#32
  let v82 : BitVec 32 := Scalar.muli arg1 c256_i32_27
  let v83 : BitVec 32 := v82
  let v714 : Index := Scalar.indexCast v83
  let c0_333 : Index := 0#32
  ![v713.toNat, 1, v714.toNat, 0]
def k0_off126 (k0_t4 : Fin k0_t4_loop.trips) : Fin 4 → Nat :=
  let c0_334 : Index := 0#32
  let c2_i32_315 : BitVec 32 := 2#32
  let c0_i32_46 : BitVec 32 := 0#32
  let c1_i32_48 : BitVec 32 := 1#32
  let arg25 : BitVec 32 := Scf.iv c0_i32_46 c1_i32_48 k0_t4
  let v677 : BitVec 32 := Scalar.muli c2_i32_315 arg25
  let c1_i32_316 : BitVec 32 := 1#32
  let v678 : BitVec 32 := Scalar.addi v677 c1_i32_316
  let v718 : Index := Scalar.indexCast v678
  let c1_335 : Index := 1#32
  let c0_336 : Index := 0#32
  ![0, v718.toNat, 1, 0]
def k0_off127 (i : grid0.Coords) (k0_t4 : Fin k0_t4_loop.trips) : Fin 4 → Nat :=
  let c2_i32_315 : BitVec 32 := 2#32
  let c0_i32_46 : BitVec 32 := 0#32
  let c1_i32_48 : BitVec 32 := 1#32
  let arg25 : BitVec 32 := Scf.iv c0_i32_46 c1_i32_48 k0_t4
  let v677 : BitVec 32 := Scalar.muli c2_i32_315 arg25
  let c1_i32_316 : BitVec 32 := 1#32
  let v678 : BitVec 32 := Scalar.addi v677 c1_i32_316
  let v730 : Index := Scalar.indexCast v678
  let c1_337 : Index := 1#32
  let arg1 : BitVec 32 := BitVec.ofNat 32 (i 1).val
  let c256_i32_27 : BitVec 32 := 256#32
  let v82 : BitVec 32 := Scalar.muli arg1 c256_i32_27
  let v83 : BitVec 32 := v82
  let v731 : Index := Scalar.indexCast v83
  let c0_338 : Index := 0#32
  ![v730.toNat, 1, v731.toNat, 0]
def k0_off128 (k0_t4 : Fin k0_t4_loop.trips) : Fin 4 → Nat :=
  let c0_339 : Index := 0#32
  let c2_i32_315 : BitVec 32 := 2#32
  let c0_i32_46 : BitVec 32 := 0#32
  let c1_i32_48 : BitVec 32 := 1#32
  let arg25 : BitVec 32 := Scf.iv c0_i32_46 c1_i32_48 k0_t4
  let v677 : BitVec 32 := Scalar.muli c2_i32_315 arg25
  let c1_i32_316 : BitVec 32 := 1#32
  let v678 : BitVec 32 := Scalar.addi v677 c1_i32_316
  let v735 : Index := Scalar.indexCast v678
  let c0_340 : Index := 0#32
  let c0_341 : Index := 0#32
  ![0, v735.toNat, 0, 0]
def k0_off129 (i : grid0.Coords) (k0_t4 : Fin k0_t4_loop.trips) : Fin 3 → Nat :=
  let c2_i32_315 : BitVec 32 := 2#32
  let c0_i32_46 : BitVec 32 := 0#32
  let c1_i32_48 : BitVec 32 := 1#32
  let arg25 : BitVec 32 := Scf.iv c0_i32_46 c1_i32_48 k0_t4
  let v677 : BitVec 32 := Scalar.muli c2_i32_315 arg25
  let c1_i32_316 : BitVec 32 := 1#32
  let v678 : BitVec 32 := Scalar.addi v677 c1_i32_316
  let v739 : Index := Scalar.indexCast v678
  let c0_342 : Index := 0#32
  let arg1 : BitVec 32 := BitVec.ofNat 32 (i 1).val
  let c256_i32_27 : BitVec 32 := 256#32
  let v82 : BitVec 32 := Scalar.muli arg1 c256_i32_27
  let v83 : BitVec 32 := v82
  let v740 : Index := Scalar.indexCast v83
  ![v739.toNat, 0, v740.toNat]
def k0_mult53 (i : grid0.Coords) : BitVec 32 :=
  let arg1 : BitVec 32 := BitVec.ofNat 32 (i 1).val
  let c3_i32_349 : BitVec 32 := 3#32
  let v751 : BitVec 32 := Scalar.subi arg1 c3_i32_349
  let c0_i32_350 : BitVec 32 := 0#32
  let v752 : BitVec 32 := Scalar.addi v751 c0_i32_350
  let c256_i32_351 : BitVec 32 := 256#32
  let v753 : BitVec 32 := Scalar.muli v752 c256_i32_351
  v753
def k0_off130 (i : grid0.Coords) (k0_t4 : Fin k0_t4_loop.trips) (c0_i32_350 : BitVec 32) : Fin 4 → Nat :=
  let c2_i32_315 : BitVec 32 := 2#32
  let c0_i32_46 : BitVec 32 := 0#32
  let c1_i32_48 : BitVec 32 := 1#32
  let arg25 : BitVec 32 := Scf.iv c0_i32_46 c1_i32_48 k0_t4
  let v677 : BitVec 32 := Scalar.muli c2_i32_315 arg25
  let c1_i32_316 : BitVec 32 := 1#32
  let v678 : BitVec 32 := Scalar.addi v677 c1_i32_316
  let v755 : Index := Scalar.indexCast v678
  let c0_352 : Index := 0#32
  let arg1 : BitVec 32 := BitVec.ofNat 32 (i 1).val
  let c3_i32_349 : BitVec 32 := 3#32
  let v751 : BitVec 32 := Scalar.subi arg1 c3_i32_349
  let v752 : BitVec 32 := Scalar.addi v751 c0_i32_350
  let c256_i32_351 : BitVec 32 := 256#32
  let v753 : BitVec 32 := Scalar.muli v752 c256_i32_351
  let v754 : BitVec 32 := v753
  let v756 : Index := Scalar.indexCast v754
  let c0_353 : Index := 0#32
  ![v755.toNat, 0, v756.toNat, 0]
def k0_off131 (i : grid0.Coords) (k0_t4 : Fin k0_t4_loop.trips) (c0_i32_350 : BitVec 32) : Fin 4 → Nat :=
  let c2_i32_315 : BitVec 32 := 2#32
  let c0_i32_46 : BitVec 32 := 0#32
  let c1_i32_48 : BitVec 32 := 1#32
  let arg25 : BitVec 32 := Scf.iv c0_i32_46 c1_i32_48 k0_t4
  let v677 : BitVec 32 := Scalar.muli c2_i32_315 arg25
  let c1_i32_316 : BitVec 32 := 1#32
  let v678 : BitVec 32 := Scalar.addi v677 c1_i32_316
  let v763 : Index := Scalar.indexCast v678
  let c0_359 : Index := 0#32
  let arg1 : BitVec 32 := BitVec.ofNat 32 (i 1).val
  let c3_i32_349 : BitVec 32 := 3#32
  let v751 : BitVec 32 := Scalar.subi arg1 c3_i32_349
  let v752 : BitVec 32 := Scalar.addi v751 c0_i32_350
  let c256_i32_351 : BitVec 32 := 256#32
  let v753 : BitVec 32 := Scalar.muli v752 c256_i32_351
  let v754 : BitVec 32 := v753
  let v764 : Index := Scalar.indexCast v754
  let c0_360 : Index := 0#32
  ![v763.toNat, 0, v764.toNat, 0]
def k0_mult54 (i : grid0.Coords) : BitVec 32 :=
  let arg1 : BitVec 32 := BitVec.ofNat 32 (i 1).val
  let c3_i32_368 : BitVec 32 := 3#32
  let v791 : BitVec 32 := Scalar.subi arg1 c3_i32_368
  let c1_i32_369 : BitVec 32 := 1#32
  let v792 : BitVec 32 := Scalar.addi v791 c1_i32_369
  let c256_i32_370 : BitVec 32 := 256#32
  let v793 : BitVec 32 := Scalar.muli v792 c256_i32_370
  v793
def k0_mult55 (i : grid0.Coords) : BitVec 32 :=
  let arg1 : BitVec 32 := BitVec.ofNat 32 (i 1).val
  let c3_i32_385 : BitVec 32 := 3#32
  let v828 : BitVec 32 := Scalar.subi arg1 c3_i32_385
  let c2_i32_386 : BitVec 32 := 2#32
  let v829 : BitVec 32 := Scalar.addi v828 c2_i32_386
  let c256_i32_387 : BitVec 32 := 256#32
  let v830 : BitVec 32 := Scalar.muli v829 c256_i32_387
  v830
def k0_mult56 (i : grid0.Coords) : BitVec 32 :=
  let arg1 : BitVec 32 := BitVec.ofNat 32 (i 1).val
  let c3_i32_402 : BitVec 32 := 3#32
  let v865 : BitVec 32 := Scalar.subi arg1 c3_i32_402
  let c3_i32_403 : BitVec 32 := 3#32
  let v866 : BitVec 32 := Scalar.addi v865 c3_i32_403
  let c256_i32_404 : BitVec 32 := 256#32
  let v867 : BitVec 32 := Scalar.muli v866 c256_i32_404
  v867
def k0_mult57 (i : grid0.Coords) : BitVec 32 :=
  let arg1 : BitVec 32 := BitVec.ofNat 32 (i 1).val
  let c3_i32_436 : BitVec 32 := 3#32
  let v918 : BitVec 32 := Scalar.subi arg1 c3_i32_436
  let c0_i32_437 : BitVec 32 := 0#32
  let v919 : BitVec 32 := Scalar.addi v918 c0_i32_437
  let c256_i32_438 : BitVec 32 := 256#32
  let v920 : BitVec 32 := Scalar.muli v919 c256_i32_438
  v920
def k0_off132 (i : grid0.Coords) (k0_t4 : Fin k0_t4_loop.trips) (c0_i32_437 : BitVec 32) : Fin 4 → Nat :=
  let c2_i32_315 : BitVec 32 := 2#32
  let c0_i32_46 : BitVec 32 := 0#32
  let c1_i32_48 : BitVec 32 := 1#32
  let arg25 : BitVec 32 := Scf.iv c0_i32_46 c1_i32_48 k0_t4
  let v677 : BitVec 32 := Scalar.muli c2_i32_315 arg25
  let c1_i32_316 : BitVec 32 := 1#32
  let v678 : BitVec 32 := Scalar.addi v677 c1_i32_316
  let v922 : Index := Scalar.indexCast v678
  let c1_439 : Index := 1#32
  let arg1 : BitVec 32 := BitVec.ofNat 32 (i 1).val
  let c3_i32_436 : BitVec 32 := 3#32
  let v918 : BitVec 32 := Scalar.subi arg1 c3_i32_436
  let v919 : BitVec 32 := Scalar.addi v918 c0_i32_437
  let c256_i32_438 : BitVec 32 := 256#32
  let v920 : BitVec 32 := Scalar.muli v919 c256_i32_438
  let v921 : BitVec 32 := v920
  let v923 : Index := Scalar.indexCast v921
  let c0_440 : Index := 0#32
  ![v922.toNat, 1, v923.toNat, 0]
def k0_off133 (i : grid0.Coords) (k0_t4 : Fin k0_t4_loop.trips) (c0_i32_437 : BitVec 32) : Fin 4 → Nat :=
  let c2_i32_315 : BitVec 32 := 2#32
  let c0_i32_46 : BitVec 32 := 0#32
  let c1_i32_48 : BitVec 32 := 1#32
  let arg25 : BitVec 32 := Scf.iv c0_i32_46 c1_i32_48 k0_t4
  let v677 : BitVec 32 := Scalar.muli c2_i32_315 arg25
  let c1_i32_316 : BitVec 32 := 1#32
  let v678 : BitVec 32 := Scalar.addi v677 c1_i32_316
  let v930 : Index := Scalar.indexCast v678
  let c1_446 : Index := 1#32
  let arg1 : BitVec 32 := BitVec.ofNat 32 (i 1).val
  let c3_i32_436 : BitVec 32 := 3#32
  let v918 : BitVec 32 := Scalar.subi arg1 c3_i32_436
  let v919 : BitVec 32 := Scalar.addi v918 c0_i32_437
  let c256_i32_438 : BitVec 32 := 256#32
  let v920 : BitVec 32 := Scalar.muli v919 c256_i32_438
  let v921 : BitVec 32 := v920
  let v931 : Index := Scalar.indexCast v921
  let c0_447 : Index := 0#32
  ![v930.toNat, 1, v931.toNat, 0]
def k0_mult58 (i : grid0.Coords) : BitVec 32 :=
  let arg1 : BitVec 32 := BitVec.ofNat 32 (i 1).val
  let c3_i32_455 : BitVec 32 := 3#32
  let v958 : BitVec 32 := Scalar.subi arg1 c3_i32_455
  let c1_i32_456 : BitVec 32 := 1#32
  let v959 : BitVec 32 := Scalar.addi v958 c1_i32_456
  let c256_i32_457 : BitVec 32 := 256#32
  let v960 : BitVec 32 := Scalar.muli v959 c256_i32_457
  v960
def k0_mult59 (i : grid0.Coords) : BitVec 32 :=
  let arg1 : BitVec 32 := BitVec.ofNat 32 (i 1).val
  let c3_i32_472 : BitVec 32 := 3#32
  let v995 : BitVec 32 := Scalar.subi arg1 c3_i32_472
  let c2_i32_473 : BitVec 32 := 2#32
  let v996 : BitVec 32 := Scalar.addi v995 c2_i32_473
  let c256_i32_474 : BitVec 32 := 256#32
  let v997 : BitVec 32 := Scalar.muli v996 c256_i32_474
  v997
def k0_mult60 (i : grid0.Coords) : BitVec 32 :=
  let arg1 : BitVec 32 := BitVec.ofNat 32 (i 1).val
  let c3_i32_489 : BitVec 32 := 3#32
  let v1032 : BitVec 32 := Scalar.subi arg1 c3_i32_489
  let c3_i32_490 : BitVec 32 := 3#32
  let v1033 : BitVec 32 := Scalar.addi v1032 c3_i32_490
  let c256_i32_491 : BitVec 32 := 256#32
  let v1034 : BitVec 32 := Scalar.muli v1033 c256_i32_491
  v1034
def k0_mult61 (i : grid0.Coords) : BitVec 32 :=
  let arg1 : BitVec 32 := BitVec.ofNat 32 (i 1).val
  let c3_i32_517 : BitVec 32 := 3#32
  let v1080 : BitVec 32 := Scalar.subi arg1 c3_i32_517
  let c0_i32_518 : BitVec 32 := 0#32
  let v1081 : BitVec 32 := Scalar.addi v1080 c0_i32_518
  let c256_i32_519 : BitVec 32 := 256#32
  let v1082 : BitVec 32 := Scalar.muli v1081 c256_i32_519
  v1082
def k0_off134 (i : grid0.Coords) (k0_t4 : Fin k0_t4_loop.trips) (c0_i32_518 : BitVec 32) : Fin 3 → Nat :=
  let c2_i32_315 : BitVec 32 := 2#32
  let c0_i32_46 : BitVec 32 := 0#32
  let c1_i32_48 : BitVec 32 := 1#32
  let arg25 : BitVec 32 := Scf.iv c0_i32_46 c1_i32_48 k0_t4
  let v677 : BitVec 32 := Scalar.muli c2_i32_315 arg25
  let c1_i32_316 : BitVec 32 := 1#32
  let v678 : BitVec 32 := Scalar.addi v677 c1_i32_316
  let v1103 : Index := Scalar.indexCast v678
  let c0_528 : Index := 0#32
  let arg1 : BitVec 32 := BitVec.ofNat 32 (i 1).val
  let c3_i32_517 : BitVec 32 := 3#32
  let v1080 : BitVec 32 := Scalar.subi arg1 c3_i32_517
  let v1081 : BitVec 32 := Scalar.addi v1080 c0_i32_518
  let c256_i32_519 : BitVec 32 := 256#32
  let v1082 : BitVec 32 := Scalar.muli v1081 c256_i32_519
  let v1083 : BitVec 32 := v1082
  let v1104 : Index := Scalar.indexCast v1083
  ![v1103.toNat, 0, v1104.toNat]
def k0_mult62 (i : grid0.Coords) : BitVec 32 :=
  let arg1 : BitVec 32 := BitVec.ofNat 32 (i 1).val
  let c3_i32_530 : BitVec 32 := 3#32
  let v1108 : BitVec 32 := Scalar.subi arg1 c3_i32_530
  let c1_i32_531 : BitVec 32 := 1#32
  let v1109 : BitVec 32 := Scalar.addi v1108 c1_i32_531
  let c256_i32_532 : BitVec 32 := 256#32
  let v1110 : BitVec 32 := Scalar.muli v1109 c256_i32_532
  v1110
def k0_mult63 (i : grid0.Coords) : BitVec 32 :=
  let arg1 : BitVec 32 := BitVec.ofNat 32 (i 1).val
  let c3_i32_543 : BitVec 32 := 3#32
  let v1137 : BitVec 32 := Scalar.subi arg1 c3_i32_543
  let c2_i32_544 : BitVec 32 := 2#32
  let v1138 : BitVec 32 := Scalar.addi v1137 c2_i32_544
  let c256_i32_545 : BitVec 32 := 256#32
  let v1139 : BitVec 32 := Scalar.muli v1138 c256_i32_545
  v1139
def k0_mult64 (i : grid0.Coords) : BitVec 32 :=
  let arg1 : BitVec 32 := BitVec.ofNat 32 (i 1).val
  let c3_i32_556 : BitVec 32 := 3#32
  let v1166 : BitVec 32 := Scalar.subi arg1 c3_i32_556
  let c3_i32_557 : BitVec 32 := 3#32
  let v1167 : BitVec 32 := Scalar.addi v1166 c3_i32_557
  let c256_i32_558 : BitVec 32 := 256#32
  let v1168 : BitVec 32 := Scalar.muli v1167 c256_i32_558
  v1168
def k0_off135 (k0_t4 : Fin k0_t4_loop.trips) : Fin 3 → Nat :=
  let c2_i32_315 : BitVec 32 := 2#32
  let c0_i32_46 : BitVec 32 := 0#32
  let c1_i32_48 : BitVec 32 := 1#32
  let arg25 : BitVec 32 := Scf.iv c0_i32_46 c1_i32_48 k0_t4
  let v677 : BitVec 32 := Scalar.muli c2_i32_315 arg25
  let c1_i32_316 : BitVec 32 := 1#32
  let v678 : BitVec 32 := Scalar.addi v677 c1_i32_316
  let v1187 : Index := Scalar.indexCast v678
  let c0_567 : Index := 0#32
  let c0_568 : Index := 0#32
  ![v1187.toNat, 0, 0]
def k0_mult65 (k0_t4 : Fin k0_t4_loop.trips) : BitVec 32 :=
  let c0_i32_46 : BitVec 32 := 0#32
  let c1_i32_48 : BitVec 32 := 1#32
  let arg25 : BitVec 32 := Scf.iv c0_i32_46 c1_i32_48 k0_t4
  let c2_i32_584 : BitVec 32 := 2#32
  let v1230 : BitVec 32 := Scalar.muli arg25 c2_i32_584
  let c320_i32 : BitVec 32 := 320#32
  let v1231 : BitVec 32 := Scalar.muli v1230 c320_i32
  v1231
def k0_off136 (k0_t4 : Fin k0_t4_loop.trips) : Fin 3 → Nat :=
  let c0_587 : Index := 0#32
  let c0_588 : Index := 0#32
  let c0_i32_46 : BitVec 32 := 0#32
  let c1_i32_48 : BitVec 32 := 1#32
  let arg25 : BitVec 32 := Scf.iv c0_i32_46 c1_i32_48 k0_t4
  let c2_i32_584 : BitVec 32 := 2#32
  let v1230 : BitVec 32 := Scalar.muli arg25 c2_i32_584
  let c320_i32 : BitVec 32 := 320#32
  let v1231 : BitVec 32 := Scalar.muli v1230 c320_i32
  let v1232 : BitVec 32 := v1231
  let v1235 : Index := Scalar.indexCast v1232
  ![0, 0, v1235.toNat]
@[reducible] def k0_t5_loop : Scf.Loop 32 :=
  let c0_i32_46 : BitVec 32 := 0#32
  let c3_i32_47 : BitVec 32 := 3#32
  let v124 : BitVec 32 := Scalar.addi c0_i32_46 c3_i32_47
  let c1_i32_48 : BitVec 32 := 1#32
  ⟨c0_i32_46, v124, c1_i32_48⟩
def k0_off137 (k0_t5 : Fin k0_t5_loop.trips) : Fin 5 → Nat :=
  let c0_51 : Index := 0#32
  let c2_i32_50 : BitVec 32 := 2#32
  let c0_i32_46 : BitVec 32 := 0#32
  let c1_i32_48 : BitVec 32 := 1#32
  let arg25 : BitVec 32 := Scf.iv c0_i32_46 c1_i32_48 k0_t5
  let v125 : BitVec 32 := Scalar.muli c2_i32_50 arg25
  let v126 : Index := Scalar.indexCast v125
  let c0_52 : Index := 0#32
  let c0_53 : Index := 0#32
  let c0_54 : Index := 0#32
  ![0, v126.toNat, 0, 0, 0]
def k0_off138 (i : grid0.Coords) (k0_t5 : Fin k0_t5_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t5
  let v125 : BitVec 32 := Scalar.muli c2_i32_50 arg25
  let v132 : Index := Scalar.indexCast v125
  let c0_55 : Index := 0#32
  let arg1 : BitVec 32 := BitVec.ofNat 32 (i 1).val
  let c256_i32_27 : BitVec 32 := 256#32
  let v82 : BitVec 32 := Scalar.muli arg1 c256_i32_27
  let v83 : BitVec 32 := v82
  let v133 : Index := Scalar.indexCast v83
  let c0_56 : Index := 0#32
  ![v132.toNat, 0, v133.toNat, 0]
def k0_off139 (k0_t5 : Fin k0_t5_loop.trips) : Fin 4 → Nat :=
  let c0_57 : Index := 0#32
  let c2_i32_50 : BitVec 32 := 2#32
  let c0_i32_46 : BitVec 32 := 0#32
  let c1_i32_48 : BitVec 32 := 1#32
  let arg25 : BitVec 32 := Scf.iv c0_i32_46 c1_i32_48 k0_t5
  let v125 : BitVec 32 := Scalar.muli c2_i32_50 arg25
  let v137 : Index := Scalar.indexCast v125
  let c0_58 : Index := 0#32
  let c0_59 : Index := 0#32
  ![0, v137.toNat, 0, 0]
def k0_off140 (i : grid0.Coords) (k0_t5 : Fin k0_t5_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t5
  let v125 : BitVec 32 := Scalar.muli c2_i32_50 arg25
  let v149 : Index := Scalar.indexCast v125
  let c0_60 : Index := 0#32
  let arg1 : BitVec 32 := BitVec.ofNat 32 (i 1).val
  let c256_i32_27 : BitVec 32 := 256#32
  let v82 : BitVec 32 := Scalar.muli arg1 c256_i32_27
  let v83 : BitVec 32 := v82
  let v150 : Index := Scalar.indexCast v83
  let c0_61 : Index := 0#32
  ![v149.toNat, 0, v150.toNat, 0]
def k0_off141 (k0_t5 : Fin k0_t5_loop.trips) : Fin 5 → Nat :=
  let c0_62 : Index := 0#32
  let c2_i32_50 : BitVec 32 := 2#32
  let c0_i32_46 : BitVec 32 := 0#32
  let c1_i32_48 : BitVec 32 := 1#32
  let arg25 : BitVec 32 := Scf.iv c0_i32_46 c1_i32_48 k0_t5
  let v125 : BitVec 32 := Scalar.muli c2_i32_50 arg25
  let v154 : Index := Scalar.indexCast v125
  let c1 : Index := 1#32
  let c0_63 : Index := 0#32
  let c0_64 : Index := 0#32
  ![0, v154.toNat, 1, 0, 0]
def k0_off142 (i : grid0.Coords) (k0_t5 : Fin k0_t5_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t5
  let v125 : BitVec 32 := Scalar.muli c2_i32_50 arg25
  let v160 : Index := Scalar.indexCast v125
  let c1_65 : Index := 1#32
  let arg1 : BitVec 32 := BitVec.ofNat 32 (i 1).val
  let c256_i32_27 : BitVec 32 := 256#32
  let v82 : BitVec 32 := Scalar.muli arg1 c256_i32_27
  let v83 : BitVec 32 := v82
  let v161 : Index := Scalar.indexCast v83
  let c0_66 : Index := 0#32
  ![v160.toNat, 1, v161.toNat, 0]
def k0_off143 (k0_t5 : Fin k0_t5_loop.trips) : Fin 4 → Nat :=
  let c0_67 : Index := 0#32
  let c2_i32_50 : BitVec 32 := 2#32
  let c0_i32_46 : BitVec 32 := 0#32
  let c1_i32_48 : BitVec 32 := 1#32
  let arg25 : BitVec 32 := Scf.iv c0_i32_46 c1_i32_48 k0_t5
  let v125 : BitVec 32 := Scalar.muli c2_i32_50 arg25
  let v165 : Index := Scalar.indexCast v125
  let c1_68 : Index := 1#32
  let c0_69 : Index := 0#32
  ![0, v165.toNat, 1, 0]
def k0_off144 (i : grid0.Coords) (k0_t5 : Fin k0_t5_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t5
  let v125 : BitVec 32 := Scalar.muli c2_i32_50 arg25
  let v177 : Index := Scalar.indexCast v125
  let c1_70 : Index := 1#32
  let arg1 : BitVec 32 := BitVec.ofNat 32 (i 1).val
  let c256_i32_27 : BitVec 32 := 256#32
  let v82 : BitVec 32 := Scalar.muli arg1 c256_i32_27
  let v83 : BitVec 32 := v82
  let v178 : Index := Scalar.indexCast v83
  let c0_71 : Index := 0#32
  ![v177.toNat, 1, v178.toNat, 0]
def k0_off145 (k0_t5 : Fin k0_t5_loop.trips) : Fin 4 → Nat :=
  let c0_72 : Index := 0#32
  let c2_i32_50 : BitVec 32 := 2#32
  let c0_i32_46 : BitVec 32 := 0#32
  let c1_i32_48 : BitVec 32 := 1#32
  let arg25 : BitVec 32 := Scf.iv c0_i32_46 c1_i32_48 k0_t5
  let v125 : BitVec 32 := Scalar.muli c2_i32_50 arg25
  let v182 : Index := Scalar.indexCast v125
  let c0_73 : Index := 0#32
  let c0_74 : Index := 0#32
  ![0, v182.toNat, 0, 0]
def k0_off146 (i : grid0.Coords) (k0_t5 : Fin k0_t5_loop.trips) : Fin 3 → Nat :=
  let c2_i32_50 : BitVec 32 := 2#32
  let c0_i32_46 : BitVec 32 := 0#32
  let c1_i32_48 : BitVec 32 := 1#32
  let arg25 : BitVec 32 := Scf.iv c0_i32_46 c1_i32_48 k0_t5
  let v125 : BitVec 32 := Scalar.muli c2_i32_50 arg25
  let v186 : Index := Scalar.indexCast v125
  let c0_75 : Index := 0#32
  let arg1 : BitVec 32 := BitVec.ofNat 32 (i 1).val
  let c256_i32_27 : BitVec 32 := 256#32
  let v82 : BitVec 32 := Scalar.muli arg1 c256_i32_27
  let v83 : BitVec 32 := v82
  let v187 : Index := Scalar.indexCast v83
  ![v186.toNat, 0, v187.toNat]
def k0_mult66 (i : grid0.Coords) : BitVec 32 :=
  let arg1 : BitVec 32 := BitVec.ofNat 32 (i 1).val
  let c4_i32_82 : BitVec 32 := 4#32
  let v198 : BitVec 32 := Scalar.subi arg1 c4_i32_82
  let c0_i32_83 : BitVec 32 := 0#32
  let v199 : BitVec 32 := Scalar.addi v198 c0_i32_83
  let c256_i32_84 : BitVec 32 := 256#32
  let v200 : BitVec 32 := Scalar.muli v199 c256_i32_84
  v200
def k0_off147 (i : grid0.Coords) (k0_t5 : Fin k0_t5_loop.trips) (c0_i32_83 : BitVec 32) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t5
  let v125 : BitVec 32 := Scalar.muli c2_i32_50 arg25
  let v202 : Index := Scalar.indexCast v125
  let c0_85 : Index := 0#32
  let arg1 : BitVec 32 := BitVec.ofNat 32 (i 1).val
  let c4_i32_82 : BitVec 32 := 4#32
  let v198 : BitVec 32 := Scalar.subi arg1 c4_i32_82
  let v199 : BitVec 32 := Scalar.addi v198 c0_i32_83
  let c256_i32_84 : BitVec 32 := 256#32
  let v200 : BitVec 32 := Scalar.muli v199 c256_i32_84
  let v201 : BitVec 32 := v200
  let v203 : Index := Scalar.indexCast v201
  let c0_86 : Index := 0#32
  ![v202.toNat, 0, v203.toNat, 0]
def k0_cond5 (i : grid0.Coords) (v2 : BitVec 32) : BitVec 1 :=
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let c5_i32 : BitVec 32 := 5#32
  let v96 : BitVec 1 := Scalar.cmpi .eq v21 c5_i32
  let v97 : BitVec 32 := Scalar.extui v96
  let c0_i32_33 : BitVec 32 := 0#32
  let v98 : BitVec 1 := Scalar.cmpi .ne v97 c0_i32_33
  v98

def k0_off148 (i : grid0.Coords) (k0_t5 : Fin k0_t5_loop.trips) (c0_i32_83 : BitVec 32) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t5
  let v125 : BitVec 32 := Scalar.muli c2_i32_50 arg25
  let v210 : Index := Scalar.indexCast v125
  let c0_92 : Index := 0#32
  let arg1 : BitVec 32 := BitVec.ofNat 32 (i 1).val
  let c4_i32_82 : BitVec 32 := 4#32
  let v198 : BitVec 32 := Scalar.subi arg1 c4_i32_82
  let v199 : BitVec 32 := Scalar.addi v198 c0_i32_83
  let c256_i32_84 : BitVec 32 := 256#32
  let v200 : BitVec 32 := Scalar.muli v199 c256_i32_84
  let v201 : BitVec 32 := v200
  let v211 : Index := Scalar.indexCast v201
  let c0_93 : Index := 0#32
  ![v210.toNat, 0, v211.toNat, 0]
def k0_off149 (i : grid0.Coords) (c0_i32_83 : BitVec 32) : Fin 2 → Nat :=
  let arg0 : BitVec 32 := BitVec.ofNat 32 (i 0).val
  let v227 : Index := Scalar.indexCast arg0
  let arg1 : BitVec 32 := BitVec.ofNat 32 (i 1).val
  let c4_i32_82 : BitVec 32 := 4#32
  let v198 : BitVec 32 := Scalar.subi arg1 c4_i32_82
  let v199 : BitVec 32 := Scalar.addi v198 c0_i32_83
  let v228 : Index := Scalar.indexCast v199
  ![v227.toNat, v228.toNat]
def k0_mult67 (i : grid0.Coords) : BitVec 32 :=
  let arg1 : BitVec 32 := BitVec.ofNat 32 (i 1).val
  let c4_i32_101 : BitVec 32 := 4#32
  let v238 : BitVec 32 := Scalar.subi arg1 c4_i32_101
  let c1_i32_102 : BitVec 32 := 1#32
  let v239 : BitVec 32 := Scalar.addi v238 c1_i32_102
  let c256_i32_103 : BitVec 32 := 256#32
  let v240 : BitVec 32 := Scalar.muli v239 c256_i32_103
  v240
def k0_mult68 (i : grid0.Coords) : BitVec 32 :=
  let arg1 : BitVec 32 := BitVec.ofNat 32 (i 1).val
  let c4_i32_117 : BitVec 32 := 4#32
  let v275 : BitVec 32 := Scalar.subi arg1 c4_i32_117
  let c2_i32_118 : BitVec 32 := 2#32
  let v276 : BitVec 32 := Scalar.addi v275 c2_i32_118
  let c256_i32_119 : BitVec 32 := 256#32
  let v277 : BitVec 32 := Scalar.muli v276 c256_i32_119
  v277
def k0_mult69 (i : grid0.Coords) : BitVec 32 :=
  let arg1 : BitVec 32 := BitVec.ofNat 32 (i 1).val
  let c4_i32_133 : BitVec 32 := 4#32
  let v312 : BitVec 32 := Scalar.subi arg1 c4_i32_133
  let c3_i32_134 : BitVec 32 := 3#32
  let v313 : BitVec 32 := Scalar.addi v312 c3_i32_134
  let c256_i32_135 : BitVec 32 := 256#32
  let v314 : BitVec 32 := Scalar.muli v313 c256_i32_135
  v314
def k0_mult70 (i : grid0.Coords) : BitVec 32 :=
  let arg1 : BitVec 32 := BitVec.ofNat 32 (i 1).val
  let c4_i32_149 : BitVec 32 := 4#32
  let v349 : BitVec 32 := Scalar.subi arg1 c4_i32_149
  let c4_i32_150 : BitVec 32 := 4#32
  let v350 : BitVec 32 := Scalar.addi v349 c4_i32_150
  let c256_i32_151 : BitVec 32 := 256#32
  let v351 : BitVec 32 := Scalar.muli v350 c256_i32_151
  v351
def k0_mult71 (i : grid0.Coords) : BitVec 32 :=
  let arg1 : BitVec 32 := BitVec.ofNat 32 (i 1).val
  let c4_i32_182 : BitVec 32 := 4#32
  let v402 : BitVec 32 := Scalar.subi arg1 c4_i32_182
  let c0_i32_183 : BitVec 32 := 0#32
  let v403 : BitVec 32 := Scalar.addi v402 c0_i32_183
  let c256_i32_184 : BitVec 32 := 256#32
  let v404 : BitVec 32 := Scalar.muli v403 c256_i32_184
  v404
def k0_off150 (i : grid0.Coords) (k0_t5 : Fin k0_t5_loop.trips) (c0_i32_183 : BitVec 32) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t5
  let v125 : BitVec 32 := Scalar.muli c2_i32_50 arg25
  let v406 : Index := Scalar.indexCast v125
  let c1_185 : Index := 1#32
  let arg1 : BitVec 32 := BitVec.ofNat 32 (i 1).val
  let c4_i32_182 : BitVec 32 := 4#32
  let v402 : BitVec 32 := Scalar.subi arg1 c4_i32_182
  let v403 : BitVec 32 := Scalar.addi v402 c0_i32_183
  let c256_i32_184 : BitVec 32 := 256#32
  let v404 : BitVec 32 := Scalar.muli v403 c256_i32_184
  let v405 : BitVec 32 := v404
  let v407 : Index := Scalar.indexCast v405
  let c0_186 : Index := 0#32
  ![v406.toNat, 1, v407.toNat, 0]
def k0_off151 (i : grid0.Coords) (k0_t5 : Fin k0_t5_loop.trips) (c0_i32_183 : BitVec 32) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t5
  let v125 : BitVec 32 := Scalar.muli c2_i32_50 arg25
  let v414 : Index := Scalar.indexCast v125
  let c1_192 : Index := 1#32
  let arg1 : BitVec 32 := BitVec.ofNat 32 (i 1).val
  let c4_i32_182 : BitVec 32 := 4#32
  let v402 : BitVec 32 := Scalar.subi arg1 c4_i32_182
  let v403 : BitVec 32 := Scalar.addi v402 c0_i32_183
  let c256_i32_184 : BitVec 32 := 256#32
  let v404 : BitVec 32 := Scalar.muli v403 c256_i32_184
  let v405 : BitVec 32 := v404
  let v415 : Index := Scalar.indexCast v405
  let c0_193 : Index := 0#32
  ![v414.toNat, 1, v415.toNat, 0]
def k0_mult72 (i : grid0.Coords) : BitVec 32 :=
  let arg1 : BitVec 32 := BitVec.ofNat 32 (i 1).val
  let c4_i32_201 : BitVec 32 := 4#32
  let v442 : BitVec 32 := Scalar.subi arg1 c4_i32_201
  let c1_i32_202 : BitVec 32 := 1#32
  let v443 : BitVec 32 := Scalar.addi v442 c1_i32_202
  let c256_i32_203 : BitVec 32 := 256#32
  let v444 : BitVec 32 := Scalar.muli v443 c256_i32_203
  v444
def k0_mult73 (i : grid0.Coords) : BitVec 32 :=
  let arg1 : BitVec 32 := BitVec.ofNat 32 (i 1).val
  let c4_i32_218 : BitVec 32 := 4#32
  let v479 : BitVec 32 := Scalar.subi arg1 c4_i32_218
  let c2_i32_219 : BitVec 32 := 2#32
  let v480 : BitVec 32 := Scalar.addi v479 c2_i32_219
  let c256_i32_220 : BitVec 32 := 256#32
  let v481 : BitVec 32 := Scalar.muli v480 c256_i32_220
  v481
def k0_mult74 (i : grid0.Coords) : BitVec 32 :=
  let arg1 : BitVec 32 := BitVec.ofNat 32 (i 1).val
  let c4_i32_235 : BitVec 32 := 4#32
  let v516 : BitVec 32 := Scalar.subi arg1 c4_i32_235
  let c3_i32_236 : BitVec 32 := 3#32
  let v517 : BitVec 32 := Scalar.addi v516 c3_i32_236
  let c256_i32_237 : BitVec 32 := 256#32
  let v518 : BitVec 32 := Scalar.muli v517 c256_i32_237
  v518
def k0_mult75 (i : grid0.Coords) : BitVec 32 :=
  let arg1 : BitVec 32 := BitVec.ofNat 32 (i 1).val
  let c4_i32_252 : BitVec 32 := 4#32
  let v553 : BitVec 32 := Scalar.subi arg1 c4_i32_252
  let c4_i32_253 : BitVec 32 := 4#32
  let v554 : BitVec 32 := Scalar.addi v553 c4_i32_253
  let c256_i32_254 : BitVec 32 := 256#32
  let v555 : BitVec 32 := Scalar.muli v554 c256_i32_254
  v555
def k0_mult76 (i : grid0.Coords) : BitVec 32 :=
  let arg1 : BitVec 32 := BitVec.ofNat 32 (i 1).val
  let c4_i32_280 : BitVec 32 := 4#32
  let v601 : BitVec 32 := Scalar.subi arg1 c4_i32_280
  let c0_i32_281 : BitVec 32 := 0#32
  let v602 : BitVec 32 := Scalar.addi v601 c0_i32_281
  let c256_i32_282 : BitVec 32 := 256#32
  let v603 : BitVec 32 := Scalar.muli v602 c256_i32_282
  v603
def k0_off152 (i : grid0.Coords) (k0_t5 : Fin k0_t5_loop.trips) (c0_i32_281 : BitVec 32) : Fin 3 → Nat :=
  let c2_i32_50 : BitVec 32 := 2#32
  let c0_i32_46 : BitVec 32 := 0#32
  let c1_i32_48 : BitVec 32 := 1#32
  let arg25 : BitVec 32 := Scf.iv c0_i32_46 c1_i32_48 k0_t5
  let v125 : BitVec 32 := Scalar.muli c2_i32_50 arg25
  let v624 : Index := Scalar.indexCast v125
  let c0_291 : Index := 0#32
  let arg1 : BitVec 32 := BitVec.ofNat 32 (i 1).val
  let c4_i32_280 : BitVec 32 := 4#32
  let v601 : BitVec 32 := Scalar.subi arg1 c4_i32_280
  let v602 : BitVec 32 := Scalar.addi v601 c0_i32_281
  let c256_i32_282 : BitVec 32 := 256#32
  let v603 : BitVec 32 := Scalar.muli v602 c256_i32_282
  let v604 : BitVec 32 := v603
  let v625 : Index := Scalar.indexCast v604
  ![v624.toNat, 0, v625.toNat]
def k0_mult77 (i : grid0.Coords) : BitVec 32 :=
  let arg1 : BitVec 32 := BitVec.ofNat 32 (i 1).val
  let c4_i32_293 : BitVec 32 := 4#32
  let v629 : BitVec 32 := Scalar.subi arg1 c4_i32_293
  let c1_i32_294 : BitVec 32 := 1#32
  let v630 : BitVec 32 := Scalar.addi v629 c1_i32_294
  let c256_i32_295 : BitVec 32 := 256#32
  let v631 : BitVec 32 := Scalar.muli v630 c256_i32_295
  v631
def k0_mult78 (i : grid0.Coords) : BitVec 32 :=
  let arg1 : BitVec 32 := BitVec.ofNat 32 (i 1).val
  let c4_i32_306 : BitVec 32 := 4#32
  let v658 : BitVec 32 := Scalar.subi arg1 c4_i32_306
  let c2_i32_307 : BitVec 32 := 2#32
  let v659 : BitVec 32 := Scalar.addi v658 c2_i32_307
  let c256_i32_308 : BitVec 32 := 256#32
  let v660 : BitVec 32 := Scalar.muli v659 c256_i32_308
  v660
def k0_mult79 (i : grid0.Coords) : BitVec 32 :=
  let arg1 : BitVec 32 := BitVec.ofNat 32 (i 1).val
  let c4_i32_319 : BitVec 32 := 4#32
  let v687 : BitVec 32 := Scalar.subi arg1 c4_i32_319
  let c3_i32_320 : BitVec 32 := 3#32
  let v688 : BitVec 32 := Scalar.addi v687 c3_i32_320
  let c256_i32_321 : BitVec 32 := 256#32
  let v689 : BitVec 32 := Scalar.muli v688 c256_i32_321
  v689
def k0_mult80 (i : grid0.Coords) : BitVec 32 :=
  let arg1 : BitVec 32 := BitVec.ofNat 32 (i 1).val
  let c4_i32_332 : BitVec 32 := 4#32
  let v716 : BitVec 32 := Scalar.subi arg1 c4_i32_332
  let c4_i32_333 : BitVec 32 := 4#32
  let v717 : BitVec 32 := Scalar.addi v716 c4_i32_333
  let c256_i32_334 : BitVec 32 := 256#32
  let v718 : BitVec 32 := Scalar.muli v717 c256_i32_334
  v718
def k0_off153 (k0_t5 : Fin k0_t5_loop.trips) : Fin 3 → Nat :=
  let c2_i32_50 : BitVec 32 := 2#32
  let c0_i32_46 : BitVec 32 := 0#32
  let c1_i32_48 : BitVec 32 := 1#32
  let arg25 : BitVec 32 := Scf.iv c0_i32_46 c1_i32_48 k0_t5
  let v125 : BitVec 32 := Scalar.muli c2_i32_50 arg25
  let v737 : Index := Scalar.indexCast v125
  let c0_343 : Index := 0#32
  let c0_344 : Index := 0#32
  ![v737.toNat, 0, 0]
def k0_off154 (k0_t5 : Fin k0_t5_loop.trips) : Fin 5 → Nat :=
  let c0_363 : Index := 0#32
  let c2_i32_361 : BitVec 32 := 2#32
  let c0_i32_46 : BitVec 32 := 0#32
  let c1_i32_48 : BitVec 32 := 1#32
  let arg25 : BitVec 32 := Scf.iv c0_i32_46 c1_i32_48 k0_t5
  let v780 : BitVec 32 := Scalar.muli c2_i32_361 arg25
  let c1_i32_362 : BitVec 32 := 1#32
  let v781 : BitVec 32 := Scalar.addi v780 c1_i32_362
  let v782 : Index := Scalar.indexCast v781
  let c0_364 : Index := 0#32
  let c0_365 : Index := 0#32
  let c0_366 : Index := 0#32
  ![0, v782.toNat, 0, 0, 0]
def k0_off155 (i : grid0.Coords) (k0_t5 : Fin k0_t5_loop.trips) : Fin 4 → Nat :=
  let c2_i32_361 : BitVec 32 := 2#32
  let c0_i32_46 : BitVec 32 := 0#32
  let c1_i32_48 : BitVec 32 := 1#32
  let arg25 : BitVec 32 := Scf.iv c0_i32_46 c1_i32_48 k0_t5
  let v780 : BitVec 32 := Scalar.muli c2_i32_361 arg25
  let c1_i32_362 : BitVec 32 := 1#32
  let v781 : BitVec 32 := Scalar.addi v780 c1_i32_362
  let v788 : Index := Scalar.indexCast v781
  let c0_367 : Index := 0#32
  let arg1 : BitVec 32 := BitVec.ofNat 32 (i 1).val
  let c256_i32_27 : BitVec 32 := 256#32
  let v82 : BitVec 32 := Scalar.muli arg1 c256_i32_27
  let v83 : BitVec 32 := v82
  let v789 : Index := Scalar.indexCast v83
  let c0_368 : Index := 0#32
  ![v788.toNat, 0, v789.toNat, 0]
def k0_off156 (k0_t5 : Fin k0_t5_loop.trips) : Fin 4 → Nat :=
  let c0_369 : Index := 0#32
  let c2_i32_361 : BitVec 32 := 2#32
  let c0_i32_46 : BitVec 32 := 0#32
  let c1_i32_48 : BitVec 32 := 1#32
  let arg25 : BitVec 32 := Scf.iv c0_i32_46 c1_i32_48 k0_t5
  let v780 : BitVec 32 := Scalar.muli c2_i32_361 arg25
  let c1_i32_362 : BitVec 32 := 1#32
  let v781 : BitVec 32 := Scalar.addi v780 c1_i32_362
  let v793 : Index := Scalar.indexCast v781
  let c0_370 : Index := 0#32
  let c0_371 : Index := 0#32
  ![0, v793.toNat, 0, 0]
def k0_off157 (i : grid0.Coords) (k0_t5 : Fin k0_t5_loop.trips) : Fin 4 → Nat :=
  let c2_i32_361 : BitVec 32 := 2#32
  let c0_i32_46 : BitVec 32 := 0#32
  let c1_i32_48 : BitVec 32 := 1#32
  let arg25 : BitVec 32 := Scf.iv c0_i32_46 c1_i32_48 k0_t5
  let v780 : BitVec 32 := Scalar.muli c2_i32_361 arg25
  let c1_i32_362 : BitVec 32 := 1#32
  let v781 : BitVec 32 := Scalar.addi v780 c1_i32_362
  let v805 : Index := Scalar.indexCast v781
  let c0_372 : Index := 0#32
  let arg1 : BitVec 32 := BitVec.ofNat 32 (i 1).val
  let c256_i32_27 : BitVec 32 := 256#32
  let v82 : BitVec 32 := Scalar.muli arg1 c256_i32_27
  let v83 : BitVec 32 := v82
  let v806 : Index := Scalar.indexCast v83
  let c0_373 : Index := 0#32
  ![v805.toNat, 0, v806.toNat, 0]
def k0_off158 (k0_t5 : Fin k0_t5_loop.trips) : Fin 5 → Nat :=
  let c0_374 : Index := 0#32
  let c2_i32_361 : BitVec 32 := 2#32
  let c0_i32_46 : BitVec 32 := 0#32
  let c1_i32_48 : BitVec 32 := 1#32
  let arg25 : BitVec 32 := Scf.iv c0_i32_46 c1_i32_48 k0_t5
  let v780 : BitVec 32 := Scalar.muli c2_i32_361 arg25
  let c1_i32_362 : BitVec 32 := 1#32
  let v781 : BitVec 32 := Scalar.addi v780 c1_i32_362
  let v810 : Index := Scalar.indexCast v781
  let c1_375 : Index := 1#32
  let c0_376 : Index := 0#32
  let c0_377 : Index := 0#32
  ![0, v810.toNat, 1, 0, 0]
def k0_off159 (i : grid0.Coords) (k0_t5 : Fin k0_t5_loop.trips) : Fin 4 → Nat :=
  let c2_i32_361 : BitVec 32 := 2#32
  let c0_i32_46 : BitVec 32 := 0#32
  let c1_i32_48 : BitVec 32 := 1#32
  let arg25 : BitVec 32 := Scf.iv c0_i32_46 c1_i32_48 k0_t5
  let v780 : BitVec 32 := Scalar.muli c2_i32_361 arg25
  let c1_i32_362 : BitVec 32 := 1#32
  let v781 : BitVec 32 := Scalar.addi v780 c1_i32_362
  let v816 : Index := Scalar.indexCast v781
  let c1_378 : Index := 1#32
  let arg1 : BitVec 32 := BitVec.ofNat 32 (i 1).val
  let c256_i32_27 : BitVec 32 := 256#32
  let v82 : BitVec 32 := Scalar.muli arg1 c256_i32_27
  let v83 : BitVec 32 := v82
  let v817 : Index := Scalar.indexCast v83
  let c0_379 : Index := 0#32
  ![v816.toNat, 1, v817.toNat, 0]
def k0_off160 (k0_t5 : Fin k0_t5_loop.trips) : Fin 4 → Nat :=
  let c0_380 : Index := 0#32
  let c2_i32_361 : BitVec 32 := 2#32
  let c0_i32_46 : BitVec 32 := 0#32
  let c1_i32_48 : BitVec 32 := 1#32
  let arg25 : BitVec 32 := Scf.iv c0_i32_46 c1_i32_48 k0_t5
  let v780 : BitVec 32 := Scalar.muli c2_i32_361 arg25
  let c1_i32_362 : BitVec 32 := 1#32
  let v781 : BitVec 32 := Scalar.addi v780 c1_i32_362
  let v821 : Index := Scalar.indexCast v781
  let c1_381 : Index := 1#32
  let c0_382 : Index := 0#32
  ![0, v821.toNat, 1, 0]
def k0_off161 (i : grid0.Coords) (k0_t5 : Fin k0_t5_loop.trips) : Fin 4 → Nat :=
  let c2_i32_361 : BitVec 32 := 2#32
  let c0_i32_46 : BitVec 32 := 0#32
  let c1_i32_48 : BitVec 32 := 1#32
  let arg25 : BitVec 32 := Scf.iv c0_i32_46 c1_i32_48 k0_t5
  let v780 : BitVec 32 := Scalar.muli c2_i32_361 arg25
  let c1_i32_362 : BitVec 32 := 1#32
  let v781 : BitVec 32 := Scalar.addi v780 c1_i32_362
  let v833 : Index := Scalar.indexCast v781
  let c1_383 : Index := 1#32
  let arg1 : BitVec 32 := BitVec.ofNat 32 (i 1).val
  let c256_i32_27 : BitVec 32 := 256#32
  let v82 : BitVec 32 := Scalar.muli arg1 c256_i32_27
  let v83 : BitVec 32 := v82
  let v834 : Index := Scalar.indexCast v83
  let c0_384 : Index := 0#32
  ![v833.toNat, 1, v834.toNat, 0]
def k0_off162 (k0_t5 : Fin k0_t5_loop.trips) : Fin 4 → Nat :=
  let c0_385 : Index := 0#32
  let c2_i32_361 : BitVec 32 := 2#32
  let c0_i32_46 : BitVec 32 := 0#32
  let c1_i32_48 : BitVec 32 := 1#32
  let arg25 : BitVec 32 := Scf.iv c0_i32_46 c1_i32_48 k0_t5
  let v780 : BitVec 32 := Scalar.muli c2_i32_361 arg25
  let c1_i32_362 : BitVec 32 := 1#32
  let v781 : BitVec 32 := Scalar.addi v780 c1_i32_362
  let v838 : Index := Scalar.indexCast v781
  let c0_386 : Index := 0#32
  let c0_387 : Index := 0#32
  ![0, v838.toNat, 0, 0]
def k0_off163 (i : grid0.Coords) (k0_t5 : Fin k0_t5_loop.trips) : Fin 3 → Nat :=
  let c2_i32_361 : BitVec 32 := 2#32
  let c0_i32_46 : BitVec 32 := 0#32
  let c1_i32_48 : BitVec 32 := 1#32
  let arg25 : BitVec 32 := Scf.iv c0_i32_46 c1_i32_48 k0_t5
  let v780 : BitVec 32 := Scalar.muli c2_i32_361 arg25
  let c1_i32_362 : BitVec 32 := 1#32
  let v781 : BitVec 32 := Scalar.addi v780 c1_i32_362
  let v842 : Index := Scalar.indexCast v781
  let c0_388 : Index := 0#32
  let arg1 : BitVec 32 := BitVec.ofNat 32 (i 1).val
  let c256_i32_27 : BitVec 32 := 256#32
  let v82 : BitVec 32 := Scalar.muli arg1 c256_i32_27
  let v83 : BitVec 32 := v82
  let v843 : Index := Scalar.indexCast v83
  ![v842.toNat, 0, v843.toNat]
def k0_mult81 (i : grid0.Coords) : BitVec 32 :=
  let arg1 : BitVec 32 := BitVec.ofNat 32 (i 1).val
  let c4_i32_395 : BitVec 32 := 4#32
  let v854 : BitVec 32 := Scalar.subi arg1 c4_i32_395
  let c0_i32_396 : BitVec 32 := 0#32
  let v855 : BitVec 32 := Scalar.addi v854 c0_i32_396
  let c256_i32_397 : BitVec 32 := 256#32
  let v856 : BitVec 32 := Scalar.muli v855 c256_i32_397
  v856
def k0_off164 (i : grid0.Coords) (k0_t5 : Fin k0_t5_loop.trips) (c0_i32_396 : BitVec 32) : Fin 4 → Nat :=
  let c2_i32_361 : BitVec 32 := 2#32
  let c0_i32_46 : BitVec 32 := 0#32
  let c1_i32_48 : BitVec 32 := 1#32
  let arg25 : BitVec 32 := Scf.iv c0_i32_46 c1_i32_48 k0_t5
  let v780 : BitVec 32 := Scalar.muli c2_i32_361 arg25
  let c1_i32_362 : BitVec 32 := 1#32
  let v781 : BitVec 32 := Scalar.addi v780 c1_i32_362
  let v858 : Index := Scalar.indexCast v781
  let c0_398 : Index := 0#32
  let arg1 : BitVec 32 := BitVec.ofNat 32 (i 1).val
  let c4_i32_395 : BitVec 32 := 4#32
  let v854 : BitVec 32 := Scalar.subi arg1 c4_i32_395
  let v855 : BitVec 32 := Scalar.addi v854 c0_i32_396
  let c256_i32_397 : BitVec 32 := 256#32
  let v856 : BitVec 32 := Scalar.muli v855 c256_i32_397
  let v857 : BitVec 32 := v856
  let v859 : Index := Scalar.indexCast v857
  let c0_399 : Index := 0#32
  ![v858.toNat, 0, v859.toNat, 0]
def k0_off165 (i : grid0.Coords) (k0_t5 : Fin k0_t5_loop.trips) (c0_i32_396 : BitVec 32) : Fin 4 → Nat :=
  let c2_i32_361 : BitVec 32 := 2#32
  let c0_i32_46 : BitVec 32 := 0#32
  let c1_i32_48 : BitVec 32 := 1#32
  let arg25 : BitVec 32 := Scf.iv c0_i32_46 c1_i32_48 k0_t5
  let v780 : BitVec 32 := Scalar.muli c2_i32_361 arg25
  let c1_i32_362 : BitVec 32 := 1#32
  let v781 : BitVec 32 := Scalar.addi v780 c1_i32_362
  let v866 : Index := Scalar.indexCast v781
  let c0_405 : Index := 0#32
  let arg1 : BitVec 32 := BitVec.ofNat 32 (i 1).val
  let c4_i32_395 : BitVec 32 := 4#32
  let v854 : BitVec 32 := Scalar.subi arg1 c4_i32_395
  let v855 : BitVec 32 := Scalar.addi v854 c0_i32_396
  let c256_i32_397 : BitVec 32 := 256#32
  let v856 : BitVec 32 := Scalar.muli v855 c256_i32_397
  let v857 : BitVec 32 := v856
  let v867 : Index := Scalar.indexCast v857
  let c0_406 : Index := 0#32
  ![v866.toNat, 0, v867.toNat, 0]
def k0_mult82 (i : grid0.Coords) : BitVec 32 :=
  let arg1 : BitVec 32 := BitVec.ofNat 32 (i 1).val
  let c4_i32_414 : BitVec 32 := 4#32
  let v894 : BitVec 32 := Scalar.subi arg1 c4_i32_414
  let c1_i32_415 : BitVec 32 := 1#32
  let v895 : BitVec 32 := Scalar.addi v894 c1_i32_415
  let c256_i32_416 : BitVec 32 := 256#32
  let v896 : BitVec 32 := Scalar.muli v895 c256_i32_416
  v896
def k0_mult83 (i : grid0.Coords) : BitVec 32 :=
  let arg1 : BitVec 32 := BitVec.ofNat 32 (i 1).val
  let c4_i32_431 : BitVec 32 := 4#32
  let v931 : BitVec 32 := Scalar.subi arg1 c4_i32_431
  let c2_i32_432 : BitVec 32 := 2#32
  let v932 : BitVec 32 := Scalar.addi v931 c2_i32_432
  let c256_i32_433 : BitVec 32 := 256#32
  let v933 : BitVec 32 := Scalar.muli v932 c256_i32_433
  v933
def k0_mult84 (i : grid0.Coords) : BitVec 32 :=
  let arg1 : BitVec 32 := BitVec.ofNat 32 (i 1).val
  let c4_i32_448 : BitVec 32 := 4#32
  let v968 : BitVec 32 := Scalar.subi arg1 c4_i32_448
  let c3_i32_449 : BitVec 32 := 3#32
  let v969 : BitVec 32 := Scalar.addi v968 c3_i32_449
  let c256_i32_450 : BitVec 32 := 256#32
  let v970 : BitVec 32 := Scalar.muli v969 c256_i32_450
  v970
def k0_mult85 (i : grid0.Coords) : BitVec 32 :=
  let arg1 : BitVec 32 := BitVec.ofNat 32 (i 1).val
  let c4_i32_465 : BitVec 32 := 4#32
  let v1005 : BitVec 32 := Scalar.subi arg1 c4_i32_465
  let c4_i32_466 : BitVec 32 := 4#32
  let v1006 : BitVec 32 := Scalar.addi v1005 c4_i32_466
  let c256_i32_467 : BitVec 32 := 256#32
  let v1007 : BitVec 32 := Scalar.muli v1006 c256_i32_467
  v1007
def k0_mult86 (i : grid0.Coords) : BitVec 32 :=
  let arg1 : BitVec 32 := BitVec.ofNat 32 (i 1).val
  let c4_i32_499 : BitVec 32 := 4#32
  let v1058 : BitVec 32 := Scalar.subi arg1 c4_i32_499
  let c0_i32_500 : BitVec 32 := 0#32
  let v1059 : BitVec 32 := Scalar.addi v1058 c0_i32_500
  let c256_i32_501 : BitVec 32 := 256#32
  let v1060 : BitVec 32 := Scalar.muli v1059 c256_i32_501
  v1060
def k0_off166 (i : grid0.Coords) (k0_t5 : Fin k0_t5_loop.trips) (c0_i32_500 : BitVec 32) : Fin 4 → Nat :=
  let c2_i32_361 : BitVec 32 := 2#32
  let c0_i32_46 : BitVec 32 := 0#32
  let c1_i32_48 : BitVec 32 := 1#32
  let arg25 : BitVec 32 := Scf.iv c0_i32_46 c1_i32_48 k0_t5
  let v780 : BitVec 32 := Scalar.muli c2_i32_361 arg25
  let c1_i32_362 : BitVec 32 := 1#32
  let v781 : BitVec 32 := Scalar.addi v780 c1_i32_362
  let v1062 : Index := Scalar.indexCast v781
  let c1_502 : Index := 1#32
  let arg1 : BitVec 32 := BitVec.ofNat 32 (i 1).val
  let c4_i32_499 : BitVec 32 := 4#32
  let v1058 : BitVec 32 := Scalar.subi arg1 c4_i32_499
  let v1059 : BitVec 32 := Scalar.addi v1058 c0_i32_500
  let c256_i32_501 : BitVec 32 := 256#32
  let v1060 : BitVec 32 := Scalar.muli v1059 c256_i32_501
  let v1061 : BitVec 32 := v1060
  let v1063 : Index := Scalar.indexCast v1061
  let c0_503 : Index := 0#32
  ![v1062.toNat, 1, v1063.toNat, 0]
def k0_off167 (i : grid0.Coords) (k0_t5 : Fin k0_t5_loop.trips) (c0_i32_500 : BitVec 32) : Fin 4 → Nat :=
  let c2_i32_361 : BitVec 32 := 2#32
  let c0_i32_46 : BitVec 32 := 0#32
  let c1_i32_48 : BitVec 32 := 1#32
  let arg25 : BitVec 32 := Scf.iv c0_i32_46 c1_i32_48 k0_t5
  let v780 : BitVec 32 := Scalar.muli c2_i32_361 arg25
  let c1_i32_362 : BitVec 32 := 1#32
  let v781 : BitVec 32 := Scalar.addi v780 c1_i32_362
  let v1070 : Index := Scalar.indexCast v781
  let c1_509 : Index := 1#32
  let arg1 : BitVec 32 := BitVec.ofNat 32 (i 1).val
  let c4_i32_499 : BitVec 32 := 4#32
  let v1058 : BitVec 32 := Scalar.subi arg1 c4_i32_499
  let v1059 : BitVec 32 := Scalar.addi v1058 c0_i32_500
  let c256_i32_501 : BitVec 32 := 256#32
  let v1060 : BitVec 32 := Scalar.muli v1059 c256_i32_501
  let v1061 : BitVec 32 := v1060
  let v1071 : Index := Scalar.indexCast v1061
  let c0_510 : Index := 0#32
  ![v1070.toNat, 1, v1071.toNat, 0]
def k0_mult87 (i : grid0.Coords) : BitVec 32 :=
  let arg1 : BitVec 32 := BitVec.ofNat 32 (i 1).val
  let c4_i32_518 : BitVec 32 := 4#32
  let v1098 : BitVec 32 := Scalar.subi arg1 c4_i32_518
  let c1_i32_519 : BitVec 32 := 1#32
  let v1099 : BitVec 32 := Scalar.addi v1098 c1_i32_519
  let c256_i32_520 : BitVec 32 := 256#32
  let v1100 : BitVec 32 := Scalar.muli v1099 c256_i32_520
  v1100
def k0_mult88 (i : grid0.Coords) : BitVec 32 :=
  let arg1 : BitVec 32 := BitVec.ofNat 32 (i 1).val
  let c4_i32_535 : BitVec 32 := 4#32
  let v1135 : BitVec 32 := Scalar.subi arg1 c4_i32_535
  let c2_i32_536 : BitVec 32 := 2#32
  let v1136 : BitVec 32 := Scalar.addi v1135 c2_i32_536
  let c256_i32_537 : BitVec 32 := 256#32
  let v1137 : BitVec 32 := Scalar.muli v1136 c256_i32_537
  v1137
def k0_mult89 (i : grid0.Coords) : BitVec 32 :=
  let arg1 : BitVec 32 := BitVec.ofNat 32 (i 1).val
  let c4_i32_552 : BitVec 32 := 4#32
  let v1172 : BitVec 32 := Scalar.subi arg1 c4_i32_552
  let c3_i32_553 : BitVec 32 := 3#32
  let v1173 : BitVec 32 := Scalar.addi v1172 c3_i32_553
  let c256_i32_554 : BitVec 32 := 256#32
  let v1174 : BitVec 32 := Scalar.muli v1173 c256_i32_554
  v1174
def k0_mult90 (i : grid0.Coords) : BitVec 32 :=
  let arg1 : BitVec 32 := BitVec.ofNat 32 (i 1).val
  let c4_i32_569 : BitVec 32 := 4#32
  let v1209 : BitVec 32 := Scalar.subi arg1 c4_i32_569
  let c4_i32_570 : BitVec 32 := 4#32
  let v1210 : BitVec 32 := Scalar.addi v1209 c4_i32_570
  let c256_i32_571 : BitVec 32 := 256#32
  let v1211 : BitVec 32 := Scalar.muli v1210 c256_i32_571
  v1211
def k0_mult91 (i : grid0.Coords) : BitVec 32 :=
  let arg1 : BitVec 32 := BitVec.ofNat 32 (i 1).val
  let c4_i32_597 : BitVec 32 := 4#32
  let v1257 : BitVec 32 := Scalar.subi arg1 c4_i32_597
  let c0_i32_598 : BitVec 32 := 0#32
  let v1258 : BitVec 32 := Scalar.addi v1257 c0_i32_598
  let c256_i32_599 : BitVec 32 := 256#32
  let v1259 : BitVec 32 := Scalar.muli v1258 c256_i32_599
  v1259
def k0_off168 (i : grid0.Coords) (k0_t5 : Fin k0_t5_loop.trips) (c0_i32_598 : BitVec 32) : Fin 3 → Nat :=
  let c2_i32_361 : BitVec 32 := 2#32
  let c0_i32_46 : BitVec 32 := 0#32
  let c1_i32_48 : BitVec 32 := 1#32
  let arg25 : BitVec 32 := Scf.iv c0_i32_46 c1_i32_48 k0_t5
  let v780 : BitVec 32 := Scalar.muli c2_i32_361 arg25
  let c1_i32_362 : BitVec 32 := 1#32
  let v781 : BitVec 32 := Scalar.addi v780 c1_i32_362
  let v1280 : Index := Scalar.indexCast v781
  let c0_608 : Index := 0#32
  let arg1 : BitVec 32 := BitVec.ofNat 32 (i 1).val
  let c4_i32_597 : BitVec 32 := 4#32
  let v1257 : BitVec 32 := Scalar.subi arg1 c4_i32_597
  let v1258 : BitVec 32 := Scalar.addi v1257 c0_i32_598
  let c256_i32_599 : BitVec 32 := 256#32
  let v1259 : BitVec 32 := Scalar.muli v1258 c256_i32_599
  let v1260 : BitVec 32 := v1259
  let v1281 : Index := Scalar.indexCast v1260
  ![v1280.toNat, 0, v1281.toNat]
def k0_mult92 (i : grid0.Coords) : BitVec 32 :=
  let arg1 : BitVec 32 := BitVec.ofNat 32 (i 1).val
  let c4_i32_610 : BitVec 32 := 4#32
  let v1285 : BitVec 32 := Scalar.subi arg1 c4_i32_610
  let c1_i32_611 : BitVec 32 := 1#32
  let v1286 : BitVec 32 := Scalar.addi v1285 c1_i32_611
  let c256_i32_612 : BitVec 32 := 256#32
  let v1287 : BitVec 32 := Scalar.muli v1286 c256_i32_612
  v1287
def k0_mult93 (i : grid0.Coords) : BitVec 32 :=
  let arg1 : BitVec 32 := BitVec.ofNat 32 (i 1).val
  let c4_i32_623 : BitVec 32 := 4#32
  let v1314 : BitVec 32 := Scalar.subi arg1 c4_i32_623
  let c2_i32_624 : BitVec 32 := 2#32
  let v1315 : BitVec 32 := Scalar.addi v1314 c2_i32_624
  let c256_i32_625 : BitVec 32 := 256#32
  let v1316 : BitVec 32 := Scalar.muli v1315 c256_i32_625
  v1316
def k0_mult94 (i : grid0.Coords) : BitVec 32 :=
  let arg1 : BitVec 32 := BitVec.ofNat 32 (i 1).val
  let c4_i32_636 : BitVec 32 := 4#32
  let v1343 : BitVec 32 := Scalar.subi arg1 c4_i32_636
  let c3_i32_637 : BitVec 32 := 3#32
  let v1344 : BitVec 32 := Scalar.addi v1343 c3_i32_637
  let c256_i32_638 : BitVec 32 := 256#32
  let v1345 : BitVec 32 := Scalar.muli v1344 c256_i32_638
  v1345
def k0_mult95 (i : grid0.Coords) : BitVec 32 :=
  let arg1 : BitVec 32 := BitVec.ofNat 32 (i 1).val
  let c4_i32_649 : BitVec 32 := 4#32
  let v1372 : BitVec 32 := Scalar.subi arg1 c4_i32_649
  let c4_i32_650 : BitVec 32 := 4#32
  let v1373 : BitVec 32 := Scalar.addi v1372 c4_i32_650
  let c256_i32_651 : BitVec 32 := 256#32
  let v1374 : BitVec 32 := Scalar.muli v1373 c256_i32_651
  v1374
def k0_off169 (k0_t5 : Fin k0_t5_loop.trips) : Fin 3 → Nat :=
  let c2_i32_361 : BitVec 32 := 2#32
  let c0_i32_46 : BitVec 32 := 0#32
  let c1_i32_48 : BitVec 32 := 1#32
  let arg25 : BitVec 32 := Scf.iv c0_i32_46 c1_i32_48 k0_t5
  let v780 : BitVec 32 := Scalar.muli c2_i32_361 arg25
  let c1_i32_362 : BitVec 32 := 1#32
  let v781 : BitVec 32 := Scalar.addi v780 c1_i32_362
  let v1393 : Index := Scalar.indexCast v781
  let c0_660 : Index := 0#32
  let c0_661 : Index := 0#32
  ![v1393.toNat, 0, 0]
def k0_mult96 (k0_t5 : Fin k0_t5_loop.trips) : BitVec 32 :=
  let c0_i32_46 : BitVec 32 := 0#32
  let c1_i32_48 : BitVec 32 := 1#32
  let arg25 : BitVec 32 := Scf.iv c0_i32_46 c1_i32_48 k0_t5
  let c2_i32_677 : BitVec 32 := 2#32
  let v1436 : BitVec 32 := Scalar.muli arg25 c2_i32_677
  let c320_i32 : BitVec 32 := 320#32
  let v1437 : BitVec 32 := Scalar.muli v1436 c320_i32
  v1437
def k0_off170 (k0_t5 : Fin k0_t5_loop.trips) : Fin 3 → Nat :=
  let c0_680 : Index := 0#32
  let c0_681 : Index := 0#32
  let c0_i32_46 : BitVec 32 := 0#32
  let c1_i32_48 : BitVec 32 := 1#32
  let arg25 : BitVec 32 := Scf.iv c0_i32_46 c1_i32_48 k0_t5
  let c2_i32_677 : BitVec 32 := 2#32
  let v1436 : BitVec 32 := Scalar.muli arg25 c2_i32_677
  let c320_i32 : BitVec 32 := 320#32
  let v1437 : BitVec 32 := Scalar.muli v1436 c320_i32
  let v1438 : BitVec 32 := v1437
  let v1441 : Index := Scalar.indexCast v1438
  ![0, 0, v1441.toNat]
@[reducible] def k0_t6_loop : Scf.Loop 32 :=
  let c0_i32_46 : BitVec 32 := 0#32
  let c3_i32_47 : BitVec 32 := 3#32
  let v124 : BitVec 32 := Scalar.addi c0_i32_46 c3_i32_47
  let c1_i32_48 : BitVec 32 := 1#32
  ⟨c0_i32_46, v124, c1_i32_48⟩
def k0_off171 (k0_t6 : Fin k0_t6_loop.trips) : Fin 5 → Nat :=
  let c0_51 : Index := 0#32
  let c2_i32_50 : BitVec 32 := 2#32
  let c0_i32_46 : BitVec 32 := 0#32
  let c1_i32_48 : BitVec 32 := 1#32
  let arg25 : BitVec 32 := Scf.iv c0_i32_46 c1_i32_48 k0_t6
  let v125 : BitVec 32 := Scalar.muli c2_i32_50 arg25
  let v126 : Index := Scalar.indexCast v125
  let c0_52 : Index := 0#32
  let c0_53 : Index := 0#32
  let c0_54 : Index := 0#32
  ![0, v126.toNat, 0, 0, 0]
def k0_off172 (i : grid0.Coords) (k0_t6 : Fin k0_t6_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t6
  let v125 : BitVec 32 := Scalar.muli c2_i32_50 arg25
  let v132 : Index := Scalar.indexCast v125
  let c0_55 : Index := 0#32
  let arg1 : BitVec 32 := BitVec.ofNat 32 (i 1).val
  let c256_i32_27 : BitVec 32 := 256#32
  let v82 : BitVec 32 := Scalar.muli arg1 c256_i32_27
  let v83 : BitVec 32 := v82
  let v133 : Index := Scalar.indexCast v83
  let c0_56 : Index := 0#32
  ![v132.toNat, 0, v133.toNat, 0]
def k0_off173 (k0_t6 : Fin k0_t6_loop.trips) : Fin 4 → Nat :=
  let c0_57 : Index := 0#32
  let c2_i32_50 : BitVec 32 := 2#32
  let c0_i32_46 : BitVec 32 := 0#32
  let c1_i32_48 : BitVec 32 := 1#32
  let arg25 : BitVec 32 := Scf.iv c0_i32_46 c1_i32_48 k0_t6
  let v125 : BitVec 32 := Scalar.muli c2_i32_50 arg25
  let v137 : Index := Scalar.indexCast v125
  let c0_58 : Index := 0#32
  let c0_59 : Index := 0#32
  ![0, v137.toNat, 0, 0]
def k0_off174 (i : grid0.Coords) (k0_t6 : Fin k0_t6_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t6
  let v125 : BitVec 32 := Scalar.muli c2_i32_50 arg25
  let v149 : Index := Scalar.indexCast v125
  let c0_60 : Index := 0#32
  let arg1 : BitVec 32 := BitVec.ofNat 32 (i 1).val
  let c256_i32_27 : BitVec 32 := 256#32
  let v82 : BitVec 32 := Scalar.muli arg1 c256_i32_27
  let v83 : BitVec 32 := v82
  let v150 : Index := Scalar.indexCast v83
  let c0_61 : Index := 0#32
  ![v149.toNat, 0, v150.toNat, 0]
def k0_off175 (k0_t6 : Fin k0_t6_loop.trips) : Fin 5 → Nat :=
  let c0_62 : Index := 0#32
  let c2_i32_50 : BitVec 32 := 2#32
  let c0_i32_46 : BitVec 32 := 0#32
  let c1_i32_48 : BitVec 32 := 1#32
  let arg25 : BitVec 32 := Scf.iv c0_i32_46 c1_i32_48 k0_t6
  let v125 : BitVec 32 := Scalar.muli c2_i32_50 arg25
  let v154 : Index := Scalar.indexCast v125
  let c1 : Index := 1#32
  let c0_63 : Index := 0#32
  let c0_64 : Index := 0#32
  ![0, v154.toNat, 1, 0, 0]
def k0_off176 (i : grid0.Coords) (k0_t6 : Fin k0_t6_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t6
  let v125 : BitVec 32 := Scalar.muli c2_i32_50 arg25
  let v160 : Index := Scalar.indexCast v125
  let c1_65 : Index := 1#32
  let arg1 : BitVec 32 := BitVec.ofNat 32 (i 1).val
  let c256_i32_27 : BitVec 32 := 256#32
  let v82 : BitVec 32 := Scalar.muli arg1 c256_i32_27
  let v83 : BitVec 32 := v82
  let v161 : Index := Scalar.indexCast v83
  let c0_66 : Index := 0#32
  ![v160.toNat, 1, v161.toNat, 0]
def k0_off177 (k0_t6 : Fin k0_t6_loop.trips) : Fin 4 → Nat :=
  let c0_67 : Index := 0#32
  let c2_i32_50 : BitVec 32 := 2#32
  let c0_i32_46 : BitVec 32 := 0#32
  let c1_i32_48 : BitVec 32 := 1#32
  let arg25 : BitVec 32 := Scf.iv c0_i32_46 c1_i32_48 k0_t6
  let v125 : BitVec 32 := Scalar.muli c2_i32_50 arg25
  let v165 : Index := Scalar.indexCast v125
  let c1_68 : Index := 1#32
  let c0_69 : Index := 0#32
  ![0, v165.toNat, 1, 0]
def k0_off178 (i : grid0.Coords) (k0_t6 : Fin k0_t6_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t6
  let v125 : BitVec 32 := Scalar.muli c2_i32_50 arg25
  let v177 : Index := Scalar.indexCast v125
  let c1_70 : Index := 1#32
  let arg1 : BitVec 32 := BitVec.ofNat 32 (i 1).val
  let c256_i32_27 : BitVec 32 := 256#32
  let v82 : BitVec 32 := Scalar.muli arg1 c256_i32_27
  let v83 : BitVec 32 := v82
  let v178 : Index := Scalar.indexCast v83
  let c0_71 : Index := 0#32
  ![v177.toNat, 1, v178.toNat, 0]
def k0_off179 (k0_t6 : Fin k0_t6_loop.trips) : Fin 4 → Nat :=
  let c0_72 : Index := 0#32
  let c2_i32_50 : BitVec 32 := 2#32
  let c0_i32_46 : BitVec 32 := 0#32
  let c1_i32_48 : BitVec 32 := 1#32
  let arg25 : BitVec 32 := Scf.iv c0_i32_46 c1_i32_48 k0_t6
  let v125 : BitVec 32 := Scalar.muli c2_i32_50 arg25
  let v182 : Index := Scalar.indexCast v125
  let c0_73 : Index := 0#32
  let c0_74 : Index := 0#32
  ![0, v182.toNat, 0, 0]
def k0_off180 (i : grid0.Coords) (k0_t6 : Fin k0_t6_loop.trips) : Fin 3 → Nat :=
  let c2_i32_50 : BitVec 32 := 2#32
  let c0_i32_46 : BitVec 32 := 0#32
  let c1_i32_48 : BitVec 32 := 1#32
  let arg25 : BitVec 32 := Scf.iv c0_i32_46 c1_i32_48 k0_t6
  let v125 : BitVec 32 := Scalar.muli c2_i32_50 arg25
  let v186 : Index := Scalar.indexCast v125
  let c0_75 : Index := 0#32
  let arg1 : BitVec 32 := BitVec.ofNat 32 (i 1).val
  let c256_i32_27 : BitVec 32 := 256#32
  let v82 : BitVec 32 := Scalar.muli arg1 c256_i32_27
  let v83 : BitVec 32 := v82
  let v187 : Index := Scalar.indexCast v83
  ![v186.toNat, 0, v187.toNat]
def k0_mult97 (i : grid0.Coords) : BitVec 32 :=
  let arg1 : BitVec 32 := BitVec.ofNat 32 (i 1).val
  let c5_i32_82 : BitVec 32 := 5#32
  let v198 : BitVec 32 := Scalar.subi arg1 c5_i32_82
  let c0_i32_83 : BitVec 32 := 0#32
  let v199 : BitVec 32 := Scalar.addi v198 c0_i32_83
  let c256_i32_84 : BitVec 32 := 256#32
  let v200 : BitVec 32 := Scalar.muli v199 c256_i32_84
  v200
def k0_off181 (i : grid0.Coords) (k0_t6 : Fin k0_t6_loop.trips) (c0_i32_83 : BitVec 32) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t6
  let v125 : BitVec 32 := Scalar.muli c2_i32_50 arg25
  let v202 : Index := Scalar.indexCast v125
  let c0_85 : Index := 0#32
  let arg1 : BitVec 32 := BitVec.ofNat 32 (i 1).val
  let c5_i32_82 : BitVec 32 := 5#32
  let v198 : BitVec 32 := Scalar.subi arg1 c5_i32_82
  let v199 : BitVec 32 := Scalar.addi v198 c0_i32_83
  let c256_i32_84 : BitVec 32 := 256#32
  let v200 : BitVec 32 := Scalar.muli v199 c256_i32_84
  let v201 : BitVec 32 := v200
  let v203 : Index := Scalar.indexCast v201
  let c0_86 : Index := 0#32
  ![v202.toNat, 0, v203.toNat, 0]
def k0_cond6 (i : grid0.Coords) (v2 : BitVec 32) : BitVec 1 :=
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let c6_i32 : BitVec 32 := 6#32
  let v99 : BitVec 1 := Scalar.cmpi .eq v21 c6_i32
  let v100 : BitVec 32 := Scalar.extui v99
  let c0_i32_34 : BitVec 32 := 0#32
  let v101 : BitVec 1 := Scalar.cmpi .ne v100 c0_i32_34
  v101

def k0_off182 (i : grid0.Coords) (k0_t6 : Fin k0_t6_loop.trips) (c0_i32_83 : BitVec 32) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t6
  let v125 : BitVec 32 := Scalar.muli c2_i32_50 arg25
  let v210 : Index := Scalar.indexCast v125
  let c0_92 : Index := 0#32
  let arg1 : BitVec 32 := BitVec.ofNat 32 (i 1).val
  let c5_i32_82 : BitVec 32 := 5#32
  let v198 : BitVec 32 := Scalar.subi arg1 c5_i32_82
  let v199 : BitVec 32 := Scalar.addi v198 c0_i32_83
  let c256_i32_84 : BitVec 32 := 256#32
  let v200 : BitVec 32 := Scalar.muli v199 c256_i32_84
  let v201 : BitVec 32 := v200
  let v211 : Index := Scalar.indexCast v201
  let c0_93 : Index := 0#32
  ![v210.toNat, 0, v211.toNat, 0]
def k0_off183 (i : grid0.Coords) (c0_i32_83 : BitVec 32) : Fin 2 → Nat :=
  let arg0 : BitVec 32 := BitVec.ofNat 32 (i 0).val
  let v227 : Index := Scalar.indexCast arg0
  let arg1 : BitVec 32 := BitVec.ofNat 32 (i 1).val
  let c5_i32_82 : BitVec 32 := 5#32
  let v198 : BitVec 32 := Scalar.subi arg1 c5_i32_82
  let v199 : BitVec 32 := Scalar.addi v198 c0_i32_83
  let v228 : Index := Scalar.indexCast v199
  ![v227.toNat, v228.toNat]
def k0_mult98 (i : grid0.Coords) : BitVec 32 :=
  let arg1 : BitVec 32 := BitVec.ofNat 32 (i 1).val
  let c5_i32_101 : BitVec 32 := 5#32
  let v238 : BitVec 32 := Scalar.subi arg1 c5_i32_101
  let c1_i32_102 : BitVec 32 := 1#32
  let v239 : BitVec 32 := Scalar.addi v238 c1_i32_102
  let c256_i32_103 : BitVec 32 := 256#32
  let v240 : BitVec 32 := Scalar.muli v239 c256_i32_103
  v240
def k0_mult99 (i : grid0.Coords) : BitVec 32 :=
  let arg1 : BitVec 32 := BitVec.ofNat 32 (i 1).val
  let c5_i32_117 : BitVec 32 := 5#32
  let v275 : BitVec 32 := Scalar.subi arg1 c5_i32_117
  let c2_i32_118 : BitVec 32 := 2#32
  let v276 : BitVec 32 := Scalar.addi v275 c2_i32_118
  let c256_i32_119 : BitVec 32 := 256#32
  let v277 : BitVec 32 := Scalar.muli v276 c256_i32_119
  v277
def k0_mult100 (i : grid0.Coords) : BitVec 32 :=
  let arg1 : BitVec 32 := BitVec.ofNat 32 (i 1).val
  let c5_i32_133 : BitVec 32 := 5#32
  let v312 : BitVec 32 := Scalar.subi arg1 c5_i32_133
  let c3_i32_134 : BitVec 32 := 3#32
  let v313 : BitVec 32 := Scalar.addi v312 c3_i32_134
  let c256_i32_135 : BitVec 32 := 256#32
  let v314 : BitVec 32 := Scalar.muli v313 c256_i32_135
  v314
def k0_mult101 (i : grid0.Coords) : BitVec 32 :=
  let arg1 : BitVec 32 := BitVec.ofNat 32 (i 1).val
  let c5_i32_149 : BitVec 32 := 5#32
  let v349 : BitVec 32 := Scalar.subi arg1 c5_i32_149
  let c4_i32_150 : BitVec 32 := 4#32
  let v350 : BitVec 32 := Scalar.addi v349 c4_i32_150
  let c256_i32_151 : BitVec 32 := 256#32
  let v351 : BitVec 32 := Scalar.muli v350 c256_i32_151
  v351
def k0_mult102 (i : grid0.Coords) : BitVec 32 :=
  let arg1 : BitVec 32 := BitVec.ofNat 32 (i 1).val
  let c5_i32_165 : BitVec 32 := 5#32
  let v386 : BitVec 32 := Scalar.subi arg1 c5_i32_165
  let c5_i32_166 : BitVec 32 := 5#32
  let v387 : BitVec 32 := Scalar.addi v386 c5_i32_166
  let c256_i32_167 : BitVec 32 := 256#32
  let v388 : BitVec 32 := Scalar.muli v387 c256_i32_167
  v388
def k0_mult103 (i : grid0.Coords) : BitVec 32 :=
  let arg1 : BitVec 32 := BitVec.ofNat 32 (i 1).val
  let c5_i32_198 : BitVec 32 := 5#32
  let v439 : BitVec 32 := Scalar.subi arg1 c5_i32_198
  let c0_i32_199 : BitVec 32 := 0#32
  let v440 : BitVec 32 := Scalar.addi v439 c0_i32_199
  let c256_i32_200 : BitVec 32 := 256#32
  let v441 : BitVec 32 := Scalar.muli v440 c256_i32_200
  v441
def k0_off184 (i : grid0.Coords) (k0_t6 : Fin k0_t6_loop.trips) (c0_i32_199 : BitVec 32) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t6
  let v125 : BitVec 32 := Scalar.muli c2_i32_50 arg25
  let v443 : Index := Scalar.indexCast v125
  let c1_201 : Index := 1#32
  let arg1 : BitVec 32 := BitVec.ofNat 32 (i 1).val
  let c5_i32_198 : BitVec 32 := 5#32
  let v439 : BitVec 32 := Scalar.subi arg1 c5_i32_198
  let v440 : BitVec 32 := Scalar.addi v439 c0_i32_199
  let c256_i32_200 : BitVec 32 := 256#32
  let v441 : BitVec 32 := Scalar.muli v440 c256_i32_200
  let v442 : BitVec 32 := v441
  let v444 : Index := Scalar.indexCast v442
  let c0_202 : Index := 0#32
  ![v443.toNat, 1, v444.toNat, 0]
def k0_off185 (i : grid0.Coords) (k0_t6 : Fin k0_t6_loop.trips) (c0_i32_199 : BitVec 32) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t6
  let v125 : BitVec 32 := Scalar.muli c2_i32_50 arg25
  let v451 : Index := Scalar.indexCast v125
  let c1_208 : Index := 1#32
  let arg1 : BitVec 32 := BitVec.ofNat 32 (i 1).val
  let c5_i32_198 : BitVec 32 := 5#32
  let v439 : BitVec 32 := Scalar.subi arg1 c5_i32_198
  let v440 : BitVec 32 := Scalar.addi v439 c0_i32_199
  let c256_i32_200 : BitVec 32 := 256#32
  let v441 : BitVec 32 := Scalar.muli v440 c256_i32_200
  let v442 : BitVec 32 := v441
  let v452 : Index := Scalar.indexCast v442
  let c0_209 : Index := 0#32
  ![v451.toNat, 1, v452.toNat, 0]
def k0_mult104 (i : grid0.Coords) : BitVec 32 :=
  let arg1 : BitVec 32 := BitVec.ofNat 32 (i 1).val
  let c5_i32_217 : BitVec 32 := 5#32
  let v479 : BitVec 32 := Scalar.subi arg1 c5_i32_217
  let c1_i32_218 : BitVec 32 := 1#32
  let v480 : BitVec 32 := Scalar.addi v479 c1_i32_218
  let c256_i32_219 : BitVec 32 := 256#32
  let v481 : BitVec 32 := Scalar.muli v480 c256_i32_219
  v481
def k0_mult105 (i : grid0.Coords) : BitVec 32 :=
  let arg1 : BitVec 32 := BitVec.ofNat 32 (i 1).val
  let c5_i32_234 : BitVec 32 := 5#32
  let v516 : BitVec 32 := Scalar.subi arg1 c5_i32_234
  let c2_i32_235 : BitVec 32 := 2#32
  let v517 : BitVec 32 := Scalar.addi v516 c2_i32_235
  let c256_i32_236 : BitVec 32 := 256#32
  let v518 : BitVec 32 := Scalar.muli v517 c256_i32_236
  v518
def k0_mult106 (i : grid0.Coords) : BitVec 32 :=
  let arg1 : BitVec 32 := BitVec.ofNat 32 (i 1).val
  let c5_i32_251 : BitVec 32 := 5#32
  let v553 : BitVec 32 := Scalar.subi arg1 c5_i32_251
  let c3_i32_252 : BitVec 32 := 3#32
  let v554 : BitVec 32 := Scalar.addi v553 c3_i32_252
  let c256_i32_253 : BitVec 32 := 256#32
  let v555 : BitVec 32 := Scalar.muli v554 c256_i32_253
  v555
def k0_mult107 (i : grid0.Coords) : BitVec 32 :=
  let arg1 : BitVec 32 := BitVec.ofNat 32 (i 1).val
  let c5_i32_268 : BitVec 32 := 5#32
  let v590 : BitVec 32 := Scalar.subi arg1 c5_i32_268
  let c4_i32_269 : BitVec 32 := 4#32
  let v591 : BitVec 32 := Scalar.addi v590 c4_i32_269
  let c256_i32_270 : BitVec 32 := 256#32
  let v592 : BitVec 32 := Scalar.muli v591 c256_i32_270
  v592
def k0_mult108 (i : grid0.Coords) : BitVec 32 :=
  let arg1 : BitVec 32 := BitVec.ofNat 32 (i 1).val
  let c5_i32_285 : BitVec 32 := 5#32
  let v627 : BitVec 32 := Scalar.subi arg1 c5_i32_285
  let c5_i32_286 : BitVec 32 := 5#32
  let v628 : BitVec 32 := Scalar.addi v627 c5_i32_286
  let c256_i32_287 : BitVec 32 := 256#32
  let v629 : BitVec 32 := Scalar.muli v628 c256_i32_287
  v629
def k0_mult109 (i : grid0.Coords) : BitVec 32 :=
  let arg1 : BitVec 32 := BitVec.ofNat 32 (i 1).val
  let c5_i32_313 : BitVec 32 := 5#32
  let v675 : BitVec 32 := Scalar.subi arg1 c5_i32_313
  let c0_i32_314 : BitVec 32 := 0#32
  let v676 : BitVec 32 := Scalar.addi v675 c0_i32_314
  let c256_i32_315 : BitVec 32 := 256#32
  let v677 : BitVec 32 := Scalar.muli v676 c256_i32_315
  v677
def k0_off186 (i : grid0.Coords) (k0_t6 : Fin k0_t6_loop.trips) (c0_i32_314 : BitVec 32) : Fin 3 → Nat :=
  let c2_i32_50 : BitVec 32 := 2#32
  let c0_i32_46 : BitVec 32 := 0#32
  let c1_i32_48 : BitVec 32 := 1#32
  let arg25 : BitVec 32 := Scf.iv c0_i32_46 c1_i32_48 k0_t6
  let v125 : BitVec 32 := Scalar.muli c2_i32_50 arg25
  let v698 : Index := Scalar.indexCast v125
  let c0_324 : Index := 0#32
  let arg1 : BitVec 32 := BitVec.ofNat 32 (i 1).val
  let c5_i32_313 : BitVec 32 := 5#32
  let v675 : BitVec 32 := Scalar.subi arg1 c5_i32_313
  let v676 : BitVec 32 := Scalar.addi v675 c0_i32_314
  let c256_i32_315 : BitVec 32 := 256#32
  let v677 : BitVec 32 := Scalar.muli v676 c256_i32_315
  let v678 : BitVec 32 := v677
  let v699 : Index := Scalar.indexCast v678
  ![v698.toNat, 0, v699.toNat]
def k0_mult110 (i : grid0.Coords) : BitVec 32 :=
  let arg1 : BitVec 32 := BitVec.ofNat 32 (i 1).val
  let c5_i32_326 : BitVec 32 := 5#32
  let v703 : BitVec 32 := Scalar.subi arg1 c5_i32_326
  let c1_i32_327 : BitVec 32 := 1#32
  let v704 : BitVec 32 := Scalar.addi v703 c1_i32_327
  let c256_i32_328 : BitVec 32 := 256#32
  let v705 : BitVec 32 := Scalar.muli v704 c256_i32_328
  v705
def k0_mult111 (i : grid0.Coords) : BitVec 32 :=
  let arg1 : BitVec 32 := BitVec.ofNat 32 (i 1).val
  let c5_i32_339 : BitVec 32 := 5#32
  let v732 : BitVec 32 := Scalar.subi arg1 c5_i32_339
  let c2_i32_340 : BitVec 32 := 2#32
  let v733 : BitVec 32 := Scalar.addi v732 c2_i32_340
  let c256_i32_341 : BitVec 32 := 256#32
  let v734 : BitVec 32 := Scalar.muli v733 c256_i32_341
  v734
def k0_mult112 (i : grid0.Coords) : BitVec 32 :=
  let arg1 : BitVec 32 := BitVec.ofNat 32 (i 1).val
  let c5_i32_352 : BitVec 32 := 5#32
  let v761 : BitVec 32 := Scalar.subi arg1 c5_i32_352
  let c3_i32_353 : BitVec 32 := 3#32
  let v762 : BitVec 32 := Scalar.addi v761 c3_i32_353
  let c256_i32_354 : BitVec 32 := 256#32
  let v763 : BitVec 32 := Scalar.muli v762 c256_i32_354
  v763
def k0_mult113 (i : grid0.Coords) : BitVec 32 :=
  let arg1 : BitVec 32 := BitVec.ofNat 32 (i 1).val
  let c5_i32_365 : BitVec 32 := 5#32
  let v790 : BitVec 32 := Scalar.subi arg1 c5_i32_365
  let c4_i32_366 : BitVec 32 := 4#32
  let v791 : BitVec 32 := Scalar.addi v790 c4_i32_366
  let c256_i32_367 : BitVec 32 := 256#32
  let v792 : BitVec 32 := Scalar.muli v791 c256_i32_367
  v792
def k0_mult114 (i : grid0.Coords) : BitVec 32 :=
  let arg1 : BitVec 32 := BitVec.ofNat 32 (i 1).val
  let c5_i32_378 : BitVec 32 := 5#32
  let v819 : BitVec 32 := Scalar.subi arg1 c5_i32_378
  let c5_i32_379 : BitVec 32 := 5#32
  let v820 : BitVec 32 := Scalar.addi v819 c5_i32_379
  let c256_i32_380 : BitVec 32 := 256#32
  let v821 : BitVec 32 := Scalar.muli v820 c256_i32_380
  v821
def k0_off187 (k0_t6 : Fin k0_t6_loop.trips) : Fin 3 → Nat :=
  let c2_i32_50 : BitVec 32 := 2#32
  let c0_i32_46 : BitVec 32 := 0#32
  let c1_i32_48 : BitVec 32 := 1#32
  let arg25 : BitVec 32 := Scf.iv c0_i32_46 c1_i32_48 k0_t6
  let v125 : BitVec 32 := Scalar.muli c2_i32_50 arg25
  let v840 : Index := Scalar.indexCast v125
  let c0_389 : Index := 0#32
  let c0_390 : Index := 0#32
  ![v840.toNat, 0, 0]
def k0_off188 (k0_t6 : Fin k0_t6_loop.trips) : Fin 5 → Nat :=
  let c0_409 : Index := 0#32
  let c2_i32_407 : BitVec 32 := 2#32
  let c0_i32_46 : BitVec 32 := 0#32
  let c1_i32_48 : BitVec 32 := 1#32
  let arg25 : BitVec 32 := Scf.iv c0_i32_46 c1_i32_48 k0_t6
  let v883 : BitVec 32 := Scalar.muli c2_i32_407 arg25
  let c1_i32_408 : BitVec 32 := 1#32
  let v884 : BitVec 32 := Scalar.addi v883 c1_i32_408
  let v885 : Index := Scalar.indexCast v884
  let c0_410 : Index := 0#32
  let c0_411 : Index := 0#32
  let c0_412 : Index := 0#32
  ![0, v885.toNat, 0, 0, 0]
def k0_off189 (i : grid0.Coords) (k0_t6 : Fin k0_t6_loop.trips) : Fin 4 → Nat :=
  let c2_i32_407 : BitVec 32 := 2#32
  let c0_i32_46 : BitVec 32 := 0#32
  let c1_i32_48 : BitVec 32 := 1#32
  let arg25 : BitVec 32 := Scf.iv c0_i32_46 c1_i32_48 k0_t6
  let v883 : BitVec 32 := Scalar.muli c2_i32_407 arg25
  let c1_i32_408 : BitVec 32 := 1#32
  let v884 : BitVec 32 := Scalar.addi v883 c1_i32_408
  let v891 : Index := Scalar.indexCast v884
  let c0_413 : Index := 0#32
  let arg1 : BitVec 32 := BitVec.ofNat 32 (i 1).val
  let c256_i32_27 : BitVec 32 := 256#32
  let v82 : BitVec 32 := Scalar.muli arg1 c256_i32_27
  let v83 : BitVec 32 := v82
  let v892 : Index := Scalar.indexCast v83
  let c0_414 : Index := 0#32
  ![v891.toNat, 0, v892.toNat, 0]
def k0_off190 (k0_t6 : Fin k0_t6_loop.trips) : Fin 4 → Nat :=
  let c0_415 : Index := 0#32
  let c2_i32_407 : BitVec 32 := 2#32
  let c0_i32_46 : BitVec 32 := 0#32
  let c1_i32_48 : BitVec 32 := 1#32
  let arg25 : BitVec 32 := Scf.iv c0_i32_46 c1_i32_48 k0_t6
  let v883 : BitVec 32 := Scalar.muli c2_i32_407 arg25
  let c1_i32_408 : BitVec 32 := 1#32
  let v884 : BitVec 32 := Scalar.addi v883 c1_i32_408
  let v896 : Index := Scalar.indexCast v884
  let c0_416 : Index := 0#32
  let c0_417 : Index := 0#32
  ![0, v896.toNat, 0, 0]
def k0_off191 (i : grid0.Coords) (k0_t6 : Fin k0_t6_loop.trips) : Fin 4 → Nat :=
  let c2_i32_407 : BitVec 32 := 2#32
  let c0_i32_46 : BitVec 32 := 0#32
  let c1_i32_48 : BitVec 32 := 1#32
  let arg25 : BitVec 32 := Scf.iv c0_i32_46 c1_i32_48 k0_t6
  let v883 : BitVec 32 := Scalar.muli c2_i32_407 arg25
  let c1_i32_408 : BitVec 32 := 1#32
  let v884 : BitVec 32 := Scalar.addi v883 c1_i32_408
  let v908 : Index := Scalar.indexCast v884
  let c0_418 : Index := 0#32
  let arg1 : BitVec 32 := BitVec.ofNat 32 (i 1).val
  let c256_i32_27 : BitVec 32 := 256#32
  let v82 : BitVec 32 := Scalar.muli arg1 c256_i32_27
  let v83 : BitVec 32 := v82
  let v909 : Index := Scalar.indexCast v83
  let c0_419 : Index := 0#32
  ![v908.toNat, 0, v909.toNat, 0]
def k0_off192 (k0_t6 : Fin k0_t6_loop.trips) : Fin 5 → Nat :=
  let c0_420 : Index := 0#32
  let c2_i32_407 : BitVec 32 := 2#32
  let c0_i32_46 : BitVec 32 := 0#32
  let c1_i32_48 : BitVec 32 := 1#32
  let arg25 : BitVec 32 := Scf.iv c0_i32_46 c1_i32_48 k0_t6
  let v883 : BitVec 32 := Scalar.muli c2_i32_407 arg25
  let c1_i32_408 : BitVec 32 := 1#32
  let v884 : BitVec 32 := Scalar.addi v883 c1_i32_408
  let v913 : Index := Scalar.indexCast v884
  let c1_421 : Index := 1#32
  let c0_422 : Index := 0#32
  let c0_423 : Index := 0#32
  ![0, v913.toNat, 1, 0, 0]
def k0_off193 (i : grid0.Coords) (k0_t6 : Fin k0_t6_loop.trips) : Fin 4 → Nat :=
  let c2_i32_407 : BitVec 32 := 2#32
  let c0_i32_46 : BitVec 32 := 0#32
  let c1_i32_48 : BitVec 32 := 1#32
  let arg25 : BitVec 32 := Scf.iv c0_i32_46 c1_i32_48 k0_t6
  let v883 : BitVec 32 := Scalar.muli c2_i32_407 arg25
  let c1_i32_408 : BitVec 32 := 1#32
  let v884 : BitVec 32 := Scalar.addi v883 c1_i32_408
  let v919 : Index := Scalar.indexCast v884
  let c1_424 : Index := 1#32
  let arg1 : BitVec 32 := BitVec.ofNat 32 (i 1).val
  let c256_i32_27 : BitVec 32 := 256#32
  let v82 : BitVec 32 := Scalar.muli arg1 c256_i32_27
  let v83 : BitVec 32 := v82
  let v920 : Index := Scalar.indexCast v83
  let c0_425 : Index := 0#32
  ![v919.toNat, 1, v920.toNat, 0]
def k0_off194 (k0_t6 : Fin k0_t6_loop.trips) : Fin 4 → Nat :=
  let c0_426 : Index := 0#32
  let c2_i32_407 : BitVec 32 := 2#32
  let c0_i32_46 : BitVec 32 := 0#32
  let c1_i32_48 : BitVec 32 := 1#32
  let arg25 : BitVec 32 := Scf.iv c0_i32_46 c1_i32_48 k0_t6
  let v883 : BitVec 32 := Scalar.muli c2_i32_407 arg25
  let c1_i32_408 : BitVec 32 := 1#32
  let v884 : BitVec 32 := Scalar.addi v883 c1_i32_408
  let v924 : Index := Scalar.indexCast v884
  let c1_427 : Index := 1#32
  let c0_428 : Index := 0#32
  ![0, v924.toNat, 1, 0]
def k0_off195 (i : grid0.Coords) (k0_t6 : Fin k0_t6_loop.trips) : Fin 4 → Nat :=
  let c2_i32_407 : BitVec 32 := 2#32
  let c0_i32_46 : BitVec 32 := 0#32
  let c1_i32_48 : BitVec 32 := 1#32
  let arg25 : BitVec 32 := Scf.iv c0_i32_46 c1_i32_48 k0_t6
  let v883 : BitVec 32 := Scalar.muli c2_i32_407 arg25
  let c1_i32_408 : BitVec 32 := 1#32
  let v884 : BitVec 32 := Scalar.addi v883 c1_i32_408
  let v936 : Index := Scalar.indexCast v884
  let c1_429 : Index := 1#32
  let arg1 : BitVec 32 := BitVec.ofNat 32 (i 1).val
  let c256_i32_27 : BitVec 32 := 256#32
  let v82 : BitVec 32 := Scalar.muli arg1 c256_i32_27
  let v83 : BitVec 32 := v82
  let v937 : Index := Scalar.indexCast v83
  let c0_430 : Index := 0#32
  ![v936.toNat, 1, v937.toNat, 0]
def k0_off196 (k0_t6 : Fin k0_t6_loop.trips) : Fin 4 → Nat :=
  let c0_431 : Index := 0#32
  let c2_i32_407 : BitVec 32 := 2#32
  let c0_i32_46 : BitVec 32 := 0#32
  let c1_i32_48 : BitVec 32 := 1#32
  let arg25 : BitVec 32 := Scf.iv c0_i32_46 c1_i32_48 k0_t6
  let v883 : BitVec 32 := Scalar.muli c2_i32_407 arg25
  let c1_i32_408 : BitVec 32 := 1#32
  let v884 : BitVec 32 := Scalar.addi v883 c1_i32_408
  let v941 : Index := Scalar.indexCast v884
  let c0_432 : Index := 0#32
  let c0_433 : Index := 0#32
  ![0, v941.toNat, 0, 0]
def k0_off197 (i : grid0.Coords) (k0_t6 : Fin k0_t6_loop.trips) : Fin 3 → Nat :=
  let c2_i32_407 : BitVec 32 := 2#32
  let c0_i32_46 : BitVec 32 := 0#32
  let c1_i32_48 : BitVec 32 := 1#32
  let arg25 : BitVec 32 := Scf.iv c0_i32_46 c1_i32_48 k0_t6
  let v883 : BitVec 32 := Scalar.muli c2_i32_407 arg25
  let c1_i32_408 : BitVec 32 := 1#32
  let v884 : BitVec 32 := Scalar.addi v883 c1_i32_408
  let v945 : Index := Scalar.indexCast v884
  let c0_434 : Index := 0#32
  let arg1 : BitVec 32 := BitVec.ofNat 32 (i 1).val
  let c256_i32_27 : BitVec 32 := 256#32
  let v82 : BitVec 32 := Scalar.muli arg1 c256_i32_27
  let v83 : BitVec 32 := v82
  let v946 : Index := Scalar.indexCast v83
  ![v945.toNat, 0, v946.toNat]
def k0_mult115 (i : grid0.Coords) : BitVec 32 :=
  let arg1 : BitVec 32 := BitVec.ofNat 32 (i 1).val
  let c5_i32_441 : BitVec 32 := 5#32
  let v957 : BitVec 32 := Scalar.subi arg1 c5_i32_441
  let c0_i32_442 : BitVec 32 := 0#32
  let v958 : BitVec 32 := Scalar.addi v957 c0_i32_442
  let c256_i32_443 : BitVec 32 := 256#32
  let v959 : BitVec 32 := Scalar.muli v958 c256_i32_443
  v959
def k0_off198 (i : grid0.Coords) (k0_t6 : Fin k0_t6_loop.trips) (c0_i32_442 : BitVec 32) : Fin 4 → Nat :=
  let c2_i32_407 : BitVec 32 := 2#32
  let c0_i32_46 : BitVec 32 := 0#32
  let c1_i32_48 : BitVec 32 := 1#32
  let arg25 : BitVec 32 := Scf.iv c0_i32_46 c1_i32_48 k0_t6
  let v883 : BitVec 32 := Scalar.muli c2_i32_407 arg25
  let c1_i32_408 : BitVec 32 := 1#32
  let v884 : BitVec 32 := Scalar.addi v883 c1_i32_408
  let v961 : Index := Scalar.indexCast v884
  let c0_444 : Index := 0#32
  let arg1 : BitVec 32 := BitVec.ofNat 32 (i 1).val
  let c5_i32_441 : BitVec 32 := 5#32
  let v957 : BitVec 32 := Scalar.subi arg1 c5_i32_441
  let v958 : BitVec 32 := Scalar.addi v957 c0_i32_442
  let c256_i32_443 : BitVec 32 := 256#32
  let v959 : BitVec 32 := Scalar.muli v958 c256_i32_443
  let v960 : BitVec 32 := v959
  let v962 : Index := Scalar.indexCast v960
  let c0_445 : Index := 0#32
  ![v961.toNat, 0, v962.toNat, 0]
def k0_off199 (i : grid0.Coords) (k0_t6 : Fin k0_t6_loop.trips) (c0_i32_442 : BitVec 32) : Fin 4 → Nat :=
  let c2_i32_407 : BitVec 32 := 2#32
  let c0_i32_46 : BitVec 32 := 0#32
  let c1_i32_48 : BitVec 32 := 1#32
  let arg25 : BitVec 32 := Scf.iv c0_i32_46 c1_i32_48 k0_t6
  let v883 : BitVec 32 := Scalar.muli c2_i32_407 arg25
  let c1_i32_408 : BitVec 32 := 1#32
  let v884 : BitVec 32 := Scalar.addi v883 c1_i32_408
  let v969 : Index := Scalar.indexCast v884
  let c0_451 : Index := 0#32
  let arg1 : BitVec 32 := BitVec.ofNat 32 (i 1).val
  let c5_i32_441 : BitVec 32 := 5#32
  let v957 : BitVec 32 := Scalar.subi arg1 c5_i32_441
  let v958 : BitVec 32 := Scalar.addi v957 c0_i32_442
  let c256_i32_443 : BitVec 32 := 256#32
  let v959 : BitVec 32 := Scalar.muli v958 c256_i32_443
  let v960 : BitVec 32 := v959
  let v970 : Index := Scalar.indexCast v960
  let c0_452 : Index := 0#32
  ![v969.toNat, 0, v970.toNat, 0]
def k0_mult116 (i : grid0.Coords) : BitVec 32 :=
  let arg1 : BitVec 32 := BitVec.ofNat 32 (i 1).val
  let c5_i32_460 : BitVec 32 := 5#32
  let v997 : BitVec 32 := Scalar.subi arg1 c5_i32_460
  let c1_i32_461 : BitVec 32 := 1#32
  let v998 : BitVec 32 := Scalar.addi v997 c1_i32_461
  let c256_i32_462 : BitVec 32 := 256#32
  let v999 : BitVec 32 := Scalar.muli v998 c256_i32_462
  v999
def k0_mult117 (i : grid0.Coords) : BitVec 32 :=
  let arg1 : BitVec 32 := BitVec.ofNat 32 (i 1).val
  let c5_i32_477 : BitVec 32 := 5#32
  let v1034 : BitVec 32 := Scalar.subi arg1 c5_i32_477
  let c2_i32_478 : BitVec 32 := 2#32
  let v1035 : BitVec 32 := Scalar.addi v1034 c2_i32_478
  let c256_i32_479 : BitVec 32 := 256#32
  let v1036 : BitVec 32 := Scalar.muli v1035 c256_i32_479
  v1036
def k0_mult118 (i : grid0.Coords) : BitVec 32 :=
  let arg1 : BitVec 32 := BitVec.ofNat 32 (i 1).val
  let c5_i32_494 : BitVec 32 := 5#32
  let v1071 : BitVec 32 := Scalar.subi arg1 c5_i32_494
  let c3_i32_495 : BitVec 32 := 3#32
  let v1072 : BitVec 32 := Scalar.addi v1071 c3_i32_495
  let c256_i32_496 : BitVec 32 := 256#32
  let v1073 : BitVec 32 := Scalar.muli v1072 c256_i32_496
  v1073
def k0_mult119 (i : grid0.Coords) : BitVec 32 :=
  let arg1 : BitVec 32 := BitVec.ofNat 32 (i 1).val
  let c5_i32_511 : BitVec 32 := 5#32
  let v1108 : BitVec 32 := Scalar.subi arg1 c5_i32_511
  let c4_i32_512 : BitVec 32 := 4#32
  let v1109 : BitVec 32 := Scalar.addi v1108 c4_i32_512
  let c256_i32_513 : BitVec 32 := 256#32
  let v1110 : BitVec 32 := Scalar.muli v1109 c256_i32_513
  v1110
def k0_mult120 (i : grid0.Coords) : BitVec 32 :=
  let arg1 : BitVec 32 := BitVec.ofNat 32 (i 1).val
  let c5_i32_528 : BitVec 32 := 5#32
  let v1145 : BitVec 32 := Scalar.subi arg1 c5_i32_528
  let c5_i32_529 : BitVec 32 := 5#32
  let v1146 : BitVec 32 := Scalar.addi v1145 c5_i32_529
  let c256_i32_530 : BitVec 32 := 256#32
  let v1147 : BitVec 32 := Scalar.muli v1146 c256_i32_530
  v1147
def k0_mult121 (i : grid0.Coords) : BitVec 32 :=
  let arg1 : BitVec 32 := BitVec.ofNat 32 (i 1).val
  let c5_i32_562 : BitVec 32 := 5#32
  let v1198 : BitVec 32 := Scalar.subi arg1 c5_i32_562
  let c0_i32_563 : BitVec 32 := 0#32
  let v1199 : BitVec 32 := Scalar.addi v1198 c0_i32_563
  let c256_i32_564 : BitVec 32 := 256#32
  let v1200 : BitVec 32 := Scalar.muli v1199 c256_i32_564
  v1200
def k0_off200 (i : grid0.Coords) (k0_t6 : Fin k0_t6_loop.trips) (c0_i32_563 : BitVec 32) : Fin 4 → Nat :=
  let c2_i32_407 : BitVec 32 := 2#32
  let c0_i32_46 : BitVec 32 := 0#32
  let c1_i32_48 : BitVec 32 := 1#32
  let arg25 : BitVec 32 := Scf.iv c0_i32_46 c1_i32_48 k0_t6
  let v883 : BitVec 32 := Scalar.muli c2_i32_407 arg25
  let c1_i32_408 : BitVec 32 := 1#32
  let v884 : BitVec 32 := Scalar.addi v883 c1_i32_408
  let v1202 : Index := Scalar.indexCast v884
  let c1_565 : Index := 1#32
  let arg1 : BitVec 32 := BitVec.ofNat 32 (i 1).val
  let c5_i32_562 : BitVec 32 := 5#32
  let v1198 : BitVec 32 := Scalar.subi arg1 c5_i32_562
  let v1199 : BitVec 32 := Scalar.addi v1198 c0_i32_563
  let c256_i32_564 : BitVec 32 := 256#32
  let v1200 : BitVec 32 := Scalar.muli v1199 c256_i32_564
  let v1201 : BitVec 32 := v1200
  let v1203 : Index := Scalar.indexCast v1201
  let c0_566 : Index := 0#32
  ![v1202.toNat, 1, v1203.toNat, 0]
def k0_off201 (i : grid0.Coords) (k0_t6 : Fin k0_t6_loop.trips) (c0_i32_563 : BitVec 32) : Fin 4 → Nat :=
  let c2_i32_407 : BitVec 32 := 2#32
  let c0_i32_46 : BitVec 32 := 0#32
  let c1_i32_48 : BitVec 32 := 1#32
  let arg25 : BitVec 32 := Scf.iv c0_i32_46 c1_i32_48 k0_t6
  let v883 : BitVec 32 := Scalar.muli c2_i32_407 arg25
  let c1_i32_408 : BitVec 32 := 1#32
  let v884 : BitVec 32 := Scalar.addi v883 c1_i32_408
  let v1210 : Index := Scalar.indexCast v884
  let c1_572 : Index := 1#32
  let arg1 : BitVec 32 := BitVec.ofNat 32 (i 1).val
  let c5_i32_562 : BitVec 32 := 5#32
  let v1198 : BitVec 32 := Scalar.subi arg1 c5_i32_562
  let v1199 : BitVec 32 := Scalar.addi v1198 c0_i32_563
  let c256_i32_564 : BitVec 32 := 256#32
  let v1200 : BitVec 32 := Scalar.muli v1199 c256_i32_564
  let v1201 : BitVec 32 := v1200
  let v1211 : Index := Scalar.indexCast v1201
  let c0_573 : Index := 0#32
  ![v1210.toNat, 1, v1211.toNat, 0]
def k0_mult122 (i : grid0.Coords) : BitVec 32 :=
  let arg1 : BitVec 32 := BitVec.ofNat 32 (i 1).val
  let c5_i32_581 : BitVec 32 := 5#32
  let v1238 : BitVec 32 := Scalar.subi arg1 c5_i32_581
  let c1_i32_582 : BitVec 32 := 1#32
  let v1239 : BitVec 32 := Scalar.addi v1238 c1_i32_582
  let c256_i32_583 : BitVec 32 := 256#32
  let v1240 : BitVec 32 := Scalar.muli v1239 c256_i32_583
  v1240
def k0_mult123 (i : grid0.Coords) : BitVec 32 :=
  let arg1 : BitVec 32 := BitVec.ofNat 32 (i 1).val
  let c5_i32_598 : BitVec 32 := 5#32
  let v1275 : BitVec 32 := Scalar.subi arg1 c5_i32_598
  let c2_i32_599 : BitVec 32 := 2#32
  let v1276 : BitVec 32 := Scalar.addi v1275 c2_i32_599
  let c256_i32_600 : BitVec 32 := 256#32
  let v1277 : BitVec 32 := Scalar.muli v1276 c256_i32_600
  v1277
def k0_mult124 (i : grid0.Coords) : BitVec 32 :=
  let arg1 : BitVec 32 := BitVec.ofNat 32 (i 1).val
  let c5_i32_615 : BitVec 32 := 5#32
  let v1312 : BitVec 32 := Scalar.subi arg1 c5_i32_615
  let c3_i32_616 : BitVec 32 := 3#32
  let v1313 : BitVec 32 := Scalar.addi v1312 c3_i32_616
  let c256_i32_617 : BitVec 32 := 256#32
  let v1314 : BitVec 32 := Scalar.muli v1313 c256_i32_617
  v1314
def k0_mult125 (i : grid0.Coords) : BitVec 32 :=
  let arg1 : BitVec 32 := BitVec.ofNat 32 (i 1).val
  let c5_i32_632 : BitVec 32 := 5#32
  let v1349 : BitVec 32 := Scalar.subi arg1 c5_i32_632
  let c4_i32_633 : BitVec 32 := 4#32
  let v1350 : BitVec 32 := Scalar.addi v1349 c4_i32_633
  let c256_i32_634 : BitVec 32 := 256#32
  let v1351 : BitVec 32 := Scalar.muli v1350 c256_i32_634
  v1351
def k0_mult126 (i : grid0.Coords) : BitVec 32 :=
  let arg1 : BitVec 32 := BitVec.ofNat 32 (i 1).val
  let c5_i32_649 : BitVec 32 := 5#32
  let v1386 : BitVec 32 := Scalar.subi arg1 c5_i32_649
  let c5_i32_650 : BitVec 32 := 5#32
  let v1387 : BitVec 32 := Scalar.addi v1386 c5_i32_650
  let c256_i32_651 : BitVec 32 := 256#32
  let v1388 : BitVec 32 := Scalar.muli v1387 c256_i32_651
  v1388
def k0_mult127 (i : grid0.Coords) : BitVec 32 :=
  let arg1 : BitVec 32 := BitVec.ofNat 32 (i 1).val
  let c5_i32_677 : BitVec 32 := 5#32
  let v1434 : BitVec 32 := Scalar.subi arg1 c5_i32_677
  let c0_i32_678 : BitVec 32 := 0#32
  let v1435 : BitVec 32 := Scalar.addi v1434 c0_i32_678
  let c256_i32_679 : BitVec 32 := 256#32
  let v1436 : BitVec 32 := Scalar.muli v1435 c256_i32_679
  v1436
def k0_off202 (i : grid0.Coords) (k0_t6 : Fin k0_t6_loop.trips) (c0_i32_678 : BitVec 32) : Fin 3 → Nat :=
  let c2_i32_407 : BitVec 32 := 2#32
  let c0_i32_46 : BitVec 32 := 0#32
  let c1_i32_48 : BitVec 32 := 1#32
  let arg25 : BitVec 32 := Scf.iv c0_i32_46 c1_i32_48 k0_t6
  let v883 : BitVec 32 := Scalar.muli c2_i32_407 arg25
  let c1_i32_408 : BitVec 32 := 1#32
  let v884 : BitVec 32 := Scalar.addi v883 c1_i32_408
  let v1457 : Index := Scalar.indexCast v884
  let c0_688 : Index := 0#32
  let arg1 : BitVec 32 := BitVec.ofNat 32 (i 1).val
  let c5_i32_677 : BitVec 32 := 5#32
  let v1434 : BitVec 32 := Scalar.subi arg1 c5_i32_677
  let v1435 : BitVec 32 := Scalar.addi v1434 c0_i32_678
  let c256_i32_679 : BitVec 32 := 256#32
  let v1436 : BitVec 32 := Scalar.muli v1435 c256_i32_679
  let v1437 : BitVec 32 := v1436
  let v1458 : Index := Scalar.indexCast v1437
  ![v1457.toNat, 0, v1458.toNat]
def k0_mult128 (i : grid0.Coords) : BitVec 32 :=
  let arg1 : BitVec 32 := BitVec.ofNat 32 (i 1).val
  let c5_i32_690 : BitVec 32 := 5#32
  let v1462 : BitVec 32 := Scalar.subi arg1 c5_i32_690
  let c1_i32_691 : BitVec 32 := 1#32
  let v1463 : BitVec 32 := Scalar.addi v1462 c1_i32_691
  let c256_i32_692 : BitVec 32 := 256#32
  let v1464 : BitVec 32 := Scalar.muli v1463 c256_i32_692
  v1464
def k0_mult129 (i : grid0.Coords) : BitVec 32 :=
  let arg1 : BitVec 32 := BitVec.ofNat 32 (i 1).val
  let c5_i32_703 : BitVec 32 := 5#32
  let v1491 : BitVec 32 := Scalar.subi arg1 c5_i32_703
  let c2_i32_704 : BitVec 32 := 2#32
  let v1492 : BitVec 32 := Scalar.addi v1491 c2_i32_704
  let c256_i32_705 : BitVec 32 := 256#32
  let v1493 : BitVec 32 := Scalar.muli v1492 c256_i32_705
  v1493
def k0_mult130 (i : grid0.Coords) : BitVec 32 :=
  let arg1 : BitVec 32 := BitVec.ofNat 32 (i 1).val
  let c5_i32_716 : BitVec 32 := 5#32
  let v1520 : BitVec 32 := Scalar.subi arg1 c5_i32_716
  let c3_i32_717 : BitVec 32 := 3#32
  let v1521 : BitVec 32 := Scalar.addi v1520 c3_i32_717
  let c256_i32_718 : BitVec 32 := 256#32
  let v1522 : BitVec 32 := Scalar.muli v1521 c256_i32_718
  v1522
def k0_mult131 (i : grid0.Coords) : BitVec 32 :=
  let arg1 : BitVec 32 := BitVec.ofNat 32 (i 1).val
  let c5_i32_729 : BitVec 32 := 5#32
  let v1549 : BitVec 32 := Scalar.subi arg1 c5_i32_729
  let c4_i32_730 : BitVec 32 := 4#32
  let v1550 : BitVec 32 := Scalar.addi v1549 c4_i32_730
  let c256_i32_731 : BitVec 32 := 256#32
  let v1551 : BitVec 32 := Scalar.muli v1550 c256_i32_731
  v1551
def k0_mult132 (i : grid0.Coords) : BitVec 32 :=
  let arg1 : BitVec 32 := BitVec.ofNat 32 (i 1).val
  let c5_i32_742 : BitVec 32 := 5#32
  let v1578 : BitVec 32 := Scalar.subi arg1 c5_i32_742
  let c5_i32_743 : BitVec 32 := 5#32
  let v1579 : BitVec 32 := Scalar.addi v1578 c5_i32_743
  let c256_i32_744 : BitVec 32 := 256#32
  let v1580 : BitVec 32 := Scalar.muli v1579 c256_i32_744
  v1580
def k0_off203 (k0_t6 : Fin k0_t6_loop.trips) : Fin 3 → Nat :=
  let c2_i32_407 : BitVec 32 := 2#32
  let c0_i32_46 : BitVec 32 := 0#32
  let c1_i32_48 : BitVec 32 := 1#32
  let arg25 : BitVec 32 := Scf.iv c0_i32_46 c1_i32_48 k0_t6
  let v883 : BitVec 32 := Scalar.muli c2_i32_407 arg25
  let c1_i32_408 : BitVec 32 := 1#32
  let v884 : BitVec 32 := Scalar.addi v883 c1_i32_408
  let v1599 : Index := Scalar.indexCast v884
  let c0_753 : Index := 0#32
  let c0_754 : Index := 0#32
  ![v1599.toNat, 0, 0]
def k0_mult133 (k0_t6 : Fin k0_t6_loop.trips) : BitVec 32 :=
  let c0_i32_46 : BitVec 32 := 0#32
  let c1_i32_48 : BitVec 32 := 1#32
  let arg25 : BitVec 32 := Scf.iv c0_i32_46 c1_i32_48 k0_t6
  let c2_i32_770 : BitVec 32 := 2#32
  let v1642 : BitVec 32 := Scalar.muli arg25 c2_i32_770
  let c320_i32 : BitVec 32 := 320#32
  let v1643 : BitVec 32 := Scalar.muli v1642 c320_i32
  v1643
def k0_off204 (k0_t6 : Fin k0_t6_loop.trips) : Fin 3 → Nat :=
  let c0_773 : Index := 0#32
  let c0_774 : Index := 0#32
  let c0_i32_46 : BitVec 32 := 0#32
  let c1_i32_48 : BitVec 32 := 1#32
  let arg25 : BitVec 32 := Scf.iv c0_i32_46 c1_i32_48 k0_t6
  let c2_i32_770 : BitVec 32 := 2#32
  let v1642 : BitVec 32 := Scalar.muli arg25 c2_i32_770
  let c320_i32 : BitVec 32 := 320#32
  let v1643 : BitVec 32 := Scalar.muli v1642 c320_i32
  let v1644 : BitVec 32 := v1643
  let v1647 : Index := Scalar.indexCast v1644
  ![0, 0, v1647.toNat]
@[reducible] def k0_t7_loop : Scf.Loop 32 :=
  let c0_i32_46 : BitVec 32 := 0#32
  let c3_i32_47 : BitVec 32 := 3#32
  let v124 : BitVec 32 := Scalar.addi c0_i32_46 c3_i32_47
  let c1_i32_48 : BitVec 32 := 1#32
  ⟨c0_i32_46, v124, c1_i32_48⟩
def k0_off205 (k0_t7 : Fin k0_t7_loop.trips) : Fin 5 → Nat :=
  let c0_51 : Index := 0#32
  let c2_i32_50 : BitVec 32 := 2#32
  let c0_i32_46 : BitVec 32 := 0#32
  let c1_i32_48 : BitVec 32 := 1#32
  let arg25 : BitVec 32 := Scf.iv c0_i32_46 c1_i32_48 k0_t7
  let v125 : BitVec 32 := Scalar.muli c2_i32_50 arg25
  let v126 : Index := Scalar.indexCast v125
  let c0_52 : Index := 0#32
  let c0_53 : Index := 0#32
  let c0_54 : Index := 0#32
  ![0, v126.toNat, 0, 0, 0]
def k0_off206 (i : grid0.Coords) (k0_t7 : Fin k0_t7_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t7
  let v125 : BitVec 32 := Scalar.muli c2_i32_50 arg25
  let v132 : Index := Scalar.indexCast v125
  let c0_55 : Index := 0#32
  let arg1 : BitVec 32 := BitVec.ofNat 32 (i 1).val
  let c256_i32_27 : BitVec 32 := 256#32
  let v82 : BitVec 32 := Scalar.muli arg1 c256_i32_27
  let v83 : BitVec 32 := v82
  let v133 : Index := Scalar.indexCast v83
  let c0_56 : Index := 0#32
  ![v132.toNat, 0, v133.toNat, 0]
def k0_off207 (k0_t7 : Fin k0_t7_loop.trips) : Fin 4 → Nat :=
  let c0_57 : Index := 0#32
  let c2_i32_50 : BitVec 32 := 2#32
  let c0_i32_46 : BitVec 32 := 0#32
  let c1_i32_48 : BitVec 32 := 1#32
  let arg25 : BitVec 32 := Scf.iv c0_i32_46 c1_i32_48 k0_t7
  let v125 : BitVec 32 := Scalar.muli c2_i32_50 arg25
  let v137 : Index := Scalar.indexCast v125
  let c0_58 : Index := 0#32
  let c0_59 : Index := 0#32
  ![0, v137.toNat, 0, 0]
def k0_off208 (i : grid0.Coords) (k0_t7 : Fin k0_t7_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t7
  let v125 : BitVec 32 := Scalar.muli c2_i32_50 arg25
  let v149 : Index := Scalar.indexCast v125
  let c0_60 : Index := 0#32
  let arg1 : BitVec 32 := BitVec.ofNat 32 (i 1).val
  let c256_i32_27 : BitVec 32 := 256#32
  let v82 : BitVec 32 := Scalar.muli arg1 c256_i32_27
  let v83 : BitVec 32 := v82
  let v150 : Index := Scalar.indexCast v83
  let c0_61 : Index := 0#32
  ![v149.toNat, 0, v150.toNat, 0]
def k0_off209 (k0_t7 : Fin k0_t7_loop.trips) : Fin 5 → Nat :=
  let c0_62 : Index := 0#32
  let c2_i32_50 : BitVec 32 := 2#32
  let c0_i32_46 : BitVec 32 := 0#32
  let c1_i32_48 : BitVec 32 := 1#32
  let arg25 : BitVec 32 := Scf.iv c0_i32_46 c1_i32_48 k0_t7
  let v125 : BitVec 32 := Scalar.muli c2_i32_50 arg25
  let v154 : Index := Scalar.indexCast v125
  let c1 : Index := 1#32
  let c0_63 : Index := 0#32
  let c0_64 : Index := 0#32
  ![0, v154.toNat, 1, 0, 0]
def k0_off210 (i : grid0.Coords) (k0_t7 : Fin k0_t7_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t7
  let v125 : BitVec 32 := Scalar.muli c2_i32_50 arg25
  let v160 : Index := Scalar.indexCast v125
  let c1_65 : Index := 1#32
  let arg1 : BitVec 32 := BitVec.ofNat 32 (i 1).val
  let c256_i32_27 : BitVec 32 := 256#32
  let v82 : BitVec 32 := Scalar.muli arg1 c256_i32_27
  let v83 : BitVec 32 := v82
  let v161 : Index := Scalar.indexCast v83
  let c0_66 : Index := 0#32
  ![v160.toNat, 1, v161.toNat, 0]
def k0_off211 (k0_t7 : Fin k0_t7_loop.trips) : Fin 4 → Nat :=
  let c0_67 : Index := 0#32
  let c2_i32_50 : BitVec 32 := 2#32
  let c0_i32_46 : BitVec 32 := 0#32
  let c1_i32_48 : BitVec 32 := 1#32
  let arg25 : BitVec 32 := Scf.iv c0_i32_46 c1_i32_48 k0_t7
  let v125 : BitVec 32 := Scalar.muli c2_i32_50 arg25
  let v165 : Index := Scalar.indexCast v125
  let c1_68 : Index := 1#32
  let c0_69 : Index := 0#32
  ![0, v165.toNat, 1, 0]
def k0_off212 (i : grid0.Coords) (k0_t7 : Fin k0_t7_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t7
  let v125 : BitVec 32 := Scalar.muli c2_i32_50 arg25
  let v177 : Index := Scalar.indexCast v125
  let c1_70 : Index := 1#32
  let arg1 : BitVec 32 := BitVec.ofNat 32 (i 1).val
  let c256_i32_27 : BitVec 32 := 256#32
  let v82 : BitVec 32 := Scalar.muli arg1 c256_i32_27
  let v83 : BitVec 32 := v82
  let v178 : Index := Scalar.indexCast v83
  let c0_71 : Index := 0#32
  ![v177.toNat, 1, v178.toNat, 0]
def k0_off213 (k0_t7 : Fin k0_t7_loop.trips) : Fin 4 → Nat :=
  let c0_72 : Index := 0#32
  let c2_i32_50 : BitVec 32 := 2#32
  let c0_i32_46 : BitVec 32 := 0#32
  let c1_i32_48 : BitVec 32 := 1#32
  let arg25 : BitVec 32 := Scf.iv c0_i32_46 c1_i32_48 k0_t7
  let v125 : BitVec 32 := Scalar.muli c2_i32_50 arg25
  let v182 : Index := Scalar.indexCast v125
  let c0_73 : Index := 0#32
  let c0_74 : Index := 0#32
  ![0, v182.toNat, 0, 0]
def k0_off214 (i : grid0.Coords) (k0_t7 : Fin k0_t7_loop.trips) : Fin 3 → Nat :=
  let c2_i32_50 : BitVec 32 := 2#32
  let c0_i32_46 : BitVec 32 := 0#32
  let c1_i32_48 : BitVec 32 := 1#32
  let arg25 : BitVec 32 := Scf.iv c0_i32_46 c1_i32_48 k0_t7
  let v125 : BitVec 32 := Scalar.muli c2_i32_50 arg25
  let v186 : Index := Scalar.indexCast v125
  let c0_75 : Index := 0#32
  let arg1 : BitVec 32 := BitVec.ofNat 32 (i 1).val
  let c256_i32_27 : BitVec 32 := 256#32
  let v82 : BitVec 32 := Scalar.muli arg1 c256_i32_27
  let v83 : BitVec 32 := v82
  let v187 : Index := Scalar.indexCast v83
  ![v186.toNat, 0, v187.toNat]
def k0_mult134 (i : grid0.Coords) : BitVec 32 :=
  let arg1 : BitVec 32 := BitVec.ofNat 32 (i 1).val
  let c6_i32_82 : BitVec 32 := 6#32
  let v198 : BitVec 32 := Scalar.subi arg1 c6_i32_82
  let c0_i32_83 : BitVec 32 := 0#32
  let v199 : BitVec 32 := Scalar.addi v198 c0_i32_83
  let c256_i32_84 : BitVec 32 := 256#32
  let v200 : BitVec 32 := Scalar.muli v199 c256_i32_84
  v200
def k0_off215 (i : grid0.Coords) (k0_t7 : Fin k0_t7_loop.trips) (c0_i32_83 : BitVec 32) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t7
  let v125 : BitVec 32 := Scalar.muli c2_i32_50 arg25
  let v202 : Index := Scalar.indexCast v125
  let c0_85 : Index := 0#32
  let arg1 : BitVec 32 := BitVec.ofNat 32 (i 1).val
  let c6_i32_82 : BitVec 32 := 6#32
  let v198 : BitVec 32 := Scalar.subi arg1 c6_i32_82
  let v199 : BitVec 32 := Scalar.addi v198 c0_i32_83
  let c256_i32_84 : BitVec 32 := 256#32
  let v200 : BitVec 32 := Scalar.muli v199 c256_i32_84
  let v201 : BitVec 32 := v200
  let v203 : Index := Scalar.indexCast v201
  let c0_86 : Index := 0#32
  ![v202.toNat, 0, v203.toNat, 0]
def k0_cond7 (i : grid0.Coords) (v2 : BitVec 32) : BitVec 1 :=
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let c7_i32 : BitVec 32 := 7#32
  let v102 : BitVec 1 := Scalar.cmpi .eq v21 c7_i32
  let v103 : BitVec 32 := Scalar.extui v102
  let c0_i32_35 : BitVec 32 := 0#32
  let v104 : BitVec 1 := Scalar.cmpi .ne v103 c0_i32_35
  v104

def k0_off216 (i : grid0.Coords) (k0_t7 : Fin k0_t7_loop.trips) (c0_i32_83 : BitVec 32) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t7
  let v125 : BitVec 32 := Scalar.muli c2_i32_50 arg25
  let v210 : Index := Scalar.indexCast v125
  let c0_92 : Index := 0#32
  let arg1 : BitVec 32 := BitVec.ofNat 32 (i 1).val
  let c6_i32_82 : BitVec 32 := 6#32
  let v198 : BitVec 32 := Scalar.subi arg1 c6_i32_82
  let v199 : BitVec 32 := Scalar.addi v198 c0_i32_83
  let c256_i32_84 : BitVec 32 := 256#32
  let v200 : BitVec 32 := Scalar.muli v199 c256_i32_84
  let v201 : BitVec 32 := v200
  let v211 : Index := Scalar.indexCast v201
  let c0_93 : Index := 0#32
  ![v210.toNat, 0, v211.toNat, 0]
def k0_off217 (i : grid0.Coords) (c0_i32_83 : BitVec 32) : Fin 2 → Nat :=
  let arg0 : BitVec 32 := BitVec.ofNat 32 (i 0).val
  let v227 : Index := Scalar.indexCast arg0
  let arg1 : BitVec 32 := BitVec.ofNat 32 (i 1).val
  let c6_i32_82 : BitVec 32 := 6#32
  let v198 : BitVec 32 := Scalar.subi arg1 c6_i32_82
  let v199 : BitVec 32 := Scalar.addi v198 c0_i32_83
  let v228 : Index := Scalar.indexCast v199
  ![v227.toNat, v228.toNat]
def k0_mult135 (i : grid0.Coords) : BitVec 32 :=
  let arg1 : BitVec 32 := BitVec.ofNat 32 (i 1).val
  let c6_i32_101 : BitVec 32 := 6#32
  let v238 : BitVec 32 := Scalar.subi arg1 c6_i32_101
  let c1_i32_102 : BitVec 32 := 1#32
  let v239 : BitVec 32 := Scalar.addi v238 c1_i32_102
  let c256_i32_103 : BitVec 32 := 256#32
  let v240 : BitVec 32 := Scalar.muli v239 c256_i32_103
  v240
def k0_mult136 (i : grid0.Coords) : BitVec 32 :=
  let arg1 : BitVec 32 := BitVec.ofNat 32 (i 1).val
  let c6_i32_117 : BitVec 32 := 6#32
  let v275 : BitVec 32 := Scalar.subi arg1 c6_i32_117
  let c2_i32_118 : BitVec 32 := 2#32
  let v276 : BitVec 32 := Scalar.addi v275 c2_i32_118
  let c256_i32_119 : BitVec 32 := 256#32
  let v277 : BitVec 32 := Scalar.muli v276 c256_i32_119
  v277
def k0_mult137 (i : grid0.Coords) : BitVec 32 :=
  let arg1 : BitVec 32 := BitVec.ofNat 32 (i 1).val
  let c6_i32_133 : BitVec 32 := 6#32
  let v312 : BitVec 32 := Scalar.subi arg1 c6_i32_133
  let c3_i32_134 : BitVec 32 := 3#32
  let v313 : BitVec 32 := Scalar.addi v312 c3_i32_134
  let c256_i32_135 : BitVec 32 := 256#32
  let v314 : BitVec 32 := Scalar.muli v313 c256_i32_135
  v314
def k0_mult138 (i : grid0.Coords) : BitVec 32 :=
  let arg1 : BitVec 32 := BitVec.ofNat 32 (i 1).val
  let c6_i32_149 : BitVec 32 := 6#32
  let v349 : BitVec 32 := Scalar.subi arg1 c6_i32_149
  let c4_i32_150 : BitVec 32 := 4#32
  let v350 : BitVec 32 := Scalar.addi v349 c4_i32_150
  let c256_i32_151 : BitVec 32 := 256#32
  let v351 : BitVec 32 := Scalar.muli v350 c256_i32_151
  v351
def k0_mult139 (i : grid0.Coords) : BitVec 32 :=
  let arg1 : BitVec 32 := BitVec.ofNat 32 (i 1).val
  let c6_i32_165 : BitVec 32 := 6#32
  let v386 : BitVec 32 := Scalar.subi arg1 c6_i32_165
  let c5_i32_166 : BitVec 32 := 5#32
  let v387 : BitVec 32 := Scalar.addi v386 c5_i32_166
  let c256_i32_167 : BitVec 32 := 256#32
  let v388 : BitVec 32 := Scalar.muli v387 c256_i32_167
  v388
def k0_mult140 (i : grid0.Coords) : BitVec 32 :=
  let arg1 : BitVec 32 := BitVec.ofNat 32 (i 1).val
  let c6_i32_181 : BitVec 32 := 6#32
  let v423 : BitVec 32 := Scalar.subi arg1 c6_i32_181
  let c6_i32_182 : BitVec 32 := 6#32
  let v424 : BitVec 32 := Scalar.addi v423 c6_i32_182
  let c256_i32_183 : BitVec 32 := 256#32
  let v425 : BitVec 32 := Scalar.muli v424 c256_i32_183
  v425
def k0_mult141 (i : grid0.Coords) : BitVec 32 :=
  let arg1 : BitVec 32 := BitVec.ofNat 32 (i 1).val
  let c6_i32_214 : BitVec 32 := 6#32
  let v476 : BitVec 32 := Scalar.subi arg1 c6_i32_214
  let c0_i32_215 : BitVec 32 := 0#32
  let v477 : BitVec 32 := Scalar.addi v476 c0_i32_215
  let c256_i32_216 : BitVec 32 := 256#32
  let v478 : BitVec 32 := Scalar.muli v477 c256_i32_216
  v478
def k0_off218 (i : grid0.Coords) (k0_t7 : Fin k0_t7_loop.trips) (c0_i32_215 : BitVec 32) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t7
  let v125 : BitVec 32 := Scalar.muli c2_i32_50 arg25
  let v480 : Index := Scalar.indexCast v125
  let c1_217 : Index := 1#32
  let arg1 : BitVec 32 := BitVec.ofNat 32 (i 1).val
  let c6_i32_214 : BitVec 32 := 6#32
  let v476 : BitVec 32 := Scalar.subi arg1 c6_i32_214
  let v477 : BitVec 32 := Scalar.addi v476 c0_i32_215
  let c256_i32_216 : BitVec 32 := 256#32
  let v478 : BitVec 32 := Scalar.muli v477 c256_i32_216
  let v479 : BitVec 32 := v478
  let v481 : Index := Scalar.indexCast v479
  let c0_218 : Index := 0#32
  ![v480.toNat, 1, v481.toNat, 0]
def k0_off219 (i : grid0.Coords) (k0_t7 : Fin k0_t7_loop.trips) (c0_i32_215 : BitVec 32) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t7
  let v125 : BitVec 32 := Scalar.muli c2_i32_50 arg25
  let v488 : Index := Scalar.indexCast v125
  let c1_224 : Index := 1#32
  let arg1 : BitVec 32 := BitVec.ofNat 32 (i 1).val
  let c6_i32_214 : BitVec 32 := 6#32
  let v476 : BitVec 32 := Scalar.subi arg1 c6_i32_214
  let v477 : BitVec 32 := Scalar.addi v476 c0_i32_215
  let c256_i32_216 : BitVec 32 := 256#32
  let v478 : BitVec 32 := Scalar.muli v477 c256_i32_216
  let v479 : BitVec 32 := v478
  let v489 : Index := Scalar.indexCast v479
  let c0_225 : Index := 0#32
  ![v488.toNat, 1, v489.toNat, 0]
def k0_mult142 (i : grid0.Coords) : BitVec 32 :=
  let arg1 : BitVec 32 := BitVec.ofNat 32 (i 1).val
  let c6_i32_233 : BitVec 32 := 6#32
  let v516 : BitVec 32 := Scalar.subi arg1 c6_i32_233
  let c1_i32_234 : BitVec 32 := 1#32
  let v517 : BitVec 32 := Scalar.addi v516 c1_i32_234
  let c256_i32_235 : BitVec 32 := 256#32
  let v518 : BitVec 32 := Scalar.muli v517 c256_i32_235
  v518
def k0_mult143 (i : grid0.Coords) : BitVec 32 :=
  let arg1 : BitVec 32 := BitVec.ofNat 32 (i 1).val
  let c6_i32_250 : BitVec 32 := 6#32
  let v553 : BitVec 32 := Scalar.subi arg1 c6_i32_250
  let c2_i32_251 : BitVec 32 := 2#32
  let v554 : BitVec 32 := Scalar.addi v553 c2_i32_251
  let c256_i32_252 : BitVec 32 := 256#32
  let v555 : BitVec 32 := Scalar.muli v554 c256_i32_252
  v555
def k0_mult144 (i : grid0.Coords) : BitVec 32 :=
  let arg1 : BitVec 32 := BitVec.ofNat 32 (i 1).val
  let c6_i32_267 : BitVec 32 := 6#32
  let v590 : BitVec 32 := Scalar.subi arg1 c6_i32_267
  let c3_i32_268 : BitVec 32 := 3#32
  let v591 : BitVec 32 := Scalar.addi v590 c3_i32_268
  let c256_i32_269 : BitVec 32 := 256#32
  let v592 : BitVec 32 := Scalar.muli v591 c256_i32_269
  v592
def k0_mult145 (i : grid0.Coords) : BitVec 32 :=
  let arg1 : BitVec 32 := BitVec.ofNat 32 (i 1).val
  let c6_i32_284 : BitVec 32 := 6#32
  let v627 : BitVec 32 := Scalar.subi arg1 c6_i32_284
  let c4_i32_285 : BitVec 32 := 4#32
  let v628 : BitVec 32 := Scalar.addi v627 c4_i32_285
  let c256_i32_286 : BitVec 32 := 256#32
  let v629 : BitVec 32 := Scalar.muli v628 c256_i32_286
  v629
def k0_mult146 (i : grid0.Coords) : BitVec 32 :=
  let arg1 : BitVec 32 := BitVec.ofNat 32 (i 1).val
  let c6_i32_301 : BitVec 32 := 6#32
  let v664 : BitVec 32 := Scalar.subi arg1 c6_i32_301
  let c5_i32_302 : BitVec 32 := 5#32
  let v665 : BitVec 32 := Scalar.addi v664 c5_i32_302
  let c256_i32_303 : BitVec 32 := 256#32
  let v666 : BitVec 32 := Scalar.muli v665 c256_i32_303
  v666
def k0_mult147 (i : grid0.Coords) : BitVec 32 :=
  let arg1 : BitVec 32 := BitVec.ofNat 32 (i 1).val
  let c6_i32_318 : BitVec 32 := 6#32
  let v701 : BitVec 32 := Scalar.subi arg1 c6_i32_318
  let c6_i32_319 : BitVec 32 := 6#32
  let v702 : BitVec 32 := Scalar.addi v701 c6_i32_319
  let c256_i32_320 : BitVec 32 := 256#32
  let v703 : BitVec 32 := Scalar.muli v702 c256_i32_320
  v703
def k0_mult148 (i : grid0.Coords) : BitVec 32 :=
  let arg1 : BitVec 32 := BitVec.ofNat 32 (i 1).val
  let c6_i32_346 : BitVec 32 := 6#32
  let v749 : BitVec 32 := Scalar.subi arg1 c6_i32_346
  let c0_i32_347 : BitVec 32 := 0#32
  let v750 : BitVec 32 := Scalar.addi v749 c0_i32_347
  let c256_i32_348 : BitVec 32 := 256#32
  let v751 : BitVec 32 := Scalar.muli v750 c256_i32_348
  v751
def k0_off220 (i : grid0.Coords) (k0_t7 : Fin k0_t7_loop.trips) (c0_i32_347 : BitVec 32) : Fin 3 → Nat :=
  let c2_i32_50 : BitVec 32 := 2#32
  let c0_i32_46 : BitVec 32 := 0#32
  let c1_i32_48 : BitVec 32 := 1#32
  let arg25 : BitVec 32 := Scf.iv c0_i32_46 c1_i32_48 k0_t7
  let v125 : BitVec 32 := Scalar.muli c2_i32_50 arg25
  let v772 : Index := Scalar.indexCast v125
  let c0_357 : Index := 0#32
  let arg1 : BitVec 32 := BitVec.ofNat 32 (i 1).val
  let c6_i32_346 : BitVec 32 := 6#32
  let v749 : BitVec 32 := Scalar.subi arg1 c6_i32_346
  let v750 : BitVec 32 := Scalar.addi v749 c0_i32_347
  let c256_i32_348 : BitVec 32 := 256#32
  let v751 : BitVec 32 := Scalar.muli v750 c256_i32_348
  let v752 : BitVec 32 := v751
  let v773 : Index := Scalar.indexCast v752
  ![v772.toNat, 0, v773.toNat]
def k0_mult149 (i : grid0.Coords) : BitVec 32 :=
  let arg1 : BitVec 32 := BitVec.ofNat 32 (i 1).val
  let c6_i32_359 : BitVec 32 := 6#32
  let v777 : BitVec 32 := Scalar.subi arg1 c6_i32_359
  let c1_i32_360 : BitVec 32 := 1#32
  let v778 : BitVec 32 := Scalar.addi v777 c1_i32_360
  let c256_i32_361 : BitVec 32 := 256#32
  let v779 : BitVec 32 := Scalar.muli v778 c256_i32_361
  v779
def k0_mult150 (i : grid0.Coords) : BitVec 32 :=
  let arg1 : BitVec 32 := BitVec.ofNat 32 (i 1).val
  let c6_i32_372 : BitVec 32 := 6#32
  let v806 : BitVec 32 := Scalar.subi arg1 c6_i32_372
  let c2_i32_373 : BitVec 32 := 2#32
  let v807 : BitVec 32 := Scalar.addi v806 c2_i32_373
  let c256_i32_374 : BitVec 32 := 256#32
  let v808 : BitVec 32 := Scalar.muli v807 c256_i32_374
  v808
def k0_mult151 (i : grid0.Coords) : BitVec 32 :=
  let arg1 : BitVec 32 := BitVec.ofNat 32 (i 1).val
  let c6_i32_385 : BitVec 32 := 6#32
  let v835 : BitVec 32 := Scalar.subi arg1 c6_i32_385
  let c3_i32_386 : BitVec 32 := 3#32
  let v836 : BitVec 32 := Scalar.addi v835 c3_i32_386
  let c256_i32_387 : BitVec 32 := 256#32
  let v837 : BitVec 32 := Scalar.muli v836 c256_i32_387
  v837
def k0_mult152 (i : grid0.Coords) : BitVec 32 :=
  let arg1 : BitVec 32 := BitVec.ofNat 32 (i 1).val
  let c6_i32_398 : BitVec 32 := 6#32
  let v864 : BitVec 32 := Scalar.subi arg1 c6_i32_398
  let c4_i32_399 : BitVec 32 := 4#32
  let v865 : BitVec 32 := Scalar.addi v864 c4_i32_399
  let c256_i32_400 : BitVec 32 := 256#32
  let v866 : BitVec 32 := Scalar.muli v865 c256_i32_400
  v866
def k0_mult153 (i : grid0.Coords) : BitVec 32 :=
  let arg1 : BitVec 32 := BitVec.ofNat 32 (i 1).val
  let c6_i32_411 : BitVec 32 := 6#32
  let v893 : BitVec 32 := Scalar.subi arg1 c6_i32_411
  let c5_i32_412 : BitVec 32 := 5#32
  let v894 : BitVec 32 := Scalar.addi v893 c5_i32_412
  let c256_i32_413 : BitVec 32 := 256#32
  let v895 : BitVec 32 := Scalar.muli v894 c256_i32_413
  v895
def k0_mult154 (i : grid0.Coords) : BitVec 32 :=
  let arg1 : BitVec 32 := BitVec.ofNat 32 (i 1).val
  let c6_i32_424 : BitVec 32 := 6#32
  let v922 : BitVec 32 := Scalar.subi arg1 c6_i32_424
  let c6_i32_425 : BitVec 32 := 6#32
  let v923 : BitVec 32 := Scalar.addi v922 c6_i32_425
  let c256_i32_426 : BitVec 32 := 256#32
  let v924 : BitVec 32 := Scalar.muli v923 c256_i32_426
  v924
def k0_off221 (k0_t7 : Fin k0_t7_loop.trips) : Fin 3 → Nat :=
  let c2_i32_50 : BitVec 32 := 2#32
  let c0_i32_46 : BitVec 32 := 0#32
  let c1_i32_48 : BitVec 32 := 1#32
  let arg25 : BitVec 32 := Scf.iv c0_i32_46 c1_i32_48 k0_t7
  let v125 : BitVec 32 := Scalar.muli c2_i32_50 arg25
  let v943 : Index := Scalar.indexCast v125
  let c0_435 : Index := 0#32
  let c0_436 : Index := 0#32
  ![v943.toNat, 0, 0]
def k0_off222 (k0_t7 : Fin k0_t7_loop.trips) : Fin 5 → Nat :=
  let c0_455 : Index := 0#32
  let c2_i32_453 : BitVec 32 := 2#32
  let c0_i32_46 : BitVec 32 := 0#32
  let c1_i32_48 : BitVec 32 := 1#32
  let arg25 : BitVec 32 := Scf.iv c0_i32_46 c1_i32_48 k0_t7
  let v986 : BitVec 32 := Scalar.muli c2_i32_453 arg25
  let c1_i32_454 : BitVec 32 := 1#32
  let v987 : BitVec 32 := Scalar.addi v986 c1_i32_454
  let v988 : Index := Scalar.indexCast v987
  let c0_456 : Index := 0#32
  let c0_457 : Index := 0#32
  let c0_458 : Index := 0#32
  ![0, v988.toNat, 0, 0, 0]
def k0_off223 (i : grid0.Coords) (k0_t7 : Fin k0_t7_loop.trips) : Fin 4 → Nat :=
  let c2_i32_453 : BitVec 32 := 2#32
  let c0_i32_46 : BitVec 32 := 0#32
  let c1_i32_48 : BitVec 32 := 1#32
  let arg25 : BitVec 32 := Scf.iv c0_i32_46 c1_i32_48 k0_t7
  let v986 : BitVec 32 := Scalar.muli c2_i32_453 arg25
  let c1_i32_454 : BitVec 32 := 1#32
  let v987 : BitVec 32 := Scalar.addi v986 c1_i32_454
  let v994 : Index := Scalar.indexCast v987
  let c0_459 : Index := 0#32
  let arg1 : BitVec 32 := BitVec.ofNat 32 (i 1).val
  let c256_i32_27 : BitVec 32 := 256#32
  let v82 : BitVec 32 := Scalar.muli arg1 c256_i32_27
  let v83 : BitVec 32 := v82
  let v995 : Index := Scalar.indexCast v83
  let c0_460 : Index := 0#32
  ![v994.toNat, 0, v995.toNat, 0]
def k0_off224 (k0_t7 : Fin k0_t7_loop.trips) : Fin 4 → Nat :=
  let c0_461 : Index := 0#32
  let c2_i32_453 : BitVec 32 := 2#32
  let c0_i32_46 : BitVec 32 := 0#32
  let c1_i32_48 : BitVec 32 := 1#32
  let arg25 : BitVec 32 := Scf.iv c0_i32_46 c1_i32_48 k0_t7
  let v986 : BitVec 32 := Scalar.muli c2_i32_453 arg25
  let c1_i32_454 : BitVec 32 := 1#32
  let v987 : BitVec 32 := Scalar.addi v986 c1_i32_454
  let v999 : Index := Scalar.indexCast v987
  let c0_462 : Index := 0#32
  let c0_463 : Index := 0#32
  ![0, v999.toNat, 0, 0]
def k0_off225 (i : grid0.Coords) (k0_t7 : Fin k0_t7_loop.trips) : Fin 4 → Nat :=
  let c2_i32_453 : BitVec 32 := 2#32
  let c0_i32_46 : BitVec 32 := 0#32
  let c1_i32_48 : BitVec 32 := 1#32
  let arg25 : BitVec 32 := Scf.iv c0_i32_46 c1_i32_48 k0_t7
  let v986 : BitVec 32 := Scalar.muli c2_i32_453 arg25
  let c1_i32_454 : BitVec 32 := 1#32
  let v987 : BitVec 32 := Scalar.addi v986 c1_i32_454
  let v1011 : Index := Scalar.indexCast v987
  let c0_464 : Index := 0#32
  let arg1 : BitVec 32 := BitVec.ofNat 32 (i 1).val
  let c256_i32_27 : BitVec 32 := 256#32
  let v82 : BitVec 32 := Scalar.muli arg1 c256_i32_27
  let v83 : BitVec 32 := v82
  let v1012 : Index := Scalar.indexCast v83
  let c0_465 : Index := 0#32
  ![v1011.toNat, 0, v1012.toNat, 0]
def k0_off226 (k0_t7 : Fin k0_t7_loop.trips) : Fin 5 → Nat :=
  let c0_466 : Index := 0#32
  let c2_i32_453 : BitVec 32 := 2#32
  let c0_i32_46 : BitVec 32 := 0#32
  let c1_i32_48 : BitVec 32 := 1#32
  let arg25 : BitVec 32 := Scf.iv c0_i32_46 c1_i32_48 k0_t7
  let v986 : BitVec 32 := Scalar.muli c2_i32_453 arg25
  let c1_i32_454 : BitVec 32 := 1#32
  let v987 : BitVec 32 := Scalar.addi v986 c1_i32_454
  let v1016 : Index := Scalar.indexCast v987
  let c1_467 : Index := 1#32
  let c0_468 : Index := 0#32
  let c0_469 : Index := 0#32
  ![0, v1016.toNat, 1, 0, 0]
def k0_off227 (i : grid0.Coords) (k0_t7 : Fin k0_t7_loop.trips) : Fin 4 → Nat :=
  let c2_i32_453 : BitVec 32 := 2#32
  let c0_i32_46 : BitVec 32 := 0#32
  let c1_i32_48 : BitVec 32 := 1#32
  let arg25 : BitVec 32 := Scf.iv c0_i32_46 c1_i32_48 k0_t7
  let v986 : BitVec 32 := Scalar.muli c2_i32_453 arg25
  let c1_i32_454 : BitVec 32 := 1#32
  let v987 : BitVec 32 := Scalar.addi v986 c1_i32_454
  let v1022 : Index := Scalar.indexCast v987
  let c1_470 : Index := 1#32
  let arg1 : BitVec 32 := BitVec.ofNat 32 (i 1).val
  let c256_i32_27 : BitVec 32 := 256#32
  let v82 : BitVec 32 := Scalar.muli arg1 c256_i32_27
  let v83 : BitVec 32 := v82
  let v1023 : Index := Scalar.indexCast v83
  let c0_471 : Index := 0#32
  ![v1022.toNat, 1, v1023.toNat, 0]
def k0_off228 (k0_t7 : Fin k0_t7_loop.trips) : Fin 4 → Nat :=
  let c0_472 : Index := 0#32
  let c2_i32_453 : BitVec 32 := 2#32
  let c0_i32_46 : BitVec 32 := 0#32
  let c1_i32_48 : BitVec 32 := 1#32
  let arg25 : BitVec 32 := Scf.iv c0_i32_46 c1_i32_48 k0_t7
  let v986 : BitVec 32 := Scalar.muli c2_i32_453 arg25
  let c1_i32_454 : BitVec 32 := 1#32
  let v987 : BitVec 32 := Scalar.addi v986 c1_i32_454
  let v1027 : Index := Scalar.indexCast v987
  let c1_473 : Index := 1#32
  let c0_474 : Index := 0#32
  ![0, v1027.toNat, 1, 0]
def k0_off229 (i : grid0.Coords) (k0_t7 : Fin k0_t7_loop.trips) : Fin 4 → Nat :=
  let c2_i32_453 : BitVec 32 := 2#32
  let c0_i32_46 : BitVec 32 := 0#32
  let c1_i32_48 : BitVec 32 := 1#32
  let arg25 : BitVec 32 := Scf.iv c0_i32_46 c1_i32_48 k0_t7
  let v986 : BitVec 32 := Scalar.muli c2_i32_453 arg25
  let c1_i32_454 : BitVec 32 := 1#32
  let v987 : BitVec 32 := Scalar.addi v986 c1_i32_454
  let v1039 : Index := Scalar.indexCast v987
  let c1_475 : Index := 1#32
  let arg1 : BitVec 32 := BitVec.ofNat 32 (i 1).val
  let c256_i32_27 : BitVec 32 := 256#32
  let v82 : BitVec 32 := Scalar.muli arg1 c256_i32_27
  let v83 : BitVec 32 := v82
  let v1040 : Index := Scalar.indexCast v83
  let c0_476 : Index := 0#32
  ![v1039.toNat, 1, v1040.toNat, 0]
def k0_off230 (k0_t7 : Fin k0_t7_loop.trips) : Fin 4 → Nat :=
  let c0_477 : Index := 0#32
  let c2_i32_453 : BitVec 32 := 2#32
  let c0_i32_46 : BitVec 32 := 0#32
  let c1_i32_48 : BitVec 32 := 1#32
  let arg25 : BitVec 32 := Scf.iv c0_i32_46 c1_i32_48 k0_t7
  let v986 : BitVec 32 := Scalar.muli c2_i32_453 arg25
  let c1_i32_454 : BitVec 32 := 1#32
  let v987 : BitVec 32 := Scalar.addi v986 c1_i32_454
  let v1044 : Index := Scalar.indexCast v987
  let c0_478 : Index := 0#32
  let c0_479 : Index := 0#32
  ![0, v1044.toNat, 0, 0]
def k0_off231 (i : grid0.Coords) (k0_t7 : Fin k0_t7_loop.trips) : Fin 3 → Nat :=
  let c2_i32_453 : BitVec 32 := 2#32
  let c0_i32_46 : BitVec 32 := 0#32
  let c1_i32_48 : BitVec 32 := 1#32
  let arg25 : BitVec 32 := Scf.iv c0_i32_46 c1_i32_48 k0_t7
  let v986 : BitVec 32 := Scalar.muli c2_i32_453 arg25
  let c1_i32_454 : BitVec 32 := 1#32
  let v987 : BitVec 32 := Scalar.addi v986 c1_i32_454
  let v1048 : Index := Scalar.indexCast v987
  let c0_480 : Index := 0#32
  let arg1 : BitVec 32 := BitVec.ofNat 32 (i 1).val
  let c256_i32_27 : BitVec 32 := 256#32
  let v82 : BitVec 32 := Scalar.muli arg1 c256_i32_27
  let v83 : BitVec 32 := v82
  let v1049 : Index := Scalar.indexCast v83
  ![v1048.toNat, 0, v1049.toNat]
def k0_mult155 (i : grid0.Coords) : BitVec 32 :=
  let arg1 : BitVec 32 := BitVec.ofNat 32 (i 1).val
  let c6_i32_487 : BitVec 32 := 6#32
  let v1060 : BitVec 32 := Scalar.subi arg1 c6_i32_487
  let c0_i32_488 : BitVec 32 := 0#32
  let v1061 : BitVec 32 := Scalar.addi v1060 c0_i32_488
  let c256_i32_489 : BitVec 32 := 256#32
  let v1062 : BitVec 32 := Scalar.muli v1061 c256_i32_489
  v1062
def k0_off232 (i : grid0.Coords) (k0_t7 : Fin k0_t7_loop.trips) (c0_i32_488 : BitVec 32) : Fin 4 → Nat :=
  let c2_i32_453 : BitVec 32 := 2#32
  let c0_i32_46 : BitVec 32 := 0#32
  let c1_i32_48 : BitVec 32 := 1#32
  let arg25 : BitVec 32 := Scf.iv c0_i32_46 c1_i32_48 k0_t7
  let v986 : BitVec 32 := Scalar.muli c2_i32_453 arg25
  let c1_i32_454 : BitVec 32 := 1#32
  let v987 : BitVec 32 := Scalar.addi v986 c1_i32_454
  let v1064 : Index := Scalar.indexCast v987
  let c0_490 : Index := 0#32
  let arg1 : BitVec 32 := BitVec.ofNat 32 (i 1).val
  let c6_i32_487 : BitVec 32 := 6#32
  let v1060 : BitVec 32 := Scalar.subi arg1 c6_i32_487
  let v1061 : BitVec 32 := Scalar.addi v1060 c0_i32_488
  let c256_i32_489 : BitVec 32 := 256#32
  let v1062 : BitVec 32 := Scalar.muli v1061 c256_i32_489
  let v1063 : BitVec 32 := v1062
  let v1065 : Index := Scalar.indexCast v1063
  let c0_491 : Index := 0#32
  ![v1064.toNat, 0, v1065.toNat, 0]
def k0_off233 (i : grid0.Coords) (k0_t7 : Fin k0_t7_loop.trips) (c0_i32_488 : BitVec 32) : Fin 4 → Nat :=
  let c2_i32_453 : BitVec 32 := 2#32
  let c0_i32_46 : BitVec 32 := 0#32
  let c1_i32_48 : BitVec 32 := 1#32
  let arg25 : BitVec 32 := Scf.iv c0_i32_46 c1_i32_48 k0_t7
  let v986 : BitVec 32 := Scalar.muli c2_i32_453 arg25
  let c1_i32_454 : BitVec 32 := 1#32
  let v987 : BitVec 32 := Scalar.addi v986 c1_i32_454
  let v1072 : Index := Scalar.indexCast v987
  let c0_497 : Index := 0#32
  let arg1 : BitVec 32 := BitVec.ofNat 32 (i 1).val
  let c6_i32_487 : BitVec 32 := 6#32
  let v1060 : BitVec 32 := Scalar.subi arg1 c6_i32_487
  let v1061 : BitVec 32 := Scalar.addi v1060 c0_i32_488
  let c256_i32_489 : BitVec 32 := 256#32
  let v1062 : BitVec 32 := Scalar.muli v1061 c256_i32_489
  let v1063 : BitVec 32 := v1062
  let v1073 : Index := Scalar.indexCast v1063
  let c0_498 : Index := 0#32
  ![v1072.toNat, 0, v1073.toNat, 0]
def k0_mult156 (i : grid0.Coords) : BitVec 32 :=
  let arg1 : BitVec 32 := BitVec.ofNat 32 (i 1).val
  let c6_i32_506 : BitVec 32 := 6#32
  let v1100 : BitVec 32 := Scalar.subi arg1 c6_i32_506
  let c1_i32_507 : BitVec 32 := 1#32
  let v1101 : BitVec 32 := Scalar.addi v1100 c1_i32_507
  let c256_i32_508 : BitVec 32 := 256#32
  let v1102 : BitVec 32 := Scalar.muli v1101 c256_i32_508
  v1102
def k0_mult157 (i : grid0.Coords) : BitVec 32 :=
  let arg1 : BitVec 32 := BitVec.ofNat 32 (i 1).val
  let c6_i32_523 : BitVec 32 := 6#32
  let v1137 : BitVec 32 := Scalar.subi arg1 c6_i32_523
  let c2_i32_524 : BitVec 32 := 2#32
  let v1138 : BitVec 32 := Scalar.addi v1137 c2_i32_524
  let c256_i32_525 : BitVec 32 := 256#32
  let v1139 : BitVec 32 := Scalar.muli v1138 c256_i32_525
  v1139
def k0_mult158 (i : grid0.Coords) : BitVec 32 :=
  let arg1 : BitVec 32 := BitVec.ofNat 32 (i 1).val
  let c6_i32_540 : BitVec 32 := 6#32
  let v1174 : BitVec 32 := Scalar.subi arg1 c6_i32_540
  let c3_i32_541 : BitVec 32 := 3#32
  let v1175 : BitVec 32 := Scalar.addi v1174 c3_i32_541
  let c256_i32_542 : BitVec 32 := 256#32
  let v1176 : BitVec 32 := Scalar.muli v1175 c256_i32_542
  v1176
def k0_mult159 (i : grid0.Coords) : BitVec 32 :=
  let arg1 : BitVec 32 := BitVec.ofNat 32 (i 1).val
  let c6_i32_557 : BitVec 32 := 6#32
  let v1211 : BitVec 32 := Scalar.subi arg1 c6_i32_557
  let c4_i32_558 : BitVec 32 := 4#32
  let v1212 : BitVec 32 := Scalar.addi v1211 c4_i32_558
  let c256_i32_559 : BitVec 32 := 256#32
  let v1213 : BitVec 32 := Scalar.muli v1212 c256_i32_559
  v1213
def k0_mult160 (i : grid0.Coords) : BitVec 32 :=
  let arg1 : BitVec 32 := BitVec.ofNat 32 (i 1).val
  let c6_i32_574 : BitVec 32 := 6#32
  let v1248 : BitVec 32 := Scalar.subi arg1 c6_i32_574
  let c5_i32_575 : BitVec 32 := 5#32
  let v1249 : BitVec 32 := Scalar.addi v1248 c5_i32_575
  let c256_i32_576 : BitVec 32 := 256#32
  let v1250 : BitVec 32 := Scalar.muli v1249 c256_i32_576
  v1250
def k0_mult161 (i : grid0.Coords) : BitVec 32 :=
  let arg1 : BitVec 32 := BitVec.ofNat 32 (i 1).val
  let c6_i32_591 : BitVec 32 := 6#32
  let v1285 : BitVec 32 := Scalar.subi arg1 c6_i32_591
  let c6_i32_592 : BitVec 32 := 6#32
  let v1286 : BitVec 32 := Scalar.addi v1285 c6_i32_592
  let c256_i32_593 : BitVec 32 := 256#32
  let v1287 : BitVec 32 := Scalar.muli v1286 c256_i32_593
  v1287
def k0_mult162 (i : grid0.Coords) : BitVec 32 :=
  let arg1 : BitVec 32 := BitVec.ofNat 32 (i 1).val
  let c6_i32_625 : BitVec 32 := 6#32
  let v1338 : BitVec 32 := Scalar.subi arg1 c6_i32_625
  let c0_i32_626 : BitVec 32 := 0#32
  let v1339 : BitVec 32 := Scalar.addi v1338 c0_i32_626
  let c256_i32_627 : BitVec 32 := 256#32
  let v1340 : BitVec 32 := Scalar.muli v1339 c256_i32_627
  v1340
def k0_off234 (i : grid0.Coords) (k0_t7 : Fin k0_t7_loop.trips) (c0_i32_626 : BitVec 32) : Fin 4 → Nat :=
  let c2_i32_453 : BitVec 32 := 2#32
  let c0_i32_46 : BitVec 32 := 0#32
  let c1_i32_48 : BitVec 32 := 1#32
  let arg25 : BitVec 32 := Scf.iv c0_i32_46 c1_i32_48 k0_t7
  let v986 : BitVec 32 := Scalar.muli c2_i32_453 arg25
  let c1_i32_454 : BitVec 32 := 1#32
  let v987 : BitVec 32 := Scalar.addi v986 c1_i32_454
  let v1342 : Index := Scalar.indexCast v987
  let c1_628 : Index := 1#32
  let arg1 : BitVec 32 := BitVec.ofNat 32 (i 1).val
  let c6_i32_625 : BitVec 32 := 6#32
  let v1338 : BitVec 32 := Scalar.subi arg1 c6_i32_625
  let v1339 : BitVec 32 := Scalar.addi v1338 c0_i32_626
  let c256_i32_627 : BitVec 32 := 256#32
  let v1340 : BitVec 32 := Scalar.muli v1339 c256_i32_627
  let v1341 : BitVec 32 := v1340
  let v1343 : Index := Scalar.indexCast v1341
  let c0_629 : Index := 0#32
  ![v1342.toNat, 1, v1343.toNat, 0]
def k0_off235 (i : grid0.Coords) (k0_t7 : Fin k0_t7_loop.trips) (c0_i32_626 : BitVec 32) : Fin 4 → Nat :=
  let c2_i32_453 : BitVec 32 := 2#32
  let c0_i32_46 : BitVec 32 := 0#32
  let c1_i32_48 : BitVec 32 := 1#32
  let arg25 : BitVec 32 := Scf.iv c0_i32_46 c1_i32_48 k0_t7
  let v986 : BitVec 32 := Scalar.muli c2_i32_453 arg25
  let c1_i32_454 : BitVec 32 := 1#32
  let v987 : BitVec 32 := Scalar.addi v986 c1_i32_454
  let v1350 : Index := Scalar.indexCast v987
  let c1_635 : Index := 1#32
  let arg1 : BitVec 32 := BitVec.ofNat 32 (i 1).val
  let c6_i32_625 : BitVec 32 := 6#32
  let v1338 : BitVec 32 := Scalar.subi arg1 c6_i32_625
  let v1339 : BitVec 32 := Scalar.addi v1338 c0_i32_626
  let c256_i32_627 : BitVec 32 := 256#32
  let v1340 : BitVec 32 := Scalar.muli v1339 c256_i32_627
  let v1341 : BitVec 32 := v1340
  let v1351 : Index := Scalar.indexCast v1341
  let c0_636 : Index := 0#32
  ![v1350.toNat, 1, v1351.toNat, 0]
def k0_mult163 (i : grid0.Coords) : BitVec 32 :=
  let arg1 : BitVec 32 := BitVec.ofNat 32 (i 1).val
  let c6_i32_644 : BitVec 32 := 6#32
  let v1378 : BitVec 32 := Scalar.subi arg1 c6_i32_644
  let c1_i32_645 : BitVec 32 := 1#32
  let v1379 : BitVec 32 := Scalar.addi v1378 c1_i32_645
  let c256_i32_646 : BitVec 32 := 256#32
  let v1380 : BitVec 32 := Scalar.muli v1379 c256_i32_646
  v1380
def k0_mult164 (i : grid0.Coords) : BitVec 32 :=
  let arg1 : BitVec 32 := BitVec.ofNat 32 (i 1).val
  let c6_i32_661 : BitVec 32 := 6#32
  let v1415 : BitVec 32 := Scalar.subi arg1 c6_i32_661
  let c2_i32_662 : BitVec 32 := 2#32
  let v1416 : BitVec 32 := Scalar.addi v1415 c2_i32_662
  let c256_i32_663 : BitVec 32 := 256#32
  let v1417 : BitVec 32 := Scalar.muli v1416 c256_i32_663
  v1417
def k0_mult165 (i : grid0.Coords) : BitVec 32 :=
  let arg1 : BitVec 32 := BitVec.ofNat 32 (i 1).val
  let c6_i32_678 : BitVec 32 := 6#32
  let v1452 : BitVec 32 := Scalar.subi arg1 c6_i32_678
  let c3_i32_679 : BitVec 32 := 3#32
  let v1453 : BitVec 32 := Scalar.addi v1452 c3_i32_679
  let c256_i32_680 : BitVec 32 := 256#32
  let v1454 : BitVec 32 := Scalar.muli v1453 c256_i32_680
  v1454
def k0_mult166 (i : grid0.Coords) : BitVec 32 :=
  let arg1 : BitVec 32 := BitVec.ofNat 32 (i 1).val
  let c6_i32_695 : BitVec 32 := 6#32
  let v1489 : BitVec 32 := Scalar.subi arg1 c6_i32_695
  let c4_i32_696 : BitVec 32 := 4#32
  let v1490 : BitVec 32 := Scalar.addi v1489 c4_i32_696
  let c256_i32_697 : BitVec 32 := 256#32
  let v1491 : BitVec 32 := Scalar.muli v1490 c256_i32_697
  v1491
def k0_mult167 (i : grid0.Coords) : BitVec 32 :=
  let arg1 : BitVec 32 := BitVec.ofNat 32 (i 1).val
  let c6_i32_712 : BitVec 32 := 6#32
  let v1526 : BitVec 32 := Scalar.subi arg1 c6_i32_712
  let c5_i32_713 : BitVec 32 := 5#32
  let v1527 : BitVec 32 := Scalar.addi v1526 c5_i32_713
  let c256_i32_714 : BitVec 32 := 256#32
  let v1528 : BitVec 32 := Scalar.muli v1527 c256_i32_714
  v1528
def k0_mult168 (i : grid0.Coords) : BitVec 32 :=
  let arg1 : BitVec 32 := BitVec.ofNat 32 (i 1).val
  let c6_i32_729 : BitVec 32 := 6#32
  let v1563 : BitVec 32 := Scalar.subi arg1 c6_i32_729
  let c6_i32_730 : BitVec 32 := 6#32
  let v1564 : BitVec 32 := Scalar.addi v1563 c6_i32_730
  let c256_i32_731 : BitVec 32 := 256#32
  let v1565 : BitVec 32 := Scalar.muli v1564 c256_i32_731
  v1565
def k0_mult169 (i : grid0.Coords) : BitVec 32 :=
  let arg1 : BitVec 32 := BitVec.ofNat 32 (i 1).val
  let c6_i32_757 : BitVec 32 := 6#32
  let v1611 : BitVec 32 := Scalar.subi arg1 c6_i32_757
  let c0_i32_758 : BitVec 32 := 0#32
  let v1612 : BitVec 32 := Scalar.addi v1611 c0_i32_758
  let c256_i32_759 : BitVec 32 := 256#32
  let v1613 : BitVec 32 := Scalar.muli v1612 c256_i32_759
  v1613
def k0_off236 (i : grid0.Coords) (k0_t7 : Fin k0_t7_loop.trips) (c0_i32_758 : BitVec 32) : Fin 3 → Nat :=
  let c2_i32_453 : BitVec 32 := 2#32
  let c0_i32_46 : BitVec 32 := 0#32
  let c1_i32_48 : BitVec 32 := 1#32
  let arg25 : BitVec 32 := Scf.iv c0_i32_46 c1_i32_48 k0_t7
  let v986 : BitVec 32 := Scalar.muli c2_i32_453 arg25
  let c1_i32_454 : BitVec 32 := 1#32
  let v987 : BitVec 32 := Scalar.addi v986 c1_i32_454
  let v1634 : Index := Scalar.indexCast v987
  let c0_768 : Index := 0#32
  let arg1 : BitVec 32 := BitVec.ofNat 32 (i 1).val
  let c6_i32_757 : BitVec 32 := 6#32
  let v1611 : BitVec 32 := Scalar.subi arg1 c6_i32_757
  let v1612 : BitVec 32 := Scalar.addi v1611 c0_i32_758
  let c256_i32_759 : BitVec 32 := 256#32
  let v1613 : BitVec 32 := Scalar.muli v1612 c256_i32_759
  let v1614 : BitVec 32 := v1613
  let v1635 : Index := Scalar.indexCast v1614
  ![v1634.toNat, 0, v1635.toNat]
def k0_mult170 (i : grid0.Coords) : BitVec 32 :=
  let arg1 : BitVec 32 := BitVec.ofNat 32 (i 1).val
  let c6_i32_770 : BitVec 32 := 6#32
  let v1639 : BitVec 32 := Scalar.subi arg1 c6_i32_770
  let c1_i32_771 : BitVec 32 := 1#32
  let v1640 : BitVec 32 := Scalar.addi v1639 c1_i32_771
  let c256_i32_772 : BitVec 32 := 256#32
  let v1641 : BitVec 32 := Scalar.muli v1640 c256_i32_772
  v1641
def k0_mult171 (i : grid0.Coords) : BitVec 32 :=
  let arg1 : BitVec 32 := BitVec.ofNat 32 (i 1).val
  let c6_i32_783 : BitVec 32 := 6#32
  let v1668 : BitVec 32 := Scalar.subi arg1 c6_i32_783
  let c2_i32_784 : BitVec 32 := 2#32
  let v1669 : BitVec 32 := Scalar.addi v1668 c2_i32_784
  let c256_i32_785 : BitVec 32 := 256#32
  let v1670 : BitVec 32 := Scalar.muli v1669 c256_i32_785
  v1670
def k0_mult172 (i : grid0.Coords) : BitVec 32 :=
  let arg1 : BitVec 32 := BitVec.ofNat 32 (i 1).val
  let c6_i32_796 : BitVec 32 := 6#32
  let v1697 : BitVec 32 := Scalar.subi arg1 c6_i32_796
  let c3_i32_797 : BitVec 32 := 3#32
  let v1698 : BitVec 32 := Scalar.addi v1697 c3_i32_797
  let c256_i32_798 : BitVec 32 := 256#32
  let v1699 : BitVec 32 := Scalar.muli v1698 c256_i32_798
  v1699
def k0_mult173 (i : grid0.Coords) : BitVec 32 :=
  let arg1 : BitVec 32 := BitVec.ofNat 32 (i 1).val
  let c6_i32_809 : BitVec 32 := 6#32
  let v1726 : BitVec 32 := Scalar.subi arg1 c6_i32_809
  let c4_i32_810 : BitVec 32 := 4#32
  let v1727 : BitVec 32 := Scalar.addi v1726 c4_i32_810
  let c256_i32_811 : BitVec 32 := 256#32
  let v1728 : BitVec 32 := Scalar.muli v1727 c256_i32_811
  v1728
def k0_mult174 (i : grid0.Coords) : BitVec 32 :=
  let arg1 : BitVec 32 := BitVec.ofNat 32 (i 1).val
  let c6_i32_822 : BitVec 32 := 6#32
  let v1755 : BitVec 32 := Scalar.subi arg1 c6_i32_822
  let c5_i32_823 : BitVec 32 := 5#32
  let v1756 : BitVec 32 := Scalar.addi v1755 c5_i32_823
  let c256_i32_824 : BitVec 32 := 256#32
  let v1757 : BitVec 32 := Scalar.muli v1756 c256_i32_824
  v1757
def k0_mult175 (i : grid0.Coords) : BitVec 32 :=
  let arg1 : BitVec 32 := BitVec.ofNat 32 (i 1).val
  let c6_i32_835 : BitVec 32 := 6#32
  let v1784 : BitVec 32 := Scalar.subi arg1 c6_i32_835
  let c6_i32_836 : BitVec 32 := 6#32
  let v1785 : BitVec 32 := Scalar.addi v1784 c6_i32_836
  let c256_i32_837 : BitVec 32 := 256#32
  let v1786 : BitVec 32 := Scalar.muli v1785 c256_i32_837
  v1786
def k0_off237 (k0_t7 : Fin k0_t7_loop.trips) : Fin 3 → Nat :=
  let c2_i32_453 : BitVec 32 := 2#32
  let c0_i32_46 : BitVec 32 := 0#32
  let c1_i32_48 : BitVec 32 := 1#32
  let arg25 : BitVec 32 := Scf.iv c0_i32_46 c1_i32_48 k0_t7
  let v986 : BitVec 32 := Scalar.muli c2_i32_453 arg25
  let c1_i32_454 : BitVec 32 := 1#32
  let v987 : BitVec 32 := Scalar.addi v986 c1_i32_454
  let v1805 : Index := Scalar.indexCast v987
  let c0_846 : Index := 0#32
  let c0_847 : Index := 0#32
  ![v1805.toNat, 0, 0]
def k0_mult176 (k0_t7 : Fin k0_t7_loop.trips) : BitVec 32 :=
  let c0_i32_46 : BitVec 32 := 0#32
  let c1_i32_48 : BitVec 32 := 1#32
  let arg25 : BitVec 32 := Scf.iv c0_i32_46 c1_i32_48 k0_t7
  let c2_i32_863 : BitVec 32 := 2#32
  let v1848 : BitVec 32 := Scalar.muli arg25 c2_i32_863
  let c320_i32 : BitVec 32 := 320#32
  let v1849 : BitVec 32 := Scalar.muli v1848 c320_i32
  v1849
def k0_off238 (k0_t7 : Fin k0_t7_loop.trips) : Fin 3 → Nat :=
  let c0_866 : Index := 0#32
  let c0_867 : Index := 0#32
  let c0_i32_46 : BitVec 32 := 0#32
  let c1_i32_48 : BitVec 32 := 1#32
  let arg25 : BitVec 32 := Scf.iv c0_i32_46 c1_i32_48 k0_t7
  let c2_i32_863 : BitVec 32 := 2#32
  let v1848 : BitVec 32 := Scalar.muli arg25 c2_i32_863
  let c320_i32 : BitVec 32 := 320#32
  let v1849 : BitVec 32 := Scalar.muli v1848 c320_i32
  let v1850 : BitVec 32 := v1849
  let v1853 : Index := Scalar.indexCast v1850
  ![0, 0, v1853.toNat]
@[reducible] def k0_t8_loop : Scf.Loop 32 :=
  let c0_i32_46 : BitVec 32 := 0#32
  let c3_i32_47 : BitVec 32 := 3#32
  let v124 : BitVec 32 := Scalar.addi c0_i32_46 c3_i32_47
  let c1_i32_48 : BitVec 32 := 1#32
  ⟨c0_i32_46, v124, c1_i32_48⟩
def k0_off239 (k0_t8 : Fin k0_t8_loop.trips) : Fin 5 → Nat :=
  let c0_51 : Index := 0#32
  let c2_i32_50 : BitVec 32 := 2#32
  let c0_i32_46 : BitVec 32 := 0#32
  let c1_i32_48 : BitVec 32 := 1#32
  let arg25 : BitVec 32 := Scf.iv c0_i32_46 c1_i32_48 k0_t8
  let v125 : BitVec 32 := Scalar.muli c2_i32_50 arg25
  let v126 : Index := Scalar.indexCast v125
  let c0_52 : Index := 0#32
  let c0_53 : Index := 0#32
  let c0_54 : Index := 0#32
  ![0, v126.toNat, 0, 0, 0]
def k0_off240 (i : grid0.Coords) (k0_t8 : Fin k0_t8_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t8
  let v125 : BitVec 32 := Scalar.muli c2_i32_50 arg25
  let v132 : Index := Scalar.indexCast v125
  let c0_55 : Index := 0#32
  let arg1 : BitVec 32 := BitVec.ofNat 32 (i 1).val
  let c256_i32_27 : BitVec 32 := 256#32
  let v82 : BitVec 32 := Scalar.muli arg1 c256_i32_27
  let v83 : BitVec 32 := v82
  let v133 : Index := Scalar.indexCast v83
  let c0_56 : Index := 0#32
  ![v132.toNat, 0, v133.toNat, 0]
def k0_off241 (k0_t8 : Fin k0_t8_loop.trips) : Fin 4 → Nat :=
  let c0_57 : Index := 0#32
  let c2_i32_50 : BitVec 32 := 2#32
  let c0_i32_46 : BitVec 32 := 0#32
  let c1_i32_48 : BitVec 32 := 1#32
  let arg25 : BitVec 32 := Scf.iv c0_i32_46 c1_i32_48 k0_t8
  let v125 : BitVec 32 := Scalar.muli c2_i32_50 arg25
  let v137 : Index := Scalar.indexCast v125
  let c0_58 : Index := 0#32
  let c0_59 : Index := 0#32
  ![0, v137.toNat, 0, 0]
def k0_off242 (i : grid0.Coords) (k0_t8 : Fin k0_t8_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t8
  let v125 : BitVec 32 := Scalar.muli c2_i32_50 arg25
  let v149 : Index := Scalar.indexCast v125
  let c0_60 : Index := 0#32
  let arg1 : BitVec 32 := BitVec.ofNat 32 (i 1).val
  let c256_i32_27 : BitVec 32 := 256#32
  let v82 : BitVec 32 := Scalar.muli arg1 c256_i32_27
  let v83 : BitVec 32 := v82
  let v150 : Index := Scalar.indexCast v83
  let c0_61 : Index := 0#32
  ![v149.toNat, 0, v150.toNat, 0]
def k0_off243 (k0_t8 : Fin k0_t8_loop.trips) : Fin 5 → Nat :=
  let c0_62 : Index := 0#32
  let c2_i32_50 : BitVec 32 := 2#32
  let c0_i32_46 : BitVec 32 := 0#32
  let c1_i32_48 : BitVec 32 := 1#32
  let arg25 : BitVec 32 := Scf.iv c0_i32_46 c1_i32_48 k0_t8
  let v125 : BitVec 32 := Scalar.muli c2_i32_50 arg25
  let v154 : Index := Scalar.indexCast v125
  let c1 : Index := 1#32
  let c0_63 : Index := 0#32
  let c0_64 : Index := 0#32
  ![0, v154.toNat, 1, 0, 0]
def k0_off244 (i : grid0.Coords) (k0_t8 : Fin k0_t8_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t8
  let v125 : BitVec 32 := Scalar.muli c2_i32_50 arg25
  let v160 : Index := Scalar.indexCast v125
  let c1_65 : Index := 1#32
  let arg1 : BitVec 32 := BitVec.ofNat 32 (i 1).val
  let c256_i32_27 : BitVec 32 := 256#32
  let v82 : BitVec 32 := Scalar.muli arg1 c256_i32_27
  let v83 : BitVec 32 := v82
  let v161 : Index := Scalar.indexCast v83
  let c0_66 : Index := 0#32
  ![v160.toNat, 1, v161.toNat, 0]
def k0_off245 (k0_t8 : Fin k0_t8_loop.trips) : Fin 4 → Nat :=
  let c0_67 : Index := 0#32
  let c2_i32_50 : BitVec 32 := 2#32
  let c0_i32_46 : BitVec 32 := 0#32
  let c1_i32_48 : BitVec 32 := 1#32
  let arg25 : BitVec 32 := Scf.iv c0_i32_46 c1_i32_48 k0_t8
  let v125 : BitVec 32 := Scalar.muli c2_i32_50 arg25
  let v165 : Index := Scalar.indexCast v125
  let c1_68 : Index := 1#32
  let c0_69 : Index := 0#32
  ![0, v165.toNat, 1, 0]
def k0_off246 (i : grid0.Coords) (k0_t8 : Fin k0_t8_loop.trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t8
  let v125 : BitVec 32 := Scalar.muli c2_i32_50 arg25
  let v177 : Index := Scalar.indexCast v125
  let c1_70 : Index := 1#32
  let arg1 : BitVec 32 := BitVec.ofNat 32 (i 1).val
  let c256_i32_27 : BitVec 32 := 256#32
  let v82 : BitVec 32 := Scalar.muli arg1 c256_i32_27
  let v83 : BitVec 32 := v82
  let v178 : Index := Scalar.indexCast v83
  let c0_71 : Index := 0#32
  ![v177.toNat, 1, v178.toNat, 0]
def k0_off247 (k0_t8 : Fin k0_t8_loop.trips) : Fin 4 → Nat :=
  let c0_72 : Index := 0#32
  let c2_i32_50 : BitVec 32 := 2#32
  let c0_i32_46 : BitVec 32 := 0#32
  let c1_i32_48 : BitVec 32 := 1#32
  let arg25 : BitVec 32 := Scf.iv c0_i32_46 c1_i32_48 k0_t8
  let v125 : BitVec 32 := Scalar.muli c2_i32_50 arg25
  let v182 : Index := Scalar.indexCast v125
  let c0_73 : Index := 0#32
  let c0_74 : Index := 0#32
  ![0, v182.toNat, 0, 0]
def k0_off248 (i : grid0.Coords) (k0_t8 : Fin k0_t8_loop.trips) : Fin 3 → Nat :=
  let c2_i32_50 : BitVec 32 := 2#32
  let c0_i32_46 : BitVec 32 := 0#32
  let c1_i32_48 : BitVec 32 := 1#32
  let arg25 : BitVec 32 := Scf.iv c0_i32_46 c1_i32_48 k0_t8
  let v125 : BitVec 32 := Scalar.muli c2_i32_50 arg25
  let v186 : Index := Scalar.indexCast v125
  let c0_75 : Index := 0#32
  let arg1 : BitVec 32 := BitVec.ofNat 32 (i 1).val
  let c256_i32_27 : BitVec 32 := 256#32
  let v82 : BitVec 32 := Scalar.muli arg1 c256_i32_27
  let v83 : BitVec 32 := v82
  let v187 : Index := Scalar.indexCast v83
  ![v186.toNat, 0, v187.toNat]
def k0_mult177 (i : grid0.Coords) : BitVec 32 :=
  let arg1 : BitVec 32 := BitVec.ofNat 32 (i 1).val
  let c7_i32_82 : BitVec 32 := 7#32
  let v198 : BitVec 32 := Scalar.subi arg1 c7_i32_82
  let c0_i32_83 : BitVec 32 := 0#32
  let v199 : BitVec 32 := Scalar.addi v198 c0_i32_83
  let c256_i32_84 : BitVec 32 := 256#32
  let v200 : BitVec 32 := Scalar.muli v199 c256_i32_84
  v200
def k0_off249 (i : grid0.Coords) (k0_t8 : Fin k0_t8_loop.trips) (c0_i32_83 : BitVec 32) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t8
  let v125 : BitVec 32 := Scalar.muli c2_i32_50 arg25
  let v202 : Index := Scalar.indexCast v125
  let c0_85 : Index := 0#32
  let arg1 : BitVec 32 := BitVec.ofNat 32 (i 1).val
  let c7_i32_82 : BitVec 32 := 7#32
  let v198 : BitVec 32 := Scalar.subi arg1 c7_i32_82
  let v199 : BitVec 32 := Scalar.addi v198 c0_i32_83
  let c256_i32_84 : BitVec 32 := 256#32
  let v200 : BitVec 32 := Scalar.muli v199 c256_i32_84
  let v201 : BitVec 32 := v200
  let v203 : Index := Scalar.indexCast v201
  let c0_86 : Index := 0#32
  ![v202.toNat, 0, v203.toNat, 0]
def k0_cond8 (i : grid0.Coords) (v2 : BitVec 32) : BitVec 1 :=
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let c8_i32 : BitVec 32 := 8#32
  let v105 : BitVec 1 := Scalar.cmpi .eq v21 c8_i32
  let v106 : BitVec 32 := Scalar.extui v105
  let c0_i32_36 : BitVec 32 := 0#32
  let v107 : BitVec 1 := Scalar.cmpi .ne v106 c0_i32_36
  v107

def k0_off250 (i : grid0.Coords) (k0_t8 : Fin k0_t8_loop.trips) (c0_i32_83 : BitVec 32) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t8
  let v125 : BitVec 32 := Scalar.muli c2_i32_50 arg25
  let v210 : Index := Scalar.indexCast v125
  let c0_92 : Index := 0#32
  let arg1 : BitVec 32 := BitVec.ofNat 32 (i 1).val
  let c7_i32_82 : BitVec 32 := 7#32
  let v198 : BitVec 32 := Scalar.subi arg1 c7_i32_82
  let v199 : BitVec 32 := Scalar.addi v198 c0_i32_83
  let c256_i32_84 : BitVec 32 := 256#32
  let v200 : BitVec 32 := Scalar.muli v199 c256_i32_84
  let v201 : BitVec 32 := v200
  let v211 : Index := Scalar.indexCast v201
  let c0_93 : Index := 0#32
  ![v210.toNat, 0, v211.toNat, 0]
def k0_off251 (i : grid0.Coords) (c0_i32_83 : BitVec 32) : Fin 2 → Nat :=
  let arg0 : BitVec 32 := BitVec.ofNat 32 (i 0).val
  let v227 : Index := Scalar.indexCast arg0
  let arg1 : BitVec 32 := BitVec.ofNat 32 (i 1).val
  let c7_i32_82 : BitVec 32 := 7#32
  let v198 : BitVec 32 := Scalar.subi arg1 c7_i32_82
  let v199 : BitVec 32 := Scalar.addi v198 c0_i32_83
  let v228 : Index := Scalar.indexCast v199
  ![v227.toNat, v228.toNat]
def k0_mult178 (i : grid0.Coords) : BitVec 32 :=
  let arg1 : BitVec 32 := BitVec.ofNat 32 (i 1).val
  let c7_i32_101 : BitVec 32 := 7#32
  let v238 : BitVec 32 := Scalar.subi arg1 c7_i32_101
  let c1_i32_102 : BitVec 32 := 1#32
  let v239 : BitVec 32 := Scalar.addi v238 c1_i32_102
  let c256_i32_103 : BitVec 32 := 256#32
  let v240 : BitVec 32 := Scalar.muli v239 c256_i32_103
  v240
def k0_mult179 (i : grid0.Coords) : BitVec 32 :=
  let arg1 : BitVec 32 := BitVec.ofNat 32 (i 1).val
  let c7_i32_117 : BitVec 32 := 7#32
  let v275 : BitVec 32 := Scalar.subi arg1 c7_i32_117
  let c2_i32_118 : BitVec 32 := 2#32
  let v276 : BitVec 32 := Scalar.addi v275 c2_i32_118
  let c256_i32_119 : BitVec 32 := 256#32
  let v277 : BitVec 32 := Scalar.muli v276 c256_i32_119
  v277
def k0_mult180 (i : grid0.Coords) : BitVec 32 :=
  let arg1 : BitVec 32 := BitVec.ofNat 32 (i 1).val
  let c7_i32_133 : BitVec 32 := 7#32
  let v312 : BitVec 32 := Scalar.subi arg1 c7_i32_133
  let c3_i32_134 : BitVec 32 := 3#32
  let v313 : BitVec 32 := Scalar.addi v312 c3_i32_134
  let c256_i32_135 : BitVec 32 := 256#32
  let v314 : BitVec 32 := Scalar.muli v313 c256_i32_135
  v314
def k0_mult181 (i : grid0.Coords) : BitVec 32 :=
  let arg1 : BitVec 32 := BitVec.ofNat 32 (i 1).val
  let c7_i32_149 : BitVec 32 := 7#32
  let v349 : BitVec 32 := Scalar.subi arg1 c7_i32_149
  let c4_i32_150 : BitVec 32 := 4#32
  let v350 : BitVec 32 := Scalar.addi v349 c4_i32_150
  let c256_i32_151 : BitVec 32 := 256#32
  let v351 : BitVec 32 := Scalar.muli v350 c256_i32_151
  v351
def k0_mult182 (i : grid0.Coords) : BitVec 32 :=
  let arg1 : BitVec 32 := BitVec.ofNat 32 (i 1).val
  let c7_i32_165 : BitVec 32 := 7#32
  let v386 : BitVec 32 := Scalar.subi arg1 c7_i32_165
  let c5_i32_166 : BitVec 32 := 5#32
  let v387 : BitVec 32 := Scalar.addi v386 c5_i32_166
  let c256_i32_167 : BitVec 32 := 256#32
  let v388 : BitVec 32 := Scalar.muli v387 c256_i32_167
  v388
def k0_mult183 (i : grid0.Coords) : BitVec 32 :=
  let arg1 : BitVec 32 := BitVec.ofNat 32 (i 1).val
  let c7_i32_181 : BitVec 32 := 7#32
  let v423 : BitVec 32 := Scalar.subi arg1 c7_i32_181
  let c6_i32_182 : BitVec 32 := 6#32
  let v424 : BitVec 32 := Scalar.addi v423 c6_i32_182
  let c256_i32_183 : BitVec 32 := 256#32
  let v425 : BitVec 32 := Scalar.muli v424 c256_i32_183
  v425
def k0_mult184 (i : grid0.Coords) : BitVec 32 :=
  let arg1 : BitVec 32 := BitVec.ofNat 32 (i 1).val
  let c7_i32_197 : BitVec 32 := 7#32
  let v460 : BitVec 32 := Scalar.subi arg1 c7_i32_197
  let c7_i32_198 : BitVec 32 := 7#32
  let v461 : BitVec 32 := Scalar.addi v460 c7_i32_198
  let c256_i32_199 : BitVec 32 := 256#32
  let v462 : BitVec 32 := Scalar.muli v461 c256_i32_199
  v462
def k0_mult185 (i : grid0.Coords) : BitVec 32 :=
  let arg1 : BitVec 32 := BitVec.ofNat 32 (i 1).val
  let c7_i32_230 : BitVec 32 := 7#32
  let v513 : BitVec 32 := Scalar.subi arg1 c7_i32_230
  let c0_i32_231 : BitVec 32 := 0#32
  let v514 : BitVec 32 := Scalar.addi v513 c0_i32_231
  let c256_i32_232 : BitVec 32 := 256#32
  let v515 : BitVec 32 := Scalar.muli v514 c256_i32_232
  v515
def k0_off252 (i : grid0.Coords) (k0_t8 : Fin k0_t8_loop.trips) (c0_i32_231 : BitVec 32) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t8
  let v125 : BitVec 32 := Scalar.muli c2_i32_50 arg25
  let v517 : Index := Scalar.indexCast v125
  let c1_233 : Index := 1#32
  let arg1 : BitVec 32 := BitVec.ofNat 32 (i 1).val
  let c7_i32_230 : BitVec 32 := 7#32
  let v513 : BitVec 32 := Scalar.subi arg1 c7_i32_230
  let v514 : BitVec 32 := Scalar.addi v513 c0_i32_231
  let c256_i32_232 : BitVec 32 := 256#32
  let v515 : BitVec 32 := Scalar.muli v514 c256_i32_232
  let v516 : BitVec 32 := v515
  let v518 : Index := Scalar.indexCast v516
  let c0_234 : Index := 0#32
  ![v517.toNat, 1, v518.toNat, 0]
def k0_off253 (i : grid0.Coords) (k0_t8 : Fin k0_t8_loop.trips) (c0_i32_231 : BitVec 32) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t8
  let v125 : BitVec 32 := Scalar.muli c2_i32_50 arg25
  let v525 : Index := Scalar.indexCast v125
  let c1_240 : Index := 1#32
  let arg1 : BitVec 32 := BitVec.ofNat 32 (i 1).val
  let c7_i32_230 : BitVec 32 := 7#32
  let v513 : BitVec 32 := Scalar.subi arg1 c7_i32_230
  let v514 : BitVec 32 := Scalar.addi v513 c0_i32_231
  let c256_i32_232 : BitVec 32 := 256#32
  let v515 : BitVec 32 := Scalar.muli v514 c256_i32_232
  let v516 : BitVec 32 := v515
  let v526 : Index := Scalar.indexCast v516
  let c0_241 : Index := 0#32
  ![v525.toNat, 1, v526.toNat, 0]
def k0_mult186 (i : grid0.Coords) : BitVec 32 :=
  let arg1 : BitVec 32 := BitVec.ofNat 32 (i 1).val
  let c7_i32_249 : BitVec 32 := 7#32
  let v553 : BitVec 32 := Scalar.subi arg1 c7_i32_249
  let c1_i32_250 : BitVec 32 := 1#32
  let v554 : BitVec 32 := Scalar.addi v553 c1_i32_250
  let c256_i32_251 : BitVec 32 := 256#32
  let v555 : BitVec 32 := Scalar.muli v554 c256_i32_251
  v555
def k0_mult187 (i : grid0.Coords) : BitVec 32 :=
  let arg1 : BitVec 32 := BitVec.ofNat 32 (i 1).val
  let c7_i32_266 : BitVec 32 := 7#32
  let v590 : BitVec 32 := Scalar.subi arg1 c7_i32_266
  let c2_i32_267 : BitVec 32 := 2#32
  let v591 : BitVec 32 := Scalar.addi v590 c2_i32_267
  let c256_i32_268 : BitVec 32 := 256#32
  let v592 : BitVec 32 := Scalar.muli v591 c256_i32_268
  v592
def k0_mult188 (i : grid0.Coords) : BitVec 32 :=
  let arg1 : BitVec 32 := BitVec.ofNat 32 (i 1).val
  let c7_i32_283 : BitVec 32 := 7#32
  let v627 : BitVec 32 := Scalar.subi arg1 c7_i32_283
  let c3_i32_284 : BitVec 32 := 3#32
  let v628 : BitVec 32 := Scalar.addi v627 c3_i32_284
  let c256_i32_285 : BitVec 32 := 256#32
  let v629 : BitVec 32 := Scalar.muli v628 c256_i32_285
  v629
def k0_mult189 (i : grid0.Coords) : BitVec 32 :=
  let arg1 : BitVec 32 := BitVec.ofNat 32 (i 1).val
  let c7_i32_300 : BitVec 32 := 7#32
  let v664 : BitVec 32 := Scalar.subi arg1 c7_i32_300
  let c4_i32_301 : BitVec 32 := 4#32
  let v665 : BitVec 32 := Scalar.addi v664 c4_i32_301
  let c256_i32_302 : BitVec 32 := 256#32
  let v666 : BitVec 32 := Scalar.muli v665 c256_i32_302
  v666
def k0_mult190 (i : grid0.Coords) : BitVec 32 :=
  let arg1 : BitVec 32 := BitVec.ofNat 32 (i 1).val
  let c7_i32_317 : BitVec 32 := 7#32
  let v701 : BitVec 32 := Scalar.subi arg1 c7_i32_317
  let c5_i32_318 : BitVec 32 := 5#32
  let v702 : BitVec 32 := Scalar.addi v701 c5_i32_318
  let c256_i32_319 : BitVec 32 := 256#32
  let v703 : BitVec 32 := Scalar.muli v702 c256_i32_319
  v703
def k0_mult191 (i : grid0.Coords) : BitVec 32 :=
  let arg1 : BitVec 32 := BitVec.ofNat 32 (i 1).val
  let c7_i32_334 : BitVec 32 := 7#32
  let v738 : BitVec 32 := Scalar.subi arg1 c7_i32_334
  let c6_i32_335 : BitVec 32 := 6#32
  let v739 : BitVec 32 := Scalar.addi v738 c6_i32_335
  let c256_i32_336 : BitVec 32 := 256#32
  let v740 : BitVec 32 := Scalar.muli v739 c256_i32_336
  v740
def k0_mult192 (i : grid0.Coords) : BitVec 32 :=
  let arg1 : BitVec 32 := BitVec.ofNat 32 (i 1).val
  let c7_i32_351 : BitVec 32 := 7#32
  let v775 : BitVec 32 := Scalar.subi arg1 c7_i32_351
  let c7_i32_352 : BitVec 32 := 7#32
  let v776 : BitVec 32 := Scalar.addi v775 c7_i32_352
  let c256_i32_353 : BitVec 32 := 256#32
  let v777 : BitVec 32 := Scalar.muli v776 c256_i32_353
  v777
def k0_mult193 (i : grid0.Coords) : BitVec 32 :=
  let arg1 : BitVec 32 := BitVec.ofNat 32 (i 1).val
  let c7_i32_379 : BitVec 32 := 7#32
  let v823 : BitVec 32 := Scalar.subi arg1 c7_i32_379
  let c0_i32_380 : BitVec 32 := 0#32
  let v824 : BitVec 32 := Scalar.addi v823 c0_i32_380
  let c256_i32_381 : BitVec 32 := 256#32
  let v825 : BitVec 32 := Scalar.muli v824 c256_i32_381
  v825
def k0_off254 (i : grid0.Coords) (k0_t8 : Fin k0_t8_loop.trips) (c0_i32_380 : BitVec 32) : Fin 3 → Nat :=
  let c2_i32_50 : BitVec 32 := 2#32
  let c0_i32_46 : BitVec 32 := 0#32
  let c1_i32_48 : BitVec 32 := 1#32
  let arg25 : BitVec 32 := Scf.iv c0_i32_46 c1_i32_48 k0_t8
  let v125 : BitVec 32 := Scalar.muli c2_i32_50 arg25
  let v846 : Index := Scalar.indexCast v125
  let c0_390 : Index := 0#32
  let arg1 : BitVec 32 := BitVec.ofNat 32 (i 1).val
  let c7_i32_379 : BitVec 32 := 7#32
  let v823 : BitVec 32 := Scalar.subi arg1 c7_i32_379
  let v824 : BitVec 32 := Scalar.addi v823 c0_i32_380
  let c256_i32_381 : BitVec 32 := 256#32
  let v825 : BitVec 32 := Scalar.muli v824 c256_i32_381
  let v826 : BitVec 32 := v825
  let v847 : Index := Scalar.indexCast v826
  ![v846.toNat, 0, v847.toNat]
def k0_mult194 (i : grid0.Coords) : BitVec 32 :=
  let arg1 : BitVec 32 := BitVec.ofNat 32 (i 1).val
  let c7_i32_392 : BitVec 32 := 7#32
  let v851 : BitVec 32 := Scalar.subi arg1 c7_i32_392
  let c1_i32_393 : BitVec 32 := 1#32
  let v852 : BitVec 32 := Scalar.addi v851 c1_i32_393
  let c256_i32_394 : BitVec 32 := 256#32
  let v853 : BitVec 32 := Scalar.muli v852 c256_i32_394
  v853
def k0_mult195 (i : grid0.Coords) : BitVec 32 :=
  let arg1 : BitVec 32 := BitVec.ofNat 32 (i 1).val
  let c7_i32_405 : BitVec 32 := 7#32
  let v880 : BitVec 32 := Scalar.subi arg1 c7_i32_405
  let c2_i32_406 : BitVec 32 := 2#32
  let v881 : BitVec 32 := Scalar.addi v880 c2_i32_406
  let c256_i32_407 : BitVec 32 := 256#32
  let v882 : BitVec 32 := Scalar.muli v881 c256_i32_407
  v882
def k0_mult196 (i : grid0.Coords) : BitVec 32 :=
  let arg1 : BitVec 32 := BitVec.ofNat 32 (i 1).val
  let c7_i32_418 : BitVec 32 := 7#32
  let v909 : BitVec 32 := Scalar.subi arg1 c7_i32_418
  let c3_i32_419 : BitVec 32 := 3#32
  let v910 : BitVec 32 := Scalar.addi v909 c3_i32_419
  let c256_i32_420 : BitVec 32 := 256#32
  let v911 : BitVec 32 := Scalar.muli v910 c256_i32_420
  v911
def k0_mult197 (i : grid0.Coords) : BitVec 32 :=
  let arg1 : BitVec 32 := BitVec.ofNat 32 (i 1).val
  let c7_i32_431 : BitVec 32 := 7#32
  let v938 : BitVec 32 := Scalar.subi arg1 c7_i32_431
  let c4_i32_432 : BitVec 32 := 4#32
  let v939 : BitVec 32 := Scalar.addi v938 c4_i32_432
  let c256_i32_433 : BitVec 32 := 256#32
  let v940 : BitVec 32 := Scalar.muli v939 c256_i32_433
  v940
def k0_mult198 (i : grid0.Coords) : BitVec 32 :=
  let arg1 : BitVec 32 := BitVec.ofNat 32 (i 1).val
  let c7_i32_444 : BitVec 32 := 7#32
  let v967 : BitVec 32 := Scalar.subi arg1 c7_i32_444
  let c5_i32_445 : BitVec 32 := 5#32
  let v968 : BitVec 32 := Scalar.addi v967 c5_i32_445
  let c256_i32_446 : BitVec 32 := 256#32
  let v969 : BitVec 32 := Scalar.muli v968 c256_i32_446
  v969
def k0_mult199 (i : grid0.Coords) : BitVec 32 :=
  let arg1 : BitVec 32 := BitVec.ofNat 32 (i 1).val
  let c7_i32_457 : BitVec 32 := 7#32
  let v996 : BitVec 32 := Scalar.subi arg1 c7_i32_457
  let c6_i32_458 : BitVec 32 := 6#32
  let v997 : BitVec 32 := Scalar.addi v996 c6_i32_458
  let c256_i32_459 : BitVec 32 := 256#32
  let v998 : BitVec 32 := Scalar.muli v997 c256_i32_459
  v998
def k0_mult200 (i : grid0.Coords) : BitVec 32 :=
  let arg1 : BitVec 32 := BitVec.ofNat 32 (i 1).val
  let c7_i32_470 : BitVec 32 := 7#32
  let v1025 : BitVec 32 := Scalar.subi arg1 c7_i32_470
  let c7_i32_471 : BitVec 32 := 7#32
  let v1026 : BitVec 32 := Scalar.addi v1025 c7_i32_471
  let c256_i32_472 : BitVec 32 := 256#32
  let v1027 : BitVec 32 := Scalar.muli v1026 c256_i32_472
  v1027
def k0_off255 (k0_t8 : Fin k0_t8_loop.trips) : Fin 3 → Nat :=
  let c2_i32_50 : BitVec 32 := 2#32
  let c0_i32_46 : BitVec 32 := 0#32
  let c1_i32_48 : BitVec 32 := 1#32
  let arg25 : BitVec 32 := Scf.iv c0_i32_46 c1_i32_48 k0_t8
  let v125 : BitVec 32 := Scalar.muli c2_i32_50 arg25
  let v1046 : Index := Scalar.indexCast v125
  let c0_481 : Index := 0#32
  let c0_482 : Index := 0#32
  ![v1046.toNat, 0, 0]
def k0_off256 (k0_t8 : Fin k0_t8_loop.trips) : Fin 5 → Nat :=
  let c0_501 : Index := 0#32
  let c2_i32_499 : BitVec 32 := 2#32
  let c0_i32_46 : BitVec 32 := 0#32
  let c1_i32_48 : BitVec 32 := 1#32
  let arg25 : BitVec 32 := Scf.iv c0_i32_46 c1_i32_48 k0_t8
  let v1089 : BitVec 32 := Scalar.muli c2_i32_499 arg25
  let c1_i32_500 : BitVec 32 := 1#32
  let v1090 : BitVec 32 := Scalar.addi v1089 c1_i32_500
  let v1091 : Index := Scalar.indexCast v1090
  let c0_502 : Index := 0#32
  let c0_503 : Index := 0#32
  let c0_504 : Index := 0#32
  ![0, v1091.toNat, 0, 0, 0]
def k0_off257 (i : grid0.Coords) (k0_t8 : Fin k0_t8_loop.trips) : Fin 4 → Nat :=
  let c2_i32_499 : BitVec 32 := 2#32
  let c0_i32_46 : BitVec 32 := 0#32
  let c1_i32_48 : BitVec 32 := 1#32
  let arg25 : BitVec 32 := Scf.iv c0_i32_46 c1_i32_48 k0_t8
  let v1089 : BitVec 32 := Scalar.muli c2_i32_499 arg25
  let c1_i32_500 : BitVec 32 := 1#32
  let v1090 : BitVec 32 := Scalar.addi v1089 c1_i32_500
  let v1097 : Index := Scalar.indexCast v1090
  let c0_505 : Index := 0#32
  let arg1 : BitVec 32 := BitVec.ofNat 32 (i 1).val
  let c256_i32_27 : BitVec 32 := 256#32
  let v82 : BitVec 32 := Scalar.muli arg1 c256_i32_27
  let v83 : BitVec 32 := v82
  let v1098 : Index := Scalar.indexCast v83
  let c0_506 : Index := 0#32
  ![v1097.toNat, 0, v1098.toNat, 0]
def k0_off258 (k0_t8 : Fin k0_t8_loop.trips) : Fin 4 → Nat :=
  let c0_507 : Index := 0#32
  let c2_i32_499 : BitVec 32 := 2#32
  let c0_i32_46 : BitVec 32 := 0#32
  let c1_i32_48 : BitVec 32 := 1#32
  let arg25 : BitVec 32 := Scf.iv c0_i32_46 c1_i32_48 k0_t8
  let v1089 : BitVec 32 := Scalar.muli c2_i32_499 arg25
  let c1_i32_500 : BitVec 32 := 1#32
  let v1090 : BitVec 32 := Scalar.addi v1089 c1_i32_500
  let v1102 : Index := Scalar.indexCast v1090
  let c0_508 : Index := 0#32
  let c0_509 : Index := 0#32
  ![0, v1102.toNat, 0, 0]
def k0_off259 (i : grid0.Coords) (k0_t8 : Fin k0_t8_loop.trips) : Fin 4 → Nat :=
  let c2_i32_499 : BitVec 32 := 2#32
  let c0_i32_46 : BitVec 32 := 0#32
  let c1_i32_48 : BitVec 32 := 1#32
  let arg25 : BitVec 32 := Scf.iv c0_i32_46 c1_i32_48 k0_t8
  let v1089 : BitVec 32 := Scalar.muli c2_i32_499 arg25
  let c1_i32_500 : BitVec 32 := 1#32
  let v1090 : BitVec 32 := Scalar.addi v1089 c1_i32_500
  let v1114 : Index := Scalar.indexCast v1090
  let c0_510 : Index := 0#32
  let arg1 : BitVec 32 := BitVec.ofNat 32 (i 1).val
  let c256_i32_27 : BitVec 32 := 256#32
  let v82 : BitVec 32 := Scalar.muli arg1 c256_i32_27
  let v83 : BitVec 32 := v82
  let v1115 : Index := Scalar.indexCast v83
  let c0_511 : Index := 0#32
  ![v1114.toNat, 0, v1115.toNat, 0]
def k0_off260 (k0_t8 : Fin k0_t8_loop.trips) : Fin 5 → Nat :=
  let c0_512 : Index := 0#32
  let c2_i32_499 : BitVec 32 := 2#32
  let c0_i32_46 : BitVec 32 := 0#32
  let c1_i32_48 : BitVec 32 := 1#32
  let arg25 : BitVec 32 := Scf.iv c0_i32_46 c1_i32_48 k0_t8
  let v1089 : BitVec 32 := Scalar.muli c2_i32_499 arg25
  let c1_i32_500 : BitVec 32 := 1#32
  let v1090 : BitVec 32 := Scalar.addi v1089 c1_i32_500
  let v1119 : Index := Scalar.indexCast v1090
  let c1_513 : Index := 1#32
  let c0_514 : Index := 0#32
  let c0_515 : Index := 0#32
  ![0, v1119.toNat, 1, 0, 0]
def k0_off261 (i : grid0.Coords) (k0_t8 : Fin k0_t8_loop.trips) : Fin 4 → Nat :=
  let c2_i32_499 : BitVec 32 := 2#32
  let c0_i32_46 : BitVec 32 := 0#32
  let c1_i32_48 : BitVec 32 := 1#32
  let arg25 : BitVec 32 := Scf.iv c0_i32_46 c1_i32_48 k0_t8
  let v1089 : BitVec 32 := Scalar.muli c2_i32_499 arg25
  let c1_i32_500 : BitVec 32 := 1#32
  let v1090 : BitVec 32 := Scalar.addi v1089 c1_i32_500
  let v1125 : Index := Scalar.indexCast v1090
  let c1_516 : Index := 1#32
  let arg1 : BitVec 32 := BitVec.ofNat 32 (i 1).val
  let c256_i32_27 : BitVec 32 := 256#32
  let v82 : BitVec 32 := Scalar.muli arg1 c256_i32_27
  let v83 : BitVec 32 := v82
  let v1126 : Index := Scalar.indexCast v83
  let c0_517 : Index := 0#32
  ![v1125.toNat, 1, v1126.toNat, 0]
def k0_off262 (k0_t8 : Fin k0_t8_loop.trips) : Fin 4 → Nat :=
  let c0_518 : Index := 0#32
  let c2_i32_499 : BitVec 32 := 2#32
  let c0_i32_46 : BitVec 32 := 0#32
  let c1_i32_48 : BitVec 32 := 1#32
  let arg25 : BitVec 32 := Scf.iv c0_i32_46 c1_i32_48 k0_t8
  let v1089 : BitVec 32 := Scalar.muli c2_i32_499 arg25
  let c1_i32_500 : BitVec 32 := 1#32
  let v1090 : BitVec 32 := Scalar.addi v1089 c1_i32_500
  let v1130 : Index := Scalar.indexCast v1090
  let c1_519 : Index := 1#32
  let c0_520 : Index := 0#32
  ![0, v1130.toNat, 1, 0]
def k0_off263 (i : grid0.Coords) (k0_t8 : Fin k0_t8_loop.trips) : Fin 4 → Nat :=
  let c2_i32_499 : BitVec 32 := 2#32
  let c0_i32_46 : BitVec 32 := 0#32
  let c1_i32_48 : BitVec 32 := 1#32
  let arg25 : BitVec 32 := Scf.iv c0_i32_46 c1_i32_48 k0_t8
  let v1089 : BitVec 32 := Scalar.muli c2_i32_499 arg25
  let c1_i32_500 : BitVec 32 := 1#32
  let v1090 : BitVec 32 := Scalar.addi v1089 c1_i32_500
  let v1142 : Index := Scalar.indexCast v1090
  let c1_521 : Index := 1#32
  let arg1 : BitVec 32 := BitVec.ofNat 32 (i 1).val
  let c256_i32_27 : BitVec 32 := 256#32
  let v82 : BitVec 32 := Scalar.muli arg1 c256_i32_27
  let v83 : BitVec 32 := v82
  let v1143 : Index := Scalar.indexCast v83
  let c0_522 : Index := 0#32
  ![v1142.toNat, 1, v1143.toNat, 0]
def k0_off264 (k0_t8 : Fin k0_t8_loop.trips) : Fin 4 → Nat :=
  let c0_523 : Index := 0#32
  let c2_i32_499 : BitVec 32 := 2#32
  let c0_i32_46 : BitVec 32 := 0#32
  let c1_i32_48 : BitVec 32 := 1#32
  let arg25 : BitVec 32 := Scf.iv c0_i32_46 c1_i32_48 k0_t8
  let v1089 : BitVec 32 := Scalar.muli c2_i32_499 arg25
  let c1_i32_500 : BitVec 32 := 1#32
  let v1090 : BitVec 32 := Scalar.addi v1089 c1_i32_500
  let v1147 : Index := Scalar.indexCast v1090
  let c0_524 : Index := 0#32
  let c0_525 : Index := 0#32
  ![0, v1147.toNat, 0, 0]
def k0_off265 (i : grid0.Coords) (k0_t8 : Fin k0_t8_loop.trips) : Fin 3 → Nat :=
  let c2_i32_499 : BitVec 32 := 2#32
  let c0_i32_46 : BitVec 32 := 0#32
  let c1_i32_48 : BitVec 32 := 1#32
  let arg25 : BitVec 32 := Scf.iv c0_i32_46 c1_i32_48 k0_t8
  let v1089 : BitVec 32 := Scalar.muli c2_i32_499 arg25
  let c1_i32_500 : BitVec 32 := 1#32
  let v1090 : BitVec 32 := Scalar.addi v1089 c1_i32_500
  let v1151 : Index := Scalar.indexCast v1090
  let c0_526 : Index := 0#32
  let arg1 : BitVec 32 := BitVec.ofNat 32 (i 1).val
  let c256_i32_27 : BitVec 32 := 256#32
  let v82 : BitVec 32 := Scalar.muli arg1 c256_i32_27
  let v83 : BitVec 32 := v82
  let v1152 : Index := Scalar.indexCast v83
  ![v1151.toNat, 0, v1152.toNat]
def k0_mult201 (i : grid0.Coords) : BitVec 32 :=
  let arg1 : BitVec 32 := BitVec.ofNat 32 (i 1).val
  let c7_i32_533 : BitVec 32 := 7#32
  let v1163 : BitVec 32 := Scalar.subi arg1 c7_i32_533
  let c0_i32_534 : BitVec 32 := 0#32
  let v1164 : BitVec 32 := Scalar.addi v1163 c0_i32_534
  let c256_i32_535 : BitVec 32 := 256#32
  let v1165 : BitVec 32 := Scalar.muli v1164 c256_i32_535
  v1165
def k0_off266 (i : grid0.Coords) (k0_t8 : Fin k0_t8_loop.trips) (c0_i32_534 : BitVec 32) : Fin 4 → Nat :=
  let c2_i32_499 : BitVec 32 := 2#32
  let c0_i32_46 : BitVec 32 := 0#32
  let c1_i32_48 : BitVec 32 := 1#32
  let arg25 : BitVec 32 := Scf.iv c0_i32_46 c1_i32_48 k0_t8
  let v1089 : BitVec 32 := Scalar.muli c2_i32_499 arg25
  let c1_i32_500 : BitVec 32 := 1#32
  let v1090 : BitVec 32 := Scalar.addi v1089 c1_i32_500
  let v1167 : Index := Scalar.indexCast v1090
  let c0_536 : Index := 0#32
  let arg1 : BitVec 32 := BitVec.ofNat 32 (i 1).val
  let c7_i32_533 : BitVec 32 := 7#32
  let v1163 : BitVec 32 := Scalar.subi arg1 c7_i32_533
  let v1164 : BitVec 32 := Scalar.addi v1163 c0_i32_534
  let c256_i32_535 : BitVec 32 := 256#32
  let v1165 : BitVec 32 := Scalar.muli v1164 c256_i32_535
  let v1166 : BitVec 32 := v1165
  let v1168 : Index := Scalar.indexCast v1166
  let c0_537 : Index := 0#32
  ![v1167.toNat, 0, v1168.toNat, 0]
def k0_off267 (i : grid0.Coords) (k0_t8 : Fin k0_t8_loop.trips) (c0_i32_534 : BitVec 32) : Fin 4 → Nat :=
  let c2_i32_499 : BitVec 32 := 2#32
  let c0_i32_46 : BitVec 32 := 0#32
  let c1_i32_48 : BitVec 32 := 1#32
  let arg25 : BitVec 32 := Scf.iv c0_i32_46 c1_i32_48 k0_t8
  let v1089 : BitVec 32 := Scalar.muli c2_i32_499 arg25
  let c1_i32_500 : BitVec 32 := 1#32
  let v1090 : BitVec 32 := Scalar.addi v1089 c1_i32_500
  let v1175 : Index := Scalar.indexCast v1090
  let c0_543 : Index := 0#32
  let arg1 : BitVec 32 := BitVec.ofNat 32 (i 1).val
  let c7_i32_533 : BitVec 32 := 7#32
  let v1163 : BitVec 32 := Scalar.subi arg1 c7_i32_533
  let v1164 : BitVec 32 := Scalar.addi v1163 c0_i32_534
  let c256_i32_535 : BitVec 32 := 256#32
  let v1165 : BitVec 32 := Scalar.muli v1164 c256_i32_535
  let v1166 : BitVec 32 := v1165
  let v1176 : Index := Scalar.indexCast v1166
  let c0_544 : Index := 0#32
  ![v1175.toNat, 0, v1176.toNat, 0]
def k0_mult202 (i : grid0.Coords) : BitVec 32 :=
  let arg1 : BitVec 32 := BitVec.ofNat 32 (i 1).val
  let c7_i32_552 : BitVec 32 := 7#32
  let v1203 : BitVec 32 := Scalar.subi arg1 c7_i32_552
  let c1_i32_553 : BitVec 32 := 1#32
  let v1204 : BitVec 32 := Scalar.addi v1203 c1_i32_553
  let c256_i32_554 : BitVec 32 := 256#32
  let v1205 : BitVec 32 := Scalar.muli v1204 c256_i32_554
  v1205
def k0_mult203 (i : grid0.Coords) : BitVec 32 :=
  let arg1 : BitVec 32 := BitVec.ofNat 32 (i 1).val
  let c7_i32_569 : BitVec 32 := 7#32
  let v1240 : BitVec 32 := Scalar.subi arg1 c7_i32_569
  let c2_i32_570 : BitVec 32 := 2#32
  let v1241 : BitVec 32 := Scalar.addi v1240 c2_i32_570
  let c256_i32_571 : BitVec 32 := 256#32
  let v1242 : BitVec 32 := Scalar.muli v1241 c256_i32_571
  v1242
def k0_mult204 (i : grid0.Coords) : BitVec 32 :=
  let arg1 : BitVec 32 := BitVec.ofNat 32 (i 1).val
  let c7_i32_586 : BitVec 32 := 7#32
  let v1277 : BitVec 32 := Scalar.subi arg1 c7_i32_586
  let c3_i32_587 : BitVec 32 := 3#32
  let v1278 : BitVec 32 := Scalar.addi v1277 c3_i32_587
  let c256_i32_588 : BitVec 32 := 256#32
  let v1279 : BitVec 32 := Scalar.muli v1278 c256_i32_588
  v1279
def k0_mult205 (i : grid0.Coords) : BitVec 32 :=
  let arg1 : BitVec 32 := BitVec.ofNat 32 (i 1).val
  let c7_i32_603 : BitVec 32 := 7#32
  let v1314 : BitVec 32 := Scalar.subi arg1 c7_i32_603
  let c4_i32_604 : BitVec 32 := 4#32
  let v1315 : BitVec 32 := Scalar.addi v1314 c4_i32_604
  let c256_i32_605 : BitVec 32 := 256#32
  let v1316 : BitVec 32 := Scalar.muli v1315 c256_i32_605
  v1316
def k0_mult206 (i : grid0.Coords) : BitVec 32 :=
  let arg1 : BitVec 32 := BitVec.ofNat 32 (i 1).val
  let c7_i32_620 : BitVec 32 := 7#32
  let v1351 : BitVec 32 := Scalar.subi arg1 c7_i32_620
  let c5_i32_621 : BitVec 32 := 5#32
  let v1352 : BitVec 32 := Scalar.addi v1351 c5_i32_621
  let c256_i32_622 : BitVec 32 := 256#32
  let v1353 : BitVec 32 := Scalar.muli v1352 c256_i32_622
  v1353
def k0_mult207 (i : grid0.Coords) : BitVec 32 :=
  let arg1 : BitVec 32 := BitVec.ofNat 32 (i 1).val
  let c7_i32_637 : BitVec 32 := 7#32
  let v1388 : BitVec 32 := Scalar.subi arg1 c7_i32_637
  let c6_i32_638 : BitVec 32 := 6#32
  let v1389 : BitVec 32 := Scalar.addi v1388 c6_i32_638
  let c256_i32_639 : BitVec 32 := 256#32
  let v1390 : BitVec 32 := Scalar.muli v1389 c256_i32_639
  v1390
def k0_mult208 (i : grid0.Coords) : BitVec 32 :=
  let arg1 : BitVec 32 := BitVec.ofNat 32 (i 1).val
  let c7_i32_654 : BitVec 32 := 7#32
  let v1425 : BitVec 32 := Scalar.subi arg1 c7_i32_654
  let c7_i32_655 : BitVec 32 := 7#32
  let v1426 : BitVec 32 := Scalar.addi v1425 c7_i32_655
  let c256_i32_656 : BitVec 32 := 256#32
  let v1427 : BitVec 32 := Scalar.muli v1426 c256_i32_656
  v1427
def k0_mult209 (i : grid0.Coords) : BitVec 32 :=
  let arg1 : BitVec 32 := BitVec.ofNat 32 (i 1).val
  let c7_i32_688 : BitVec 32 := 7#32
  let v1478 : BitVec 32 := Scalar.subi arg1 c7_i32_688
  let c0_i32_689 : BitVec 32 := 0#32
  let v1479 : BitVec 32 := Scalar.addi v1478 c0_i32_689
  let c256_i32_690 : BitVec 32 := 256#32
  let v1480 : BitVec 32 := Scalar.muli v1479 c256_i32_690
  v1480
def k0_off268 (i : grid0.Coords) (k0_t8 : Fin k0_t8_loop.trips) (c0_i32_689 : BitVec 32) : Fin 4 → Nat :=
  let c2_i32_499 : BitVec 32 := 2#32
  let c0_i32_46 : BitVec 32 := 0#32
  let c1_i32_48 : BitVec 32 := 1#32
  let arg25 : BitVec 32 := Scf.iv c0_i32_46 c1_i32_48 k0_t8
  let v1089 : BitVec 32 := Scalar.muli c2_i32_499 arg25
  let c1_i32_500 : BitVec 32 := 1#32
  let v1090 : BitVec 32 := Scalar.addi v1089 c1_i32_500
  let v1482 : Index := Scalar.indexCast v1090
  let c1_691 : Index := 1#32
  let arg1 : BitVec 32 := BitVec.ofNat 32 (i 1).val
  let c7_i32_688 : BitVec 32 := 7#32
  let v1478 : BitVec 32 := Scalar.subi arg1 c7_i32_688
  let v1479 : BitVec 32 := Scalar.addi v1478 c0_i32_689
  let c256_i32_690 : BitVec 32 := 256#32
  let v1480 : BitVec 32 := Scalar.muli v1479 c256_i32_690
  let v1481 : BitVec 32 := v1480
  let v1483 : Index := Scalar.indexCast v1481
  let c0_692 : Index := 0#32
  ![v1482.toNat, 1, v1483.toNat, 0]
def k0_off269 (i : grid0.Coords) (k0_t8 : Fin k0_t8_loop.trips) (c0_i32_689 : BitVec 32) : Fin 4 → Nat :=
  let c2_i32_499 : BitVec 32 := 2#32
  let c0_i32_46 : BitVec 32 := 0#32
  let c1_i32_48 : BitVec 32 := 1#32
  let arg25 : BitVec 32 := Scf.iv c0_i32_46 c1_i32_48 k0_t8
  let v1089 : BitVec 32 := Scalar.muli c2_i32_499 arg25
  let c1_i32_500 : BitVec 32 := 1#32
  let v1090 : BitVec 32 := Scalar.addi v1089 c1_i32_500
  let v1490 : Index := Scalar.indexCast v1090
  let c1_698 : Index := 1#32
  let arg1 : BitVec 32 := BitVec.ofNat 32 (i 1).val
  let c7_i32_688 : BitVec 32 := 7#32
  let v1478 : BitVec 32 := Scalar.subi arg1 c7_i32_688
  let v1479 : BitVec 32 := Scalar.addi v1478 c0_i32_689
  let c256_i32_690 : BitVec 32 := 256#32
  let v1480 : BitVec 32 := Scalar.muli v1479 c256_i32_690
  let v1481 : BitVec 32 := v1480
  let v1491 : Index := Scalar.indexCast v1481
  let c0_699 : Index := 0#32
  ![v1490.toNat, 1, v1491.toNat, 0]
def k0_mult210 (i : grid0.Coords) : BitVec 32 :=
  let arg1 : BitVec 32 := BitVec.ofNat 32 (i 1).val
  let c7_i32_707 : BitVec 32 := 7#32
  let v1518 : BitVec 32 := Scalar.subi arg1 c7_i32_707
  let c1_i32_708 : BitVec 32 := 1#32
  let v1519 : BitVec 32 := Scalar.addi v1518 c1_i32_708
  let c256_i32_709 : BitVec 32 := 256#32
  let v1520 : BitVec 32 := Scalar.muli v1519 c256_i32_709
  v1520
def k0_mult211 (i : grid0.Coords) : BitVec 32 :=
  let arg1 : BitVec 32 := BitVec.ofNat 32 (i 1).val
  let c7_i32_724 : BitVec 32 := 7#32
  let v1555 : BitVec 32 := Scalar.subi arg1 c7_i32_724
  let c2_i32_725 : BitVec 32 := 2#32
  let v1556 : BitVec 32 := Scalar.addi v1555 c2_i32_725
  let c256_i32_726 : BitVec 32 := 256#32
  let v1557 : BitVec 32 := Scalar.muli v1556 c256_i32_726
  v1557
def k0_mult212 (i : grid0.Coords) : BitVec 32 :=
  let arg1 : BitVec 32 := BitVec.ofNat 32 (i 1).val
  let c7_i32_741 : BitVec 32 := 7#32
  let v1592 : BitVec 32 := Scalar.subi arg1 c7_i32_741
  let c3_i32_742 : BitVec 32 := 3#32
  let v1593 : BitVec 32 := Scalar.addi v1592 c3_i32_742
  let c256_i32_743 : BitVec 32 := 256#32
  let v1594 : BitVec 32 := Scalar.muli v1593 c256_i32_743
  v1594
def k0_mult213 (i : grid0.Coords) : BitVec 32 :=
  let arg1 : BitVec 32 := BitVec.ofNat 32 (i 1).val
  let c7_i32_758 : BitVec 32 := 7#32
  let v1629 : BitVec 32 := Scalar.subi arg1 c7_i32_758
  let c4_i32_759 : BitVec 32 := 4#32
  let v1630 : BitVec 32 := Scalar.addi v1629 c4_i32_759
  let c256_i32_760 : BitVec 32 := 256#32
  let v1631 : BitVec 32 := Scalar.muli v1630 c256_i32_760
  v1631
def k0_mult214 (i : grid0.Coords) : BitVec 32 :=
  let arg1 : BitVec 32 := BitVec.ofNat 32 (i 1).val
  let c7_i32_775 : BitVec 32 := 7#32
  let v1666 : BitVec 32 := Scalar.subi arg1 c7_i32_775
  let c5_i32_776 : BitVec 32 := 5#32
  let v1667 : BitVec 32 := Scalar.addi v1666 c5_i32_776
  let c256_i32_777 : BitVec 32 := 256#32
  let v1668 : BitVec 32 := Scalar.muli v1667 c256_i32_777
  v1668
def k0_mult215 (i : grid0.Coords) : BitVec 32 :=
  let arg1 : BitVec 32 := BitVec.ofNat 32 (i 1).val
  let c7_i32_792 : BitVec 32 := 7#32
  let v1703 : BitVec 32 := Scalar.subi arg1 c7_i32_792
  let c6_i32_793 : BitVec 32 := 6#32
  let v1704 : BitVec 32 := Scalar.addi v1703 c6_i32_793
  let c256_i32_794 : BitVec 32 := 256#32
  let v1705 : BitVec 32 := Scalar.muli v1704 c256_i32_794
  v1705
def k0_mult216 (i : grid0.Coords) : BitVec 32 :=
  let arg1 : BitVec 32 := BitVec.ofNat 32 (i 1).val
  let c7_i32_809 : BitVec 32 := 7#32
  let v1740 : BitVec 32 := Scalar.subi arg1 c7_i32_809
  let c7_i32_810 : BitVec 32 := 7#32
  let v1741 : BitVec 32 := Scalar.addi v1740 c7_i32_810
  let c256_i32_811 : BitVec 32 := 256#32
  let v1742 : BitVec 32 := Scalar.muli v1741 c256_i32_811
  v1742
def k0_mult217 (i : grid0.Coords) : BitVec 32 :=
  let arg1 : BitVec 32 := BitVec.ofNat 32 (i 1).val
  let c7_i32_837 : BitVec 32 := 7#32
  let v1788 : BitVec 32 := Scalar.subi arg1 c7_i32_837
  let c0_i32_838 : BitVec 32 := 0#32
  let v1789 : BitVec 32 := Scalar.addi v1788 c0_i32_838
  let c256_i32_839 : BitVec 32 := 256#32
  let v1790 : BitVec 32 := Scalar.muli v1789 c256_i32_839
  v1790
def k0_off270 (i : grid0.Coords) (k0_t8 : Fin k0_t8_loop.trips) (c0_i32_838 : BitVec 32) : Fin 3 → Nat :=
  let c2_i32_499 : BitVec 32 := 2#32
  let c0_i32_46 : BitVec 32 := 0#32
  let c1_i32_48 : BitVec 32 := 1#32
  let arg25 : BitVec 32 := Scf.iv c0_i32_46 c1_i32_48 k0_t8
  let v1089 : BitVec 32 := Scalar.muli c2_i32_499 arg25
  let c1_i32_500 : BitVec 32 := 1#32
  let v1090 : BitVec 32 := Scalar.addi v1089 c1_i32_500
  let v1811 : Index := Scalar.indexCast v1090
  let c0_848 : Index := 0#32
  let arg1 : BitVec 32 := BitVec.ofNat 32 (i 1).val
  let c7_i32_837 : BitVec 32 := 7#32
  let v1788 : BitVec 32 := Scalar.subi arg1 c7_i32_837
  let v1789 : BitVec 32 := Scalar.addi v1788 c0_i32_838
  let c256_i32_839 : BitVec 32 := 256#32
  let v1790 : BitVec 32 := Scalar.muli v1789 c256_i32_839
  let v1791 : BitVec 32 := v1790
  let v1812 : Index := Scalar.indexCast v1791
  ![v1811.toNat, 0, v1812.toNat]

def k0_chk1_0 (i : grid0.Coords) (v2 : BitVec 32) : Prop :=
  (∀ k0_t2 : Fin k0_t2_loop.trips, ∀ (k0_h2 : k0_cond2 i v2 = 1#1), ∀ (r : Fin 2), ∀ a, (k0_off45 i k0_t2 (BitVec.ofNat 32 r.val)) a + S1x1x256x160.size a ≤ S6x2x2048x160.size a) ∧
  (∀ k0_t2 : Fin k0_t2_loop.trips, ∀ (k0_h2 : k0_cond2 i v2 = 1#1), ∀ (r : Fin 2), ∀ a, (k0_off46 i k0_t2 (BitVec.ofNat 32 r.val)) a + S1x1x256x128.size a ≤ S6x2x2048x128.size a) ∧
  (∀ (k0_h2 : k0_cond2 i v2 = 1#1), ∀ a, (k0_off47 i) a + S1x1.size a ≤ S24x8.size a) ∧
  (∀ k0_t2 : Fin k0_t2_loop.trips, ∀ (k0_h2 : k0_cond2 i v2 = 1#1), ∀ (r : Fin 2), ∀ a, (k0_off48 i k0_t2 (BitVec.ofNat 32 r.val)) a + S1x1x256x160.size a ≤ S6x2x2048x160.size a) ∧
  (∀ k0_t2 : Fin k0_t2_loop.trips, ∀ (k0_h2 : k0_cond2 i v2 = 1#1), ∀ (r : Fin 2), ∀ a, (k0_off49 i k0_t2 (BitVec.ofNat 32 r.val)) a + S1x1x256x128.size a ≤ S6x2x2048x128.size a) ∧
  (∀ k0_t2 : Fin k0_t2_loop.trips, ∀ (k0_h2 : k0_cond2 i v2 = 1#1), ∀ (r : Fin 2), ∀ a, (k0_off50 i k0_t2 (BitVec.ofNat 32 r.val)) a + S1x320x256.size a ≤ S6x320x2048.size a) ∧
  (∀ k0_t2 : Fin k0_t2_loop.trips, ∀ (k0_h2 : k0_cond2 i v2 = 1#1), ∀ (r : Fin 2), ∀ a, (k0_off62 i k0_t2 (BitVec.ofNat 32 r.val)) a + S1x1x256x160.size a ≤ S6x2x2048x160.size a) ∧
  (∀ k0_t2 : Fin k0_t2_loop.trips, ∀ (k0_h2 : k0_cond2 i v2 = 1#1), ∀ (r : Fin 2), ∀ a, (k0_off63 i k0_t2 (BitVec.ofNat 32 r.val)) a + S1x1x256x128.size a ≤ S6x2x2048x128.size a) ∧
  (∀ k0_t2 : Fin k0_t2_loop.trips, ∀ (k0_h2 : k0_cond2 i v2 = 1#1), ∀ (r : Fin 2), ∀ a, (k0_off64 i k0_t2 (BitVec.ofNat 32 r.val)) a + S1x1x256x160.size a ≤ S6x2x2048x160.size a) ∧
  (∀ k0_t2 : Fin k0_t2_loop.trips, ∀ (k0_h2 : k0_cond2 i v2 = 1#1), ∀ (r : Fin 2), ∀ a, (k0_off65 i k0_t2 (BitVec.ofNat 32 r.val)) a + S1x1x256x128.size a ≤ S6x2x2048x128.size a) ∧
  (∀ k0_t2 : Fin k0_t2_loop.trips, ∀ (k0_h2 : k0_cond2 i v2 = 1#1), ∀ (r : Fin 2), ∀ a, (k0_off66 i k0_t2 (BitVec.ofNat 32 r.val)) a + S1x320x256.size a ≤ S6x320x2048.size a) ∧
  (∀ k0_t3 : Fin k0_t3_loop.trips, ∀ (k0_h3 : k0_cond3 i v2 = 1#1), ∀ (r : Fin 3), ∀ a, (k0_off79 i k0_t3 (BitVec.ofNat 32 r.val)) a + S1x1x256x160.size a ≤ S6x2x2048x160.size a) ∧
  (∀ k0_t3 : Fin k0_t3_loop.trips, ∀ (k0_h3 : k0_cond3 i v2 = 1#1), ∀ (r : Fin 3), ∀ a, (k0_off80 i k0_t3 (BitVec.ofNat 32 r.val)) a + S1x1x256x128.size a ≤ S6x2x2048x128.size a) ∧
  (∀ (k0_h3 : k0_cond3 i v2 = 1#1), ∀ (r : Fin 2), ∀ a, (k0_off81 i (BitVec.ofNat 32 r.val)) a + S1x1.size a ≤ S24x8.size a) ∧
  (∀ k0_t3 : Fin k0_t3_loop.trips, ∀ (k0_h3 : k0_cond3 i v2 = 1#1), ∀ (r : Fin 3), ∀ a, (k0_off82 i k0_t3 (BitVec.ofNat 32 r.val)) a + S1x1x256x160.size a ≤ S6x2x2048x160.size a) ∧
  (∀ k0_t3 : Fin k0_t3_loop.trips, ∀ (k0_h3 : k0_cond3 i v2 = 1#1), ∀ (r : Fin 3), ∀ a, (k0_off83 i k0_t3 (BitVec.ofNat 32 r.val)) a + S1x1x256x128.size a ≤ S6x2x2048x128.size a) ∧
  (∀ k0_t3 : Fin k0_t3_loop.trips, ∀ (k0_h3 : k0_cond3 i v2 = 1#1), ∀ (r : Fin 3), ∀ a, (k0_off84 i k0_t3 (BitVec.ofNat 32 r.val)) a + S1x320x256.size a ≤ S6x320x2048.size a) ∧
  (∀ k0_t3 : Fin k0_t3_loop.trips, ∀ (k0_h3 : k0_cond3 i v2 = 1#1), ∀ (r : Fin 3), ∀ a, (k0_off96 i k0_t3 (BitVec.ofNat 32 r.val)) a + S1x1x256x160.size a ≤ S6x2x2048x160.size a) ∧
  (∀ k0_t3 : Fin k0_t3_loop.trips, ∀ (k0_h3 : k0_cond3 i v2 = 1#1), ∀ (r : Fin 3), ∀ a, (k0_off97 i k0_t3 (BitVec.ofNat 32 r.val)) a + S1x1x256x128.size a ≤ S6x2x2048x128.size a) ∧
  (∀ k0_t3 : Fin k0_t3_loop.trips, ∀ (k0_h3 : k0_cond3 i v2 = 1#1), ∀ (r : Fin 3), ∀ a, (k0_off98 i k0_t3 (BitVec.ofNat 32 r.val)) a + S1x1x256x160.size a ≤ S6x2x2048x160.size a) ∧
  (∀ k0_t3 : Fin k0_t3_loop.trips, ∀ (k0_h3 : k0_cond3 i v2 = 1#1), ∀ (r : Fin 3), ∀ a, (k0_off99 i k0_t3 (BitVec.ofNat 32 r.val)) a + S1x1x256x128.size a ≤ S6x2x2048x128.size a) ∧
  (∀ k0_t3 : Fin k0_t3_loop.trips, ∀ (k0_h3 : k0_cond3 i v2 = 1#1), ∀ (r : Fin 3), ∀ a, (k0_off100 i k0_t3 (BitVec.ofNat 32 r.val)) a + S1x320x256.size a ≤ S6x320x2048.size a) ∧
  (∀ k0_t4 : Fin k0_t4_loop.trips, ∀ (k0_h4 : k0_cond4 i v2 = 1#1), ∀ (r : Fin 4), ∀ a, (k0_off113 i k0_t4 (BitVec.ofNat 32 r.val)) a + S1x1x256x160.size a ≤ S6x2x2048x160.size a) ∧
  (∀ k0_t4 : Fin k0_t4_loop.trips, ∀ (k0_h4 : k0_cond4 i v2 = 1#1), ∀ (r : Fin 4), ∀ a, (k0_off114 i k0_t4 (BitVec.ofNat 32 r.val)) a + S1x1x256x128.size a ≤ S6x2x2048x128.size a) ∧
  (∀ (k0_h4 : k0_cond4 i v2 = 1#1), ∀ (r : Fin 3), ∀ a, (k0_off115 i (BitVec.ofNat 32 r.val)) a + S1x1.size a ≤ S24x8.size a) ∧
  (∀ k0_t4 : Fin k0_t4_loop.trips, ∀ (k0_h4 : k0_cond4 i v2 = 1#1), ∀ (r : Fin 4), ∀ a, (k0_off116 i k0_t4 (BitVec.ofNat 32 r.val)) a + S1x1x256x160.size a ≤ S6x2x2048x160.size a) ∧
  (∀ k0_t4 : Fin k0_t4_loop.trips, ∀ (k0_h4 : k0_cond4 i v2 = 1#1), ∀ (r : Fin 4), ∀ a, (k0_off117 i k0_t4 (BitVec.ofNat 32 r.val)) a + S1x1x256x128.size a ≤ S6x2x2048x128.size a) ∧
  (∀ k0_t4 : Fin k0_t4_loop.trips, ∀ (k0_h4 : k0_cond4 i v2 = 1#1), ∀ (r : Fin 4), ∀ a, (k0_off118 i k0_t4 (BitVec.ofNat 32 r.val)) a + S1x320x256.size a ≤ S6x320x2048.size a) ∧
  (∀ k0_t4 : Fin k0_t4_loop.trips, ∀ (k0_h4 : k0_cond4 i v2 = 1#1), ∀ (r : Fin 4), ∀ a, (k0_off130 i k0_t4 (BitVec.ofNat 32 r.val)) a + S1x1x256x160.size a ≤ S6x2x2048x160.size a) ∧
  (∀ k0_t4 : Fin k0_t4_loop.trips, ∀ (k0_h4 : k0_cond4 i v2 = 1#1), ∀ (r : Fin 4), ∀ a, (k0_off131 i k0_t4 (BitVec.ofNat 32 r.val)) a + S1x1x256x128.size a ≤ S6x2x2048x128.size a) ∧
  (∀ k0_t4 : Fin k0_t4_loop.trips, ∀ (k0_h4 : k0_cond4 i v2 = 1#1), ∀ (r : Fin 4), ∀ a, (k0_off132 i k0_t4 (BitVec.ofNat 32 r.val)) a + S1x1x256x160.size a ≤ S6x2x2048x160.size a) ∧
  (∀ k0_t4 : Fin k0_t4_loop.trips, ∀ (k0_h4 : k0_cond4 i v2 = 1#1), ∀ (r : Fin 4), ∀ a, (k0_off133 i k0_t4 (BitVec.ofNat 32 r.val)) a + S1x1x256x128.size a ≤ S6x2x2048x128.size a)
def k0_chk1_1 (i : grid0.Coords) (v2 : BitVec 32) : Prop :=
  (∀ k0_t4 : Fin k0_t4_loop.trips, ∀ (k0_h4 : k0_cond4 i v2 = 1#1), ∀ (r : Fin 4), ∀ a, (k0_off134 i k0_t4 (BitVec.ofNat 32 r.val)) a + S1x320x256.size a ≤ S6x320x2048.size a) ∧
  (∀ k0_t5 : Fin k0_t5_loop.trips, ∀ (k0_h5 : k0_cond5 i v2 = 1#1), ∀ (r : Fin 5), ∀ a, (k0_off147 i k0_t5 (BitVec.ofNat 32 r.val)) a + S1x1x256x160.size a ≤ S6x2x2048x160.size a) ∧
  (∀ k0_t5 : Fin k0_t5_loop.trips, ∀ (k0_h5 : k0_cond5 i v2 = 1#1), ∀ (r : Fin 5), ∀ a, (k0_off148 i k0_t5 (BitVec.ofNat 32 r.val)) a + S1x1x256x128.size a ≤ S6x2x2048x128.size a) ∧
  (∀ (k0_h5 : k0_cond5 i v2 = 1#1), ∀ (r : Fin 4), ∀ a, (k0_off149 i (BitVec.ofNat 32 r.val)) a + S1x1.size a ≤ S24x8.size a) ∧
  (∀ k0_t5 : Fin k0_t5_loop.trips, ∀ (k0_h5 : k0_cond5 i v2 = 1#1), ∀ (r : Fin 5), ∀ a, (k0_off150 i k0_t5 (BitVec.ofNat 32 r.val)) a + S1x1x256x160.size a ≤ S6x2x2048x160.size a) ∧
  (∀ k0_t5 : Fin k0_t5_loop.trips, ∀ (k0_h5 : k0_cond5 i v2 = 1#1), ∀ (r : Fin 5), ∀ a, (k0_off151 i k0_t5 (BitVec.ofNat 32 r.val)) a + S1x1x256x128.size a ≤ S6x2x2048x128.size a) ∧
  (∀ k0_t5 : Fin k0_t5_loop.trips, ∀ (k0_h5 : k0_cond5 i v2 = 1#1), ∀ (r : Fin 5), ∀ a, (k0_off152 i k0_t5 (BitVec.ofNat 32 r.val)) a + S1x320x256.size a ≤ S6x320x2048.size a) ∧
  (∀ k0_t5 : Fin k0_t5_loop.trips, ∀ (k0_h5 : k0_cond5 i v2 = 1#1), ∀ (r : Fin 5), ∀ a, (k0_off164 i k0_t5 (BitVec.ofNat 32 r.val)) a + S1x1x256x160.size a ≤ S6x2x2048x160.size a) ∧
  (∀ k0_t5 : Fin k0_t5_loop.trips, ∀ (k0_h5 : k0_cond5 i v2 = 1#1), ∀ (r : Fin 5), ∀ a, (k0_off165 i k0_t5 (BitVec.ofNat 32 r.val)) a + S1x1x256x128.size a ≤ S6x2x2048x128.size a) ∧
  (∀ k0_t5 : Fin k0_t5_loop.trips, ∀ (k0_h5 : k0_cond5 i v2 = 1#1), ∀ (r : Fin 5), ∀ a, (k0_off166 i k0_t5 (BitVec.ofNat 32 r.val)) a + S1x1x256x160.size a ≤ S6x2x2048x160.size a) ∧
  (∀ k0_t5 : Fin k0_t5_loop.trips, ∀ (k0_h5 : k0_cond5 i v2 = 1#1), ∀ (r : Fin 5), ∀ a, (k0_off167 i k0_t5 (BitVec.ofNat 32 r.val)) a + S1x1x256x128.size a ≤ S6x2x2048x128.size a) ∧
  (∀ k0_t5 : Fin k0_t5_loop.trips, ∀ (k0_h5 : k0_cond5 i v2 = 1#1), ∀ (r : Fin 5), ∀ a, (k0_off168 i k0_t5 (BitVec.ofNat 32 r.val)) a + S1x320x256.size a ≤ S6x320x2048.size a) ∧
  (∀ k0_t6 : Fin k0_t6_loop.trips, ∀ (k0_h6 : k0_cond6 i v2 = 1#1), ∀ (r : Fin 6), ∀ a, (k0_off181 i k0_t6 (BitVec.ofNat 32 r.val)) a + S1x1x256x160.size a ≤ S6x2x2048x160.size a) ∧
  (∀ k0_t6 : Fin k0_t6_loop.trips, ∀ (k0_h6 : k0_cond6 i v2 = 1#1), ∀ (r : Fin 6), ∀ a, (k0_off182 i k0_t6 (BitVec.ofNat 32 r.val)) a + S1x1x256x128.size a ≤ S6x2x2048x128.size a) ∧
  (∀ (k0_h6 : k0_cond6 i v2 = 1#1), ∀ (r : Fin 5), ∀ a, (k0_off183 i (BitVec.ofNat 32 r.val)) a + S1x1.size a ≤ S24x8.size a) ∧
  (∀ k0_t6 : Fin k0_t6_loop.trips, ∀ (k0_h6 : k0_cond6 i v2 = 1#1), ∀ (r : Fin 6), ∀ a, (k0_off184 i k0_t6 (BitVec.ofNat 32 r.val)) a + S1x1x256x160.size a ≤ S6x2x2048x160.size a) ∧
  (∀ k0_t6 : Fin k0_t6_loop.trips, ∀ (k0_h6 : k0_cond6 i v2 = 1#1), ∀ (r : Fin 6), ∀ a, (k0_off185 i k0_t6 (BitVec.ofNat 32 r.val)) a + S1x1x256x128.size a ≤ S6x2x2048x128.size a) ∧
  (∀ k0_t6 : Fin k0_t6_loop.trips, ∀ (k0_h6 : k0_cond6 i v2 = 1#1), ∀ (r : Fin 6), ∀ a, (k0_off186 i k0_t6 (BitVec.ofNat 32 r.val)) a + S1x320x256.size a ≤ S6x320x2048.size a) ∧
  (∀ k0_t6 : Fin k0_t6_loop.trips, ∀ (k0_h6 : k0_cond6 i v2 = 1#1), ∀ (r : Fin 6), ∀ a, (k0_off198 i k0_t6 (BitVec.ofNat 32 r.val)) a + S1x1x256x160.size a ≤ S6x2x2048x160.size a) ∧
  (∀ k0_t6 : Fin k0_t6_loop.trips, ∀ (k0_h6 : k0_cond6 i v2 = 1#1), ∀ (r : Fin 6), ∀ a, (k0_off199 i k0_t6 (BitVec.ofNat 32 r.val)) a + S1x1x256x128.size a ≤ S6x2x2048x128.size a) ∧
  (∀ k0_t6 : Fin k0_t6_loop.trips, ∀ (k0_h6 : k0_cond6 i v2 = 1#1), ∀ (r : Fin 6), ∀ a, (k0_off200 i k0_t6 (BitVec.ofNat 32 r.val)) a + S1x1x256x160.size a ≤ S6x2x2048x160.size a) ∧
  (∀ k0_t6 : Fin k0_t6_loop.trips, ∀ (k0_h6 : k0_cond6 i v2 = 1#1), ∀ (r : Fin 6), ∀ a, (k0_off201 i k0_t6 (BitVec.ofNat 32 r.val)) a + S1x1x256x128.size a ≤ S6x2x2048x128.size a) ∧
  (∀ k0_t6 : Fin k0_t6_loop.trips, ∀ (k0_h6 : k0_cond6 i v2 = 1#1), ∀ (r : Fin 6), ∀ a, (k0_off202 i k0_t6 (BitVec.ofNat 32 r.val)) a + S1x320x256.size a ≤ S6x320x2048.size a) ∧
  (∀ k0_t7 : Fin k0_t7_loop.trips, ∀ (k0_h7 : k0_cond7 i v2 = 1#1), ∀ (r : Fin 7), ∀ a, (k0_off215 i k0_t7 (BitVec.ofNat 32 r.val)) a + S1x1x256x160.size a ≤ S6x2x2048x160.size a) ∧
  (∀ k0_t7 : Fin k0_t7_loop.trips, ∀ (k0_h7 : k0_cond7 i v2 = 1#1), ∀ (r : Fin 7), ∀ a, (k0_off216 i k0_t7 (BitVec.ofNat 32 r.val)) a + S1x1x256x128.size a ≤ S6x2x2048x128.size a) ∧
  (∀ (k0_h7 : k0_cond7 i v2 = 1#1), ∀ (r : Fin 6), ∀ a, (k0_off217 i (BitVec.ofNat 32 r.val)) a + S1x1.size a ≤ S24x8.size a) ∧
  (∀ k0_t7 : Fin k0_t7_loop.trips, ∀ (k0_h7 : k0_cond7 i v2 = 1#1), ∀ (r : Fin 7), ∀ a, (k0_off218 i k0_t7 (BitVec.ofNat 32 r.val)) a + S1x1x256x160.size a ≤ S6x2x2048x160.size a) ∧
  (∀ k0_t7 : Fin k0_t7_loop.trips, ∀ (k0_h7 : k0_cond7 i v2 = 1#1), ∀ (r : Fin 7), ∀ a, (k0_off219 i k0_t7 (BitVec.ofNat 32 r.val)) a + S1x1x256x128.size a ≤ S6x2x2048x128.size a) ∧
  (∀ k0_t7 : Fin k0_t7_loop.trips, ∀ (k0_h7 : k0_cond7 i v2 = 1#1), ∀ (r : Fin 7), ∀ a, (k0_off220 i k0_t7 (BitVec.ofNat 32 r.val)) a + S1x320x256.size a ≤ S6x320x2048.size a) ∧
  (∀ k0_t7 : Fin k0_t7_loop.trips, ∀ (k0_h7 : k0_cond7 i v2 = 1#1), ∀ (r : Fin 7), ∀ a, (k0_off232 i k0_t7 (BitVec.ofNat 32 r.val)) a + S1x1x256x160.size a ≤ S6x2x2048x160.size a) ∧
  (∀ k0_t7 : Fin k0_t7_loop.trips, ∀ (k0_h7 : k0_cond7 i v2 = 1#1), ∀ (r : Fin 7), ∀ a, (k0_off233 i k0_t7 (BitVec.ofNat 32 r.val)) a + S1x1x256x128.size a ≤ S6x2x2048x128.size a) ∧
  (∀ k0_t7 : Fin k0_t7_loop.trips, ∀ (k0_h7 : k0_cond7 i v2 = 1#1), ∀ (r : Fin 7), ∀ a, (k0_off234 i k0_t7 (BitVec.ofNat 32 r.val)) a + S1x1x256x160.size a ≤ S6x2x2048x160.size a)
def k0_chk1_2 (i : grid0.Coords) (v2 : BitVec 32) : Prop :=
  (∀ k0_t7 : Fin k0_t7_loop.trips, ∀ (k0_h7 : k0_cond7 i v2 = 1#1), ∀ (r : Fin 7), ∀ a, (k0_off235 i k0_t7 (BitVec.ofNat 32 r.val)) a + S1x1x256x128.size a ≤ S6x2x2048x128.size a) ∧
  (∀ k0_t7 : Fin k0_t7_loop.trips, ∀ (k0_h7 : k0_cond7 i v2 = 1#1), ∀ (r : Fin 7), ∀ a, (k0_off236 i k0_t7 (BitVec.ofNat 32 r.val)) a + S1x320x256.size a ≤ S6x320x2048.size a) ∧
  (∀ k0_t8 : Fin k0_t8_loop.trips, ∀ (k0_h8 : k0_cond8 i v2 = 1#1), ∀ (r : Fin 8), ∀ a, (k0_off249 i k0_t8 (BitVec.ofNat 32 r.val)) a + S1x1x256x160.size a ≤ S6x2x2048x160.size a) ∧
  (∀ k0_t8 : Fin k0_t8_loop.trips, ∀ (k0_h8 : k0_cond8 i v2 = 1#1), ∀ (r : Fin 8), ∀ a, (k0_off250 i k0_t8 (BitVec.ofNat 32 r.val)) a + S1x1x256x128.size a ≤ S6x2x2048x128.size a) ∧
  (∀ (k0_h8 : k0_cond8 i v2 = 1#1), ∀ (r : Fin 7), ∀ a, (k0_off251 i (BitVec.ofNat 32 r.val)) a + S1x1.size a ≤ S24x8.size a) ∧
  (∀ k0_t8 : Fin k0_t8_loop.trips, ∀ (k0_h8 : k0_cond8 i v2 = 1#1), ∀ (r : Fin 8), ∀ a, (k0_off252 i k0_t8 (BitVec.ofNat 32 r.val)) a + S1x1x256x160.size a ≤ S6x2x2048x160.size a) ∧
  (∀ k0_t8 : Fin k0_t8_loop.trips, ∀ (k0_h8 : k0_cond8 i v2 = 1#1), ∀ (r : Fin 8), ∀ a, (k0_off253 i k0_t8 (BitVec.ofNat 32 r.val)) a + S1x1x256x128.size a ≤ S6x2x2048x128.size a) ∧
  (∀ k0_t8 : Fin k0_t8_loop.trips, ∀ (k0_h8 : k0_cond8 i v2 = 1#1), ∀ (r : Fin 8), ∀ a, (k0_off254 i k0_t8 (BitVec.ofNat 32 r.val)) a + S1x320x256.size a ≤ S6x320x2048.size a) ∧
  (∀ k0_t8 : Fin k0_t8_loop.trips, ∀ (k0_h8 : k0_cond8 i v2 = 1#1), ∀ (r : Fin 8), ∀ a, (k0_off266 i k0_t8 (BitVec.ofNat 32 r.val)) a + S1x1x256x160.size a ≤ S6x2x2048x160.size a) ∧
  (∀ k0_t8 : Fin k0_t8_loop.trips, ∀ (k0_h8 : k0_cond8 i v2 = 1#1), ∀ (r : Fin 8), ∀ a, (k0_off267 i k0_t8 (BitVec.ofNat 32 r.val)) a + S1x1x256x128.size a ≤ S6x2x2048x128.size a) ∧
  (∀ k0_t8 : Fin k0_t8_loop.trips, ∀ (k0_h8 : k0_cond8 i v2 = 1#1), ∀ (r : Fin 8), ∀ a, (k0_off268 i k0_t8 (BitVec.ofNat 32 r.val)) a + S1x1x256x160.size a ≤ S6x2x2048x160.size a) ∧
  (∀ k0_t8 : Fin k0_t8_loop.trips, ∀ (k0_h8 : k0_cond8 i v2 = 1#1), ∀ (r : Fin 8), ∀ a, (k0_off269 i k0_t8 (BitVec.ofNat 32 r.val)) a + S1x1x256x128.size a ≤ S6x2x2048x128.size a) ∧
  (∀ k0_t8 : Fin k0_t8_loop.trips, ∀ (k0_h8 : k0_cond8 i v2 = 1#1), ∀ (r : Fin 8), ∀ a, (k0_off270 i k0_t8 (BitVec.ofNat 32 r.val)) a + S1x320x256.size a ≤ S6x320x2048.size a)
def k0_chk1 (i : grid0.Coords) (v2 : BitVec 32) : Prop :=
  k0_chk1_0 i v2 ∧
  k0_chk1_1 i v2 ∧
  k0_chk1_2 i v2
theorem k0_off45_inb : ∀ (i : grid0.Coords) (v2 : BitVec 32) (k0_hw1 : k0_chk1 i v2) (k0_t2 : Fin k0_t2_loop.trips), ∀ (k0_h2 : k0_cond2 i v2 = 1#1), ∀ (r : Fin 2), ∀ a, (k0_off45 i k0_t2 (BitVec.ofNat 32 r.val)) a + S1x1x256x160.size a ≤ S6x2x2048x160.size a := fun i v2 k0_hw1 k0_t2 k0_h2 r => k0_hw1.1.1 k0_t2 k0_h2 r
theorem k0_off46_inb : ∀ (i : grid0.Coords) (v2 : BitVec 32) (k0_hw1 : k0_chk1 i v2) (k0_t2 : Fin k0_t2_loop.trips), ∀ (k0_h2 : k0_cond2 i v2 = 1#1), ∀ (r : Fin 2), ∀ a, (k0_off46 i k0_t2 (BitVec.ofNat 32 r.val)) a + S1x1x256x128.size a ≤ S6x2x2048x128.size a := fun i v2 k0_hw1 k0_t2 k0_h2 r => k0_hw1.1.2.1 k0_t2 k0_h2 r
theorem k0_off47_inb : ∀ (i : grid0.Coords) (v2 : BitVec 32) (k0_hw1 : k0_chk1 i v2), ∀ (k0_h2 : k0_cond2 i v2 = 1#1), ∀ a, (k0_off47 i) a + S1x1.size a ≤ S24x8.size a := fun i v2 k0_hw1 k0_h2 => k0_hw1.1.2.2.1 k0_h2
theorem k0_off48_inb : ∀ (i : grid0.Coords) (v2 : BitVec 32) (k0_hw1 : k0_chk1 i v2) (k0_t2 : Fin k0_t2_loop.trips), ∀ (k0_h2 : k0_cond2 i v2 = 1#1), ∀ (r : Fin 2), ∀ a, (k0_off48 i k0_t2 (BitVec.ofNat 32 r.val)) a + S1x1x256x160.size a ≤ S6x2x2048x160.size a := fun i v2 k0_hw1 k0_t2 k0_h2 r => k0_hw1.1.2.2.2.1 k0_t2 k0_h2 r
theorem k0_off49_inb : ∀ (i : grid0.Coords) (v2 : BitVec 32) (k0_hw1 : k0_chk1 i v2) (k0_t2 : Fin k0_t2_loop.trips), ∀ (k0_h2 : k0_cond2 i v2 = 1#1), ∀ (r : Fin 2), ∀ a, (k0_off49 i k0_t2 (BitVec.ofNat 32 r.val)) a + S1x1x256x128.size a ≤ S6x2x2048x128.size a := fun i v2 k0_hw1 k0_t2 k0_h2 r => k0_hw1.1.2.2.2.2.1 k0_t2 k0_h2 r
theorem k0_off50_inb : ∀ (i : grid0.Coords) (v2 : BitVec 32) (k0_hw1 : k0_chk1 i v2) (k0_t2 : Fin k0_t2_loop.trips), ∀ (k0_h2 : k0_cond2 i v2 = 1#1), ∀ (r : Fin 2), ∀ a, (k0_off50 i k0_t2 (BitVec.ofNat 32 r.val)) a + S1x320x256.size a ≤ S6x320x2048.size a := fun i v2 k0_hw1 k0_t2 k0_h2 r => k0_hw1.1.2.2.2.2.2.1 k0_t2 k0_h2 r
theorem k0_off62_inb : ∀ (i : grid0.Coords) (v2 : BitVec 32) (k0_hw1 : k0_chk1 i v2) (k0_t2 : Fin k0_t2_loop.trips), ∀ (k0_h2 : k0_cond2 i v2 = 1#1), ∀ (r : Fin 2), ∀ a, (k0_off62 i k0_t2 (BitVec.ofNat 32 r.val)) a + S1x1x256x160.size a ≤ S6x2x2048x160.size a := fun i v2 k0_hw1 k0_t2 k0_h2 r => k0_hw1.1.2.2.2.2.2.2.1 k0_t2 k0_h2 r
theorem k0_off63_inb : ∀ (i : grid0.Coords) (v2 : BitVec 32) (k0_hw1 : k0_chk1 i v2) (k0_t2 : Fin k0_t2_loop.trips), ∀ (k0_h2 : k0_cond2 i v2 = 1#1), ∀ (r : Fin 2), ∀ a, (k0_off63 i k0_t2 (BitVec.ofNat 32 r.val)) a + S1x1x256x128.size a ≤ S6x2x2048x128.size a := fun i v2 k0_hw1 k0_t2 k0_h2 r => k0_hw1.1.2.2.2.2.2.2.2.1 k0_t2 k0_h2 r
theorem k0_off64_inb : ∀ (i : grid0.Coords) (v2 : BitVec 32) (k0_hw1 : k0_chk1 i v2) (k0_t2 : Fin k0_t2_loop.trips), ∀ (k0_h2 : k0_cond2 i v2 = 1#1), ∀ (r : Fin 2), ∀ a, (k0_off64 i k0_t2 (BitVec.ofNat 32 r.val)) a + S1x1x256x160.size a ≤ S6x2x2048x160.size a := fun i v2 k0_hw1 k0_t2 k0_h2 r => k0_hw1.1.2.2.2.2.2.2.2.2.1 k0_t2 k0_h2 r
theorem k0_off65_inb : ∀ (i : grid0.Coords) (v2 : BitVec 32) (k0_hw1 : k0_chk1 i v2) (k0_t2 : Fin k0_t2_loop.trips), ∀ (k0_h2 : k0_cond2 i v2 = 1#1), ∀ (r : Fin 2), ∀ a, (k0_off65 i k0_t2 (BitVec.ofNat 32 r.val)) a + S1x1x256x128.size a ≤ S6x2x2048x128.size a := fun i v2 k0_hw1 k0_t2 k0_h2 r => k0_hw1.1.2.2.2.2.2.2.2.2.2.1 k0_t2 k0_h2 r
theorem k0_off66_inb : ∀ (i : grid0.Coords) (v2 : BitVec 32) (k0_hw1 : k0_chk1 i v2) (k0_t2 : Fin k0_t2_loop.trips), ∀ (k0_h2 : k0_cond2 i v2 = 1#1), ∀ (r : Fin 2), ∀ a, (k0_off66 i k0_t2 (BitVec.ofNat 32 r.val)) a + S1x320x256.size a ≤ S6x320x2048.size a := fun i v2 k0_hw1 k0_t2 k0_h2 r => k0_hw1.1.2.2.2.2.2.2.2.2.2.2.1 k0_t2 k0_h2 r
theorem k0_off79_inb : ∀ (i : grid0.Coords) (v2 : BitVec 32) (k0_hw1 : k0_chk1 i v2) (k0_t3 : Fin k0_t3_loop.trips), ∀ (k0_h3 : k0_cond3 i v2 = 1#1), ∀ (r : Fin 3), ∀ a, (k0_off79 i k0_t3 (BitVec.ofNat 32 r.val)) a + S1x1x256x160.size a ≤ S6x2x2048x160.size a := fun i v2 k0_hw1 k0_t3 k0_h3 r => k0_hw1.1.2.2.2.2.2.2.2.2.2.2.2.1 k0_t3 k0_h3 r
theorem k0_off80_inb : ∀ (i : grid0.Coords) (v2 : BitVec 32) (k0_hw1 : k0_chk1 i v2) (k0_t3 : Fin k0_t3_loop.trips), ∀ (k0_h3 : k0_cond3 i v2 = 1#1), ∀ (r : Fin 3), ∀ a, (k0_off80 i k0_t3 (BitVec.ofNat 32 r.val)) a + S1x1x256x128.size a ≤ S6x2x2048x128.size a := fun i v2 k0_hw1 k0_t3 k0_h3 r => k0_hw1.1.2.2.2.2.2.2.2.2.2.2.2.2.1 k0_t3 k0_h3 r
theorem k0_off81_inb : ∀ (i : grid0.Coords) (v2 : BitVec 32) (k0_hw1 : k0_chk1 i v2), ∀ (k0_h3 : k0_cond3 i v2 = 1#1), ∀ (r : Fin 2), ∀ a, (k0_off81 i (BitVec.ofNat 32 r.val)) a + S1x1.size a ≤ S24x8.size a := fun i v2 k0_hw1 k0_h3 r => k0_hw1.1.2.2.2.2.2.2.2.2.2.2.2.2.2.1 k0_h3 r
theorem k0_off82_inb : ∀ (i : grid0.Coords) (v2 : BitVec 32) (k0_hw1 : k0_chk1 i v2) (k0_t3 : Fin k0_t3_loop.trips), ∀ (k0_h3 : k0_cond3 i v2 = 1#1), ∀ (r : Fin 3), ∀ a, (k0_off82 i k0_t3 (BitVec.ofNat 32 r.val)) a + S1x1x256x160.size a ≤ S6x2x2048x160.size a := fun i v2 k0_hw1 k0_t3 k0_h3 r => k0_hw1.1.2.2.2.2.2.2.2.2.2.2.2.2.2.2.1 k0_t3 k0_h3 r
theorem k0_off83_inb : ∀ (i : grid0.Coords) (v2 : BitVec 32) (k0_hw1 : k0_chk1 i v2) (k0_t3 : Fin k0_t3_loop.trips), ∀ (k0_h3 : k0_cond3 i v2 = 1#1), ∀ (r : Fin 3), ∀ a, (k0_off83 i k0_t3 (BitVec.ofNat 32 r.val)) a + S1x1x256x128.size a ≤ S6x2x2048x128.size a := fun i v2 k0_hw1 k0_t3 k0_h3 r => k0_hw1.1.2.2.2.2.2.2.2.2.2.2.2.2.2.2.2.1 k0_t3 k0_h3 r
theorem k0_off84_inb : ∀ (i : grid0.Coords) (v2 : BitVec 32) (k0_hw1 : k0_chk1 i v2) (k0_t3 : Fin k0_t3_loop.trips), ∀ (k0_h3 : k0_cond3 i v2 = 1#1), ∀ (r : Fin 3), ∀ a, (k0_off84 i k0_t3 (BitVec.ofNat 32 r.val)) a + S1x320x256.size a ≤ S6x320x2048.size a := fun i v2 k0_hw1 k0_t3 k0_h3 r => k0_hw1.1.2.2.2.2.2.2.2.2.2.2.2.2.2.2.2.2.1 k0_t3 k0_h3 r
theorem k0_off96_inb : ∀ (i : grid0.Coords) (v2 : BitVec 32) (k0_hw1 : k0_chk1 i v2) (k0_t3 : Fin k0_t3_loop.trips), ∀ (k0_h3 : k0_cond3 i v2 = 1#1), ∀ (r : Fin 3), ∀ a, (k0_off96 i k0_t3 (BitVec.ofNat 32 r.val)) a + S1x1x256x160.size a ≤ S6x2x2048x160.size a := fun i v2 k0_hw1 k0_t3 k0_h3 r => k0_hw1.1.2.2.2.2.2.2.2.2.2.2.2.2.2.2.2.2.2.1 k0_t3 k0_h3 r
theorem k0_off97_inb : ∀ (i : grid0.Coords) (v2 : BitVec 32) (k0_hw1 : k0_chk1 i v2) (k0_t3 : Fin k0_t3_loop.trips), ∀ (k0_h3 : k0_cond3 i v2 = 1#1), ∀ (r : Fin 3), ∀ a, (k0_off97 i k0_t3 (BitVec.ofNat 32 r.val)) a + S1x1x256x128.size a ≤ S6x2x2048x128.size a := fun i v2 k0_hw1 k0_t3 k0_h3 r => k0_hw1.1.2.2.2.2.2.2.2.2.2.2.2.2.2.2.2.2.2.2.1 k0_t3 k0_h3 r
theorem k0_off98_inb : ∀ (i : grid0.Coords) (v2 : BitVec 32) (k0_hw1 : k0_chk1 i v2) (k0_t3 : Fin k0_t3_loop.trips), ∀ (k0_h3 : k0_cond3 i v2 = 1#1), ∀ (r : Fin 3), ∀ a, (k0_off98 i k0_t3 (BitVec.ofNat 32 r.val)) a + S1x1x256x160.size a ≤ S6x2x2048x160.size a := fun i v2 k0_hw1 k0_t3 k0_h3 r => k0_hw1.1.2.2.2.2.2.2.2.2.2.2.2.2.2.2.2.2.2.2.2.1 k0_t3 k0_h3 r
theorem k0_off99_inb : ∀ (i : grid0.Coords) (v2 : BitVec 32) (k0_hw1 : k0_chk1 i v2) (k0_t3 : Fin k0_t3_loop.trips), ∀ (k0_h3 : k0_cond3 i v2 = 1#1), ∀ (r : Fin 3), ∀ a, (k0_off99 i k0_t3 (BitVec.ofNat 32 r.val)) a + S1x1x256x128.size a ≤ S6x2x2048x128.size a := fun i v2 k0_hw1 k0_t3 k0_h3 r => k0_hw1.1.2.2.2.2.2.2.2.2.2.2.2.2.2.2.2.2.2.2.2.2.1 k0_t3 k0_h3 r
theorem k0_off100_inb : ∀ (i : grid0.Coords) (v2 : BitVec 32) (k0_hw1 : k0_chk1 i v2) (k0_t3 : Fin k0_t3_loop.trips), ∀ (k0_h3 : k0_cond3 i v2 = 1#1), ∀ (r : Fin 3), ∀ a, (k0_off100 i k0_t3 (BitVec.ofNat 32 r.val)) a + S1x320x256.size a ≤ S6x320x2048.size a := fun i v2 k0_hw1 k0_t3 k0_h3 r => k0_hw1.1.2.2.2.2.2.2.2.2.2.2.2.2.2.2.2.2.2.2.2.2.2.1 k0_t3 k0_h3 r
theorem k0_off113_inb : ∀ (i : grid0.Coords) (v2 : BitVec 32) (k0_hw1 : k0_chk1 i v2) (k0_t4 : Fin k0_t4_loop.trips), ∀ (k0_h4 : k0_cond4 i v2 = 1#1), ∀ (r : Fin 4), ∀ a, (k0_off113 i k0_t4 (BitVec.ofNat 32 r.val)) a + S1x1x256x160.size a ≤ S6x2x2048x160.size a := fun i v2 k0_hw1 k0_t4 k0_h4 r => k0_hw1.1.2.2.2.2.2.2.2.2.2.2.2.2.2.2.2.2.2.2.2.2.2.2.1 k0_t4 k0_h4 r
theorem k0_off114_inb : ∀ (i : grid0.Coords) (v2 : BitVec 32) (k0_hw1 : k0_chk1 i v2) (k0_t4 : Fin k0_t4_loop.trips), ∀ (k0_h4 : k0_cond4 i v2 = 1#1), ∀ (r : Fin 4), ∀ a, (k0_off114 i k0_t4 (BitVec.ofNat 32 r.val)) a + S1x1x256x128.size a ≤ S6x2x2048x128.size a := fun i v2 k0_hw1 k0_t4 k0_h4 r => k0_hw1.1.2.2.2.2.2.2.2.2.2.2.2.2.2.2.2.2.2.2.2.2.2.2.2.1 k0_t4 k0_h4 r
theorem k0_off115_inb : ∀ (i : grid0.Coords) (v2 : BitVec 32) (k0_hw1 : k0_chk1 i v2), ∀ (k0_h4 : k0_cond4 i v2 = 1#1), ∀ (r : Fin 3), ∀ a, (k0_off115 i (BitVec.ofNat 32 r.val)) a + S1x1.size a ≤ S24x8.size a := fun i v2 k0_hw1 k0_h4 r => k0_hw1.1.2.2.2.2.2.2.2.2.2.2.2.2.2.2.2.2.2.2.2.2.2.2.2.2.1 k0_h4 r
theorem k0_off116_inb : ∀ (i : grid0.Coords) (v2 : BitVec 32) (k0_hw1 : k0_chk1 i v2) (k0_t4 : Fin k0_t4_loop.trips), ∀ (k0_h4 : k0_cond4 i v2 = 1#1), ∀ (r : Fin 4), ∀ a, (k0_off116 i k0_t4 (BitVec.ofNat 32 r.val)) a + S1x1x256x160.size a ≤ S6x2x2048x160.size a := fun i v2 k0_hw1 k0_t4 k0_h4 r => k0_hw1.1.2.2.2.2.2.2.2.2.2.2.2.2.2.2.2.2.2.2.2.2.2.2.2.2.2.1 k0_t4 k0_h4 r
theorem k0_off117_inb : ∀ (i : grid0.Coords) (v2 : BitVec 32) (k0_hw1 : k0_chk1 i v2) (k0_t4 : Fin k0_t4_loop.trips), ∀ (k0_h4 : k0_cond4 i v2 = 1#1), ∀ (r : Fin 4), ∀ a, (k0_off117 i k0_t4 (BitVec.ofNat 32 r.val)) a + S1x1x256x128.size a ≤ S6x2x2048x128.size a := fun i v2 k0_hw1 k0_t4 k0_h4 r => k0_hw1.1.2.2.2.2.2.2.2.2.2.2.2.2.2.2.2.2.2.2.2.2.2.2.2.2.2.2.1 k0_t4 k0_h4 r
theorem k0_off118_inb : ∀ (i : grid0.Coords) (v2 : BitVec 32) (k0_hw1 : k0_chk1 i v2) (k0_t4 : Fin k0_t4_loop.trips), ∀ (k0_h4 : k0_cond4 i v2 = 1#1), ∀ (r : Fin 4), ∀ a, (k0_off118 i k0_t4 (BitVec.ofNat 32 r.val)) a + S1x320x256.size a ≤ S6x320x2048.size a := fun i v2 k0_hw1 k0_t4 k0_h4 r => k0_hw1.1.2.2.2.2.2.2.2.2.2.2.2.2.2.2.2.2.2.2.2.2.2.2.2.2.2.2.2.1 k0_t4 k0_h4 r
theorem k0_off130_inb : ∀ (i : grid0.Coords) (v2 : BitVec 32) (k0_hw1 : k0_chk1 i v2) (k0_t4 : Fin k0_t4_loop.trips), ∀ (k0_h4 : k0_cond4 i v2 = 1#1), ∀ (r : Fin 4), ∀ a, (k0_off130 i k0_t4 (BitVec.ofNat 32 r.val)) a + S1x1x256x160.size a ≤ S6x2x2048x160.size a := fun i v2 k0_hw1 k0_t4 k0_h4 r => k0_hw1.1.2.2.2.2.2.2.2.2.2.2.2.2.2.2.2.2.2.2.2.2.2.2.2.2.2.2.2.2.1 k0_t4 k0_h4 r
theorem k0_off131_inb : ∀ (i : grid0.Coords) (v2 : BitVec 32) (k0_hw1 : k0_chk1 i v2) (k0_t4 : Fin k0_t4_loop.trips), ∀ (k0_h4 : k0_cond4 i v2 = 1#1), ∀ (r : Fin 4), ∀ a, (k0_off131 i k0_t4 (BitVec.ofNat 32 r.val)) a + S1x1x256x128.size a ≤ S6x2x2048x128.size a := fun i v2 k0_hw1 k0_t4 k0_h4 r => k0_hw1.1.2.2.2.2.2.2.2.2.2.2.2.2.2.2.2.2.2.2.2.2.2.2.2.2.2.2.2.2.2.1 k0_t4 k0_h4 r
theorem k0_off132_inb : ∀ (i : grid0.Coords) (v2 : BitVec 32) (k0_hw1 : k0_chk1 i v2) (k0_t4 : Fin k0_t4_loop.trips), ∀ (k0_h4 : k0_cond4 i v2 = 1#1), ∀ (r : Fin 4), ∀ a, (k0_off132 i k0_t4 (BitVec.ofNat 32 r.val)) a + S1x1x256x160.size a ≤ S6x2x2048x160.size a := fun i v2 k0_hw1 k0_t4 k0_h4 r => k0_hw1.1.2.2.2.2.2.2.2.2.2.2.2.2.2.2.2.2.2.2.2.2.2.2.2.2.2.2.2.2.2.2.1 k0_t4 k0_h4 r
theorem k0_off133_inb : ∀ (i : grid0.Coords) (v2 : BitVec 32) (k0_hw1 : k0_chk1 i v2) (k0_t4 : Fin k0_t4_loop.trips), ∀ (k0_h4 : k0_cond4 i v2 = 1#1), ∀ (r : Fin 4), ∀ a, (k0_off133 i k0_t4 (BitVec.ofNat 32 r.val)) a + S1x1x256x128.size a ≤ S6x2x2048x128.size a := fun i v2 k0_hw1 k0_t4 k0_h4 r => k0_hw1.1.2.2.2.2.2.2.2.2.2.2.2.2.2.2.2.2.2.2.2.2.2.2.2.2.2.2.2.2.2.2.2 k0_t4 k0_h4 r
theorem k0_off134_inb : ∀ (i : grid0.Coords) (v2 : BitVec 32) (k0_hw1 : k0_chk1 i v2) (k0_t4 : Fin k0_t4_loop.trips), ∀ (k0_h4 : k0_cond4 i v2 = 1#1), ∀ (r : Fin 4), ∀ a, (k0_off134 i k0_t4 (BitVec.ofNat 32 r.val)) a + S1x320x256.size a ≤ S6x320x2048.size a := fun i v2 k0_hw1 k0_t4 k0_h4 r => k0_hw1.2.1.1 k0_t4 k0_h4 r
theorem k0_off147_inb : ∀ (i : grid0.Coords) (v2 : BitVec 32) (k0_hw1 : k0_chk1 i v2) (k0_t5 : Fin k0_t5_loop.trips), ∀ (k0_h5 : k0_cond5 i v2 = 1#1), ∀ (r : Fin 5), ∀ a, (k0_off147 i k0_t5 (BitVec.ofNat 32 r.val)) a + S1x1x256x160.size a ≤ S6x2x2048x160.size a := fun i v2 k0_hw1 k0_t5 k0_h5 r => k0_hw1.2.1.2.1 k0_t5 k0_h5 r
theorem k0_off148_inb : ∀ (i : grid0.Coords) (v2 : BitVec 32) (k0_hw1 : k0_chk1 i v2) (k0_t5 : Fin k0_t5_loop.trips), ∀ (k0_h5 : k0_cond5 i v2 = 1#1), ∀ (r : Fin 5), ∀ a, (k0_off148 i k0_t5 (BitVec.ofNat 32 r.val)) a + S1x1x256x128.size a ≤ S6x2x2048x128.size a := fun i v2 k0_hw1 k0_t5 k0_h5 r => k0_hw1.2.1.2.2.1 k0_t5 k0_h5 r
theorem k0_off149_inb : ∀ (i : grid0.Coords) (v2 : BitVec 32) (k0_hw1 : k0_chk1 i v2), ∀ (k0_h5 : k0_cond5 i v2 = 1#1), ∀ (r : Fin 4), ∀ a, (k0_off149 i (BitVec.ofNat 32 r.val)) a + S1x1.size a ≤ S24x8.size a := fun i v2 k0_hw1 k0_h5 r => k0_hw1.2.1.2.2.2.1 k0_h5 r
theorem k0_off150_inb : ∀ (i : grid0.Coords) (v2 : BitVec 32) (k0_hw1 : k0_chk1 i v2) (k0_t5 : Fin k0_t5_loop.trips), ∀ (k0_h5 : k0_cond5 i v2 = 1#1), ∀ (r : Fin 5), ∀ a, (k0_off150 i k0_t5 (BitVec.ofNat 32 r.val)) a + S1x1x256x160.size a ≤ S6x2x2048x160.size a := fun i v2 k0_hw1 k0_t5 k0_h5 r => k0_hw1.2.1.2.2.2.2.1 k0_t5 k0_h5 r
theorem k0_off151_inb : ∀ (i : grid0.Coords) (v2 : BitVec 32) (k0_hw1 : k0_chk1 i v2) (k0_t5 : Fin k0_t5_loop.trips), ∀ (k0_h5 : k0_cond5 i v2 = 1#1), ∀ (r : Fin 5), ∀ a, (k0_off151 i k0_t5 (BitVec.ofNat 32 r.val)) a + S1x1x256x128.size a ≤ S6x2x2048x128.size a := fun i v2 k0_hw1 k0_t5 k0_h5 r => k0_hw1.2.1.2.2.2.2.2.1 k0_t5 k0_h5 r
theorem k0_off152_inb : ∀ (i : grid0.Coords) (v2 : BitVec 32) (k0_hw1 : k0_chk1 i v2) (k0_t5 : Fin k0_t5_loop.trips), ∀ (k0_h5 : k0_cond5 i v2 = 1#1), ∀ (r : Fin 5), ∀ a, (k0_off152 i k0_t5 (BitVec.ofNat 32 r.val)) a + S1x320x256.size a ≤ S6x320x2048.size a := fun i v2 k0_hw1 k0_t5 k0_h5 r => k0_hw1.2.1.2.2.2.2.2.2.1 k0_t5 k0_h5 r
theorem k0_off164_inb : ∀ (i : grid0.Coords) (v2 : BitVec 32) (k0_hw1 : k0_chk1 i v2) (k0_t5 : Fin k0_t5_loop.trips), ∀ (k0_h5 : k0_cond5 i v2 = 1#1), ∀ (r : Fin 5), ∀ a, (k0_off164 i k0_t5 (BitVec.ofNat 32 r.val)) a + S1x1x256x160.size a ≤ S6x2x2048x160.size a := fun i v2 k0_hw1 k0_t5 k0_h5 r => k0_hw1.2.1.2.2.2.2.2.2.2.1 k0_t5 k0_h5 r
theorem k0_off165_inb : ∀ (i : grid0.Coords) (v2 : BitVec 32) (k0_hw1 : k0_chk1 i v2) (k0_t5 : Fin k0_t5_loop.trips), ∀ (k0_h5 : k0_cond5 i v2 = 1#1), ∀ (r : Fin 5), ∀ a, (k0_off165 i k0_t5 (BitVec.ofNat 32 r.val)) a + S1x1x256x128.size a ≤ S6x2x2048x128.size a := fun i v2 k0_hw1 k0_t5 k0_h5 r => k0_hw1.2.1.2.2.2.2.2.2.2.2.1 k0_t5 k0_h5 r
theorem k0_off166_inb : ∀ (i : grid0.Coords) (v2 : BitVec 32) (k0_hw1 : k0_chk1 i v2) (k0_t5 : Fin k0_t5_loop.trips), ∀ (k0_h5 : k0_cond5 i v2 = 1#1), ∀ (r : Fin 5), ∀ a, (k0_off166 i k0_t5 (BitVec.ofNat 32 r.val)) a + S1x1x256x160.size a ≤ S6x2x2048x160.size a := fun i v2 k0_hw1 k0_t5 k0_h5 r => k0_hw1.2.1.2.2.2.2.2.2.2.2.2.1 k0_t5 k0_h5 r
theorem k0_off167_inb : ∀ (i : grid0.Coords) (v2 : BitVec 32) (k0_hw1 : k0_chk1 i v2) (k0_t5 : Fin k0_t5_loop.trips), ∀ (k0_h5 : k0_cond5 i v2 = 1#1), ∀ (r : Fin 5), ∀ a, (k0_off167 i k0_t5 (BitVec.ofNat 32 r.val)) a + S1x1x256x128.size a ≤ S6x2x2048x128.size a := fun i v2 k0_hw1 k0_t5 k0_h5 r => k0_hw1.2.1.2.2.2.2.2.2.2.2.2.2.1 k0_t5 k0_h5 r
theorem k0_off168_inb : ∀ (i : grid0.Coords) (v2 : BitVec 32) (k0_hw1 : k0_chk1 i v2) (k0_t5 : Fin k0_t5_loop.trips), ∀ (k0_h5 : k0_cond5 i v2 = 1#1), ∀ (r : Fin 5), ∀ a, (k0_off168 i k0_t5 (BitVec.ofNat 32 r.val)) a + S1x320x256.size a ≤ S6x320x2048.size a := fun i v2 k0_hw1 k0_t5 k0_h5 r => k0_hw1.2.1.2.2.2.2.2.2.2.2.2.2.2.1 k0_t5 k0_h5 r
theorem k0_off181_inb : ∀ (i : grid0.Coords) (v2 : BitVec 32) (k0_hw1 : k0_chk1 i v2) (k0_t6 : Fin k0_t6_loop.trips), ∀ (k0_h6 : k0_cond6 i v2 = 1#1), ∀ (r : Fin 6), ∀ a, (k0_off181 i k0_t6 (BitVec.ofNat 32 r.val)) a + S1x1x256x160.size a ≤ S6x2x2048x160.size a := fun i v2 k0_hw1 k0_t6 k0_h6 r => k0_hw1.2.1.2.2.2.2.2.2.2.2.2.2.2.2.1 k0_t6 k0_h6 r
theorem k0_off182_inb : ∀ (i : grid0.Coords) (v2 : BitVec 32) (k0_hw1 : k0_chk1 i v2) (k0_t6 : Fin k0_t6_loop.trips), ∀ (k0_h6 : k0_cond6 i v2 = 1#1), ∀ (r : Fin 6), ∀ a, (k0_off182 i k0_t6 (BitVec.ofNat 32 r.val)) a + S1x1x256x128.size a ≤ S6x2x2048x128.size a := fun i v2 k0_hw1 k0_t6 k0_h6 r => k0_hw1.2.1.2.2.2.2.2.2.2.2.2.2.2.2.2.1 k0_t6 k0_h6 r
theorem k0_off183_inb : ∀ (i : grid0.Coords) (v2 : BitVec 32) (k0_hw1 : k0_chk1 i v2), ∀ (k0_h6 : k0_cond6 i v2 = 1#1), ∀ (r : Fin 5), ∀ a, (k0_off183 i (BitVec.ofNat 32 r.val)) a + S1x1.size a ≤ S24x8.size a := fun i v2 k0_hw1 k0_h6 r => k0_hw1.2.1.2.2.2.2.2.2.2.2.2.2.2.2.2.2.1 k0_h6 r
theorem k0_off184_inb : ∀ (i : grid0.Coords) (v2 : BitVec 32) (k0_hw1 : k0_chk1 i v2) (k0_t6 : Fin k0_t6_loop.trips), ∀ (k0_h6 : k0_cond6 i v2 = 1#1), ∀ (r : Fin 6), ∀ a, (k0_off184 i k0_t6 (BitVec.ofNat 32 r.val)) a + S1x1x256x160.size a ≤ S6x2x2048x160.size a := fun i v2 k0_hw1 k0_t6 k0_h6 r => k0_hw1.2.1.2.2.2.2.2.2.2.2.2.2.2.2.2.2.2.1 k0_t6 k0_h6 r
theorem k0_off185_inb : ∀ (i : grid0.Coords) (v2 : BitVec 32) (k0_hw1 : k0_chk1 i v2) (k0_t6 : Fin k0_t6_loop.trips), ∀ (k0_h6 : k0_cond6 i v2 = 1#1), ∀ (r : Fin 6), ∀ a, (k0_off185 i k0_t6 (BitVec.ofNat 32 r.val)) a + S1x1x256x128.size a ≤ S6x2x2048x128.size a := fun i v2 k0_hw1 k0_t6 k0_h6 r => k0_hw1.2.1.2.2.2.2.2.2.2.2.2.2.2.2.2.2.2.2.1 k0_t6 k0_h6 r
theorem k0_off186_inb : ∀ (i : grid0.Coords) (v2 : BitVec 32) (k0_hw1 : k0_chk1 i v2) (k0_t6 : Fin k0_t6_loop.trips), ∀ (k0_h6 : k0_cond6 i v2 = 1#1), ∀ (r : Fin 6), ∀ a, (k0_off186 i k0_t6 (BitVec.ofNat 32 r.val)) a + S1x320x256.size a ≤ S6x320x2048.size a := fun i v2 k0_hw1 k0_t6 k0_h6 r => k0_hw1.2.1.2.2.2.2.2.2.2.2.2.2.2.2.2.2.2.2.2.1 k0_t6 k0_h6 r
theorem k0_off198_inb : ∀ (i : grid0.Coords) (v2 : BitVec 32) (k0_hw1 : k0_chk1 i v2) (k0_t6 : Fin k0_t6_loop.trips), ∀ (k0_h6 : k0_cond6 i v2 = 1#1), ∀ (r : Fin 6), ∀ a, (k0_off198 i k0_t6 (BitVec.ofNat 32 r.val)) a + S1x1x256x160.size a ≤ S6x2x2048x160.size a := fun i v2 k0_hw1 k0_t6 k0_h6 r => k0_hw1.2.1.2.2.2.2.2.2.2.2.2.2.2.2.2.2.2.2.2.2.1 k0_t6 k0_h6 r
theorem k0_off199_inb : ∀ (i : grid0.Coords) (v2 : BitVec 32) (k0_hw1 : k0_chk1 i v2) (k0_t6 : Fin k0_t6_loop.trips), ∀ (k0_h6 : k0_cond6 i v2 = 1#1), ∀ (r : Fin 6), ∀ a, (k0_off199 i k0_t6 (BitVec.ofNat 32 r.val)) a + S1x1x256x128.size a ≤ S6x2x2048x128.size a := fun i v2 k0_hw1 k0_t6 k0_h6 r => k0_hw1.2.1.2.2.2.2.2.2.2.2.2.2.2.2.2.2.2.2.2.2.2.1 k0_t6 k0_h6 r
theorem k0_off200_inb : ∀ (i : grid0.Coords) (v2 : BitVec 32) (k0_hw1 : k0_chk1 i v2) (k0_t6 : Fin k0_t6_loop.trips), ∀ (k0_h6 : k0_cond6 i v2 = 1#1), ∀ (r : Fin 6), ∀ a, (k0_off200 i k0_t6 (BitVec.ofNat 32 r.val)) a + S1x1x256x160.size a ≤ S6x2x2048x160.size a := fun i v2 k0_hw1 k0_t6 k0_h6 r => k0_hw1.2.1.2.2.2.2.2.2.2.2.2.2.2.2.2.2.2.2.2.2.2.2.1 k0_t6 k0_h6 r
theorem k0_off201_inb : ∀ (i : grid0.Coords) (v2 : BitVec 32) (k0_hw1 : k0_chk1 i v2) (k0_t6 : Fin k0_t6_loop.trips), ∀ (k0_h6 : k0_cond6 i v2 = 1#1), ∀ (r : Fin 6), ∀ a, (k0_off201 i k0_t6 (BitVec.ofNat 32 r.val)) a + S1x1x256x128.size a ≤ S6x2x2048x128.size a := fun i v2 k0_hw1 k0_t6 k0_h6 r => k0_hw1.2.1.2.2.2.2.2.2.2.2.2.2.2.2.2.2.2.2.2.2.2.2.2.1 k0_t6 k0_h6 r
theorem k0_off202_inb : ∀ (i : grid0.Coords) (v2 : BitVec 32) (k0_hw1 : k0_chk1 i v2) (k0_t6 : Fin k0_t6_loop.trips), ∀ (k0_h6 : k0_cond6 i v2 = 1#1), ∀ (r : Fin 6), ∀ a, (k0_off202 i k0_t6 (BitVec.ofNat 32 r.val)) a + S1x320x256.size a ≤ S6x320x2048.size a := fun i v2 k0_hw1 k0_t6 k0_h6 r => k0_hw1.2.1.2.2.2.2.2.2.2.2.2.2.2.2.2.2.2.2.2.2.2.2.2.2.1 k0_t6 k0_h6 r
theorem k0_off215_inb : ∀ (i : grid0.Coords) (v2 : BitVec 32) (k0_hw1 : k0_chk1 i v2) (k0_t7 : Fin k0_t7_loop.trips), ∀ (k0_h7 : k0_cond7 i v2 = 1#1), ∀ (r : Fin 7), ∀ a, (k0_off215 i k0_t7 (BitVec.ofNat 32 r.val)) a + S1x1x256x160.size a ≤ S6x2x2048x160.size a := fun i v2 k0_hw1 k0_t7 k0_h7 r => k0_hw1.2.1.2.2.2.2.2.2.2.2.2.2.2.2.2.2.2.2.2.2.2.2.2.2.2.1 k0_t7 k0_h7 r
theorem k0_off216_inb : ∀ (i : grid0.Coords) (v2 : BitVec 32) (k0_hw1 : k0_chk1 i v2) (k0_t7 : Fin k0_t7_loop.trips), ∀ (k0_h7 : k0_cond7 i v2 = 1#1), ∀ (r : Fin 7), ∀ a, (k0_off216 i k0_t7 (BitVec.ofNat 32 r.val)) a + S1x1x256x128.size a ≤ S6x2x2048x128.size a := fun i v2 k0_hw1 k0_t7 k0_h7 r => k0_hw1.2.1.2.2.2.2.2.2.2.2.2.2.2.2.2.2.2.2.2.2.2.2.2.2.2.2.1 k0_t7 k0_h7 r
theorem k0_off217_inb : ∀ (i : grid0.Coords) (v2 : BitVec 32) (k0_hw1 : k0_chk1 i v2), ∀ (k0_h7 : k0_cond7 i v2 = 1#1), ∀ (r : Fin 6), ∀ a, (k0_off217 i (BitVec.ofNat 32 r.val)) a + S1x1.size a ≤ S24x8.size a := fun i v2 k0_hw1 k0_h7 r => k0_hw1.2.1.2.2.2.2.2.2.2.2.2.2.2.2.2.2.2.2.2.2.2.2.2.2.2.2.2.1 k0_h7 r
theorem k0_off218_inb : ∀ (i : grid0.Coords) (v2 : BitVec 32) (k0_hw1 : k0_chk1 i v2) (k0_t7 : Fin k0_t7_loop.trips), ∀ (k0_h7 : k0_cond7 i v2 = 1#1), ∀ (r : Fin 7), ∀ a, (k0_off218 i k0_t7 (BitVec.ofNat 32 r.val)) a + S1x1x256x160.size a ≤ S6x2x2048x160.size a := fun i v2 k0_hw1 k0_t7 k0_h7 r => k0_hw1.2.1.2.2.2.2.2.2.2.2.2.2.2.2.2.2.2.2.2.2.2.2.2.2.2.2.2.2.1 k0_t7 k0_h7 r
theorem k0_off219_inb : ∀ (i : grid0.Coords) (v2 : BitVec 32) (k0_hw1 : k0_chk1 i v2) (k0_t7 : Fin k0_t7_loop.trips), ∀ (k0_h7 : k0_cond7 i v2 = 1#1), ∀ (r : Fin 7), ∀ a, (k0_off219 i k0_t7 (BitVec.ofNat 32 r.val)) a + S1x1x256x128.size a ≤ S6x2x2048x128.size a := fun i v2 k0_hw1 k0_t7 k0_h7 r => k0_hw1.2.1.2.2.2.2.2.2.2.2.2.2.2.2.2.2.2.2.2.2.2.2.2.2.2.2.2.2.2.1 k0_t7 k0_h7 r
theorem k0_off220_inb : ∀ (i : grid0.Coords) (v2 : BitVec 32) (k0_hw1 : k0_chk1 i v2) (k0_t7 : Fin k0_t7_loop.trips), ∀ (k0_h7 : k0_cond7 i v2 = 1#1), ∀ (r : Fin 7), ∀ a, (k0_off220 i k0_t7 (BitVec.ofNat 32 r.val)) a + S1x320x256.size a ≤ S6x320x2048.size a := fun i v2 k0_hw1 k0_t7 k0_h7 r => k0_hw1.2.1.2.2.2.2.2.2.2.2.2.2.2.2.2.2.2.2.2.2.2.2.2.2.2.2.2.2.2.2.1 k0_t7 k0_h7 r
theorem k0_off232_inb : ∀ (i : grid0.Coords) (v2 : BitVec 32) (k0_hw1 : k0_chk1 i v2) (k0_t7 : Fin k0_t7_loop.trips), ∀ (k0_h7 : k0_cond7 i v2 = 1#1), ∀ (r : Fin 7), ∀ a, (k0_off232 i k0_t7 (BitVec.ofNat 32 r.val)) a + S1x1x256x160.size a ≤ S6x2x2048x160.size a := fun i v2 k0_hw1 k0_t7 k0_h7 r => k0_hw1.2.1.2.2.2.2.2.2.2.2.2.2.2.2.2.2.2.2.2.2.2.2.2.2.2.2.2.2.2.2.2.1 k0_t7 k0_h7 r
theorem k0_off233_inb : ∀ (i : grid0.Coords) (v2 : BitVec 32) (k0_hw1 : k0_chk1 i v2) (k0_t7 : Fin k0_t7_loop.trips), ∀ (k0_h7 : k0_cond7 i v2 = 1#1), ∀ (r : Fin 7), ∀ a, (k0_off233 i k0_t7 (BitVec.ofNat 32 r.val)) a + S1x1x256x128.size a ≤ S6x2x2048x128.size a := fun i v2 k0_hw1 k0_t7 k0_h7 r => k0_hw1.2.1.2.2.2.2.2.2.2.2.2.2.2.2.2.2.2.2.2.2.2.2.2.2.2.2.2.2.2.2.2.2.1 k0_t7 k0_h7 r
theorem k0_off234_inb : ∀ (i : grid0.Coords) (v2 : BitVec 32) (k0_hw1 : k0_chk1 i v2) (k0_t7 : Fin k0_t7_loop.trips), ∀ (k0_h7 : k0_cond7 i v2 = 1#1), ∀ (r : Fin 7), ∀ a, (k0_off234 i k0_t7 (BitVec.ofNat 32 r.val)) a + S1x1x256x160.size a ≤ S6x2x2048x160.size a := fun i v2 k0_hw1 k0_t7 k0_h7 r => k0_hw1.2.1.2.2.2.2.2.2.2.2.2.2.2.2.2.2.2.2.2.2.2.2.2.2.2.2.2.2.2.2.2.2.2 k0_t7 k0_h7 r
theorem k0_off235_inb : ∀ (i : grid0.Coords) (v2 : BitVec 32) (k0_hw1 : k0_chk1 i v2) (k0_t7 : Fin k0_t7_loop.trips), ∀ (k0_h7 : k0_cond7 i v2 = 1#1), ∀ (r : Fin 7), ∀ a, (k0_off235 i k0_t7 (BitVec.ofNat 32 r.val)) a + S1x1x256x128.size a ≤ S6x2x2048x128.size a := fun i v2 k0_hw1 k0_t7 k0_h7 r => k0_hw1.2.2.1 k0_t7 k0_h7 r
theorem k0_off236_inb : ∀ (i : grid0.Coords) (v2 : BitVec 32) (k0_hw1 : k0_chk1 i v2) (k0_t7 : Fin k0_t7_loop.trips), ∀ (k0_h7 : k0_cond7 i v2 = 1#1), ∀ (r : Fin 7), ∀ a, (k0_off236 i k0_t7 (BitVec.ofNat 32 r.val)) a + S1x320x256.size a ≤ S6x320x2048.size a := fun i v2 k0_hw1 k0_t7 k0_h7 r => k0_hw1.2.2.2.1 k0_t7 k0_h7 r
theorem k0_off249_inb : ∀ (i : grid0.Coords) (v2 : BitVec 32) (k0_hw1 : k0_chk1 i v2) (k0_t8 : Fin k0_t8_loop.trips), ∀ (k0_h8 : k0_cond8 i v2 = 1#1), ∀ (r : Fin 8), ∀ a, (k0_off249 i k0_t8 (BitVec.ofNat 32 r.val)) a + S1x1x256x160.size a ≤ S6x2x2048x160.size a := fun i v2 k0_hw1 k0_t8 k0_h8 r => k0_hw1.2.2.2.2.1 k0_t8 k0_h8 r
theorem k0_off250_inb : ∀ (i : grid0.Coords) (v2 : BitVec 32) (k0_hw1 : k0_chk1 i v2) (k0_t8 : Fin k0_t8_loop.trips), ∀ (k0_h8 : k0_cond8 i v2 = 1#1), ∀ (r : Fin 8), ∀ a, (k0_off250 i k0_t8 (BitVec.ofNat 32 r.val)) a + S1x1x256x128.size a ≤ S6x2x2048x128.size a := fun i v2 k0_hw1 k0_t8 k0_h8 r => k0_hw1.2.2.2.2.2.1 k0_t8 k0_h8 r
theorem k0_off251_inb : ∀ (i : grid0.Coords) (v2 : BitVec 32) (k0_hw1 : k0_chk1 i v2), ∀ (k0_h8 : k0_cond8 i v2 = 1#1), ∀ (r : Fin 7), ∀ a, (k0_off251 i (BitVec.ofNat 32 r.val)) a + S1x1.size a ≤ S24x8.size a := fun i v2 k0_hw1 k0_h8 r => k0_hw1.2.2.2.2.2.2.1 k0_h8 r
theorem k0_off252_inb : ∀ (i : grid0.Coords) (v2 : BitVec 32) (k0_hw1 : k0_chk1 i v2) (k0_t8 : Fin k0_t8_loop.trips), ∀ (k0_h8 : k0_cond8 i v2 = 1#1), ∀ (r : Fin 8), ∀ a, (k0_off252 i k0_t8 (BitVec.ofNat 32 r.val)) a + S1x1x256x160.size a ≤ S6x2x2048x160.size a := fun i v2 k0_hw1 k0_t8 k0_h8 r => k0_hw1.2.2.2.2.2.2.2.1 k0_t8 k0_h8 r
theorem k0_off253_inb : ∀ (i : grid0.Coords) (v2 : BitVec 32) (k0_hw1 : k0_chk1 i v2) (k0_t8 : Fin k0_t8_loop.trips), ∀ (k0_h8 : k0_cond8 i v2 = 1#1), ∀ (r : Fin 8), ∀ a, (k0_off253 i k0_t8 (BitVec.ofNat 32 r.val)) a + S1x1x256x128.size a ≤ S6x2x2048x128.size a := fun i v2 k0_hw1 k0_t8 k0_h8 r => k0_hw1.2.2.2.2.2.2.2.2.1 k0_t8 k0_h8 r
theorem k0_off254_inb : ∀ (i : grid0.Coords) (v2 : BitVec 32) (k0_hw1 : k0_chk1 i v2) (k0_t8 : Fin k0_t8_loop.trips), ∀ (k0_h8 : k0_cond8 i v2 = 1#1), ∀ (r : Fin 8), ∀ a, (k0_off254 i k0_t8 (BitVec.ofNat 32 r.val)) a + S1x320x256.size a ≤ S6x320x2048.size a := fun i v2 k0_hw1 k0_t8 k0_h8 r => k0_hw1.2.2.2.2.2.2.2.2.2.1 k0_t8 k0_h8 r
theorem k0_off266_inb : ∀ (i : grid0.Coords) (v2 : BitVec 32) (k0_hw1 : k0_chk1 i v2) (k0_t8 : Fin k0_t8_loop.trips), ∀ (k0_h8 : k0_cond8 i v2 = 1#1), ∀ (r : Fin 8), ∀ a, (k0_off266 i k0_t8 (BitVec.ofNat 32 r.val)) a + S1x1x256x160.size a ≤ S6x2x2048x160.size a := fun i v2 k0_hw1 k0_t8 k0_h8 r => k0_hw1.2.2.2.2.2.2.2.2.2.2.1 k0_t8 k0_h8 r
theorem k0_off267_inb : ∀ (i : grid0.Coords) (v2 : BitVec 32) (k0_hw1 : k0_chk1 i v2) (k0_t8 : Fin k0_t8_loop.trips), ∀ (k0_h8 : k0_cond8 i v2 = 1#1), ∀ (r : Fin 8), ∀ a, (k0_off267 i k0_t8 (BitVec.ofNat 32 r.val)) a + S1x1x256x128.size a ≤ S6x2x2048x128.size a := fun i v2 k0_hw1 k0_t8 k0_h8 r => k0_hw1.2.2.2.2.2.2.2.2.2.2.2.1 k0_t8 k0_h8 r
theorem k0_off268_inb : ∀ (i : grid0.Coords) (v2 : BitVec 32) (k0_hw1 : k0_chk1 i v2) (k0_t8 : Fin k0_t8_loop.trips), ∀ (k0_h8 : k0_cond8 i v2 = 1#1), ∀ (r : Fin 8), ∀ a, (k0_off268 i k0_t8 (BitVec.ofNat 32 r.val)) a + S1x1x256x160.size a ≤ S6x2x2048x160.size a := fun i v2 k0_hw1 k0_t8 k0_h8 r => k0_hw1.2.2.2.2.2.2.2.2.2.2.2.2.1 k0_t8 k0_h8 r
theorem k0_off269_inb : ∀ (i : grid0.Coords) (v2 : BitVec 32) (k0_hw1 : k0_chk1 i v2) (k0_t8 : Fin k0_t8_loop.trips), ∀ (k0_h8 : k0_cond8 i v2 = 1#1), ∀ (r : Fin 8), ∀ a, (k0_off269 i k0_t8 (BitVec.ofNat 32 r.val)) a + S1x1x256x128.size a ≤ S6x2x2048x128.size a := fun i v2 k0_hw1 k0_t8 k0_h8 r => k0_hw1.2.2.2.2.2.2.2.2.2.2.2.2.2.1 k0_t8 k0_h8 r
theorem k0_off270_inb : ∀ (i : grid0.Coords) (v2 : BitVec 32) (k0_hw1 : k0_chk1 i v2) (k0_t8 : Fin k0_t8_loop.trips), ∀ (k0_h8 : k0_cond8 i v2 = 1#1), ∀ (r : Fin 8), ∀ a, (k0_off270 i k0_t8 (BitVec.ofNat 32 r.val)) a + S1x320x256.size a ≤ S6x320x2048.size a := fun i v2 k0_hw1 k0_t8 k0_h8 r => k0_hw1.2.2.2.2.2.2.2.2.2.2.2.2.2.2 k0_t8 k0_h8 r

def k0_mult218 (i : grid0.Coords) : BitVec 32 :=
  let arg1 : BitVec 32 := BitVec.ofNat 32 (i 1).val
  let c7_i32_850 : BitVec 32 := 7#32
  let v1816 : BitVec 32 := Scalar.subi arg1 c7_i32_850
  let c1_i32_851 : BitVec 32 := 1#32
  let v1817 : BitVec 32 := Scalar.addi v1816 c1_i32_851
  let c256_i32_852 : BitVec 32 := 256#32
  let v1818 : BitVec 32 := Scalar.muli v1817 c256_i32_852
  v1818
def k0_mult219 (i : grid0.Coords) : BitVec 32 :=
  let arg1 : BitVec 32 := BitVec.ofNat 32 (i 1).val
  let c7_i32_863 : BitVec 32 := 7#32
  let v1845 : BitVec 32 := Scalar.subi arg1 c7_i32_863
  let c2_i32_864 : BitVec 32 := 2#32
  let v1846 : BitVec 32 := Scalar.addi v1845 c2_i32_864
  let c256_i32_865 : BitVec 32 := 256#32
  let v1847 : BitVec 32 := Scalar.muli v1846 c256_i32_865
  v1847
def k0_mult220 (i : grid0.Coords) : BitVec 32 :=
  let arg1 : BitVec 32 := BitVec.ofNat 32 (i 1).val
  let c7_i32_876 : BitVec 32 := 7#32
  let v1874 : BitVec 32 := Scalar.subi arg1 c7_i32_876
  let c3_i32_877 : BitVec 32 := 3#32
  let v1875 : BitVec 32 := Scalar.addi v1874 c3_i32_877
  let c256_i32_878 : BitVec 32 := 256#32
  let v1876 : BitVec 32 := Scalar.muli v1875 c256_i32_878
  v1876
def k0_mult221 (i : grid0.Coords) : BitVec 32 :=
  let arg1 : BitVec 32 := BitVec.ofNat 32 (i 1).val
  let c7_i32_889 : BitVec 32 := 7#32
  let v1903 : BitVec 32 := Scalar.subi arg1 c7_i32_889
  let c4_i32_890 : BitVec 32 := 4#32
  let v1904 : BitVec 32 := Scalar.addi v1903 c4_i32_890
  let c256_i32_891 : BitVec 32 := 256#32
  let v1905 : BitVec 32 := Scalar.muli v1904 c256_i32_891
  v1905
def k0_mult222 (i : grid0.Coords) : BitVec 32 :=
  let arg1 : BitVec 32 := BitVec.ofNat 32 (i 1).val
  let c7_i32_902 : BitVec 32 := 7#32
  let v1932 : BitVec 32 := Scalar.subi arg1 c7_i32_902
  let c5_i32_903 : BitVec 32 := 5#32
  let v1933 : BitVec 32 := Scalar.addi v1932 c5_i32_903
  let c256_i32_904 : BitVec 32 := 256#32
  let v1934 : BitVec 32 := Scalar.muli v1933 c256_i32_904
  v1934
def k0_mult223 (i : grid0.Coords) : BitVec 32 :=
  let arg1 : BitVec 32 := BitVec.ofNat 32 (i 1).val
  let c7_i32_915 : BitVec 32 := 7#32
  let v1961 : BitVec 32 := Scalar.subi arg1 c7_i32_915
  let c6_i32_916 : BitVec 32 := 6#32
  let v1962 : BitVec 32 := Scalar.addi v1961 c6_i32_916
  let c256_i32_917 : BitVec 32 := 256#32
  let v1963 : BitVec 32 := Scalar.muli v1962 c256_i32_917
  v1963
def k0_mult224 (i : grid0.Coords) : BitVec 32 :=
  let arg1 : BitVec 32 := BitVec.ofNat 32 (i 1).val
  let c7_i32_928 : BitVec 32 := 7#32
  let v1990 : BitVec 32 := Scalar.subi arg1 c7_i32_928
  let c7_i32_929 : BitVec 32 := 7#32
  let v1991 : BitVec 32 := Scalar.addi v1990 c7_i32_929
  let c256_i32_930 : BitVec 32 := 256#32
  let v1992 : BitVec 32 := Scalar.muli v1991 c256_i32_930
  v1992
def k0_off271 (k0_t8 : Fin k0_t8_loop.trips) : Fin 3 → Nat :=
  let c2_i32_499 : BitVec 32 := 2#32
  let c0_i32_46 : BitVec 32 := 0#32
  let c1_i32_48 : BitVec 32 := 1#32
  let arg25 : BitVec 32 := Scf.iv c0_i32_46 c1_i32_48 k0_t8
  let v1089 : BitVec 32 := Scalar.muli c2_i32_499 arg25
  let c1_i32_500 : BitVec 32 := 1#32
  let v1090 : BitVec 32 := Scalar.addi v1089 c1_i32_500
  let v2011 : Index := Scalar.indexCast v1090
  let c0_939 : Index := 0#32
  let c0_940 : Index := 0#32
  ![v2011.toNat, 0, 0]
def k0_mult225 (k0_t8 : Fin k0_t8_loop.trips) : BitVec 32 :=
  let c0_i32_46 : BitVec 32 := 0#32
  let c1_i32_48 : BitVec 32 := 1#32
  let arg25 : BitVec 32 := Scf.iv c0_i32_46 c1_i32_48 k0_t8
  let c2_i32_956 : BitVec 32 := 2#32
  let v2054 : BitVec 32 := Scalar.muli arg25 c2_i32_956
  let c320_i32 : BitVec 32 := 320#32
  let v2055 : BitVec 32 := Scalar.muli v2054 c320_i32
  v2055
def k0_off272 (k0_t8 : Fin k0_t8_loop.trips) : Fin 3 → Nat :=
  let c0_959 : Index := 0#32
  let c0_960 : Index := 0#32
  let c0_i32_46 : BitVec 32 := 0#32
  let c1_i32_48 : BitVec 32 := 1#32
  let arg25 : BitVec 32 := Scf.iv c0_i32_46 c1_i32_48 k0_t8
  let c2_i32_956 : BitVec 32 := 2#32
  let v2054 : BitVec 32 := Scalar.muli arg25 c2_i32_956
  let c320_i32 : BitVec 32 := 320#32
  let v2055 : BitVec 32 := Scalar.muli v2054 c320_i32
  let v2056 : BitVec 32 := v2055
  let v2059 : Index := Scalar.indexCast v2056
  ![0, 0, v2059.toNat]
@[reducible] def k0_t9_loop : Scf.Loop 32 :=
  let c0_i32_46 : BitVec 32 := 0#32
  let c3_i32_47 : BitVec 32 := 3#32
  let v124 : BitVec 32 := Scalar.addi c0_i32_46 c3_i32_47
  let c1_i32_48 : BitVec 32 := 1#32
  ⟨c0_i32_46, v124, c1_i32_48⟩
@[reducible] def k0_t10_loop (i : grid0.Coords) (v2 : BitVec 32) : Scf.Loop 32 :=
  let c0_i32_52 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v127 : BitVec 32 := Scalar.subi v21 c0_i32_52
  let c1_i32_53 : BitVec 32 := 1#32
  let v129 : BitVec 32 := Scalar.divsi v127 c1_i32_53
  let v130 : BitVec 32 := Scalar.muli v129 c1_i32_53
  let v131 : BitVec 32 := Scalar.addi c0_i32_52 v130
  let c1_i32_54 : BitVec 32 := 1#32
  ⟨c0_i32_52, v131, c1_i32_54⟩
def k0_cond9 (v113 : BitVec 1) (v119 : BitVec 1) : BitVec 1 :=
  let v120 : BitVec 1 := Scalar.andi v113 v119
  let v_true : BitVec 1 := 1#1
  let v121 : BitVec 1 := Scalar.xori v120 v_true
  let v122 : BitVec 32 := Scalar.extui v121
  let c0_i32_45 : BitVec 32 := 0#32
  let v123 : BitVec 1 := Scalar.cmpi .ne v122 c0_i32_45
  v123

def k0_mult226 (i : grid0.Coords) (v2 : BitVec 32) (k0_t10 : Fin (k0_t10_loop i v2).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_52 : BitVec 32 := 0#32
  let c1_i32_54 : BitVec 32 := 1#32
  let arg26 : BitVec 32 := Scf.iv c0_i32_52 c1_i32_54 k0_t10
  let v321 : BitVec 32 := Scalar.addi v19 arg26
  let c256_i32_157 : BitVec 32 := 256#32
  let v322 : BitVec 32 := Scalar.muli v321 c256_i32_157
  v322
def k0_off273 (k0_t9 : Fin k0_t9_loop.trips) : Fin 4 → Nat :=
  let c0_158 : Index := 0#32
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v324 : Index := Scalar.indexCast v125
  let c0_159 : Index := 0#32
  let c0_160 : Index := 0#32
  ![0, v324.toNat, 0, 0]
def k0_off274 (i : grid0.Coords) (v2 : BitVec 32) (k0_t9 : Fin k0_t9_loop.trips) (k0_t10 : Fin (k0_t10_loop i v2).trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v329 : Index := Scalar.indexCast v125
  let c0_162 : Index := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_52 : BitVec 32 := 0#32
  let c1_i32_54 : BitVec 32 := 1#32
  let arg26 : BitVec 32 := Scf.iv c0_i32_52 c1_i32_54 k0_t10
  let v321 : BitVec 32 := Scalar.addi v19 arg26
  let c256_i32_157 : BitVec 32 := 256#32
  let v322 : BitVec 32 := Scalar.muli v321 c256_i32_157
  let v323 : BitVec 32 := v322
  let v330 : Index := Scalar.indexCast v323
  let c0_163 : Index := 0#32
  ![v329.toNat, 0, v330.toNat, 0]
def k0_off275 (k0_t9 : Fin k0_t9_loop.trips) : Fin 5 → Nat :=
  let c0_164 : Index := 0#32
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v333 : Index := Scalar.indexCast v125
  let c0_165 : Index := 0#32
  let c0_166 : Index := 0#32
  let c0_167 : Index := 0#32
  ![0, v333.toNat, 0, 0, 0]
def k0_off276 (i : grid0.Coords) (v2 : BitVec 32) (k0_t9 : Fin k0_t9_loop.trips) (k0_t10 : Fin (k0_t10_loop i v2).trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v337 : Index := Scalar.indexCast v125
  let c0_169 : Index := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_52 : BitVec 32 := 0#32
  let c1_i32_54 : BitVec 32 := 1#32
  let arg26 : BitVec 32 := Scf.iv c0_i32_52 c1_i32_54 k0_t10
  let v321 : BitVec 32 := Scalar.addi v19 arg26
  let c256_i32_157 : BitVec 32 := 256#32
  let v322 : BitVec 32 := Scalar.muli v321 c256_i32_157
  let v323 : BitVec 32 := v322
  let v338 : Index := Scalar.indexCast v323
  let c0_170 : Index := 0#32
  ![v337.toNat, 0, v338.toNat, 0]
def k0_off277 (i : grid0.Coords) (v2 : BitVec 32) (k0_t10 : Fin (k0_t10_loop i v2).trips) : Fin 2 → Nat :=
  let arg0 : BitVec 32 := BitVec.ofNat 32 (i 0).val
  let v355 : Index := Scalar.indexCast arg0
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_52 : BitVec 32 := 0#32
  let c1_i32_54 : BitVec 32 := 1#32
  let arg26 : BitVec 32 := Scf.iv c0_i32_52 c1_i32_54 k0_t10
  let v321 : BitVec 32 := Scalar.addi v19 arg26
  let v356 : Index := Scalar.indexCast v321
  ![v355.toNat, v356.toNat]
@[reducible] def k0_t11_loop (i : grid0.Coords) (v2 : BitVec 32) : Scf.Loop 32 :=
  let c0_i32_52 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v127 : BitVec 32 := Scalar.subi v21 c0_i32_52
  let c1_i32_53 : BitVec 32 := 1#32
  let v129 : BitVec 32 := Scalar.divsi v127 c1_i32_53
  let v130 : BitVec 32 := Scalar.muli v129 c1_i32_53
  let v131 : BitVec 32 := Scalar.addi c0_i32_52 v130
  let v128 : BitVec 32 := Scalar.addi c0_i32_52 v127
  let c1_i32_55 : BitVec 32 := 1#32
  ⟨v131, v128, c1_i32_55⟩
def k0_mult227 (i : grid0.Coords) (v2 : BitVec 32) (k0_t11 : Fin (k0_t11_loop i v2).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_52 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v127 : BitVec 32 := Scalar.subi v21 c0_i32_52
  let c1_i32_53 : BitVec 32 := 1#32
  let v129 : BitVec 32 := Scalar.divsi v127 c1_i32_53
  let v130 : BitVec 32 := Scalar.muli v129 c1_i32_53
  let v131 : BitVec 32 := Scalar.addi c0_i32_52 v130
  let c1_i32_55 : BitVec 32 := 1#32
  let arg26 : BitVec 32 := Scf.iv v131 c1_i32_55 k0_t11
  let v321 : BitVec 32 := Scalar.addi v19 arg26
  let c256_i32_157 : BitVec 32 := 256#32
  let v322 : BitVec 32 := Scalar.muli v321 c256_i32_157
  v322
def k0_off278 (k0_t9 : Fin k0_t9_loop.trips) : Fin 4 → Nat :=
  let c0_158 : Index := 0#32
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v324 : Index := Scalar.indexCast v125
  let c0_159 : Index := 0#32
  let c0_160 : Index := 0#32
  ![0, v324.toNat, 0, 0]
def k0_off279 (i : grid0.Coords) (v2 : BitVec 32) (k0_t9 : Fin k0_t9_loop.trips) (k0_t11 : Fin (k0_t11_loop i v2).trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v329 : Index := Scalar.indexCast v125
  let c0_162 : Index := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_52 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v127 : BitVec 32 := Scalar.subi v21 c0_i32_52
  let c1_i32_53 : BitVec 32 := 1#32
  let v129 : BitVec 32 := Scalar.divsi v127 c1_i32_53
  let v130 : BitVec 32 := Scalar.muli v129 c1_i32_53
  let v131 : BitVec 32 := Scalar.addi c0_i32_52 v130
  let c1_i32_55 : BitVec 32 := 1#32
  let arg26 : BitVec 32 := Scf.iv v131 c1_i32_55 k0_t11
  let v321 : BitVec 32 := Scalar.addi v19 arg26
  let c256_i32_157 : BitVec 32 := 256#32
  let v322 : BitVec 32 := Scalar.muli v321 c256_i32_157
  let v323 : BitVec 32 := v322
  let v330 : Index := Scalar.indexCast v323
  let c0_163 : Index := 0#32
  ![v329.toNat, 0, v330.toNat, 0]
def k0_off280 (k0_t9 : Fin k0_t9_loop.trips) : Fin 5 → Nat :=
  let c0_164 : Index := 0#32
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v333 : Index := Scalar.indexCast v125
  let c0_165 : Index := 0#32
  let c0_166 : Index := 0#32
  let c0_167 : Index := 0#32
  ![0, v333.toNat, 0, 0, 0]
def k0_off281 (i : grid0.Coords) (v2 : BitVec 32) (k0_t9 : Fin k0_t9_loop.trips) (k0_t11 : Fin (k0_t11_loop i v2).trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v337 : Index := Scalar.indexCast v125
  let c0_169 : Index := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_52 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v127 : BitVec 32 := Scalar.subi v21 c0_i32_52
  let c1_i32_53 : BitVec 32 := 1#32
  let v129 : BitVec 32 := Scalar.divsi v127 c1_i32_53
  let v130 : BitVec 32 := Scalar.muli v129 c1_i32_53
  let v131 : BitVec 32 := Scalar.addi c0_i32_52 v130
  let c1_i32_55 : BitVec 32 := 1#32
  let arg26 : BitVec 32 := Scf.iv v131 c1_i32_55 k0_t11
  let v321 : BitVec 32 := Scalar.addi v19 arg26
  let c256_i32_157 : BitVec 32 := 256#32
  let v322 : BitVec 32 := Scalar.muli v321 c256_i32_157
  let v323 : BitVec 32 := v322
  let v338 : Index := Scalar.indexCast v323
  let c0_170 : Index := 0#32
  ![v337.toNat, 0, v338.toNat, 0]
def k0_off282 (i : grid0.Coords) (v2 : BitVec 32) (k0_t11 : Fin (k0_t11_loop i v2).trips) : Fin 2 → Nat :=
  let arg0 : BitVec 32 := BitVec.ofNat 32 (i 0).val
  let v355 : Index := Scalar.indexCast arg0
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_52 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v127 : BitVec 32 := Scalar.subi v21 c0_i32_52
  let c1_i32_53 : BitVec 32 := 1#32
  let v129 : BitVec 32 := Scalar.divsi v127 c1_i32_53
  let v130 : BitVec 32 := Scalar.muli v129 c1_i32_53
  let v131 : BitVec 32 := Scalar.addi c0_i32_52 v130
  let c1_i32_55 : BitVec 32 := 1#32
  let arg26 : BitVec 32 := Scf.iv v131 c1_i32_55 k0_t11
  let v321 : BitVec 32 := Scalar.addi v19 arg26
  let v356 : Index := Scalar.indexCast v321
  ![v355.toNat, v356.toNat]
@[reducible] def k0_t12_loop (i : grid0.Coords) (v2 : BitVec 32) : Scf.Loop 32 :=
  let c0_i32_57 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v135 : BitVec 32 := Scalar.subi v21 c0_i32_57
  let c1_i32_58 : BitVec 32 := 1#32
  let v137 : BitVec 32 := Scalar.divsi v135 c1_i32_58
  let v138 : BitVec 32 := Scalar.muli v137 c1_i32_58
  let v139 : BitVec 32 := Scalar.addi c0_i32_57 v138
  let c1_i32_59 : BitVec 32 := 1#32
  ⟨c0_i32_57, v139, c1_i32_59⟩
def k0_mult228 (i : grid0.Coords) (v2 : BitVec 32) (k0_t12 : Fin (k0_t12_loop i v2).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_57 : BitVec 32 := 0#32
  let c1_i32_59 : BitVec 32 := 1#32
  let arg26 : BitVec 32 := Scf.iv c0_i32_57 c1_i32_59 k0_t12
  let v321 : BitVec 32 := Scalar.addi v19 arg26
  let c256_i32_157 : BitVec 32 := 256#32
  let v322 : BitVec 32 := Scalar.muli v321 c256_i32_157
  v322
def k0_off283 (k0_t9 : Fin k0_t9_loop.trips) : Fin 4 → Nat :=
  let c0_158 : Index := 0#32
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v324 : Index := Scalar.indexCast v125
  let c0_159 : Index := 0#32
  let c0_160 : Index := 0#32
  ![0, v324.toNat, 0, 0]
def k0_off284 (i : grid0.Coords) (v2 : BitVec 32) (k0_t9 : Fin k0_t9_loop.trips) (k0_t12 : Fin (k0_t12_loop i v2).trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v329 : Index := Scalar.indexCast v125
  let c0_162 : Index := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_57 : BitVec 32 := 0#32
  let c1_i32_59 : BitVec 32 := 1#32
  let arg26 : BitVec 32 := Scf.iv c0_i32_57 c1_i32_59 k0_t12
  let v321 : BitVec 32 := Scalar.addi v19 arg26
  let c256_i32_157 : BitVec 32 := 256#32
  let v322 : BitVec 32 := Scalar.muli v321 c256_i32_157
  let v323 : BitVec 32 := v322
  let v330 : Index := Scalar.indexCast v323
  let c0_163 : Index := 0#32
  ![v329.toNat, 0, v330.toNat, 0]
def k0_off285 (k0_t9 : Fin k0_t9_loop.trips) : Fin 5 → Nat :=
  let c0_164 : Index := 0#32
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v333 : Index := Scalar.indexCast v125
  let c0_165 : Index := 0#32
  let c0_166 : Index := 0#32
  let c0_167 : Index := 0#32
  ![0, v333.toNat, 0, 0, 0]
def k0_off286 (i : grid0.Coords) (v2 : BitVec 32) (k0_t9 : Fin k0_t9_loop.trips) (k0_t12 : Fin (k0_t12_loop i v2).trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v337 : Index := Scalar.indexCast v125
  let c0_169 : Index := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_57 : BitVec 32 := 0#32
  let c1_i32_59 : BitVec 32 := 1#32
  let arg26 : BitVec 32 := Scf.iv c0_i32_57 c1_i32_59 k0_t12
  let v321 : BitVec 32 := Scalar.addi v19 arg26
  let c256_i32_157 : BitVec 32 := 256#32
  let v322 : BitVec 32 := Scalar.muli v321 c256_i32_157
  let v323 : BitVec 32 := v322
  let v338 : Index := Scalar.indexCast v323
  let c0_170 : Index := 0#32
  ![v337.toNat, 0, v338.toNat, 0]
def k0_off287 (i : grid0.Coords) (v2 : BitVec 32) (k0_t12 : Fin (k0_t12_loop i v2).trips) : Fin 2 → Nat :=
  let arg0 : BitVec 32 := BitVec.ofNat 32 (i 0).val
  let v355 : Index := Scalar.indexCast arg0
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_57 : BitVec 32 := 0#32
  let c1_i32_59 : BitVec 32 := 1#32
  let arg26 : BitVec 32 := Scf.iv c0_i32_57 c1_i32_59 k0_t12
  let v321 : BitVec 32 := Scalar.addi v19 arg26
  let v356 : Index := Scalar.indexCast v321
  ![v355.toNat, v356.toNat]
def k0_mult229 (i : grid0.Coords) (v2 : BitVec 32) (k0_t12 : Fin (k0_t12_loop i v2).trips) : BitVec 32 :=
  let c0_i32_57 : BitVec 32 := 0#32
  let c1_i32_59 : BitVec 32 := 1#32
  let arg26 : BitVec 32 := Scf.iv c0_i32_57 c1_i32_59 k0_t12
  let c256_i32_177 : BitVec 32 := 256#32
  let v368 : BitVec 32 := Scalar.muli arg26 c256_i32_177
  v368
def k0_off288 (i : grid0.Coords) (v2 : BitVec 32) (k0_t12 : Fin (k0_t12_loop i v2).trips) : Fin 3 → Nat :=
  let c0_178 : Index := 0#32
  let c0_i32_57 : BitVec 32 := 0#32
  let c1_i32_59 : BitVec 32 := 1#32
  let arg26 : BitVec 32 := Scf.iv c0_i32_57 c1_i32_59 k0_t12
  let c256_i32_177 : BitVec 32 := 256#32
  let v368 : BitVec 32 := Scalar.muli arg26 c256_i32_177
  let v369 : BitVec 32 := v368
  let v370 : Index := Scalar.indexCast v369
  let c0_179 : Index := 0#32
  ![0, v370.toNat, 0]
@[reducible] def k0_t13_loop (i : grid0.Coords) (v2 : BitVec 32) : Scf.Loop 32 :=
  let c0_i32_57 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v135 : BitVec 32 := Scalar.subi v21 c0_i32_57
  let c1_i32_58 : BitVec 32 := 1#32
  let v137 : BitVec 32 := Scalar.divsi v135 c1_i32_58
  let v138 : BitVec 32 := Scalar.muli v137 c1_i32_58
  let v139 : BitVec 32 := Scalar.addi c0_i32_57 v138
  let v136 : BitVec 32 := Scalar.addi c0_i32_57 v135
  let c1_i32_60 : BitVec 32 := 1#32
  ⟨v139, v136, c1_i32_60⟩
def k0_mult230 (i : grid0.Coords) (v2 : BitVec 32) (k0_t13 : Fin (k0_t13_loop i v2).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_57 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v135 : BitVec 32 := Scalar.subi v21 c0_i32_57
  let c1_i32_58 : BitVec 32 := 1#32
  let v137 : BitVec 32 := Scalar.divsi v135 c1_i32_58
  let v138 : BitVec 32 := Scalar.muli v137 c1_i32_58
  let v139 : BitVec 32 := Scalar.addi c0_i32_57 v138
  let c1_i32_60 : BitVec 32 := 1#32
  let arg26 : BitVec 32 := Scf.iv v139 c1_i32_60 k0_t13
  let v321 : BitVec 32 := Scalar.addi v19 arg26
  let c256_i32_157 : BitVec 32 := 256#32
  let v322 : BitVec 32 := Scalar.muli v321 c256_i32_157
  v322
def k0_off289 (k0_t9 : Fin k0_t9_loop.trips) : Fin 4 → Nat :=
  let c0_158 : Index := 0#32
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v324 : Index := Scalar.indexCast v125
  let c0_159 : Index := 0#32
  let c0_160 : Index := 0#32
  ![0, v324.toNat, 0, 0]
def k0_off290 (i : grid0.Coords) (v2 : BitVec 32) (k0_t9 : Fin k0_t9_loop.trips) (k0_t13 : Fin (k0_t13_loop i v2).trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v329 : Index := Scalar.indexCast v125
  let c0_162 : Index := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_57 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v135 : BitVec 32 := Scalar.subi v21 c0_i32_57
  let c1_i32_58 : BitVec 32 := 1#32
  let v137 : BitVec 32 := Scalar.divsi v135 c1_i32_58
  let v138 : BitVec 32 := Scalar.muli v137 c1_i32_58
  let v139 : BitVec 32 := Scalar.addi c0_i32_57 v138
  let c1_i32_60 : BitVec 32 := 1#32
  let arg26 : BitVec 32 := Scf.iv v139 c1_i32_60 k0_t13
  let v321 : BitVec 32 := Scalar.addi v19 arg26
  let c256_i32_157 : BitVec 32 := 256#32
  let v322 : BitVec 32 := Scalar.muli v321 c256_i32_157
  let v323 : BitVec 32 := v322
  let v330 : Index := Scalar.indexCast v323
  let c0_163 : Index := 0#32
  ![v329.toNat, 0, v330.toNat, 0]
def k0_off291 (k0_t9 : Fin k0_t9_loop.trips) : Fin 5 → Nat :=
  let c0_164 : Index := 0#32
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v333 : Index := Scalar.indexCast v125
  let c0_165 : Index := 0#32
  let c0_166 : Index := 0#32
  let c0_167 : Index := 0#32
  ![0, v333.toNat, 0, 0, 0]
def k0_off292 (i : grid0.Coords) (v2 : BitVec 32) (k0_t9 : Fin k0_t9_loop.trips) (k0_t13 : Fin (k0_t13_loop i v2).trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v337 : Index := Scalar.indexCast v125
  let c0_169 : Index := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_57 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v135 : BitVec 32 := Scalar.subi v21 c0_i32_57
  let c1_i32_58 : BitVec 32 := 1#32
  let v137 : BitVec 32 := Scalar.divsi v135 c1_i32_58
  let v138 : BitVec 32 := Scalar.muli v137 c1_i32_58
  let v139 : BitVec 32 := Scalar.addi c0_i32_57 v138
  let c1_i32_60 : BitVec 32 := 1#32
  let arg26 : BitVec 32 := Scf.iv v139 c1_i32_60 k0_t13
  let v321 : BitVec 32 := Scalar.addi v19 arg26
  let c256_i32_157 : BitVec 32 := 256#32
  let v322 : BitVec 32 := Scalar.muli v321 c256_i32_157
  let v323 : BitVec 32 := v322
  let v338 : Index := Scalar.indexCast v323
  let c0_170 : Index := 0#32
  ![v337.toNat, 0, v338.toNat, 0]
def k0_off293 (i : grid0.Coords) (v2 : BitVec 32) (k0_t13 : Fin (k0_t13_loop i v2).trips) : Fin 2 → Nat :=
  let arg0 : BitVec 32 := BitVec.ofNat 32 (i 0).val
  let v355 : Index := Scalar.indexCast arg0
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_57 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v135 : BitVec 32 := Scalar.subi v21 c0_i32_57
  let c1_i32_58 : BitVec 32 := 1#32
  let v137 : BitVec 32 := Scalar.divsi v135 c1_i32_58
  let v138 : BitVec 32 := Scalar.muli v137 c1_i32_58
  let v139 : BitVec 32 := Scalar.addi c0_i32_57 v138
  let c1_i32_60 : BitVec 32 := 1#32
  let arg26 : BitVec 32 := Scf.iv v139 c1_i32_60 k0_t13
  let v321 : BitVec 32 := Scalar.addi v19 arg26
  let v356 : Index := Scalar.indexCast v321
  ![v355.toNat, v356.toNat]
def k0_mult231 (i : grid0.Coords) (v2 : BitVec 32) (k0_t13 : Fin (k0_t13_loop i v2).trips) : BitVec 32 :=
  let c0_i32_57 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v135 : BitVec 32 := Scalar.subi v21 c0_i32_57
  let c1_i32_58 : BitVec 32 := 1#32
  let v137 : BitVec 32 := Scalar.divsi v135 c1_i32_58
  let v138 : BitVec 32 := Scalar.muli v137 c1_i32_58
  let v139 : BitVec 32 := Scalar.addi c0_i32_57 v138
  let c1_i32_60 : BitVec 32 := 1#32
  let arg26 : BitVec 32 := Scf.iv v139 c1_i32_60 k0_t13
  let c256_i32_177 : BitVec 32 := 256#32
  let v368 : BitVec 32 := Scalar.muli arg26 c256_i32_177
  v368
def k0_off294 (i : grid0.Coords) (v2 : BitVec 32) (k0_t13 : Fin (k0_t13_loop i v2).trips) : Fin 3 → Nat :=
  let c0_178 : Index := 0#32
  let c0_i32_57 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v135 : BitVec 32 := Scalar.subi v21 c0_i32_57
  let c1_i32_58 : BitVec 32 := 1#32
  let v137 : BitVec 32 := Scalar.divsi v135 c1_i32_58
  let v138 : BitVec 32 := Scalar.muli v137 c1_i32_58
  let v139 : BitVec 32 := Scalar.addi c0_i32_57 v138
  let c1_i32_60 : BitVec 32 := 1#32
  let arg26 : BitVec 32 := Scf.iv v139 c1_i32_60 k0_t13
  let c256_i32_177 : BitVec 32 := 256#32
  let v368 : BitVec 32 := Scalar.muli arg26 c256_i32_177
  let v369 : BitVec 32 := v368
  let v370 : Index := Scalar.indexCast v369
  let c0_179 : Index := 0#32
  ![0, v370.toNat, 0]
@[reducible] def k0_t14_loop (i : grid0.Coords) (v2 : BitVec 32) : Scf.Loop 32 :=
  let c0_i32_63 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v145 : BitVec 32 := Scalar.subi v21 c0_i32_63
  let c1_i32_64 : BitVec 32 := 1#32
  let v147 : BitVec 32 := Scalar.divsi v145 c1_i32_64
  let v148 : BitVec 32 := Scalar.muli v147 c1_i32_64
  let v149 : BitVec 32 := Scalar.addi c0_i32_63 v148
  let c1_i32_65 : BitVec 32 := 1#32
  ⟨c0_i32_63, v149, c1_i32_65⟩
def k0_mult232 (i : grid0.Coords) (v2 : BitVec 32) (k0_t14 : Fin (k0_t14_loop i v2).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_63 : BitVec 32 := 0#32
  let c1_i32_65 : BitVec 32 := 1#32
  let arg26 : BitVec 32 := Scf.iv c0_i32_63 c1_i32_65 k0_t14
  let v321 : BitVec 32 := Scalar.addi v19 arg26
  let c256_i32_157 : BitVec 32 := 256#32
  let v322 : BitVec 32 := Scalar.muli v321 c256_i32_157
  v322
def k0_off295 (k0_t9 : Fin k0_t9_loop.trips) : Fin 4 → Nat :=
  let c0_158 : Index := 0#32
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v324 : Index := Scalar.indexCast v125
  let c1 : Index := 1#32
  let c0_159 : Index := 0#32
  ![0, v324.toNat, 1, 0]
def k0_off296 (i : grid0.Coords) (v2 : BitVec 32) (k0_t9 : Fin k0_t9_loop.trips) (k0_t14 : Fin (k0_t14_loop i v2).trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v329 : Index := Scalar.indexCast v125
  let c1_161 : Index := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_63 : BitVec 32 := 0#32
  let c1_i32_65 : BitVec 32 := 1#32
  let arg26 : BitVec 32 := Scf.iv c0_i32_63 c1_i32_65 k0_t14
  let v321 : BitVec 32 := Scalar.addi v19 arg26
  let c256_i32_157 : BitVec 32 := 256#32
  let v322 : BitVec 32 := Scalar.muli v321 c256_i32_157
  let v323 : BitVec 32 := v322
  let v330 : Index := Scalar.indexCast v323
  let c0_162 : Index := 0#32
  ![v329.toNat, 1, v330.toNat, 0]
def k0_off297 (k0_t9 : Fin k0_t9_loop.trips) : Fin 5 → Nat :=
  let c0_163 : Index := 0#32
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v333 : Index := Scalar.indexCast v125
  let c1_164 : Index := 1#32
  let c0_165 : Index := 0#32
  let c0_166 : Index := 0#32
  ![0, v333.toNat, 1, 0, 0]
def k0_off298 (i : grid0.Coords) (v2 : BitVec 32) (k0_t9 : Fin k0_t9_loop.trips) (k0_t14 : Fin (k0_t14_loop i v2).trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v337 : Index := Scalar.indexCast v125
  let c1_168 : Index := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_63 : BitVec 32 := 0#32
  let c1_i32_65 : BitVec 32 := 1#32
  let arg26 : BitVec 32 := Scf.iv c0_i32_63 c1_i32_65 k0_t14
  let v321 : BitVec 32 := Scalar.addi v19 arg26
  let c256_i32_157 : BitVec 32 := 256#32
  let v322 : BitVec 32 := Scalar.muli v321 c256_i32_157
  let v323 : BitVec 32 := v322
  let v338 : Index := Scalar.indexCast v323
  let c0_169 : Index := 0#32
  ![v337.toNat, 1, v338.toNat, 0]
def k0_off299 (i : grid0.Coords) (v2 : BitVec 32) (k0_t14 : Fin (k0_t14_loop i v2).trips) : Fin 2 → Nat :=
  let arg0 : BitVec 32 := BitVec.ofNat 32 (i 0).val
  let v355 : Index := Scalar.indexCast arg0
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_63 : BitVec 32 := 0#32
  let c1_i32_65 : BitVec 32 := 1#32
  let arg26 : BitVec 32 := Scf.iv c0_i32_63 c1_i32_65 k0_t14
  let v321 : BitVec 32 := Scalar.addi v19 arg26
  let v356 : Index := Scalar.indexCast v321
  ![v355.toNat, v356.toNat]
@[reducible] def k0_t15_loop (i : grid0.Coords) (v2 : BitVec 32) : Scf.Loop 32 :=
  let c0_i32_63 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v145 : BitVec 32 := Scalar.subi v21 c0_i32_63
  let c1_i32_64 : BitVec 32 := 1#32
  let v147 : BitVec 32 := Scalar.divsi v145 c1_i32_64
  let v148 : BitVec 32 := Scalar.muli v147 c1_i32_64
  let v149 : BitVec 32 := Scalar.addi c0_i32_63 v148
  let v146 : BitVec 32 := Scalar.addi c0_i32_63 v145
  let c1_i32_66 : BitVec 32 := 1#32
  ⟨v149, v146, c1_i32_66⟩
def k0_mult233 (i : grid0.Coords) (v2 : BitVec 32) (k0_t15 : Fin (k0_t15_loop i v2).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_63 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v145 : BitVec 32 := Scalar.subi v21 c0_i32_63
  let c1_i32_64 : BitVec 32 := 1#32
  let v147 : BitVec 32 := Scalar.divsi v145 c1_i32_64
  let v148 : BitVec 32 := Scalar.muli v147 c1_i32_64
  let v149 : BitVec 32 := Scalar.addi c0_i32_63 v148
  let c1_i32_66 : BitVec 32 := 1#32
  let arg26 : BitVec 32 := Scf.iv v149 c1_i32_66 k0_t15
  let v321 : BitVec 32 := Scalar.addi v19 arg26
  let c256_i32_157 : BitVec 32 := 256#32
  let v322 : BitVec 32 := Scalar.muli v321 c256_i32_157
  v322
def k0_off300 (k0_t9 : Fin k0_t9_loop.trips) : Fin 4 → Nat :=
  let c0_158 : Index := 0#32
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v324 : Index := Scalar.indexCast v125
  let c1 : Index := 1#32
  let c0_159 : Index := 0#32
  ![0, v324.toNat, 1, 0]
def k0_off301 (i : grid0.Coords) (v2 : BitVec 32) (k0_t9 : Fin k0_t9_loop.trips) (k0_t15 : Fin (k0_t15_loop i v2).trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v329 : Index := Scalar.indexCast v125
  let c1_161 : Index := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_63 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v145 : BitVec 32 := Scalar.subi v21 c0_i32_63
  let c1_i32_64 : BitVec 32 := 1#32
  let v147 : BitVec 32 := Scalar.divsi v145 c1_i32_64
  let v148 : BitVec 32 := Scalar.muli v147 c1_i32_64
  let v149 : BitVec 32 := Scalar.addi c0_i32_63 v148
  let c1_i32_66 : BitVec 32 := 1#32
  let arg26 : BitVec 32 := Scf.iv v149 c1_i32_66 k0_t15
  let v321 : BitVec 32 := Scalar.addi v19 arg26
  let c256_i32_157 : BitVec 32 := 256#32
  let v322 : BitVec 32 := Scalar.muli v321 c256_i32_157
  let v323 : BitVec 32 := v322
  let v330 : Index := Scalar.indexCast v323
  let c0_162 : Index := 0#32
  ![v329.toNat, 1, v330.toNat, 0]
def k0_off302 (k0_t9 : Fin k0_t9_loop.trips) : Fin 5 → Nat :=
  let c0_163 : Index := 0#32
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v333 : Index := Scalar.indexCast v125
  let c1_164 : Index := 1#32
  let c0_165 : Index := 0#32
  let c0_166 : Index := 0#32
  ![0, v333.toNat, 1, 0, 0]
def k0_off303 (i : grid0.Coords) (v2 : BitVec 32) (k0_t9 : Fin k0_t9_loop.trips) (k0_t15 : Fin (k0_t15_loop i v2).trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v337 : Index := Scalar.indexCast v125
  let c1_168 : Index := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_63 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v145 : BitVec 32 := Scalar.subi v21 c0_i32_63
  let c1_i32_64 : BitVec 32 := 1#32
  let v147 : BitVec 32 := Scalar.divsi v145 c1_i32_64
  let v148 : BitVec 32 := Scalar.muli v147 c1_i32_64
  let v149 : BitVec 32 := Scalar.addi c0_i32_63 v148
  let c1_i32_66 : BitVec 32 := 1#32
  let arg26 : BitVec 32 := Scf.iv v149 c1_i32_66 k0_t15
  let v321 : BitVec 32 := Scalar.addi v19 arg26
  let c256_i32_157 : BitVec 32 := 256#32
  let v322 : BitVec 32 := Scalar.muli v321 c256_i32_157
  let v323 : BitVec 32 := v322
  let v338 : Index := Scalar.indexCast v323
  let c0_169 : Index := 0#32
  ![v337.toNat, 1, v338.toNat, 0]
def k0_off304 (i : grid0.Coords) (v2 : BitVec 32) (k0_t15 : Fin (k0_t15_loop i v2).trips) : Fin 2 → Nat :=
  let arg0 : BitVec 32 := BitVec.ofNat 32 (i 0).val
  let v355 : Index := Scalar.indexCast arg0
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_63 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v145 : BitVec 32 := Scalar.subi v21 c0_i32_63
  let c1_i32_64 : BitVec 32 := 1#32
  let v147 : BitVec 32 := Scalar.divsi v145 c1_i32_64
  let v148 : BitVec 32 := Scalar.muli v147 c1_i32_64
  let v149 : BitVec 32 := Scalar.addi c0_i32_63 v148
  let c1_i32_66 : BitVec 32 := 1#32
  let arg26 : BitVec 32 := Scf.iv v149 c1_i32_66 k0_t15
  let v321 : BitVec 32 := Scalar.addi v19 arg26
  let v356 : Index := Scalar.indexCast v321
  ![v355.toNat, v356.toNat]
@[reducible] def k0_t16_loop (i : grid0.Coords) (v2 : BitVec 32) : Scf.Loop 32 :=
  let c0_i32_68 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v153 : BitVec 32 := Scalar.subi v21 c0_i32_68
  let c1_i32_69 : BitVec 32 := 1#32
  let v155 : BitVec 32 := Scalar.divsi v153 c1_i32_69
  let v156 : BitVec 32 := Scalar.muli v155 c1_i32_69
  let v157 : BitVec 32 := Scalar.addi c0_i32_68 v156
  let c1_i32_70 : BitVec 32 := 1#32
  ⟨c0_i32_68, v157, c1_i32_70⟩
def k0_mult234 (i : grid0.Coords) (v2 : BitVec 32) (k0_t16 : Fin (k0_t16_loop i v2).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_68 : BitVec 32 := 0#32
  let c1_i32_70 : BitVec 32 := 1#32
  let arg26 : BitVec 32 := Scf.iv c0_i32_68 c1_i32_70 k0_t16
  let v321 : BitVec 32 := Scalar.addi v19 arg26
  let c256_i32_157 : BitVec 32 := 256#32
  let v322 : BitVec 32 := Scalar.muli v321 c256_i32_157
  v322
def k0_off305 (k0_t9 : Fin k0_t9_loop.trips) : Fin 4 → Nat :=
  let c0_158 : Index := 0#32
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v324 : Index := Scalar.indexCast v125
  let c1 : Index := 1#32
  let c0_159 : Index := 0#32
  ![0, v324.toNat, 1, 0]
def k0_off306 (i : grid0.Coords) (v2 : BitVec 32) (k0_t9 : Fin k0_t9_loop.trips) (k0_t16 : Fin (k0_t16_loop i v2).trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v329 : Index := Scalar.indexCast v125
  let c1_161 : Index := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_68 : BitVec 32 := 0#32
  let c1_i32_70 : BitVec 32 := 1#32
  let arg26 : BitVec 32 := Scf.iv c0_i32_68 c1_i32_70 k0_t16
  let v321 : BitVec 32 := Scalar.addi v19 arg26
  let c256_i32_157 : BitVec 32 := 256#32
  let v322 : BitVec 32 := Scalar.muli v321 c256_i32_157
  let v323 : BitVec 32 := v322
  let v330 : Index := Scalar.indexCast v323
  let c0_162 : Index := 0#32
  ![v329.toNat, 1, v330.toNat, 0]
def k0_off307 (k0_t9 : Fin k0_t9_loop.trips) : Fin 5 → Nat :=
  let c0_163 : Index := 0#32
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v333 : Index := Scalar.indexCast v125
  let c1_164 : Index := 1#32
  let c0_165 : Index := 0#32
  let c0_166 : Index := 0#32
  ![0, v333.toNat, 1, 0, 0]
def k0_off308 (i : grid0.Coords) (v2 : BitVec 32) (k0_t9 : Fin k0_t9_loop.trips) (k0_t16 : Fin (k0_t16_loop i v2).trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v337 : Index := Scalar.indexCast v125
  let c1_168 : Index := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_68 : BitVec 32 := 0#32
  let c1_i32_70 : BitVec 32 := 1#32
  let arg26 : BitVec 32 := Scf.iv c0_i32_68 c1_i32_70 k0_t16
  let v321 : BitVec 32 := Scalar.addi v19 arg26
  let c256_i32_157 : BitVec 32 := 256#32
  let v322 : BitVec 32 := Scalar.muli v321 c256_i32_157
  let v323 : BitVec 32 := v322
  let v338 : Index := Scalar.indexCast v323
  let c0_169 : Index := 0#32
  ![v337.toNat, 1, v338.toNat, 0]
def k0_off309 (i : grid0.Coords) (v2 : BitVec 32) (k0_t16 : Fin (k0_t16_loop i v2).trips) : Fin 2 → Nat :=
  let arg0 : BitVec 32 := BitVec.ofNat 32 (i 0).val
  let v355 : Index := Scalar.indexCast arg0
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_68 : BitVec 32 := 0#32
  let c1_i32_70 : BitVec 32 := 1#32
  let arg26 : BitVec 32 := Scf.iv c0_i32_68 c1_i32_70 k0_t16
  let v321 : BitVec 32 := Scalar.addi v19 arg26
  let v356 : Index := Scalar.indexCast v321
  ![v355.toNat, v356.toNat]
def k0_mult235 (i : grid0.Coords) (v2 : BitVec 32) (k0_t16 : Fin (k0_t16_loop i v2).trips) : BitVec 32 :=
  let c0_i32_68 : BitVec 32 := 0#32
  let c1_i32_70 : BitVec 32 := 1#32
  let arg26 : BitVec 32 := Scf.iv c0_i32_68 c1_i32_70 k0_t16
  let c256_i32_176 : BitVec 32 := 256#32
  let v368 : BitVec 32 := Scalar.muli arg26 c256_i32_176
  v368
def k0_off310 (i : grid0.Coords) (v2 : BitVec 32) (k0_t16 : Fin (k0_t16_loop i v2).trips) : Fin 3 → Nat :=
  let c1_177 : Index := 1#32
  let c0_i32_68 : BitVec 32 := 0#32
  let c1_i32_70 : BitVec 32 := 1#32
  let arg26 : BitVec 32 := Scf.iv c0_i32_68 c1_i32_70 k0_t16
  let c256_i32_176 : BitVec 32 := 256#32
  let v368 : BitVec 32 := Scalar.muli arg26 c256_i32_176
  let v369 : BitVec 32 := v368
  let v370 : Index := Scalar.indexCast v369
  let c0_178 : Index := 0#32
  ![1, v370.toNat, 0]
@[reducible] def k0_t17_loop (i : grid0.Coords) (v2 : BitVec 32) : Scf.Loop 32 :=
  let c0_i32_68 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v153 : BitVec 32 := Scalar.subi v21 c0_i32_68
  let c1_i32_69 : BitVec 32 := 1#32
  let v155 : BitVec 32 := Scalar.divsi v153 c1_i32_69
  let v156 : BitVec 32 := Scalar.muli v155 c1_i32_69
  let v157 : BitVec 32 := Scalar.addi c0_i32_68 v156
  let v154 : BitVec 32 := Scalar.addi c0_i32_68 v153
  let c1_i32_71 : BitVec 32 := 1#32
  ⟨v157, v154, c1_i32_71⟩
def k0_mult236 (i : grid0.Coords) (v2 : BitVec 32) (k0_t17 : Fin (k0_t17_loop i v2).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_68 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v153 : BitVec 32 := Scalar.subi v21 c0_i32_68
  let c1_i32_69 : BitVec 32 := 1#32
  let v155 : BitVec 32 := Scalar.divsi v153 c1_i32_69
  let v156 : BitVec 32 := Scalar.muli v155 c1_i32_69
  let v157 : BitVec 32 := Scalar.addi c0_i32_68 v156
  let c1_i32_71 : BitVec 32 := 1#32
  let arg26 : BitVec 32 := Scf.iv v157 c1_i32_71 k0_t17
  let v321 : BitVec 32 := Scalar.addi v19 arg26
  let c256_i32_157 : BitVec 32 := 256#32
  let v322 : BitVec 32 := Scalar.muli v321 c256_i32_157
  v322
def k0_off311 (k0_t9 : Fin k0_t9_loop.trips) : Fin 4 → Nat :=
  let c0_158 : Index := 0#32
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v324 : Index := Scalar.indexCast v125
  let c1 : Index := 1#32
  let c0_159 : Index := 0#32
  ![0, v324.toNat, 1, 0]
def k0_off312 (i : grid0.Coords) (v2 : BitVec 32) (k0_t9 : Fin k0_t9_loop.trips) (k0_t17 : Fin (k0_t17_loop i v2).trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v329 : Index := Scalar.indexCast v125
  let c1_161 : Index := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_68 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v153 : BitVec 32 := Scalar.subi v21 c0_i32_68
  let c1_i32_69 : BitVec 32 := 1#32
  let v155 : BitVec 32 := Scalar.divsi v153 c1_i32_69
  let v156 : BitVec 32 := Scalar.muli v155 c1_i32_69
  let v157 : BitVec 32 := Scalar.addi c0_i32_68 v156
  let c1_i32_71 : BitVec 32 := 1#32
  let arg26 : BitVec 32 := Scf.iv v157 c1_i32_71 k0_t17
  let v321 : BitVec 32 := Scalar.addi v19 arg26
  let c256_i32_157 : BitVec 32 := 256#32
  let v322 : BitVec 32 := Scalar.muli v321 c256_i32_157
  let v323 : BitVec 32 := v322
  let v330 : Index := Scalar.indexCast v323
  let c0_162 : Index := 0#32
  ![v329.toNat, 1, v330.toNat, 0]
def k0_off313 (k0_t9 : Fin k0_t9_loop.trips) : Fin 5 → Nat :=
  let c0_163 : Index := 0#32
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v333 : Index := Scalar.indexCast v125
  let c1_164 : Index := 1#32
  let c0_165 : Index := 0#32
  let c0_166 : Index := 0#32
  ![0, v333.toNat, 1, 0, 0]
def k0_off314 (i : grid0.Coords) (v2 : BitVec 32) (k0_t9 : Fin k0_t9_loop.trips) (k0_t17 : Fin (k0_t17_loop i v2).trips) : Fin 4 → Nat :=
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v337 : Index := Scalar.indexCast v125
  let c1_168 : Index := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_68 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v153 : BitVec 32 := Scalar.subi v21 c0_i32_68
  let c1_i32_69 : BitVec 32 := 1#32
  let v155 : BitVec 32 := Scalar.divsi v153 c1_i32_69
  let v156 : BitVec 32 := Scalar.muli v155 c1_i32_69
  let v157 : BitVec 32 := Scalar.addi c0_i32_68 v156
  let c1_i32_71 : BitVec 32 := 1#32
  let arg26 : BitVec 32 := Scf.iv v157 c1_i32_71 k0_t17
  let v321 : BitVec 32 := Scalar.addi v19 arg26
  let c256_i32_157 : BitVec 32 := 256#32
  let v322 : BitVec 32 := Scalar.muli v321 c256_i32_157
  let v323 : BitVec 32 := v322
  let v338 : Index := Scalar.indexCast v323
  let c0_169 : Index := 0#32
  ![v337.toNat, 1, v338.toNat, 0]
def k0_off315 (i : grid0.Coords) (v2 : BitVec 32) (k0_t17 : Fin (k0_t17_loop i v2).trips) : Fin 2 → Nat :=
  let arg0 : BitVec 32 := BitVec.ofNat 32 (i 0).val
  let v355 : Index := Scalar.indexCast arg0
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_68 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v153 : BitVec 32 := Scalar.subi v21 c0_i32_68
  let c1_i32_69 : BitVec 32 := 1#32
  let v155 : BitVec 32 := Scalar.divsi v153 c1_i32_69
  let v156 : BitVec 32 := Scalar.muli v155 c1_i32_69
  let v157 : BitVec 32 := Scalar.addi c0_i32_68 v156
  let c1_i32_71 : BitVec 32 := 1#32
  let arg26 : BitVec 32 := Scf.iv v157 c1_i32_71 k0_t17
  let v321 : BitVec 32 := Scalar.addi v19 arg26
  let v356 : Index := Scalar.indexCast v321
  ![v355.toNat, v356.toNat]
def k0_mult237 (i : grid0.Coords) (v2 : BitVec 32) (k0_t17 : Fin (k0_t17_loop i v2).trips) : BitVec 32 :=
  let c0_i32_68 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v153 : BitVec 32 := Scalar.subi v21 c0_i32_68
  let c1_i32_69 : BitVec 32 := 1#32
  let v155 : BitVec 32 := Scalar.divsi v153 c1_i32_69
  let v156 : BitVec 32 := Scalar.muli v155 c1_i32_69
  let v157 : BitVec 32 := Scalar.addi c0_i32_68 v156
  let c1_i32_71 : BitVec 32 := 1#32
  let arg26 : BitVec 32 := Scf.iv v157 c1_i32_71 k0_t17
  let c256_i32_176 : BitVec 32 := 256#32
  let v368 : BitVec 32 := Scalar.muli arg26 c256_i32_176
  v368
def k0_off316 (i : grid0.Coords) (v2 : BitVec 32) (k0_t17 : Fin (k0_t17_loop i v2).trips) : Fin 3 → Nat :=
  let c1_177 : Index := 1#32
  let c0_i32_68 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v153 : BitVec 32 := Scalar.subi v21 c0_i32_68
  let c1_i32_69 : BitVec 32 := 1#32
  let v155 : BitVec 32 := Scalar.divsi v153 c1_i32_69
  let v156 : BitVec 32 := Scalar.muli v155 c1_i32_69
  let v157 : BitVec 32 := Scalar.addi c0_i32_68 v156
  let c1_i32_71 : BitVec 32 := 1#32
  let arg26 : BitVec 32 := Scf.iv v157 c1_i32_71 k0_t17
  let c256_i32_176 : BitVec 32 := 256#32
  let v368 : BitVec 32 := Scalar.muli arg26 c256_i32_176
  let v369 : BitVec 32 := v368
  let v370 : Index := Scalar.indexCast v369
  let c0_178 : Index := 0#32
  ![1, v370.toNat, 0]
@[reducible] def k0_t18_loop (i : grid0.Coords) (v2 : BitVec 32) : Scf.Loop 32 :=
  let c0_i32_77 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v168 : BitVec 32 := Scalar.subi v21 c0_i32_77
  let c1_i32_78 : BitVec 32 := 1#32
  let v170 : BitVec 32 := Scalar.divsi v168 c1_i32_78
  let v171 : BitVec 32 := Scalar.muli v170 c1_i32_78
  let v172 : BitVec 32 := Scalar.addi c0_i32_77 v171
  let c1_i32_79 : BitVec 32 := 1#32
  ⟨c0_i32_77, v172, c1_i32_79⟩
def k0_mult238 (i : grid0.Coords) (v2 : BitVec 32) (k0_t18 : Fin (k0_t18_loop i v2).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_77 : BitVec 32 := 0#32
  let c1_i32_79 : BitVec 32 := 1#32
  let arg26 : BitVec 32 := Scf.iv c0_i32_77 c1_i32_79 k0_t18
  let v321 : BitVec 32 := Scalar.addi v19 arg26
  let c256_i32_157 : BitVec 32 := 256#32
  let v322 : BitVec 32 := Scalar.muli v321 c256_i32_157
  v322
def k0_mult239 (i : grid0.Coords) (v2 : BitVec 32) (k0_t18 : Fin (k0_t18_loop i v2).trips) : BitVec 32 :=
  let c0_i32_77 : BitVec 32 := 0#32
  let c1_i32_79 : BitVec 32 := 1#32
  let arg26 : BitVec 32 := Scf.iv c0_i32_77 c1_i32_79 k0_t18
  let c256_i32_158 : BitVec 32 := 256#32
  let v324 : BitVec 32 := Scalar.muli arg26 c256_i32_158
  v324
def k0_off317 (i : grid0.Coords) (v2 : BitVec 32) (k0_t18 : Fin (k0_t18_loop i v2).trips) : Fin 3 → Nat :=
  let c0_159 : Index := 0#32
  let c0_i32_77 : BitVec 32 := 0#32
  let c1_i32_79 : BitVec 32 := 1#32
  let arg26 : BitVec 32 := Scf.iv c0_i32_77 c1_i32_79 k0_t18
  let c256_i32_158 : BitVec 32 := 256#32
  let v324 : BitVec 32 := Scalar.muli arg26 c256_i32_158
  let v325 : BitVec 32 := v324
  let v326 : Index := Scalar.indexCast v325
  let c0_160 : Index := 0#32
  ![0, v326.toNat, 0]
def k0_off318 (i : grid0.Coords) (v2 : BitVec 32) (k0_t18 : Fin (k0_t18_loop i v2).trips) : Fin 3 → Nat :=
  let c1 : Index := 1#32
  let c0_i32_77 : BitVec 32 := 0#32
  let c1_i32_79 : BitVec 32 := 1#32
  let arg26 : BitVec 32 := Scf.iv c0_i32_77 c1_i32_79 k0_t18
  let c256_i32_158 : BitVec 32 := 256#32
  let v324 : BitVec 32 := Scalar.muli arg26 c256_i32_158
  let v325 : BitVec 32 := v324
  let v331 : Index := Scalar.indexCast v325
  let c0_161 : Index := 0#32
  ![1, v331.toNat, 0]
def k0_off319 (i : grid0.Coords) (v2 : BitVec 32) (k0_t9 : Fin k0_t9_loop.trips) (k0_t18 : Fin (k0_t18_loop i v2).trips) : Fin 3 → Nat :=
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v339 : Index := Scalar.indexCast v125
  let c0_164 : Index := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_77 : BitVec 32 := 0#32
  let c1_i32_79 : BitVec 32 := 1#32
  let arg26 : BitVec 32 := Scf.iv c0_i32_77 c1_i32_79 k0_t18
  let v321 : BitVec 32 := Scalar.addi v19 arg26
  let c256_i32_157 : BitVec 32 := 256#32
  let v322 : BitVec 32 := Scalar.muli v321 c256_i32_157
  let v323 : BitVec 32 := v322
  let v340 : Index := Scalar.indexCast v323
  ![v339.toNat, 0, v340.toNat]
@[reducible] def k0_t19_loop (i : grid0.Coords) (v2 : BitVec 32) : Scf.Loop 32 :=
  let c0_i32_77 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v168 : BitVec 32 := Scalar.subi v21 c0_i32_77
  let c1_i32_78 : BitVec 32 := 1#32
  let v170 : BitVec 32 := Scalar.divsi v168 c1_i32_78
  let v171 : BitVec 32 := Scalar.muli v170 c1_i32_78
  let v172 : BitVec 32 := Scalar.addi c0_i32_77 v171
  let v169 : BitVec 32 := Scalar.addi c0_i32_77 v168
  let c1_i32_80 : BitVec 32 := 1#32
  ⟨v172, v169, c1_i32_80⟩
def k0_mult240 (i : grid0.Coords) (v2 : BitVec 32) (k0_t19 : Fin (k0_t19_loop i v2).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_77 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v168 : BitVec 32 := Scalar.subi v21 c0_i32_77
  let c1_i32_78 : BitVec 32 := 1#32
  let v170 : BitVec 32 := Scalar.divsi v168 c1_i32_78
  let v171 : BitVec 32 := Scalar.muli v170 c1_i32_78
  let v172 : BitVec 32 := Scalar.addi c0_i32_77 v171
  let c1_i32_80 : BitVec 32 := 1#32
  let arg26 : BitVec 32 := Scf.iv v172 c1_i32_80 k0_t19
  let v321 : BitVec 32 := Scalar.addi v19 arg26
  let c256_i32_157 : BitVec 32 := 256#32
  let v322 : BitVec 32 := Scalar.muli v321 c256_i32_157
  v322
def k0_mult241 (i : grid0.Coords) (v2 : BitVec 32) (k0_t19 : Fin (k0_t19_loop i v2).trips) : BitVec 32 :=
  let c0_i32_77 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v168 : BitVec 32 := Scalar.subi v21 c0_i32_77
  let c1_i32_78 : BitVec 32 := 1#32
  let v170 : BitVec 32 := Scalar.divsi v168 c1_i32_78
  let v171 : BitVec 32 := Scalar.muli v170 c1_i32_78
  let v172 : BitVec 32 := Scalar.addi c0_i32_77 v171
  let c1_i32_80 : BitVec 32 := 1#32
  let arg26 : BitVec 32 := Scf.iv v172 c1_i32_80 k0_t19
  let c256_i32_158 : BitVec 32 := 256#32
  let v324 : BitVec 32 := Scalar.muli arg26 c256_i32_158
  v324
def k0_off320 (i : grid0.Coords) (v2 : BitVec 32) (k0_t19 : Fin (k0_t19_loop i v2).trips) : Fin 3 → Nat :=
  let c0_159 : Index := 0#32
  let c0_i32_77 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v168 : BitVec 32 := Scalar.subi v21 c0_i32_77
  let c1_i32_78 : BitVec 32 := 1#32
  let v170 : BitVec 32 := Scalar.divsi v168 c1_i32_78
  let v171 : BitVec 32 := Scalar.muli v170 c1_i32_78
  let v172 : BitVec 32 := Scalar.addi c0_i32_77 v171
  let c1_i32_80 : BitVec 32 := 1#32
  let arg26 : BitVec 32 := Scf.iv v172 c1_i32_80 k0_t19
  let c256_i32_158 : BitVec 32 := 256#32
  let v324 : BitVec 32 := Scalar.muli arg26 c256_i32_158
  let v325 : BitVec 32 := v324
  let v326 : Index := Scalar.indexCast v325
  let c0_160 : Index := 0#32
  ![0, v326.toNat, 0]
def k0_off321 (i : grid0.Coords) (v2 : BitVec 32) (k0_t19 : Fin (k0_t19_loop i v2).trips) : Fin 3 → Nat :=
  let c1 : Index := 1#32
  let c0_i32_77 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v168 : BitVec 32 := Scalar.subi v21 c0_i32_77
  let c1_i32_78 : BitVec 32 := 1#32
  let v170 : BitVec 32 := Scalar.divsi v168 c1_i32_78
  let v171 : BitVec 32 := Scalar.muli v170 c1_i32_78
  let v172 : BitVec 32 := Scalar.addi c0_i32_77 v171
  let c1_i32_80 : BitVec 32 := 1#32
  let arg26 : BitVec 32 := Scf.iv v172 c1_i32_80 k0_t19
  let c256_i32_158 : BitVec 32 := 256#32
  let v324 : BitVec 32 := Scalar.muli arg26 c256_i32_158
  let v325 : BitVec 32 := v324
  let v331 : Index := Scalar.indexCast v325
  let c0_161 : Index := 0#32
  ![1, v331.toNat, 0]
def k0_off322 (i : grid0.Coords) (v2 : BitVec 32) (k0_t9 : Fin k0_t9_loop.trips) (k0_t19 : Fin (k0_t19_loop i v2).trips) : Fin 3 → Nat :=
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v339 : Index := Scalar.indexCast v125
  let c0_164 : Index := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_77 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v168 : BitVec 32 := Scalar.subi v21 c0_i32_77
  let c1_i32_78 : BitVec 32 := 1#32
  let v170 : BitVec 32 := Scalar.divsi v168 c1_i32_78
  let v171 : BitVec 32 := Scalar.muli v170 c1_i32_78
  let v172 : BitVec 32 := Scalar.addi c0_i32_77 v171
  let c1_i32_80 : BitVec 32 := 1#32
  let arg26 : BitVec 32 := Scf.iv v172 c1_i32_80 k0_t19
  let v321 : BitVec 32 := Scalar.addi v19 arg26
  let c256_i32_157 : BitVec 32 := 256#32
  let v322 : BitVec 32 := Scalar.muli v321 c256_i32_157
  let v323 : BitVec 32 := v322
  let v340 : Index := Scalar.indexCast v323
  ![v339.toNat, 0, v340.toNat]
def k0_off323 (k0_t9 : Fin k0_t9_loop.trips) : Fin 3 → Nat :=
  let c2_i32_50 : BitVec 32 := 2#32
  let c0_i32_46 : BitVec 32 := 0#32
  let c1_i32_48 : BitVec 32 := 1#32
  let arg25 : BitVec 32 := Scf.iv c0_i32_46 c1_i32_48 k0_t9
  let v125 : BitVec 32 := Scalar.muli c2_i32_50 arg25
  let v175 : Index := Scalar.indexCast v125
  let c0_83 : Index := 0#32
  let c0_84 : Index := 0#32
  ![v175.toNat, 0, 0]
@[reducible] def k0_t20_loop (i : grid0.Coords) (v2 : BitVec 32) : Scf.Loop 32 :=
  let c0_i32_104 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v221 : BitVec 32 := Scalar.subi v21 c0_i32_104
  let c1_i32_105 : BitVec 32 := 1#32
  let v223 : BitVec 32 := Scalar.divsi v221 c1_i32_105
  let v224 : BitVec 32 := Scalar.muli v223 c1_i32_105
  let v225 : BitVec 32 := Scalar.addi c0_i32_104 v224
  let c1_i32_106 : BitVec 32 := 1#32
  ⟨c0_i32_104, v225, c1_i32_106⟩
def k0_mult242 (i : grid0.Coords) (v2 : BitVec 32) (k0_t20 : Fin (k0_t20_loop i v2).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_104 : BitVec 32 := 0#32
  let c1_i32_106 : BitVec 32 := 1#32
  let arg26 : BitVec 32 := Scf.iv c0_i32_104 c1_i32_106 k0_t20
  let v321 : BitVec 32 := Scalar.addi v19 arg26
  let c256_i32_157 : BitVec 32 := 256#32
  let v322 : BitVec 32 := Scalar.muli v321 c256_i32_157
  v322
def k0_off324 (k0_t9 : Fin k0_t9_loop.trips) : Fin 4 → Nat :=
  let c0_158 : Index := 0#32
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v324 : Index := Scalar.indexCast v219
  let c0_159 : Index := 0#32
  let c0_160 : Index := 0#32
  ![0, v324.toNat, 0, 0]
def k0_off325 (i : grid0.Coords) (v2 : BitVec 32) (k0_t9 : Fin k0_t9_loop.trips) (k0_t20 : Fin (k0_t20_loop i v2).trips) : Fin 4 → Nat :=
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v329 : Index := Scalar.indexCast v219
  let c0_162 : Index := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_104 : BitVec 32 := 0#32
  let c1_i32_106 : BitVec 32 := 1#32
  let arg26 : BitVec 32 := Scf.iv c0_i32_104 c1_i32_106 k0_t20
  let v321 : BitVec 32 := Scalar.addi v19 arg26
  let c256_i32_157 : BitVec 32 := 256#32
  let v322 : BitVec 32 := Scalar.muli v321 c256_i32_157
  let v323 : BitVec 32 := v322
  let v330 : Index := Scalar.indexCast v323
  let c0_163 : Index := 0#32
  ![v329.toNat, 0, v330.toNat, 0]
def k0_off326 (k0_t9 : Fin k0_t9_loop.trips) : Fin 5 → Nat :=
  let c0_164 : Index := 0#32
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v333 : Index := Scalar.indexCast v219
  let c0_165 : Index := 0#32
  let c0_166 : Index := 0#32
  let c0_167 : Index := 0#32
  ![0, v333.toNat, 0, 0, 0]
def k0_off327 (i : grid0.Coords) (v2 : BitVec 32) (k0_t9 : Fin k0_t9_loop.trips) (k0_t20 : Fin (k0_t20_loop i v2).trips) : Fin 4 → Nat :=
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v337 : Index := Scalar.indexCast v219
  let c0_169 : Index := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_104 : BitVec 32 := 0#32
  let c1_i32_106 : BitVec 32 := 1#32
  let arg26 : BitVec 32 := Scf.iv c0_i32_104 c1_i32_106 k0_t20
  let v321 : BitVec 32 := Scalar.addi v19 arg26
  let c256_i32_157 : BitVec 32 := 256#32
  let v322 : BitVec 32 := Scalar.muli v321 c256_i32_157
  let v323 : BitVec 32 := v322
  let v338 : Index := Scalar.indexCast v323
  let c0_170 : Index := 0#32
  ![v337.toNat, 0, v338.toNat, 0]
def k0_off328 (i : grid0.Coords) (v2 : BitVec 32) (k0_t20 : Fin (k0_t20_loop i v2).trips) : Fin 2 → Nat :=
  let arg0 : BitVec 32 := BitVec.ofNat 32 (i 0).val
  let v355 : Index := Scalar.indexCast arg0
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_104 : BitVec 32 := 0#32
  let c1_i32_106 : BitVec 32 := 1#32
  let arg26 : BitVec 32 := Scf.iv c0_i32_104 c1_i32_106 k0_t20
  let v321 : BitVec 32 := Scalar.addi v19 arg26
  let v356 : Index := Scalar.indexCast v321
  ![v355.toNat, v356.toNat]
@[reducible] def k0_t21_loop (i : grid0.Coords) (v2 : BitVec 32) : Scf.Loop 32 :=
  let c0_i32_104 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v221 : BitVec 32 := Scalar.subi v21 c0_i32_104
  let c1_i32_105 : BitVec 32 := 1#32
  let v223 : BitVec 32 := Scalar.divsi v221 c1_i32_105
  let v224 : BitVec 32 := Scalar.muli v223 c1_i32_105
  let v225 : BitVec 32 := Scalar.addi c0_i32_104 v224
  let v222 : BitVec 32 := Scalar.addi c0_i32_104 v221
  let c1_i32_107 : BitVec 32 := 1#32
  ⟨v225, v222, c1_i32_107⟩
def k0_mult243 (i : grid0.Coords) (v2 : BitVec 32) (k0_t21 : Fin (k0_t21_loop i v2).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_104 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v221 : BitVec 32 := Scalar.subi v21 c0_i32_104
  let c1_i32_105 : BitVec 32 := 1#32
  let v223 : BitVec 32 := Scalar.divsi v221 c1_i32_105
  let v224 : BitVec 32 := Scalar.muli v223 c1_i32_105
  let v225 : BitVec 32 := Scalar.addi c0_i32_104 v224
  let c1_i32_107 : BitVec 32 := 1#32
  let arg26 : BitVec 32 := Scf.iv v225 c1_i32_107 k0_t21
  let v321 : BitVec 32 := Scalar.addi v19 arg26
  let c256_i32_157 : BitVec 32 := 256#32
  let v322 : BitVec 32 := Scalar.muli v321 c256_i32_157
  v322
def k0_off329 (k0_t9 : Fin k0_t9_loop.trips) : Fin 4 → Nat :=
  let c0_158 : Index := 0#32
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v324 : Index := Scalar.indexCast v219
  let c0_159 : Index := 0#32
  let c0_160 : Index := 0#32
  ![0, v324.toNat, 0, 0]
def k0_off330 (i : grid0.Coords) (v2 : BitVec 32) (k0_t9 : Fin k0_t9_loop.trips) (k0_t21 : Fin (k0_t21_loop i v2).trips) : Fin 4 → Nat :=
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v329 : Index := Scalar.indexCast v219
  let c0_162 : Index := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_104 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v221 : BitVec 32 := Scalar.subi v21 c0_i32_104
  let c1_i32_105 : BitVec 32 := 1#32
  let v223 : BitVec 32 := Scalar.divsi v221 c1_i32_105
  let v224 : BitVec 32 := Scalar.muli v223 c1_i32_105
  let v225 : BitVec 32 := Scalar.addi c0_i32_104 v224
  let c1_i32_107 : BitVec 32 := 1#32
  let arg26 : BitVec 32 := Scf.iv v225 c1_i32_107 k0_t21
  let v321 : BitVec 32 := Scalar.addi v19 arg26
  let c256_i32_157 : BitVec 32 := 256#32
  let v322 : BitVec 32 := Scalar.muli v321 c256_i32_157
  let v323 : BitVec 32 := v322
  let v330 : Index := Scalar.indexCast v323
  let c0_163 : Index := 0#32
  ![v329.toNat, 0, v330.toNat, 0]
def k0_off331 (k0_t9 : Fin k0_t9_loop.trips) : Fin 5 → Nat :=
  let c0_164 : Index := 0#32
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v333 : Index := Scalar.indexCast v219
  let c0_165 : Index := 0#32
  let c0_166 : Index := 0#32
  let c0_167 : Index := 0#32
  ![0, v333.toNat, 0, 0, 0]
def k0_off332 (i : grid0.Coords) (v2 : BitVec 32) (k0_t9 : Fin k0_t9_loop.trips) (k0_t21 : Fin (k0_t21_loop i v2).trips) : Fin 4 → Nat :=
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v337 : Index := Scalar.indexCast v219
  let c0_169 : Index := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_104 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v221 : BitVec 32 := Scalar.subi v21 c0_i32_104
  let c1_i32_105 : BitVec 32 := 1#32
  let v223 : BitVec 32 := Scalar.divsi v221 c1_i32_105
  let v224 : BitVec 32 := Scalar.muli v223 c1_i32_105
  let v225 : BitVec 32 := Scalar.addi c0_i32_104 v224
  let c1_i32_107 : BitVec 32 := 1#32
  let arg26 : BitVec 32 := Scf.iv v225 c1_i32_107 k0_t21
  let v321 : BitVec 32 := Scalar.addi v19 arg26
  let c256_i32_157 : BitVec 32 := 256#32
  let v322 : BitVec 32 := Scalar.muli v321 c256_i32_157
  let v323 : BitVec 32 := v322
  let v338 : Index := Scalar.indexCast v323
  let c0_170 : Index := 0#32
  ![v337.toNat, 0, v338.toNat, 0]
def k0_off333 (i : grid0.Coords) (v2 : BitVec 32) (k0_t21 : Fin (k0_t21_loop i v2).trips) : Fin 2 → Nat :=
  let arg0 : BitVec 32 := BitVec.ofNat 32 (i 0).val
  let v355 : Index := Scalar.indexCast arg0
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_104 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v221 : BitVec 32 := Scalar.subi v21 c0_i32_104
  let c1_i32_105 : BitVec 32 := 1#32
  let v223 : BitVec 32 := Scalar.divsi v221 c1_i32_105
  let v224 : BitVec 32 := Scalar.muli v223 c1_i32_105
  let v225 : BitVec 32 := Scalar.addi c0_i32_104 v224
  let c1_i32_107 : BitVec 32 := 1#32
  let arg26 : BitVec 32 := Scf.iv v225 c1_i32_107 k0_t21
  let v321 : BitVec 32 := Scalar.addi v19 arg26
  let v356 : Index := Scalar.indexCast v321
  ![v355.toNat, v356.toNat]
@[reducible] def k0_t22_loop (i : grid0.Coords) (v2 : BitVec 32) : Scf.Loop 32 :=
  let c0_i32_109 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v229 : BitVec 32 := Scalar.subi v21 c0_i32_109
  let c1_i32_110 : BitVec 32 := 1#32
  let v231 : BitVec 32 := Scalar.divsi v229 c1_i32_110
  let v232 : BitVec 32 := Scalar.muli v231 c1_i32_110
  let v233 : BitVec 32 := Scalar.addi c0_i32_109 v232
  let c1_i32_111 : BitVec 32 := 1#32
  ⟨c0_i32_109, v233, c1_i32_111⟩
def k0_mult244 (i : grid0.Coords) (v2 : BitVec 32) (k0_t22 : Fin (k0_t22_loop i v2).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_109 : BitVec 32 := 0#32
  let c1_i32_111 : BitVec 32 := 1#32
  let arg26 : BitVec 32 := Scf.iv c0_i32_109 c1_i32_111 k0_t22
  let v321 : BitVec 32 := Scalar.addi v19 arg26
  let c256_i32_157 : BitVec 32 := 256#32
  let v322 : BitVec 32 := Scalar.muli v321 c256_i32_157
  v322
def k0_off334 (k0_t9 : Fin k0_t9_loop.trips) : Fin 4 → Nat :=
  let c0_158 : Index := 0#32
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v324 : Index := Scalar.indexCast v219
  let c0_159 : Index := 0#32
  let c0_160 : Index := 0#32
  ![0, v324.toNat, 0, 0]
def k0_off335 (i : grid0.Coords) (v2 : BitVec 32) (k0_t9 : Fin k0_t9_loop.trips) (k0_t22 : Fin (k0_t22_loop i v2).trips) : Fin 4 → Nat :=
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v329 : Index := Scalar.indexCast v219
  let c0_162 : Index := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_109 : BitVec 32 := 0#32
  let c1_i32_111 : BitVec 32 := 1#32
  let arg26 : BitVec 32 := Scf.iv c0_i32_109 c1_i32_111 k0_t22
  let v321 : BitVec 32 := Scalar.addi v19 arg26
  let c256_i32_157 : BitVec 32 := 256#32
  let v322 : BitVec 32 := Scalar.muli v321 c256_i32_157
  let v323 : BitVec 32 := v322
  let v330 : Index := Scalar.indexCast v323
  let c0_163 : Index := 0#32
  ![v329.toNat, 0, v330.toNat, 0]
def k0_off336 (k0_t9 : Fin k0_t9_loop.trips) : Fin 5 → Nat :=
  let c0_164 : Index := 0#32
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v333 : Index := Scalar.indexCast v219
  let c0_165 : Index := 0#32
  let c0_166 : Index := 0#32
  let c0_167 : Index := 0#32
  ![0, v333.toNat, 0, 0, 0]
def k0_off337 (i : grid0.Coords) (v2 : BitVec 32) (k0_t9 : Fin k0_t9_loop.trips) (k0_t22 : Fin (k0_t22_loop i v2).trips) : Fin 4 → Nat :=
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v337 : Index := Scalar.indexCast v219
  let c0_169 : Index := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_109 : BitVec 32 := 0#32
  let c1_i32_111 : BitVec 32 := 1#32
  let arg26 : BitVec 32 := Scf.iv c0_i32_109 c1_i32_111 k0_t22
  let v321 : BitVec 32 := Scalar.addi v19 arg26
  let c256_i32_157 : BitVec 32 := 256#32
  let v322 : BitVec 32 := Scalar.muli v321 c256_i32_157
  let v323 : BitVec 32 := v322
  let v338 : Index := Scalar.indexCast v323
  let c0_170 : Index := 0#32
  ![v337.toNat, 0, v338.toNat, 0]
def k0_off338 (i : grid0.Coords) (v2 : BitVec 32) (k0_t22 : Fin (k0_t22_loop i v2).trips) : Fin 2 → Nat :=
  let arg0 : BitVec 32 := BitVec.ofNat 32 (i 0).val
  let v355 : Index := Scalar.indexCast arg0
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_109 : BitVec 32 := 0#32
  let c1_i32_111 : BitVec 32 := 1#32
  let arg26 : BitVec 32 := Scf.iv c0_i32_109 c1_i32_111 k0_t22
  let v321 : BitVec 32 := Scalar.addi v19 arg26
  let v356 : Index := Scalar.indexCast v321
  ![v355.toNat, v356.toNat]
def k0_mult245 (i : grid0.Coords) (v2 : BitVec 32) (k0_t22 : Fin (k0_t22_loop i v2).trips) : BitVec 32 :=
  let c0_i32_109 : BitVec 32 := 0#32
  let c1_i32_111 : BitVec 32 := 1#32
  let arg26 : BitVec 32 := Scf.iv c0_i32_109 c1_i32_111 k0_t22
  let c256_i32_177 : BitVec 32 := 256#32
  let v368 : BitVec 32 := Scalar.muli arg26 c256_i32_177
  v368
def k0_off339 (i : grid0.Coords) (v2 : BitVec 32) (k0_t22 : Fin (k0_t22_loop i v2).trips) : Fin 3 → Nat :=
  let c0_178 : Index := 0#32
  let c0_i32_109 : BitVec 32 := 0#32
  let c1_i32_111 : BitVec 32 := 1#32
  let arg26 : BitVec 32 := Scf.iv c0_i32_109 c1_i32_111 k0_t22
  let c256_i32_177 : BitVec 32 := 256#32
  let v368 : BitVec 32 := Scalar.muli arg26 c256_i32_177
  let v369 : BitVec 32 := v368
  let v370 : Index := Scalar.indexCast v369
  let c0_179 : Index := 0#32
  ![0, v370.toNat, 0]
@[reducible] def k0_t23_loop (i : grid0.Coords) (v2 : BitVec 32) : Scf.Loop 32 :=
  let c0_i32_109 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v229 : BitVec 32 := Scalar.subi v21 c0_i32_109
  let c1_i32_110 : BitVec 32 := 1#32
  let v231 : BitVec 32 := Scalar.divsi v229 c1_i32_110
  let v232 : BitVec 32 := Scalar.muli v231 c1_i32_110
  let v233 : BitVec 32 := Scalar.addi c0_i32_109 v232
  let v230 : BitVec 32 := Scalar.addi c0_i32_109 v229
  let c1_i32_112 : BitVec 32 := 1#32
  ⟨v233, v230, c1_i32_112⟩
def k0_mult246 (i : grid0.Coords) (v2 : BitVec 32) (k0_t23 : Fin (k0_t23_loop i v2).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_109 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v229 : BitVec 32 := Scalar.subi v21 c0_i32_109
  let c1_i32_110 : BitVec 32 := 1#32
  let v231 : BitVec 32 := Scalar.divsi v229 c1_i32_110
  let v232 : BitVec 32 := Scalar.muli v231 c1_i32_110
  let v233 : BitVec 32 := Scalar.addi c0_i32_109 v232
  let c1_i32_112 : BitVec 32 := 1#32
  let arg26 : BitVec 32 := Scf.iv v233 c1_i32_112 k0_t23
  let v321 : BitVec 32 := Scalar.addi v19 arg26
  let c256_i32_157 : BitVec 32 := 256#32
  let v322 : BitVec 32 := Scalar.muli v321 c256_i32_157
  v322
def k0_off340 (k0_t9 : Fin k0_t9_loop.trips) : Fin 4 → Nat :=
  let c0_158 : Index := 0#32
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v324 : Index := Scalar.indexCast v219
  let c0_159 : Index := 0#32
  let c0_160 : Index := 0#32
  ![0, v324.toNat, 0, 0]
def k0_off341 (i : grid0.Coords) (v2 : BitVec 32) (k0_t9 : Fin k0_t9_loop.trips) (k0_t23 : Fin (k0_t23_loop i v2).trips) : Fin 4 → Nat :=
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v329 : Index := Scalar.indexCast v219
  let c0_162 : Index := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_109 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v229 : BitVec 32 := Scalar.subi v21 c0_i32_109
  let c1_i32_110 : BitVec 32 := 1#32
  let v231 : BitVec 32 := Scalar.divsi v229 c1_i32_110
  let v232 : BitVec 32 := Scalar.muli v231 c1_i32_110
  let v233 : BitVec 32 := Scalar.addi c0_i32_109 v232
  let c1_i32_112 : BitVec 32 := 1#32
  let arg26 : BitVec 32 := Scf.iv v233 c1_i32_112 k0_t23
  let v321 : BitVec 32 := Scalar.addi v19 arg26
  let c256_i32_157 : BitVec 32 := 256#32
  let v322 : BitVec 32 := Scalar.muli v321 c256_i32_157
  let v323 : BitVec 32 := v322
  let v330 : Index := Scalar.indexCast v323
  let c0_163 : Index := 0#32
  ![v329.toNat, 0, v330.toNat, 0]
def k0_off342 (k0_t9 : Fin k0_t9_loop.trips) : Fin 5 → Nat :=
  let c0_164 : Index := 0#32
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v333 : Index := Scalar.indexCast v219
  let c0_165 : Index := 0#32
  let c0_166 : Index := 0#32
  let c0_167 : Index := 0#32
  ![0, v333.toNat, 0, 0, 0]
def k0_off343 (i : grid0.Coords) (v2 : BitVec 32) (k0_t9 : Fin k0_t9_loop.trips) (k0_t23 : Fin (k0_t23_loop i v2).trips) : Fin 4 → Nat :=
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v337 : Index := Scalar.indexCast v219
  let c0_169 : Index := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_109 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v229 : BitVec 32 := Scalar.subi v21 c0_i32_109
  let c1_i32_110 : BitVec 32 := 1#32
  let v231 : BitVec 32 := Scalar.divsi v229 c1_i32_110
  let v232 : BitVec 32 := Scalar.muli v231 c1_i32_110
  let v233 : BitVec 32 := Scalar.addi c0_i32_109 v232
  let c1_i32_112 : BitVec 32 := 1#32
  let arg26 : BitVec 32 := Scf.iv v233 c1_i32_112 k0_t23
  let v321 : BitVec 32 := Scalar.addi v19 arg26
  let c256_i32_157 : BitVec 32 := 256#32
  let v322 : BitVec 32 := Scalar.muli v321 c256_i32_157
  let v323 : BitVec 32 := v322
  let v338 : Index := Scalar.indexCast v323
  let c0_170 : Index := 0#32
  ![v337.toNat, 0, v338.toNat, 0]
def k0_off344 (i : grid0.Coords) (v2 : BitVec 32) (k0_t23 : Fin (k0_t23_loop i v2).trips) : Fin 2 → Nat :=
  let arg0 : BitVec 32 := BitVec.ofNat 32 (i 0).val
  let v355 : Index := Scalar.indexCast arg0
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_109 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v229 : BitVec 32 := Scalar.subi v21 c0_i32_109
  let c1_i32_110 : BitVec 32 := 1#32
  let v231 : BitVec 32 := Scalar.divsi v229 c1_i32_110
  let v232 : BitVec 32 := Scalar.muli v231 c1_i32_110
  let v233 : BitVec 32 := Scalar.addi c0_i32_109 v232
  let c1_i32_112 : BitVec 32 := 1#32
  let arg26 : BitVec 32 := Scf.iv v233 c1_i32_112 k0_t23
  let v321 : BitVec 32 := Scalar.addi v19 arg26
  let v356 : Index := Scalar.indexCast v321
  ![v355.toNat, v356.toNat]
def k0_mult247 (i : grid0.Coords) (v2 : BitVec 32) (k0_t23 : Fin (k0_t23_loop i v2).trips) : BitVec 32 :=
  let c0_i32_109 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v229 : BitVec 32 := Scalar.subi v21 c0_i32_109
  let c1_i32_110 : BitVec 32 := 1#32
  let v231 : BitVec 32 := Scalar.divsi v229 c1_i32_110
  let v232 : BitVec 32 := Scalar.muli v231 c1_i32_110
  let v233 : BitVec 32 := Scalar.addi c0_i32_109 v232
  let c1_i32_112 : BitVec 32 := 1#32
  let arg26 : BitVec 32 := Scf.iv v233 c1_i32_112 k0_t23
  let c256_i32_177 : BitVec 32 := 256#32
  let v368 : BitVec 32 := Scalar.muli arg26 c256_i32_177
  v368
def k0_off345 (i : grid0.Coords) (v2 : BitVec 32) (k0_t23 : Fin (k0_t23_loop i v2).trips) : Fin 3 → Nat :=
  let c0_178 : Index := 0#32
  let c0_i32_109 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v229 : BitVec 32 := Scalar.subi v21 c0_i32_109
  let c1_i32_110 : BitVec 32 := 1#32
  let v231 : BitVec 32 := Scalar.divsi v229 c1_i32_110
  let v232 : BitVec 32 := Scalar.muli v231 c1_i32_110
  let v233 : BitVec 32 := Scalar.addi c0_i32_109 v232
  let c1_i32_112 : BitVec 32 := 1#32
  let arg26 : BitVec 32 := Scf.iv v233 c1_i32_112 k0_t23
  let c256_i32_177 : BitVec 32 := 256#32
  let v368 : BitVec 32 := Scalar.muli arg26 c256_i32_177
  let v369 : BitVec 32 := v368
  let v370 : Index := Scalar.indexCast v369
  let c0_179 : Index := 0#32
  ![0, v370.toNat, 0]
@[reducible] def k0_t24_loop (i : grid0.Coords) (v2 : BitVec 32) : Scf.Loop 32 :=
  let c0_i32_115 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v239 : BitVec 32 := Scalar.subi v21 c0_i32_115
  let c1_i32_116 : BitVec 32 := 1#32
  let v241 : BitVec 32 := Scalar.divsi v239 c1_i32_116
  let v242 : BitVec 32 := Scalar.muli v241 c1_i32_116
  let v243 : BitVec 32 := Scalar.addi c0_i32_115 v242
  let c1_i32_117 : BitVec 32 := 1#32
  ⟨c0_i32_115, v243, c1_i32_117⟩
def k0_mult248 (i : grid0.Coords) (v2 : BitVec 32) (k0_t24 : Fin (k0_t24_loop i v2).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_115 : BitVec 32 := 0#32
  let c1_i32_117 : BitVec 32 := 1#32
  let arg26 : BitVec 32 := Scf.iv c0_i32_115 c1_i32_117 k0_t24
  let v321 : BitVec 32 := Scalar.addi v19 arg26
  let c256_i32_157 : BitVec 32 := 256#32
  let v322 : BitVec 32 := Scalar.muli v321 c256_i32_157
  v322
def k0_off346 (k0_t9 : Fin k0_t9_loop.trips) : Fin 4 → Nat :=
  let c0_158 : Index := 0#32
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v324 : Index := Scalar.indexCast v219
  let c1 : Index := 1#32
  let c0_159 : Index := 0#32
  ![0, v324.toNat, 1, 0]
def k0_off347 (i : grid0.Coords) (v2 : BitVec 32) (k0_t9 : Fin k0_t9_loop.trips) (k0_t24 : Fin (k0_t24_loop i v2).trips) : Fin 4 → Nat :=
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v329 : Index := Scalar.indexCast v219
  let c1_161 : Index := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_115 : BitVec 32 := 0#32
  let c1_i32_117 : BitVec 32 := 1#32
  let arg26 : BitVec 32 := Scf.iv c0_i32_115 c1_i32_117 k0_t24
  let v321 : BitVec 32 := Scalar.addi v19 arg26
  let c256_i32_157 : BitVec 32 := 256#32
  let v322 : BitVec 32 := Scalar.muli v321 c256_i32_157
  let v323 : BitVec 32 := v322
  let v330 : Index := Scalar.indexCast v323
  let c0_162 : Index := 0#32
  ![v329.toNat, 1, v330.toNat, 0]
def k0_off348 (k0_t9 : Fin k0_t9_loop.trips) : Fin 5 → Nat :=
  let c0_163 : Index := 0#32
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v333 : Index := Scalar.indexCast v219
  let c1_164 : Index := 1#32
  let c0_165 : Index := 0#32
  let c0_166 : Index := 0#32
  ![0, v333.toNat, 1, 0, 0]
def k0_off349 (i : grid0.Coords) (v2 : BitVec 32) (k0_t9 : Fin k0_t9_loop.trips) (k0_t24 : Fin (k0_t24_loop i v2).trips) : Fin 4 → Nat :=
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v337 : Index := Scalar.indexCast v219
  let c1_168 : Index := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_115 : BitVec 32 := 0#32
  let c1_i32_117 : BitVec 32 := 1#32
  let arg26 : BitVec 32 := Scf.iv c0_i32_115 c1_i32_117 k0_t24
  let v321 : BitVec 32 := Scalar.addi v19 arg26
  let c256_i32_157 : BitVec 32 := 256#32
  let v322 : BitVec 32 := Scalar.muli v321 c256_i32_157
  let v323 : BitVec 32 := v322
  let v338 : Index := Scalar.indexCast v323
  let c0_169 : Index := 0#32
  ![v337.toNat, 1, v338.toNat, 0]
def k0_off350 (i : grid0.Coords) (v2 : BitVec 32) (k0_t24 : Fin (k0_t24_loop i v2).trips) : Fin 2 → Nat :=
  let arg0 : BitVec 32 := BitVec.ofNat 32 (i 0).val
  let v355 : Index := Scalar.indexCast arg0
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_115 : BitVec 32 := 0#32
  let c1_i32_117 : BitVec 32 := 1#32
  let arg26 : BitVec 32 := Scf.iv c0_i32_115 c1_i32_117 k0_t24
  let v321 : BitVec 32 := Scalar.addi v19 arg26
  let v356 : Index := Scalar.indexCast v321
  ![v355.toNat, v356.toNat]
@[reducible] def k0_t25_loop (i : grid0.Coords) (v2 : BitVec 32) : Scf.Loop 32 :=
  let c0_i32_115 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v239 : BitVec 32 := Scalar.subi v21 c0_i32_115
  let c1_i32_116 : BitVec 32 := 1#32
  let v241 : BitVec 32 := Scalar.divsi v239 c1_i32_116
  let v242 : BitVec 32 := Scalar.muli v241 c1_i32_116
  let v243 : BitVec 32 := Scalar.addi c0_i32_115 v242
  let v240 : BitVec 32 := Scalar.addi c0_i32_115 v239
  let c1_i32_118 : BitVec 32 := 1#32
  ⟨v243, v240, c1_i32_118⟩
def k0_mult249 (i : grid0.Coords) (v2 : BitVec 32) (k0_t25 : Fin (k0_t25_loop i v2).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_115 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v239 : BitVec 32 := Scalar.subi v21 c0_i32_115
  let c1_i32_116 : BitVec 32 := 1#32
  let v241 : BitVec 32 := Scalar.divsi v239 c1_i32_116
  let v242 : BitVec 32 := Scalar.muli v241 c1_i32_116
  let v243 : BitVec 32 := Scalar.addi c0_i32_115 v242
  let c1_i32_118 : BitVec 32 := 1#32
  let arg26 : BitVec 32 := Scf.iv v243 c1_i32_118 k0_t25
  let v321 : BitVec 32 := Scalar.addi v19 arg26
  let c256_i32_157 : BitVec 32 := 256#32
  let v322 : BitVec 32 := Scalar.muli v321 c256_i32_157
  v322
def k0_off351 (k0_t9 : Fin k0_t9_loop.trips) : Fin 4 → Nat :=
  let c0_158 : Index := 0#32
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v324 : Index := Scalar.indexCast v219
  let c1 : Index := 1#32
  let c0_159 : Index := 0#32
  ![0, v324.toNat, 1, 0]
def k0_off352 (i : grid0.Coords) (v2 : BitVec 32) (k0_t9 : Fin k0_t9_loop.trips) (k0_t25 : Fin (k0_t25_loop i v2).trips) : Fin 4 → Nat :=
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v329 : Index := Scalar.indexCast v219
  let c1_161 : Index := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_115 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v239 : BitVec 32 := Scalar.subi v21 c0_i32_115
  let c1_i32_116 : BitVec 32 := 1#32
  let v241 : BitVec 32 := Scalar.divsi v239 c1_i32_116
  let v242 : BitVec 32 := Scalar.muli v241 c1_i32_116
  let v243 : BitVec 32 := Scalar.addi c0_i32_115 v242
  let c1_i32_118 : BitVec 32 := 1#32
  let arg26 : BitVec 32 := Scf.iv v243 c1_i32_118 k0_t25
  let v321 : BitVec 32 := Scalar.addi v19 arg26
  let c256_i32_157 : BitVec 32 := 256#32
  let v322 : BitVec 32 := Scalar.muli v321 c256_i32_157
  let v323 : BitVec 32 := v322
  let v330 : Index := Scalar.indexCast v323
  let c0_162 : Index := 0#32
  ![v329.toNat, 1, v330.toNat, 0]
def k0_off353 (k0_t9 : Fin k0_t9_loop.trips) : Fin 5 → Nat :=
  let c0_163 : Index := 0#32
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v333 : Index := Scalar.indexCast v219
  let c1_164 : Index := 1#32
  let c0_165 : Index := 0#32
  let c0_166 : Index := 0#32
  ![0, v333.toNat, 1, 0, 0]
def k0_off354 (i : grid0.Coords) (v2 : BitVec 32) (k0_t9 : Fin k0_t9_loop.trips) (k0_t25 : Fin (k0_t25_loop i v2).trips) : Fin 4 → Nat :=
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v337 : Index := Scalar.indexCast v219
  let c1_168 : Index := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_115 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v239 : BitVec 32 := Scalar.subi v21 c0_i32_115
  let c1_i32_116 : BitVec 32 := 1#32
  let v241 : BitVec 32 := Scalar.divsi v239 c1_i32_116
  let v242 : BitVec 32 := Scalar.muli v241 c1_i32_116
  let v243 : BitVec 32 := Scalar.addi c0_i32_115 v242
  let c1_i32_118 : BitVec 32 := 1#32
  let arg26 : BitVec 32 := Scf.iv v243 c1_i32_118 k0_t25
  let v321 : BitVec 32 := Scalar.addi v19 arg26
  let c256_i32_157 : BitVec 32 := 256#32
  let v322 : BitVec 32 := Scalar.muli v321 c256_i32_157
  let v323 : BitVec 32 := v322
  let v338 : Index := Scalar.indexCast v323
  let c0_169 : Index := 0#32
  ![v337.toNat, 1, v338.toNat, 0]
def k0_off355 (i : grid0.Coords) (v2 : BitVec 32) (k0_t25 : Fin (k0_t25_loop i v2).trips) : Fin 2 → Nat :=
  let arg0 : BitVec 32 := BitVec.ofNat 32 (i 0).val
  let v355 : Index := Scalar.indexCast arg0
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_115 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v239 : BitVec 32 := Scalar.subi v21 c0_i32_115
  let c1_i32_116 : BitVec 32 := 1#32
  let v241 : BitVec 32 := Scalar.divsi v239 c1_i32_116
  let v242 : BitVec 32 := Scalar.muli v241 c1_i32_116
  let v243 : BitVec 32 := Scalar.addi c0_i32_115 v242
  let c1_i32_118 : BitVec 32 := 1#32
  let arg26 : BitVec 32 := Scf.iv v243 c1_i32_118 k0_t25
  let v321 : BitVec 32 := Scalar.addi v19 arg26
  let v356 : Index := Scalar.indexCast v321
  ![v355.toNat, v356.toNat]
@[reducible] def k0_t26_loop (i : grid0.Coords) (v2 : BitVec 32) : Scf.Loop 32 :=
  let c0_i32_120 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v247 : BitVec 32 := Scalar.subi v21 c0_i32_120
  let c1_i32_121 : BitVec 32 := 1#32
  let v249 : BitVec 32 := Scalar.divsi v247 c1_i32_121
  let v250 : BitVec 32 := Scalar.muli v249 c1_i32_121
  let v251 : BitVec 32 := Scalar.addi c0_i32_120 v250
  let c1_i32_122 : BitVec 32 := 1#32
  ⟨c0_i32_120, v251, c1_i32_122⟩
def k0_mult250 (i : grid0.Coords) (v2 : BitVec 32) (k0_t26 : Fin (k0_t26_loop i v2).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_120 : BitVec 32 := 0#32
  let c1_i32_122 : BitVec 32 := 1#32
  let arg26 : BitVec 32 := Scf.iv c0_i32_120 c1_i32_122 k0_t26
  let v321 : BitVec 32 := Scalar.addi v19 arg26
  let c256_i32_157 : BitVec 32 := 256#32
  let v322 : BitVec 32 := Scalar.muli v321 c256_i32_157
  v322
def k0_off356 (k0_t9 : Fin k0_t9_loop.trips) : Fin 4 → Nat :=
  let c0_158 : Index := 0#32
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v324 : Index := Scalar.indexCast v219
  let c1 : Index := 1#32
  let c0_159 : Index := 0#32
  ![0, v324.toNat, 1, 0]
def k0_off357 (i : grid0.Coords) (v2 : BitVec 32) (k0_t9 : Fin k0_t9_loop.trips) (k0_t26 : Fin (k0_t26_loop i v2).trips) : Fin 4 → Nat :=
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v329 : Index := Scalar.indexCast v219
  let c1_161 : Index := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_120 : BitVec 32 := 0#32
  let c1_i32_122 : BitVec 32 := 1#32
  let arg26 : BitVec 32 := Scf.iv c0_i32_120 c1_i32_122 k0_t26
  let v321 : BitVec 32 := Scalar.addi v19 arg26
  let c256_i32_157 : BitVec 32 := 256#32
  let v322 : BitVec 32 := Scalar.muli v321 c256_i32_157
  let v323 : BitVec 32 := v322
  let v330 : Index := Scalar.indexCast v323
  let c0_162 : Index := 0#32
  ![v329.toNat, 1, v330.toNat, 0]
def k0_off358 (k0_t9 : Fin k0_t9_loop.trips) : Fin 5 → Nat :=
  let c0_163 : Index := 0#32
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v333 : Index := Scalar.indexCast v219
  let c1_164 : Index := 1#32
  let c0_165 : Index := 0#32
  let c0_166 : Index := 0#32
  ![0, v333.toNat, 1, 0, 0]
def k0_off359 (i : grid0.Coords) (v2 : BitVec 32) (k0_t9 : Fin k0_t9_loop.trips) (k0_t26 : Fin (k0_t26_loop i v2).trips) : Fin 4 → Nat :=
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v337 : Index := Scalar.indexCast v219
  let c1_168 : Index := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_120 : BitVec 32 := 0#32
  let c1_i32_122 : BitVec 32 := 1#32
  let arg26 : BitVec 32 := Scf.iv c0_i32_120 c1_i32_122 k0_t26
  let v321 : BitVec 32 := Scalar.addi v19 arg26
  let c256_i32_157 : BitVec 32 := 256#32
  let v322 : BitVec 32 := Scalar.muli v321 c256_i32_157
  let v323 : BitVec 32 := v322
  let v338 : Index := Scalar.indexCast v323
  let c0_169 : Index := 0#32
  ![v337.toNat, 1, v338.toNat, 0]
def k0_off360 (i : grid0.Coords) (v2 : BitVec 32) (k0_t26 : Fin (k0_t26_loop i v2).trips) : Fin 2 → Nat :=
  let arg0 : BitVec 32 := BitVec.ofNat 32 (i 0).val
  let v355 : Index := Scalar.indexCast arg0
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_120 : BitVec 32 := 0#32
  let c1_i32_122 : BitVec 32 := 1#32
  let arg26 : BitVec 32 := Scf.iv c0_i32_120 c1_i32_122 k0_t26
  let v321 : BitVec 32 := Scalar.addi v19 arg26
  let v356 : Index := Scalar.indexCast v321
  ![v355.toNat, v356.toNat]
def k0_mult251 (i : grid0.Coords) (v2 : BitVec 32) (k0_t26 : Fin (k0_t26_loop i v2).trips) : BitVec 32 :=
  let c0_i32_120 : BitVec 32 := 0#32
  let c1_i32_122 : BitVec 32 := 1#32
  let arg26 : BitVec 32 := Scf.iv c0_i32_120 c1_i32_122 k0_t26
  let c256_i32_176 : BitVec 32 := 256#32
  let v368 : BitVec 32 := Scalar.muli arg26 c256_i32_176
  v368
def k0_off361 (i : grid0.Coords) (v2 : BitVec 32) (k0_t26 : Fin (k0_t26_loop i v2).trips) : Fin 3 → Nat :=
  let c1_177 : Index := 1#32
  let c0_i32_120 : BitVec 32 := 0#32
  let c1_i32_122 : BitVec 32 := 1#32
  let arg26 : BitVec 32 := Scf.iv c0_i32_120 c1_i32_122 k0_t26
  let c256_i32_176 : BitVec 32 := 256#32
  let v368 : BitVec 32 := Scalar.muli arg26 c256_i32_176
  let v369 : BitVec 32 := v368
  let v370 : Index := Scalar.indexCast v369
  let c0_178 : Index := 0#32
  ![1, v370.toNat, 0]
@[reducible] def k0_t27_loop (i : grid0.Coords) (v2 : BitVec 32) : Scf.Loop 32 :=
  let c0_i32_120 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v247 : BitVec 32 := Scalar.subi v21 c0_i32_120
  let c1_i32_121 : BitVec 32 := 1#32
  let v249 : BitVec 32 := Scalar.divsi v247 c1_i32_121
  let v250 : BitVec 32 := Scalar.muli v249 c1_i32_121
  let v251 : BitVec 32 := Scalar.addi c0_i32_120 v250
  let v248 : BitVec 32 := Scalar.addi c0_i32_120 v247
  let c1_i32_123 : BitVec 32 := 1#32
  ⟨v251, v248, c1_i32_123⟩
def k0_mult252 (i : grid0.Coords) (v2 : BitVec 32) (k0_t27 : Fin (k0_t27_loop i v2).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_120 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v247 : BitVec 32 := Scalar.subi v21 c0_i32_120
  let c1_i32_121 : BitVec 32 := 1#32
  let v249 : BitVec 32 := Scalar.divsi v247 c1_i32_121
  let v250 : BitVec 32 := Scalar.muli v249 c1_i32_121
  let v251 : BitVec 32 := Scalar.addi c0_i32_120 v250
  let c1_i32_123 : BitVec 32 := 1#32
  let arg26 : BitVec 32 := Scf.iv v251 c1_i32_123 k0_t27
  let v321 : BitVec 32 := Scalar.addi v19 arg26
  let c256_i32_157 : BitVec 32 := 256#32
  let v322 : BitVec 32 := Scalar.muli v321 c256_i32_157
  v322
def k0_off362 (k0_t9 : Fin k0_t9_loop.trips) : Fin 4 → Nat :=
  let c0_158 : Index := 0#32
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v324 : Index := Scalar.indexCast v219
  let c1 : Index := 1#32
  let c0_159 : Index := 0#32
  ![0, v324.toNat, 1, 0]
def k0_off363 (i : grid0.Coords) (v2 : BitVec 32) (k0_t9 : Fin k0_t9_loop.trips) (k0_t27 : Fin (k0_t27_loop i v2).trips) : Fin 4 → Nat :=
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v329 : Index := Scalar.indexCast v219
  let c1_161 : Index := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_120 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v247 : BitVec 32 := Scalar.subi v21 c0_i32_120
  let c1_i32_121 : BitVec 32 := 1#32
  let v249 : BitVec 32 := Scalar.divsi v247 c1_i32_121
  let v250 : BitVec 32 := Scalar.muli v249 c1_i32_121
  let v251 : BitVec 32 := Scalar.addi c0_i32_120 v250
  let c1_i32_123 : BitVec 32 := 1#32
  let arg26 : BitVec 32 := Scf.iv v251 c1_i32_123 k0_t27
  let v321 : BitVec 32 := Scalar.addi v19 arg26
  let c256_i32_157 : BitVec 32 := 256#32
  let v322 : BitVec 32 := Scalar.muli v321 c256_i32_157
  let v323 : BitVec 32 := v322
  let v330 : Index := Scalar.indexCast v323
  let c0_162 : Index := 0#32
  ![v329.toNat, 1, v330.toNat, 0]
def k0_off364 (k0_t9 : Fin k0_t9_loop.trips) : Fin 5 → Nat :=
  let c0_163 : Index := 0#32
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v333 : Index := Scalar.indexCast v219
  let c1_164 : Index := 1#32
  let c0_165 : Index := 0#32
  let c0_166 : Index := 0#32
  ![0, v333.toNat, 1, 0, 0]
def k0_off365 (i : grid0.Coords) (v2 : BitVec 32) (k0_t9 : Fin k0_t9_loop.trips) (k0_t27 : Fin (k0_t27_loop i v2).trips) : Fin 4 → Nat :=
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v337 : Index := Scalar.indexCast v219
  let c1_168 : Index := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_120 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v247 : BitVec 32 := Scalar.subi v21 c0_i32_120
  let c1_i32_121 : BitVec 32 := 1#32
  let v249 : BitVec 32 := Scalar.divsi v247 c1_i32_121
  let v250 : BitVec 32 := Scalar.muli v249 c1_i32_121
  let v251 : BitVec 32 := Scalar.addi c0_i32_120 v250
  let c1_i32_123 : BitVec 32 := 1#32
  let arg26 : BitVec 32 := Scf.iv v251 c1_i32_123 k0_t27
  let v321 : BitVec 32 := Scalar.addi v19 arg26
  let c256_i32_157 : BitVec 32 := 256#32
  let v322 : BitVec 32 := Scalar.muli v321 c256_i32_157
  let v323 : BitVec 32 := v322
  let v338 : Index := Scalar.indexCast v323
  let c0_169 : Index := 0#32
  ![v337.toNat, 1, v338.toNat, 0]
def k0_off366 (i : grid0.Coords) (v2 : BitVec 32) (k0_t27 : Fin (k0_t27_loop i v2).trips) : Fin 2 → Nat :=
  let arg0 : BitVec 32 := BitVec.ofNat 32 (i 0).val
  let v355 : Index := Scalar.indexCast arg0
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_120 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v247 : BitVec 32 := Scalar.subi v21 c0_i32_120
  let c1_i32_121 : BitVec 32 := 1#32
  let v249 : BitVec 32 := Scalar.divsi v247 c1_i32_121
  let v250 : BitVec 32 := Scalar.muli v249 c1_i32_121
  let v251 : BitVec 32 := Scalar.addi c0_i32_120 v250
  let c1_i32_123 : BitVec 32 := 1#32
  let arg26 : BitVec 32 := Scf.iv v251 c1_i32_123 k0_t27
  let v321 : BitVec 32 := Scalar.addi v19 arg26
  let v356 : Index := Scalar.indexCast v321
  ![v355.toNat, v356.toNat]
def k0_mult253 (i : grid0.Coords) (v2 : BitVec 32) (k0_t27 : Fin (k0_t27_loop i v2).trips) : BitVec 32 :=
  let c0_i32_120 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v247 : BitVec 32 := Scalar.subi v21 c0_i32_120
  let c1_i32_121 : BitVec 32 := 1#32
  let v249 : BitVec 32 := Scalar.divsi v247 c1_i32_121
  let v250 : BitVec 32 := Scalar.muli v249 c1_i32_121
  let v251 : BitVec 32 := Scalar.addi c0_i32_120 v250
  let c1_i32_123 : BitVec 32 := 1#32
  let arg26 : BitVec 32 := Scf.iv v251 c1_i32_123 k0_t27
  let c256_i32_176 : BitVec 32 := 256#32
  let v368 : BitVec 32 := Scalar.muli arg26 c256_i32_176
  v368
def k0_off367 (i : grid0.Coords) (v2 : BitVec 32) (k0_t27 : Fin (k0_t27_loop i v2).trips) : Fin 3 → Nat :=
  let c1_177 : Index := 1#32
  let c0_i32_120 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v247 : BitVec 32 := Scalar.subi v21 c0_i32_120
  let c1_i32_121 : BitVec 32 := 1#32
  let v249 : BitVec 32 := Scalar.divsi v247 c1_i32_121
  let v250 : BitVec 32 := Scalar.muli v249 c1_i32_121
  let v251 : BitVec 32 := Scalar.addi c0_i32_120 v250
  let c1_i32_123 : BitVec 32 := 1#32
  let arg26 : BitVec 32 := Scf.iv v251 c1_i32_123 k0_t27
  let c256_i32_176 : BitVec 32 := 256#32
  let v368 : BitVec 32 := Scalar.muli arg26 c256_i32_176
  let v369 : BitVec 32 := v368
  let v370 : Index := Scalar.indexCast v369
  let c0_178 : Index := 0#32
  ![1, v370.toNat, 0]
@[reducible] def k0_t28_loop (i : grid0.Coords) (v2 : BitVec 32) : Scf.Loop 32 :=
  let c0_i32_129 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v262 : BitVec 32 := Scalar.subi v21 c0_i32_129
  let c1_i32_130 : BitVec 32 := 1#32
  let v264 : BitVec 32 := Scalar.divsi v262 c1_i32_130
  let v265 : BitVec 32 := Scalar.muli v264 c1_i32_130
  let v266 : BitVec 32 := Scalar.addi c0_i32_129 v265
  let c1_i32_131 : BitVec 32 := 1#32
  ⟨c0_i32_129, v266, c1_i32_131⟩
def k0_mult254 (i : grid0.Coords) (v2 : BitVec 32) (k0_t28 : Fin (k0_t28_loop i v2).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_129 : BitVec 32 := 0#32
  let c1_i32_131 : BitVec 32 := 1#32
  let arg26 : BitVec 32 := Scf.iv c0_i32_129 c1_i32_131 k0_t28
  let v321 : BitVec 32 := Scalar.addi v19 arg26
  let c256_i32_157 : BitVec 32 := 256#32
  let v322 : BitVec 32 := Scalar.muli v321 c256_i32_157
  v322
def k0_mult255 (i : grid0.Coords) (v2 : BitVec 32) (k0_t28 : Fin (k0_t28_loop i v2).trips) : BitVec 32 :=
  let c0_i32_129 : BitVec 32 := 0#32
  let c1_i32_131 : BitVec 32 := 1#32
  let arg26 : BitVec 32 := Scf.iv c0_i32_129 c1_i32_131 k0_t28
  let c256_i32_158 : BitVec 32 := 256#32
  let v324 : BitVec 32 := Scalar.muli arg26 c256_i32_158
  v324
def k0_off368 (i : grid0.Coords) (v2 : BitVec 32) (k0_t28 : Fin (k0_t28_loop i v2).trips) : Fin 3 → Nat :=
  let c0_159 : Index := 0#32
  let c0_i32_129 : BitVec 32 := 0#32
  let c1_i32_131 : BitVec 32 := 1#32
  let arg26 : BitVec 32 := Scf.iv c0_i32_129 c1_i32_131 k0_t28
  let c256_i32_158 : BitVec 32 := 256#32
  let v324 : BitVec 32 := Scalar.muli arg26 c256_i32_158
  let v325 : BitVec 32 := v324
  let v326 : Index := Scalar.indexCast v325
  let c0_160 : Index := 0#32
  ![0, v326.toNat, 0]
def k0_off369 (i : grid0.Coords) (v2 : BitVec 32) (k0_t28 : Fin (k0_t28_loop i v2).trips) : Fin 3 → Nat :=
  let c1 : Index := 1#32
  let c0_i32_129 : BitVec 32 := 0#32
  let c1_i32_131 : BitVec 32 := 1#32
  let arg26 : BitVec 32 := Scf.iv c0_i32_129 c1_i32_131 k0_t28
  let c256_i32_158 : BitVec 32 := 256#32
  let v324 : BitVec 32 := Scalar.muli arg26 c256_i32_158
  let v325 : BitVec 32 := v324
  let v331 : Index := Scalar.indexCast v325
  let c0_161 : Index := 0#32
  ![1, v331.toNat, 0]
def k0_off370 (i : grid0.Coords) (v2 : BitVec 32) (k0_t9 : Fin k0_t9_loop.trips) (k0_t28 : Fin (k0_t28_loop i v2).trips) : Fin 3 → Nat :=
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v339 : Index := Scalar.indexCast v219
  let c0_164 : Index := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_129 : BitVec 32 := 0#32
  let c1_i32_131 : BitVec 32 := 1#32
  let arg26 : BitVec 32 := Scf.iv c0_i32_129 c1_i32_131 k0_t28
  let v321 : BitVec 32 := Scalar.addi v19 arg26
  let c256_i32_157 : BitVec 32 := 256#32
  let v322 : BitVec 32 := Scalar.muli v321 c256_i32_157
  let v323 : BitVec 32 := v322
  let v340 : Index := Scalar.indexCast v323
  ![v339.toNat, 0, v340.toNat]
@[reducible] def k0_t29_loop (i : grid0.Coords) (v2 : BitVec 32) : Scf.Loop 32 :=
  let c0_i32_129 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v262 : BitVec 32 := Scalar.subi v21 c0_i32_129
  let c1_i32_130 : BitVec 32 := 1#32
  let v264 : BitVec 32 := Scalar.divsi v262 c1_i32_130
  let v265 : BitVec 32 := Scalar.muli v264 c1_i32_130
  let v266 : BitVec 32 := Scalar.addi c0_i32_129 v265
  let v263 : BitVec 32 := Scalar.addi c0_i32_129 v262
  let c1_i32_132 : BitVec 32 := 1#32
  ⟨v266, v263, c1_i32_132⟩
def k0_mult256 (i : grid0.Coords) (v2 : BitVec 32) (k0_t29 : Fin (k0_t29_loop i v2).trips) : BitVec 32 :=
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_129 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v262 : BitVec 32 := Scalar.subi v21 c0_i32_129
  let c1_i32_130 : BitVec 32 := 1#32
  let v264 : BitVec 32 := Scalar.divsi v262 c1_i32_130
  let v265 : BitVec 32 := Scalar.muli v264 c1_i32_130
  let v266 : BitVec 32 := Scalar.addi c0_i32_129 v265
  let c1_i32_132 : BitVec 32 := 1#32
  let arg26 : BitVec 32 := Scf.iv v266 c1_i32_132 k0_t29
  let v321 : BitVec 32 := Scalar.addi v19 arg26
  let c256_i32_157 : BitVec 32 := 256#32
  let v322 : BitVec 32 := Scalar.muli v321 c256_i32_157
  v322
def k0_mult257 (i : grid0.Coords) (v2 : BitVec 32) (k0_t29 : Fin (k0_t29_loop i v2).trips) : BitVec 32 :=
  let c0_i32_129 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v262 : BitVec 32 := Scalar.subi v21 c0_i32_129
  let c1_i32_130 : BitVec 32 := 1#32
  let v264 : BitVec 32 := Scalar.divsi v262 c1_i32_130
  let v265 : BitVec 32 := Scalar.muli v264 c1_i32_130
  let v266 : BitVec 32 := Scalar.addi c0_i32_129 v265
  let c1_i32_132 : BitVec 32 := 1#32
  let arg26 : BitVec 32 := Scf.iv v266 c1_i32_132 k0_t29
  let c256_i32_158 : BitVec 32 := 256#32
  let v324 : BitVec 32 := Scalar.muli arg26 c256_i32_158
  v324
def k0_off371 (i : grid0.Coords) (v2 : BitVec 32) (k0_t29 : Fin (k0_t29_loop i v2).trips) : Fin 3 → Nat :=
  let c0_159 : Index := 0#32
  let c0_i32_129 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v262 : BitVec 32 := Scalar.subi v21 c0_i32_129
  let c1_i32_130 : BitVec 32 := 1#32
  let v264 : BitVec 32 := Scalar.divsi v262 c1_i32_130
  let v265 : BitVec 32 := Scalar.muli v264 c1_i32_130
  let v266 : BitVec 32 := Scalar.addi c0_i32_129 v265
  let c1_i32_132 : BitVec 32 := 1#32
  let arg26 : BitVec 32 := Scf.iv v266 c1_i32_132 k0_t29
  let c256_i32_158 : BitVec 32 := 256#32
  let v324 : BitVec 32 := Scalar.muli arg26 c256_i32_158
  let v325 : BitVec 32 := v324
  let v326 : Index := Scalar.indexCast v325
  let c0_160 : Index := 0#32
  ![0, v326.toNat, 0]
def k0_off372 (i : grid0.Coords) (v2 : BitVec 32) (k0_t29 : Fin (k0_t29_loop i v2).trips) : Fin 3 → Nat :=
  let c1 : Index := 1#32
  let c0_i32_129 : BitVec 32 := 0#32
  let arg1 : BitVec 32 := BitVec.ofNat 32 (i 1).val
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let v20 : BitVec 32 := Scalar.subi arg1 v19
  let c1_i32_4 : BitVec 32 := 1#32
  let v21 : BitVec 32 := Scalar.addi v20 c1_i32_4
  let v262 : BitVec 32 := Scalar.subi v21 c0_i32_129
  let c1_i32_130 : BitVec 32 := 1#32
  let v264 : BitVec 32 := Scalar.divsi v262 c1_i32_130
  let v265 : BitVec 32 := Scalar.muli v264 c1_i32_130
  let v266 : BitVec 32 := Scalar.addi c0_i32_129 v265
  let c1_i32_132 : BitVec 32 := 1#32
  let arg26 : BitVec 32 := Scf.iv v266 c1_i32_132 k0_t29
  let c256_i32_158 : BitVec 32 := 256#32
  let v324 : BitVec 32 := Scalar.muli arg26 c256_i32_158
  let v325 : BitVec 32 := v324
  let v331 : Index := Scalar.indexCast v325
  let c0_161 : Index := 0#32
  ![1, v331.toNat, 0]
def k0_off373 (i : grid0.Coords) (v2 : BitVec 32) (k0_t9 : Fin k0_t9_loop.trips) (k0_t29 : Fin (k0_t29_loop i v2).trips) : Fin 3 → Nat :=
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v339 : Index := Scalar.indexCast v219
  let c0_164 : Index := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c256_i32 : BitVec 32 := 256#32
  let c0_i32_1 : BitVec 32 := 0#32
  let v9 : BitVec 1 := Scalar.cmpi .sgt c256_i32 c0_i32_1
  let v10 : BitVec 32 := Scalar.extui v9
  let c0_i32_2 : BitVec 32 := 0#32
  let v11 : BitVec 1 := Scalar.cmpi .slt c256_i32 c0_i32_2
  let v12 : BitVec 32 := Scalar.extui v11
  let v13 : BitVec 32 := Scalar.subi v10 v12
  let v14 : BitVec 1 := Scalar.cmpi .ne v8 v13
  let v15 : BitVec 32 := Scalar.remsi v2 c256_i32
  let c0_i32_3 : BitVec 32 := 0#32
  let v16 : BitVec 1 := Scalar.cmpi .ne v15 c0_i32_3
  let v17 : BitVec 1 := Scalar.andi v14 v16
  let v3 : BitVec 32 := Scalar.divsi v2 c256_i32
  let c1_i32 : BitVec 32 := 1#32
  let v18 : BitVec 32 := Scalar.subi v3 c1_i32
  let v19 : BitVec 32 := Scalar.select v17 v18 v3
  let c0_i32_129 : BitVec 32 := 0#32
  let arg1 : BitVec 32 := BitVec.ofNat 32 (i 1).val
  let v20 : BitVec 32 := Scalar.subi arg1 v19
  let c1_i32_4 : BitVec 32 := 1#32
  let v21 : BitVec 32 := Scalar.addi v20 c1_i32_4
  let v262 : BitVec 32 := Scalar.subi v21 c0_i32_129
  let c1_i32_130 : BitVec 32 := 1#32
  let v264 : BitVec 32 := Scalar.divsi v262 c1_i32_130
  let v265 : BitVec 32 := Scalar.muli v264 c1_i32_130
  let v266 : BitVec 32 := Scalar.addi c0_i32_129 v265
  let c1_i32_132 : BitVec 32 := 1#32
  let arg26 : BitVec 32 := Scf.iv v266 c1_i32_132 k0_t29
  let v321 : BitVec 32 := Scalar.addi v19 arg26
  let c256_i32_157 : BitVec 32 := 256#32
  let v322 : BitVec 32 := Scalar.muli v321 c256_i32_157
  let v323 : BitVec 32 := v322
  let v340 : Index := Scalar.indexCast v323
  ![v339.toNat, 0, v340.toNat]

def k0_chk2_0 (i : grid0.Coords) (v2 : BitVec 32) (v113 : BitVec 1) (v119 : BitVec 1) : Prop :=
  (∀ (k0_h9 : k0_cond9 v113 v119 = 1#1), (k0_t10_loop i v2).OK) ∧
  (∀ k0_t10 : Fin (k0_t10_loop i v2).trips, ∀ (k0_h9 : k0_cond9 v113 v119 = 1#1), 256 ∣ (k0_mult226 i v2 k0_t10).toNat) ∧
  (∀ (k0_t9 : Fin k0_t9_loop.trips) (k0_t10 : Fin (k0_t10_loop i v2).trips), ∀ (k0_h9 : k0_cond9 v113 v119 = 1#1), ∀ a, (k0_off274 i v2 k0_t9 k0_t10) a + S1x1x256x160.size a ≤ S6x2x2048x160.size a) ∧
  (∀ (k0_t9 : Fin k0_t9_loop.trips) (k0_t10 : Fin (k0_t10_loop i v2).trips), ∀ (k0_h9 : k0_cond9 v113 v119 = 1#1), ∀ a, (k0_off276 i v2 k0_t9 k0_t10) a + S1x1x256x128.size a ≤ S6x2x2048x128.size a) ∧
  (∀ k0_t10 : Fin (k0_t10_loop i v2).trips, ∀ (k0_h9 : k0_cond9 v113 v119 = 1#1), ∀ a, (k0_off277 i v2 k0_t10) a + S1x1.size a ≤ S24x8.size a) ∧
  (∀ (k0_h9 : k0_cond9 v113 v119 = 1#1), (k0_t11_loop i v2).OK) ∧
  (∀ k0_t11 : Fin (k0_t11_loop i v2).trips, ∀ (k0_h9 : k0_cond9 v113 v119 = 1#1), 256 ∣ (k0_mult227 i v2 k0_t11).toNat) ∧
  (∀ (k0_t9 : Fin k0_t9_loop.trips) (k0_t11 : Fin (k0_t11_loop i v2).trips), ∀ (k0_h9 : k0_cond9 v113 v119 = 1#1), ∀ a, (k0_off279 i v2 k0_t9 k0_t11) a + S1x1x256x160.size a ≤ S6x2x2048x160.size a) ∧
  (∀ (k0_t9 : Fin k0_t9_loop.trips) (k0_t11 : Fin (k0_t11_loop i v2).trips), ∀ (k0_h9 : k0_cond9 v113 v119 = 1#1), ∀ a, (k0_off281 i v2 k0_t9 k0_t11) a + S1x1x256x128.size a ≤ S6x2x2048x128.size a) ∧
  (∀ k0_t11 : Fin (k0_t11_loop i v2).trips, ∀ (k0_h9 : k0_cond9 v113 v119 = 1#1), ∀ a, (k0_off282 i v2 k0_t11) a + S1x1.size a ≤ S24x8.size a) ∧
  (∀ (k0_h9 : k0_cond9 v113 v119 = 1#1), (k0_t12_loop i v2).OK) ∧
  (∀ k0_t12 : Fin (k0_t12_loop i v2).trips, ∀ (k0_h9 : k0_cond9 v113 v119 = 1#1), 256 ∣ (k0_mult228 i v2 k0_t12).toNat) ∧
  (∀ (k0_t9 : Fin k0_t9_loop.trips) (k0_t12 : Fin (k0_t12_loop i v2).trips), ∀ (k0_h9 : k0_cond9 v113 v119 = 1#1), ∀ a, (k0_off284 i v2 k0_t9 k0_t12) a + S1x1x256x160.size a ≤ S6x2x2048x160.size a) ∧
  (∀ (k0_t9 : Fin k0_t9_loop.trips) (k0_t12 : Fin (k0_t12_loop i v2).trips), ∀ (k0_h9 : k0_cond9 v113 v119 = 1#1), ∀ a, (k0_off286 i v2 k0_t9 k0_t12) a + S1x1x256x128.size a ≤ S6x2x2048x128.size a) ∧
  (∀ k0_t12 : Fin (k0_t12_loop i v2).trips, ∀ (k0_h9 : k0_cond9 v113 v119 = 1#1), ∀ a, (k0_off287 i v2 k0_t12) a + S1x1.size a ≤ S24x8.size a) ∧
  (∀ k0_t12 : Fin (k0_t12_loop i v2).trips, ∀ (k0_h9 : k0_cond9 v113 v119 = 1#1), 256 ∣ (k0_mult229 i v2 k0_t12).toNat) ∧
  (∀ k0_t12 : Fin (k0_t12_loop i v2).trips, ∀ (k0_h9 : k0_cond9 v113 v119 = 1#1), ∀ a, (k0_off288 i v2 k0_t12) a + S1x256x256.size a ≤ S2x2048x256.size a) ∧
  (∀ (k0_h9 : k0_cond9 v113 v119 = 1#1), (k0_t13_loop i v2).OK) ∧
  (∀ k0_t13 : Fin (k0_t13_loop i v2).trips, ∀ (k0_h9 : k0_cond9 v113 v119 = 1#1), 256 ∣ (k0_mult230 i v2 k0_t13).toNat) ∧
  (∀ (k0_t9 : Fin k0_t9_loop.trips) (k0_t13 : Fin (k0_t13_loop i v2).trips), ∀ (k0_h9 : k0_cond9 v113 v119 = 1#1), ∀ a, (k0_off290 i v2 k0_t9 k0_t13) a + S1x1x256x160.size a ≤ S6x2x2048x160.size a) ∧
  (∀ (k0_t9 : Fin k0_t9_loop.trips) (k0_t13 : Fin (k0_t13_loop i v2).trips), ∀ (k0_h9 : k0_cond9 v113 v119 = 1#1), ∀ a, (k0_off292 i v2 k0_t9 k0_t13) a + S1x1x256x128.size a ≤ S6x2x2048x128.size a) ∧
  (∀ k0_t13 : Fin (k0_t13_loop i v2).trips, ∀ (k0_h9 : k0_cond9 v113 v119 = 1#1), ∀ a, (k0_off293 i v2 k0_t13) a + S1x1.size a ≤ S24x8.size a) ∧
  (∀ k0_t13 : Fin (k0_t13_loop i v2).trips, ∀ (k0_h9 : k0_cond9 v113 v119 = 1#1), 256 ∣ (k0_mult231 i v2 k0_t13).toNat) ∧
  (∀ k0_t13 : Fin (k0_t13_loop i v2).trips, ∀ (k0_h9 : k0_cond9 v113 v119 = 1#1), ∀ a, (k0_off294 i v2 k0_t13) a + S1x256x256.size a ≤ S2x2048x256.size a) ∧
  (∀ (k0_h9 : k0_cond9 v113 v119 = 1#1), (k0_t14_loop i v2).OK) ∧
  (∀ k0_t14 : Fin (k0_t14_loop i v2).trips, ∀ (k0_h9 : k0_cond9 v113 v119 = 1#1), 256 ∣ (k0_mult232 i v2 k0_t14).toNat) ∧
  (∀ (k0_t9 : Fin k0_t9_loop.trips) (k0_t14 : Fin (k0_t14_loop i v2).trips), ∀ (k0_h9 : k0_cond9 v113 v119 = 1#1), ∀ a, (k0_off296 i v2 k0_t9 k0_t14) a + S1x1x256x160.size a ≤ S6x2x2048x160.size a) ∧
  (∀ (k0_t9 : Fin k0_t9_loop.trips) (k0_t14 : Fin (k0_t14_loop i v2).trips), ∀ (k0_h9 : k0_cond9 v113 v119 = 1#1), ∀ a, (k0_off298 i v2 k0_t9 k0_t14) a + S1x1x256x128.size a ≤ S6x2x2048x128.size a) ∧
  (∀ k0_t14 : Fin (k0_t14_loop i v2).trips, ∀ (k0_h9 : k0_cond9 v113 v119 = 1#1), ∀ a, (k0_off299 i v2 k0_t14) a + S1x1.size a ≤ S24x8.size a) ∧
  (∀ (k0_h9 : k0_cond9 v113 v119 = 1#1), (k0_t15_loop i v2).OK) ∧
  (∀ k0_t15 : Fin (k0_t15_loop i v2).trips, ∀ (k0_h9 : k0_cond9 v113 v119 = 1#1), 256 ∣ (k0_mult233 i v2 k0_t15).toNat) ∧
  (∀ (k0_t9 : Fin k0_t9_loop.trips) (k0_t15 : Fin (k0_t15_loop i v2).trips), ∀ (k0_h9 : k0_cond9 v113 v119 = 1#1), ∀ a, (k0_off301 i v2 k0_t9 k0_t15) a + S1x1x256x160.size a ≤ S6x2x2048x160.size a)
def k0_chk2_1 (i : grid0.Coords) (v2 : BitVec 32) (v113 : BitVec 1) (v119 : BitVec 1) : Prop :=
  (∀ (k0_t9 : Fin k0_t9_loop.trips) (k0_t15 : Fin (k0_t15_loop i v2).trips), ∀ (k0_h9 : k0_cond9 v113 v119 = 1#1), ∀ a, (k0_off303 i v2 k0_t9 k0_t15) a + S1x1x256x128.size a ≤ S6x2x2048x128.size a) ∧
  (∀ k0_t15 : Fin (k0_t15_loop i v2).trips, ∀ (k0_h9 : k0_cond9 v113 v119 = 1#1), ∀ a, (k0_off304 i v2 k0_t15) a + S1x1.size a ≤ S24x8.size a) ∧
  (∀ (k0_h9 : k0_cond9 v113 v119 = 1#1), (k0_t16_loop i v2).OK) ∧
  (∀ k0_t16 : Fin (k0_t16_loop i v2).trips, ∀ (k0_h9 : k0_cond9 v113 v119 = 1#1), 256 ∣ (k0_mult234 i v2 k0_t16).toNat) ∧
  (∀ (k0_t9 : Fin k0_t9_loop.trips) (k0_t16 : Fin (k0_t16_loop i v2).trips), ∀ (k0_h9 : k0_cond9 v113 v119 = 1#1), ∀ a, (k0_off306 i v2 k0_t9 k0_t16) a + S1x1x256x160.size a ≤ S6x2x2048x160.size a) ∧
  (∀ (k0_t9 : Fin k0_t9_loop.trips) (k0_t16 : Fin (k0_t16_loop i v2).trips), ∀ (k0_h9 : k0_cond9 v113 v119 = 1#1), ∀ a, (k0_off308 i v2 k0_t9 k0_t16) a + S1x1x256x128.size a ≤ S6x2x2048x128.size a) ∧
  (∀ k0_t16 : Fin (k0_t16_loop i v2).trips, ∀ (k0_h9 : k0_cond9 v113 v119 = 1#1), ∀ a, (k0_off309 i v2 k0_t16) a + S1x1.size a ≤ S24x8.size a) ∧
  (∀ k0_t16 : Fin (k0_t16_loop i v2).trips, ∀ (k0_h9 : k0_cond9 v113 v119 = 1#1), 256 ∣ (k0_mult235 i v2 k0_t16).toNat) ∧
  (∀ k0_t16 : Fin (k0_t16_loop i v2).trips, ∀ (k0_h9 : k0_cond9 v113 v119 = 1#1), ∀ a, (k0_off310 i v2 k0_t16) a + S1x256x256.size a ≤ S2x2048x256.size a) ∧
  (∀ (k0_h9 : k0_cond9 v113 v119 = 1#1), (k0_t17_loop i v2).OK) ∧
  (∀ k0_t17 : Fin (k0_t17_loop i v2).trips, ∀ (k0_h9 : k0_cond9 v113 v119 = 1#1), 256 ∣ (k0_mult236 i v2 k0_t17).toNat) ∧
  (∀ (k0_t9 : Fin k0_t9_loop.trips) (k0_t17 : Fin (k0_t17_loop i v2).trips), ∀ (k0_h9 : k0_cond9 v113 v119 = 1#1), ∀ a, (k0_off312 i v2 k0_t9 k0_t17) a + S1x1x256x160.size a ≤ S6x2x2048x160.size a) ∧
  (∀ (k0_t9 : Fin k0_t9_loop.trips) (k0_t17 : Fin (k0_t17_loop i v2).trips), ∀ (k0_h9 : k0_cond9 v113 v119 = 1#1), ∀ a, (k0_off314 i v2 k0_t9 k0_t17) a + S1x1x256x128.size a ≤ S6x2x2048x128.size a) ∧
  (∀ k0_t17 : Fin (k0_t17_loop i v2).trips, ∀ (k0_h9 : k0_cond9 v113 v119 = 1#1), ∀ a, (k0_off315 i v2 k0_t17) a + S1x1.size a ≤ S24x8.size a) ∧
  (∀ k0_t17 : Fin (k0_t17_loop i v2).trips, ∀ (k0_h9 : k0_cond9 v113 v119 = 1#1), 256 ∣ (k0_mult237 i v2 k0_t17).toNat) ∧
  (∀ k0_t17 : Fin (k0_t17_loop i v2).trips, ∀ (k0_h9 : k0_cond9 v113 v119 = 1#1), ∀ a, (k0_off316 i v2 k0_t17) a + S1x256x256.size a ≤ S2x2048x256.size a) ∧
  (∀ (k0_h9 : k0_cond9 v113 v119 = 1#1), (k0_t18_loop i v2).OK) ∧
  (∀ k0_t18 : Fin (k0_t18_loop i v2).trips, ∀ (k0_h9 : k0_cond9 v113 v119 = 1#1), 256 ∣ (k0_mult238 i v2 k0_t18).toNat) ∧
  (∀ k0_t18 : Fin (k0_t18_loop i v2).trips, ∀ (k0_h9 : k0_cond9 v113 v119 = 1#1), 256 ∣ (k0_mult239 i v2 k0_t18).toNat) ∧
  (∀ k0_t18 : Fin (k0_t18_loop i v2).trips, ∀ (k0_h9 : k0_cond9 v113 v119 = 1#1), ∀ a, (k0_off317 i v2 k0_t18) a + S1x256x256.size a ≤ S2x2048x256.size a) ∧
  (∀ k0_t18 : Fin (k0_t18_loop i v2).trips, ∀ (k0_h9 : k0_cond9 v113 v119 = 1#1), ∀ a, (k0_off318 i v2 k0_t18) a + S1x256x256.size a ≤ S2x2048x256.size a) ∧
  (∀ (k0_t9 : Fin k0_t9_loop.trips) (k0_t18 : Fin (k0_t18_loop i v2).trips), ∀ (k0_h9 : k0_cond9 v113 v119 = 1#1), ∀ a, (k0_off319 i v2 k0_t9 k0_t18) a + S1x320x256.size a ≤ S6x320x2048.size a) ∧
  (∀ (k0_h9 : k0_cond9 v113 v119 = 1#1), (k0_t19_loop i v2).OK) ∧
  (∀ k0_t19 : Fin (k0_t19_loop i v2).trips, ∀ (k0_h9 : k0_cond9 v113 v119 = 1#1), 256 ∣ (k0_mult240 i v2 k0_t19).toNat) ∧
  (∀ k0_t19 : Fin (k0_t19_loop i v2).trips, ∀ (k0_h9 : k0_cond9 v113 v119 = 1#1), 256 ∣ (k0_mult241 i v2 k0_t19).toNat) ∧
  (∀ k0_t19 : Fin (k0_t19_loop i v2).trips, ∀ (k0_h9 : k0_cond9 v113 v119 = 1#1), ∀ a, (k0_off320 i v2 k0_t19) a + S1x256x256.size a ≤ S2x2048x256.size a) ∧
  (∀ k0_t19 : Fin (k0_t19_loop i v2).trips, ∀ (k0_h9 : k0_cond9 v113 v119 = 1#1), ∀ a, (k0_off321 i v2 k0_t19) a + S1x256x256.size a ≤ S2x2048x256.size a) ∧
  (∀ (k0_t9 : Fin k0_t9_loop.trips) (k0_t19 : Fin (k0_t19_loop i v2).trips), ∀ (k0_h9 : k0_cond9 v113 v119 = 1#1), ∀ a, (k0_off322 i v2 k0_t9 k0_t19) a + S1x320x256.size a ≤ S6x320x2048.size a) ∧
  (∀ (k0_h9 : k0_cond9 v113 v119 = 1#1), (k0_t20_loop i v2).OK) ∧
  (∀ k0_t20 : Fin (k0_t20_loop i v2).trips, ∀ (k0_h9 : k0_cond9 v113 v119 = 1#1), 256 ∣ (k0_mult242 i v2 k0_t20).toNat) ∧
  (∀ (k0_t9 : Fin k0_t9_loop.trips) (k0_t20 : Fin (k0_t20_loop i v2).trips), ∀ (k0_h9 : k0_cond9 v113 v119 = 1#1), ∀ a, (k0_off325 i v2 k0_t9 k0_t20) a + S1x1x256x160.size a ≤ S6x2x2048x160.size a) ∧
  (∀ (k0_t9 : Fin k0_t9_loop.trips) (k0_t20 : Fin (k0_t20_loop i v2).trips), ∀ (k0_h9 : k0_cond9 v113 v119 = 1#1), ∀ a, (k0_off327 i v2 k0_t9 k0_t20) a + S1x1x256x128.size a ≤ S6x2x2048x128.size a)
def k0_chk2_2 (i : grid0.Coords) (v2 : BitVec 32) (v113 : BitVec 1) (v119 : BitVec 1) : Prop :=
  (∀ k0_t20 : Fin (k0_t20_loop i v2).trips, ∀ (k0_h9 : k0_cond9 v113 v119 = 1#1), ∀ a, (k0_off328 i v2 k0_t20) a + S1x1.size a ≤ S24x8.size a) ∧
  (∀ (k0_h9 : k0_cond9 v113 v119 = 1#1), (k0_t21_loop i v2).OK) ∧
  (∀ k0_t21 : Fin (k0_t21_loop i v2).trips, ∀ (k0_h9 : k0_cond9 v113 v119 = 1#1), 256 ∣ (k0_mult243 i v2 k0_t21).toNat) ∧
  (∀ (k0_t9 : Fin k0_t9_loop.trips) (k0_t21 : Fin (k0_t21_loop i v2).trips), ∀ (k0_h9 : k0_cond9 v113 v119 = 1#1), ∀ a, (k0_off330 i v2 k0_t9 k0_t21) a + S1x1x256x160.size a ≤ S6x2x2048x160.size a) ∧
  (∀ (k0_t9 : Fin k0_t9_loop.trips) (k0_t21 : Fin (k0_t21_loop i v2).trips), ∀ (k0_h9 : k0_cond9 v113 v119 = 1#1), ∀ a, (k0_off332 i v2 k0_t9 k0_t21) a + S1x1x256x128.size a ≤ S6x2x2048x128.size a) ∧
  (∀ k0_t21 : Fin (k0_t21_loop i v2).trips, ∀ (k0_h9 : k0_cond9 v113 v119 = 1#1), ∀ a, (k0_off333 i v2 k0_t21) a + S1x1.size a ≤ S24x8.size a) ∧
  (∀ (k0_h9 : k0_cond9 v113 v119 = 1#1), (k0_t22_loop i v2).OK) ∧
  (∀ k0_t22 : Fin (k0_t22_loop i v2).trips, ∀ (k0_h9 : k0_cond9 v113 v119 = 1#1), 256 ∣ (k0_mult244 i v2 k0_t22).toNat) ∧
  (∀ (k0_t9 : Fin k0_t9_loop.trips) (k0_t22 : Fin (k0_t22_loop i v2).trips), ∀ (k0_h9 : k0_cond9 v113 v119 = 1#1), ∀ a, (k0_off335 i v2 k0_t9 k0_t22) a + S1x1x256x160.size a ≤ S6x2x2048x160.size a) ∧
  (∀ (k0_t9 : Fin k0_t9_loop.trips) (k0_t22 : Fin (k0_t22_loop i v2).trips), ∀ (k0_h9 : k0_cond9 v113 v119 = 1#1), ∀ a, (k0_off337 i v2 k0_t9 k0_t22) a + S1x1x256x128.size a ≤ S6x2x2048x128.size a) ∧
  (∀ k0_t22 : Fin (k0_t22_loop i v2).trips, ∀ (k0_h9 : k0_cond9 v113 v119 = 1#1), ∀ a, (k0_off338 i v2 k0_t22) a + S1x1.size a ≤ S24x8.size a) ∧
  (∀ k0_t22 : Fin (k0_t22_loop i v2).trips, ∀ (k0_h9 : k0_cond9 v113 v119 = 1#1), 256 ∣ (k0_mult245 i v2 k0_t22).toNat) ∧
  (∀ k0_t22 : Fin (k0_t22_loop i v2).trips, ∀ (k0_h9 : k0_cond9 v113 v119 = 1#1), ∀ a, (k0_off339 i v2 k0_t22) a + S1x256x256.size a ≤ S2x2048x256.size a) ∧
  (∀ (k0_h9 : k0_cond9 v113 v119 = 1#1), (k0_t23_loop i v2).OK) ∧
  (∀ k0_t23 : Fin (k0_t23_loop i v2).trips, ∀ (k0_h9 : k0_cond9 v113 v119 = 1#1), 256 ∣ (k0_mult246 i v2 k0_t23).toNat) ∧
  (∀ (k0_t9 : Fin k0_t9_loop.trips) (k0_t23 : Fin (k0_t23_loop i v2).trips), ∀ (k0_h9 : k0_cond9 v113 v119 = 1#1), ∀ a, (k0_off341 i v2 k0_t9 k0_t23) a + S1x1x256x160.size a ≤ S6x2x2048x160.size a) ∧
  (∀ (k0_t9 : Fin k0_t9_loop.trips) (k0_t23 : Fin (k0_t23_loop i v2).trips), ∀ (k0_h9 : k0_cond9 v113 v119 = 1#1), ∀ a, (k0_off343 i v2 k0_t9 k0_t23) a + S1x1x256x128.size a ≤ S6x2x2048x128.size a) ∧
  (∀ k0_t23 : Fin (k0_t23_loop i v2).trips, ∀ (k0_h9 : k0_cond9 v113 v119 = 1#1), ∀ a, (k0_off344 i v2 k0_t23) a + S1x1.size a ≤ S24x8.size a) ∧
  (∀ k0_t23 : Fin (k0_t23_loop i v2).trips, ∀ (k0_h9 : k0_cond9 v113 v119 = 1#1), 256 ∣ (k0_mult247 i v2 k0_t23).toNat) ∧
  (∀ k0_t23 : Fin (k0_t23_loop i v2).trips, ∀ (k0_h9 : k0_cond9 v113 v119 = 1#1), ∀ a, (k0_off345 i v2 k0_t23) a + S1x256x256.size a ≤ S2x2048x256.size a) ∧
  (∀ (k0_h9 : k0_cond9 v113 v119 = 1#1), (k0_t24_loop i v2).OK) ∧
  (∀ k0_t24 : Fin (k0_t24_loop i v2).trips, ∀ (k0_h9 : k0_cond9 v113 v119 = 1#1), 256 ∣ (k0_mult248 i v2 k0_t24).toNat) ∧
  (∀ (k0_t9 : Fin k0_t9_loop.trips) (k0_t24 : Fin (k0_t24_loop i v2).trips), ∀ (k0_h9 : k0_cond9 v113 v119 = 1#1), ∀ a, (k0_off347 i v2 k0_t9 k0_t24) a + S1x1x256x160.size a ≤ S6x2x2048x160.size a) ∧
  (∀ (k0_t9 : Fin k0_t9_loop.trips) (k0_t24 : Fin (k0_t24_loop i v2).trips), ∀ (k0_h9 : k0_cond9 v113 v119 = 1#1), ∀ a, (k0_off349 i v2 k0_t9 k0_t24) a + S1x1x256x128.size a ≤ S6x2x2048x128.size a) ∧
  (∀ k0_t24 : Fin (k0_t24_loop i v2).trips, ∀ (k0_h9 : k0_cond9 v113 v119 = 1#1), ∀ a, (k0_off350 i v2 k0_t24) a + S1x1.size a ≤ S24x8.size a) ∧
  (∀ (k0_h9 : k0_cond9 v113 v119 = 1#1), (k0_t25_loop i v2).OK) ∧
  (∀ k0_t25 : Fin (k0_t25_loop i v2).trips, ∀ (k0_h9 : k0_cond9 v113 v119 = 1#1), 256 ∣ (k0_mult249 i v2 k0_t25).toNat) ∧
  (∀ (k0_t9 : Fin k0_t9_loop.trips) (k0_t25 : Fin (k0_t25_loop i v2).trips), ∀ (k0_h9 : k0_cond9 v113 v119 = 1#1), ∀ a, (k0_off352 i v2 k0_t9 k0_t25) a + S1x1x256x160.size a ≤ S6x2x2048x160.size a) ∧
  (∀ (k0_t9 : Fin k0_t9_loop.trips) (k0_t25 : Fin (k0_t25_loop i v2).trips), ∀ (k0_h9 : k0_cond9 v113 v119 = 1#1), ∀ a, (k0_off354 i v2 k0_t9 k0_t25) a + S1x1x256x128.size a ≤ S6x2x2048x128.size a) ∧
  (∀ k0_t25 : Fin (k0_t25_loop i v2).trips, ∀ (k0_h9 : k0_cond9 v113 v119 = 1#1), ∀ a, (k0_off355 i v2 k0_t25) a + S1x1.size a ≤ S24x8.size a) ∧
  (∀ (k0_h9 : k0_cond9 v113 v119 = 1#1), (k0_t26_loop i v2).OK) ∧
  (∀ k0_t26 : Fin (k0_t26_loop i v2).trips, ∀ (k0_h9 : k0_cond9 v113 v119 = 1#1), 256 ∣ (k0_mult250 i v2 k0_t26).toNat)
def k0_chk2_3 (i : grid0.Coords) (v2 : BitVec 32) (v113 : BitVec 1) (v119 : BitVec 1) : Prop :=
  (∀ (k0_t9 : Fin k0_t9_loop.trips) (k0_t26 : Fin (k0_t26_loop i v2).trips), ∀ (k0_h9 : k0_cond9 v113 v119 = 1#1), ∀ a, (k0_off357 i v2 k0_t9 k0_t26) a + S1x1x256x160.size a ≤ S6x2x2048x160.size a) ∧
  (∀ (k0_t9 : Fin k0_t9_loop.trips) (k0_t26 : Fin (k0_t26_loop i v2).trips), ∀ (k0_h9 : k0_cond9 v113 v119 = 1#1), ∀ a, (k0_off359 i v2 k0_t9 k0_t26) a + S1x1x256x128.size a ≤ S6x2x2048x128.size a) ∧
  (∀ k0_t26 : Fin (k0_t26_loop i v2).trips, ∀ (k0_h9 : k0_cond9 v113 v119 = 1#1), ∀ a, (k0_off360 i v2 k0_t26) a + S1x1.size a ≤ S24x8.size a) ∧
  (∀ k0_t26 : Fin (k0_t26_loop i v2).trips, ∀ (k0_h9 : k0_cond9 v113 v119 = 1#1), 256 ∣ (k0_mult251 i v2 k0_t26).toNat) ∧
  (∀ k0_t26 : Fin (k0_t26_loop i v2).trips, ∀ (k0_h9 : k0_cond9 v113 v119 = 1#1), ∀ a, (k0_off361 i v2 k0_t26) a + S1x256x256.size a ≤ S2x2048x256.size a) ∧
  (∀ (k0_h9 : k0_cond9 v113 v119 = 1#1), (k0_t27_loop i v2).OK) ∧
  (∀ k0_t27 : Fin (k0_t27_loop i v2).trips, ∀ (k0_h9 : k0_cond9 v113 v119 = 1#1), 256 ∣ (k0_mult252 i v2 k0_t27).toNat) ∧
  (∀ (k0_t9 : Fin k0_t9_loop.trips) (k0_t27 : Fin (k0_t27_loop i v2).trips), ∀ (k0_h9 : k0_cond9 v113 v119 = 1#1), ∀ a, (k0_off363 i v2 k0_t9 k0_t27) a + S1x1x256x160.size a ≤ S6x2x2048x160.size a) ∧
  (∀ (k0_t9 : Fin k0_t9_loop.trips) (k0_t27 : Fin (k0_t27_loop i v2).trips), ∀ (k0_h9 : k0_cond9 v113 v119 = 1#1), ∀ a, (k0_off365 i v2 k0_t9 k0_t27) a + S1x1x256x128.size a ≤ S6x2x2048x128.size a) ∧
  (∀ k0_t27 : Fin (k0_t27_loop i v2).trips, ∀ (k0_h9 : k0_cond9 v113 v119 = 1#1), ∀ a, (k0_off366 i v2 k0_t27) a + S1x1.size a ≤ S24x8.size a) ∧
  (∀ k0_t27 : Fin (k0_t27_loop i v2).trips, ∀ (k0_h9 : k0_cond9 v113 v119 = 1#1), 256 ∣ (k0_mult253 i v2 k0_t27).toNat) ∧
  (∀ k0_t27 : Fin (k0_t27_loop i v2).trips, ∀ (k0_h9 : k0_cond9 v113 v119 = 1#1), ∀ a, (k0_off367 i v2 k0_t27) a + S1x256x256.size a ≤ S2x2048x256.size a) ∧
  (∀ (k0_h9 : k0_cond9 v113 v119 = 1#1), (k0_t28_loop i v2).OK) ∧
  (∀ k0_t28 : Fin (k0_t28_loop i v2).trips, ∀ (k0_h9 : k0_cond9 v113 v119 = 1#1), 256 ∣ (k0_mult254 i v2 k0_t28).toNat) ∧
  (∀ k0_t28 : Fin (k0_t28_loop i v2).trips, ∀ (k0_h9 : k0_cond9 v113 v119 = 1#1), 256 ∣ (k0_mult255 i v2 k0_t28).toNat) ∧
  (∀ k0_t28 : Fin (k0_t28_loop i v2).trips, ∀ (k0_h9 : k0_cond9 v113 v119 = 1#1), ∀ a, (k0_off368 i v2 k0_t28) a + S1x256x256.size a ≤ S2x2048x256.size a) ∧
  (∀ k0_t28 : Fin (k0_t28_loop i v2).trips, ∀ (k0_h9 : k0_cond9 v113 v119 = 1#1), ∀ a, (k0_off369 i v2 k0_t28) a + S1x256x256.size a ≤ S2x2048x256.size a) ∧
  (∀ (k0_t9 : Fin k0_t9_loop.trips) (k0_t28 : Fin (k0_t28_loop i v2).trips), ∀ (k0_h9 : k0_cond9 v113 v119 = 1#1), ∀ a, (k0_off370 i v2 k0_t9 k0_t28) a + S1x320x256.size a ≤ S6x320x2048.size a) ∧
  (∀ (k0_h9 : k0_cond9 v113 v119 = 1#1), (k0_t29_loop i v2).OK) ∧
  (∀ k0_t29 : Fin (k0_t29_loop i v2).trips, ∀ (k0_h9 : k0_cond9 v113 v119 = 1#1), 256 ∣ (k0_mult256 i v2 k0_t29).toNat) ∧
  (∀ k0_t29 : Fin (k0_t29_loop i v2).trips, ∀ (k0_h9 : k0_cond9 v113 v119 = 1#1), 256 ∣ (k0_mult257 i v2 k0_t29).toNat) ∧
  (∀ k0_t29 : Fin (k0_t29_loop i v2).trips, ∀ (k0_h9 : k0_cond9 v113 v119 = 1#1), ∀ a, (k0_off371 i v2 k0_t29) a + S1x256x256.size a ≤ S2x2048x256.size a) ∧
  (∀ k0_t29 : Fin (k0_t29_loop i v2).trips, ∀ (k0_h9 : k0_cond9 v113 v119 = 1#1), ∀ a, (k0_off372 i v2 k0_t29) a + S1x256x256.size a ≤ S2x2048x256.size a) ∧
  (∀ (k0_t9 : Fin k0_t9_loop.trips) (k0_t29 : Fin (k0_t29_loop i v2).trips), ∀ (k0_h9 : k0_cond9 v113 v119 = 1#1), ∀ a, (k0_off373 i v2 k0_t9 k0_t29) a + S1x320x256.size a ≤ S6x320x2048.size a)
def k0_chk2 (i : grid0.Coords) (v2 : BitVec 32) (v113 : BitVec 1) (v119 : BitVec 1) : Prop :=
  k0_chk2_0 i v2 v113 v119 ∧
  k0_chk2_1 i v2 v113 v119 ∧
  k0_chk2_2 i v2 v113 v119 ∧
  k0_chk2_3 i v2 v113 v119
theorem k0_t10_ok : ∀ (i : grid0.Coords) (v2 : BitVec 32) (v113 : BitVec 1) (v119 : BitVec 1) (k0_hw2 : k0_chk2 i v2 v113 v119), ∀ (k0_h9 : k0_cond9 v113 v119 = 1#1), (k0_t10_loop i v2).OK := fun i v2 v113 v119 k0_hw2 k0_h9 => k0_hw2.1.1 k0_h9
theorem k0_mult226_dvd : ∀ (i : grid0.Coords) (v2 : BitVec 32) (v113 : BitVec 1) (v119 : BitVec 1) (k0_hw2 : k0_chk2 i v2 v113 v119) (k0_t10 : Fin (k0_t10_loop i v2).trips), ∀ (k0_h9 : k0_cond9 v113 v119 = 1#1), 256 ∣ (k0_mult226 i v2 k0_t10).toNat := fun i v2 v113 v119 k0_hw2 k0_t10 k0_h9 => k0_hw2.1.2.1 k0_t10 k0_h9
theorem k0_off274_inb : ∀ (i : grid0.Coords) (v2 : BitVec 32) (v113 : BitVec 1) (v119 : BitVec 1) (k0_hw2 : k0_chk2 i v2 v113 v119) (k0_t9 : Fin k0_t9_loop.trips) (k0_t10 : Fin (k0_t10_loop i v2).trips), ∀ (k0_h9 : k0_cond9 v113 v119 = 1#1), ∀ a, (k0_off274 i v2 k0_t9 k0_t10) a + S1x1x256x160.size a ≤ S6x2x2048x160.size a := fun i v2 v113 v119 k0_hw2 k0_t9 k0_t10 k0_h9 => k0_hw2.1.2.2.1 k0_t9 k0_t10 k0_h9
theorem k0_off276_inb : ∀ (i : grid0.Coords) (v2 : BitVec 32) (v113 : BitVec 1) (v119 : BitVec 1) (k0_hw2 : k0_chk2 i v2 v113 v119) (k0_t9 : Fin k0_t9_loop.trips) (k0_t10 : Fin (k0_t10_loop i v2).trips), ∀ (k0_h9 : k0_cond9 v113 v119 = 1#1), ∀ a, (k0_off276 i v2 k0_t9 k0_t10) a + S1x1x256x128.size a ≤ S6x2x2048x128.size a := fun i v2 v113 v119 k0_hw2 k0_t9 k0_t10 k0_h9 => k0_hw2.1.2.2.2.1 k0_t9 k0_t10 k0_h9
theorem k0_off277_inb : ∀ (i : grid0.Coords) (v2 : BitVec 32) (v113 : BitVec 1) (v119 : BitVec 1) (k0_hw2 : k0_chk2 i v2 v113 v119) (k0_t10 : Fin (k0_t10_loop i v2).trips), ∀ (k0_h9 : k0_cond9 v113 v119 = 1#1), ∀ a, (k0_off277 i v2 k0_t10) a + S1x1.size a ≤ S24x8.size a := fun i v2 v113 v119 k0_hw2 k0_t10 k0_h9 => k0_hw2.1.2.2.2.2.1 k0_t10 k0_h9
theorem k0_t11_ok : ∀ (i : grid0.Coords) (v2 : BitVec 32) (v113 : BitVec 1) (v119 : BitVec 1) (k0_hw2 : k0_chk2 i v2 v113 v119), ∀ (k0_h9 : k0_cond9 v113 v119 = 1#1), (k0_t11_loop i v2).OK := fun i v2 v113 v119 k0_hw2 k0_h9 => k0_hw2.1.2.2.2.2.2.1 k0_h9
theorem k0_mult227_dvd : ∀ (i : grid0.Coords) (v2 : BitVec 32) (v113 : BitVec 1) (v119 : BitVec 1) (k0_hw2 : k0_chk2 i v2 v113 v119) (k0_t11 : Fin (k0_t11_loop i v2).trips), ∀ (k0_h9 : k0_cond9 v113 v119 = 1#1), 256 ∣ (k0_mult227 i v2 k0_t11).toNat := fun i v2 v113 v119 k0_hw2 k0_t11 k0_h9 => k0_hw2.1.2.2.2.2.2.2.1 k0_t11 k0_h9
theorem k0_off279_inb : ∀ (i : grid0.Coords) (v2 : BitVec 32) (v113 : BitVec 1) (v119 : BitVec 1) (k0_hw2 : k0_chk2 i v2 v113 v119) (k0_t9 : Fin k0_t9_loop.trips) (k0_t11 : Fin (k0_t11_loop i v2).trips), ∀ (k0_h9 : k0_cond9 v113 v119 = 1#1), ∀ a, (k0_off279 i v2 k0_t9 k0_t11) a + S1x1x256x160.size a ≤ S6x2x2048x160.size a := fun i v2 v113 v119 k0_hw2 k0_t9 k0_t11 k0_h9 => k0_hw2.1.2.2.2.2.2.2.2.1 k0_t9 k0_t11 k0_h9
theorem k0_off281_inb : ∀ (i : grid0.Coords) (v2 : BitVec 32) (v113 : BitVec 1) (v119 : BitVec 1) (k0_hw2 : k0_chk2 i v2 v113 v119) (k0_t9 : Fin k0_t9_loop.trips) (k0_t11 : Fin (k0_t11_loop i v2).trips), ∀ (k0_h9 : k0_cond9 v113 v119 = 1#1), ∀ a, (k0_off281 i v2 k0_t9 k0_t11) a + S1x1x256x128.size a ≤ S6x2x2048x128.size a := fun i v2 v113 v119 k0_hw2 k0_t9 k0_t11 k0_h9 => k0_hw2.1.2.2.2.2.2.2.2.2.1 k0_t9 k0_t11 k0_h9
theorem k0_off282_inb : ∀ (i : grid0.Coords) (v2 : BitVec 32) (v113 : BitVec 1) (v119 : BitVec 1) (k0_hw2 : k0_chk2 i v2 v113 v119) (k0_t11 : Fin (k0_t11_loop i v2).trips), ∀ (k0_h9 : k0_cond9 v113 v119 = 1#1), ∀ a, (k0_off282 i v2 k0_t11) a + S1x1.size a ≤ S24x8.size a := fun i v2 v113 v119 k0_hw2 k0_t11 k0_h9 => k0_hw2.1.2.2.2.2.2.2.2.2.2.1 k0_t11 k0_h9
theorem k0_t12_ok : ∀ (i : grid0.Coords) (v2 : BitVec 32) (v113 : BitVec 1) (v119 : BitVec 1) (k0_hw2 : k0_chk2 i v2 v113 v119), ∀ (k0_h9 : k0_cond9 v113 v119 = 1#1), (k0_t12_loop i v2).OK := fun i v2 v113 v119 k0_hw2 k0_h9 => k0_hw2.1.2.2.2.2.2.2.2.2.2.2.1 k0_h9
theorem k0_mult228_dvd : ∀ (i : grid0.Coords) (v2 : BitVec 32) (v113 : BitVec 1) (v119 : BitVec 1) (k0_hw2 : k0_chk2 i v2 v113 v119) (k0_t12 : Fin (k0_t12_loop i v2).trips), ∀ (k0_h9 : k0_cond9 v113 v119 = 1#1), 256 ∣ (k0_mult228 i v2 k0_t12).toNat := fun i v2 v113 v119 k0_hw2 k0_t12 k0_h9 => k0_hw2.1.2.2.2.2.2.2.2.2.2.2.2.1 k0_t12 k0_h9
theorem k0_off284_inb : ∀ (i : grid0.Coords) (v2 : BitVec 32) (v113 : BitVec 1) (v119 : BitVec 1) (k0_hw2 : k0_chk2 i v2 v113 v119) (k0_t9 : Fin k0_t9_loop.trips) (k0_t12 : Fin (k0_t12_loop i v2).trips), ∀ (k0_h9 : k0_cond9 v113 v119 = 1#1), ∀ a, (k0_off284 i v2 k0_t9 k0_t12) a + S1x1x256x160.size a ≤ S6x2x2048x160.size a := fun i v2 v113 v119 k0_hw2 k0_t9 k0_t12 k0_h9 => k0_hw2.1.2.2.2.2.2.2.2.2.2.2.2.2.1 k0_t9 k0_t12 k0_h9
theorem k0_off286_inb : ∀ (i : grid0.Coords) (v2 : BitVec 32) (v113 : BitVec 1) (v119 : BitVec 1) (k0_hw2 : k0_chk2 i v2 v113 v119) (k0_t9 : Fin k0_t9_loop.trips) (k0_t12 : Fin (k0_t12_loop i v2).trips), ∀ (k0_h9 : k0_cond9 v113 v119 = 1#1), ∀ a, (k0_off286 i v2 k0_t9 k0_t12) a + S1x1x256x128.size a ≤ S6x2x2048x128.size a := fun i v2 v113 v119 k0_hw2 k0_t9 k0_t12 k0_h9 => k0_hw2.1.2.2.2.2.2.2.2.2.2.2.2.2.2.1 k0_t9 k0_t12 k0_h9
theorem k0_off287_inb : ∀ (i : grid0.Coords) (v2 : BitVec 32) (v113 : BitVec 1) (v119 : BitVec 1) (k0_hw2 : k0_chk2 i v2 v113 v119) (k0_t12 : Fin (k0_t12_loop i v2).trips), ∀ (k0_h9 : k0_cond9 v113 v119 = 1#1), ∀ a, (k0_off287 i v2 k0_t12) a + S1x1.size a ≤ S24x8.size a := fun i v2 v113 v119 k0_hw2 k0_t12 k0_h9 => k0_hw2.1.2.2.2.2.2.2.2.2.2.2.2.2.2.2.1 k0_t12 k0_h9
theorem k0_mult229_dvd : ∀ (i : grid0.Coords) (v2 : BitVec 32) (v113 : BitVec 1) (v119 : BitVec 1) (k0_hw2 : k0_chk2 i v2 v113 v119) (k0_t12 : Fin (k0_t12_loop i v2).trips), ∀ (k0_h9 : k0_cond9 v113 v119 = 1#1), 256 ∣ (k0_mult229 i v2 k0_t12).toNat := fun i v2 v113 v119 k0_hw2 k0_t12 k0_h9 => k0_hw2.1.2.2.2.2.2.2.2.2.2.2.2.2.2.2.2.1 k0_t12 k0_h9
theorem k0_off288_inb : ∀ (i : grid0.Coords) (v2 : BitVec 32) (v113 : BitVec 1) (v119 : BitVec 1) (k0_hw2 : k0_chk2 i v2 v113 v119) (k0_t12 : Fin (k0_t12_loop i v2).trips), ∀ (k0_h9 : k0_cond9 v113 v119 = 1#1), ∀ a, (k0_off288 i v2 k0_t12) a + S1x256x256.size a ≤ S2x2048x256.size a := fun i v2 v113 v119 k0_hw2 k0_t12 k0_h9 => k0_hw2.1.2.2.2.2.2.2.2.2.2.2.2.2.2.2.2.2.1 k0_t12 k0_h9
theorem k0_t13_ok : ∀ (i : grid0.Coords) (v2 : BitVec 32) (v113 : BitVec 1) (v119 : BitVec 1) (k0_hw2 : k0_chk2 i v2 v113 v119), ∀ (k0_h9 : k0_cond9 v113 v119 = 1#1), (k0_t13_loop i v2).OK := fun i v2 v113 v119 k0_hw2 k0_h9 => k0_hw2.1.2.2.2.2.2.2.2.2.2.2.2.2.2.2.2.2.2.1 k0_h9
theorem k0_mult230_dvd : ∀ (i : grid0.Coords) (v2 : BitVec 32) (v113 : BitVec 1) (v119 : BitVec 1) (k0_hw2 : k0_chk2 i v2 v113 v119) (k0_t13 : Fin (k0_t13_loop i v2).trips), ∀ (k0_h9 : k0_cond9 v113 v119 = 1#1), 256 ∣ (k0_mult230 i v2 k0_t13).toNat := fun i v2 v113 v119 k0_hw2 k0_t13 k0_h9 => k0_hw2.1.2.2.2.2.2.2.2.2.2.2.2.2.2.2.2.2.2.2.1 k0_t13 k0_h9
theorem k0_off290_inb : ∀ (i : grid0.Coords) (v2 : BitVec 32) (v113 : BitVec 1) (v119 : BitVec 1) (k0_hw2 : k0_chk2 i v2 v113 v119) (k0_t9 : Fin k0_t9_loop.trips) (k0_t13 : Fin (k0_t13_loop i v2).trips), ∀ (k0_h9 : k0_cond9 v113 v119 = 1#1), ∀ a, (k0_off290 i v2 k0_t9 k0_t13) a + S1x1x256x160.size a ≤ S6x2x2048x160.size a := fun i v2 v113 v119 k0_hw2 k0_t9 k0_t13 k0_h9 => k0_hw2.1.2.2.2.2.2.2.2.2.2.2.2.2.2.2.2.2.2.2.2.1 k0_t9 k0_t13 k0_h9
theorem k0_off292_inb : ∀ (i : grid0.Coords) (v2 : BitVec 32) (v113 : BitVec 1) (v119 : BitVec 1) (k0_hw2 : k0_chk2 i v2 v113 v119) (k0_t9 : Fin k0_t9_loop.trips) (k0_t13 : Fin (k0_t13_loop i v2).trips), ∀ (k0_h9 : k0_cond9 v113 v119 = 1#1), ∀ a, (k0_off292 i v2 k0_t9 k0_t13) a + S1x1x256x128.size a ≤ S6x2x2048x128.size a := fun i v2 v113 v119 k0_hw2 k0_t9 k0_t13 k0_h9 => k0_hw2.1.2.2.2.2.2.2.2.2.2.2.2.2.2.2.2.2.2.2.2.2.1 k0_t9 k0_t13 k0_h9
theorem k0_off293_inb : ∀ (i : grid0.Coords) (v2 : BitVec 32) (v113 : BitVec 1) (v119 : BitVec 1) (k0_hw2 : k0_chk2 i v2 v113 v119) (k0_t13 : Fin (k0_t13_loop i v2).trips), ∀ (k0_h9 : k0_cond9 v113 v119 = 1#1), ∀ a, (k0_off293 i v2 k0_t13) a + S1x1.size a ≤ S24x8.size a := fun i v2 v113 v119 k0_hw2 k0_t13 k0_h9 => k0_hw2.1.2.2.2.2.2.2.2.2.2.2.2.2.2.2.2.2.2.2.2.2.2.1 k0_t13 k0_h9
theorem k0_mult231_dvd : ∀ (i : grid0.Coords) (v2 : BitVec 32) (v113 : BitVec 1) (v119 : BitVec 1) (k0_hw2 : k0_chk2 i v2 v113 v119) (k0_t13 : Fin (k0_t13_loop i v2).trips), ∀ (k0_h9 : k0_cond9 v113 v119 = 1#1), 256 ∣ (k0_mult231 i v2 k0_t13).toNat := fun i v2 v113 v119 k0_hw2 k0_t13 k0_h9 => k0_hw2.1.2.2.2.2.2.2.2.2.2.2.2.2.2.2.2.2.2.2.2.2.2.2.1 k0_t13 k0_h9
theorem k0_off294_inb : ∀ (i : grid0.Coords) (v2 : BitVec 32) (v113 : BitVec 1) (v119 : BitVec 1) (k0_hw2 : k0_chk2 i v2 v113 v119) (k0_t13 : Fin (k0_t13_loop i v2).trips), ∀ (k0_h9 : k0_cond9 v113 v119 = 1#1), ∀ a, (k0_off294 i v2 k0_t13) a + S1x256x256.size a ≤ S2x2048x256.size a := fun i v2 v113 v119 k0_hw2 k0_t13 k0_h9 => k0_hw2.1.2.2.2.2.2.2.2.2.2.2.2.2.2.2.2.2.2.2.2.2.2.2.2.1 k0_t13 k0_h9
theorem k0_t14_ok : ∀ (i : grid0.Coords) (v2 : BitVec 32) (v113 : BitVec 1) (v119 : BitVec 1) (k0_hw2 : k0_chk2 i v2 v113 v119), ∀ (k0_h9 : k0_cond9 v113 v119 = 1#1), (k0_t14_loop i v2).OK := fun i v2 v113 v119 k0_hw2 k0_h9 => k0_hw2.1.2.2.2.2.2.2.2.2.2.2.2.2.2.2.2.2.2.2.2.2.2.2.2.2.1 k0_h9
theorem k0_mult232_dvd : ∀ (i : grid0.Coords) (v2 : BitVec 32) (v113 : BitVec 1) (v119 : BitVec 1) (k0_hw2 : k0_chk2 i v2 v113 v119) (k0_t14 : Fin (k0_t14_loop i v2).trips), ∀ (k0_h9 : k0_cond9 v113 v119 = 1#1), 256 ∣ (k0_mult232 i v2 k0_t14).toNat := fun i v2 v113 v119 k0_hw2 k0_t14 k0_h9 => k0_hw2.1.2.2.2.2.2.2.2.2.2.2.2.2.2.2.2.2.2.2.2.2.2.2.2.2.2.1 k0_t14 k0_h9
theorem k0_off296_inb : ∀ (i : grid0.Coords) (v2 : BitVec 32) (v113 : BitVec 1) (v119 : BitVec 1) (k0_hw2 : k0_chk2 i v2 v113 v119) (k0_t9 : Fin k0_t9_loop.trips) (k0_t14 : Fin (k0_t14_loop i v2).trips), ∀ (k0_h9 : k0_cond9 v113 v119 = 1#1), ∀ a, (k0_off296 i v2 k0_t9 k0_t14) a + S1x1x256x160.size a ≤ S6x2x2048x160.size a := fun i v2 v113 v119 k0_hw2 k0_t9 k0_t14 k0_h9 => k0_hw2.1.2.2.2.2.2.2.2.2.2.2.2.2.2.2.2.2.2.2.2.2.2.2.2.2.2.2.1 k0_t9 k0_t14 k0_h9
theorem k0_off298_inb : ∀ (i : grid0.Coords) (v2 : BitVec 32) (v113 : BitVec 1) (v119 : BitVec 1) (k0_hw2 : k0_chk2 i v2 v113 v119) (k0_t9 : Fin k0_t9_loop.trips) (k0_t14 : Fin (k0_t14_loop i v2).trips), ∀ (k0_h9 : k0_cond9 v113 v119 = 1#1), ∀ a, (k0_off298 i v2 k0_t9 k0_t14) a + S1x1x256x128.size a ≤ S6x2x2048x128.size a := fun i v2 v113 v119 k0_hw2 k0_t9 k0_t14 k0_h9 => k0_hw2.1.2.2.2.2.2.2.2.2.2.2.2.2.2.2.2.2.2.2.2.2.2.2.2.2.2.2.2.1 k0_t9 k0_t14 k0_h9
theorem k0_off299_inb : ∀ (i : grid0.Coords) (v2 : BitVec 32) (v113 : BitVec 1) (v119 : BitVec 1) (k0_hw2 : k0_chk2 i v2 v113 v119) (k0_t14 : Fin (k0_t14_loop i v2).trips), ∀ (k0_h9 : k0_cond9 v113 v119 = 1#1), ∀ a, (k0_off299 i v2 k0_t14) a + S1x1.size a ≤ S24x8.size a := fun i v2 v113 v119 k0_hw2 k0_t14 k0_h9 => k0_hw2.1.2.2.2.2.2.2.2.2.2.2.2.2.2.2.2.2.2.2.2.2.2.2.2.2.2.2.2.2.1 k0_t14 k0_h9
theorem k0_t15_ok : ∀ (i : grid0.Coords) (v2 : BitVec 32) (v113 : BitVec 1) (v119 : BitVec 1) (k0_hw2 : k0_chk2 i v2 v113 v119), ∀ (k0_h9 : k0_cond9 v113 v119 = 1#1), (k0_t15_loop i v2).OK := fun i v2 v113 v119 k0_hw2 k0_h9 => k0_hw2.1.2.2.2.2.2.2.2.2.2.2.2.2.2.2.2.2.2.2.2.2.2.2.2.2.2.2.2.2.2.1 k0_h9
theorem k0_mult233_dvd : ∀ (i : grid0.Coords) (v2 : BitVec 32) (v113 : BitVec 1) (v119 : BitVec 1) (k0_hw2 : k0_chk2 i v2 v113 v119) (k0_t15 : Fin (k0_t15_loop i v2).trips), ∀ (k0_h9 : k0_cond9 v113 v119 = 1#1), 256 ∣ (k0_mult233 i v2 k0_t15).toNat := fun i v2 v113 v119 k0_hw2 k0_t15 k0_h9 => k0_hw2.1.2.2.2.2.2.2.2.2.2.2.2.2.2.2.2.2.2.2.2.2.2.2.2.2.2.2.2.2.2.2.1 k0_t15 k0_h9
theorem k0_off301_inb : ∀ (i : grid0.Coords) (v2 : BitVec 32) (v113 : BitVec 1) (v119 : BitVec 1) (k0_hw2 : k0_chk2 i v2 v113 v119) (k0_t9 : Fin k0_t9_loop.trips) (k0_t15 : Fin (k0_t15_loop i v2).trips), ∀ (k0_h9 : k0_cond9 v113 v119 = 1#1), ∀ a, (k0_off301 i v2 k0_t9 k0_t15) a + S1x1x256x160.size a ≤ S6x2x2048x160.size a := fun i v2 v113 v119 k0_hw2 k0_t9 k0_t15 k0_h9 => k0_hw2.1.2.2.2.2.2.2.2.2.2.2.2.2.2.2.2.2.2.2.2.2.2.2.2.2.2.2.2.2.2.2.2 k0_t9 k0_t15 k0_h9
theorem k0_off303_inb : ∀ (i : grid0.Coords) (v2 : BitVec 32) (v113 : BitVec 1) (v119 : BitVec 1) (k0_hw2 : k0_chk2 i v2 v113 v119) (k0_t9 : Fin k0_t9_loop.trips) (k0_t15 : Fin (k0_t15_loop i v2).trips), ∀ (k0_h9 : k0_cond9 v113 v119 = 1#1), ∀ a, (k0_off303 i v2 k0_t9 k0_t15) a + S1x1x256x128.size a ≤ S6x2x2048x128.size a := fun i v2 v113 v119 k0_hw2 k0_t9 k0_t15 k0_h9 => k0_hw2.2.1.1 k0_t9 k0_t15 k0_h9
theorem k0_off304_inb : ∀ (i : grid0.Coords) (v2 : BitVec 32) (v113 : BitVec 1) (v119 : BitVec 1) (k0_hw2 : k0_chk2 i v2 v113 v119) (k0_t15 : Fin (k0_t15_loop i v2).trips), ∀ (k0_h9 : k0_cond9 v113 v119 = 1#1), ∀ a, (k0_off304 i v2 k0_t15) a + S1x1.size a ≤ S24x8.size a := fun i v2 v113 v119 k0_hw2 k0_t15 k0_h9 => k0_hw2.2.1.2.1 k0_t15 k0_h9
theorem k0_t16_ok : ∀ (i : grid0.Coords) (v2 : BitVec 32) (v113 : BitVec 1) (v119 : BitVec 1) (k0_hw2 : k0_chk2 i v2 v113 v119), ∀ (k0_h9 : k0_cond9 v113 v119 = 1#1), (k0_t16_loop i v2).OK := fun i v2 v113 v119 k0_hw2 k0_h9 => k0_hw2.2.1.2.2.1 k0_h9
theorem k0_mult234_dvd : ∀ (i : grid0.Coords) (v2 : BitVec 32) (v113 : BitVec 1) (v119 : BitVec 1) (k0_hw2 : k0_chk2 i v2 v113 v119) (k0_t16 : Fin (k0_t16_loop i v2).trips), ∀ (k0_h9 : k0_cond9 v113 v119 = 1#1), 256 ∣ (k0_mult234 i v2 k0_t16).toNat := fun i v2 v113 v119 k0_hw2 k0_t16 k0_h9 => k0_hw2.2.1.2.2.2.1 k0_t16 k0_h9
theorem k0_off306_inb : ∀ (i : grid0.Coords) (v2 : BitVec 32) (v113 : BitVec 1) (v119 : BitVec 1) (k0_hw2 : k0_chk2 i v2 v113 v119) (k0_t9 : Fin k0_t9_loop.trips) (k0_t16 : Fin (k0_t16_loop i v2).trips), ∀ (k0_h9 : k0_cond9 v113 v119 = 1#1), ∀ a, (k0_off306 i v2 k0_t9 k0_t16) a + S1x1x256x160.size a ≤ S6x2x2048x160.size a := fun i v2 v113 v119 k0_hw2 k0_t9 k0_t16 k0_h9 => k0_hw2.2.1.2.2.2.2.1 k0_t9 k0_t16 k0_h9
theorem k0_off308_inb : ∀ (i : grid0.Coords) (v2 : BitVec 32) (v113 : BitVec 1) (v119 : BitVec 1) (k0_hw2 : k0_chk2 i v2 v113 v119) (k0_t9 : Fin k0_t9_loop.trips) (k0_t16 : Fin (k0_t16_loop i v2).trips), ∀ (k0_h9 : k0_cond9 v113 v119 = 1#1), ∀ a, (k0_off308 i v2 k0_t9 k0_t16) a + S1x1x256x128.size a ≤ S6x2x2048x128.size a := fun i v2 v113 v119 k0_hw2 k0_t9 k0_t16 k0_h9 => k0_hw2.2.1.2.2.2.2.2.1 k0_t9 k0_t16 k0_h9
theorem k0_off309_inb : ∀ (i : grid0.Coords) (v2 : BitVec 32) (v113 : BitVec 1) (v119 : BitVec 1) (k0_hw2 : k0_chk2 i v2 v113 v119) (k0_t16 : Fin (k0_t16_loop i v2).trips), ∀ (k0_h9 : k0_cond9 v113 v119 = 1#1), ∀ a, (k0_off309 i v2 k0_t16) a + S1x1.size a ≤ S24x8.size a := fun i v2 v113 v119 k0_hw2 k0_t16 k0_h9 => k0_hw2.2.1.2.2.2.2.2.2.1 k0_t16 k0_h9
theorem k0_mult235_dvd : ∀ (i : grid0.Coords) (v2 : BitVec 32) (v113 : BitVec 1) (v119 : BitVec 1) (k0_hw2 : k0_chk2 i v2 v113 v119) (k0_t16 : Fin (k0_t16_loop i v2).trips), ∀ (k0_h9 : k0_cond9 v113 v119 = 1#1), 256 ∣ (k0_mult235 i v2 k0_t16).toNat := fun i v2 v113 v119 k0_hw2 k0_t16 k0_h9 => k0_hw2.2.1.2.2.2.2.2.2.2.1 k0_t16 k0_h9
theorem k0_off310_inb : ∀ (i : grid0.Coords) (v2 : BitVec 32) (v113 : BitVec 1) (v119 : BitVec 1) (k0_hw2 : k0_chk2 i v2 v113 v119) (k0_t16 : Fin (k0_t16_loop i v2).trips), ∀ (k0_h9 : k0_cond9 v113 v119 = 1#1), ∀ a, (k0_off310 i v2 k0_t16) a + S1x256x256.size a ≤ S2x2048x256.size a := fun i v2 v113 v119 k0_hw2 k0_t16 k0_h9 => k0_hw2.2.1.2.2.2.2.2.2.2.2.1 k0_t16 k0_h9
theorem k0_t17_ok : ∀ (i : grid0.Coords) (v2 : BitVec 32) (v113 : BitVec 1) (v119 : BitVec 1) (k0_hw2 : k0_chk2 i v2 v113 v119), ∀ (k0_h9 : k0_cond9 v113 v119 = 1#1), (k0_t17_loop i v2).OK := fun i v2 v113 v119 k0_hw2 k0_h9 => k0_hw2.2.1.2.2.2.2.2.2.2.2.2.1 k0_h9
theorem k0_mult236_dvd : ∀ (i : grid0.Coords) (v2 : BitVec 32) (v113 : BitVec 1) (v119 : BitVec 1) (k0_hw2 : k0_chk2 i v2 v113 v119) (k0_t17 : Fin (k0_t17_loop i v2).trips), ∀ (k0_h9 : k0_cond9 v113 v119 = 1#1), 256 ∣ (k0_mult236 i v2 k0_t17).toNat := fun i v2 v113 v119 k0_hw2 k0_t17 k0_h9 => k0_hw2.2.1.2.2.2.2.2.2.2.2.2.2.1 k0_t17 k0_h9
theorem k0_off312_inb : ∀ (i : grid0.Coords) (v2 : BitVec 32) (v113 : BitVec 1) (v119 : BitVec 1) (k0_hw2 : k0_chk2 i v2 v113 v119) (k0_t9 : Fin k0_t9_loop.trips) (k0_t17 : Fin (k0_t17_loop i v2).trips), ∀ (k0_h9 : k0_cond9 v113 v119 = 1#1), ∀ a, (k0_off312 i v2 k0_t9 k0_t17) a + S1x1x256x160.size a ≤ S6x2x2048x160.size a := fun i v2 v113 v119 k0_hw2 k0_t9 k0_t17 k0_h9 => k0_hw2.2.1.2.2.2.2.2.2.2.2.2.2.2.1 k0_t9 k0_t17 k0_h9
theorem k0_off314_inb : ∀ (i : grid0.Coords) (v2 : BitVec 32) (v113 : BitVec 1) (v119 : BitVec 1) (k0_hw2 : k0_chk2 i v2 v113 v119) (k0_t9 : Fin k0_t9_loop.trips) (k0_t17 : Fin (k0_t17_loop i v2).trips), ∀ (k0_h9 : k0_cond9 v113 v119 = 1#1), ∀ a, (k0_off314 i v2 k0_t9 k0_t17) a + S1x1x256x128.size a ≤ S6x2x2048x128.size a := fun i v2 v113 v119 k0_hw2 k0_t9 k0_t17 k0_h9 => k0_hw2.2.1.2.2.2.2.2.2.2.2.2.2.2.2.1 k0_t9 k0_t17 k0_h9
theorem k0_off315_inb : ∀ (i : grid0.Coords) (v2 : BitVec 32) (v113 : BitVec 1) (v119 : BitVec 1) (k0_hw2 : k0_chk2 i v2 v113 v119) (k0_t17 : Fin (k0_t17_loop i v2).trips), ∀ (k0_h9 : k0_cond9 v113 v119 = 1#1), ∀ a, (k0_off315 i v2 k0_t17) a + S1x1.size a ≤ S24x8.size a := fun i v2 v113 v119 k0_hw2 k0_t17 k0_h9 => k0_hw2.2.1.2.2.2.2.2.2.2.2.2.2.2.2.2.1 k0_t17 k0_h9
theorem k0_mult237_dvd : ∀ (i : grid0.Coords) (v2 : BitVec 32) (v113 : BitVec 1) (v119 : BitVec 1) (k0_hw2 : k0_chk2 i v2 v113 v119) (k0_t17 : Fin (k0_t17_loop i v2).trips), ∀ (k0_h9 : k0_cond9 v113 v119 = 1#1), 256 ∣ (k0_mult237 i v2 k0_t17).toNat := fun i v2 v113 v119 k0_hw2 k0_t17 k0_h9 => k0_hw2.2.1.2.2.2.2.2.2.2.2.2.2.2.2.2.2.1 k0_t17 k0_h9
theorem k0_off316_inb : ∀ (i : grid0.Coords) (v2 : BitVec 32) (v113 : BitVec 1) (v119 : BitVec 1) (k0_hw2 : k0_chk2 i v2 v113 v119) (k0_t17 : Fin (k0_t17_loop i v2).trips), ∀ (k0_h9 : k0_cond9 v113 v119 = 1#1), ∀ a, (k0_off316 i v2 k0_t17) a + S1x256x256.size a ≤ S2x2048x256.size a := fun i v2 v113 v119 k0_hw2 k0_t17 k0_h9 => k0_hw2.2.1.2.2.2.2.2.2.2.2.2.2.2.2.2.2.2.1 k0_t17 k0_h9
theorem k0_t18_ok : ∀ (i : grid0.Coords) (v2 : BitVec 32) (v113 : BitVec 1) (v119 : BitVec 1) (k0_hw2 : k0_chk2 i v2 v113 v119), ∀ (k0_h9 : k0_cond9 v113 v119 = 1#1), (k0_t18_loop i v2).OK := fun i v2 v113 v119 k0_hw2 k0_h9 => k0_hw2.2.1.2.2.2.2.2.2.2.2.2.2.2.2.2.2.2.2.1 k0_h9
theorem k0_mult238_dvd : ∀ (i : grid0.Coords) (v2 : BitVec 32) (v113 : BitVec 1) (v119 : BitVec 1) (k0_hw2 : k0_chk2 i v2 v113 v119) (k0_t18 : Fin (k0_t18_loop i v2).trips), ∀ (k0_h9 : k0_cond9 v113 v119 = 1#1), 256 ∣ (k0_mult238 i v2 k0_t18).toNat := fun i v2 v113 v119 k0_hw2 k0_t18 k0_h9 => k0_hw2.2.1.2.2.2.2.2.2.2.2.2.2.2.2.2.2.2.2.2.1 k0_t18 k0_h9
theorem k0_mult239_dvd : ∀ (i : grid0.Coords) (v2 : BitVec 32) (v113 : BitVec 1) (v119 : BitVec 1) (k0_hw2 : k0_chk2 i v2 v113 v119) (k0_t18 : Fin (k0_t18_loop i v2).trips), ∀ (k0_h9 : k0_cond9 v113 v119 = 1#1), 256 ∣ (k0_mult239 i v2 k0_t18).toNat := fun i v2 v113 v119 k0_hw2 k0_t18 k0_h9 => k0_hw2.2.1.2.2.2.2.2.2.2.2.2.2.2.2.2.2.2.2.2.2.1 k0_t18 k0_h9
theorem k0_off317_inb : ∀ (i : grid0.Coords) (v2 : BitVec 32) (v113 : BitVec 1) (v119 : BitVec 1) (k0_hw2 : k0_chk2 i v2 v113 v119) (k0_t18 : Fin (k0_t18_loop i v2).trips), ∀ (k0_h9 : k0_cond9 v113 v119 = 1#1), ∀ a, (k0_off317 i v2 k0_t18) a + S1x256x256.size a ≤ S2x2048x256.size a := fun i v2 v113 v119 k0_hw2 k0_t18 k0_h9 => k0_hw2.2.1.2.2.2.2.2.2.2.2.2.2.2.2.2.2.2.2.2.2.2.1 k0_t18 k0_h9
theorem k0_off318_inb : ∀ (i : grid0.Coords) (v2 : BitVec 32) (v113 : BitVec 1) (v119 : BitVec 1) (k0_hw2 : k0_chk2 i v2 v113 v119) (k0_t18 : Fin (k0_t18_loop i v2).trips), ∀ (k0_h9 : k0_cond9 v113 v119 = 1#1), ∀ a, (k0_off318 i v2 k0_t18) a + S1x256x256.size a ≤ S2x2048x256.size a := fun i v2 v113 v119 k0_hw2 k0_t18 k0_h9 => k0_hw2.2.1.2.2.2.2.2.2.2.2.2.2.2.2.2.2.2.2.2.2.2.2.1 k0_t18 k0_h9
theorem k0_off319_inb : ∀ (i : grid0.Coords) (v2 : BitVec 32) (v113 : BitVec 1) (v119 : BitVec 1) (k0_hw2 : k0_chk2 i v2 v113 v119) (k0_t9 : Fin k0_t9_loop.trips) (k0_t18 : Fin (k0_t18_loop i v2).trips), ∀ (k0_h9 : k0_cond9 v113 v119 = 1#1), ∀ a, (k0_off319 i v2 k0_t9 k0_t18) a + S1x320x256.size a ≤ S6x320x2048.size a := fun i v2 v113 v119 k0_hw2 k0_t9 k0_t18 k0_h9 => k0_hw2.2.1.2.2.2.2.2.2.2.2.2.2.2.2.2.2.2.2.2.2.2.2.2.1 k0_t9 k0_t18 k0_h9
theorem k0_t19_ok : ∀ (i : grid0.Coords) (v2 : BitVec 32) (v113 : BitVec 1) (v119 : BitVec 1) (k0_hw2 : k0_chk2 i v2 v113 v119), ∀ (k0_h9 : k0_cond9 v113 v119 = 1#1), (k0_t19_loop i v2).OK := fun i v2 v113 v119 k0_hw2 k0_h9 => k0_hw2.2.1.2.2.2.2.2.2.2.2.2.2.2.2.2.2.2.2.2.2.2.2.2.2.1 k0_h9
theorem k0_mult240_dvd : ∀ (i : grid0.Coords) (v2 : BitVec 32) (v113 : BitVec 1) (v119 : BitVec 1) (k0_hw2 : k0_chk2 i v2 v113 v119) (k0_t19 : Fin (k0_t19_loop i v2).trips), ∀ (k0_h9 : k0_cond9 v113 v119 = 1#1), 256 ∣ (k0_mult240 i v2 k0_t19).toNat := fun i v2 v113 v119 k0_hw2 k0_t19 k0_h9 => k0_hw2.2.1.2.2.2.2.2.2.2.2.2.2.2.2.2.2.2.2.2.2.2.2.2.2.2.1 k0_t19 k0_h9
theorem k0_mult241_dvd : ∀ (i : grid0.Coords) (v2 : BitVec 32) (v113 : BitVec 1) (v119 : BitVec 1) (k0_hw2 : k0_chk2 i v2 v113 v119) (k0_t19 : Fin (k0_t19_loop i v2).trips), ∀ (k0_h9 : k0_cond9 v113 v119 = 1#1), 256 ∣ (k0_mult241 i v2 k0_t19).toNat := fun i v2 v113 v119 k0_hw2 k0_t19 k0_h9 => k0_hw2.2.1.2.2.2.2.2.2.2.2.2.2.2.2.2.2.2.2.2.2.2.2.2.2.2.2.1 k0_t19 k0_h9
theorem k0_off320_inb : ∀ (i : grid0.Coords) (v2 : BitVec 32) (v113 : BitVec 1) (v119 : BitVec 1) (k0_hw2 : k0_chk2 i v2 v113 v119) (k0_t19 : Fin (k0_t19_loop i v2).trips), ∀ (k0_h9 : k0_cond9 v113 v119 = 1#1), ∀ a, (k0_off320 i v2 k0_t19) a + S1x256x256.size a ≤ S2x2048x256.size a := fun i v2 v113 v119 k0_hw2 k0_t19 k0_h9 => k0_hw2.2.1.2.2.2.2.2.2.2.2.2.2.2.2.2.2.2.2.2.2.2.2.2.2.2.2.2.1 k0_t19 k0_h9
theorem k0_off321_inb : ∀ (i : grid0.Coords) (v2 : BitVec 32) (v113 : BitVec 1) (v119 : BitVec 1) (k0_hw2 : k0_chk2 i v2 v113 v119) (k0_t19 : Fin (k0_t19_loop i v2).trips), ∀ (k0_h9 : k0_cond9 v113 v119 = 1#1), ∀ a, (k0_off321 i v2 k0_t19) a + S1x256x256.size a ≤ S2x2048x256.size a := fun i v2 v113 v119 k0_hw2 k0_t19 k0_h9 => k0_hw2.2.1.2.2.2.2.2.2.2.2.2.2.2.2.2.2.2.2.2.2.2.2.2.2.2.2.2.2.1 k0_t19 k0_h9
theorem k0_off322_inb : ∀ (i : grid0.Coords) (v2 : BitVec 32) (v113 : BitVec 1) (v119 : BitVec 1) (k0_hw2 : k0_chk2 i v2 v113 v119) (k0_t9 : Fin k0_t9_loop.trips) (k0_t19 : Fin (k0_t19_loop i v2).trips), ∀ (k0_h9 : k0_cond9 v113 v119 = 1#1), ∀ a, (k0_off322 i v2 k0_t9 k0_t19) a + S1x320x256.size a ≤ S6x320x2048.size a := fun i v2 v113 v119 k0_hw2 k0_t9 k0_t19 k0_h9 => k0_hw2.2.1.2.2.2.2.2.2.2.2.2.2.2.2.2.2.2.2.2.2.2.2.2.2.2.2.2.2.2.1 k0_t9 k0_t19 k0_h9
theorem k0_t20_ok : ∀ (i : grid0.Coords) (v2 : BitVec 32) (v113 : BitVec 1) (v119 : BitVec 1) (k0_hw2 : k0_chk2 i v2 v113 v119), ∀ (k0_h9 : k0_cond9 v113 v119 = 1#1), (k0_t20_loop i v2).OK := fun i v2 v113 v119 k0_hw2 k0_h9 => k0_hw2.2.1.2.2.2.2.2.2.2.2.2.2.2.2.2.2.2.2.2.2.2.2.2.2.2.2.2.2.2.2.1 k0_h9
theorem k0_mult242_dvd : ∀ (i : grid0.Coords) (v2 : BitVec 32) (v113 : BitVec 1) (v119 : BitVec 1) (k0_hw2 : k0_chk2 i v2 v113 v119) (k0_t20 : Fin (k0_t20_loop i v2).trips), ∀ (k0_h9 : k0_cond9 v113 v119 = 1#1), 256 ∣ (k0_mult242 i v2 k0_t20).toNat := fun i v2 v113 v119 k0_hw2 k0_t20 k0_h9 => k0_hw2.2.1.2.2.2.2.2.2.2.2.2.2.2.2.2.2.2.2.2.2.2.2.2.2.2.2.2.2.2.2.2.1 k0_t20 k0_h9
theorem k0_off325_inb : ∀ (i : grid0.Coords) (v2 : BitVec 32) (v113 : BitVec 1) (v119 : BitVec 1) (k0_hw2 : k0_chk2 i v2 v113 v119) (k0_t9 : Fin k0_t9_loop.trips) (k0_t20 : Fin (k0_t20_loop i v2).trips), ∀ (k0_h9 : k0_cond9 v113 v119 = 1#1), ∀ a, (k0_off325 i v2 k0_t9 k0_t20) a + S1x1x256x160.size a ≤ S6x2x2048x160.size a := fun i v2 v113 v119 k0_hw2 k0_t9 k0_t20 k0_h9 => k0_hw2.2.1.2.2.2.2.2.2.2.2.2.2.2.2.2.2.2.2.2.2.2.2.2.2.2.2.2.2.2.2.2.2.1 k0_t9 k0_t20 k0_h9
theorem k0_off327_inb : ∀ (i : grid0.Coords) (v2 : BitVec 32) (v113 : BitVec 1) (v119 : BitVec 1) (k0_hw2 : k0_chk2 i v2 v113 v119) (k0_t9 : Fin k0_t9_loop.trips) (k0_t20 : Fin (k0_t20_loop i v2).trips), ∀ (k0_h9 : k0_cond9 v113 v119 = 1#1), ∀ a, (k0_off327 i v2 k0_t9 k0_t20) a + S1x1x256x128.size a ≤ S6x2x2048x128.size a := fun i v2 v113 v119 k0_hw2 k0_t9 k0_t20 k0_h9 => k0_hw2.2.1.2.2.2.2.2.2.2.2.2.2.2.2.2.2.2.2.2.2.2.2.2.2.2.2.2.2.2.2.2.2.2 k0_t9 k0_t20 k0_h9
theorem k0_off328_inb : ∀ (i : grid0.Coords) (v2 : BitVec 32) (v113 : BitVec 1) (v119 : BitVec 1) (k0_hw2 : k0_chk2 i v2 v113 v119) (k0_t20 : Fin (k0_t20_loop i v2).trips), ∀ (k0_h9 : k0_cond9 v113 v119 = 1#1), ∀ a, (k0_off328 i v2 k0_t20) a + S1x1.size a ≤ S24x8.size a := fun i v2 v113 v119 k0_hw2 k0_t20 k0_h9 => k0_hw2.2.2.1.1 k0_t20 k0_h9
theorem k0_t21_ok : ∀ (i : grid0.Coords) (v2 : BitVec 32) (v113 : BitVec 1) (v119 : BitVec 1) (k0_hw2 : k0_chk2 i v2 v113 v119), ∀ (k0_h9 : k0_cond9 v113 v119 = 1#1), (k0_t21_loop i v2).OK := fun i v2 v113 v119 k0_hw2 k0_h9 => k0_hw2.2.2.1.2.1 k0_h9
theorem k0_mult243_dvd : ∀ (i : grid0.Coords) (v2 : BitVec 32) (v113 : BitVec 1) (v119 : BitVec 1) (k0_hw2 : k0_chk2 i v2 v113 v119) (k0_t21 : Fin (k0_t21_loop i v2).trips), ∀ (k0_h9 : k0_cond9 v113 v119 = 1#1), 256 ∣ (k0_mult243 i v2 k0_t21).toNat := fun i v2 v113 v119 k0_hw2 k0_t21 k0_h9 => k0_hw2.2.2.1.2.2.1 k0_t21 k0_h9
theorem k0_off330_inb : ∀ (i : grid0.Coords) (v2 : BitVec 32) (v113 : BitVec 1) (v119 : BitVec 1) (k0_hw2 : k0_chk2 i v2 v113 v119) (k0_t9 : Fin k0_t9_loop.trips) (k0_t21 : Fin (k0_t21_loop i v2).trips), ∀ (k0_h9 : k0_cond9 v113 v119 = 1#1), ∀ a, (k0_off330 i v2 k0_t9 k0_t21) a + S1x1x256x160.size a ≤ S6x2x2048x160.size a := fun i v2 v113 v119 k0_hw2 k0_t9 k0_t21 k0_h9 => k0_hw2.2.2.1.2.2.2.1 k0_t9 k0_t21 k0_h9
theorem k0_off332_inb : ∀ (i : grid0.Coords) (v2 : BitVec 32) (v113 : BitVec 1) (v119 : BitVec 1) (k0_hw2 : k0_chk2 i v2 v113 v119) (k0_t9 : Fin k0_t9_loop.trips) (k0_t21 : Fin (k0_t21_loop i v2).trips), ∀ (k0_h9 : k0_cond9 v113 v119 = 1#1), ∀ a, (k0_off332 i v2 k0_t9 k0_t21) a + S1x1x256x128.size a ≤ S6x2x2048x128.size a := fun i v2 v113 v119 k0_hw2 k0_t9 k0_t21 k0_h9 => k0_hw2.2.2.1.2.2.2.2.1 k0_t9 k0_t21 k0_h9
theorem k0_off333_inb : ∀ (i : grid0.Coords) (v2 : BitVec 32) (v113 : BitVec 1) (v119 : BitVec 1) (k0_hw2 : k0_chk2 i v2 v113 v119) (k0_t21 : Fin (k0_t21_loop i v2).trips), ∀ (k0_h9 : k0_cond9 v113 v119 = 1#1), ∀ a, (k0_off333 i v2 k0_t21) a + S1x1.size a ≤ S24x8.size a := fun i v2 v113 v119 k0_hw2 k0_t21 k0_h9 => k0_hw2.2.2.1.2.2.2.2.2.1 k0_t21 k0_h9
theorem k0_t22_ok : ∀ (i : grid0.Coords) (v2 : BitVec 32) (v113 : BitVec 1) (v119 : BitVec 1) (k0_hw2 : k0_chk2 i v2 v113 v119), ∀ (k0_h9 : k0_cond9 v113 v119 = 1#1), (k0_t22_loop i v2).OK := fun i v2 v113 v119 k0_hw2 k0_h9 => k0_hw2.2.2.1.2.2.2.2.2.2.1 k0_h9
theorem k0_mult244_dvd : ∀ (i : grid0.Coords) (v2 : BitVec 32) (v113 : BitVec 1) (v119 : BitVec 1) (k0_hw2 : k0_chk2 i v2 v113 v119) (k0_t22 : Fin (k0_t22_loop i v2).trips), ∀ (k0_h9 : k0_cond9 v113 v119 = 1#1), 256 ∣ (k0_mult244 i v2 k0_t22).toNat := fun i v2 v113 v119 k0_hw2 k0_t22 k0_h9 => k0_hw2.2.2.1.2.2.2.2.2.2.2.1 k0_t22 k0_h9
theorem k0_off335_inb : ∀ (i : grid0.Coords) (v2 : BitVec 32) (v113 : BitVec 1) (v119 : BitVec 1) (k0_hw2 : k0_chk2 i v2 v113 v119) (k0_t9 : Fin k0_t9_loop.trips) (k0_t22 : Fin (k0_t22_loop i v2).trips), ∀ (k0_h9 : k0_cond9 v113 v119 = 1#1), ∀ a, (k0_off335 i v2 k0_t9 k0_t22) a + S1x1x256x160.size a ≤ S6x2x2048x160.size a := fun i v2 v113 v119 k0_hw2 k0_t9 k0_t22 k0_h9 => k0_hw2.2.2.1.2.2.2.2.2.2.2.2.1 k0_t9 k0_t22 k0_h9
theorem k0_off337_inb : ∀ (i : grid0.Coords) (v2 : BitVec 32) (v113 : BitVec 1) (v119 : BitVec 1) (k0_hw2 : k0_chk2 i v2 v113 v119) (k0_t9 : Fin k0_t9_loop.trips) (k0_t22 : Fin (k0_t22_loop i v2).trips), ∀ (k0_h9 : k0_cond9 v113 v119 = 1#1), ∀ a, (k0_off337 i v2 k0_t9 k0_t22) a + S1x1x256x128.size a ≤ S6x2x2048x128.size a := fun i v2 v113 v119 k0_hw2 k0_t9 k0_t22 k0_h9 => k0_hw2.2.2.1.2.2.2.2.2.2.2.2.2.1 k0_t9 k0_t22 k0_h9
theorem k0_off338_inb : ∀ (i : grid0.Coords) (v2 : BitVec 32) (v113 : BitVec 1) (v119 : BitVec 1) (k0_hw2 : k0_chk2 i v2 v113 v119) (k0_t22 : Fin (k0_t22_loop i v2).trips), ∀ (k0_h9 : k0_cond9 v113 v119 = 1#1), ∀ a, (k0_off338 i v2 k0_t22) a + S1x1.size a ≤ S24x8.size a := fun i v2 v113 v119 k0_hw2 k0_t22 k0_h9 => k0_hw2.2.2.1.2.2.2.2.2.2.2.2.2.2.1 k0_t22 k0_h9
theorem k0_mult245_dvd : ∀ (i : grid0.Coords) (v2 : BitVec 32) (v113 : BitVec 1) (v119 : BitVec 1) (k0_hw2 : k0_chk2 i v2 v113 v119) (k0_t22 : Fin (k0_t22_loop i v2).trips), ∀ (k0_h9 : k0_cond9 v113 v119 = 1#1), 256 ∣ (k0_mult245 i v2 k0_t22).toNat := fun i v2 v113 v119 k0_hw2 k0_t22 k0_h9 => k0_hw2.2.2.1.2.2.2.2.2.2.2.2.2.2.2.1 k0_t22 k0_h9
theorem k0_off339_inb : ∀ (i : grid0.Coords) (v2 : BitVec 32) (v113 : BitVec 1) (v119 : BitVec 1) (k0_hw2 : k0_chk2 i v2 v113 v119) (k0_t22 : Fin (k0_t22_loop i v2).trips), ∀ (k0_h9 : k0_cond9 v113 v119 = 1#1), ∀ a, (k0_off339 i v2 k0_t22) a + S1x256x256.size a ≤ S2x2048x256.size a := fun i v2 v113 v119 k0_hw2 k0_t22 k0_h9 => k0_hw2.2.2.1.2.2.2.2.2.2.2.2.2.2.2.2.1 k0_t22 k0_h9
theorem k0_t23_ok : ∀ (i : grid0.Coords) (v2 : BitVec 32) (v113 : BitVec 1) (v119 : BitVec 1) (k0_hw2 : k0_chk2 i v2 v113 v119), ∀ (k0_h9 : k0_cond9 v113 v119 = 1#1), (k0_t23_loop i v2).OK := fun i v2 v113 v119 k0_hw2 k0_h9 => k0_hw2.2.2.1.2.2.2.2.2.2.2.2.2.2.2.2.2.1 k0_h9
theorem k0_mult246_dvd : ∀ (i : grid0.Coords) (v2 : BitVec 32) (v113 : BitVec 1) (v119 : BitVec 1) (k0_hw2 : k0_chk2 i v2 v113 v119) (k0_t23 : Fin (k0_t23_loop i v2).trips), ∀ (k0_h9 : k0_cond9 v113 v119 = 1#1), 256 ∣ (k0_mult246 i v2 k0_t23).toNat := fun i v2 v113 v119 k0_hw2 k0_t23 k0_h9 => k0_hw2.2.2.1.2.2.2.2.2.2.2.2.2.2.2.2.2.2.1 k0_t23 k0_h9
theorem k0_off341_inb : ∀ (i : grid0.Coords) (v2 : BitVec 32) (v113 : BitVec 1) (v119 : BitVec 1) (k0_hw2 : k0_chk2 i v2 v113 v119) (k0_t9 : Fin k0_t9_loop.trips) (k0_t23 : Fin (k0_t23_loop i v2).trips), ∀ (k0_h9 : k0_cond9 v113 v119 = 1#1), ∀ a, (k0_off341 i v2 k0_t9 k0_t23) a + S1x1x256x160.size a ≤ S6x2x2048x160.size a := fun i v2 v113 v119 k0_hw2 k0_t9 k0_t23 k0_h9 => k0_hw2.2.2.1.2.2.2.2.2.2.2.2.2.2.2.2.2.2.2.1 k0_t9 k0_t23 k0_h9
theorem k0_off343_inb : ∀ (i : grid0.Coords) (v2 : BitVec 32) (v113 : BitVec 1) (v119 : BitVec 1) (k0_hw2 : k0_chk2 i v2 v113 v119) (k0_t9 : Fin k0_t9_loop.trips) (k0_t23 : Fin (k0_t23_loop i v2).trips), ∀ (k0_h9 : k0_cond9 v113 v119 = 1#1), ∀ a, (k0_off343 i v2 k0_t9 k0_t23) a + S1x1x256x128.size a ≤ S6x2x2048x128.size a := fun i v2 v113 v119 k0_hw2 k0_t9 k0_t23 k0_h9 => k0_hw2.2.2.1.2.2.2.2.2.2.2.2.2.2.2.2.2.2.2.2.1 k0_t9 k0_t23 k0_h9
theorem k0_off344_inb : ∀ (i : grid0.Coords) (v2 : BitVec 32) (v113 : BitVec 1) (v119 : BitVec 1) (k0_hw2 : k0_chk2 i v2 v113 v119) (k0_t23 : Fin (k0_t23_loop i v2).trips), ∀ (k0_h9 : k0_cond9 v113 v119 = 1#1), ∀ a, (k0_off344 i v2 k0_t23) a + S1x1.size a ≤ S24x8.size a := fun i v2 v113 v119 k0_hw2 k0_t23 k0_h9 => k0_hw2.2.2.1.2.2.2.2.2.2.2.2.2.2.2.2.2.2.2.2.2.1 k0_t23 k0_h9
theorem k0_mult247_dvd : ∀ (i : grid0.Coords) (v2 : BitVec 32) (v113 : BitVec 1) (v119 : BitVec 1) (k0_hw2 : k0_chk2 i v2 v113 v119) (k0_t23 : Fin (k0_t23_loop i v2).trips), ∀ (k0_h9 : k0_cond9 v113 v119 = 1#1), 256 ∣ (k0_mult247 i v2 k0_t23).toNat := fun i v2 v113 v119 k0_hw2 k0_t23 k0_h9 => k0_hw2.2.2.1.2.2.2.2.2.2.2.2.2.2.2.2.2.2.2.2.2.2.1 k0_t23 k0_h9
theorem k0_off345_inb : ∀ (i : grid0.Coords) (v2 : BitVec 32) (v113 : BitVec 1) (v119 : BitVec 1) (k0_hw2 : k0_chk2 i v2 v113 v119) (k0_t23 : Fin (k0_t23_loop i v2).trips), ∀ (k0_h9 : k0_cond9 v113 v119 = 1#1), ∀ a, (k0_off345 i v2 k0_t23) a + S1x256x256.size a ≤ S2x2048x256.size a := fun i v2 v113 v119 k0_hw2 k0_t23 k0_h9 => k0_hw2.2.2.1.2.2.2.2.2.2.2.2.2.2.2.2.2.2.2.2.2.2.2.1 k0_t23 k0_h9
theorem k0_t24_ok : ∀ (i : grid0.Coords) (v2 : BitVec 32) (v113 : BitVec 1) (v119 : BitVec 1) (k0_hw2 : k0_chk2 i v2 v113 v119), ∀ (k0_h9 : k0_cond9 v113 v119 = 1#1), (k0_t24_loop i v2).OK := fun i v2 v113 v119 k0_hw2 k0_h9 => k0_hw2.2.2.1.2.2.2.2.2.2.2.2.2.2.2.2.2.2.2.2.2.2.2.2.1 k0_h9
theorem k0_mult248_dvd : ∀ (i : grid0.Coords) (v2 : BitVec 32) (v113 : BitVec 1) (v119 : BitVec 1) (k0_hw2 : k0_chk2 i v2 v113 v119) (k0_t24 : Fin (k0_t24_loop i v2).trips), ∀ (k0_h9 : k0_cond9 v113 v119 = 1#1), 256 ∣ (k0_mult248 i v2 k0_t24).toNat := fun i v2 v113 v119 k0_hw2 k0_t24 k0_h9 => k0_hw2.2.2.1.2.2.2.2.2.2.2.2.2.2.2.2.2.2.2.2.2.2.2.2.2.1 k0_t24 k0_h9
theorem k0_off347_inb : ∀ (i : grid0.Coords) (v2 : BitVec 32) (v113 : BitVec 1) (v119 : BitVec 1) (k0_hw2 : k0_chk2 i v2 v113 v119) (k0_t9 : Fin k0_t9_loop.trips) (k0_t24 : Fin (k0_t24_loop i v2).trips), ∀ (k0_h9 : k0_cond9 v113 v119 = 1#1), ∀ a, (k0_off347 i v2 k0_t9 k0_t24) a + S1x1x256x160.size a ≤ S6x2x2048x160.size a := fun i v2 v113 v119 k0_hw2 k0_t9 k0_t24 k0_h9 => k0_hw2.2.2.1.2.2.2.2.2.2.2.2.2.2.2.2.2.2.2.2.2.2.2.2.2.2.1 k0_t9 k0_t24 k0_h9
theorem k0_off349_inb : ∀ (i : grid0.Coords) (v2 : BitVec 32) (v113 : BitVec 1) (v119 : BitVec 1) (k0_hw2 : k0_chk2 i v2 v113 v119) (k0_t9 : Fin k0_t9_loop.trips) (k0_t24 : Fin (k0_t24_loop i v2).trips), ∀ (k0_h9 : k0_cond9 v113 v119 = 1#1), ∀ a, (k0_off349 i v2 k0_t9 k0_t24) a + S1x1x256x128.size a ≤ S6x2x2048x128.size a := fun i v2 v113 v119 k0_hw2 k0_t9 k0_t24 k0_h9 => k0_hw2.2.2.1.2.2.2.2.2.2.2.2.2.2.2.2.2.2.2.2.2.2.2.2.2.2.2.1 k0_t9 k0_t24 k0_h9
theorem k0_off350_inb : ∀ (i : grid0.Coords) (v2 : BitVec 32) (v113 : BitVec 1) (v119 : BitVec 1) (k0_hw2 : k0_chk2 i v2 v113 v119) (k0_t24 : Fin (k0_t24_loop i v2).trips), ∀ (k0_h9 : k0_cond9 v113 v119 = 1#1), ∀ a, (k0_off350 i v2 k0_t24) a + S1x1.size a ≤ S24x8.size a := fun i v2 v113 v119 k0_hw2 k0_t24 k0_h9 => k0_hw2.2.2.1.2.2.2.2.2.2.2.2.2.2.2.2.2.2.2.2.2.2.2.2.2.2.2.2.1 k0_t24 k0_h9
theorem k0_t25_ok : ∀ (i : grid0.Coords) (v2 : BitVec 32) (v113 : BitVec 1) (v119 : BitVec 1) (k0_hw2 : k0_chk2 i v2 v113 v119), ∀ (k0_h9 : k0_cond9 v113 v119 = 1#1), (k0_t25_loop i v2).OK := fun i v2 v113 v119 k0_hw2 k0_h9 => k0_hw2.2.2.1.2.2.2.2.2.2.2.2.2.2.2.2.2.2.2.2.2.2.2.2.2.2.2.2.2.1 k0_h9
theorem k0_mult249_dvd : ∀ (i : grid0.Coords) (v2 : BitVec 32) (v113 : BitVec 1) (v119 : BitVec 1) (k0_hw2 : k0_chk2 i v2 v113 v119) (k0_t25 : Fin (k0_t25_loop i v2).trips), ∀ (k0_h9 : k0_cond9 v113 v119 = 1#1), 256 ∣ (k0_mult249 i v2 k0_t25).toNat := fun i v2 v113 v119 k0_hw2 k0_t25 k0_h9 => k0_hw2.2.2.1.2.2.2.2.2.2.2.2.2.2.2.2.2.2.2.2.2.2.2.2.2.2.2.2.2.2.1 k0_t25 k0_h9
theorem k0_off352_inb : ∀ (i : grid0.Coords) (v2 : BitVec 32) (v113 : BitVec 1) (v119 : BitVec 1) (k0_hw2 : k0_chk2 i v2 v113 v119) (k0_t9 : Fin k0_t9_loop.trips) (k0_t25 : Fin (k0_t25_loop i v2).trips), ∀ (k0_h9 : k0_cond9 v113 v119 = 1#1), ∀ a, (k0_off352 i v2 k0_t9 k0_t25) a + S1x1x256x160.size a ≤ S6x2x2048x160.size a := fun i v2 v113 v119 k0_hw2 k0_t9 k0_t25 k0_h9 => k0_hw2.2.2.1.2.2.2.2.2.2.2.2.2.2.2.2.2.2.2.2.2.2.2.2.2.2.2.2.2.2.2.1 k0_t9 k0_t25 k0_h9
theorem k0_off354_inb : ∀ (i : grid0.Coords) (v2 : BitVec 32) (v113 : BitVec 1) (v119 : BitVec 1) (k0_hw2 : k0_chk2 i v2 v113 v119) (k0_t9 : Fin k0_t9_loop.trips) (k0_t25 : Fin (k0_t25_loop i v2).trips), ∀ (k0_h9 : k0_cond9 v113 v119 = 1#1), ∀ a, (k0_off354 i v2 k0_t9 k0_t25) a + S1x1x256x128.size a ≤ S6x2x2048x128.size a := fun i v2 v113 v119 k0_hw2 k0_t9 k0_t25 k0_h9 => k0_hw2.2.2.1.2.2.2.2.2.2.2.2.2.2.2.2.2.2.2.2.2.2.2.2.2.2.2.2.2.2.2.2.1 k0_t9 k0_t25 k0_h9
theorem k0_off355_inb : ∀ (i : grid0.Coords) (v2 : BitVec 32) (v113 : BitVec 1) (v119 : BitVec 1) (k0_hw2 : k0_chk2 i v2 v113 v119) (k0_t25 : Fin (k0_t25_loop i v2).trips), ∀ (k0_h9 : k0_cond9 v113 v119 = 1#1), ∀ a, (k0_off355 i v2 k0_t25) a + S1x1.size a ≤ S24x8.size a := fun i v2 v113 v119 k0_hw2 k0_t25 k0_h9 => k0_hw2.2.2.1.2.2.2.2.2.2.2.2.2.2.2.2.2.2.2.2.2.2.2.2.2.2.2.2.2.2.2.2.2.1 k0_t25 k0_h9
theorem k0_t26_ok : ∀ (i : grid0.Coords) (v2 : BitVec 32) (v113 : BitVec 1) (v119 : BitVec 1) (k0_hw2 : k0_chk2 i v2 v113 v119), ∀ (k0_h9 : k0_cond9 v113 v119 = 1#1), (k0_t26_loop i v2).OK := fun i v2 v113 v119 k0_hw2 k0_h9 => k0_hw2.2.2.1.2.2.2.2.2.2.2.2.2.2.2.2.2.2.2.2.2.2.2.2.2.2.2.2.2.2.2.2.2.2.1 k0_h9
theorem k0_mult250_dvd : ∀ (i : grid0.Coords) (v2 : BitVec 32) (v113 : BitVec 1) (v119 : BitVec 1) (k0_hw2 : k0_chk2 i v2 v113 v119) (k0_t26 : Fin (k0_t26_loop i v2).trips), ∀ (k0_h9 : k0_cond9 v113 v119 = 1#1), 256 ∣ (k0_mult250 i v2 k0_t26).toNat := fun i v2 v113 v119 k0_hw2 k0_t26 k0_h9 => k0_hw2.2.2.1.2.2.2.2.2.2.2.2.2.2.2.2.2.2.2.2.2.2.2.2.2.2.2.2.2.2.2.2.2.2.2 k0_t26 k0_h9
theorem k0_off357_inb : ∀ (i : grid0.Coords) (v2 : BitVec 32) (v113 : BitVec 1) (v119 : BitVec 1) (k0_hw2 : k0_chk2 i v2 v113 v119) (k0_t9 : Fin k0_t9_loop.trips) (k0_t26 : Fin (k0_t26_loop i v2).trips), ∀ (k0_h9 : k0_cond9 v113 v119 = 1#1), ∀ a, (k0_off357 i v2 k0_t9 k0_t26) a + S1x1x256x160.size a ≤ S6x2x2048x160.size a := fun i v2 v113 v119 k0_hw2 k0_t9 k0_t26 k0_h9 => k0_hw2.2.2.2.1 k0_t9 k0_t26 k0_h9
theorem k0_off359_inb : ∀ (i : grid0.Coords) (v2 : BitVec 32) (v113 : BitVec 1) (v119 : BitVec 1) (k0_hw2 : k0_chk2 i v2 v113 v119) (k0_t9 : Fin k0_t9_loop.trips) (k0_t26 : Fin (k0_t26_loop i v2).trips), ∀ (k0_h9 : k0_cond9 v113 v119 = 1#1), ∀ a, (k0_off359 i v2 k0_t9 k0_t26) a + S1x1x256x128.size a ≤ S6x2x2048x128.size a := fun i v2 v113 v119 k0_hw2 k0_t9 k0_t26 k0_h9 => k0_hw2.2.2.2.2.1 k0_t9 k0_t26 k0_h9
theorem k0_off360_inb : ∀ (i : grid0.Coords) (v2 : BitVec 32) (v113 : BitVec 1) (v119 : BitVec 1) (k0_hw2 : k0_chk2 i v2 v113 v119) (k0_t26 : Fin (k0_t26_loop i v2).trips), ∀ (k0_h9 : k0_cond9 v113 v119 = 1#1), ∀ a, (k0_off360 i v2 k0_t26) a + S1x1.size a ≤ S24x8.size a := fun i v2 v113 v119 k0_hw2 k0_t26 k0_h9 => k0_hw2.2.2.2.2.2.1 k0_t26 k0_h9
theorem k0_mult251_dvd : ∀ (i : grid0.Coords) (v2 : BitVec 32) (v113 : BitVec 1) (v119 : BitVec 1) (k0_hw2 : k0_chk2 i v2 v113 v119) (k0_t26 : Fin (k0_t26_loop i v2).trips), ∀ (k0_h9 : k0_cond9 v113 v119 = 1#1), 256 ∣ (k0_mult251 i v2 k0_t26).toNat := fun i v2 v113 v119 k0_hw2 k0_t26 k0_h9 => k0_hw2.2.2.2.2.2.2.1 k0_t26 k0_h9
theorem k0_off361_inb : ∀ (i : grid0.Coords) (v2 : BitVec 32) (v113 : BitVec 1) (v119 : BitVec 1) (k0_hw2 : k0_chk2 i v2 v113 v119) (k0_t26 : Fin (k0_t26_loop i v2).trips), ∀ (k0_h9 : k0_cond9 v113 v119 = 1#1), ∀ a, (k0_off361 i v2 k0_t26) a + S1x256x256.size a ≤ S2x2048x256.size a := fun i v2 v113 v119 k0_hw2 k0_t26 k0_h9 => k0_hw2.2.2.2.2.2.2.2.1 k0_t26 k0_h9
theorem k0_t27_ok : ∀ (i : grid0.Coords) (v2 : BitVec 32) (v113 : BitVec 1) (v119 : BitVec 1) (k0_hw2 : k0_chk2 i v2 v113 v119), ∀ (k0_h9 : k0_cond9 v113 v119 = 1#1), (k0_t27_loop i v2).OK := fun i v2 v113 v119 k0_hw2 k0_h9 => k0_hw2.2.2.2.2.2.2.2.2.1 k0_h9
theorem k0_mult252_dvd : ∀ (i : grid0.Coords) (v2 : BitVec 32) (v113 : BitVec 1) (v119 : BitVec 1) (k0_hw2 : k0_chk2 i v2 v113 v119) (k0_t27 : Fin (k0_t27_loop i v2).trips), ∀ (k0_h9 : k0_cond9 v113 v119 = 1#1), 256 ∣ (k0_mult252 i v2 k0_t27).toNat := fun i v2 v113 v119 k0_hw2 k0_t27 k0_h9 => k0_hw2.2.2.2.2.2.2.2.2.2.1 k0_t27 k0_h9
theorem k0_off363_inb : ∀ (i : grid0.Coords) (v2 : BitVec 32) (v113 : BitVec 1) (v119 : BitVec 1) (k0_hw2 : k0_chk2 i v2 v113 v119) (k0_t9 : Fin k0_t9_loop.trips) (k0_t27 : Fin (k0_t27_loop i v2).trips), ∀ (k0_h9 : k0_cond9 v113 v119 = 1#1), ∀ a, (k0_off363 i v2 k0_t9 k0_t27) a + S1x1x256x160.size a ≤ S6x2x2048x160.size a := fun i v2 v113 v119 k0_hw2 k0_t9 k0_t27 k0_h9 => k0_hw2.2.2.2.2.2.2.2.2.2.2.1 k0_t9 k0_t27 k0_h9
theorem k0_off365_inb : ∀ (i : grid0.Coords) (v2 : BitVec 32) (v113 : BitVec 1) (v119 : BitVec 1) (k0_hw2 : k0_chk2 i v2 v113 v119) (k0_t9 : Fin k0_t9_loop.trips) (k0_t27 : Fin (k0_t27_loop i v2).trips), ∀ (k0_h9 : k0_cond9 v113 v119 = 1#1), ∀ a, (k0_off365 i v2 k0_t9 k0_t27) a + S1x1x256x128.size a ≤ S6x2x2048x128.size a := fun i v2 v113 v119 k0_hw2 k0_t9 k0_t27 k0_h9 => k0_hw2.2.2.2.2.2.2.2.2.2.2.2.1 k0_t9 k0_t27 k0_h9
theorem k0_off366_inb : ∀ (i : grid0.Coords) (v2 : BitVec 32) (v113 : BitVec 1) (v119 : BitVec 1) (k0_hw2 : k0_chk2 i v2 v113 v119) (k0_t27 : Fin (k0_t27_loop i v2).trips), ∀ (k0_h9 : k0_cond9 v113 v119 = 1#1), ∀ a, (k0_off366 i v2 k0_t27) a + S1x1.size a ≤ S24x8.size a := fun i v2 v113 v119 k0_hw2 k0_t27 k0_h9 => k0_hw2.2.2.2.2.2.2.2.2.2.2.2.2.1 k0_t27 k0_h9
theorem k0_mult253_dvd : ∀ (i : grid0.Coords) (v2 : BitVec 32) (v113 : BitVec 1) (v119 : BitVec 1) (k0_hw2 : k0_chk2 i v2 v113 v119) (k0_t27 : Fin (k0_t27_loop i v2).trips), ∀ (k0_h9 : k0_cond9 v113 v119 = 1#1), 256 ∣ (k0_mult253 i v2 k0_t27).toNat := fun i v2 v113 v119 k0_hw2 k0_t27 k0_h9 => k0_hw2.2.2.2.2.2.2.2.2.2.2.2.2.2.1 k0_t27 k0_h9
theorem k0_off367_inb : ∀ (i : grid0.Coords) (v2 : BitVec 32) (v113 : BitVec 1) (v119 : BitVec 1) (k0_hw2 : k0_chk2 i v2 v113 v119) (k0_t27 : Fin (k0_t27_loop i v2).trips), ∀ (k0_h9 : k0_cond9 v113 v119 = 1#1), ∀ a, (k0_off367 i v2 k0_t27) a + S1x256x256.size a ≤ S2x2048x256.size a := fun i v2 v113 v119 k0_hw2 k0_t27 k0_h9 => k0_hw2.2.2.2.2.2.2.2.2.2.2.2.2.2.2.1 k0_t27 k0_h9
theorem k0_t28_ok : ∀ (i : grid0.Coords) (v2 : BitVec 32) (v113 : BitVec 1) (v119 : BitVec 1) (k0_hw2 : k0_chk2 i v2 v113 v119), ∀ (k0_h9 : k0_cond9 v113 v119 = 1#1), (k0_t28_loop i v2).OK := fun i v2 v113 v119 k0_hw2 k0_h9 => k0_hw2.2.2.2.2.2.2.2.2.2.2.2.2.2.2.2.1 k0_h9
theorem k0_mult254_dvd : ∀ (i : grid0.Coords) (v2 : BitVec 32) (v113 : BitVec 1) (v119 : BitVec 1) (k0_hw2 : k0_chk2 i v2 v113 v119) (k0_t28 : Fin (k0_t28_loop i v2).trips), ∀ (k0_h9 : k0_cond9 v113 v119 = 1#1), 256 ∣ (k0_mult254 i v2 k0_t28).toNat := fun i v2 v113 v119 k0_hw2 k0_t28 k0_h9 => k0_hw2.2.2.2.2.2.2.2.2.2.2.2.2.2.2.2.2.1 k0_t28 k0_h9
theorem k0_mult255_dvd : ∀ (i : grid0.Coords) (v2 : BitVec 32) (v113 : BitVec 1) (v119 : BitVec 1) (k0_hw2 : k0_chk2 i v2 v113 v119) (k0_t28 : Fin (k0_t28_loop i v2).trips), ∀ (k0_h9 : k0_cond9 v113 v119 = 1#1), 256 ∣ (k0_mult255 i v2 k0_t28).toNat := fun i v2 v113 v119 k0_hw2 k0_t28 k0_h9 => k0_hw2.2.2.2.2.2.2.2.2.2.2.2.2.2.2.2.2.2.1 k0_t28 k0_h9
theorem k0_off368_inb : ∀ (i : grid0.Coords) (v2 : BitVec 32) (v113 : BitVec 1) (v119 : BitVec 1) (k0_hw2 : k0_chk2 i v2 v113 v119) (k0_t28 : Fin (k0_t28_loop i v2).trips), ∀ (k0_h9 : k0_cond9 v113 v119 = 1#1), ∀ a, (k0_off368 i v2 k0_t28) a + S1x256x256.size a ≤ S2x2048x256.size a := fun i v2 v113 v119 k0_hw2 k0_t28 k0_h9 => k0_hw2.2.2.2.2.2.2.2.2.2.2.2.2.2.2.2.2.2.2.1 k0_t28 k0_h9
theorem k0_off369_inb : ∀ (i : grid0.Coords) (v2 : BitVec 32) (v113 : BitVec 1) (v119 : BitVec 1) (k0_hw2 : k0_chk2 i v2 v113 v119) (k0_t28 : Fin (k0_t28_loop i v2).trips), ∀ (k0_h9 : k0_cond9 v113 v119 = 1#1), ∀ a, (k0_off369 i v2 k0_t28) a + S1x256x256.size a ≤ S2x2048x256.size a := fun i v2 v113 v119 k0_hw2 k0_t28 k0_h9 => k0_hw2.2.2.2.2.2.2.2.2.2.2.2.2.2.2.2.2.2.2.2.1 k0_t28 k0_h9
theorem k0_off370_inb : ∀ (i : grid0.Coords) (v2 : BitVec 32) (v113 : BitVec 1) (v119 : BitVec 1) (k0_hw2 : k0_chk2 i v2 v113 v119) (k0_t9 : Fin k0_t9_loop.trips) (k0_t28 : Fin (k0_t28_loop i v2).trips), ∀ (k0_h9 : k0_cond9 v113 v119 = 1#1), ∀ a, (k0_off370 i v2 k0_t9 k0_t28) a + S1x320x256.size a ≤ S6x320x2048.size a := fun i v2 v113 v119 k0_hw2 k0_t9 k0_t28 k0_h9 => k0_hw2.2.2.2.2.2.2.2.2.2.2.2.2.2.2.2.2.2.2.2.2.1 k0_t9 k0_t28 k0_h9
theorem k0_t29_ok : ∀ (i : grid0.Coords) (v2 : BitVec 32) (v113 : BitVec 1) (v119 : BitVec 1) (k0_hw2 : k0_chk2 i v2 v113 v119), ∀ (k0_h9 : k0_cond9 v113 v119 = 1#1), (k0_t29_loop i v2).OK := fun i v2 v113 v119 k0_hw2 k0_h9 => k0_hw2.2.2.2.2.2.2.2.2.2.2.2.2.2.2.2.2.2.2.2.2.2.1 k0_h9
theorem k0_mult256_dvd : ∀ (i : grid0.Coords) (v2 : BitVec 32) (v113 : BitVec 1) (v119 : BitVec 1) (k0_hw2 : k0_chk2 i v2 v113 v119) (k0_t29 : Fin (k0_t29_loop i v2).trips), ∀ (k0_h9 : k0_cond9 v113 v119 = 1#1), 256 ∣ (k0_mult256 i v2 k0_t29).toNat := fun i v2 v113 v119 k0_hw2 k0_t29 k0_h9 => k0_hw2.2.2.2.2.2.2.2.2.2.2.2.2.2.2.2.2.2.2.2.2.2.2.1 k0_t29 k0_h9
theorem k0_mult257_dvd : ∀ (i : grid0.Coords) (v2 : BitVec 32) (v113 : BitVec 1) (v119 : BitVec 1) (k0_hw2 : k0_chk2 i v2 v113 v119) (k0_t29 : Fin (k0_t29_loop i v2).trips), ∀ (k0_h9 : k0_cond9 v113 v119 = 1#1), 256 ∣ (k0_mult257 i v2 k0_t29).toNat := fun i v2 v113 v119 k0_hw2 k0_t29 k0_h9 => k0_hw2.2.2.2.2.2.2.2.2.2.2.2.2.2.2.2.2.2.2.2.2.2.2.2.1 k0_t29 k0_h9
theorem k0_off371_inb : ∀ (i : grid0.Coords) (v2 : BitVec 32) (v113 : BitVec 1) (v119 : BitVec 1) (k0_hw2 : k0_chk2 i v2 v113 v119) (k0_t29 : Fin (k0_t29_loop i v2).trips), ∀ (k0_h9 : k0_cond9 v113 v119 = 1#1), ∀ a, (k0_off371 i v2 k0_t29) a + S1x256x256.size a ≤ S2x2048x256.size a := fun i v2 v113 v119 k0_hw2 k0_t29 k0_h9 => k0_hw2.2.2.2.2.2.2.2.2.2.2.2.2.2.2.2.2.2.2.2.2.2.2.2.2.1 k0_t29 k0_h9
theorem k0_off372_inb : ∀ (i : grid0.Coords) (v2 : BitVec 32) (v113 : BitVec 1) (v119 : BitVec 1) (k0_hw2 : k0_chk2 i v2 v113 v119) (k0_t29 : Fin (k0_t29_loop i v2).trips), ∀ (k0_h9 : k0_cond9 v113 v119 = 1#1), ∀ a, (k0_off372 i v2 k0_t29) a + S1x256x256.size a ≤ S2x2048x256.size a := fun i v2 v113 v119 k0_hw2 k0_t29 k0_h9 => k0_hw2.2.2.2.2.2.2.2.2.2.2.2.2.2.2.2.2.2.2.2.2.2.2.2.2.2.1 k0_t29 k0_h9
theorem k0_off373_inb : ∀ (i : grid0.Coords) (v2 : BitVec 32) (v113 : BitVec 1) (v119 : BitVec 1) (k0_hw2 : k0_chk2 i v2 v113 v119) (k0_t9 : Fin k0_t9_loop.trips) (k0_t29 : Fin (k0_t29_loop i v2).trips), ∀ (k0_h9 : k0_cond9 v113 v119 = 1#1), ∀ a, (k0_off373 i v2 k0_t9 k0_t29) a + S1x320x256.size a ≤ S6x320x2048.size a := fun i v2 v113 v119 k0_hw2 k0_t9 k0_t29 k0_h9 => k0_hw2.2.2.2.2.2.2.2.2.2.2.2.2.2.2.2.2.2.2.2.2.2.2.2.2.2.2 k0_t9 k0_t29 k0_h9

def k0_off374 (k0_t9 : Fin k0_t9_loop.trips) : Fin 3 → Nat :=
  let c2_i32_101 : BitVec 32 := 2#32
  let c0_i32_46 : BitVec 32 := 0#32
  let c1_i32_48 : BitVec 32 := 1#32
  let arg25 : BitVec 32 := Scf.iv c0_i32_46 c1_i32_48 k0_t9
  let v218 : BitVec 32 := Scalar.muli c2_i32_101 arg25
  let c1_i32_102 : BitVec 32 := 1#32
  let v219 : BitVec 32 := Scalar.addi v218 c1_i32_102
  let v269 : Index := Scalar.indexCast v219
  let c0_135 : Index := 0#32
  let c0_136 : Index := 0#32
  ![v269.toNat, 0, 0]
def k0_mult258 (k0_t9 : Fin k0_t9_loop.trips) : BitVec 32 :=
  let c0_i32_46 : BitVec 32 := 0#32
  let c1_i32_48 : BitVec 32 := 1#32
  let arg25 : BitVec 32 := Scf.iv c0_i32_46 c1_i32_48 k0_t9
  let c2_i32_152 : BitVec 32 := 2#32
  let v312 : BitVec 32 := Scalar.muli arg25 c2_i32_152
  let c320_i32 : BitVec 32 := 320#32
  let v313 : BitVec 32 := Scalar.muli v312 c320_i32
  v313
def k0_off375 (k0_t9 : Fin k0_t9_loop.trips) : Fin 3 → Nat :=
  let c0_155 : Index := 0#32
  let c0_156 : Index := 0#32
  let c0_i32_46 : BitVec 32 := 0#32
  let c1_i32_48 : BitVec 32 := 1#32
  let arg25 : BitVec 32 := Scf.iv c0_i32_46 c1_i32_48 k0_t9
  let c2_i32_152 : BitVec 32 := 2#32
  let v312 : BitVec 32 := Scalar.muli arg25 c2_i32_152
  let c320_i32 : BitVec 32 := 320#32
  let v313 : BitVec 32 := Scalar.muli v312 c320_i32
  let v314 : BitVec 32 := v313
  let v317 : Index := Scalar.indexCast v314
  ![0, 0, v317.toNat]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x6x2x160x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x2x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x2x160x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x320x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S6x320x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S320x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1920 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "alpha" => some (((10610843 / 134217728) * (Real.log 2)⁻¹ : ℝ) : EReal)
  | "inv_v" => some ((1 / 320 : ℝ) : EReal)
  | "masked" => some ⊥
  | "open" => some ⊤
  | _ => none
-- ==== ReferenceIdeal.lean ====
abbrev S24x2048x6x2x160 : Shape := ⟨5, ![24, 2048, 6, 2, 160]⟩
abbrev S24x2048x6x2 : Shape := ⟨4, ![24, 2048, 6, 2]⟩
abbrev S24x2048x6x320 : Shape := ⟨4, ![24, 2048, 6, 320]⟩
abbrev S6x320 : Shape := ⟨2, ![6, 320]⟩
abbrev S24x2048 : Shape := ⟨2, ![24, 2048]⟩
abbrev S160 : Shape := ⟨1, ![160]⟩
abbrev S320 : Shape := ⟨1, ![320]⟩
abbrev S_ : Shape := ⟨0, ![]⟩
abbrev S24x6x2x2048x2048 : Shape := ⟨5, ![24, 6, 2, 2048, 2048]⟩
abbrev S24x6x2x2048 : Shape := ⟨4, ![24, 6, 2, 2048]⟩
abbrev S24x6x2x2048x1 : Shape := ⟨5, ![24, 6, 2, 2048, 1]⟩
abbrev S24x6x2x1x2048 : Shape := ⟨5, ![24, 6, 2, 1, 2048]⟩
abbrev S2048 : Shape := ⟨1, ![2048]⟩
abbrev S1x1x2048 : Shape := ⟨3, ![1, 1, 2048]⟩
abbrev S1x2048x1 : Shape := ⟨3, ![1, 2048, 1]⟩
abbrev S1x2048x2048 : Shape := ⟨3, ![1, 2048, 2048]⟩
abbrev S24x1x2048 : Shape := ⟨3, ![24, 1, 2048]⟩
abbrev S24x2048x1 : Shape := ⟨3, ![24, 2048, 1]⟩
abbrev S24x2048x2048 : Shape := ⟨3, ![24, 2048, 2048]⟩
abbrev S24x1x1x2048x2048 : Shape := ⟨5, ![24, 1, 1, 2048, 2048]⟩
abbrev S24x6x1x2048x2048 : Shape := ⟨5, ![24, 6, 1, 2048, 2048]⟩
abbrev S24x6x2048x2048 : Shape := ⟨4, ![24, 6, 2048, 2048]⟩
abbrev S24x6x320x2048 : Shape := ⟨4, ![24, 6, 320, 2048]⟩
abbrev S1x1x6x320 : Shape := ⟨4, ![1, 1, 6, 320]⟩
abbrev S24x2048x6 : Shape := ⟨3, ![24, 2048, 6]⟩
abbrev S24x2048x6x1 : Shape := ⟨4, ![24, 2048, 6, 1]⟩
abbrev S1x1x1x320 : Shape := ⟨4, ![1, 1, 1, 320]⟩
abbrev S24x2048x1920 : Shape := ⟨3, ![24, 2048, 1920]⟩

abbrev nBuf : Space → Nat
  | .hbm => 105
  | .vmem => 6
  | .smem => 0
  | _ => 0

abbrev bufTy : (tb : Table) → Fin (tcTables nBuf tb) → BufTy
  | .hbm, ⟨0, _⟩ => ⟨S24x2048x6x2x160, .fp8e4m3⟩
  | .hbm, ⟨1, _⟩ => ⟨S24x2048x6x2, .f32⟩
  | .hbm, ⟨2, _⟩ => ⟨S24x2048x6x2x160, .fp8e4m3⟩
  | .hbm, ⟨3, _⟩ => ⟨S24x2048x6x2, .f32⟩
  | .hbm, ⟨4, _⟩ => ⟨S24x2048x6x320, .fp8e4m3⟩
  | .hbm, ⟨5, _⟩ => ⟨S6x320, .f32⟩
  | .hbm, ⟨6, _⟩ => ⟨S24x2048, .i32⟩
  | .hbm, ⟨7, _⟩ => ⟨S160, .f32⟩
  | .hbm, ⟨8, _⟩ => ⟨S160, .f32⟩
  | .hbm, ⟨9, _⟩ => ⟨S160, .f32⟩
  | .hbm, ⟨10, _⟩ => ⟨S160, .f32⟩
  | .hbm, ⟨11, _⟩ => ⟨S320, .f32⟩
  | .hbm, ⟨12, _⟩ => ⟨S160, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S160, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S24x2048x6x2x160, .bf16⟩
  | .hbm, ⟨24, _⟩ => ⟨S24x2048x6x2x160, .bf16⟩
  | .hbm, ⟨25, _⟩ => ⟨S24x2048x6x320, .bf16⟩
  | .hbm, ⟨26, _⟩ => ⟨S24x6x2x2048x2048, .f32⟩
  | .hbm, ⟨27, _⟩ => ⟨S24x6x2x2048, .f32⟩
  | .hbm, ⟨28, _⟩ => ⟨S24x6x2x2048x1, .f32⟩
  | .hbm, ⟨29, _⟩ => ⟨S24x6x2x2048x2048, .f32⟩
  | .hbm, ⟨30, _⟩ => ⟨S24x6x2x2048x2048, .f32⟩
  | .hbm, ⟨31, _⟩ => ⟨S24x6x2x2048, .f32⟩
  | .hbm, ⟨32, _⟩ => ⟨S24x6x2x1x2048, .f32⟩
  | .hbm, ⟨33, _⟩ => ⟨S24x6x2x2048x2048, .f32⟩
  | .hbm, ⟨34, _⟩ => ⟨S24x6x2x2048x2048, .f32⟩
  | .hbm, ⟨35, _⟩ => ⟨S_, .f32⟩
  | .hbm, ⟨36, _⟩ => ⟨S24x6x2x2048x2048, .f32⟩
  | .hbm, ⟨37, _⟩ => ⟨S24x6x2x2048x2048, .f32⟩
  | .hbm, ⟨38, _⟩ => ⟨S2048, .i32⟩
  | .hbm, ⟨39, _⟩ => ⟨S1x1x2048, .i32⟩
  | .hbm, ⟨40, _⟩ => ⟨S1x2048x1, .i32⟩
  | .hbm, ⟨41, _⟩ => ⟨S1x2048x2048, .i32⟩
  | .hbm, ⟨42, _⟩ => ⟨S1x2048x2048, .i32⟩
  | .hbm, ⟨43, _⟩ => ⟨S1x2048x2048, .i1⟩
  | .hbm, ⟨44, _⟩ => ⟨S24x1x2048, .i32⟩
  | .hbm, ⟨45, _⟩ => ⟨S24x2048x1, .i32⟩
  | .hbm, ⟨46, _⟩ => ⟨S24x2048x2048, .i32⟩
  | .hbm, ⟨47, _⟩ => ⟨S24x2048x2048, .i32⟩
  | .hbm, ⟨48, _⟩ => ⟨S24x2048x2048, .i1⟩
  | .hbm, ⟨49, _⟩ => ⟨S24x2048x2048, .i1⟩
  | .hbm, ⟨50, _⟩ => ⟨S24x2048x2048, .i1⟩
  | .hbm, ⟨51, _⟩ => ⟨S24x1x1x2048x2048, .i1⟩
  | .hbm, ⟨52, _⟩ => ⟨S_, .f32⟩
  | .hbm, ⟨53, _⟩ => ⟨S_, .f32⟩
  | .hbm, ⟨54, _⟩ => ⟨S24x6x2x2048x2048, .i1⟩
  | .hbm, ⟨55, _⟩ => ⟨S24x6x2x2048x2048, .f32⟩
  | .hbm, ⟨56, _⟩ => ⟨S24x6x2x2048x2048, .f32⟩
  | .hbm, ⟨57, _⟩ => ⟨S_, .f32⟩
  | .hbm, ⟨58, _⟩ => ⟨S24x6x2x2048, .f32⟩
  | .hbm, ⟨59, _⟩ => ⟨S24x6x2x2048x1, .f32⟩
  | .hbm, ⟨60, _⟩ => ⟨S24x6x2x2048x2048, .f32⟩
  | .hbm, ⟨61, _⟩ => ⟨S24x6x2x2048x2048, .f32⟩
  | .hbm, ⟨62, _⟩ => ⟨S24x6x2x2048x2048, .f32⟩
  | .hbm, ⟨63, _⟩ => ⟨S_, .f32⟩
  | .hbm, ⟨64, _⟩ => ⟨S24x6x2x2048, .f32⟩
  | .hbm, ⟨65, _⟩ => ⟨S24x6x2x2048x1, .f32⟩
  | .hbm, ⟨66, _⟩ => ⟨S_, .f32⟩
  | .hbm, ⟨67, _⟩ => ⟨S24x6x2x2048x1, .f32⟩
  | .hbm, ⟨68, _⟩ => ⟨S24x6x2x2048x1, .f32⟩
  | .hbm, ⟨69, _⟩ => ⟨S24x6x2x2048x2048, .f32⟩
  | .hbm, ⟨70, _⟩ => ⟨S24x6x2x2048x2048, .f32⟩
  | .hbm, ⟨71, _⟩ => ⟨S24x6x1x2048x2048, .f32⟩
  | .hbm, ⟨72, _⟩ => ⟨S24x6x2048x2048, .f32⟩
  | .hbm, ⟨73, _⟩ => ⟨S24x6x1x2048x2048, .f32⟩
  | .hbm, ⟨74, _⟩ => ⟨S24x6x2048x2048, .f32⟩
  | .hbm, ⟨75, _⟩ => ⟨S24x6x2048x2048, .f32⟩
  | .hbm, ⟨76, _⟩ => ⟨S24x6x2048x2048, .f32⟩
  | .hbm, ⟨77, _⟩ => ⟨S24x6x2048x2048, .f32⟩
  | .hbm, ⟨78, _⟩ => ⟨S24x6x2048x2048, .bf16⟩
  | .hbm, ⟨79, _⟩ => ⟨S24x6x320x2048, .f32⟩
  | .hbm, ⟨80, _⟩ => ⟨S24x2048x6x320, .f32⟩
  | .hbm, ⟨81, _⟩ => ⟨S1x1x6x320, .f32⟩
  | .hbm, ⟨82, _⟩ => ⟨S24x2048x6x320, .f32⟩
  | .hbm, ⟨83, _⟩ => ⟨S24x2048x6x320, .f32⟩
  | .hbm, ⟨84, _⟩ => ⟨S24x2048x6x320, .f32⟩
  | .hbm, ⟨85, _⟩ => ⟨S_, .f32⟩
  | .hbm, ⟨86, _⟩ => ⟨S24x2048x6, .f32⟩
  | .hbm, ⟨87, _⟩ => ⟨S24x2048x6x1, .f32⟩
  | .hbm, ⟨88, _⟩ => ⟨S_, .f32⟩
  | .hbm, ⟨89, _⟩ => ⟨S24x2048x6x1, .f32⟩
  | .hbm, ⟨90, _⟩ => ⟨S24x2048x6x1, .f32⟩
  | .hbm, ⟨91, _⟩ => ⟨S_, .f32⟩
  | .hbm, ⟨92, _⟩ => ⟨S24x2048x6x1, .f32⟩
  | .hbm, ⟨93, _⟩ => ⟨S24x2048x6x1, .f32⟩
  | .hbm, ⟨94, _⟩ => ⟨S24x2048x6x1, .f32⟩
  | .hbm, ⟨95, _⟩ => ⟨S24x2048x6x320, .f32⟩
  | .hbm, ⟨96, _⟩ => ⟨S24x2048x6x320, .f32⟩
  | .hbm, ⟨97, _⟩ => ⟨S1x1x1x320, .f32⟩
  | .hbm, ⟨98, _⟩ => ⟨S24x2048x6x320, .f32⟩
  | .hbm, ⟨99, _⟩ => ⟨S24x2048x6x320, .f32⟩
  | .hbm, ⟨100, _⟩ => ⟨S_, .f32⟩
  | .hbm, ⟨101, _⟩ => ⟨S24x2048x6x320, .f32⟩
  | .hbm, ⟨102, _⟩ => ⟨S24x2048x6x320, .f32⟩
  | .hbm, ⟨103, _⟩ => ⟨S24x2048x6x320, .bf16⟩
  | .hbm, ⟨104, _⟩ => ⟨S24x2048x1920, .bf16⟩
  | .local _ .vmem, ⟨0, _⟩ => ⟨S24x2048x6x2x160, .fp8e4m3⟩
  | .local _ .vmem, ⟨1, _⟩ => ⟨S24x2048x6x2x160, .fp8e4m3⟩
  | .local _ .vmem, ⟨2, _⟩ => ⟨S24x2048x6x320, .fp8e4m3⟩
  | .local _ .vmem, ⟨3, _⟩ => ⟨S24x2048x6x2x160, .bf16⟩
  | .local _ .vmem, ⟨4, _⟩ => ⟨S24x2048x6x2x160, .bf16⟩
  | .local _ .vmem, ⟨5, _⟩ => ⟨S24x2048x6x320, .bf16⟩
  | _, _ => ⟨S24x2048x6x2x160, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev main_v8_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v34 : Ref sig .tc := ⟨.hbm, 56, rfl⟩
abbrev main_cst_4 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_5 : Ref sig .tc := ⟨.hbm, 63, rfl⟩
abbrev main_v40 : Ref sig .tc := ⟨.hbm, 64, rfl⟩
abbrev main_v41 : Ref sig .tc := ⟨.hbm, 65, rfl⟩
abbrev main_cst_6 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_7 : Ref sig .tc := ⟨.hbm, 85, rfl⟩
abbrev main_v60 : Ref sig .tc := ⟨.hbm, 86, rfl⟩
abbrev main_v61 : Ref sig .tc := ⟨.hbm, 87, rfl⟩
abbrev main_cst_8 : Ref sig .tc := ⟨.hbm, 88, rfl⟩
abbrev main_v62 : Ref sig .tc := ⟨.hbm, 89, rfl⟩
abbrev main_v63 : Ref sig .tc := ⟨.hbm, 90, rfl⟩
abbrev main_cst_9 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_10 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S24x2048x6x2x160 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x2048x6x2x160 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x2048x6x320 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x2048x6x2x160 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x2048x6x2x160 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x2048x6x320 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Script.lean ====
/-
  A small language for straight-line code over a fixed family of buffers, with loops and branches: a script compiles
  to a program of the machine (`Script.compile`), has a plain predicate transformer over the buffers' values
  (`Script.run`), and the transformer is sound (`Script.sound`). The kernel's body is shown to be a compiled script
  elsewhere, so everything said about it is said of plain functions of vectors.
-/
module

public import Idealize.ShloMosaic.Lib.VecWindow
public import Idealize.ShloMosaic.Lib.Scf
public import Idealize.ShloMosaic.Lib.Pipeline.Regions

@[expose] public section

noncomputable section

namespace Idealize.ShloMosaic.Script

open Idealize.ShloMosaic
open Idealize.SL Idealize.SL.Sem Idealize.SL.ProofMode Idealize.SL.RA
open Idealize.SL.BI (sProp bigSep bigSep_insert bigSep_erase bigSep_mono bigSep_congr)
open scoped Idealize.SL.BI
open Idealize.SL.BI.BIBase Idealize.SL.BI.Laws

/-- A family of named buffers: their memory, shape, element type, and whether the code may write them. -/
structure Names where
  B : Type
  [fin : Fintype B]
  [dec : DecidableEq B]
  sp : B → CoreSpace
  shape : B → Shape
  elt : B → EltTy
  writable : B → Bool

attribute [instance] Names.fin Names.dec

variable {nD : ℕ} {τ : Topo} {sig : RefSig} {p : Proc τ} {Val : EltTy → Type} {Λ : Labels}

/-- A memref for every name. -/
abbrev Mems (N : Names) (sig : RefSig) (κ : Kind) := (b : N.B) → Memref sig κ (N.sp b) (N.shape b) (N.elt b)

/-- Values for every name. -/
abbrev St (N : Names) (Val : EltTy → Type) := (b : N.B) → (N.shape b).Idx → Val (N.elt b)

variable {N : Names}

/-- A script over the memrefs `M`. -/
inductive Scr (Val : EltTy → Type) {κ : Kind} (M : Mems N sig κ) : Type → Type 1
  | ret {α : Type} (a : α) : Scr Val M α
  | ld {α : Type} (b : N.B) (off size : Fin (N.shape b).rank → ℕ) (inb : ∀ a, off a + size a ≤ (N.shape b).size a)
      (hl : (M b).view.LoadsAt (Rect.unit off size inb).toLoadRect)
      (k : ((Rect.unit off size inb).shape.Idx → Val (N.elt b)) → Scr Val M α) : Scr Val M α
  | st {α : Type} (b : N.B) (off size : Fin (N.shape b).rank → ℕ) (inb : ∀ a, off a + size a ≤ (N.shape b).size a)
      (w : (Rect.unit off size inb).shape.Idx → Val (N.elt b))
      (hx : ((M b).access (Rect.unit off size inb)).Stores Finset.univ)
      (hm : (Finset.univ : Finset (Rect.unit off size inb).shape.Idx) = Finset.univ ∨ ∀ a, (Rect.unit off size inb).stride a = 1)
      (k : Scr Val M α) : Scr Val M α
  | asm {α : Type} (P : Prop) (d : Decidable P) (k : P → Scr Val M α) : Scr Val M α
  | loop {α σ : Type} (lb ub stp : BitVec 32) (hok : Scf.OK lb ub stp) (init : σ)
      (body : Fin (Scf.trips lb ub stp) → σ → Scr Val M σ) (k : σ → Scr Val M α) : Scr Val M α
  | cond {α : Type} (P : Prop) (d : Decidable P) (t : P → Scr Val M α) (e : ¬ P → Scr Val M α) : Scr Val M α
  | call {α β : Type} (q : Scr Val M β) (k : β → Scr Val M α) : Scr Val M α

/-- The machine's program of a script. -/
def compile {M : Mems N sig p.kind} {α : Type} (s : Scr Val M α) : Prog (TpuEff nD τ sig Val Λ p) α :=
  Scr.rec (motive := fun α _ => Prog (TpuEff nD τ sig Val Λ p) α)
    (fun a => .ret a)
    (fun b off size inb hl _ ih => .op (.load (M b) (Rect.unit off size inb).toLoadRect hl) ih)
    (fun b off size inb w hx hm _ ih => .op (.store (M b) (Rect.unit off size inb) w Finset.univ hx hm) fun _ => ih)
    (fun P d _ ih => .op (.assume P d) fun h => ih h.down)
    (fun lb ub stp hok init _ _ ihb ih => (Scf.for lb ub stp hok init ihb) >>= ih)
    (fun P d _ _ iht ihe => @dite _ P d iht ihe)
    (fun _ _ ihq ih => ihq >>= ih)
    s

/-- What a script needs of the values it starts from for `Q` to hold of its result and the values it leaves. -/
def run {κ : Kind} {M : Mems N sig κ} {α : Type} (s : Scr Val M α) : St N Val → (α → St N Val → Prop) → Prop :=
  Scr.rec (motive := fun α _ => St N Val → (α → St N Val → Prop) → Prop)
    (fun a S Q => Q a S)
    (fun b off size inb _ _ ih S Q => ih (VecWindow.window (S b) off size inb) S Q)
    (fun b off size _ w _ _ _ ih S Q => N.writable b = true ∧ ih (Function.update S b (VecWindow.put (S b) off size w)) Q)
    (fun P _ _ ih S Q => ∃ h : P, ih h S Q)
    (fun lb ub stp _ init _ _ ihb ih S Q => ∃ I : ℕ → _ → St N Val → Prop, I 0 init S ∧
      (∀ (k : Fin (Scf.trips lb ub stp)) acc S', I k.val acc S' → ihb k acc S' (I (k.val + 1))) ∧
      ∀ acc S', I (Scf.trips lb ub stp) acc S' → ih acc S' Q)
    (fun P _ _ _ iht ihe S Q => (∀ h : P, iht h S Q) ∧ ∀ h : ¬ P, ihe h S Q)
    (fun _ _ ihq ih S Q => ihq S fun b S' => ih b S' Q)
    s

/-- A weaker property is left more often. -/
theorem run_mono {κ : Kind} {M : Mems N sig κ} {α : Type} (s : Scr Val M α) : ∀ (S : St N Val) (Q Q' : α → St N Val → Prop),
    (∀ a S', Q a S' → Q' a S') → run s S Q → run s S Q' := by
  induction s with
  | ret a => intro S Q Q' h hr; exact h _ _ hr
  | ld b off size inb hl k ih => intro S Q Q' h hr; exact ih _ _ _ _ h hr
  | st b off size inb w hx hm k ih => intro S Q Q' h hr; exact ⟨hr.1, ih _ _ _ h hr.2⟩
  | asm P d k ih => intro S Q Q' h hr; exact hr.imp fun hp hr => ih hp _ _ _ h hr
  | loop lb ub stp hok init body k ihb ih =>
    intro S Q Q' h hr
    obtain ⟨I, h0, hs, hx⟩ := hr
    exact ⟨I, h0, hs, fun acc S' hI => ih acc _ _ _ h (hx acc S' hI)⟩
  | cond P d t e iht ihe =>
    intro S Q Q' h hr
    exact ⟨fun hp => iht hp _ _ _ h (hr.1 hp), fun hp => ihe hp _ _ _ h (hr.2 hp)⟩
  | call q k ihq ih => intro S Q Q' h hr; exact ihq _ _ _ (fun b S' hk => ih b _ _ _ h hk) hr

section Sound
variable {Ix : Type} [DecidableEq Ix] {Name : Type} [DecidableEq Name] {U : Type} [URA U] {Lvl : Type} [Preorder Lvl]
variable [∀ e, Nonempty (Val e)]
local notation "𝕄" => MT nD τ sig Ix Val Name U Lvl

variable (c : Thread nD τ) (M : Mems N sig c.2.kind) (q : N.B → PosShare TreeShare)

/-- The buffers held at the values `S`, each at its share. -/
def held (S : St N Val) : sProp 𝕄 :=
  bigSep (Finset.univ : Finset N.B) fun b => iprop((M b).view.loc c ↦[(M b).view.set]{q b} (M b).view.rep (S b))

theorem held_take (S : St N Val) (b : N.B) :
    (held c M q S : sProp 𝕄) = iprop(((M b).view.loc c ↦[(M b).view.set]{q b} (M b).view.rep (S b)) ∗
      bigSep (Finset.univ.erase b) fun b => iprop((M b).view.loc c ↦[(M b).view.set]{q b} (M b).view.rep (S b))) :=
  bigSep_erase (Finset.mem_univ b)

theorem held_update (S : St N Val) (b : N.B) (x : (N.shape b).Idx → Val (N.elt b)) :
    (held c M q (Function.update S b x) : sProp 𝕄) = iprop(((M b).view.loc c ↦[(M b).view.set]{q b} (M b).view.rep x) ∗
      bigSep (Finset.univ.erase b) fun b => iprop((M b).view.loc c ↦[(M b).view.set]{q b} (M b).view.rep (S b))) := by
  rw [held_take c M q _ b, Function.update_self]
  congr 1
  refine bigSep_congr fun b' hb' => ?_
  rw [Function.update_of_ne (Finset.ne_of_mem_erase hb')]

variable {c M q}
variable {defs : Defs nD τ sig Val Λ} (𝒱 : Variants) (bd : Option 𝒱.V) (E : Set Name)

/-- The predicate transformer is sound for the machine. -/
theorem sound (hq : ∀ b, N.writable b = true → q b = fullShare) {α : Type} (s : Scr Val M α) :
    ∀ (S : St N Val) (Q : α → St N Val → Prop), run s S Q →
      (held c M q S : sProp 𝕄) ⊢ wp frame (wpE defs 𝒱 c bd) E (compile s) fun a => iprop(∃ S', ⌜Q a S'⌝ ∗ held c M q S') := by
  induction s with
  | ret a =>
    intro S Q hr
    refine Entails.trans ?_ (le_wp_ret _ _ _ a _)
    iintro H
    iexists S
    isplitr [H]
    · ipureintro; exact hr
    · iassumption
  | ld b off size inb hl k ih =>
    intro S Q hr
    show _ ⊢ wp frame (wpE defs 𝒱 c bd) E (.op (.load (M b) (Rect.unit off size inb).toLoadRect hl) fun x => compile (k x)) _
    rw [held_take c M q S b]
    iintro ⟨H, HR⟩
    iapply (wp_load 𝒱 c bd E (View.setOn_subset_set _ _)) $$ H
    iintro H
    rw [View.readAt_rep_unit (M b).view (S b) inb rfl inb]
    iapply (ih _ S Q hr)
    rw [held_take c M q S b]
    isplitl [H] <;> iassumption
  | st b off size inb w hx hm k ih =>
    intro S Q hr
    obtain ⟨hw, hr⟩ := hr
    show _ ⊢ wp frame (wpE defs 𝒱 c bd) E (.op (.store (M b) (Rect.unit off size inb) w Finset.univ hx hm) fun _ => compile k) _
    rw [held_take c M q S b, hq b hw]
    iintro ⟨H, HR⟩
    iapply (wp_store_writes₀ 𝒱 c bd E (View.set_slice_subset _ _)) $$ H
    iintro H
    ihave H := (pointsTo_rep_of_read c (M b) _ fullShare _ (View.read_writes_rep_unit (M b).view (S b) inb w rfl)) $$ H
    iapply (ih _ Q hr)
    rw [held_update c M q S b, hq b hw]
    isplitl [H] <;> iassumption
  | asm P d k ih =>
    intro S Q hr
    obtain ⟨h, hr⟩ := hr
    show _ ⊢ wp frame (wpE defs 𝒱 c bd) E (.op (.assume P d) fun h => compile (k h.down)) _
    rw [wp_assume_of 𝒱 c bd E h]
    exact ih h S Q hr
  | loop lb ub stp hok init body k ihb ih =>
    intro S Q hr
    obtain ⟨I, h0, hs, hx⟩ := hr
    show _ ⊢ wp frame (wpE defs 𝒱 c bd) E ((Scf.for lb ub stp hok init fun j acc => compile (body j acc)) >>= fun acc => compile (k acc)) _
    iintro H
    iapply (Scf.wp_for_bind frame (wpE defs 𝒱 c bd) E lb ub stp hok init (fun j acc => compile (body j acc))
      (fun j acc => iprop(∃ S', ⌜I j acc S'⌝ ∗ held c M q S')) (fun j acc => by
        iintro ⟨%S', %hI, H⟩
        iapply (ihb j acc S' _ (hs j acc S' hI))
        iassumption)) $$ [H]
    · iexists S
      isplitr [H]
      · ipureintro; exact h0
      · iassumption
    · iintro %acc ⟨%S', %hI, H⟩
      iapply (ih acc S' Q (hx acc S' hI))
      iassumption
  | cond P d t e iht ihe =>
    intro S Q hr
    show _ ⊢ wp frame (wpE defs 𝒱 c bd) E (@dite _ P d (fun h => compile (t h)) fun h => compile (e h)) _
    by_cases h : P
    · rw [dif_pos h]
      exact iht h S Q (hr.1 h)
    · rw [dif_neg h]
      exact ihe h S Q (hr.2 h)
  | call s k ihq ih =>
    intro S Q hr
    show _ ⊢ wp frame (wpE defs 𝒱 c bd) E (compile s >>= fun b => compile (k b)) _
    rw [wp_bind]
    refine (ihq S _ hr).trans (wp_mono _ _ _ fun b => ?_)
    iintro ⟨%S', %hS, H⟩
    iapply (ih b S' Q hS)
    iassumption

end Sound

end Idealize.ShloMosaic.Script

end
-- ==== Proof.Flow.lean ====
/-
  The body of the attention kernel as scripts over its named buffers, one script for a pair of heads whose keys span
  any number of tiles, and the plain functions of vectors its operations compute.
-/
module

public import proofs.«01_k».proof.Proof.Gen.KernelIdeal
public import proofs.«01_k».proof.Proof.Script

@[expose] public section

noncomputable section

namespace Cert.DiffAttn

open Idealize.ShloMosaic Idealize.ShloMosaic.Script
open Cert.KernelIdeal Cert.KernelIdeal.Facts₀ Cert.KernelIdeal.Facts

/-- The kernel's buffers: two tables in scalar memory, nine inputs, the output, eleven scratch buffers. -/
inductive Nm
  | start | last | q | qs | k | ks | v | seg | vs | gain | lam | out | kt | v16 | ksr | p0 | p1 | causal | head | lo | hi | yt | acc
  deriving DecidableEq

instance : Fintype Nm :=
  ⟨⟨([Nm.start, Nm.last, Nm.q, Nm.qs, Nm.k, Nm.ks, Nm.v, Nm.seg, Nm.vs, Nm.gain, Nm.lam, Nm.out, Nm.kt, Nm.v16, Nm.ksr, Nm.p0, Nm.p1, Nm.causal, Nm.head, Nm.lo, Nm.hi, Nm.yt, Nm.acc] : List Nm), by decide⟩, fun x => by cases x <;> decide⟩

@[reducible] noncomputable def Nm.sp : Nm → CoreSpace
  | .start | .last => .smem
  | _ => .vmem

@[reducible] noncomputable def Nm.shape : Nm → Shape
  | .start | .last => S24x8
  | .q | .k => S1x6x2x160x256
  | .qs | .ks => S1x6x2x256
  | .v => S1x6x320x256
  | .seg => S1x1x256
  | .vs => S6x320x128
  | .gain => S320x128
  | .lam => S1x128
  | .out => S1x256x1920
  | .kt => S6x2x2048x160
  | .v16 => S6x320x2048
  | .ksr => S6x2x2048x128
  | .p0 | .p1 => S2x2048x256
  | .causal => S256x256
  | .head => S256x128
  | .lo | .hi => S8x256
  | .yt => S640x256
  | .acc => S320x256

@[reducible] noncomputable def Nm.elt : Nm → EltTy
  | .start | .last | .seg => .i32
  | .q | .k | .v | .kt => .fp8e4m3
  | .out | .v16 | .yt => .bf16
  | _ => .f32

@[reducible] noncomputable def Nm.writable : Nm → Bool
  | .start | .last | .q | .qs | .k | .ks | .v | .seg | .vs | .gain | .lam => false
  | _ => true

@[reducible] noncomputable def names : Names := { B := Nm, sp := Nm.sp, shape := Nm.shape, elt := Nm.elt, writable := Nm.writable }

/-! ### Bounds -/

theorem inb_q (H c : ℕ) (hH : H < 6) (hc : c < 2) : ∀ a, (![0, H, c, 0, 0] : Fin 5 → ℕ) a + S1x1x1x160x256.size a ≤ S1x6x2x160x256.size a := by
  intro a; fin_cases a <;> simp <;> omega
theorem inb_qs (H c : ℕ) (hH : H < 6) (hc : c < 2) : ∀ a, (![0, H, c, 0] : Fin 4 → ℕ) a + S1x1x1x256.size a ≤ S1x6x2x256.size a := by
  intro a; fin_cases a <;> simp <;> omega
theorem inb_v (H : ℕ) (hH : H < 6) : ∀ a, (![0, H, 0, 0] : Fin 4 → ℕ) a + S1x1x320x256.size a ≤ S1x6x320x256.size a := by
  intro a; fin_cases a <;> simp; omega
theorem inb_vs (H : ℕ) (hH : H < 6) : ∀ a, (![H, 0, 0] : Fin 3 → ℕ) a + S1x320x128.size a ≤ S6x320x128.size a := by
  intro a; fin_cases a <;> simp; omega
theorem inb_kt (H c r : ℕ) (hH : H < 6) (hc : c < 2) (hr : r + 256 ≤ 2048) : ∀ a, (![H, c, r, 0] : Fin 4 → ℕ) a + S1x1x256x160.size a ≤ S6x2x2048x160.size a := by
  intro a; fin_cases a <;> simp <;> omega
theorem inb_ksr (H c r : ℕ) (hH : H < 6) (hc : c < 2) (hr : r + 256 ≤ 2048) : ∀ a, (![H, c, r, 0] : Fin 4 → ℕ) a + S1x1x256x128.size a ≤ S6x2x2048x128.size a := by
  intro a; fin_cases a <;> simp <;> omega
theorem inb_v16 (H r : ℕ) (hH : H < 6) (hr : r + 256 ≤ 2048) : ∀ a, (![H, 0, r] : Fin 3 → ℕ) a + S1x320x256.size a ≤ S6x320x2048.size a := by
  intro a; fin_cases a <;> simp <;> omega
theorem inb_p (c r : ℕ) (hc : c < 2) (hr : r + 256 ≤ 2048) : ∀ a, (![c, r, 0] : Fin 3 → ℕ) a + S1x256x256.size a ≤ S2x2048x256.size a := by
  intro a; fin_cases a <;> simp <;> omega
theorem inb_tab (b t : ℕ) (hb : b < 24) (ht : t < 8) : ∀ a, (![b, t] : Fin 2 → ℕ) a + S1x1.size a ≤ S24x8.size a := by
  intro a; fin_cases a <;> simp <;> omega
theorem inb_yt (r s : ℕ) (hr : r + 320 ≤ 640) (hs : s + 128 ≤ 256) : ∀ a, (![r, s] : Fin 2 → ℕ) a + S320x128.size a ≤ S640x256.size a := by
  intro a; fin_cases a <;> simp <;> omega
theorem inb_out (r : ℕ) (hr : r + 640 ≤ 1920) : ∀ a, (![0, 0, r] : Fin 3 → ℕ) a + S1x256x640.size a ≤ S1x256x1920.size a := by
  intro a; fin_cases a <;> simp; omega

theorem packed_kt (H c r : ℕ) (hr : 256 ∣ r) (inb) : (Rect.unit (s := S6x2x2048x160) ![H, c, r, 0] S1x1x256x160.size inb).PackedRows (EltTy.packing .fp8e4m3) := by
  refine Or.inr ⟨by decide, rfl, Or.inl ⟨?_, ?_⟩⟩
  · show 4 ∣ r; exact Dvd.dvd.trans (by decide) hr
  · show 4 ∣ 256; decide
theorem packed_v16 (H r : ℕ) (inb) : (Rect.unit (s := S6x320x2048) ![H, 0, r] S1x320x256.size inb).PackedRows (EltTy.packing .bf16) := by
  refine Or.inr ⟨by decide, rfl, Or.inl ⟨?_, ?_⟩⟩
  · show 2 ∣ 0; decide
  · show 2 ∣ 320; decide
theorem packed_yt (r s : ℕ) (hr : 320 ∣ r) (inb) : (Rect.unit (s := S640x256) ![r, s] S320x128.size inb).PackedRows (EltTy.packing .bf16) := by
  refine Or.inr ⟨by decide, rfl, Or.inl ⟨?_, ?_⟩⟩
  · show 2 ∣ r; exact Dvd.dvd.trans (by decide) hr
  · show 2 ∣ 320; decide
theorem packed_out (r : ℕ) (inb) : (Rect.unit (s := S1x256x1920) ![0, 0, r] S1x256x640.size inb).PackedRows (EltTy.packing .bf16) := by
  refine Or.inr ⟨by decide, rfl, Or.inl ⟨?_, ?_⟩⟩
  · show 2 ∣ 0; decide
  · show 2 ∣ 256; decide

/-! ### The values -/

variable {F : FTy → Type} [FloatOps F]

/-- The four constants the kernel writes. -/
structure Cst (F : FTy → Type) where
  alpha : F .f32
  invV : F .f32
  masked : F .f32
  opened : F .f32

variable (C : Cst F)

noncomputable def kTile (x : Vec F S1x1x1x160x256 .fp8e4m3) : Vec F S1x1x256x160 .fp8e4m3 :=
  shapeCast S1x1x256x160 (truncf .fp8e4m3 (transpose S256x160 [1, 0] (extf .bf16 (shapeCast S160x256 x shapeCasts_S1x1x1x160x256_S160x256) bitsLt_fp8e4m3_bf16)
    transposes_S160x256_p1_0_S256x160) bitsLt_fp8e4m3_bf16) shapeCasts_S256x160_S1x1x256x160

noncomputable def colHalf0 (x : FVec F S1x256 .f32) : FVec F S128x128 .f32 :=
  transpose S128x128 [1, 0] (broadcastTo S128x128 (shapeCast S1x128 (extractStridedSlice S1x128 ![0, 0] x slices_S1x256_o0_0_S1x128) shapeCasts_S1x128_S1x128)
    broadcasts_S1x128_S128x128) transposes_S128x128_p1_0_S128x128
noncomputable def colHalf1 (x : FVec F S1x256 .f32) : FVec F S128x128 .f32 :=
  transpose S128x128 [1, 0] (broadcastTo S128x128 (shapeCast S1x128 (extractStridedSlice S1x128 ![0, 128] x slices_S1x256_o0_128_S1x128) shapeCasts_S1x128_S1x128)
    broadcasts_S1x128_S128x128) transposes_S128x128_p1_0_S128x128

noncomputable def ksTile (x : Vec F S1x1x1x256 .f32) : Vec F S1x1x256x128 .f32 :=
  let y : FVec F S1x256 .f32 := shapeCast S1x256 x shapeCasts_S1x1x1x256_S1x256
  shapeCast S1x1x256x128 (concatenate S256x128 0 [⟨S128x128, colHalf0 y⟩, ⟨S128x128, colHalf1 y⟩] concatenates_S128x128_S128x128_S256x128_d0) shapeCasts_S256x128_S1x1x256x128

noncomputable def vTile (x : Vec F S1x1x320x256 .fp8e4m3) : Vec F S1x320x256 .bf16 :=
  shapeCast S1x320x256 (extf .bf16 (shapeCast S320x256 x shapeCasts_S1x1x320x256_S320x256) bitsLt_fp8e4m3_bf16) shapeCasts_S320x256_S1x320x256

noncomputable def alphaRow (x : Vec F S1x1x1x256 .f32) : FVec F S1x256 .f32 :=
  mulf (shapeCast S1x256 x shapeCasts_S1x1x1x256_S1x256) (broadcast S1x256 C.alpha)

/-- A tile of scores: products of keys and queries, scaled by the keys' and the queries' scales. -/
noncomputable def scoreTile (kx : Vec F S1x1x256x160 .fp8e4m3) (qx : Vec F S1x1x1x160x256 .fp8e4m3) (sx : Vec F S1x1x256x128 .f32) (row : FVec F S1x256 .f32) : FVec F S256x256 .f32 :=
  let s : FVec F S256x128 .f32 := shapeCast S256x128 sx shapeCasts_S1x1x256x128_S256x128
  mulf (mulf (matmul dot_S256x160_S160x256_S256x256_1_0_0_1_n_n none (shapeCast S256x160 kx shapeCasts_S1x1x256x160_S256x160) (shapeCast S160x256 qx shapeCasts_S1x1x1x160x256_S160x256)
    (constant S256x256 .f32 0x00000000#32)) (concatenate S256x256 1 [⟨S256x128, s⟩, ⟨S256x128, s⟩] concatenates_S256x128_S256x128_S256x256_d1))
    (broadcastTo S256x256 row broadcasts_S1x256_S256x256)

noncomputable def headCap (h : Vec F S256x128 .f32) : FVec F S256x256 .f32 :=
  concatenate S256x256 1 [⟨S256x128, h⟩, ⟨S256x128, h⟩] concatenates_S256x128_S256x128_S256x256_d1

noncomputable def asP (x : FVec F S256x256 .f32) : Vec F S1x256x256 .f32 := shapeCast S1x256x256 x shapeCasts_S256x256_S1x256x256

noncomputable def fold8 (x : FVec F S256x256 .f32) : FVec F S8x256 .f32 :=
  multiReduction .add [0] S8x256 (shapeCast S32x8x256 x shapeCasts_S256x256_S32x8x256) 0x00000000#32 reduces_S32x8x256_S8x256 (.inl rfl) rfl

noncomputable def sameSeg (seg : IVec S1x256 32) (s : BitVec 32) : IVec S1x256 1 := cmpi .eq seg (broadcast S1x256 s)

noncomputable def sel8 (seg : IVec S1x256 32) (s : BitVec 32) (x : FVec F S8x256 .f32) : FVec F S8x256 .f32 :=
  select (broadcastTo S8x256 (shapeCast S1x256 (sameSeg seg s) shapeCasts_S1x256_S1x256) broadcasts_S1x256_S8x256) x (broadcast S8x256 (Scalar.ofBits .f32 0x00000000#32))

noncomputable def zero8 : FVec F S8x256 .f32 := broadcast S8x256 (Scalar.ofBits .f32 0x00000000#32)

noncomputable def sumRow (x : FVec F S8x256 .f32) : FVec F S1x256 .f32 :=
  shapeCast S1x256 (multiReduction .add [0] S256 x 0x00000000#32 reduces_S8x256_S256 (.inl rfl) rfl) shapeCasts_S256_S1x256

noncomputable def newLo (lo : Vec F S8x256 .f32) (tot : FVec F S1x256 .f32) : Vec F S8x256 .f32 :=
  shapeCast S8x256 (minimumf lo (broadcastTo S8x256 tot broadcasts_S1x256_S8x256)) shapeCasts_S8x256_S8x256
noncomputable def newHi (hi : Vec F S8x256 .f32) (peak : FVec F S8x256 .f32) (tot : FVec F S1x256 .f32) : Vec F S8x256 .f32 :=
  shapeCast S8x256 (maximumf hi (maximumf peak (broadcastTo S8x256 tot broadcasts_S1x256_S8x256))) shapeCasts_S8x256_S8x256

noncomputable def recip (tot : FVec F S1x256 .f32) : FVec F S1x256 .f32 := divf (broadcast S1x256 (Scalar.ofBits .f32 0x3F800000#32)) tot
noncomputable def lamRow (r : FVec F S1x256 .f32) (lam : Vec F S1x1 .f32) : FVec F S1x256 .f32 := mulf r (broadcastTo S1x256 lam broadcasts_S1x1_S1x256)
noncomputable def selRow (seg : IVec S1x256 32) (s : BitVec 32) (r : FVec F S1x256 .f32) : FVec F S1x256 .f32 :=
  select (sameSeg seg s) r (broadcast S1x256 (Scalar.ofBits .f32 0x00000000#32))

/-- The difference of the two maps on a tile, times the values of the tile. -/
noncomputable def attTile (x0 x1 : Vec F S1x256x256 .f32) (r0 r1 : FVec F S1x256 .f32) : FVec F S256x256 .bf16 :=
  truncf .bf16 (subf (mulf (shapeCast S256x256 x0 shapeCasts_S1x256x256_S256x256) (broadcastTo S256x256 r0 broadcasts_S1x256_S256x256))
    (mulf (shapeCast S256x256 x1 shapeCasts_S1x256x256_S256x256) (broadcastTo S256x256 r1 broadcasts_S1x256_S256x256))) bitsLt_bf16_f32
noncomputable def avTile (vx : Vec F S1x320x256 .bf16) (a : FVec F S256x256 .bf16) : FVec F S320x256 .f32 :=
  matmul dot_S320x256_S256x256_S320x256_1_0_0_1_n_n none (shapeCast S320x256 vx shapeCasts_S1x320x256_S320x256) a (constant S320x256 .f32 0x00000000#32)

/-- Half of a head's normalised output. -/
noncomputable def normHalf (z : FVec F S320x128 .f32) (vsx : Vec F S1x320x128 .f32) (g : Vec F S320x128 .f32) : Vec F S320x128 .bf16 :=
  let x : FVec F S320x128 .f32 := mulf z (shapeCast S320x128 vsx shapeCasts_S1x320x128_S320x128)
  shapeCast S320x128 (truncf .bf16 (mulf (mulf x (broadcastTo S320x128 (rsqrt (addf (mulf (shapeCast S1x128 (multiReduction .add [0] S128 (mulf x x) 0x00000000#32 reduces_S320x128_S128 (.inl rfl) rfl)
    shapeCasts_S128_S1x128) (broadcast S1x128 C.invV)) (broadcast S1x128 (Scalar.ofBits .f32 0x3727C5AC#32)))) broadcasts_S1x128_S320x128))
    (shapeCast S320x128 g shapeCasts_S320x128_S320x128)) bitsLt_bf16_f32) shapeCasts_S320x128_S320x128

noncomputable def outTile (y : Vec F S640x256 .bf16) : Vec F S1x256x640 .bf16 :=
  shapeCast S1x256x640 (transpose S256x640 [1, 0] y transposes_S640x256_p1_0_S256x640) shapeCasts_S256x640_S1x256x640

/-! ### The scripts -/

variable {sig : RefSig} {M : Mems names sig .tc} (W : ∀ b : Nm, (M b).IsWhole) {α : Type}

section Keys
variable (H c here : ℕ) (hH : H < 6) (hc : c < 2) (hr : here + 256 ≤ 2048) (hd : 256 ∣ here)

/-- One map's keys of this tile: transposed, and their scales down the columns. -/
noncomputable def prepMap (k : Scr (Elt F) M α) : Scr (Elt F) M α :=
  .ld Nm.k ![0, H, c, 0, 0] S1x1x1x160x256.size (inb_q H c hH hc) (View.loadsAt_vmem h_S1x1x1x160x256) fun x =>
  .ld Nm.kt ![H, c, here, 0] S1x1x256x160.size (inb_kt H c here hH hc hr) (View.loadsAt_vmem h_S1x1x256x160) fun _ =>
  .st Nm.kt ![H, c, here, 0] S1x1x256x160.size (inb_kt H c here hH hc hr) (kTile x)
    (View.stores_vmem h_S1x1x256x160 ((W Nm.kt).storeExact_slice rfl _ (packed_kt H c here hd _)) (fun _ => rfl)) (.inl rfl) <|
  .ld Nm.ks ![0, H, c, 0] S1x1x1x256.size (inb_qs H c hH hc) (View.loadsAt_vmem h_S1x1x1x256) fun y =>
  .ld Nm.ksr ![H, c, here, 0] S1x1x256x128.size (inb_ksr H c here hH hc hr) (View.loadsAt_vmem h_S1x1x256x128) fun _ =>
  .st Nm.ksr ![H, c, here, 0] S1x1x256x128.size (inb_ksr H c here hH hc hr) (ksTile y) (View.stores_vmem_bits_univ h_S1x1x256x128 rfl) (.inl rfl) k

/-- A head's keys and values of this tile. -/
noncomputable def prep (k : Scr (Elt F) M α) : Scr (Elt F) M α :=
  prepMap W H 0 here hH (by decide) hr hd <|
  prepMap W H 1 here hH (by decide) hr hd <|
  .ld Nm.v ![0, H, 0, 0] S1x1x320x256.size (inb_v H hH) (View.loadsAt_vmem h_S1x1x320x256) fun z =>
  .ld Nm.v16 ![H, 0, here] S1x320x256.size (inb_v16 H here hH hr) (View.loadsAt_vmem h_S1x320x256) fun _ =>
  .st Nm.v16 ![H, 0, here] S1x320x256.size (inb_v16 H here hH hr) (vTile z)
    (View.stores_vmem h_S1x320x256 ((W Nm.v16).storeExact_slice rfl _ (packed_v16 H here _)) (fun _ => rfl)) (.inl rfl) k
end Keys

/-- Which of the two buffers of exponentials a head uses. -/
@[reducible] noncomputable def pOf : Bool → Nm
  | false => .p0
  | true => .p1

/-- Read a tile of exponentials. -/
noncomputable def ldP (o : Bool) (c r : ℕ) (hc : c < 2) (hr : r + 256 ≤ 2048) (k : Vec F S1x256x256 .f32 → Scr (Elt F) M α) : Scr (Elt F) M α :=
  match o with
  | false => .ld Nm.p0 ![c, r, 0] S1x256x256.size (inb_p c r hc hr) (View.loadsAt_vmem h_S1x256x256) k
  | true => .ld Nm.p1 ![c, r, 0] S1x256x256.size (inb_p c r hc hr) (View.loadsAt_vmem h_S1x256x256) k

/-- Write a tile of exponentials. -/
noncomputable def stP (o : Bool) (c r : ℕ) (hc : c < 2) (hr : r + 256 ≤ 2048) (x : Vec F S1x256x256 .f32) (k : Scr (Elt F) M α) : Scr (Elt F) M α :=
  match o with
  | false => .st Nm.p0 ![c, r, 0] S1x256x256.size (inb_p c r hc hr) x (View.stores_vmem_bits_univ h_S1x256x256 rfl) (.inl rfl) k
  | true => .st Nm.p1 ![c, r, 0] S1x256x256.size (inb_p c r hc hr) x (View.stores_vmem_bits_univ h_S1x256x256 rfl) (.inl rfl) k

/-- The places of one pair of heads at one point: the batch's row `b` of the table of last segments, and of tile `j` of
    the `m` tiles its keys' first row `R j` and its column `T j` of that table. -/
structure Geo where
  m : ℕ
  hm : m ≤ 8
  b : ℕ
  hb : b < 24
  R : ℕ → ℕ
  hR : ∀ j, j < m → R j + 256 ≤ 2048
  T : ℕ → ℕ
  hT : ∀ j, j < m → T j < 8

variable (G : Geo)

/-- Read the last segment of tile `j`. -/
noncomputable def ldLast (j : ℕ) (hj : j < G.m) (k : BitVec 32 → Scr (Elt F) M α) : Scr (Elt F) M α :=
  .ld Nm.last ![G.b, G.T j] S1x1.size (inb_tab _ _ G.hb (G.hT j hj)) (View.loadsAt_rect (View.loads_smem_one rfl numel1_S1x1)) fun f =>
    k (f (Shape.Idx.first (numel1_S1x1.symm ▸ Nat.one_pos)))

/-- Read one of the segments' starts. -/
noncomputable def ldStart (b t : ℕ) (hb : b < 24) (ht : t < 8) (k : BitVec 32 → Scr (Elt F) M α) : Scr (Elt F) M α :=
  .ld Nm.start ![b, t] S1x1.size (inb_tab _ _ hb ht) (View.loadsAt_rect (View.loads_smem_one rfl numel1_S1x1)) fun f =>
    k (f (Shape.Idx.first (numel1_S1x1.symm ▸ Nat.one_pos)))

theorem Geo.row (G : Geo) {j : ℕ} (hj : j < G.m) : 256 * j + 256 ≤ 2048 := by have := G.hm; omega

section Head
variable (o : Bool) (H : ℕ) (hH : H < 6) (seg : IVec S1x256 32) (lam : Vec F S1x1 .f32)

/-- The scores of tile `j`. -/
noncomputable def scores (c : ℕ) (hc : c < 2) (row : FVec F S1x256 .f32) (j : ℕ) (hj : j < G.m) (k : FVec F S256x256 .f32 → Scr (Elt F) M α) : Scr (Elt F) M α :=
  .ld Nm.kt ![H, c, G.R j, 0] S1x1x256x160.size (inb_kt H c _ hH hc (G.hR j hj)) (View.loadsAt_vmem h_S1x1x256x160) fun kx =>
  .ld Nm.q ![0, H, c, 0, 0] S1x1x1x160x256.size (inb_q H c hH hc) (View.loadsAt_vmem h_S1x1x1x160x256) fun qx =>
  .ld Nm.ksr ![H, c, G.R j, 0] S1x1x256x128.size (inb_ksr H c _ hH hc (G.hR j hj)) (View.loadsAt_vmem h_S1x1x256x128) fun sx =>
  k (scoreTile kx qx sx row)

/-- Store the exponentials of tile `j`. -/
noncomputable def expP (c : ℕ) (hc : c < 2) (j : ℕ) (hj : j < G.m) (x : FVec F S256x256 .f32) (k : Scr (Elt F) M α) : Scr (Elt F) M α :=
  ldP o c (256 * j) hc (G.row hj) fun _ => stP o c (256 * j) hc (G.row hj) (asP x) k

/-- Tiles `j`, …, `m - 1` of a map, `n + 1` of them: the first masked by the segments' heads, the last by causality. -/
noncomputable def mapTiles (c : ℕ) (hc : c < 2) (row : FVec F S1x256 .f32) : (n j : ℕ) → (j + n + 1 = G.m) → (total peak : FVec F S8x256 .f32) →
    (FVec F S8x256 .f32 → FVec F S8x256 .f32 → Scr (Elt F) M α) → Scr (Elt F) M α
  | 0, j, hj, total, peak, k =>
    scores G H hH c hc row j (by omega) fun s =>
    .ld Nm.causal ![0, 0] S256x256.size inb_S256x256_S256x256_0_0 (View.loadsAt_vmem h_S256x256) fun m =>
    expP G o c hc j (by omega) (exp2 (minimumf s m)) <|
    k (addf total (fold8 (exp2 (minimumf s m)))) peak
  | n + 1, 0, hj, total, peak, k =>
    scores G H hH c hc row 0 (by omega) fun s =>
    .ld Nm.head ![0, 0] S256x128.size inb_S256x128_S256x128_0_0 (View.loadsAt_vmem h_S256x128) fun m =>
    expP G o c hc 0 (by omega) (exp2 (minimumf s (headCap m))) <|
    ldLast G 0 (by omega) fun l =>
    mapTiles c hc row n 1 (by omega) (addf total (sel8 seg l (fold8 (exp2 (minimumf s (headCap m)))))) (maximumf peak (fold8 (exp2 (minimumf s (headCap m))))) k
  | n + 1, j + 1, hj, total, peak, k =>
    scores G H hH c hc row (j + 1) (by omega) fun s =>
    expP G o c hc (j + 1) (by omega) (exp2 s) <|
    ldLast G (j + 1) (by omega) fun l =>
    mapTiles c hc row n (j + 2) (by omega) (addf total (sel8 seg l (fold8 (exp2 s)))) (maximumf peak (fold8 (exp2 s))) k

/-- One map of a head: its exponentials and their total, the reciprocal of which it hands on. -/
noncomputable def mapFlow (c : ℕ) (hc : c < 2) (n : ℕ) (hn : n + 1 = G.m) (k : FVec F S1x256 .f32 → Scr (Elt F) M α) : Scr (Elt F) M α :=
  .ld Nm.qs ![0, H, c, 0] S1x1x1x256.size (inb_qs H c hH hc) (View.loadsAt_vmem h_S1x1x1x256) fun y =>
  mapTiles G o H hH seg c hc (alphaRow C y) n 0 (by omega) zero8 zero8 fun total peak =>
  .ld Nm.lo ![0, 0] S8x256.size inb_S8x256_S8x256_0_0 (View.loadsAt_vmem h_S8x256) fun lo =>
  .ld Nm.lo ![0, 0] S8x256.size inb_S8x256_S8x256_0_0 (View.loadsAt_vmem h_S8x256) fun _ =>
  .st Nm.lo ![0, 0] S8x256.size inb_S8x256_S8x256_0_0 (newLo lo (sumRow total)) (View.stores_vmem_bits_univ h_S8x256 rfl) (.inl rfl) <|
  .ld Nm.hi ![0, 0] S8x256.size inb_S8x256_S8x256_0_0 (View.loadsAt_vmem h_S8x256) fun hi =>
  .ld Nm.hi ![0, 0] S8x256.size inb_S8x256_S8x256_0_0 (View.loadsAt_vmem h_S8x256) fun _ =>
  .st Nm.hi ![0, 0] S8x256.size inb_S8x256_S8x256_0_0 (newHi hi peak (sumRow total)) (View.stores_vmem_bits_univ h_S8x256 rfl) (.inl rfl) <|
  k (recip (sumRow total))

/-- The product of tile `j`'s weights and values. -/
noncomputable def attV (j : ℕ) (hj : j < G.m) (r0 r1 : FVec F S1x256 .f32) (k : FVec F S320x256 .f32 → Scr (Elt F) M α) : Scr (Elt F) M α :=
  ldP o 0 (256 * j) (by decide) (G.row hj) fun x0 =>
  ldP o 1 (256 * j) (by decide) (G.row hj) fun x1 =>
  .ld Nm.v16 ![H, 0, G.R j] S1x320x256.size (inb_v16 H _ hH (G.hR j hj)) (View.loadsAt_vmem h_S1x320x256) fun vx =>
  k (avTile vx (attTile x0 x1 r0 r1))

/-- Tiles `j`, …, `m - 1` of the product with the values, on top of `acc` where there is one. -/
noncomputable def valTiles (r0 r1 : FVec F S1x256 .f32) : (n j : ℕ) → (j + n + 1 = G.m) → (acc : Option (FVec F S320x256 .f32)) →
    (FVec F S320x256 .f32 → Scr (Elt F) M α) → Scr (Elt F) M α
  | 0, j, hj, none, k => attV G o H hH j (by omega) r0 r1 k
  | 0, j, hj, some acc, k => attV G o H hH j (by omega) r0 r1 fun x => k (addf acc x)
  | n + 1, j, hj, none, k =>
    ldLast G j (by omega) fun l =>
    attV G o H hH j (by omega) (selRow seg l r0) (selRow seg l r1) fun x => valTiles r0 r1 n (j + 1) (by omega) (some x) k
  | n + 1, j, hj, some acc, k =>
    ldLast G j (by omega) fun l =>
    attV G o H hH j (by omega) (selRow seg l r0) (selRow seg l r1) fun x => valTiles r0 r1 n (j + 1) (by omega) (some (addf acc x)) k

end Head

section Finish
variable (H : ℕ) (hH : H < 6) (r : ℕ) (hr : r + 320 ≤ 640) (hd : 320 ∣ r)

/-- Half of a head normalised and stored. -/
noncomputable def finHalf (s : ℕ) (hs : s + 128 ≤ 256) (z : FVec F S320x128 .f32) (k : Scr (Elt F) M α) : Scr (Elt F) M α :=
  .ld Nm.vs ![H, 0, 0] S1x320x128.size (inb_vs H hH) (View.loadsAt_vmem h_S1x320x128) fun x =>
  .ld Nm.gain ![0, 0] S320x128.size inb_S320x128_S320x128_0_0 (View.loadsAt_vmem h_S320x128) fun g =>
  .ld Nm.yt ![r, s] S320x128.size (inb_yt r s hr hs) (View.loadsAt_vmem h_S320x128) fun _ =>
  .st Nm.yt ![r, s] S320x128.size (inb_yt r s hr hs) (normHalf C z x g)
    (View.stores_vmem h_S320x128 ((W Nm.yt).storeExact_slice rfl _ (packed_yt r s hd _)) (fun _ => rfl)) (.inl rfl) k

noncomputable def fin (z : FVec F S320x256 .f32) (k : Scr (Elt F) M α) : Scr (Elt F) M α :=
  finHalf C W H hH r hr hd 0 (by decide) (extractStridedSlice S320x128 ![0, 0] z slices_S320x256_o0_0_S320x128) <|
  finHalf C W H hH r hr hd 128 (by decide) (extractStridedSlice S320x128 ![0, 128] z slices_S320x256_o0_128_S320x128) k
end Finish

/-- The pair's output, transposed into its columns of the output block. -/
noncomputable def emit (r : ℕ) (hr : r + 640 ≤ 1920) (k : Scr (Elt F) M α) : Scr (Elt F) M α :=
  .ld Nm.yt ![0, 0] S640x256.size inb_S640x256_S640x256_0_0 (View.loadsAt_vmem h_S640x256) fun y =>
  .ld Nm.out ![0, 0, r] S1x256x640.size (inb_out r hr) (View.loadsAt_vmem h_S1x256x640) fun _ =>
  .st Nm.out ![0, 0, r] S1x256x640.size (inb_out r hr) (outTile y)
    (View.stores_vmem h_S1x256x640 ((W Nm.out).storeExact_slice rfl _ (packed_out r _)) (fun _ => rfl)) (.inl rfl) k

/-- One head by the fast way. -/
noncomputable def headFlow (o : Bool) (H : ℕ) (hH : H < 6) (here : ℕ) (hr : here + 256 ≤ 2048) (hd : 256 ∣ here) (seg : IVec S1x256 32) (lam : Vec F S1x1 .f32)
    (n : ℕ) (hn : n + 1 = G.m) (k : FVec F S320x256 .f32 → Scr (Elt F) M α) : Scr (Elt F) M α :=
  prep W H here hH hr hd <|
  mapFlow C G o H hH seg 0 (by decide) n hn fun r0 =>
  mapFlow C G o H hH seg 1 (by decide) n hn fun r1 =>
  valTiles G o H hH seg r0 (lamRow r1 lam) n 0 (by omega) none k

/-- A pair of heads by the fast way. -/
noncomputable def pairFlow (H0 H1 : ℕ) (hH0 : H0 < 6) (hH1 : H1 < 6) (here : ℕ) (hr : here + 256 ≤ 2048) (hd : 256 ∣ here) (col : ℕ) (hcol : col + 640 ≤ 1920)
    (seg : IVec S1x256 32) (lam : Vec F S1x1 .f32) (n : ℕ) (hn : n + 1 = G.m) (k : Scr (Elt F) M α) : Scr (Elt F) M α :=
  headFlow C W G false H0 hH0 here hr hd seg lam n hn fun z =>
  fin C W H0 hH0 0 (by decide) (by decide) z <|
  headFlow C W G true H1 hH1 here hr hd seg lam n hn fun z =>
  fin C W H1 hH1 320 (by decide) (by decide) z <|
  emit W col hcol k

end Cert.DiffAttn

end
-- ==== Proof.Fast.lean ====
/-
  The words the kernel computes its places with, and the fast way of the kernel's body: one loop over the pairs of
  heads for each number of tiles the keys may span.
-/
module

public import proofs.«01_k».proof.Proof.Flow

@[expose] public section

noncomputable section

namespace Cert.DiffAttn

open Idealize.ShloMosaic Idealize.ShloMosaic.Script
open Cert.KernelIdeal Cert.KernelIdeal.Facts₀ Cert.KernelIdeal.Facts

/-! ### Words -/

/-- The tile of the segments' start `s`, by the kernel's floor division. -/
noncomputable def firstW (s : BitVec 32) : BitVec 32 :=
  Scalar.select (Scalar.andi (Scalar.cmpi .ne (Scalar.subi (Scalar.extui (Scalar.cmpi .sgt s 0#32)) (Scalar.extui (Scalar.cmpi .slt s 0#32)))
    (Scalar.subi (Scalar.extui (Scalar.cmpi .sgt 256#32 0#32)) (Scalar.extui (Scalar.cmpi .slt 256#32 0#32))))
    (Scalar.cmpi .ne (Scalar.remsi s 256#32) 0#32)) (Scalar.subi (Scalar.divsi s 256#32) 1#32) (Scalar.divsi s 256#32)

/-- The number of tiles the keys of tile `i` span. -/
noncomputable def tilesW (i : ℕ) (s : BitVec 32) : BitVec 32 := Scalar.addi (Scalar.subi (BitVec.ofNat 32 i) (firstW s)) 1#32

/-- Whether the keys span `n` tiles. -/
noncomputable def isW (t n : BitVec 32) : BitVec 1 := Scalar.cmpi .ne (Scalar.extui (Scalar.cmpi .eq t n)) 0#32

noncomputable def hereW (i : ℕ) : ℕ := (Scalar.indexCast (Scalar.muli (BitVec.ofNat 32 i) 256#32)).toNat
noncomputable def evenW (t : ℕ) : ℕ := (Scalar.indexCast (Scalar.muli 2#32 (Scf.iv 0#32 1#32 t))).toNat
noncomputable def oddW (t : ℕ) : ℕ := (Scalar.indexCast (Scalar.addi (Scalar.muli 2#32 (Scf.iv 0#32 1#32 t)) 1#32)).toNat
noncomputable def colW (t : ℕ) : ℕ := (Scalar.indexCast (Scalar.muli (Scalar.muli (Scf.iv 0#32 1#32 t) 2#32) 320#32)).toNat
noncomputable def tabW (i n j : ℕ) : ℕ := (Scalar.indexCast (Scalar.addi (Scalar.subi (BitVec.ofNat 32 i) (BitVec.ofNat 32 n)) (BitVec.ofNat 32 j))).toNat
noncomputable def rowW (i n j : ℕ) : ℕ :=
  (Scalar.indexCast (Scalar.muli (Scalar.addi (Scalar.subi (BitVec.ofNat 32 i) (BitVec.ofNat 32 n)) (BitVec.ofNat 32 j)) 256#32)).toNat
noncomputable def wordN (b : ℕ) : ℕ := (Scalar.indexCast (BitVec.ofNat 32 b)).toNat

theorem wordN_eq {b : ℕ} (h : b < 24) : wordN b = b := by
  show b % 2 ^ 32 = b; omega
theorem hereW_eq {i : ℕ} (h : i < 8) : hereW i = 256 * i := by
  show (BitVec.ofNat 32 i * 256#32).toNat = _
  rw [BitVec.toNat_mul, BitVec.toNat_ofNat, BitVec.toNat_ofNat]; omega
theorem evenW_eq {t : ℕ} (h : t < 3) : evenW t = 2 * t := by
  show (2#32 * (0#32 + BitVec.ofNat 32 t * 1#32)).toNat = _
  simp only [BitVec.toNat_mul, BitVec.toNat_add, BitVec.toNat_ofNat]; omega
theorem oddW_eq {t : ℕ} (h : t < 3) : oddW t = 2 * t + 1 := by
  show (2#32 * (0#32 + BitVec.ofNat 32 t * 1#32) + 1#32).toNat = _
  simp only [BitVec.toNat_mul, BitVec.toNat_add, BitVec.toNat_ofNat]; omega
theorem colW_eq {t : ℕ} (h : t < 3) : colW t = 640 * t := by
  show ((0#32 + BitVec.ofNat 32 t * 1#32) * 2#32 * 320#32).toNat = _
  simp only [BitVec.toNat_mul, BitVec.toNat_add, BitVec.toNat_ofNat]; omega
theorem tabW_eq {i n j : ℕ} (h : i < 8) (hn : n ≤ i) (hj : j < n + 1) : tabW i n j = i - n + j := by
  show (BitVec.ofNat 32 i - BitVec.ofNat 32 n + BitVec.ofNat 32 j).toNat = _
  simp only [BitVec.toNat_sub, BitVec.toNat_add, BitVec.toNat_ofNat]; omega
theorem rowW_eq {i n j : ℕ} (h : i < 8) (hn : n ≤ i) (hj : j < n + 1) : rowW i n j = 256 * (i - n + j) := by
  show ((BitVec.ofNat 32 i - BitVec.ofNat 32 n + BitVec.ofNat 32 j) * 256#32).toNat = _
  simp only [BitVec.toNat_mul, BitVec.toNat_sub, BitVec.toNat_add, BitVec.toNat_ofNat]; omega

/-- The places of the pairs of heads of tile `i` of batch `b` where the keys span `n + 1` tiles. -/
@[reducible] noncomputable def geo (b i n : ℕ) (hb : b < 24) (hi : i < 8) (hn : n ≤ i) : Geo where
  m := n + 1
  hm := by omega
  b := wordN b
  hb := by rw [wordN_eq hb]; exact hb
  R := rowW i n
  hR j hj := by rw [rowW_eq hi hn hj]; omega
  T := tabW i n
  hT j hj := by rw [tabW_eq hi hn hj]; omega

variable {F : FTy → Type} [FloatOps F] (C : Cst F)
variable {sig : RefSig} {M : Mems names sig .tc} (W : ∀ b : Nm, (M b).IsWhole) {α : Type}

theorem trips3 : Scf.trips 0#32 (Scalar.addi 0#32 3#32) 1#32 = 3 := by decide
theorem ok3 : Scf.OK 0#32 (Scalar.addi 0#32 3#32) 1#32 := by decide

section
variable (b i : ℕ) (hb : b < 24) (hi : i < 8) (seg : IVec S1x256 32) (lam : Vec F S1x1 .f32)

/-- The loop over the pairs of heads where the keys span `n + 1` tiles. -/
noncomputable def pairs (n : ℕ) (hn : n ≤ i) (k : Scr (Elt F) M α) : Scr (Elt F) M α :=
  .loop 0#32 (Scalar.addi 0#32 3#32) 1#32 ok3 PUnit.unit
    (fun t _ => pairFlow C W (geo b i n hb hi hn) (evenW t.val) (oddW t.val)
      (by have := t.isLt.trans_eq trips3; rw [evenW_eq this]; omega) (by have := t.isLt.trans_eq trips3; rw [oddW_eq this]; omega)
      (hereW i) (by rw [hereW_eq hi]; omega) (by rw [hereW_eq hi]; exact ⟨i, rfl⟩)
      (colW t.val) (by have := t.isLt.trans_eq trips3; rw [colW_eq this]; omega) seg lam n rfl (.ret PUnit.unit))
    fun _ => k

/-- One way where `c` holds, and then the rest. -/
noncomputable def opt (c : BitVec 1) (f : c = 1#1 → Scr (Elt F) M α → Scr (Elt F) M α) (k : Scr (Elt F) M α) : Scr (Elt F) M α :=
  .cond (c = 1#1) inferInstance (fun h => f h k) (fun _ => k)

/-- The fast way, given that a span of `n + 1` tiles starts at a tile. -/
noncomputable def fast (nT : BitVec 32) (s : BitVec 32) (H0 : isW nT 1#32 = 1#1 → 0 ≤ i) (H : ∀ n, n < 8 → isW (tilesW i s) (BitVec.ofNat 32 (n + 1)) = 1#1 → n ≤ i) (k : Scr (Elt F) M α) : Scr (Elt F) M α :=
  opt (isW nT 1#32) (fun h => pairs C W b i hb hi seg lam 0 (H0 h)) <|
  opt (isW (tilesW i s) 2#32) (fun h => pairs C W b i hb hi seg lam 1 (H 1 (by decide) h)) <|
  opt (isW (tilesW i s) 3#32) (fun h => pairs C W b i hb hi seg lam 2 (H 2 (by decide) h)) <|
  opt (isW (tilesW i s) 4#32) (fun h => pairs C W b i hb hi seg lam 3 (H 3 (by decide) h)) <|
  opt (isW (tilesW i s) 5#32) (fun h => pairs C W b i hb hi seg lam 4 (H 4 (by decide) h)) <|
  opt (isW (tilesW i s) 6#32) (fun h => pairs C W b i hb hi seg lam 5 (H 5 (by decide) h)) <|
  opt (isW (tilesW i s) 7#32) (fun h => pairs C W b i hb hi seg lam 6 (H 6 (by decide) h)) <|
  opt (isW (tilesW i s) 8#32) (fun h => pairs C W b i hb hi seg lam 7 (H 7 (by decide) h)) k

end

/-- The buffers of a call of the kernel, by name. -/
@[reducible] noncomputable def mems (arg2 arg3 : Memref sig .tc .smem S24x8 .i32) (arg4 : Memref sig .tc .vmem S1x6x2x160x256 .fp8e4m3) (arg5 : Memref sig .tc .vmem S1x6x2x256 .f32)
    (arg6 : Memref sig .tc .vmem S1x6x2x160x256 .fp8e4m3) (arg7 : Memref sig .tc .vmem S1x6x2x256 .f32) (arg8 : Memref sig .tc .vmem S1x6x320x256 .fp8e4m3) (arg9 : Memref sig .tc .vmem S1x1x256 .i32)
    (arg10 : Memref sig .tc .vmem S6x320x128 .f32) (arg11 : Memref sig .tc .vmem S320x128 .f32) (arg12 : Memref sig .tc .vmem S1x128 .f32) (arg13 : Memref sig .tc .vmem S1x256x1920 .bf16)
    (arg14 : Memref sig .tc .vmem S6x2x2048x160 .fp8e4m3) (arg15 : Memref sig .tc .vmem S6x320x2048 .bf16) (arg16 : Memref sig .tc .vmem S6x2x2048x128 .f32) (arg17 arg18 : Memref sig .tc .vmem S2x2048x256 .f32)
    (arg19 : Memref sig .tc .vmem S256x256 .f32) (arg20 : Memref sig .tc .vmem S256x128 .f32) (arg21 arg22 : Memref sig .tc .vmem S8x256 .f32) (arg23 : Memref sig .tc .vmem S640x256 .bf16)
    (arg24 : Memref sig .tc .vmem S320x256 .f32) : Mems names sig .tc
  | .start => arg2 | .last => arg3 | .q => arg4 | .qs => arg5 | .k => arg6 | .ks => arg7 | .v => arg8 | .seg => arg9 | .vs => arg10 | .gain => arg11 | .lam => arg12
  | .out => arg13 | .kt => arg14 | .v16 => arg15 | .ksr => arg16 | .p0 => arg17 | .p1 => arg18 | .causal => arg19 | .head => arg20 | .lo => arg21 | .hi => arg22 | .yt => arg23 | .acc => arg24

end Cert.DiffAttn

end
-- ==== Proof.Slow.lean ====
/-
  The slow way of the kernel's body, taken where a sum of exponentials leaves the safe range: two sweeps over the tiles for
  each map, the first for the largest score and the second for the exponentials below it, and a third for the values.
-/
module

public import proofs.«01_k».proof.Proof.Fast

@[expose] public section

noncomputable section

namespace Cert.DiffAttn

open Idealize.ShloMosaic Idealize.ShloMosaic.Script
open Cert.KernelIdeal Cert.KernelIdeal.Facts₀ Cert.KernelIdeal.Facts

/-! ### Words and bounds -/

/-- The end of a sweep's first loop, and of the loop over what remains. -/
noncomputable def midW (nT : BitVec 32) : BitVec 32 := Scalar.addi 0#32 (Scalar.muli (Scalar.divsi (Scalar.subi nT 0#32) 1#32) 1#32)
noncomputable def endW (nT : BitVec 32) : BitVec 32 := Scalar.addi 0#32 (Scalar.subi nT 0#32)

noncomputable def tileS (s w : BitVec 32) : BitVec 32 := Scalar.addi (firstW s) w
noncomputable def tabS (s w : BitVec 32) : ℕ := (Scalar.indexCast (tileS s w)).toNat
noncomputable def rowS (s w : BitVec 32) : ℕ := (Scalar.indexCast (Scalar.muli (tileS s w) 256#32)).toNat
noncomputable def atS (w : BitVec 32) : ℕ := (Scalar.indexCast (Scalar.muli w 256#32)).toNat

/-- Tile `w` of a sweep from the start `s` lies in the buffers. -/
structure Fits (s w : BitVec 32) : Prop where
  tab : tabS s w < 8
  row : rowS s w + 256 ≤ 2048
  at_ : atS w + 256 ≤ 2048

/-- A sweep over the `nT` tiles from the start `s` stays in the buffers. -/
structure Sweeps (s nT : BitVec 32) : Prop where
  ok1 : Scf.OK 0#32 (midW nT) 1#32
  ok2 : Scf.OK (midW nT) (endW nT) 1#32
  in1 : ∀ t : Fin (Scf.trips 0#32 (midW nT) 1#32), Fits s (Scf.iv 0#32 1#32 t.val)
  in2 : ∀ t : Fin (Scf.trips (midW nT) (endW nT) 1#32), Fits s (Scf.iv (midW nT) 1#32 t.val)

variable {F : FTy → Type} [FloatOps F] (C : Cst F)

/-! ### Values -/

/-- The masked scores of tile `w`. -/
noncomputable def slowTile (s w iW : BitVec 32) (seg : IVec S1x256 32) (x : FVec F S256x256 .f32) (hd : Vec F S256x128 .f32) (ca : Vec F S256x256 .f32) (l : BitVec 32) : FVec F S256x256 .f32 :=
  let y : FVec F S256x256 .f32 := Scalar.select (Scalar.cmpi .eq w 0#32) (minimumf x (headCap hd)) x
  let z : FVec F S256x256 .f32 := Scalar.select (Scalar.cmpi .eq (tileS s w) iW) (minimumf y ca) y
  let ok : IVec S1x256 1 := cmpi .eq (Scalar.select (Scalar.cmpi .eq (tileS s w) iW) seg (broadcast S1x256 l)) seg
  select (broadcastTo S256x256 (shapeCast S1x256 ok shapeCasts_S1x256_S1x256) broadcasts_S1x256_S256x256) z (broadcast S256x256 C.masked)

noncomputable def colMax (x : FVec F S256x256 .f32) : FVec F S1x256 .f32 :=
  shapeCast S1x256 (multiReduction .maximumf [0] S256 x 0xFF800000#32 reduces_S256x256_S256 (.inl rfl) rfl) shapeCasts_S256_S1x256
noncomputable def colSum (x : FVec F S256x256 .f32) : FVec F S1x256 .f32 :=
  shapeCast S1x256 (multiReduction .add [0] S256 x 0x00000000#32 reduces_S256x256_S256 (.inl rfl) rfl) shapeCasts_S256_S1x256
noncomputable def below (x : FVec F S256x256 .f32) (top : FVec F S1x256 .f32) : FVec F S256x256 .f32 :=
  exp2 (subf x (broadcastTo S256x256 top broadcasts_S1x256_S256x256))
noncomputable def zeroAcc : FVec F S320x256 .f32 := shapeCast S320x256 (broadcast S320x256 (Scalar.ofBits .f32 0x00000000#32)) shapeCasts_S320x256_S320x256

/-! ### Scripts -/

variable {sig : RefSig} {M : Mems names sig .tc} (W : ∀ b : Nm, (M b).IsWhole) {α : Type}

/-- A sweep: one loop over the tiles, and one over what its steps leave. -/
noncomputable def sweep {A : Type} (s nT : BitVec 32) (S : Sweeps s nT) (init : A) (body : (w : BitVec 32) → Fits s w → A → Scr (Elt F) M A) (k : A → Scr (Elt F) M α) : Scr (Elt F) M α :=
  .loop 0#32 (midW nT) 1#32 S.ok1 init (fun t a => body (Scf.iv 0#32 1#32 t.val) (S.in1 t) a) fun a =>
  .loop (midW nT) (endW nT) 1#32 S.ok2 a (fun t a => body (Scf.iv (midW nT) 1#32 t.val) (S.in2 t) a) k

section
variable (b i : ℕ) (hb : b < 24) (s nT : BitVec 32) (S : Sweeps s nT) (H : ℕ) (hH : H < 6) (seg : IVec S1x256 32) (lam : Vec F S1x1 .f32)

noncomputable def slowScores (c : ℕ) (hc : c < 2) (w : BitVec 32) (hw : Fits s w) (k : FVec F S256x256 .f32 → Scr (Elt F) M α) : Scr (Elt F) M α :=
  .ld Nm.qs ![0, H, c, 0] S1x1x1x256.size (inb_qs H c hH hc) (View.loadsAt_vmem h_S1x1x1x256) fun y =>
  .ld Nm.kt ![H, c, rowS s w, 0] S1x1x256x160.size (inb_kt H c _ hH hc hw.row) (View.loadsAt_vmem h_S1x1x256x160) fun kx =>
  .ld Nm.q ![0, H, c, 0, 0] S1x1x1x160x256.size (inb_q H c hH hc) (View.loadsAt_vmem h_S1x1x1x160x256) fun qx =>
  .ld Nm.ksr ![H, c, rowS s w, 0] S1x1x256x128.size (inb_ksr H c _ hH hc hw.row) (View.loadsAt_vmem h_S1x1x256x128) fun sx =>
  .ld Nm.head ![0, 0] S256x128.size inb_S256x128_S256x128_0_0 (View.loadsAt_vmem h_S256x128) fun hd =>
  .ld Nm.causal ![0, 0] S256x256.size inb_S256x256_S256x256_0_0 (View.loadsAt_vmem h_S256x256) fun ca =>
  .ld Nm.last ![wordN b, tabS s w] S1x1.size (inb_tab _ _ (by rw [wordN_eq hb]; exact hb) hw.tab) (View.loadsAt_rect (View.loads_smem_one rfl numel1_S1x1)) fun f =>
  k (slowTile C s w (BitVec.ofNat 32 i) seg (scoreTile kx qx sx (alphaRow C y)) hd ca (f (Shape.Idx.first (numel1_S1x1.symm ▸ Nat.one_pos))))

/-- The sum of a map's exponentials, each below the largest score. -/
noncomputable def slowMap (c : ℕ) (hc : c < 2) (k : FVec F S1x256 .f32 → Scr (Elt F) M α) : Scr (Elt F) M α :=
  sweep s nT S (broadcast S1x256 C.masked : FVec F S1x256 .f32)
    (fun w hw top => slowScores C b i hb s H hH seg c hc w hw fun x => .ret (maximumf top (colMax x))) fun top =>
  sweep s nT S (broadcast S1x256 (Scalar.ofBits .f32 0x00000000#32) : FVec F S1x256 .f32)
    (fun w hw tot => slowScores C b i hb s H hH seg c hc w hw fun x =>
      ldP false c (atS w) hc hw.at_ fun _ => stP false c (atS w) hc hw.at_ (asP (below x top)) <|
      .ret (addf tot (colSum (below x top)))) k

/-- The product of the maps' difference and the values, built up in its buffer. -/
noncomputable def slowVal (r0 r1 : FVec F S1x256 .f32) (k : Vec F S320x256 .f32 → Scr (Elt F) M α) : Scr (Elt F) M α :=
  .ld Nm.acc ![0, 0] S320x256.size inb_S320x256_S320x256_0_0 (View.loadsAt_vmem h_S320x256) fun _ =>
  .st Nm.acc ![0, 0] S320x256.size inb_S320x256_S320x256_0_0 zeroAcc (View.stores_vmem_bits_univ h_S320x256 rfl) (.inl rfl) <|
  sweep s nT S PUnit.unit (fun w hw _ =>
      ldP false 0 (atS w) (by decide) hw.at_ fun x0 => ldP false 1 (atS w) (by decide) hw.at_ fun x1 =>
      .ld Nm.acc ![0, 0] S320x256.size inb_S320x256_S320x256_0_0 (View.loadsAt_vmem h_S320x256) fun a =>
      .ld Nm.v16 ![H, 0, rowS s w] S1x320x256.size (inb_v16 H _ hH hw.row) (View.loadsAt_vmem h_S1x320x256) fun vx =>
      .ld Nm.acc ![0, 0] S320x256.size inb_S320x256_S320x256_0_0 (View.loadsAt_vmem h_S320x256) fun _ =>
      .st Nm.acc ![0, 0] S320x256.size inb_S320x256_S320x256_0_0 (shapeCast S320x256 (addf a (avTile vx (attTile x0 x1 r0 r1))) shapeCasts_S320x256_S320x256)
        (View.stores_vmem_bits_univ h_S320x256 rfl) (.inl rfl) <| .ret PUnit.unit) fun _ =>
  .ld Nm.acc ![0, 0] S320x256.size inb_S320x256_S320x256_0_0 (View.loadsAt_vmem h_S320x256) k
end

section
variable (b i : ℕ) (hb : b < 24) (s nT : BitVec 32) (S : Sweeps s nT) (seg : IVec S1x256 32) (lam : Vec F S1x1 .f32)

/-- A pair of heads by the slow way, in the pieces it is written in. -/
noncomputable def slowPair (t : ℕ) (ht : t < 3) (k : Scr (Elt F) M α) : Scr (Elt F) M α :=
  have h0 : evenW t < 6 := by rw [evenW_eq ht]; omega
  have h1 : oddW t < 6 := by rw [oddW_eq ht]; omega
  .call (slowMap C b i hb s nT S (evenW t) h0 seg 0 (by decide) fun t0 =>
    slowMap C b i hb s nT S (evenW t) h0 seg 1 (by decide) fun t1 =>
    .ret (⟨Scf.iv 0#32 1#32 t, Scalar.muli 2#32 (Scf.iv 0#32 1#32 t), recip t0, t1, broadcast S1x256 (Scalar.ofBits .f32 0x3F800000#32)⟩ :
      Σ' (_ : BitVec 32) (_ : BitVec 32) (_ : FVec F S1x256 .f32) (_ : FVec F S1x256 .f32), FVec F S1x256 .f32)) fun z =>
  .call (slowVal s nT S (evenW t) h0 z.2.2.1 (lamRow (divf z.2.2.2.2 z.2.2.2.1) lam) fun y =>
    finHalf C W (evenW t) h0 0 (by decide) (by decide) 0 (by decide) (extractStridedSlice S320x128 ![0, 0] y slices_S320x256_o0_0_S320x128) <|
    .ret (extractStridedSlice S320x128 ![0, 128] y slices_S320x256_o0_128_S320x128)) fun u =>
  .call (finHalf C W (evenW t) h0 0 (by decide) (by decide) 128 (by decide) u <|
    slowMap C b i hb s nT S (oddW t) h1 seg 0 (by decide) fun t0 =>
    .ret (⟨Scalar.addi (Scalar.muli 2#32 z.1) 1#32, t0⟩ : Σ' (_ : BitVec 32), FVec F S1x256 .f32)) fun x =>
  .call (slowMap C b i hb s nT S (oddW t) h1 seg 1 (by decide) fun t1 =>
    slowVal s nT S (oddW t) h1 (recip x.2) (lamRow (recip t1) lam) fun y =>
    .ret (⟨y, extractStridedSlice S320x128 ![0, 0] y slices_S320x256_o0_0_S320x128⟩ : Σ' (_ : Vec F S320x256 .f32), FVec F S320x128 .f32)) fun v =>
  finHalf C W (oddW t) h1 320 (by decide) (by decide) 0 (by decide) v.2 <|
  finHalf C W (oddW t) h1 320 (by decide) (by decide) 128 (by decide) (extractStridedSlice S320x128 ![0, 128] v.1 slices_S320x256_o0_128_S320x128) <|
  emit W (colW t) (by rw [colW_eq ht]; omega) k

/-- The slow way: a loop over the pairs of heads. -/
noncomputable def slow : Scr (Elt F) M PUnit :=
  .loop 0#32 (Scalar.addi 0#32 3#32) 1#32 ok3 PUnit.unit
    (fun t _ => slowPair C W b i hb s nT S seg lam t.val (t.isLt.trans_eq trips3) (.ret PUnit.unit))
    fun _ => .ret PUnit.unit
end

end Cert.DiffAttn

end
-- ==== Proof.Body.lean ====
/-
  The whole body of the kernel as one script: the masks of the point's tile, the fast way, and the slow way where the
  sums of the fast way left the safe range.
-/
module

public import proofs.«01_k».proof.Proof.Slow

@[expose] public section

noncomputable section

namespace Cert.DiffAttn

open Idealize.ShloMosaic Idealize.ShloMosaic.Script
open Cert.KernelIdeal Cert.KernelIdeal.Facts₀ Cert.KernelIdeal.Facts

variable {F : FTy → Type} [FloatOps F] (C : Cst F)

/-! ### Masks -/

noncomputable def segRow (x : Vec F S1x1x256 .i32) : IVec S1x256 32 := shapeCast S1x256 x shapeCasts_S1x1x256_S1x256

noncomputable def segCol (y : IVec S1x256 32) : IVec S256x128 32 :=
  concatenate S256x128 0 [⟨S128x128, transpose S128x128 [1, 0] (broadcastTo S128x128 (shapeCast S1x128 (extractStridedSlice S1x128 ![0, 0] y slices_S1x256_o0_0_S1x128) shapeCasts_S1x128_S1x128) broadcasts_S1x128_S128x128) transposes_S128x128_p1_0_S128x128⟩,
    ⟨S128x128, transpose S128x128 [1, 0] (broadcastTo S128x128 (shapeCast S1x128 (extractStridedSlice S1x128 ![0, 128] y slices_S1x256_o0_128_S1x128) shapeCasts_S1x128_S1x128) broadcasts_S1x128_S128x128) transposes_S128x128_p1_0_S128x128⟩]
    concatenates_S128x128_S128x128_S256x128_d0

/-- The positions of a tile's keys, and of half of its queries. -/
noncomputable def keyIota : IVec S256x128 32 := iota .tc S256x128 32 [0] iota_S256x128_d0_w32
noncomputable def laneIota : IVec S256x128 32 := iota .tc S256x128 32 [1] iota_S256x128_d1_w32

/-- A mask as caps: no cap where it holds, the lowest cap where it does not. -/
noncomputable def capOf (m : IVec S256x128 1) : FVec F S256x128 .f32 := select m (broadcast S256x128 C.opened) (broadcast S256x128 C.masked)

noncomputable def causal0 (y : IVec S1x256 32) : Vec F S256x128 .f32 :=
  shapeCast S256x128 (capOf C (andi (cmpi .eq (segCol y) (broadcastTo S256x128 (extractStridedSlice S1x128 ![0, 0] y slices_S1x256_o0_0_S1x128) broadcasts_S1x128_S256x128))
    (cmpi .sle keyIota (addi laneIota (broadcast S256x128 0#32))))) shapeCasts_S256x128_S256x128
noncomputable def causal1 (y : IVec S1x256 32) : Vec F S256x128 .f32 :=
  shapeCast S256x128 (capOf C (andi (cmpi .eq (segCol y) (broadcastTo S256x128 (extractStridedSlice S1x128 ![0, 128] y slices_S1x256_o0_128_S1x128) broadcasts_S1x128_S256x128))
    (cmpi .sle keyIota (addi laneIota (broadcast S256x128 128#32))))) shapeCasts_S256x128_S256x128
noncomputable def headMask (s : BitVec 32) : Vec F S256x128 .f32 :=
  shapeCast S256x128 (capOf C (cmpi .sge (addi keyIota (broadcast S256x128 (Scalar.muli (firstW s) 256#32))) (broadcast S256x128 s))) shapeCasts_S256x128_S256x128
noncomputable def one8 : Vec F S8x256 .f32 := shapeCast S8x256 (broadcast S8x256 (Scalar.ofBits .f32 0x3F800000#32)) shapeCasts_S8x256_S8x256

/-- The test that the least sum is large enough, and that the greatest is small enough. -/
noncomputable def loOk (x : FVec F S1x8x256 .f32) : BitVec 1 :=
  Scalar.cmpf .oge (extractAt ![0, 0, 0] (shapeCast S1x1x1 (multiReduction .minimumf [1, 2] S1 x 0x7F800000#32 reduces_S1x8x256_S1 (.inl rfl) rfl) shapeCasts_S1_S1x1x1) inpos_S1x1x1_p0_0_0) (Scalar.ofBits .f32 0x21800000#32)
noncomputable def hiOk (x : FVec F S1x8x256 .f32) : BitVec 1 :=
  Scalar.cmpf .ole (extractAt ![0, 0, 0] (shapeCast S1x1x1 (multiReduction .maximumf [1, 2] S1 x 0xFF800000#32 reduces_S1x8x256_S1 (.inl rfl) rfl) shapeCasts_S1_S1x1x1) inpos_S1x1x1_p0_0_0) (Scalar.ofBits .f32 0x71800000#32)
noncomputable def outOf (l h : BitVec 1) : BitVec 1 := Scalar.cmpi .ne (Scalar.extui (Scalar.xori (Scalar.andi l h) 1#1)) 0#32

/-! ### The script -/

variable {sig : RefSig} {M : Mems names sig .tc} (W : ∀ b : Nm, (M b).IsWhole) {α : Type}
variable (b i : ℕ) (hb : b < 24) (hi : i < 8)

/-- The masks and the first bounds of the sums. -/
noncomputable def prefixFlow (s : BitVec 32) (k : IVec S1x256 32 → Vec F S1x1 .f32 → Scr (Elt F) M α) : Scr (Elt F) M α :=
  .ld Nm.seg ![0, 0, 0] S1x1x256.size inb_S1x1x256_S1x1x256_0_0_0 (View.loadsAt_vmem h_S1x1x256) fun x =>
  .ld Nm.causal ![0, 0] S256x128.size inb_S256x256_S256x128_0_0 (View.loadsAt_vmem h_S256x128) fun _ =>
  .st Nm.causal ![0, 0] S256x128.size inb_S256x256_S256x128_0_0 (causal0 C (segRow x)) (View.stores_vmem_bits_univ h_S256x128 rfl) (.inl rfl) <|
  .ld Nm.causal ![0, 128] S256x128.size inb_S256x256_S256x128_0_128 (View.loadsAt_vmem h_S256x128) fun _ =>
  .st Nm.causal ![0, 128] S256x128.size inb_S256x256_S256x128_0_128 (causal1 C (segRow x)) (View.stores_vmem_bits_univ h_S256x128 rfl) (.inl rfl) <|
  .ld Nm.head ![0, 0] S256x128.size inb_S256x128_S256x128_0_0 (View.loadsAt_vmem h_S256x128) fun _ =>
  .st Nm.head ![0, 0] S256x128.size inb_S256x128_S256x128_0_0 (headMask C s) (View.stores_vmem_bits_univ h_S256x128 rfl) (.inl rfl) <|
  .ld Nm.lam ![0, 0] S1x1.size inb_S1x128_S1x1_0_0 (View.loadsAt_vmem h_S1x1) fun lam =>
  .ld Nm.lo ![0, 0] S8x256.size inb_S8x256_S8x256_0_0 (View.loadsAt_vmem h_S8x256) fun _ =>
  .st Nm.lo ![0, 0] S8x256.size inb_S8x256_S8x256_0_0 one8 (View.stores_vmem_bits_univ h_S8x256 rfl) (.inl rfl) <|
  .ld Nm.hi ![0, 0] S8x256.size inb_S8x256_S8x256_0_0 (View.loadsAt_vmem h_S8x256) fun _ =>
  .st Nm.hi ![0, 0] S8x256.size inb_S8x256_S8x256_0_0 one8 (View.stores_vmem_bits_univ h_S8x256 rfl) (.inl rfl) <|
  k (segRow x) (shapeCast S1x1 lam shapeCasts_S1x1_S1x1)

/-- The body at tile `i` of batch `b`. It stops unless `P₁` holds of the start of the tile's segments, which keeps the fast
    way in the buffers, and `P₂` of the start and of the two tests, which keeps the slow way there. -/
noncomputable def body (P₁ : BitVec 32 → Prop) (d₁ : ∀ s, Decidable (P₁ s)) (h₁ : ∀ s, P₁ s → ∀ n, n < 8 → isW (tilesW i s) (BitVec.ofNat 32 (n + 1)) = 1#1 → n ≤ i)
    (P₂ : BitVec 32 → BitVec 1 → BitVec 1 → Prop) (d₂ : ∀ s l h, Decidable (P₂ s l h)) (h₂ : ∀ s l h, P₂ s l h → outOf l h = 1#1 → Sweeps s (tilesW i s)) : Scr (Elt F) M PUnit :=
  ldStart (wordN b) (wordN i) (by rw [wordN_eq hb]; exact hb) (by rw [wordN_eq (by omega)]; exact hi) fun s =>
  .asm (P₁ s) (d₁ s) fun w₁ =>
  prefixFlow C s fun seg lam =>
  .call (fast C W b i hb hi seg lam (tilesW i s) s (fun _ => Nat.zero_le i) (h₁ s w₁) <|
    .ld Nm.lo ![0, 0] S8x256.size inb_S8x256_S8x256_0_0 (View.loadsAt_vmem h_S8x256) fun x => .ret (shapeCast S1x8x256 x shapeCasts_S8x256_S1x8x256 : FVec F S1x8x256 .f32)) fun lo =>
  .ld Nm.hi ![0, 0] S8x256.size inb_S8x256_S8x256_0_0 (View.loadsAt_vmem h_S8x256) fun hx =>
  .asm (P₂ s (loOk lo) (hiOk (shapeCast S1x8x256 hx shapeCasts_S8x256_S1x8x256))) (d₂ _ _ _) fun w₂ =>
  .cond (outOf (loOk lo) (hiOk (shapeCast S1x8x256 hx shapeCasts_S8x256_S1x8x256)) = 1#1) inferInstance
    (fun h => slow C W b i hb s (tilesW i s) (h₂ s _ _ w₂ h) seg lam) (fun _ => .ret PUnit.unit)

end Cert.DiffAttn

end
-- ==== Proof.Safe.lean ====
/-
  Scripts that run to their end from any values of the buffers (`Safe`), what a script leaves in the buffers it may not
  write (`run_keep`), and that the two ways of the kernel's body are safe.
-/
module

public import proofs.«01_k».proof.Proof.Body

@[expose] public section

noncomputable section

namespace Idealize.ShloMosaic.Script

variable {sig : RefSig} {Val : EltTy → Type} {N : Names} {κ : Kind} {M : Mems N sig κ}

/-- The script's checks hold and it writes only what it may. -/
def Safe {α : Type} (s : Scr Val M α) : Prop :=
  Scr.rec (motive := fun _ _ => Prop)
    (fun _ => True)
    (fun _ _ _ _ _ _ ih => ∀ w, ih w)
    (fun b _ _ _ _ _ _ _ ih => N.writable b = true ∧ ih)
    (fun P _ _ ih => ∃ h : P, ih h)
    (fun _ _ _ _ _ _ _ ihb ih => (∀ k a, ihb k a) ∧ ∀ a, ih a)
    (fun P _ _ _ iht ihe => (∀ h : P, iht h) ∧ ∀ h : ¬ P, ihe h)
    (fun _ _ ihq ih => ihq ∧ ∀ b, ih b)
    s

theorem safe_ld {α : Type} {b : N.B} {off size : Fin (N.shape b).rank → ℕ} {inb : ∀ a, off a + size a ≤ (N.shape b).size a}
    {hl : (M b).view.LoadsAt (Rect.unit off size inb).toLoadRect} {k : ((Rect.unit off size inb).shape.Idx → Val (N.elt b)) → Scr Val M α}
    (h : ∀ x, Safe (k x)) : Safe (.ld b off size inb hl k) := h

theorem safe_st {α : Type} {b : N.B} {off size : Fin (N.shape b).rank → ℕ} {inb : ∀ a, off a + size a ≤ (N.shape b).size a}
    {w : (Rect.unit off size inb).shape.Idx → Val (N.elt b)} {hx hm} {k : Scr Val M α} (hw : N.writable b = true) (h : Safe k) : Safe (.st b off size inb w hx hm k) := ⟨hw, h⟩

theorem safe_asm {α : Type} {P : Prop} {d : Decidable P} {k : P → Scr Val M α} (hP : P) (h : Safe (k hP)) : Safe (.asm P d k) := ⟨hP, h⟩

theorem safe_cond {α : Type} {P : Prop} {d : Decidable P} {t : P → Scr Val M α} {e : ¬ P → Scr Val M α} (ht : ∀ h, Safe (t h)) (he : ∀ h, Safe (e h)) :
    Safe (.cond P d t e) := ⟨ht, he⟩

theorem safe_call {α β : Type} {q : Scr Val M β} {k : β → Scr Val M α} (hq : Safe q) (hk : ∀ b, Safe (k b)) : Safe (.call q k) := ⟨hq, hk⟩

theorem safe_loop {α σ : Type} {lb ub stp : BitVec 32} {hok : Scf.OK lb ub stp} {init : σ} {body : Fin (Scf.trips lb ub stp) → σ → Scr Val M σ} {k : σ → Scr Val M α}
    (hb : ∀ t a, Safe (body t a)) (hk : ∀ a, Safe (k a)) : Safe (.loop lb ub stp hok init body k) := ⟨hb, hk⟩

theorem run_of_safe {α : Type} (s : Scr Val M α) : Safe s → ∀ S : St N Val, run s S fun _ _ => True := by
  induction s with
  | ret a => intro _ S; exact trivial
  | ld b off size inb hl k ih => intro h S; exact ih _ (h _) S
  | st b off size inb w hx hm k ih => intro h S; exact ⟨h.1, ih h.2 _⟩
  | asm P d k ih => intro h S; exact h.imp fun hp h => ih hp h S
  | loop lb ub stp hok init body k ihb ih =>
    intro h S
    exact ⟨fun _ _ _ => True, trivial, fun k a S' _ => ihb k a (h.1 k a) S', fun a S' _ => ih a (h.2 a) S'⟩
  | cond P d t e iht ihe => intro h S; exact ⟨fun hp => iht hp (h.1 hp) S, fun hp => ihe hp (h.2 hp) S⟩
  | call q k ihq ih => intro h S; exact run_mono q S _ _ (fun b S' _ => ih b (h.2 b) S') (ihq h.1 S)

theorem run_ld {α : Type} {b : N.B} {off size : Fin (N.shape b).rank → ℕ} {inb : ∀ a, off a + size a ≤ (N.shape b).size a}
    {hl : (M b).view.LoadsAt (Rect.unit off size inb).toLoadRect} {k : ((Rect.unit off size inb).shape.Idx → Val (N.elt b)) → Scr Val M α} {S : St N Val}
    {Q : α → St N Val → Prop} (h : run (k (VecWindow.window (S b) off size inb)) S Q) : run (.ld b off size inb hl k) S Q := h

theorem run_asm {α : Type} {P : Prop} {d : Decidable P} {k : P → Scr Val M α} {S : St N Val} {Q : α → St N Val → Prop} (hP : P) (h : run (k hP) S Q) :
    run (.asm P d k) S Q := ⟨hP, h⟩

/-- What the script may not write stays. -/
theorem run_keep {α : Type} (s : Scr Val M α) : ∀ (S₀ S : St N Val) (Q : α → St N Val → Prop), (∀ b, N.writable b = false → S b = S₀ b) → run s S Q →
    run s S fun a S' => Q a S' ∧ ∀ b, N.writable b = false → S' b = S₀ b := by
  induction s with
  | ret a => intro S₀ S Q h hr; exact ⟨hr, h⟩
  | ld b off size inb hl k ih => intro S₀ S Q h hr; exact ih _ _ _ _ h hr
  | st b off size inb w hx hm k ih =>
    intro S₀ S Q h hr
    refine ⟨hr.1, ih _ _ _ (fun b' hb' => ?_) hr.2⟩
    rw [Function.update_of_ne (fun e => ?_), h b' hb']
    rw [e, hr.1] at hb'; exact absurd hb' (by decide)
  | asm P d k ih => intro S₀ S Q h hr; exact hr.imp fun hp hr => ih hp _ _ _ h hr
  | loop lb ub stp hok init body k ihb ih =>
    intro S₀ S Q h hr
    obtain ⟨I, h0, hs, hx⟩ := hr
    exact ⟨fun k a S' => I k a S' ∧ ∀ b, N.writable b = false → S' b = S₀ b, ⟨h0, h⟩, fun k a S' hI => ihb k a S₀ S' _ hI.2 (hs k a S' hI.1),
      fun a S' hI => ih a S₀ S' Q hI.2 (hx a S' hI.1)⟩
  | cond P d t e iht ihe => intro S₀ S Q h hr; exact ⟨fun hp => iht hp _ _ _ h (hr.1 hp), fun hp => ihe hp _ _ _ h (hr.2 hp)⟩
  | call q k ihq ih =>
    intro S₀ S Q h hr
    exact run_mono q S _ _ (fun b S' hk => ih b S₀ S' Q hk.2 hk.1) (ihq S₀ S _ h hr)

end Idealize.ShloMosaic.Script

namespace Cert.DiffAttn

open Idealize.ShloMosaic Idealize.ShloMosaic.Script
open Cert.KernelIdeal Cert.KernelIdeal.Facts₀ Cert.KernelIdeal.Facts

variable {F : FTy → Type} [FloatOps F] (C : Cst F)
variable {sig : RefSig} {M : Mems names sig .tc} (W : ∀ b : Nm, (M b).IsWhole) {α : Type}

theorem safe_prepMap (H c here : ℕ) (hH : H < 6) (hc : c < 2) (hr : here + 256 ≤ 2048) (hd : 256 ∣ here) {k : Scr (Elt F) M α} (hk : Safe k) :
    Safe (prepMap W H c here hH hc hr hd k) := fun _ _ => ⟨rfl, fun _ _ => ⟨rfl, hk⟩⟩

theorem safe_prep (H here : ℕ) (hH : H < 6) (hr : here + 256 ≤ 2048) (hd : 256 ∣ here) {k : Scr (Elt F) M α} (hk : Safe k) :
    Safe (prep W H here hH hr hd k) :=
  safe_prepMap W H 0 here hH _ hr hd <| safe_prepMap W H 1 here hH _ hr hd fun _ _ => ⟨rfl, hk⟩

theorem safe_ldP (o : Bool) (c r : ℕ) (hc : c < 2) (hr : r + 256 ≤ 2048) {k : Vec F S1x256x256 .f32 → Scr (Elt F) M α} (hk : ∀ x, Safe (k x)) :
    Safe (ldP o c r hc hr k) := by cases o <;> exact hk

theorem safe_stP (o : Bool) (c r : ℕ) (hc : c < 2) (hr : r + 256 ≤ 2048) (x : Vec F S1x256x256 .f32) {k : Scr (Elt F) M α} (hk : Safe k) :
    Safe (stP o c r hc hr x k) := by cases o <;> exact ⟨rfl, hk⟩

variable (G : Geo) (o : Bool) (H : ℕ) (hH : H < 6) (seg : IVec S1x256 32) (lam : Vec F S1x1 .f32)

theorem safe_ldLast (j : ℕ) (hj : j < G.m) {k : BitVec 32 → Scr (Elt F) M α} (hk : ∀ l, Safe (k l)) : Safe (ldLast G j hj k) := fun _ => hk _

theorem safe_scores (c : ℕ) (hc : c < 2) (row : FVec F S1x256 .f32) (j : ℕ) (hj : j < G.m) {k : FVec F S256x256 .f32 → Scr (Elt F) M α} (hk : ∀ x, Safe (k x)) :
    Safe (scores G H hH c hc row j hj k) := fun _ _ _ => hk _

theorem safe_expP (c : ℕ) (hc : c < 2) (j : ℕ) (hj : j < G.m) (x : FVec F S256x256 .f32) {k : Scr (Elt F) M α} (hk : Safe k) :
    Safe (expP G o c hc j hj x k) := safe_ldP o c _ hc _ fun _ => safe_stP o c _ hc _ _ hk

theorem safe_mapTiles (c : ℕ) (hc : c < 2) (row : FVec F S1x256 .f32) {k : FVec F S8x256 .f32 → FVec F S8x256 .f32 → Scr (Elt F) M α} (hk : ∀ x y, Safe (k x y)) :
    ∀ (n j : ℕ) (hj : j + n + 1 = G.m) (total peak : FVec F S8x256 .f32), Safe (mapTiles G o H hH seg c hc row n j hj total peak k)
  | 0, j, hj, _, _ => safe_scores G H hH c hc row j _ fun _ _ => safe_expP G o c hc j _ _ (hk _ _)
  | n + 1, 0, hj, _, _ => safe_scores G H hH c hc row 0 _ fun _ _ => safe_expP G o c hc 0 _ _ <| safe_ldLast G 0 _ fun _ =>
      safe_mapTiles c hc row hk n 1 (by omega) _ _
  | n + 1, j + 1, hj, _, _ => safe_scores G H hH c hc row (j + 1) _ fun _ => safe_expP G o c hc (j + 1) _ _ <| safe_ldLast G (j + 1) _ fun _ =>
      safe_mapTiles c hc row hk n (j + 2) (by omega) _ _

theorem safe_mapFlow (c : ℕ) (hc : c < 2) (n : ℕ) (hn : n + 1 = G.m) {k : FVec F S1x256 .f32 → Scr (Elt F) M α} (hk : ∀ x, Safe (k x)) :
    Safe (mapFlow C G o H hH seg c hc n hn k) := fun _ =>
  safe_mapTiles G o H hH seg c hc _ (fun _ _ => by exact fun _ _ => ⟨rfl, fun _ _ => ⟨rfl, hk _⟩⟩) n 0 _ _ _

theorem safe_attV (j : ℕ) (hj : j < G.m) (r0 r1 : FVec F S1x256 .f32) {k : FVec F S320x256 .f32 → Scr (Elt F) M α} (hk : ∀ x, Safe (k x)) :
    Safe (attV G o H hH j hj r0 r1 k) := safe_ldP o 0 _ _ _ fun _ => safe_ldP o 1 _ _ _ fun _ _ => hk _

theorem safe_valTiles (r0 r1 : FVec F S1x256 .f32) {k : FVec F S320x256 .f32 → Scr (Elt F) M α} (hk : ∀ x, Safe (k x)) :
    ∀ (n j : ℕ) (hj : j + n + 1 = G.m) (acc : Option (FVec F S320x256 .f32)), Safe (valTiles G o H hH seg r0 r1 n j hj acc k)
  | 0, j, hj, none => safe_attV G o H hH j _ r0 r1 hk
  | 0, j, hj, some _ => safe_attV G o H hH j _ r0 r1 fun _ => hk _
  | n + 1, j, hj, none => safe_ldLast G j _ fun _ => safe_attV G o H hH j _ _ _ fun _ => safe_valTiles r0 r1 hk n (j + 1) (by omega) _
  | n + 1, j, hj, some _ => safe_ldLast G j _ fun _ => safe_attV G o H hH j _ _ _ fun _ => safe_valTiles r0 r1 hk n (j + 1) (by omega) _

theorem safe_finHalf (r : ℕ) (hr : r + 320 ≤ 640) (hd : 320 ∣ r) (s : ℕ) (hs : s + 128 ≤ 256) (z : FVec F S320x128 .f32) {k : Scr (Elt F) M α} (hk : Safe k) :
    Safe (finHalf C W H hH r hr hd s hs z k) := fun _ _ _ => ⟨rfl, hk⟩

theorem safe_fin (r : ℕ) (hr : r + 320 ≤ 640) (hd : 320 ∣ r) (z : FVec F S320x256 .f32) {k : Scr (Elt F) M α} (hk : Safe k) :
    Safe (fin C W H hH r hr hd z k) := safe_finHalf C W H hH r hr hd 0 _ _ <| safe_finHalf C W H hH r hr hd 128 _ _ hk

theorem safe_emit (r : ℕ) (hr : r + 640 ≤ 1920) {k : Scr (Elt F) M α} (hk : Safe k) : Safe (emit W r hr k) := fun _ _ => ⟨rfl, hk⟩

theorem safe_headFlow (here : ℕ) (hr : here + 256 ≤ 2048) (hd : 256 ∣ here) (n : ℕ) (hn : n + 1 = G.m) {k : FVec F S320x256 .f32 → Scr (Elt F) M α} (hk : ∀ x, Safe (k x)) :
    Safe (headFlow C W G o H hH here hr hd seg lam n hn k) :=
  safe_prep W H here hH hr hd <| safe_mapFlow C G o H hH seg 0 _ n hn fun _ => safe_mapFlow C G o H hH seg 1 _ n hn fun _ =>
    safe_valTiles G o H hH seg _ _ hk n 0 _ _

theorem safe_pairFlow (H0 H1 : ℕ) (hH0 : H0 < 6) (hH1 : H1 < 6) (here : ℕ) (hr : here + 256 ≤ 2048) (hd : 256 ∣ here) (col : ℕ) (hcol : col + 640 ≤ 1920)
    (n : ℕ) (hn : n + 1 = G.m) {k : Scr (Elt F) M α} (hk : Safe k) : Safe (pairFlow C W G H0 H1 hH0 hH1 here hr hd col hcol seg lam n hn k) :=
  safe_headFlow C W G false H0 hH0 seg lam here hr hd n hn fun _ => safe_fin C W H0 hH0 0 _ _ _ <|
    safe_headFlow C W G true H1 hH1 seg lam here hr hd n hn fun _ => safe_fin C W H1 hH1 320 _ _ _ <| safe_emit W col hcol hk

variable (b i : ℕ) (hb : b < 24) (hi : i < 8)

theorem safe_pairs (n : ℕ) (hn : n ≤ i) {k : Scr (Elt F) M α} (hk : Safe k) : Safe (pairs C W b i hb hi seg lam n hn k) :=
  ⟨fun _ _ => safe_pairFlow C W _ seg lam _ _ _ _ _ _ _ _ _ n _ trivial, fun _ => hk⟩

theorem safe_opt (c : BitVec 1) (f : c = 1#1 → Scr (Elt F) M α → Scr (Elt F) M α) {k : Scr (Elt F) M α} (hf : ∀ h, Safe (f h k)) (hk : Safe k) : Safe (opt c f k) :=
  ⟨hf, fun _ => hk⟩

theorem safe_fast (nT s : BitVec 32) (H0 : isW nT 1#32 = 1#1 → 0 ≤ i) (Hn : ∀ n, n < 8 → isW (tilesW i s) (BitVec.ofNat 32 (n + 1)) = 1#1 → n ≤ i)
    {k : Scr (Elt F) M α} (hk : Safe k) : Safe (fast C W b i hb hi seg lam nT s H0 Hn k) := by
  have h7 := safe_opt (isW (tilesW i s) 8#32) (fun h => pairs C W b i hb hi seg lam 7 (Hn 7 (by decide) h)) (fun h => safe_pairs C W seg lam b i hb hi 7 (Hn 7 (by decide) h) hk) hk
  have h6 := safe_opt (isW (tilesW i s) 7#32) (fun h => pairs C W b i hb hi seg lam 6 (Hn 6 (by decide) h)) (fun h => safe_pairs C W seg lam b i hb hi 6 (Hn 6 (by decide) h) h7) h7
  have h5 := safe_opt (isW (tilesW i s) 6#32) (fun h => pairs C W b i hb hi seg lam 5 (Hn 5 (by decide) h)) (fun h => safe_pairs C W seg lam b i hb hi 5 (Hn 5 (by decide) h) h6) h6
  have h4 := safe_opt (isW (tilesW i s) 5#32) (fun h => pairs C W b i hb hi seg lam 4 (Hn 4 (by decide) h)) (fun h => safe_pairs C W seg lam b i hb hi 4 (Hn 4 (by decide) h) h5) h5
  have h3 := safe_opt (isW (tilesW i s) 4#32) (fun h => pairs C W b i hb hi seg lam 3 (Hn 3 (by decide) h)) (fun h => safe_pairs C W seg lam b i hb hi 3 (Hn 3 (by decide) h) h4) h4
  have h2 := safe_opt (isW (tilesW i s) 3#32) (fun h => pairs C W b i hb hi seg lam 2 (Hn 2 (by decide) h)) (fun h => safe_pairs C W seg lam b i hb hi 2 (Hn 2 (by decide) h) h3) h3
  have h1 := safe_opt (isW (tilesW i s) 2#32) (fun h => pairs C W b i hb hi seg lam 1 (Hn 1 (by decide) h)) (fun h => safe_pairs C W seg lam b i hb hi 1 (Hn 1 (by decide) h) h2) h2
  exact safe_opt (isW nT 1#32) (fun h => pairs C W b i hb hi seg lam 0 (H0 h)) (fun h => safe_pairs C W seg lam b i hb hi 0 (H0 h) h1) h1

variable (s nT : BitVec 32) (S : Sweeps s nT)

theorem safe_sweep {A : Type} (init : A) {body : (w : BitVec 32) → Fits s w → A → Scr (Elt F) M A} {k : A → Scr (Elt F) M α} (hb : ∀ w hw a, Safe (body w hw a))
    (hk : ∀ a, Safe (k a)) : Safe (sweep s nT S init body k) :=
  ⟨fun t a => hb (Scf.iv 0#32 1#32 t.val) (S.in1 t) a, fun _ => ⟨fun t a => hb (Scf.iv (midW nT) 1#32 t.val) (S.in2 t) a, hk⟩⟩

theorem safe_slowScores (c : ℕ) (hc : c < 2) (w : BitVec 32) (hw : Fits s w) {k : FVec F S256x256 .f32 → Scr (Elt F) M α} (hk : ∀ x, Safe (k x)) :
    Safe (slowScores C b i hb s H hH seg c hc w hw k) := fun _ _ _ _ _ _ _ => hk _

theorem safe_slowMap (c : ℕ) (hc : c < 2) {k : FVec F S1x256 .f32 → Scr (Elt F) M α} (hk : ∀ x, Safe (k x)) :
    Safe (slowMap C b i hb s nT S H hH seg c hc k) :=
  safe_sweep s nT S _ (fun w hw _ => safe_slowScores C H hH seg b i hb s c hc w hw fun _ => trivial) fun _ =>
    safe_sweep s nT S _ (fun w hw _ => safe_slowScores C H hH seg b i hb s c hc w hw fun _ => safe_ldP false c _ hc _ fun _ => safe_stP false c _ hc _ _ trivial) hk

theorem safe_slowVal (r0 r1 : FVec F S1x256 .f32) {k : Vec F S320x256 .f32 → Scr (Elt F) M α} (hk : ∀ x, Safe (k x)) :
    Safe (slowVal s nT S H hH r0 r1 k) := by
  refine safe_ld fun _ => safe_st rfl ?_
  refine safe_sweep s nT S _ (fun _ _ _ => safe_ldP (F := F) false 0 _ _ _ fun _ => safe_ldP (F := F) false 1 _ _ _ fun _ => ?_) fun _ => ?_
  · exact fun _ _ _ => ⟨rfl, trivial⟩
  · exact hk

theorem safe_slowPair (t : ℕ) (ht : t < 3) {k : Scr (Elt F) M α} (hk : Safe k) : Safe (slowPair C W b i hb s nT S seg lam t ht k) := by
  refine safe_call (safe_slowMap C _ _ seg b i hb s nT S 0 _ fun _ => safe_slowMap C _ _ seg b i hb s nT S 1 _ fun _ => ?_) fun _ => ?_
  · exact trivial
  refine safe_call (safe_slowVal _ _ s nT S _ _ fun _ => safe_finHalf C W _ _ 0 _ _ 0 _ _ ?_) fun _ => ?_
  · exact trivial
  refine safe_call (safe_finHalf C W _ _ 0 _ _ 128 _ _ <| safe_slowMap C _ _ seg b i hb s nT S 0 _ fun _ => ?_) fun _ => ?_
  · exact trivial
  refine safe_call (safe_slowMap C _ _ seg b i hb s nT S 1 _ fun _ => safe_slowVal _ _ s nT S _ _ fun _ => ?_) fun _ => ?_
  · exact trivial
  exact safe_finHalf C W _ _ 320 _ _ 0 _ _ <| safe_finHalf C W _ _ 320 _ _ 128 _ _ <| safe_emit W _ _ hk

theorem safe_slow : Safe (slow C W b i hb s nT S seg lam) := by
  refine safe_loop (fun t _ => safe_slowPair C W seg lam b i hb s nT S _ _ ?_) fun _ => ?_
  · exact trivial
  · exact trivial

/-- The body runs to its end where its two checks hold of the start it reads. -/
theorem run_body (P₁ : BitVec 32 → Prop) (d₁ : ∀ s, Decidable (P₁ s)) (h₁ : ∀ s, P₁ s → ∀ n, n < 8 → isW (tilesW i s) (BitVec.ofNat 32 (n + 1)) = 1#1 → n ≤ i)
    (P₂ : BitVec 32 → BitVec 1 → BitVec 1 → Prop) (d₂ : ∀ s l h, Decidable (P₂ s l h)) (h₂ : ∀ s l h, P₂ s l h → outOf l h = 1#1 → Sweeps s (tilesW i s))
    (A : St names (Elt F)) (hP₁ : ∀ idx, P₁ (A .start idx)) (hP₂ : ∀ idx l h, P₂ (A .start idx) l h) :
    run (body C W b i hb hi P₁ d₁ h₁ P₂ d₂ h₂) A fun _ _ => True := by
  refine run_ld (run_asm (hP₁ _) (run_of_safe _ ?_ _))
  refine safe_ld fun _ => safe_ld fun _ => safe_st rfl <| safe_ld fun _ => safe_st rfl <| safe_ld fun _ => safe_st rfl <| safe_ld fun _ => safe_ld fun _ => safe_st rfl <|
    safe_ld fun _ => safe_st rfl <| safe_call (safe_fast C W _ _ b i hb hi _ _ _ _ <| safe_ld fun _ => ?_) fun _ => safe_ld fun _ => safe_asm (hP₂ _ _ _) <|
    safe_cond (fun _ => safe_slow C W _ _ b i hb _ _ _) fun _ => ?_
  · exact trivial
  · exact trivial

end Cert.DiffAttn

end
-- ==== Proof.KernelEq.lean ====
/-
  The body of the kernel as it runs is the script: the two programs are equal by computation.
-/
module

public import proofs.«01_k».proof.Proof.Body
public import proofs.«01_k».proof.Proof.Gen.Kernel

@[expose] public section

noncomputable section

namespace Cert.DiffAttn.Kernel

open Idealize.ShloMosaic Idealize.ShloMosaic.Script Idealize.SL Idealize.SL.Sem
open Cert.Kernel Cert.Kernel.Facts₀ Cert.Kernel.Facts

variable {F : FTy → Type} [FloatOps F]

theorem hb (i : grid0.Coords) : (i 0).val < 24 := (i 0).isLt
theorem hi (i : grid0.Coords) : (i 1).val < 8 := (i 1).isLt

/-- A span whose first column of the table of last segments is in bounds starts at a tile. -/
theorem le_of_tab {i n : ℕ} (hi : i < 8) (hn : n < 8) (h : (BitVec.ofNat 32 i - BitVec.ofNat 32 n + 0#32).toNat + 1 ≤ 8) : n ≤ i := by
  simp only [BitVec.toNat_sub, BitVec.toNat_add, BitVec.toNat_ofNat] at h; omega

/-- The first check keeps the fast way in the buffers. -/
theorem span_le (i : grid0.Coords) (s : BitVec 32) (w : k0_chk1 i s) : ∀ n, n < 8 → isW (tilesW (i 1).val s) (BitVec.ofNat 32 (n + 1)) = 1#1 → n ≤ (i 1).val
  | 0, _, _ => Nat.zero_le _
  | 1, _, h => by
    have := k0_off47_inb i s w h 1
    exact le_of_tab (hi i) (by decide) this
  | 2, _, h => by
    have := k0_off81_inb i s w h 0 1
    exact le_of_tab (hi i) (by decide) this
  | 3, _, h => by
    have := k0_off115_inb i s w h 0 1
    exact le_of_tab (hi i) (by decide) this
  | 4, _, h => by
    have := k0_off149_inb i s w h 0 1
    exact le_of_tab (hi i) (by decide) this
  | 5, _, h => by
    have := k0_off183_inb i s w h 0 1
    exact le_of_tab (hi i) (by decide) this
  | 6, _, h => by
    have := k0_off217_inb i s w h 0 1
    exact le_of_tab (hi i) (by decide) this
  | 7, _, h => by
    have := k0_off251_inb i s w h 0 1
    exact le_of_tab (hi i) (by decide) this
  | n + 8, h, _ => absurd h (by omega)

/-- The second check keeps the slow way in the buffers. -/
theorem sweeps (i : grid0.Coords) (s : BitVec 32) (l h : BitVec 1) (w : k0_chk2 i s l h) (o : outOf l h = 1#1) : Sweeps s (tilesW (i 1).val s) where
  ok1 := k0_t10_ok i s l h w o
  ok2 := k0_t11_ok i s l h w o
  in1 t := ⟨by have := k0_off277_inb i s l h w t o 1; exact this, by have := k0_off274_inb i s l h w ⟨0, by decide⟩ t o 2; exact this, by have := k0_off288_inb i s l h w t o 1; exact this⟩
  in2 t := ⟨by have := k0_off282_inb i s l h w t o 1; exact this, by have := k0_off279_inb i s l h w ⟨0, by decide⟩ t o 2; exact this, by have := k0_off294_inb i s l h w t o 1; exact this⟩

/-- The kernel's constants. -/
@[reducible] noncomputable def cst : Cst F := ⟨Scalar.ofBits .f32 0x3DE995B3#32, Scalar.ofBits .f32 0x3B4CCCCD#32, Scalar.ofBits .f32 0xF149F2CA#32, Scalar.ofBits .f32 0x7149F2CA#32⟩

/-- The script of the point `i`. -/
noncomputable def script {M : Mems names sig .tc} (W : ∀ b : Nm, (M b).IsWhole) (i : grid0.Coords) : Scr (Elt F) M PUnit :=
  body cst W (i 0).val (i 1).val (hb i) (hi i) (k0_chk1 i) (k0_chk1.dec i) (span_le i) (k0_chk2 i) (k0_chk2.dec i) (sweeps i)

/-- The buffers of a call are whole. -/
theorem whole (arg2 : Memref sig .tc .smem S24x8 .i32) (harg2 : arg2.IsWhole) (arg3 : Memref sig .tc .smem S24x8 .i32) (harg3 : arg3.IsWhole) (arg4 : Memref sig .tc .vmem S1x6x2x160x256 .fp8e4m3) (harg4 : arg4.IsWhole) (arg5 : Memref sig .tc .vmem S1x6x2x256 .f32) (harg5 : arg5.IsWhole) (arg6 : Memref sig .tc .vmem S1x6x2x160x256 .fp8e4m3) (harg6 : arg6.IsWhole) (arg7 : Memref sig .tc .vmem S1x6x2x256 .f32) (harg7 : arg7.IsWhole) (arg8 : Memref sig .tc .vmem S1x6x320x256 .fp8e4m3) (harg8 : arg8.IsWhole) (arg9 : Memref sig .tc .vmem S1x1x256 .i32) (harg9 : arg9.IsWhole) (arg10 : Memref sig .tc .vmem S6x320x128 .f32) (harg10 : arg10.IsWhole) (arg11 : Memref sig .tc .vmem S320x128 .f32) (harg11 : arg11.IsWhole) (arg12 : Memref sig .tc .vmem S1x128 .f32) (harg12 : arg12.IsWhole) (arg13 : Memref sig .tc .vmem S1x256x1920 .bf16) (harg13 : arg13.IsWhole) (arg14 : Memref sig .tc .vmem S6x2x2048x160 .fp8e4m3) (harg14 : arg14.IsWhole) (arg15 : Memref sig .tc .vmem S6x320x2048 .bf16) (harg15 : arg15.IsWhole) (arg16 : Memref sig .tc .vmem S6x2x2048x128 .f32) (harg16 : arg16.IsWhole) (arg17 : Memref sig .tc .vmem S2x2048x256 .f32) (harg17 : arg17.IsWhole) (arg18 : Memref sig .tc .vmem S2x2048x256 .f32) (harg18 : arg18.IsWhole) (arg19 : Memref sig .tc .vmem S256x256 .f32) (harg19 : arg19.IsWhole) (arg20 : Memref sig .tc .vmem S256x128 .f32) (harg20 : arg20.IsWhole) (arg21 : Memref sig .tc .vmem S8x256 .f32) (harg21 : arg21.IsWhole) (arg22 : Memref sig .tc .vmem S8x256 .f32) (harg22 : arg22.IsWhole) (arg23 : Memref sig .tc .vmem S640x256 .bf16) (harg23 : arg23.IsWhole) (arg24 : Memref sig .tc .vmem S320x256 .f32) (harg24 : arg24.IsWhole) :
    ∀ b : Nm, (mems arg2 arg3 arg4 arg5 arg6 arg7 arg8 arg9 arg10 arg11 arg12 arg13 arg14 arg15 arg16 arg17 arg18 arg19 arg20 arg21 arg22 arg23 arg24 b).IsWhole
  | .start => harg2
  | .last => harg3
  | .q => harg4
  | .qs => harg5
  | .k => harg6
  | .ks => harg7
  | .v => harg8
  | .seg => harg9
  | .vs => harg10
  | .gain => harg11
  | .lam => harg12
  | .out => harg13
  | .kt => harg14
  | .v16 => harg15
  | .ksr => harg16
  | .p0 => harg17
  | .p1 => harg18
  | .causal => harg19
  | .head => harg20
  | .lo => harg21
  | .hi => harg22
  | .yt => harg23
  | .acc => harg24

set_option maxHeartbeats 4000000 in
/-- The body is the script. -/
theorem body_eq (i : grid0.Coords) (arg2 : Memref sig .tc .smem S24x8 .i32) (harg2 : arg2.IsWhole) (arg3 : Memref sig .tc .smem S24x8 .i32) (harg3 : arg3.IsWhole) (arg4 : Memref sig .tc .vmem S1x6x2x160x256 .fp8e4m3) (harg4 : arg4.IsWhole) (arg5 : Memref sig .tc .vmem S1x6x2x256 .f32) (harg5 : arg5.IsWhole) (arg6 : Memref sig .tc .vmem S1x6x2x160x256 .fp8e4m3) (harg6 : arg6.IsWhole) (arg7 : Memref sig .tc .vmem S1x6x2x256 .f32) (harg7 : arg7.IsWhole) (arg8 : Memref sig .tc .vmem S1x6x320x256 .fp8e4m3) (harg8 : arg8.IsWhole) (arg9 : Memref sig .tc .vmem S1x1x256 .i32) (harg9 : arg9.IsWhole) (arg10 : Memref sig .tc .vmem S6x320x128 .f32) (harg10 : arg10.IsWhole) (arg11 : Memref sig .tc .vmem S320x128 .f32) (harg11 : arg11.IsWhole) (arg12 : Memref sig .tc .vmem S1x128 .f32) (harg12 : arg12.IsWhole) (arg13 : Memref sig .tc .vmem S1x256x1920 .bf16) (harg13 : arg13.IsWhole) (arg14 : Memref sig .tc .vmem S6x2x2048x160 .fp8e4m3) (harg14 : arg14.IsWhole) (arg15 : Memref sig .tc .vmem S6x320x2048 .bf16) (harg15 : arg15.IsWhole) (arg16 : Memref sig .tc .vmem S6x2x2048x128 .f32) (harg16 : arg16.IsWhole) (arg17 : Memref sig .tc .vmem S2x2048x256 .f32) (harg17 : arg17.IsWhole) (arg18 : Memref sig .tc .vmem S2x2048x256 .f32) (harg18 : arg18.IsWhole) (arg19 : Memref sig .tc .vmem S256x256 .f32) (harg19 : arg19.IsWhole) (arg20 : Memref sig .tc .vmem S256x128 .f32) (harg20 : arg20.IsWhole) (arg21 : Memref sig .tc .vmem S8x256 .f32) (harg21 : arg21.IsWhole) (arg22 : Memref sig .tc .vmem S8x256 .f32) (harg22 : arg22.IsWhole) (arg23 : Memref sig .tc .vmem S640x256 .bf16) (harg23 : arg23.IsWhole) (arg24 : Memref sig .tc .vmem S320x256 .f32) (harg24 : arg24.IsWhole) :
    cc0_diff_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 =
      Script.compile (nD := nD) (τ := τ) (p := .tc) (Λ := Λ₀) (script (whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) i) := by
  chain_rfl

end Cert.DiffAttn.Kernel

end
-- ==== Proof.Words.lean ====
/-
  The kernel's words where the segments start inside the keys: the first tile, the number of tiles, and that both ways
  of the body then stay in the buffers.
-/
module

public import proofs.«01_k».proof.Proof.Slow

@[expose] public section

noncomputable section

namespace Cert.DiffAttn

open Idealize.ShloMosaic Idealize.ShloMosaic.Script

/-- The tile of a start. -/
theorem firstW_eq {s : BitVec 32} (h : s.toNat ≤ 2048) : firstW s = BitVec.ofNat 32 (s.toNat / 256) := by
  have key : ∀ n : Fin 2049, firstW (BitVec.ofNat 32 n.val) = BitVec.ofNat 32 (n.val / 256) := by decide +kernel
  have := key ⟨s.toNat, by omega⟩
  rwa [BitVec.ofNat_toNat, BitVec.setWidth_eq] at this

theorem tilesW_eq {i : ℕ} {s : BitVec 32} (h : s.toNat ≤ 2048) : tilesW i s = BitVec.ofNat 32 i - BitVec.ofNat 32 (s.toNat / 256) + 1#32 := by
  show BitVec.ofNat 32 i - firstW s + 1#32 = _
  rw [firstW_eq h]

theorem eq_of_isW {t n : BitVec 32} (h : isW t n = 1#1) : t = n := by
  by_contra hne
  have h0 : Scalar.cmpi .eq t n = 0#1 := by
    show BitVec.ofBool (t == n) = 0#1
    rw [beq_eq_false_iff_ne.mpr hne]; rfl
  rw [isW, h0] at h
  exact absurd h (by decide)

theorem isW_self (t : BitVec 32) : isW t t = 1#1 := by
  have h0 : Scalar.cmpi .eq t t = 1#1 := by
    show BitVec.ofBool (t == t) = 1#1
    rw [beq_self_eq_true]; rfl
  rw [isW, h0]; decide

/-- A span of `n + 1` tiles starts at a tile, and at the start's. -/
theorem span_eq {i : ℕ} {s : BitVec 32} (h : s.toNat ≤ 2048) (hi : i < 8) {n : ℕ} (hn : n < 8) (hw : isW (tilesW i s) (BitVec.ofNat 32 (n + 1)) = 1#1) :
    i = s.toNat / 256 + n := by
  have := eq_of_isW hw
  rw [tilesW_eq h] at this
  have := congrArg BitVec.toNat this
  simp only [BitVec.toNat_sub, BitVec.toNat_add, BitVec.toNat_ofNat] at this
  omega

theorem evenW_lt {T : ℕ} (hT : T = 3) (t : Fin T) : evenW t.val < 6 := by
  have := t.isLt; rw [evenW_eq (by omega)]; omega
theorem oddW_lt {T : ℕ} (hT : T = 3) (t : Fin T) : oddW t.val < 6 := by
  have := t.isLt; rw [oddW_eq (by omega)]; omega

theorem rowW_le {i : ℕ} {s : BitVec 32} (h : s.toNat ≤ 2048) (hi : i < 8) {n : ℕ} (hn : n < 8) (hw : isW (tilesW i s) (BitVec.ofNat 32 (n + 1)) = 1#1) {j : ℕ} (hj : j < n + 1) :
    rowW i n j + 256 ≤ 2048 := by
  have := span_eq h hi hn hw
  rw [rowW_eq hi (by omega) hj]; omega
theorem tabW_lt {i : ℕ} {s : BitVec 32} (h : s.toNat ≤ 2048) (hi : i < 8) {n : ℕ} (hn : n < 8) (hw : isW (tilesW i s) (BitVec.ofNat 32 (n + 1)) = 1#1) {j : ℕ} (hj : j < n) :
    tabW i n j < 8 := by
  have := span_eq h hi hn hw
  rw [tabW_eq hi (by omega) (by omega)]; omega

theorem trips1 : ∀ (i : Fin 8) (f : Fin 9), Scf.trips 0#32 (midW (BitVec.ofNat 32 i.val - BitVec.ofNat 32 f.val + 1#32)) 1#32 = i.val + 1 - f.val := by decide +kernel
theorem trips2 : ∀ (i : Fin 8) (f : Fin 9), Scf.trips (midW (BitVec.ofNat 32 i.val - BitVec.ofNat 32 f.val + 1#32)) (endW (BitVec.ofNat 32 i.val - BitVec.ofNat 32 f.val + 1#32)) 1#32 = 0 := by decide +kernel
theorem oks1 : ∀ (i : Fin 8) (f : Fin 9), Scf.OK 0#32 (midW (BitVec.ofNat 32 i.val - BitVec.ofNat 32 f.val + 1#32)) 1#32 := by decide +kernel
theorem oks2 : ∀ (i : Fin 8) (f : Fin 9), Scf.OK (midW (BitVec.ofNat 32 i.val - BitVec.ofNat 32 f.val + 1#32)) (endW (BitVec.ofNat 32 i.val - BitVec.ofNat 32 f.val + 1#32)) 1#32 := by decide +kernel

theorem iv_eq (t : ℕ) : Scf.iv 0#32 1#32 t = BitVec.ofNat 32 t := by
  show 0#32 + BitVec.ofNat 32 t * 1#32 = _
  rw [BitVec.mul_one, BitVec.zero_add]

theorem tabS_eq {s : BitVec 32} (h : s.toNat ≤ 2048) {t : ℕ} (ht : t < 8) : tabS s (BitVec.ofNat 32 t) = s.toNat / 256 + t := by
  show (firstW s + BitVec.ofNat 32 t).toNat = _
  rw [firstW_eq h, BitVec.toNat_add, BitVec.toNat_ofNat, BitVec.toNat_ofNat]; omega
theorem rowS_eq {s : BitVec 32} (h : s.toNat ≤ 2048) {t : ℕ} (ht : t < 8) : rowS s (BitVec.ofNat 32 t) = 256 * (s.toNat / 256 + t) := by
  show ((firstW s + BitVec.ofNat 32 t) * 256#32).toNat = _
  rw [firstW_eq h, BitVec.toNat_mul, BitVec.toNat_add, BitVec.toNat_ofNat, BitVec.toNat_ofNat, BitVec.toNat_ofNat]; omega
theorem atS_eq {t : ℕ} (ht : t < 8) : atS (BitVec.ofNat 32 t) = 256 * t := by
  show (BitVec.ofNat 32 t * 256#32).toNat = _
  rw [BitVec.toNat_mul, BitVec.toNat_ofNat, BitVec.toNat_ofNat]; omega

/-- The sweeps of the slow way stay in the buffers. -/
theorem sweeps_of {i : ℕ} {s : BitVec 32} (h : s.toNat ≤ 2048) (hi : i < 8) : Sweeps s (tilesW i s) := by
  have hf : s.toNat / 256 < 9 := by omega
  rw [tilesW_eq h]
  refine ⟨oks1 ⟨i, hi⟩ ⟨_, hf⟩, oks2 ⟨i, hi⟩ ⟨_, hf⟩, fun t => ?_, fun t => absurd (t.isLt.trans_eq (trips2 ⟨i, hi⟩ ⟨_, hf⟩)) (Nat.not_lt_zero _)⟩
  have ht := t.isLt.trans_eq (trips1 ⟨i, hi⟩ ⟨_, hf⟩)
  simp only at ht
  rw [iv_eq]
  exact ⟨by rw [tabS_eq h (by omega)]; omega, by rw [rowS_eq h (by omega)]; omega, by rw [atS_eq (by omega)]; omega⟩

theorem dvd_mul256 (w : BitVec 32) : 256 ∣ (Scalar.muli w 256#32).toNat := by
  show 256 ∣ (w * 256#32).toNat
  rw [BitVec.toNat_mul, BitVec.toNat_ofNat]; omega

end Cert.DiffAttn

end
-- ==== Proof.KernelCheck.lean ====
/-
  The two checks of the kernel hold where the segments start inside the keys.
-/
module

public import proofs.«01_k».proof.Proof.Words
public import proofs.«01_k».proof.Proof.Gen.Kernel

@[expose] public section

noncomputable section

namespace Cert.DiffAttn.Kernel

open Idealize.ShloMosaic Idealize.ShloMosaic.Script
open Cert.Kernel

theorem row_of {i n j : ℕ} {s c : BitVec 32} (h : s.toNat ≤ 2048) (hi : i < 8) (hn : n < 8) (hc : c = BitVec.ofNat 32 (n + 1)) (hw : isW (tilesW i s) c = 1#1) (hj : j < n + 1) :
    rowW i n j + 256 ≤ 2048 := rowW_le h hi hn (hc ▸ hw) hj
theorem tab_of {i n j : ℕ} {s c : BitVec 32} (h : s.toNat ≤ 2048) (hi : i < 8) (hn : n < 8) (hc : c = BitVec.ofNat 32 (n + 1)) (hw : isW (tilesW i s) c = 1#1) (hj : j < n) :
    tabW i n j < 8 := tabW_lt h hi hn (hc ▸ hw) hj
theorem word_lt {b : ℕ} (hb : b < 24) : wordN b < 24 := by rw [wordN_eq hb]; exact hb

variable (i : grid0.Coords) (s : BitVec 32) (h : s.toNat ≤ 2048)
include h

set_option maxHeartbeats 8000000 in
set_option maxRecDepth 100000 in
/-- The fast way stays in the buffers. -/
theorem check1 : k0_chk1 i s := by
  have hi : (i 1).val < 8 := (i 1).isLt
  have hb : (i 0).val < 24 := (i 0).isLt
  refine ⟨?_, ?_, ?_⟩
  all_goals (repeat' refine And.intro ?_ ?_)
  all_goals first
    | exact fun t w r => inb_kt _ _ _ (by first | exact evenW_lt rfl t | exact oddW_lt rfl t) (by decide) (row_of h hi (by decide) rfl w r.isLt)
    | exact fun t w r => inb_ksr _ _ _ (by first | exact evenW_lt rfl t | exact oddW_lt rfl t) (by decide) (row_of h hi (by decide) rfl w r.isLt)
    | exact fun t w r => inb_v16 _ _ (by first | exact evenW_lt rfl t | exact oddW_lt rfl t) (row_of h hi (by decide) rfl w r.isLt)
    | exact fun w r => inb_tab _ _ (word_lt hb) (tab_of h hi (by decide) rfl w r.isLt)
    | exact fun w => inb_tab _ _ (word_lt hb) (tab_of (j := 0) h hi (by decide) rfl w (by decide))

set_option maxHeartbeats 8000000 in
set_option maxRecDepth 100000 in
/-- The slow way stays in the buffers. -/
theorem check2 (l u : BitVec 1) : k0_chk2 i s l u := by
  have hi : (i 1).val < 8 := (i 1).isLt
  have hb : (i 0).val < 24 := (i 0).isLt
  have S := sweeps_of h hi
  have o1 := S.ok1
  have o2 := S.ok2
  have p1 := S.in1
  have p2 := S.in2
  unfold midW tilesW firstW at o1 p1
  unfold midW endW tilesW firstW at o2 p2
  refine ⟨?_, ?_, ?_, ?_⟩
  all_goals (repeat' refine And.intro ?_ ?_)
  all_goals first
    | exact fun _ _ => dvd_mul256 _
    | exact fun t v _ => inb_kt _ _ _ (by first | exact evenW_lt rfl t | exact oddW_lt rfl t) (by decide) (by first | (with_reducible have q := p1 v); exact q.row | (with_reducible have q := p2 v); exact q.row)
    | exact fun t v _ => inb_ksr _ _ _ (by first | exact evenW_lt rfl t | exact oddW_lt rfl t) (by decide) (by first | (with_reducible have q := p1 v); exact q.row | (with_reducible have q := p2 v); exact q.row)
    | exact fun t v _ => inb_v16 _ _ (by first | exact evenW_lt rfl t | exact oddW_lt rfl t) (by first | (with_reducible have q := p1 v); exact q.row | (with_reducible have q := p2 v); exact q.row)
    | exact fun v _ => inb_p _ _ (by decide) (by first | (with_reducible have q := p1 v); exact q.at_ | (with_reducible have q := p2 v); exact q.at_)
    | exact fun v _ => inb_tab _ _ (word_lt hb) (by first | (with_reducible have q := p1 v); exact q.tab | (with_reducible have q := p2 v); exact q.tab)
    | (intro _; show Scf.OK _ _ _; with_reducible first | exact o1 | exact o2)

end Cert.DiffAttn.Kernel

end
-- ==== Proof.KernelRun.lean ====
/-
  The run of the kernel: the host operations, then the pipeline over the grid, whose body is the script. A property of the
  scratch buffers that every point's script keeps, and a property of the block every point's script leaves, give the
  run's end (`run_main`).
-/
module

public import proofs.«01_k».proof.Proof.Safe
public import proofs.«01_k».proof.Proof.KernelEq
public import proofs.«01_k».proof.Proof.KernelCheck
public import proofs.«01_k».proof.Proof.Gen.Kernel.Launch
public import Idealize.ShloMosaic.Lib.Pipeline.Frame
public import Idealize.ShloMosaic.Lib.Pipeline.FrameBody
public import Idealize.ShloMosaic.Lib.Pipeline.TableIdle

@[expose] public section

noncomputable section

namespace Cert.DiffAttn.Kernel

open Cert.Kernel Cert.Kernel.Gen
open Idealize.ShloMosaic Idealize.ShloMosaic.Script Idealize.ShloMosaic.Pipeline
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

/-- The buffers when the region is entered: the host operations have run. -/
def V (c : Dev nD) (b : Ref sig .tc) : Buf (Elt F) ((c.tc : Thread nD τ).loc b) := StableHlo.after hostOps0 (fun b => m (c, b)) (Proc.devRef .tc b)

/-- The two tables the region prefetches. -/
def tables : pre0.Contents (Elt F) := fun k => V m 0 (pre0.ref k)

abbrev adm : (p : Fin 1) → (pcfgs (F := F) p).Adm := fun _ => ⟨tables m, trivial⟩

abbrev cfgA : Cfg sig Λ₀ := pin (pcfgs (F := F)) (adm m) 0

/-- The buffers of a point, its windows' at the slots `s`. -/
@[reducible] def mem (s : (w : Fin 10) → Fin (spec0 w).nbuf) : Mems names sig .tc :=
  mems (Memref.whole main_v26) (Memref.whole main_v27) (spec0_0.stage (s 0)) (spec0_1.stage (s 1)) (spec0_2.stage (s 2)) (spec0_3.stage (s 3)) (spec0_4.stage (s 4)) (spec0_5.stage (s 5)) (spec0_6.stage (s 6)) (spec0_7.stage (s 7)) (spec0_8.stage (s 8)) (spec0_9.stage (s 9)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10)

theorem memWhole (s : (w : Fin 10) → Fin (spec0 w).nbuf) : ∀ b, (mem s b).IsWhole :=
  whole (Memref.whole main_v26) (Memref.isWhole_whole _) (Memref.whole main_v27) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (spec0_7.stage (s 7)) (hstage0_7 ((s 7).cast nbuf0_7)) (spec0_8.stage (s 8)) (hstage0_8 ((s 8).cast nbuf0_8)) (spec0_9.stage (s 9)) (hstage0_9 ((s 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _)

/-- The values of a point's buffers: the tables, the windows' blocks, and the scratch buffers. -/
def join (T : pre0.Contents (Elt F)) (Y : (w : Fin 10) → (spec0 w).block.Idx → Elt F (spec0 w).elt) (S : St names (Elt F)) : St names (Elt F) := fun b => match b, S with
  | .start, _ => T 0
  | .last, _ => T 1
  | .q, _ => Y 0
  | .qs, _ => Y 1
  | .k, _ => Y 2
  | .ks, _ => Y 3
  | .v, _ => Y 4
  | .seg, _ => Y 5
  | .vs, _ => Y 6
  | .gain, _ => Y 7
  | .lam, _ => Y 8
  | .out, _ => Y 9
  | .kt, S => S .kt
  | .v16, S => S .v16
  | .ksr, S => S .ksr
  | .p0, S => S .p0
  | .p1, S => S .p1
  | .causal, S => S .causal
  | .head, S => S .head
  | .lo, S => S .lo
  | .hi, S => S .hi
  | .yt, S => S .yt
  | .acc, S => S .acc

/-- The scratch buffers at their values. -/
def scratch (c : Dev nD) (S : St names (Elt F)) : sProp 𝕄 :=
  iprop(owns (c.tc : Thread nD τ) (Memref.whole cc0_scratch0 : Memref sig .tc .vmem _ _) fullShare (S .kt) ∗ owns (c.tc : Thread nD τ) (Memref.whole cc0_scratch1 : Memref sig .tc .vmem _ _) fullShare (S .v16) ∗ owns (c.tc : Thread nD τ) (Memref.whole cc0_scratch2 : Memref sig .tc .vmem _ _) fullShare (S .ksr) ∗ owns (c.tc : Thread nD τ) (Memref.whole cc0_scratch3 : Memref sig .tc .vmem _ _) fullShare (S .p0) ∗ owns (c.tc : Thread nD τ) (Memref.whole cc0_scratch4 : Memref sig .tc .vmem _ _) fullShare (S .p1) ∗ owns (c.tc : Thread nD τ) (Memref.whole cc0_scratch5 : Memref sig .tc .vmem _ _) fullShare (S .causal) ∗ owns (c.tc : Thread nD τ) (Memref.whole cc0_scratch6 : Memref sig .tc .vmem _ _) fullShare (S .head) ∗ owns (c.tc : Thread nD τ) (Memref.whole cc0_scratch7 : Memref sig .tc .vmem _ _) fullShare (S .lo) ∗ owns (c.tc : Thread nD τ) (Memref.whole cc0_scratch8 : Memref sig .tc .vmem _ _) fullShare (S .hi) ∗ owns (c.tc : Thread nD τ) (Memref.whole cc0_scratch9 : Memref sig .tc .vmem _ _) fullShare (S .yt) ∗ owns (c.tc : Thread nD τ) (Memref.whole cc0_scratch10 : Memref sig .tc .vmem _ _) fullShare (S .acc))

/-- Each buffer's share: the tables' half, the others whole. -/
def share : Nm → PosShare TreeShare
  | .start | .last => fullShare.right
  | _ => fullShare

theorem share_full : ∀ b, names.writable b = true → share b = fullShare
  | .start, h => absurd h (by decide)
  | .last, h => absurd h (by decide)
  | .q, h => absurd h (by decide)
  | .qs, h => absurd h (by decide)
  | .k, h => absurd h (by decide)
  | .ks, h => absurd h (by decide)
  | .v, h => absurd h (by decide)
  | .seg, h => absurd h (by decide)
  | .vs, h => absurd h (by decide)
  | .gain, h => absurd h (by decide)
  | .lam, h => absurd h (by decide)
  | .out, _ => rfl
  | .kt, _ => rfl
  | .v16, _ => rfl
  | .ksr, _ => rfl
  | .p0, _ => rfl
  | .p1, _ => rfl
  | .causal, _ => rfl
  | .head, _ => rfl
  | .lo, _ => rfl
  | .hi, _ => rfl
  | .yt, _ => rfl
  | .acc, _ => rfl

theorem univ_names : (Finset.univ : Finset Nm) = [Nm.start, Nm.last, Nm.q, Nm.qs, Nm.k, Nm.ks, Nm.v, Nm.seg, Nm.vs, Nm.gain, Nm.lam, Nm.out, Nm.kt, Nm.v16, Nm.ksr, Nm.p0, Nm.p1, Nm.causal, Nm.head, Nm.lo, Nm.hi, Nm.yt, Nm.acc].toFinset := by decide

/-- The scratch buffers. -/
def scratchNames : List Nm := [Nm.kt, Nm.v16, Nm.ksr, Nm.p0, Nm.p1, Nm.causal, Nm.head, Nm.lo, Nm.hi, Nm.yt, Nm.acc]

theorem names_nodup : [Nm.start, Nm.last, Nm.q, Nm.qs, Nm.k, Nm.ks, Nm.v, Nm.seg, Nm.vs, Nm.gain, Nm.lam, Nm.out, Nm.kt, Nm.v16, Nm.ksr, Nm.p0, Nm.p1, Nm.causal, Nm.head, Nm.lo, Nm.hi, Nm.yt, Nm.acc].Nodup := by decide +kernel

/-- The point's buffers, held as the script holds them, are the tables, the windows' blocks and the scratch buffers. -/
theorem held_eq (c : Dev nD) (s : (w : Fin 10) → Fin (spec0 w).nbuf) (S : St names (Elt F)) :
    (Script.held (c.tc : Thread nD τ) (mem s) share S : sProp 𝕄) = iprop(owns (c.tc : Thread nD τ) (mem s .start) (share .start) (S .start) ∗ owns (c.tc : Thread nD τ) (mem s .last) (share .last) (S .last) ∗ owns (c.tc : Thread nD τ) (mem s .q) (share .q) (S .q) ∗ owns (c.tc : Thread nD τ) (mem s .qs) (share .qs) (S .qs) ∗ owns (c.tc : Thread nD τ) (mem s .k) (share .k) (S .k) ∗ owns (c.tc : Thread nD τ) (mem s .ks) (share .ks) (S .ks) ∗ owns (c.tc : Thread nD τ) (mem s .v) (share .v) (S .v) ∗ owns (c.tc : Thread nD τ) (mem s .seg) (share .seg) (S .seg) ∗ owns (c.tc : Thread nD τ) (mem s .vs) (share .vs) (S .vs) ∗ owns (c.tc : Thread nD τ) (mem s .gain) (share .gain) (S .gain) ∗ owns (c.tc : Thread nD τ) (mem s .lam) (share .lam) (S .lam) ∗ owns (c.tc : Thread nD τ) (mem s .out) (share .out) (S .out) ∗ owns (c.tc : Thread nD τ) (mem s .kt) (share .kt) (S .kt) ∗ owns (c.tc : Thread nD τ) (mem s .v16) (share .v16) (S .v16) ∗ owns (c.tc : Thread nD τ) (mem s .ksr) (share .ksr) (S .ksr) ∗ owns (c.tc : Thread nD τ) (mem s .p0) (share .p0) (S .p0) ∗ owns (c.tc : Thread nD τ) (mem s .p1) (share .p1) (S .p1) ∗ owns (c.tc : Thread nD τ) (mem s .causal) (share .causal) (S .causal) ∗ owns (c.tc : Thread nD τ) (mem s .head) (share .head) (S .head) ∗ owns (c.tc : Thread nD τ) (mem s .lo) (share .lo) (S .lo) ∗ owns (c.tc : Thread nD τ) (mem s .hi) (share .hi) (S .hi) ∗ owns (c.tc : Thread nD τ) (mem s .yt) (share .yt) (S .yt) ∗ owns (c.tc : Thread nD τ) (mem s .acc) (share .acc) (S .acc)) := by
  unfold Script.held
  rw [bigSep_univ_eq_bigSepL [Nm.start, Nm.last, Nm.q, Nm.qs, Nm.k, Nm.ks, Nm.v, Nm.seg, Nm.vs, Nm.gain, Nm.lam, Nm.out, Nm.kt, Nm.v16, Nm.ksr, Nm.p0, Nm.p1, Nm.causal, Nm.head, Nm.lo, Nm.hi, Nm.yt, Nm.acc] univ_names names_nodup]
  simp only [owns_eq_rep]
  rfl

/-- The proof data: the arrays as the region finds them, the output's block at each point as `R` says, and between points
    the scratch buffers at values of which `Inv` holds. -/
def dat (Inv : ℕ → St names (Elt F) → Prop) (R : Fin grid0.N → ((names.shape .out).Idx → Elt F .bf16) → Prop) (c : Dev nD) :
    RDat τ (Elt F) Unit ℕ (UR sig nD τ) ℕ (cfgA m) c where
  A w := V m c (arrRef spec0 w)
  after := fun
    | 0 => fun _ Y X => X = Y
    | 1 => fun _ Y X => X = Y
    | 2 => fun _ Y X => X = Y
    | 3 => fun _ Y X => X = Y
    | 4 => fun _ Y X => X = Y
    | 5 => fun _ Y X => X = Y
    | 6 => fun _ Y X => X = Y
    | 7 => fun _ Y X => X = Y
    | 8 => fun _ Y X => X = Y
    | 9 => fun t _ X => R t X
    | ⟨_ + 10, h⟩ => absurd h (Nat.not_lt.2 (Nat.le_add_left _ _))
  Φ n := iprop((∃ S, ⌜Inv n.val S⌝ ∗ scratch c S) ∗ (∃ r, prngReg c r) ∗ ΦT pre0 (tables m) c)
  q _ := fullShare
  owed _ := 0

/-- The blocks the input windows hold at a point. -/
def Blocks (c : Dev nD) (t : Fin grid0.N) (Y : (w : Fin 10) → (spec0 w).block.Idx → Elt F (spec0 w).elt) : Prop :=
  ∀ w : Fin (cfgA m).W, w.val < 9 → ∃ d, Y w = ((cfgA m).win w).fill ((cfgA m).grid.coords t) d ((((cfgA m).win w).blk t).view.read (Elt F) (V m c (arrRef spec0 w)))

/-- What every point's script does, which is what the run needs. -/
def Step (Inv : ℕ → St names (Elt F) → Prop) (R : Fin grid0.N → ((names.shape .out).Idx → Elt F .bf16) → Prop) : Prop :=
  ∀ (c : Dev nD) (t : Fin grid0.N) (s : (w : Fin 10) → Fin (spec0 w).nbuf) Y S, Blocks m c t Y → Inv t.val S →
    run (script (memWhole s) (grid0.coords t)) (join (tables m) Y S) fun _ S' => Inv (t.val + 1) S' ∧ R t (S' .out)

variable {Inv : ℕ → St names (Elt F) → Prop} {R : Fin grid0.N → ((names.shape .out).Idx → Elt F .bf16) → Prop}

theorem keeps (c : Dev nD) (w : Fin (cfgA m).W) (hw : w.val < 9) : ∀ t Y X, (dat m Inv R c).after w t Y X → X = Y := by
  match w, hw with
  | 0, _ | 1, _ | 2, _ | 3, _ | 4, _ | 5, _ | 6, _ | 7, _ | 8, _ => exact fun _ _ _ h => h

theorem isIn (w : Fin (cfgA m).W) (hw : w.val < 9) : ((cfgA m).win w).isOut = false := by
  match w, hw with
  | 0, _ | 1, _ | 2, _ | 3, _ | 4, _ | 5, _ | 6, _ | 7, _ | 8, _ => rfl

theorem blocks_of (c : Dev nD) (t : Fin grid0.N) (Y : (w : Fin 10) → (spec0 w).block.Idx → Elt F (spec0 w).elt) (h : ∀ w, (dat m Inv R c).Finds w t (Y w)) : Blocks m c t Y :=
  fun w hw => RDat.finds_in_eq_fetched (dat m Inv R c) w (isIn m w hw) (fun _ _ _ => rfl) (keeps m c w hw) t (Y w) (h w)

abbrev 𝒱₀ : Variants := Variants.none

/-- The tables as the region hands them to the body. -/
theorem tables_eq (c : Dev nD) (T : pre0.Contents (Elt F)) : (ΦT pre0 T c : sProp 𝕄)
    = iprop(owns (c.tc : Thread nD τ) (Memref.whole main_v26) fullShare.right (T 0) ∗ owns (c.tc : Thread nD τ) (Memref.whole main_v27) fullShare.right (T 1)) := by
  have e0 : (owns (c.tc : Thread nD τ) (Memref.whole main_v26) fullShare.right (T 0) : sProp 𝕄) = _ := owns_whole (c.tc : Thread nD τ) main_v26 fullShare.right (T 0)
  have e1 : (owns (c.tc : Thread nD τ) (Memref.whole main_v27) fullShare.right (T 1) : sProp 𝕄) = _ := owns_whole (c.tc : Thread nD τ) main_v27 fullShare.right (T 1)
  unfold ΦT prefHeld
  exact (bigSep_univ_eq_bigSepL [(0 : Fin 2), (1 : Fin 2)] (by decide) (by decide) _).trans (congrArg₂ (fun a b => iprop(a ∗ b)) e0.symm e1.symm)

theorem held_open (c : Dev nD) (s : (w : Fin 10) → Fin (spec0 w).nbuf) (S : St names (Elt F)) :
    (Script.held (c.tc : Thread nD τ) (mem s) share S : sProp 𝕄) ⊢ iprop(owns (c.tc : Thread nD τ) (mem s .start) (share .start) (S .start) ∗ owns (c.tc : Thread nD τ) (mem s .last) (share .last) (S .last) ∗ owns (c.tc : Thread nD τ) (mem s .q) (share .q) (S .q) ∗ owns (c.tc : Thread nD τ) (mem s .qs) (share .qs) (S .qs) ∗ owns (c.tc : Thread nD τ) (mem s .k) (share .k) (S .k) ∗ owns (c.tc : Thread nD τ) (mem s .ks) (share .ks) (S .ks) ∗ owns (c.tc : Thread nD τ) (mem s .v) (share .v) (S .v) ∗ owns (c.tc : Thread nD τ) (mem s .seg) (share .seg) (S .seg) ∗ owns (c.tc : Thread nD τ) (mem s .vs) (share .vs) (S .vs) ∗ owns (c.tc : Thread nD τ) (mem s .gain) (share .gain) (S .gain) ∗ owns (c.tc : Thread nD τ) (mem s .lam) (share .lam) (S .lam) ∗ owns (c.tc : Thread nD τ) (mem s .out) (share .out) (S .out) ∗ owns (c.tc : Thread nD τ) (mem s .kt) (share .kt) (S .kt) ∗ owns (c.tc : Thread nD τ) (mem s .v16) (share .v16) (S .v16) ∗ owns (c.tc : Thread nD τ) (mem s .ksr) (share .ksr) (S .ksr) ∗ owns (c.tc : Thread nD τ) (mem s .p0) (share .p0) (S .p0) ∗ owns (c.tc : Thread nD τ) (mem s .p1) (share .p1) (S .p1) ∗ owns (c.tc : Thread nD τ) (mem s .causal) (share .causal) (S .causal) ∗ owns (c.tc : Thread nD τ) (mem s .head) (share .head) (S .head) ∗ owns (c.tc : Thread nD τ) (mem s .lo) (share .lo) (S .lo) ∗ owns (c.tc : Thread nD τ) (mem s .hi) (share .hi) (S .hi) ∗ owns (c.tc : Thread nD τ) (mem s .yt) (share .yt) (S .yt) ∗ owns (c.tc : Thread nD τ) (mem s .acc) (share .acc) (S .acc)) := by rw [held_eq]

theorem held_close (c : Dev nD) (s : (w : Fin 10) → Fin (spec0 w).nbuf) (S : St names (Elt F)) :
    iprop(owns (c.tc : Thread nD τ) (mem s .start) (share .start) (S .start) ∗ owns (c.tc : Thread nD τ) (mem s .last) (share .last) (S .last) ∗ owns (c.tc : Thread nD τ) (mem s .q) (share .q) (S .q) ∗ owns (c.tc : Thread nD τ) (mem s .qs) (share .qs) (S .qs) ∗ owns (c.tc : Thread nD τ) (mem s .k) (share .k) (S .k) ∗ owns (c.tc : Thread nD τ) (mem s .ks) (share .ks) (S .ks) ∗ owns (c.tc : Thread nD τ) (mem s .v) (share .v) (S .v) ∗ owns (c.tc : Thread nD τ) (mem s .seg) (share .seg) (S .seg) ∗ owns (c.tc : Thread nD τ) (mem s .vs) (share .vs) (S .vs) ∗ owns (c.tc : Thread nD τ) (mem s .gain) (share .gain) (S .gain) ∗ owns (c.tc : Thread nD τ) (mem s .lam) (share .lam) (S .lam) ∗ owns (c.tc : Thread nD τ) (mem s .out) (share .out) (S .out) ∗ owns (c.tc : Thread nD τ) (mem s .kt) (share .kt) (S .kt) ∗ owns (c.tc : Thread nD τ) (mem s .v16) (share .v16) (S .v16) ∗ owns (c.tc : Thread nD τ) (mem s .ksr) (share .ksr) (S .ksr) ∗ owns (c.tc : Thread nD τ) (mem s .p0) (share .p0) (S .p0) ∗ owns (c.tc : Thread nD τ) (mem s .p1) (share .p1) (S .p1) ∗ owns (c.tc : Thread nD τ) (mem s .causal) (share .causal) (S .causal) ∗ owns (c.tc : Thread nD τ) (mem s .head) (share .head) (S .head) ∗ owns (c.tc : Thread nD τ) (mem s .lo) (share .lo) (S .lo) ∗ owns (c.tc : Thread nD τ) (mem s .hi) (share .hi) (S .hi) ∗ owns (c.tc : Thread nD τ) (mem s .yt) (share .yt) (S .yt) ∗ owns (c.tc : Thread nD τ) (mem s .acc) (share .acc) (S .acc)) ⊢ (Script.held (c.tc : Thread nD τ) (mem s) share S : sProp 𝕄) := by rw [held_eq]

theorem owns_cast (c : Thread nD τ) {sp : CoreSpace} {sh : Shape} {e : EltTy} (M : Memref sig c.2.kind sp sh e) (q : PosShare TreeShare) {X Y : sh.Idx → Elt F e} (h : X = Y) :
    (owns c M q X : sProp 𝕄) ⊢ owns c M q Y := by rw [h]

/-- A point's body does what its script does. -/
theorem body_wp (c : Dev nD) (t : Fin grid0.N) (s : (w : Fin 10) → Fin (spec0 w).nbuf) (S : St names (Elt F)) (Q : St names (Elt F) → Prop)
    (h : run (script (memWhole s) (grid0.coords t)) S fun _ S' => Q S') :
    (Script.held (c.tc : Thread nD τ) (mem s) share S : sProp 𝕄) ⊢ wp frame (wpE defs₀ 𝒱₀ (c.tc : Thread nD τ) none) Set.univ (defs₀ (F := F) .tc 0 (t, s)) fun _ =>
      iprop(∃ S', ⌜Q S'⌝ ∗ Script.held (c.tc : Thread nD τ) (mem s) share S') := by
  have e : defs₀ (F := F) .tc 0 (t, s) = Script.compile (nD := nD) (τ := τ) (p := .tc) (Λ := Λ₀) (script (memWhole s) (grid0.coords t)) :=
    body_eq (grid0.coords t) (Memref.whole main_v26) (Memref.isWhole_whole _) (Memref.whole main_v27) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (spec0_7.stage (s 7)) (hstage0_7 ((s 7).cast nbuf0_7)) (spec0_8.stage (s 8)) (hstage0_8 ((s 8).cast nbuf0_8)) (spec0_9.stage (s 9)) (hstage0_9 ((s 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _)
  rw [e]
  exact Script.sound 𝒱₀ none Set.univ share_full _ S _ h

set_option maxHeartbeats 4000000 in
set_option backward.isDefEq.respectTransparency.types false in
/-- The pipeline's obligation of its body. -/
theorem obligation (hstep : Step m Inv R) (hloc : ∀ n S S', (∀ b, b ∈ scratchNames → S b = S' b) → Inv n S → Inv n S') (c : Dev nD) :
    (dat m Inv R c).BodyObligation (defs₀ (F := F)) 𝒱₀ () Set.univ := by
  intro t Y hY
  have hB := blocks_of m c t Y hY
  rw [show (dat m Inv R c).Φ t.castSucc = iprop((∃ S, ⌜Inv t.val S⌝ ∗ scratch c S) ∗ (∃ r, prngReg c r) ∗ ΦT pre0 (tables m) c) from rfl,
    show (dat m Inv R c).Φ t.succ = iprop((∃ S, ⌜Inv (t.val + 1) S⌝ ∗ scratch c S) ∗ (∃ r, prngReg c r) ∗ ΦT pre0 (tables m) c) from rfl, tables_eq]
  rw [bigSep_W0, bigSep_W0]
  unfold scratch
  iintro ⟨⟨⟨%S, %hS, Hs0, Hs1, Hs2, Hs3, Hs4, Hs5, Hs6, Hs7, Hs8, Hs9, Hs10⟩, Hp, Ht0, Ht1⟩, HO, H0, H1, H2, H3, H4, H5, H6, H7, H8, H9⟩
  have hrun := run_keep _ _ _ _ (fun _ _ => rfl) (hstep c t ((cfgA m).slots t) Y S hB hS)
  have hwp := body_wp c t ((cfgA m).slots t) _ (fun S' => (Inv (t.val + 1) S' ∧ R t (S' .out)) ∧ ∀ b, names.writable b = false → S' b = join (tables m) Y S b) hrun
  iapply (wp_wand_r frame (wpE defs₀ 𝒱₀ (c.tc : Thread nD τ) none) Set.univ)
  isplitl [Ht0 Ht1 Hs0 Hs1 Hs2 Hs3 Hs4 Hs5 Hs6 Hs7 Hs8 Hs9 Hs10 H0 H1 H2 H3 H4 H5 H6 H7 H8 H9]
  · iapply hwp
    iapply (held_close c)
    isplitl [Ht0]; · iexact Ht0
    isplitl [Ht1]; · iexact Ht1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hs10
  · iintro %a ⟨%S', %hQ, Hh⟩
    ihave Hh := (held_open c _ _) $$ Hh
    icases Hh with ⟨Ht0, Ht1, H0, H1, H2, H3, H4, H5, H6, H7, H8, H9, Hs0, Hs1, Hs2, Hs3, Hs4, Hs5, Hs6, Hs7, Hs8, Hs9, Hs10⟩
    obtain ⟨⟨hI, hR⟩, hk⟩ := hQ
    isplitl [Hp Ht0 Ht1 Hs0 Hs1 Hs2 Hs3 Hs4 Hs5 Hs6 Hs7 Hs8 Hs9 Hs10]
    · isplitl [Hs0 Hs1 Hs2 Hs3 Hs4 Hs5 Hs6 Hs7 Hs8 Hs9 Hs10]
      · iexists S'
        isplitr
        · ipureintro; exact hI
        isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        isplitl [Hs6]; · iexact Hs6
        isplitl [Hs7]; · iexact Hs7
        isplitl [Hs8]; · iexact Hs8
        isplitl [Hs9]; · iexact Hs9
        iexact Hs10
      isplitl [Hp]; · iexact Hp
      isplitl [Ht0]; · ihave Ht0 := (owns_cast (c.tc : Thread nD τ) (mem ((cfgA m).slots t) .start) (share .start) (hk .start rfl)) $$ Ht0; iexact Ht0
      ihave Ht1 := (owns_cast (c.tc : Thread nD τ) (mem ((cfgA m).slots t) .last) (share .last) (hk .last rfl)) $$ Ht1
      iexact Ht1
    isplitl [HO]; · iexact HO
    isplitl [H0]; · iexists (Y 0); isplitr; (· ipureintro; exact rfl); ihave H0 := (owns_cast (c.tc : Thread nD τ) (mem ((cfgA m).slots t) .q) (share .q) (hk .q rfl)) $$ H0; iexact H0
    isplitl [H1]; · iexists (Y 1); isplitr; (· ipureintro; exact rfl); ihave H1 := (owns_cast (c.tc : Thread nD τ) (mem ((cfgA m).slots t) .qs) (share .qs) (hk .qs rfl)) $$ H1; iexact H1
    isplitl [H2]; · iexists (Y 2); isplitr; (· ipureintro; exact rfl); ihave H2 := (owns_cast (c.tc : Thread nD τ) (mem ((cfgA m).slots t) .k) (share .k) (hk .k rfl)) $$ H2; iexact H2
    isplitl [H3]; · iexists (Y 3); isplitr; (· ipureintro; exact rfl); ihave H3 := (owns_cast (c.tc : Thread nD τ) (mem ((cfgA m).slots t) .ks) (share .ks) (hk .ks rfl)) $$ H3; iexact H3
    isplitl [H4]; · iexists (Y 4); isplitr; (· ipureintro; exact rfl); ihave H4 := (owns_cast (c.tc : Thread nD τ) (mem ((cfgA m).slots t) .v) (share .v) (hk .v rfl)) $$ H4; iexact H4
    isplitl [H5]; · iexists (Y 5); isplitr; (· ipureintro; exact rfl); ihave H5 := (owns_cast (c.tc : Thread nD τ) (mem ((cfgA m).slots t) .seg) (share .seg) (hk .seg rfl)) $$ H5; iexact H5
    isplitl [H6]; · iexists (Y 6); isplitr; (· ipureintro; exact rfl); ihave H6 := (owns_cast (c.tc : Thread nD τ) (mem ((cfgA m).slots t) .vs) (share .vs) (hk .vs rfl)) $$ H6; iexact H6
    isplitl [H7]; · iexists (Y 7); isplitr; (· ipureintro; exact rfl); ihave H7 := (owns_cast (c.tc : Thread nD τ) (mem ((cfgA m).slots t) .gain) (share .gain) (hk .gain rfl)) $$ H7; iexact H7
    isplitl [H8]; · iexists (Y 8); isplitr; (· ipureintro; exact rfl); ihave H8 := (owns_cast (c.tc : Thread nD τ) (mem ((cfgA m).slots t) .lam) (share .lam) (hk .lam rfl)) $$ H8; iexact H8
    iexists (S' .out)
    isplitr
    · ipureintro; exact hR
    iexact H9

end Cert.DiffAttn.Kernel

end
-- ==== Proof.Count.lean ====
/-
  Counting by a sum of bits: the sum, over the keys of a row, of words that are zero or one is at most the number of keys.
-/
module

public import Idealize.ShloMosaic.Lib.Pointwise

@[expose] public section

namespace Cert.DiffAttn

open Idealize.ShloMosaic

/-- A sum of bits has at most as many ones as terms. -/
theorem fold_bits_le {ι : Type} [DecidableEq ι] (x : ι → BitVec 32) (hx : ∀ i, (x i).toNat ≤ 1) (T : Finset ι) : (T.fold IntOp.addi 0#32 x).toNat ≤ T.card := by
  induction T using Finset.induction_on with
  | empty => simp
  | insert a T ha ih =>
    rw [Finset.fold_insert ha, Finset.card_insert_of_notMem ha]
    have h : (IntOp.addi (x a) (T.fold IntOp.addi 0#32 x)).toNat ≤ (x a).toNat + (T.fold IntOp.addi 0#32 x).toNat := by
      show (x a + T.fold IntOp.addi 0#32 x).toNat ≤ _
      rw [BitVec.toNat_add]
      exact Nat.mod_le _ _
    have := hx a
    omega

/-- A row's count of set bits is at most the row's length. -/
theorem reduce_bits_le {a b n : ℕ} (x : (⟨3, ![a, b, n]⟩ : Shape).Idx → BitVec 32) (hx : ∀ i, (x i).toNat ≤ 1) {u : Shape} (c : u.Idx → BitVec 32) (hc : ∀ i, c i = 0#32)
    (h : (⟨3, ![a, b, n]⟩ : Shape).ReducesTo [2] ⟨2, ![a, b]⟩) (hu : 0 < u.numel) (j : (⟨2, ![a, b]⟩ : Shape).Idx) :
    (Host.reduce IntOp.addi x c h hu j).toNat ≤ n := by
  classical
  rw [Host.reduce_eq_fold, hc]
  refine (fold_bits_le x hx _).trans ?_
  have hv : ∀ i : (⟨3, ![a, b, n]⟩ : Shape).Idx, h.drop i = j → (i 0).val = (j 0).val ∧ (i 1).val = (j 1).val := by
    intro i e
    have hv0 : (h.drop i 0 : Nat) = i 0 := Shape.ReducesTo.drop_apply_val h i 0
    have hv1 : (h.drop i 1 : Nat) = i 1 := Shape.ReducesTo.drop_apply_val h i 1
    rw [e] at hv0 hv1
    exact ⟨hv0.symm, hv1.symm⟩
  have := Finset.card_le_card_of_injOn (s := Finset.univ.filter fun i => h.drop i = j) (t := (Finset.univ : Finset (Fin n))) (fun i => i 2) (fun _ _ => Finset.mem_univ _)
    (fun i hi k hk e => by
      have h1 := hv i (Finset.mem_filter.1 hi).2
      have h2 := hv k (Finset.mem_filter.1 hk).2
      funext d
      match d with
      | ⟨0, _⟩ => exact Fin.ext (h1.1.trans h2.1.symm)
      | ⟨1, _⟩ => exact Fin.ext (h1.2.trans h2.2.symm)
      | ⟨2, _⟩ => exact e)
  simpa using this

/-- A widened bit is at most one. -/
theorem extui_le {s : Shape} (x : IVec s 1) (hw : 1 < 32) (i : s.Idx) : (extui 32 x hw i).toNat ≤ 1 := by
  show ((x i).setWidth 32).toNat ≤ 1
  rw [BitVec.toNat_setWidth]
  have := (x i).isLt
  omega

end Cert.DiffAttn
-- ==== Proof.KernelFrame.lean ====
/-
  The run of the kernel, from the host operations to the end (`run_main`), and its frame: the program ends without fault and
  leaves its arguments as they were.
-/
module

public import proofs.«01_k».proof.Proof.KernelRun
public import proofs.«01_k».proof.Proof.Count
public import Idealize.ShloMosaic.Lib.StableHlo.ReadAt

@[expose] public section

noncomputable section

namespace Cert.DiffAttn.Kernel

open Cert.Kernel Cert.Kernel.Gen
open Idealize.ShloMosaic Idealize.ShloMosaic.Script Idealize.ShloMosaic.Pipeline
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

/-- Values of the scratch buffers as one state, the other buffers at anything. -/
def pack (f0 : (names.shape .kt).Idx → Elt F (names.elt .kt)) (f1 : (names.shape .v16).Idx → Elt F (names.elt .v16)) (f2 : (names.shape .ksr).Idx → Elt F (names.elt .ksr)) (f3 : (names.shape .p0).Idx → Elt F (names.elt .p0)) (f4 : (names.shape .p1).Idx → Elt F (names.elt .p1)) (f5 : (names.shape .causal).Idx → Elt F (names.elt .causal)) (f6 : (names.shape .head).Idx → Elt F (names.elt .head)) (f7 : (names.shape .lo).Idx → Elt F (names.elt .lo)) (f8 : (names.shape .hi).Idx → Elt F (names.elt .hi)) (f9 : (names.shape .yt).Idx → Elt F (names.elt .yt)) (f10 : (names.shape .acc).Idx → Elt F (names.elt .acc)) : St names (Elt F) := fun b => match b with
  | .kt => f0
  | .v16 => f1
  | .ksr => f2
  | .p0 => f3
  | .p1 => f4
  | .causal => f5
  | .head => f6
  | .lo => f7
  | .hi => f8
  | .yt => f9
  | .acc => f10
  | _ => Classical.choice inferInstance

variable {Inv : ℕ → St names (Elt F) → Prop} {R : Fin grid0.N → ((names.shape .out).Idx → Elt F .bf16) → Prop}

/-- The region starts with the scratch buffers at anything. -/
theorem enter (h0 : ∀ S, Inv 0 S) (c : Dev nD) : iprop(ΦA spec0 c ∗ ΦT pre0 (tables m) c) ⊢ (dat m Inv R c).Φ 0 := by
  rw [show (dat m Inv R c).Φ 0 = iprop((∃ S, ⌜Inv 0 S⌝ ∗ scratch c S) ∗ (∃ r, prngReg c r) ∗ ΦT pre0 (tables m) c) from rfl]
  unfold ΦA scratch
  rw [scopedRest0_eq]
  simp only [owns_whole]
  iintro ⟨⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩⟩, Hp⟩, Ht⟩
  isplitl [H0 H1 H2 H3 H4 H5 H6 H7 H8 H9 H10]
  · iexists (pack f0 f1 f2 f3 f4 f5 f6 f7 f8 f9 f10)
    isplitr
    · ipureintro; exact h0 _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [Hp]; · iexact Hp
  iexact Ht

/-- The region ends with the scratch buffers at something. -/
theorem leave (c : Dev nD) : (dat m Inv R c).Φ (Fin.last (cfgA m).N) ⊢ ΦA spec0 c := by
  rw [show (dat m Inv R c).Φ (Fin.last (cfgA m).N) = iprop((∃ S, ⌜Inv (cfgA m).N S⌝ ∗ scratch c S) ∗ (∃ r, prngReg c r) ∗ ΦT pre0 (tables m) c) from rfl]
  unfold ΦA scratch
  rw [scopedRest0_eq]
  simp only [owns_whole]
  iintro ⟨⟨%S, -, H0, H1, H2, H3, H4, H5, H6, H7, H8, H9, H10⟩, Hp, -⟩
  isplitl [H0 H1 H2 H3 H4 H5 H6 H7 H8 H9 H10]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    iexists _; iexact H10
  iexact Hp

set_option backward.isDefEq.respectTransparency.types false in
/-- The run: where every point's script keeps `Inv` and leaves a block as `R` says, the program ends with the output's
    array overwritten by such blocks, the other buffers as the host operations left them, and nothing pending. -/
theorem run_main (hstep : Step m Inv R) (hloc : ∀ n S S', (∀ b, b ∈ scratchNames → S b = S' b) → Inv n S → Inv n S') (h0 : ∀ S, Inv 0 S) (g : Dev nD → PrngReg) :
    θ_run (defs (F := F)) (onTc (τ := τ) (main (F := F))) ⟨m, fun _ => 0, g⟩ (fun r => RDat.FramePost (cfgA m) (dat m Inv R) (V m) r ∧ r.2.sem = fun _ => 0) := by
  refine RDat.θ_run_frameP_track (pcfgs (F := F)) (adm m) 0 launch0 defs₀ 𝒱₀ (dat m Inv R) m g main (obligation m hstep hloc) (fun c w => ?_) (fun _ _ => rfl) (V m)
    (hmainP_prefix pcfgs 0 defs₀ 𝒱₀ m main hostOps0 hostOps0_sub ?_ main_chain) (fun _ _ => rfl) (fun c k => ?_) (enter m h0) (leave m) _ (fun _ h => h)
  · unfold RDat.share; split <;> rfl
  · repeat' (first | exact rfl | refine ⟨rfl, ?_⟩ | trivial)
  · obtain rfl := Subsingleton.elim c (0 : Dev nD)
    rfl

/-- The buffers that the host operations write, in order. -/
abbrev written : List (Ref sig .tc) := [main_v0, main_cst, main_v1, main_v2, main_v3, main_cst_0, main_v4, main_v5, main_v6, main_cst_1, main_v7, main_v8, main_v9, main_v10, main_v11, main_v12, main_v13, main_v14, main_cst_2, main_v15, main_v16, main_v17, main_v18, main_v19, main_v20, main_v21, main_v22, main_v23, main_v24, main_v25, main_c, main_v26, main_v27, main_v28, main_v29]

/-- What no host operation writes reaches the region as it was. -/
theorem V_of_not_written (c : Dev nD) (b : Ref sig .tc) (hb : b ∉ written) : V m c b = m ((c.tc : Thread nD τ).loc b) :=
  StableHlo.after_unwritten (ops := hostOps0) written rfl hb (fun b => m (c, b))

/-- An argument ends as it was. -/
theorem arg_kept {r : PUnit × MemSt nD τ sig (Elt F)} (h : RDat.FramePost (cfgA m) (dat m Inv R) (V m) r) (c : Dev nD) (b : Ref sig .tc) (hb : b ∉ written) (hs : b.isScoped = false)
    (ha : ∀ w : Fin 10, (spec0 w).arr.view.ref ≠ b) : r.2.mem ((c.tc : Thread nD τ).loc b) = m ((c.tc : Thread nD τ).loc b) :=
  ((h c).2 b (mem_restRefs_of b hs ha)).trans (V_of_not_written m c b hb)

/-- The arguments end as they were. -/
theorem args_kept {r : PUnit × MemSt nD τ sig (Elt F)} (h : RDat.FramePost (cfgA m) (dat m Inv R) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11) := by
  refine ⟨?_, ?_, ?_, ?_, ?_, ?_, ?_, ?_, ?_, ?_, ?_, ?_⟩
  all_goals exact arg_kept m h c _ (by decide) rfl (by decide)

/-- The first table's words. -/
theorem start_eq (c : Dev nD) : ∃ x : IVec S24x8x2048 1, V m c main_v26 = Host.reduce IntOp.addi (extui 32 x natLt_1_32) (constantI S_ 32 0#32) reducesTo_S24x8x2048_S24x8_d2 h_S_ := by
  refine ⟨?_, ?_⟩
  rotate_left
  · unfold V
    after_reads_simp
    rfl

/-- No segment starts past the keys. -/
theorem start_le (idx : (names.shape .start).Idx) : (tables m 0 idx).toNat ≤ 2048 := by
  obtain ⟨x, hx⟩ := start_eq m 0
  show (V m 0 main_v26 idx).toNat ≤ 2048
  rw [hx]
  exact reduce_bits_le _ (extui_le x _) _ (fun _ => rfl) _ _ idx

/-- A point's script ends from any values where no segment starts past the keys. -/
theorem run_script {M : Mems names sig .tc} (W : ∀ b : Nm, (M b).IsWhole) (i : grid0.Coords) (A : St names (Elt F)) (h : ∀ idx, (A .start idx).toNat ≤ 2048) :
    run (script W i) A fun _ _ => True := by
  unfold script
  exact run_body cst W (i 0).val (i 1).val (hb i) (hi i) (k0_chk1 i) (k0_chk1.dec i) (span_le i) (k0_chk2 i) (k0_chk2.dec i) (sweeps i) A
    (fun idx => check1 i _ (h idx)) (fun idx l u => check2 i _ (h idx) l u)

/-- Every point's script ends. -/
theorem step_true : Step (F := F) m (fun _ _ => True) (fun _ _ => True) := by
  intro c t s Y S _ _
  have h : ∀ idx, (join (tables m) Y S .start idx).toNat ≤ 2048 := fun idx => start_le m idx
  generalize join (tables m) Y S = A at h ⊢
  exact run_mono _ A _ _ (fun _ _ _ => ⟨trivial, trivial⟩) (run_script (memWhole s) (grid0.coords t) A h)

/-- The frame. -/
theorem frame (g : Dev nD → PrngReg) :
    θ_run (defs (F := F)) (onTc (τ := τ) (main (F := F))) ⟨m, fun _ => 0, g⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)) ∧ r.2.sem = fun _ => 0) :=
  (θ_run _ _ _).mono (fun _ h => ⟨fun c => args_kept m h.1 c, h.2⟩) (run_main m (step_true m) (fun _ _ _ _ _ => trivial) (fun _ => trivial) g)

end Cert.DiffAttn.Kernel

end
-- ==== Proof.KernelIdealEq.lean ====
/-
  The body of the kernel with named constants is the script: the two programs are equal by computation.
-/
module

public import proofs.«01_k».proof.Proof.Body
public import proofs.«01_k».proof.Proof.Gen.KernelIdeal

@[expose] public section

noncomputable section

namespace Cert.DiffAttn.KernelIdeal

open Idealize.ShloMosaic Idealize.ShloMosaic.Script Idealize.SL Idealize.SL.Sem
open Cert.KernelIdeal Cert.KernelIdeal.Facts₀ Cert.KernelIdeal.Facts

variable {F : FTy → Type} [FloatOps F] [Named F]

theorem hb (i : grid0.Coords) : (i 0).val < 24 := (i 0).isLt
theorem hi (i : grid0.Coords) : (i 1).val < 8 := (i 1).isLt

/-- A span whose first column of the table of last segments is in bounds starts at a tile. -/
theorem le_of_tab {i n : ℕ} (hi : i < 8) (hn : n < 8) (h : (BitVec.ofNat 32 i - BitVec.ofNat 32 n + 0#32).toNat + 1 ≤ 8) : n ≤ i := by
  simp only [BitVec.toNat_sub, BitVec.toNat_add, BitVec.toNat_ofNat] at h; omega

/-- The first check keeps the fast way in the buffers. -/
theorem span_le (i : grid0.Coords) (s : BitVec 32) (w : k0_chk1 i s) : ∀ n, n < 8 → isW (tilesW (i 1).val s) (BitVec.ofNat 32 (n + 1)) = 1#1 → n ≤ (i 1).val
  | 0, _, _ => Nat.zero_le _
  | 1, _, h => by
    have := k0_off47_inb i s w h 1
    exact le_of_tab (hi i) (by decide) this
  | 2, _, h => by
    have := k0_off81_inb i s w h 0 1
    exact le_of_tab (hi i) (by decide) this
  | 3, _, h => by
    have := k0_off115_inb i s w h 0 1
    exact le_of_tab (hi i) (by decide) this
  | 4, _, h => by
    have := k0_off149_inb i s w h 0 1
    exact le_of_tab (hi i) (by decide) this
  | 5, _, h => by
    have := k0_off183_inb i s w h 0 1
    exact le_of_tab (hi i) (by decide) this
  | 6, _, h => by
    have := k0_off217_inb i s w h 0 1
    exact le_of_tab (hi i) (by decide) this
  | 7, _, h => by
    have := k0_off251_inb i s w h 0 1
    exact le_of_tab (hi i) (by decide) this
  | n + 8, h, _ => absurd h (by omega)

/-- The second check keeps the slow way in the buffers. -/
theorem sweeps (i : grid0.Coords) (s : BitVec 32) (l h : BitVec 1) (w : k0_chk2 i s l h) (o : outOf l h = 1#1) : Sweeps s (tilesW (i 1).val s) where
  ok1 := k0_t10_ok i s l h w o
  ok2 := k0_t11_ok i s l h w o
  in1 t := ⟨by have := k0_off277_inb i s l h w t o 1; exact this, by have := k0_off274_inb i s l h w ⟨0, by decide⟩ t o 2; exact this, by have := k0_off288_inb i s l h w t o 1; exact this⟩
  in2 t := ⟨by have := k0_off282_inb i s l h w t o 1; exact this, by have := k0_off279_inb i s l h w ⟨0, by decide⟩ t o 2; exact this, by have := k0_off294_inb i s l h w t o 1; exact this⟩

/-- The kernel's constants. -/
@[reducible] noncomputable def cst : Cst F := ⟨Named.named κ "alpha" 0x3DE995B3#32, Named.named κ "inv_v" 0x3B4CCCCD#32, Named.named κ "masked" 0xF149F2CA#32, Named.named κ "open" 0x7149F2CA#32⟩

/-- The script of the point `i`. -/
noncomputable def script {M : Mems names sig .tc} (W : ∀ b : Nm, (M b).IsWhole) (i : grid0.Coords) : Scr (Elt F) M PUnit :=
  body cst W (i 0).val (i 1).val (hb i) (hi i) (k0_chk1 i) (k0_chk1.dec i) (span_le i) (k0_chk2 i) (k0_chk2.dec i) (sweeps i)

/-- The buffers of a call are whole. -/
theorem whole (arg2 : Memref sig .tc .smem S24x8 .i32) (harg2 : arg2.IsWhole) (arg3 : Memref sig .tc .smem S24x8 .i32) (harg3 : arg3.IsWhole) (arg4 : Memref sig .tc .vmem S1x6x2x160x256 .fp8e4m3) (harg4 : arg4.IsWhole) (arg5 : Memref sig .tc .vmem S1x6x2x256 .f32) (harg5 : arg5.IsWhole) (arg6 : Memref sig .tc .vmem S1x6x2x160x256 .fp8e4m3) (harg6 : arg6.IsWhole) (arg7 : Memref sig .tc .vmem S1x6x2x256 .f32) (harg7 : arg7.IsWhole) (arg8 : Memref sig .tc .vmem S1x6x320x256 .fp8e4m3) (harg8 : arg8.IsWhole) (arg9 : Memref sig .tc .vmem S1x1x256 .i32) (harg9 : arg9.IsWhole) (arg10 : Memref sig .tc .vmem S6x320x128 .f32) (harg10 : arg10.IsWhole) (arg11 : Memref sig .tc .vmem S320x128 .f32) (harg11 : arg11.IsWhole) (arg12 : Memref sig .tc .vmem S1x128 .f32) (harg12 : arg12.IsWhole) (arg13 : Memref sig .tc .vmem S1x256x1920 .bf16) (harg13 : arg13.IsWhole) (arg14 : Memref sig .tc .vmem S6x2x2048x160 .fp8e4m3) (harg14 : arg14.IsWhole) (arg15 : Memref sig .tc .vmem S6x320x2048 .bf16) (harg15 : arg15.IsWhole) (arg16 : Memref sig .tc .vmem S6x2x2048x128 .f32) (harg16 : arg16.IsWhole) (arg17 : Memref sig .tc .vmem S2x2048x256 .f32) (harg17 : arg17.IsWhole) (arg18 : Memref sig .tc .vmem S2x2048x256 .f32) (harg18 : arg18.IsWhole) (arg19 : Memref sig .tc .vmem S256x256 .f32) (harg19 : arg19.IsWhole) (arg20 : Memref sig .tc .vmem S256x128 .f32) (harg20 : arg20.IsWhole) (arg21 : Memref sig .tc .vmem S8x256 .f32) (harg21 : arg21.IsWhole) (arg22 : Memref sig .tc .vmem S8x256 .f32) (harg22 : arg22.IsWhole) (arg23 : Memref sig .tc .vmem S640x256 .bf16) (harg23 : arg23.IsWhole) (arg24 : Memref sig .tc .vmem S320x256 .f32) (harg24 : arg24.IsWhole) :
    ∀ b : Nm, (mems arg2 arg3 arg4 arg5 arg6 arg7 arg8 arg9 arg10 arg11 arg12 arg13 arg14 arg15 arg16 arg17 arg18 arg19 arg20 arg21 arg22 arg23 arg24 b).IsWhole
  | .start => harg2
  | .last => harg3
  | .q => harg4
  | .qs => harg5
  | .k => harg6
  | .ks => harg7
  | .v => harg8
  | .seg => harg9
  | .vs => harg10
  | .gain => harg11
  | .lam => harg12
  | .out => harg13
  | .kt => harg14
  | .v16 => harg15
  | .ksr => harg16
  | .p0 => harg17
  | .p1 => harg18
  | .causal => harg19
  | .head => harg20
  | .lo => harg21
  | .hi => harg22
  | .yt => harg23
  | .acc => harg24

set_option maxHeartbeats 4000000 in
/-- The body is the script. -/
theorem body_eq (i : grid0.Coords) (arg2 : Memref sig .tc .smem S24x8 .i32) (harg2 : arg2.IsWhole) (arg3 : Memref sig .tc .smem S24x8 .i32) (harg3 : arg3.IsWhole) (arg4 : Memref sig .tc .vmem S1x6x2x160x256 .fp8e4m3) (harg4 : arg4.IsWhole) (arg5 : Memref sig .tc .vmem S1x6x2x256 .f32) (harg5 : arg5.IsWhole) (arg6 : Memref sig .tc .vmem S1x6x2x160x256 .fp8e4m3) (harg6 : arg6.IsWhole) (arg7 : Memref sig .tc .vmem S1x6x2x256 .f32) (harg7 : arg7.IsWhole) (arg8 : Memref sig .tc .vmem S1x6x320x256 .fp8e4m3) (harg8 : arg8.IsWhole) (arg9 : Memref sig .tc .vmem S1x1x256 .i32) (harg9 : arg9.IsWhole) (arg10 : Memref sig .tc .vmem S6x320x128 .f32) (harg10 : arg10.IsWhole) (arg11 : Memref sig .tc .vmem S320x128 .f32) (harg11 : arg11.IsWhole) (arg12 : Memref sig .tc .vmem S1x128 .f32) (harg12 : arg12.IsWhole) (arg13 : Memref sig .tc .vmem S1x256x1920 .bf16) (harg13 : arg13.IsWhole) (arg14 : Memref sig .tc .vmem S6x2x2048x160 .fp8e4m3) (harg14 : arg14.IsWhole) (arg15 : Memref sig .tc .vmem S6x320x2048 .bf16) (harg15 : arg15.IsWhole) (arg16 : Memref sig .tc .vmem S6x2x2048x128 .f32) (harg16 : arg16.IsWhole) (arg17 : Memref sig .tc .vmem S2x2048x256 .f32) (harg17 : arg17.IsWhole) (arg18 : Memref sig .tc .vmem S2x2048x256 .f32) (harg18 : arg18.IsWhole) (arg19 : Memref sig .tc .vmem S256x256 .f32) (harg19 : arg19.IsWhole) (arg20 : Memref sig .tc .vmem S256x128 .f32) (harg20 : arg20.IsWhole) (arg21 : Memref sig .tc .vmem S8x256 .f32) (harg21 : arg21.IsWhole) (arg22 : Memref sig .tc .vmem S8x256 .f32) (harg22 : arg22.IsWhole) (arg23 : Memref sig .tc .vmem S640x256 .bf16) (harg23 : arg23.IsWhole) (arg24 : Memref sig .tc .vmem S320x256 .f32) (harg24 : arg24.IsWhole) :
    cc0_diff_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 =
      Script.compile (nD := nD) (τ := τ) (p := .tc) (Λ := Λ₀) (script (whole arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) i) := by
  chain_rfl

end Cert.DiffAttn.KernelIdeal

end
-- ==== Proof.KernelIdealCheck.lean ====
/-
  The two checks of the kernel with named constants hold where the segments start inside the keys.
-/
module

public import proofs.«01_k».proof.Proof.Words
public import proofs.«01_k».proof.Proof.Gen.KernelIdeal

@[expose] public section

noncomputable section

namespace Cert.DiffAttn.KernelIdeal

open Idealize.ShloMosaic Idealize.ShloMosaic.Script
open Cert.KernelIdeal

theorem row_of {i n j : ℕ} {s c : BitVec 32} (h : s.toNat ≤ 2048) (hi : i < 8) (hn : n < 8) (hc : c = BitVec.ofNat 32 (n + 1)) (hw : isW (tilesW i s) c = 1#1) (hj : j < n + 1) :
    rowW i n j + 256 ≤ 2048 := rowW_le h hi hn (hc ▸ hw) hj
theorem tab_of {i n j : ℕ} {s c : BitVec 32} (h : s.toNat ≤ 2048) (hi : i < 8) (hn : n < 8) (hc : c = BitVec.ofNat 32 (n + 1)) (hw : isW (tilesW i s) c = 1#1) (hj : j < n) :
    tabW i n j < 8 := tabW_lt h hi hn (hc ▸ hw) hj
theorem word_lt {b : ℕ} (hb : b < 24) : wordN b < 24 := by rw [wordN_eq hb]; exact hb

variable (i : grid0.Coords) (s : BitVec 32) (h : s.toNat ≤ 2048)
include h

set_option maxHeartbeats 8000000 in
set_option maxRecDepth 100000 in
/-- The fast way stays in the buffers. -/
theorem check1 : k0_chk1 i s := by
  have hi : (i 1).val < 8 := (i 1).isLt
  have hb : (i 0).val < 24 := (i 0).isLt
  refine ⟨?_, ?_, ?_⟩
  all_goals (repeat' refine And.intro ?_ ?_)
  all_goals first
    | exact fun t w r => inb_kt _ _ _ (by first | exact evenW_lt rfl t | exact oddW_lt rfl t) (by decide) (row_of h hi (by decide) rfl w r.isLt)
    | exact fun t w r => inb_ksr _ _ _ (by first | exact evenW_lt rfl t | exact oddW_lt rfl t) (by decide) (row_of h hi (by decide) rfl w r.isLt)
    | exact fun t w r => inb_v16 _ _ (by first | exact evenW_lt rfl t | exact oddW_lt rfl t) (row_of h hi (by decide) rfl w r.isLt)
    | exact fun w r => inb_tab _ _ (word_lt hb) (tab_of h hi (by decide) rfl w r.isLt)
    | exact fun w => inb_tab _ _ (word_lt hb) (tab_of (j := 0) h hi (by decide) rfl w (by decide))

set_option maxHeartbeats 8000000 in
set_option maxRecDepth 100000 in
/-- The slow way stays in the buffers. -/
theorem check2 (l u : BitVec 1) : k0_chk2 i s l u := by
  have hi : (i 1).val < 8 := (i 1).isLt
  have hb : (i 0).val < 24 := (i 0).isLt
  have S := sweeps_of h hi
  have o1 := S.ok1
  have o2 := S.ok2
  have p1 := S.in1
  have p2 := S.in2
  unfold midW tilesW firstW at o1 p1
  unfold midW endW tilesW firstW at o2 p2
  refine ⟨?_, ?_, ?_, ?_⟩
  all_goals (repeat' refine And.intro ?_ ?_)
  all_goals first
    | exact fun _ _ => dvd_mul256 _
    | exact fun t v _ => inb_kt _ _ _ (by first | exact evenW_lt rfl t | exact oddW_lt rfl t) (by decide) (by first | (with_reducible have q := p1 v); exact q.row | (with_reducible have q := p2 v); exact q.row)
    | exact fun t v _ => inb_ksr _ _ _ (by first | exact evenW_lt rfl t | exact oddW_lt rfl t) (by decide) (by first | (with_reducible have q := p1 v); exact q.row | (with_reducible have q := p2 v); exact q.row)
    | exact fun t v _ => inb_v16 _ _ (by first | exact evenW_lt rfl t | exact oddW_lt rfl t) (by first | (with_reducible have q := p1 v); exact q.row | (with_reducible have q := p2 v); exact q.row)
    | exact fun v _ => inb_p _ _ (by decide) (by first | (with_reducible have q := p1 v); exact q.at_ | (with_reducible have q := p2 v); exact q.at_)
    | exact fun v _ => inb_tab _ _ (word_lt hb) (by first | (with_reducible have q := p1 v); exact q.tab | (with_reducible have q := p2 v); exact q.tab)
    | (intro _; show Scf.OK _ _ _; with_reducible first | exact o1 | exact o2)

end Cert.DiffAttn.KernelIdeal

end
-- ==== Proof.KernelIdealRun.lean ====
/-
  The run of the kernel with named constants: the host operations, then the pipeline over the grid, whose body is the script. A property of the
  scratch buffers that every point's script keeps, and a property of the block every point's script leaves, give the
  run's end (`run_main`).
-/
module

public import proofs.«01_k».proof.Proof.Safe
public import proofs.«01_k».proof.Proof.KernelIdealEq
public import proofs.«01_k».proof.Proof.KernelIdealCheck
public import proofs.«01_k».proof.Proof.Gen.KernelIdeal.Launch
public import Idealize.ShloMosaic.Lib.Pipeline.Frame
public import Idealize.ShloMosaic.Lib.Pipeline.FrameBody
public import Idealize.ShloMosaic.Lib.Pipeline.TableIdle

@[expose] public section

noncomputable section

namespace Cert.DiffAttn.KernelIdeal

open Cert.KernelIdeal Cert.KernelIdeal.Gen
open Idealize.ShloMosaic Idealize.ShloMosaic.Script Idealize.ShloMosaic.Pipeline
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ)

/-- The buffers when the region is entered: the host operations have run. -/
def V (c : Dev nD) (b : Ref sig .tc) : Buf (Elt F) ((c.tc : Thread nD τ).loc b) := StableHlo.after hostOps0 (fun b => m (c, b)) (Proc.devRef .tc b)

/-- The two tables the region prefetches. -/
def tables : pre0.Contents (Elt F) := fun k => V m 0 (pre0.ref k)

abbrev adm : (p : Fin 1) → (pcfgs (F := F) p).Adm := fun _ => ⟨tables m, trivial⟩

abbrev cfgA : Cfg sig Λ₀ := pin (pcfgs (F := F)) (adm m) 0

/-- The buffers of a point, its windows' at the slots `s`. -/
@[reducible] def mem (s : (w : Fin 10) → Fin (spec0 w).nbuf) : Mems names sig .tc :=
  mems (Memref.whole main_v26) (Memref.whole main_v27) (spec0_0.stage (s 0)) (spec0_1.stage (s 1)) (spec0_2.stage (s 2)) (spec0_3.stage (s 3)) (spec0_4.stage (s 4)) (spec0_5.stage (s 5)) (spec0_6.stage (s 6)) (spec0_7.stage (s 7)) (spec0_8.stage (s 8)) (spec0_9.stage (s 9)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10)

theorem memWhole (s : (w : Fin 10) → Fin (spec0 w).nbuf) : ∀ b, (mem s b).IsWhole :=
  whole (Memref.whole main_v26) (Memref.isWhole_whole _) (Memref.whole main_v27) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (spec0_7.stage (s 7)) (hstage0_7 ((s 7).cast nbuf0_7)) (spec0_8.stage (s 8)) (hstage0_8 ((s 8).cast nbuf0_8)) (spec0_9.stage (s 9)) (hstage0_9 ((s 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _)

/-- The values of a point's buffers: the tables, the windows' blocks, and the scratch buffers. -/
def join (T : pre0.Contents (Elt F)) (Y : (w : Fin 10) → (spec0 w).block.Idx → Elt F (spec0 w).elt) (S : St names (Elt F)) : St names (Elt F) := fun b => match b, S with
  | .start, _ => T 0
  | .last, _ => T 1
  | .q, _ => Y 0
  | .qs, _ => Y 1
  | .k, _ => Y 2
  | .ks, _ => Y 3
  | .v, _ => Y 4
  | .seg, _ => Y 5
  | .vs, _ => Y 6
  | .gain, _ => Y 7
  | .lam, _ => Y 8
  | .out, _ => Y 9
  | .kt, S => S .kt
  | .v16, S => S .v16
  | .ksr, S => S .ksr
  | .p0, S => S .p0
  | .p1, S => S .p1
  | .causal, S => S .causal
  | .head, S => S .head
  | .lo, S => S .lo
  | .hi, S => S .hi
  | .yt, S => S .yt
  | .acc, S => S .acc

/-- The scratch buffers at their values. -/
def scratch (c : Dev nD) (S : St names (Elt F)) : sProp 𝕄 :=
  iprop(owns (c.tc : Thread nD τ) (Memref.whole cc0_scratch0 : Memref sig .tc .vmem _ _) fullShare (S .kt) ∗ owns (c.tc : Thread nD τ) (Memref.whole cc0_scratch1 : Memref sig .tc .vmem _ _) fullShare (S .v16) ∗ owns (c.tc : Thread nD τ) (Memref.whole cc0_scratch2 : Memref sig .tc .vmem _ _) fullShare (S .ksr) ∗ owns (c.tc : Thread nD τ) (Memref.whole cc0_scratch3 : Memref sig .tc .vmem _ _) fullShare (S .p0) ∗ owns (c.tc : Thread nD τ) (Memref.whole cc0_scratch4 : Memref sig .tc .vmem _ _) fullShare (S .p1) ∗ owns (c.tc : Thread nD τ) (Memref.whole cc0_scratch5 : Memref sig .tc .vmem _ _) fullShare (S .causal) ∗ owns (c.tc : Thread nD τ) (Memref.whole cc0_scratch6 : Memref sig .tc .vmem _ _) fullShare (S .head) ∗ owns (c.tc : Thread nD τ) (Memref.whole cc0_scratch7 : Memref sig .tc .vmem _ _) fullShare (S .lo) ∗ owns (c.tc : Thread nD τ) (Memref.whole cc0_scratch8 : Memref sig .tc .vmem _ _) fullShare (S .hi) ∗ owns (c.tc : Thread nD τ) (Memref.whole cc0_scratch9 : Memref sig .tc .vmem _ _) fullShare (S .yt) ∗ owns (c.tc : Thread nD τ) (Memref.whole cc0_scratch10 : Memref sig .tc .vmem _ _) fullShare (S .acc))

/-- Each buffer's share: the tables' half, the others whole. -/
def share : Nm → PosShare TreeShare
  | .start | .last => fullShare.right
  | _ => fullShare

theorem share_full : ∀ b, names.writable b = true → share b = fullShare
  | .start, h => absurd h (by decide)
  | .last, h => absurd h (by decide)
  | .q, h => absurd h (by decide)
  | .qs, h => absurd h (by decide)
  | .k, h => absurd h (by decide)
  | .ks, h => absurd h (by decide)
  | .v, h => absurd h (by decide)
  | .seg, h => absurd h (by decide)
  | .vs, h => absurd h (by decide)
  | .gain, h => absurd h (by decide)
  | .lam, h => absurd h (by decide)
  | .out, _ => rfl
  | .kt, _ => rfl
  | .v16, _ => rfl
  | .ksr, _ => rfl
  | .p0, _ => rfl
  | .p1, _ => rfl
  | .causal, _ => rfl
  | .head, _ => rfl
  | .lo, _ => rfl
  | .hi, _ => rfl
  | .yt, _ => rfl
  | .acc, _ => rfl

theorem univ_names : (Finset.univ : Finset Nm) = [Nm.start, Nm.last, Nm.q, Nm.qs, Nm.k, Nm.ks, Nm.v, Nm.seg, Nm.vs, Nm.gain, Nm.lam, Nm.out, Nm.kt, Nm.v16, Nm.ksr, Nm.p0, Nm.p1, Nm.causal, Nm.head, Nm.lo, Nm.hi, Nm.yt, Nm.acc].toFinset := by decide

/-- The scratch buffers. -/
def scratchNames : List Nm := [Nm.kt, Nm.v16, Nm.ksr, Nm.p0, Nm.p1, Nm.causal, Nm.head, Nm.lo, Nm.hi, Nm.yt, Nm.acc]

theorem names_nodup : [Nm.start, Nm.last, Nm.q, Nm.qs, Nm.k, Nm.ks, Nm.v, Nm.seg, Nm.vs, Nm.gain, Nm.lam, Nm.out, Nm.kt, Nm.v16, Nm.ksr, Nm.p0, Nm.p1, Nm.causal, Nm.head, Nm.lo, Nm.hi, Nm.yt, Nm.acc].Nodup := by decide +kernel

/-- The point's buffers, held as the script holds them, are the tables, the windows' blocks and the scratch buffers. -/
theorem held_eq (c : Dev nD) (s : (w : Fin 10) → Fin (spec0 w).nbuf) (S : St names (Elt F)) :
    (Script.held (c.tc : Thread nD τ) (mem s) share S : sProp 𝕄) = iprop(owns (c.tc : Thread nD τ) (mem s .start) (share .start) (S .start) ∗ owns (c.tc : Thread nD τ) (mem s .last) (share .last) (S .last) ∗ owns (c.tc : Thread nD τ) (mem s .q) (share .q) (S .q) ∗ owns (c.tc : Thread nD τ) (mem s .qs) (share .qs) (S .qs) ∗ owns (c.tc : Thread nD τ) (mem s .k) (share .k) (S .k) ∗ owns (c.tc : Thread nD τ) (mem s .ks) (share .ks) (S .ks) ∗ owns (c.tc : Thread nD τ) (mem s .v) (share .v) (S .v) ∗ owns (c.tc : Thread nD τ) (mem s .seg) (share .seg) (S .seg) ∗ owns (c.tc : Thread nD τ) (mem s .vs) (share .vs) (S .vs) ∗ owns (c.tc : Thread nD τ) (mem s .gain) (share .gain) (S .gain) ∗ owns (c.tc : Thread nD τ) (mem s .lam) (share .lam) (S .lam) ∗ owns (c.tc : Thread nD τ) (mem s .out) (share .out) (S .out) ∗ owns (c.tc : Thread nD τ) (mem s .kt) (share .kt) (S .kt) ∗ owns (c.tc : Thread nD τ) (mem s .v16) (share .v16) (S .v16) ∗ owns (c.tc : Thread nD τ) (mem s .ksr) (share .ksr) (S .ksr) ∗ owns (c.tc : Thread nD τ) (mem s .p0) (share .p0) (S .p0) ∗ owns (c.tc : Thread nD τ) (mem s .p1) (share .p1) (S .p1) ∗ owns (c.tc : Thread nD τ) (mem s .causal) (share .causal) (S .causal) ∗ owns (c.tc : Thread nD τ) (mem s .head) (share .head) (S .head) ∗ owns (c.tc : Thread nD τ) (mem s .lo) (share .lo) (S .lo) ∗ owns (c.tc : Thread nD τ) (mem s .hi) (share .hi) (S .hi) ∗ owns (c.tc : Thread nD τ) (mem s .yt) (share .yt) (S .yt) ∗ owns (c.tc : Thread nD τ) (mem s .acc) (share .acc) (S .acc)) := by
  unfold Script.held
  rw [bigSep_univ_eq_bigSepL [Nm.start, Nm.last, Nm.q, Nm.qs, Nm.k, Nm.ks, Nm.v, Nm.seg, Nm.vs, Nm.gain, Nm.lam, Nm.out, Nm.kt, Nm.v16, Nm.ksr, Nm.p0, Nm.p1, Nm.causal, Nm.head, Nm.lo, Nm.hi, Nm.yt, Nm.acc] univ_names names_nodup]
  simp only [owns_eq_rep]
  rfl

/-- The proof data: the arrays as the region finds them, the output's block at each point as `R` says, and between points
    the scratch buffers at values of which `Inv` holds. -/
def dat (Inv : ℕ → St names (Elt F) → Prop) (R : Fin grid0.N → ((names.shape .out).Idx → Elt F .bf16) → Prop) (c : Dev nD) :
    RDat τ (Elt F) Unit ℕ (UR sig nD τ) ℕ (cfgA m) c where
  A w := V m c (arrRef spec0 w)
  after := fun
    | 0 => fun _ Y X => X = Y
    | 1 => fun _ Y X => X = Y
    | 2 => fun _ Y X => X = Y
    | 3 => fun _ Y X => X = Y
    | 4 => fun _ Y X => X = Y
    | 5 => fun _ Y X => X = Y
    | 6 => fun _ Y X => X = Y
    | 7 => fun _ Y X => X = Y
    | 8 => fun _ Y X => X = Y
    | 9 => fun t _ X => R t X
    | ⟨_ + 10, h⟩ => absurd h (Nat.not_lt.2 (Nat.le_add_left _ _))
  Φ n := iprop((∃ S, ⌜Inv n.val S⌝ ∗ scratch c S) ∗ (∃ r, prngReg c r) ∗ ΦT pre0 (tables m) c)
  q _ := fullShare
  owed _ := 0

/-- The blocks the input windows hold at a point. -/
def Blocks (c : Dev nD) (t : Fin grid0.N) (Y : (w : Fin 10) → (spec0 w).block.Idx → Elt F (spec0 w).elt) : Prop :=
  ∀ w : Fin (cfgA m).W, w.val < 9 → ∃ d, Y w = ((cfgA m).win w).fill ((cfgA m).grid.coords t) d ((((cfgA m).win w).blk t).view.read (Elt F) (V m c (arrRef spec0 w)))

/-- What every point's script does, which is what the run needs. -/
def Step (Inv : ℕ → St names (Elt F) → Prop) (R : Fin grid0.N → ((names.shape .out).Idx → Elt F .bf16) → Prop) : Prop :=
  ∀ (c : Dev nD) (t : Fin grid0.N) (s : (w : Fin 10) → Fin (spec0 w).nbuf) Y S, Blocks m c t Y → Inv t.val S →
    run (script (memWhole s) (grid0.coords t)) (join (tables m) Y S) fun _ S' => Inv (t.val + 1) S' ∧ R t (S' .out)

variable {Inv : ℕ → St names (Elt F) → Prop} {R : Fin grid0.N → ((names.shape .out).Idx → Elt F .bf16) → Prop}

theorem keeps (c : Dev nD) (w : Fin (cfgA m).W) (hw : w.val < 9) : ∀ t Y X, (dat m Inv R c).after w t Y X → X = Y := by
  match w, hw with
  | 0, _ | 1, _ | 2, _ | 3, _ | 4, _ | 5, _ | 6, _ | 7, _ | 8, _ => exact fun _ _ _ h => h

theorem isIn (w : Fin (cfgA m).W) (hw : w.val < 9) : ((cfgA m).win w).isOut = false := by
  match w, hw with
  | 0, _ | 1, _ | 2, _ | 3, _ | 4, _ | 5, _ | 6, _ | 7, _ | 8, _ => rfl

theorem blocks_of (c : Dev nD) (t : Fin grid0.N) (Y : (w : Fin 10) → (spec0 w).block.Idx → Elt F (spec0 w).elt) (h : ∀ w, (dat m Inv R c).Finds w t (Y w)) : Blocks m c t Y :=
  fun w hw => RDat.finds_in_eq_fetched (dat m Inv R c) w (isIn m w hw) (fun _ _ _ => rfl) (keeps m c w hw) t (Y w) (h w)

abbrev 𝒱₀ : Variants := Variants.none

/-- The tables as the region hands them to the body. -/
theorem tables_eq (c : Dev nD) (T : pre0.Contents (Elt F)) : (ΦT pre0 T c : sProp 𝕄)
    = iprop(owns (c.tc : Thread nD τ) (Memref.whole main_v26) fullShare.right (T 0) ∗ owns (c.tc : Thread nD τ) (Memref.whole main_v27) fullShare.right (T 1)) := by
  have e0 : (owns (c.tc : Thread nD τ) (Memref.whole main_v26) fullShare.right (T 0) : sProp 𝕄) = _ := owns_whole (c.tc : Thread nD τ) main_v26 fullShare.right (T 0)
  have e1 : (owns (c.tc : Thread nD τ) (Memref.whole main_v27) fullShare.right (T 1) : sProp 𝕄) = _ := owns_whole (c.tc : Thread nD τ) main_v27 fullShare.right (T 1)
  unfold ΦT prefHeld
  exact (bigSep_univ_eq_bigSepL [(0 : Fin 2), (1 : Fin 2)] (by decide) (by decide) _).trans (congrArg₂ (fun a b => iprop(a ∗ b)) e0.symm e1.symm)

theorem held_open (c : Dev nD) (s : (w : Fin 10) → Fin (spec0 w).nbuf) (S : St names (Elt F)) :
    (Script.held (c.tc : Thread nD τ) (mem s) share S : sProp 𝕄) ⊢ iprop(owns (c.tc : Thread nD τ) (mem s .start) (share .start) (S .start) ∗ owns (c.tc : Thread nD τ) (mem s .last) (share .last) (S .last) ∗ owns (c.tc : Thread nD τ) (mem s .q) (share .q) (S .q) ∗ owns (c.tc : Thread nD τ) (mem s .qs) (share .qs) (S .qs) ∗ owns (c.tc : Thread nD τ) (mem s .k) (share .k) (S .k) ∗ owns (c.tc : Thread nD τ) (mem s .ks) (share .ks) (S .ks) ∗ owns (c.tc : Thread nD τ) (mem s .v) (share .v) (S .v) ∗ owns (c.tc : Thread nD τ) (mem s .seg) (share .seg) (S .seg) ∗ owns (c.tc : Thread nD τ) (mem s .vs) (share .vs) (S .vs) ∗ owns (c.tc : Thread nD τ) (mem s .gain) (share .gain) (S .gain) ∗ owns (c.tc : Thread nD τ) (mem s .lam) (share .lam) (S .lam) ∗ owns (c.tc : Thread nD τ) (mem s .out) (share .out) (S .out) ∗ owns (c.tc : Thread nD τ) (mem s .kt) (share .kt) (S .kt) ∗ owns (c.tc : Thread nD τ) (mem s .v16) (share .v16) (S .v16) ∗ owns (c.tc : Thread nD τ) (mem s .ksr) (share .ksr) (S .ksr) ∗ owns (c.tc : Thread nD τ) (mem s .p0) (share .p0) (S .p0) ∗ owns (c.tc : Thread nD τ) (mem s .p1) (share .p1) (S .p1) ∗ owns (c.tc : Thread nD τ) (mem s .causal) (share .causal) (S .causal) ∗ owns (c.tc : Thread nD τ) (mem s .head) (share .head) (S .head) ∗ owns (c.tc : Thread nD τ) (mem s .lo) (share .lo) (S .lo) ∗ owns (c.tc : Thread nD τ) (mem s .hi) (share .hi) (S .hi) ∗ owns (c.tc : Thread nD τ) (mem s .yt) (share .yt) (S .yt) ∗ owns (c.tc : Thread nD τ) (mem s .acc) (share .acc) (S .acc)) := by rw [held_eq]

theorem held_close (c : Dev nD) (s : (w : Fin 10) → Fin (spec0 w).nbuf) (S : St names (Elt F)) :
    iprop(owns (c.tc : Thread nD τ) (mem s .start) (share .start) (S .start) ∗ owns (c.tc : Thread nD τ) (mem s .last) (share .last) (S .last) ∗ owns (c.tc : Thread nD τ) (mem s .q) (share .q) (S .q) ∗ owns (c.tc : Thread nD τ) (mem s .qs) (share .qs) (S .qs) ∗ owns (c.tc : Thread nD τ) (mem s .k) (share .k) (S .k) ∗ owns (c.tc : Thread nD τ) (mem s .ks) (share .ks) (S .ks) ∗ owns (c.tc : Thread nD τ) (mem s .v) (share .v) (S .v) ∗ owns (c.tc : Thread nD τ) (mem s .seg) (share .seg) (S .seg) ∗ owns (c.tc : Thread nD τ) (mem s .vs) (share .vs) (S .vs) ∗ owns (c.tc : Thread nD τ) (mem s .gain) (share .gain) (S .gain) ∗ owns (c.tc : Thread nD τ) (mem s .lam) (share .lam) (S .lam) ∗ owns (c.tc : Thread nD τ) (mem s .out) (share .out) (S .out) ∗ owns (c.tc : Thread nD τ) (mem s .kt) (share .kt) (S .kt) ∗ owns (c.tc : Thread nD τ) (mem s .v16) (share .v16) (S .v16) ∗ owns (c.tc : Thread nD τ) (mem s .ksr) (share .ksr) (S .ksr) ∗ owns (c.tc : Thread nD τ) (mem s .p0) (share .p0) (S .p0) ∗ owns (c.tc : Thread nD τ) (mem s .p1) (share .p1) (S .p1) ∗ owns (c.tc : Thread nD τ) (mem s .causal) (share .causal) (S .causal) ∗ owns (c.tc : Thread nD τ) (mem s .head) (share .head) (S .head) ∗ owns (c.tc : Thread nD τ) (mem s .lo) (share .lo) (S .lo) ∗ owns (c.tc : Thread nD τ) (mem s .hi) (share .hi) (S .hi) ∗ owns (c.tc : Thread nD τ) (mem s .yt) (share .yt) (S .yt) ∗ owns (c.tc : Thread nD τ) (mem s .acc) (share .acc) (S .acc)) ⊢ (Script.held (c.tc : Thread nD τ) (mem s) share S : sProp 𝕄) := by rw [held_eq]

theorem owns_cast (c : Thread nD τ) {sp : CoreSpace} {sh : Shape} {e : EltTy} (M : Memref sig c.2.kind sp sh e) (q : PosShare TreeShare) {X Y : sh.Idx → Elt F e} (h : X = Y) :
    (owns c M q X : sProp 𝕄) ⊢ owns c M q Y := by rw [h]

/-- A point's body does what its script does. -/
theorem body_wp (c : Dev nD) (t : Fin grid0.N) (s : (w : Fin 10) → Fin (spec0 w).nbuf) (S : St names (Elt F)) (Q : St names (Elt F) → Prop)
    (h : run (script (memWhole s) (grid0.coords t)) S fun _ S' => Q S') :
    (Script.held (c.tc : Thread nD τ) (mem s) share S : sProp 𝕄) ⊢ wp frame (wpE defs₀ 𝒱₀ (c.tc : Thread nD τ) none) Set.univ (defs₀ (F := F) .tc 0 (t, s)) fun _ =>
      iprop(∃ S', ⌜Q S'⌝ ∗ Script.held (c.tc : Thread nD τ) (mem s) share S') := by
  have e : defs₀ (F := F) .tc 0 (t, s) = Script.compile (nD := nD) (τ := τ) (p := .tc) (Λ := Λ₀) (script (memWhole s) (grid0.coords t)) :=
    body_eq (grid0.coords t) (Memref.whole main_v26) (Memref.isWhole_whole _) (Memref.whole main_v27) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (spec0_7.stage (s 7)) (hstage0_7 ((s 7).cast nbuf0_7)) (spec0_8.stage (s 8)) (hstage0_8 ((s 8).cast nbuf0_8)) (spec0_9.stage (s 9)) (hstage0_9 ((s 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _)
  rw [e]
  exact Script.sound 𝒱₀ none Set.univ share_full _ S _ h

set_option maxHeartbeats 4000000 in
set_option backward.isDefEq.respectTransparency.types false in
/-- The pipeline's obligation of its body. -/
theorem obligation (hstep : Step m Inv R) (hloc : ∀ n S S', (∀ b, b ∈ scratchNames → S b = S' b) → Inv n S → Inv n S') (c : Dev nD) :
    (dat m Inv R c).BodyObligation (defs₀ (F := F)) 𝒱₀ () Set.univ := by
  intro t Y hY
  have hB := blocks_of m c t Y hY
  rw [show (dat m Inv R c).Φ t.castSucc = iprop((∃ S, ⌜Inv t.val S⌝ ∗ scratch c S) ∗ (∃ r, prngReg c r) ∗ ΦT pre0 (tables m) c) from rfl,
    show (dat m Inv R c).Φ t.succ = iprop((∃ S, ⌜Inv (t.val + 1) S⌝ ∗ scratch c S) ∗ (∃ r, prngReg c r) ∗ ΦT pre0 (tables m) c) from rfl, tables_eq]
  rw [bigSep_W0, bigSep_W0]
  unfold scratch
  iintro ⟨⟨⟨%S, %hS, Hs0, Hs1, Hs2, Hs3, Hs4, Hs5, Hs6, Hs7, Hs8, Hs9, Hs10⟩, Hp, Ht0, Ht1⟩, HO, H0, H1, H2, H3, H4, H5, H6, H7, H8, H9⟩
  have hrun := run_keep _ _ _ _ (fun _ _ => rfl) (hstep c t ((cfgA m).slots t) Y S hB hS)
  have hwp := body_wp c t ((cfgA m).slots t) _ (fun S' => (Inv (t.val + 1) S' ∧ R t (S' .out)) ∧ ∀ b, names.writable b = false → S' b = join (tables m) Y S b) hrun
  iapply (wp_wand_r frame (wpE defs₀ 𝒱₀ (c.tc : Thread nD τ) none) Set.univ)
  isplitl [Ht0 Ht1 Hs0 Hs1 Hs2 Hs3 Hs4 Hs5 Hs6 Hs7 Hs8 Hs9 Hs10 H0 H1 H2 H3 H4 H5 H6 H7 H8 H9]
  · iapply hwp
    iapply (held_close c)
    isplitl [Ht0]; · iexact Ht0
    isplitl [Ht1]; · iexact Ht1
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hs10
  · iintro %a ⟨%S', %hQ, Hh⟩
    ihave Hh := (held_open c _ _) $$ Hh
    icases Hh with ⟨Ht0, Ht1, H0, H1, H2, H3, H4, H5, H6, H7, H8, H9, Hs0, Hs1, Hs2, Hs3, Hs4, Hs5, Hs6, Hs7, Hs8, Hs9, Hs10⟩
    obtain ⟨⟨hI, hR⟩, hk⟩ := hQ
    isplitl [Hp Ht0 Ht1 Hs0 Hs1 Hs2 Hs3 Hs4 Hs5 Hs6 Hs7 Hs8 Hs9 Hs10]
    · isplitl [Hs0 Hs1 Hs2 Hs3 Hs4 Hs5 Hs6 Hs7 Hs8 Hs9 Hs10]
      · iexists S'
        isplitr
        · ipureintro; exact hI
        isplitl [Hs0]; · iexact Hs0
        isplitl [Hs1]; · iexact Hs1
        isplitl [Hs2]; · iexact Hs2
        isplitl [Hs3]; · iexact Hs3
        isplitl [Hs4]; · iexact Hs4
        isplitl [Hs5]; · iexact Hs5
        isplitl [Hs6]; · iexact Hs6
        isplitl [Hs7]; · iexact Hs7
        isplitl [Hs8]; · iexact Hs8
        isplitl [Hs9]; · iexact Hs9
        iexact Hs10
      isplitl [Hp]; · iexact Hp
      isplitl [Ht0]; · ihave Ht0 := (owns_cast (c.tc : Thread nD τ) (mem ((cfgA m).slots t) .start) (share .start) (hk .start rfl)) $$ Ht0; iexact Ht0
      ihave Ht1 := (owns_cast (c.tc : Thread nD τ) (mem ((cfgA m).slots t) .last) (share .last) (hk .last rfl)) $$ Ht1
      iexact Ht1
    isplitl [HO]; · iexact HO
    isplitl [H0]; · iexists (Y 0); isplitr; (· ipureintro; exact rfl); ihave H0 := (owns_cast (c.tc : Thread nD τ) (mem ((cfgA m).slots t) .q) (share .q) (hk .q rfl)) $$ H0; iexact H0
    isplitl [H1]; · iexists (Y 1); isplitr; (· ipureintro; exact rfl); ihave H1 := (owns_cast (c.tc : Thread nD τ) (mem ((cfgA m).slots t) .qs) (share .qs) (hk .qs rfl)) $$ H1; iexact H1
    isplitl [H2]; · iexists (Y 2); isplitr; (· ipureintro; exact rfl); ihave H2 := (owns_cast (c.tc : Thread nD τ) (mem ((cfgA m).slots t) .k) (share .k) (hk .k rfl)) $$ H2; iexact H2
    isplitl [H3]; · iexists (Y 3); isplitr; (· ipureintro; exact rfl); ihave H3 := (owns_cast (c.tc : Thread nD τ) (mem ((cfgA m).slots t) .ks) (share .ks) (hk .ks rfl)) $$ H3; iexact H3
    isplitl [H4]; · iexists (Y 4); isplitr; (· ipureintro; exact rfl); ihave H4 := (owns_cast (c.tc : Thread nD τ) (mem ((cfgA m).slots t) .v) (share .v) (hk .v rfl)) $$ H4; iexact H4
    isplitl [H5]; · iexists (Y 5); isplitr; (· ipureintro; exact rfl); ihave H5 := (owns_cast (c.tc : Thread nD τ) (mem ((cfgA m).slots t) .seg) (share .seg) (hk .seg rfl)) $$ H5; iexact H5
    isplitl [H6]; · iexists (Y 6); isplitr; (· ipureintro; exact rfl); ihave H6 := (owns_cast (c.tc : Thread nD τ) (mem ((cfgA m).slots t) .vs) (share .vs) (hk .vs rfl)) $$ H6; iexact H6
    isplitl [H7]; · iexists (Y 7); isplitr; (· ipureintro; exact rfl); ihave H7 := (owns_cast (c.tc : Thread nD τ) (mem ((cfgA m).slots t) .gain) (share .gain) (hk .gain rfl)) $$ H7; iexact H7
    isplitl [H8]; · iexists (Y 8); isplitr; (· ipureintro; exact rfl); ihave H8 := (owns_cast (c.tc : Thread nD τ) (mem ((cfgA m).slots t) .lam) (share .lam) (hk .lam rfl)) $$ H8; iexact H8
    iexists (S' .out)
    isplitr
    · ipureintro; exact hR
    iexact H9

end Cert.DiffAttn.KernelIdeal

end
-- ==== Proof.KernelIdealFrame.lean ====
/-
  The run of the kernel with named constants, from the host operations to the end (`run_main`), and its frame: the program ends without fault and
  leaves its arguments as they were.
-/
module

public import proofs.«01_k».proof.Proof.KernelIdealRun
public import proofs.«01_k».proof.Proof.Count
public import Idealize.ShloMosaic.Lib.StableHlo.ReadAt

@[expose] public section

noncomputable section

namespace Cert.DiffAttn.KernelIdeal

open Cert.KernelIdeal Cert.KernelIdeal.Gen
open Idealize.ShloMosaic Idealize.ShloMosaic.Script Idealize.ShloMosaic.Pipeline
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ)

/-- Values of the scratch buffers as one state, the other buffers at anything. -/
def pack (f0 : (names.shape .kt).Idx → Elt F (names.elt .kt)) (f1 : (names.shape .v16).Idx → Elt F (names.elt .v16)) (f2 : (names.shape .ksr).Idx → Elt F (names.elt .ksr)) (f3 : (names.shape .p0).Idx → Elt F (names.elt .p0)) (f4 : (names.shape .p1).Idx → Elt F (names.elt .p1)) (f5 : (names.shape .causal).Idx → Elt F (names.elt .causal)) (f6 : (names.shape .head).Idx → Elt F (names.elt .head)) (f7 : (names.shape .lo).Idx → Elt F (names.elt .lo)) (f8 : (names.shape .hi).Idx → Elt F (names.elt .hi)) (f9 : (names.shape .yt).Idx → Elt F (names.elt .yt)) (f10 : (names.shape .acc).Idx → Elt F (names.elt .acc)) : St names (Elt F) := fun b => match b with
  | .kt => f0
  | .v16 => f1
  | .ksr => f2
  | .p0 => f3
  | .p1 => f4
  | .causal => f5
  | .head => f6
  | .lo => f7
  | .hi => f8
  | .yt => f9
  | .acc => f10
  | _ => Classical.choice inferInstance

variable {Inv : ℕ → St names (Elt F) → Prop} {R : Fin grid0.N → ((names.shape .out).Idx → Elt F .bf16) → Prop}

/-- The region starts with the scratch buffers at anything. -/
theorem enter (h0 : ∀ S, Inv 0 S) (c : Dev nD) : iprop(ΦA spec0 c ∗ ΦT pre0 (tables m) c) ⊢ (dat m Inv R c).Φ 0 := by
  rw [show (dat m Inv R c).Φ 0 = iprop((∃ S, ⌜Inv 0 S⌝ ∗ scratch c S) ∗ (∃ r, prngReg c r) ∗ ΦT pre0 (tables m) c) from rfl]
  unfold ΦA scratch
  rw [scopedRest0_eq]
  simp only [owns_whole]
  iintro ⟨⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩⟩, Hp⟩, Ht⟩
  isplitl [H0 H1 H2 H3 H4 H5 H6 H7 H8 H9 H10]
  · iexists (pack f0 f1 f2 f3 f4 f5 f6 f7 f8 f9 f10)
    isplitr
    · ipureintro; exact h0 _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [Hp]; · iexact Hp
  iexact Ht

/-- The region ends with the scratch buffers at something. -/
theorem leave (c : Dev nD) : (dat m Inv R c).Φ (Fin.last (cfgA m).N) ⊢ ΦA spec0 c := by
  rw [show (dat m Inv R c).Φ (Fin.last (cfgA m).N) = iprop((∃ S, ⌜Inv (cfgA m).N S⌝ ∗ scratch c S) ∗ (∃ r, prngReg c r) ∗ ΦT pre0 (tables m) c) from rfl]
  unfold ΦA scratch
  rw [scopedRest0_eq]
  simp only [owns_whole]
  iintro ⟨⟨%S, -, H0, H1, H2, H3, H4, H5, H6, H7, H8, H9, H10⟩, Hp, -⟩
  isplitl [H0 H1 H2 H3 H4 H5 H6 H7 H8 H9 H10]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    iexists _; iexact H10
  iexact Hp

set_option backward.isDefEq.respectTransparency.types false in
/-- The run: where every point's script keeps `Inv` and leaves a block as `R` says, the program ends with the output's
    array overwritten by such blocks, the other buffers as the host operations left them, and nothing pending. -/
theorem run_main (hstep : Step m Inv R) (hloc : ∀ n S S', (∀ b, b ∈ scratchNames → S b = S' b) → Inv n S → Inv n S') (h0 : ∀ S, Inv 0 S) (g : Dev nD → PrngReg) :
    θ_run (defs (F := F)) (onTc (τ := τ) (main (F := F))) ⟨m, fun _ => 0, g⟩ (fun r => RDat.FramePost (cfgA m) (dat m Inv R) (V m) r ∧ r.2.sem = fun _ => 0) := by
  refine RDat.θ_run_frameP_track (pcfgs (F := F)) (adm m) 0 launch0 defs₀ 𝒱₀ (dat m Inv R) m g main (obligation m hstep hloc) (fun c w => ?_) (fun _ _ => rfl) (V m)
    (hmainP_prefix pcfgs 0 defs₀ 𝒱₀ m main hostOps0 hostOps0_sub ?_ main_chain) (fun _ _ => rfl) (fun c k => ?_) (enter m h0) (leave m) _ (fun _ h => h)
  · unfold RDat.share; split <;> rfl
  · repeat' (first | exact rfl | refine ⟨rfl, ?_⟩ | trivial)
  · obtain rfl := Subsingleton.elim c (0 : Dev nD)
    rfl

/-- The buffers that the host operations write, in order. -/
abbrev written : List (Ref sig .tc) := [main_v0, main_cst, main_v1, main_v2, main_v3, main_cst_0, main_v4, main_v5, main_v6, main_cst_1, main_v7, main_v8, main_v9, main_v10, main_v11, main_v12, main_v13, main_v14, main_cst_2, main_v15, main_v16, main_v17, main_v18, main_v19, main_v20, main_v21, main_v22, main_v23, main_v24, main_v25, main_c, main_v26, main_v27, main_v28, main_v29]

/-- What no host operation writes reaches the region as it was. -/
theorem V_of_not_written (c : Dev nD) (b : Ref sig .tc) (hb : b ∉ written) : V m c b = m ((c.tc : Thread nD τ).loc b) :=
  StableHlo.after_unwritten (ops := hostOps0) written rfl hb (fun b => m (c, b))

/-- An argument ends as it was. -/
theorem arg_kept {r : PUnit × MemSt nD τ sig (Elt F)} (h : RDat.FramePost (cfgA m) (dat m Inv R) (V m) r) (c : Dev nD) (b : Ref sig .tc) (hb : b ∉ written) (hs : b.isScoped = false)
    (ha : ∀ w : Fin 10, (spec0 w).arr.view.ref ≠ b) : r.2.mem ((c.tc : Thread nD τ).loc b) = m ((c.tc : Thread nD τ).loc b) :=
  ((h c).2 b (mem_restRefs_of b hs ha)).trans (V_of_not_written m c b hb)

/-- The arguments end as they were. -/
theorem args_kept {r : PUnit × MemSt nD τ sig (Elt F)} (h : RDat.FramePost (cfgA m) (dat m Inv R) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11) := by
  refine ⟨?_, ?_, ?_, ?_, ?_, ?_, ?_, ?_, ?_, ?_, ?_, ?_⟩
  all_goals exact arg_kept m h c _ (by decide) rfl (by decide)

/-- The first table's words. -/
theorem start_eq (c : Dev nD) : ∃ x : IVec S24x8x2048 1, V m c main_v26 = Host.reduce IntOp.addi (extui 32 x natLt_1_32) (constantI S_ 32 0#32) reducesTo_S24x8x2048_S24x8_d2 h_S_ := by
  refine ⟨?_, ?_⟩
  rotate_left
  · unfold V
    after_reads_simp
    rfl

/-- No segment starts past the keys. -/
theorem start_le (idx : (names.shape .start).Idx) : (tables m 0 idx).toNat ≤ 2048 := by
  obtain ⟨x, hx⟩ := start_eq m 0
  show (V m 0 main_v26 idx).toNat ≤ 2048
  rw [hx]
  exact reduce_bits_le _ (extui_le x _) _ (fun _ => rfl) _ _ idx

/-- A point's script ends from any values where no segment starts past the keys. -/
theorem run_script {M : Mems names sig .tc} (W : ∀ b : Nm, (M b).IsWhole) (i : grid0.Coords) (A : St names (Elt F)) (h : ∀ idx, (A .start idx).toNat ≤ 2048) :
    run (script W i) A fun _ _ => True := by
  unfold script
  exact run_body cst W (i 0).val (i 1).val (hb i) (hi i) (k0_chk1 i) (k0_chk1.dec i) (span_le i) (k0_chk2 i) (k0_chk2.dec i) (sweeps i) A
    (fun idx => check1 i _ (h idx)) (fun idx l u => check2 i _ (h idx) l u)

/-- Every point's script ends. -/
theorem step_true : Step (F := F) m (fun _ _ => True) (fun _ _ => True) := by
  intro c t s Y S _ _
  have h : ∀ idx, (join (tables m) Y S .start idx).toNat ≤ 2048 := fun idx => start_le m idx
  generalize join (tables m) Y S = A at h ⊢
  exact run_mono _ A _ _ (fun _ _ _ => ⟨trivial, trivial⟩) (run_script (memWhole s) (grid0.coords t) A h)

/-- The frame. -/
theorem frame (g : Dev nD → PrngReg) :
    θ_run (defs (F := F)) (onTc (τ := τ) (main (F := F))) ⟨m, fun _ => 0, g⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)) ∧ r.2.sem = fun _ => 0) :=
  (θ_run _ _ _).mono (fun _ h => ⟨fun c => args_kept m h.1 c, h.2⟩) (run_main m (step_true m) (fun _ _ _ _ _ => trivial) (fun _ => trivial) g)

end Cert.DiffAttn.KernelIdeal

end
-- ==== Proof.Tile.lean ====
/-
  What the kernel's tiles hold, element by element, over the extended reals.
-/
module

public import proofs.«01_k».proof.Proof.Body
public import Idealize.ShloMosaic.Lib.Pointwise

@[expose] public section

noncomputable section

namespace Cert.DiffAttn

open Idealize.ShloMosaic Idealize.ShloMosaic.Script
open Cert.KernelIdeal Cert.KernelIdeal.Facts₀ Cert.KernelIdeal.Facts

/-- The two halves of a row of 256 lanes hold the same 128. -/
theorem half {α : Type} (q : Fin 256) (f : Fin 128 → α) : (if h : q.val < 128 then f ⟨q.val, h⟩ else f ⟨q.val - 128, by omega⟩) = f ⟨q.val % 128, Nat.mod_lt _ (by decide)⟩ := by
  split
  · exact congrArg f (Fin.ext (by show q.val = q.val % 128; omega))
  · exact congrArg f (Fin.ext (by show q.val - 128 = q.val % 128; omega))

theorem half' {α : Type} (r : Fin 256) (f : Fin 256 → α) : (if _ : r.val < 128 then f r else f ⟨128 + (r.val - 128), by omega⟩) = f r := by
  split
  · rfl
  · exact congrArg f (Fin.ext (by show 128 + (r.val - 128) = r.val; omega))

theorem kTile_apply (x : Vec Ideal S1x1x1x160x256 .fp8e4m3) (r : Fin 256) (d : Fin 160) : kTile x (ix4 0 0 r d) = x (ix5 0 0 0 d r) := by
  unfold kTile; pointwise

theorem ksTile_apply (x : Vec Ideal S1x1x1x256 .f32) (r : Fin 256) (l : Fin 128) : ksTile x (ix4 0 0 r l) = x (ix4 0 0 0 r) := by
  unfold ksTile colHalf0 colHalf1; pointwise
  exact half' r (fun a => x (ix4 0 0 0 a))

theorem vTile_apply (x : Vec Ideal S1x1x320x256 .fp8e4m3) (e : Fin 320) (r : Fin 256) : vTile x (ix3 0 e r) = x (ix4 0 0 e r) := by
  unfold vTile; pointwise

variable (C : Cst Ideal)

theorem scoreTile_apply (kx : Vec Ideal S1x1x256x160 .fp8e4m3) (qx : Vec Ideal S1x1x1x160x256 .fp8e4m3) (sx : Vec Ideal S1x1x256x128 .f32) (y : Vec Ideal S1x1x1x256 .f32) (r q : Fin 256) :
    scoreTile kx qx sx (alphaRow C y) (ix2 r q) = (∑ d : Fin 160, kx (ix4 0 0 r d) * qx (ix5 0 0 0 d q) : EReal) * sx (ix4 0 0 r ⟨q.val % 128, Nat.mod_lt _ (by decide)⟩) * (y (ix4 0 0 0 q) * C.alpha) := by
  unfold scoreTile alphaRow; pointwise
  rw [half q (fun l => sx (ix4 0 0 r l))]

theorem headCap_apply (h : Vec Ideal S256x128 .f32) (r q : Fin 256) : headCap h (ix2 r q) = h (ix2 r ⟨q.val % 128, Nat.mod_lt _ (by decide)⟩) := by
  unfold headCap; pointwise
  exact half q (fun l => h (ix2 r l))

theorem fold8_apply (x : FVec Ideal S256x256 .f32) (s : Fin 8) (q : Fin 256) : fold8 x (ix2 s q) = (∑ a : Fin 32, x (ix2 ⟨a.val * 8 + s.val, by omega⟩ q) : EReal) := by
  unfold fold8; pointwise

theorem sel8_apply (seg : IVec S1x256 32) (l : BitVec 32) (x : FVec Ideal S8x256 .f32) (s : Fin 8) (q : Fin 256) : sel8 seg l x (ix2 s q) = Scalar.select (IntOp.cmpi .eq (seg (ix2 0 q)) l) (x (ix2 s q)) (0 : EReal) := by
  unfold sel8 sameSeg; pointwise

theorem zero8_apply (s : Fin 8) (q : Fin 256) : (zero8 : FVec Ideal S8x256 .f32) (ix2 s q) = (0 : EReal) := by
  unfold zero8; pointwise

theorem sumRow_apply (x : FVec Ideal S8x256 .f32) (q : Fin 256) : sumRow x (ix2 0 q) = (∑ s : Fin 8, x (ix2 s q) : EReal) := by
  unfold sumRow; pointwise

theorem recip_apply (x : FVec Ideal S1x256 .f32) (q : Fin 256) : recip x (ix2 0 q) = Ideal.div 1 (x (ix2 0 q)) := by
  unfold recip; pointwise

theorem lamRow_apply (x : FVec Ideal S1x256 .f32) (lam : Vec Ideal S1x1 .f32) (q : Fin 256) : lamRow x lam (ix2 0 q) = (x (ix2 0 q) * lam (ix2 0 0) : EReal) := by
  unfold lamRow; pointwise

theorem selRow_apply (seg : IVec S1x256 32) (l : BitVec 32) (x : FVec Ideal S1x256 .f32) (q : Fin 256) : selRow seg l x (ix2 0 q) = Scalar.select (IntOp.cmpi .eq (seg (ix2 0 q)) l) (x (ix2 0 q)) (0 : EReal) := by
  unfold selRow sameSeg; pointwise

theorem av_apply (vx : Vec Ideal S1x320x256 .bf16) (x0 x1 : Vec Ideal S1x256x256 .f32) (r0 r1 : FVec Ideal S1x256 .f32) (e : Fin 320) (q : Fin 256) :
    avTile vx (attTile x0 x1 r0 r1) (ix2 e q) = (∑ r : Fin 256, vx (ix3 0 e r) * (x0 (ix3 0 r q) * r0 (ix2 0 q) - x1 (ix3 0 r q) * r1 (ix2 0 q)) : EReal) := by
  unfold avTile attTile; pointwise

theorem normHalf_apply (z : FVec Ideal S320x128 .f32) (vsx : Vec Ideal S1x320x128 .f32) (g : Vec Ideal S320x128 .f32) (e : Fin 320) (l : Fin 128) :
    normHalf C z vsx g (ix2 e l) = (z (ix2 e l) * vsx (ix3 0 e l) * Ideal.rsqrt ((∑ x : Fin 320, z (ix2 x l) * vsx (ix3 0 x l) * (z (ix2 x l) * vsx (ix3 0 x l))) * C.invV + Ideal.ofBits FTy.f32 925353388#32) * g (ix2 e l) : EReal) := by
  unfold normHalf; pointwise

theorem outTile_apply (y : Vec Ideal S640x256 .bf16) (q : Fin 256) (r : Fin 640) : outTile y (ix3 0 q r) = y (ix2 r q) := by
  unfold outTile; pointwise

theorem colMax_apply (x : FVec Ideal S256x256 .f32) (q : Fin 256) : colMax x (ix2 0 q) = Finset.fold max (Ideal.ofBits FTy.f32 4286578688#32 : EReal) (fun r : Fin 256 => x (ix2 r q)) Finset.univ := by
  unfold colMax; pointwise

theorem colSum_apply (x : FVec Ideal S256x256 .f32) (q : Fin 256) : colSum x (ix2 0 q) = (∑ r : Fin 256, x (ix2 r q) : EReal) := by
  unfold colSum; pointwise

theorem below_apply (x : FVec Ideal S256x256 .f32) (t : FVec Ideal S1x256 .f32) (r q : Fin 256) : below x t (ix2 r q) = Ideal.exp2 (x (ix2 r q) - t (ix2 0 q) : EReal) := by
  unfold below; pointwise
  rfl

theorem slowTile_apply (s w iW : BitVec 32) (seg : IVec S1x256 32) (x : FVec Ideal S256x256 .f32) (hd : Vec Ideal S256x128 .f32) (ca : Vec Ideal S256x256 .f32) (l : BitVec 32) (r q : Fin 256) :
    slowTile C s w iW seg x hd ca l (ix2 r q) =
    Scalar.select (IntOp.cmpi .eq (Scalar.select (Scalar.cmpi .eq (tileS s w) iW) (seg (ix2 0 q)) l) (seg (ix2 0 q)))
      (Scalar.select (Scalar.cmpi .eq (tileS s w) iW)
        (min (Scalar.select (Scalar.cmpi .eq w 0#32) (min (x (ix2 r q)) (hd (ix2 r ⟨q.val % 128, Nat.mod_lt _ (by decide)⟩))) (x (ix2 r q)) : EReal) (ca (ix2 r q)))
        (Scalar.select (Scalar.cmpi .eq w 0#32) (min (x (ix2 r q)) (hd (ix2 r ⟨q.val % 128, Nat.mod_lt _ (by decide)⟩))) (x (ix2 r q)))) C.masked := by
  unfold slowTile headCap; pointwise
  rw [half q (fun l => hd (ix2 r l))]

theorem segRow_apply (x : Vec Ideal S1x1x256 .i32) (q : Fin 256) : segRow (F := Ideal) x (ix2 0 q) = x (ix3 0 0 q) := by
  unfold segRow; pointwise

theorem causal0_apply (y : IVec S1x256 32) (r : Fin 256) (l : Fin 128) : causal0 C y (ix2 r l) =
    Scalar.select (IntOp.andi (IntOp.cmpi .eq (y (ix2 0 r)) (y (ix2 0 ⟨l.val, by omega⟩))) (IntOp.cmpi .sle (BitVec.ofNat 32 r.val) (IntOp.addi (BitVec.ofNat 32 l.val) 0#32))) C.opened C.masked := by
  unfold causal0 capOf segCol keyIota laneIota; pointwise
  rw [half' r (fun a => y (ix2 0 a))]

theorem causal1_apply (y : IVec S1x256 32) (r : Fin 256) (l : Fin 128) : causal1 C y (ix2 r l) =
    Scalar.select (IntOp.andi (IntOp.cmpi .eq (y (ix2 0 r)) (y (ix2 0 ⟨128 + l.val, by omega⟩))) (IntOp.cmpi .sle (BitVec.ofNat 32 r.val) (IntOp.addi (BitVec.ofNat 32 l.val) 128#32))) C.opened C.masked := by
  unfold causal1 capOf segCol keyIota laneIota; pointwise
  rw [half' r (fun a => y (ix2 0 a))]

theorem headMask_apply (s : BitVec 32) (r : Fin 256) (l : Fin 128) : headMask C s (ix2 r l) = Scalar.select (IntOp.cmpi .sge (IntOp.addi (BitVec.ofNat 32 r.val) (Scalar.muli (firstW s) 256#32)) s) C.opened C.masked := by
  unfold headMask capOf keyIota; pointwise

theorem newLo_apply (lo : Vec Ideal S8x256 .f32) (t : FVec Ideal S1x256 .f32) (s : Fin 8) (q : Fin 256) : newLo lo t (ix2 s q) = (min (lo (ix2 s q)) (t (ix2 0 q)) : EReal) := by
  unfold newLo; pointwise

theorem newHi_apply (lo p : Vec Ideal S8x256 .f32) (t : FVec Ideal S1x256 .f32) (s : Fin 8) (q : Fin 256) : newHi lo p t (ix2 s q) = (max (lo (ix2 s q)) (max (p (ix2 s q)) (t (ix2 0 q))) : EReal) := by
  unfold newHi; pointwise

theorem lo_of_loOk (x : FVec Ideal S8x256 .f32) (h : loOk (shapeCast S1x8x256 x shapeCasts_S8x256_S1x8x256) = 1#1) (s : Fin 8) (q : Fin 256) :
    (Ideal.ofBits FTy.f32 562036736#32 : EReal) ≤ x (ix2 s q) := by
  have e : loOk (shapeCast S1x8x256 x shapeCasts_S8x256_S1x8x256) = BitVec.ofBool (decide ((Ideal.ofBits FTy.f32 562036736#32 : EReal) ≤
      Finset.fold min (Ideal.ofBits FTy.f32 2139095040#32) (fun p : Fin 8 × Fin 256 => x (ix2 p.1 p.2)) Finset.univ)) := by
    unfold loOk; pointwise
  rw [e] at h
  have h' : (Ideal.ofBits FTy.f32 562036736#32 : EReal) ≤ Finset.fold min (Ideal.ofBits FTy.f32 2139095040#32) (fun p : Fin 8 × Fin 256 => x (ix2 p.1 p.2)) Finset.univ := by
    by_contra hn; rw [decide_eq_false hn] at h; exact absurd h (by decide)
  exact ((Finset.le_fold_min _).1 h').2 (s, q) (Finset.mem_univ _)

theorem hi_of_hiOk (x : FVec Ideal S8x256 .f32) (h : hiOk (shapeCast S1x8x256 x shapeCasts_S8x256_S1x8x256) = 1#1) (s : Fin 8) (q : Fin 256) :
    (x (ix2 s q) : EReal) ≤ Ideal.ofBits FTy.f32 1904214016#32 := by
  have e : hiOk (shapeCast S1x8x256 x shapeCasts_S8x256_S1x8x256) = BitVec.ofBool (decide (Finset.fold max (Ideal.ofBits FTy.f32 4286578688#32) (fun p : Fin 8 × Fin 256 => x (ix2 p.1 p.2)) Finset.univ ≤
      (Ideal.ofBits FTy.f32 1904214016#32 : EReal))) := by
    unfold hiOk; pointwise
  rw [e] at h
  have h' : Finset.fold max (Ideal.ofBits FTy.f32 4286578688#32) (fun p : Fin 8 × Fin 256 => x (ix2 p.1 p.2)) Finset.univ ≤ (Ideal.ofBits FTy.f32 1904214016#32 : EReal) := by
    by_contra hn; rw [decide_eq_false hn] at h; exact absurd h (by decide)
  exact ((Finset.fold_max_le _).1 h').2 (s, q) (Finset.mem_univ _)

/-- Outside the range the tests say so. -/
theorem outOf_eq (l h : BitVec 1) (hn : ¬ outOf l h = 1#1) : l = 1#1 ∧ h = 1#1 := by
  revert l h; decide

theorem zeroAcc_apply (e : Fin 320) (q : Fin 256) : zeroAcc (F := Ideal) (ix2 e q) = (0 : EReal) := by
  unfold zeroAcc; pointwise

end Cert.DiffAttn

end
-- ==== Proof.Math.lean ====
/-
  The mathematics of the softmax over the extended reals: powers of two and of e, weights without and with the largest
  score taken off, and sums taken tile by tile.
-/
module

public import Idealize.ShloMosaic.PureOps.Ideal
public import Mathlib.Algebra.BigOperators.Intervals
public import Mathlib.Analysis.SpecialFunctions.Pow.Real

@[expose] public section

noncomputable section

namespace Cert.DiffAttn

open Idealize.ShloMosaic

/-- The factor from powers of e to powers of two. -/
def perLog : EReal := (((Real.log 2)⁻¹ : ℝ) : EReal)

theorem perLog_pos : (0 : ℝ) < (Real.log 2)⁻¹ := inv_pos.2 (Real.log_pos (by norm_num))

theorem exp2_mul_perLog (x : EReal) : Ideal.exp2 (x * perLog) = Ideal.exp x := by
  unfold perLog
  induction x using EReal.rec with
  | bot => rw [EReal.bot_mul_coe_of_pos perLog_pos]; rfl
  | top => rw [EReal.top_mul_coe_of_pos perLog_pos]; rfl
  | coe r =>
    rw [← EReal.coe_mul]
    show ((Real.rpow 2 (r * (Real.log 2)⁻¹) : ℝ) : EReal) = (Real.exp r : ℝ)
    congr 1
    show (2 : ℝ) ^ (r * (Real.log 2)⁻¹) = _
    have hl : Real.log 2 ≠ 0 := (Real.log_pos (by norm_num)).ne'
    rw [Real.rpow_def_of_pos (by norm_num)]
    congr 1
    field_simp

theorem sub_mul_perLog (x y : EReal) : (x - y) * perLog = x * perLog - y * perLog := by
  unfold perLog
  have hp := perLog_pos
  generalize (Real.log 2)⁻¹ = c at hp
  induction x using EReal.rec with
  | bot => rw [EReal.bot_sub, EReal.bot_mul_coe_of_pos hp, EReal.bot_sub]
  | top =>
    induction y using EReal.rec with
    | bot => rw [EReal.top_mul_coe_of_pos hp, EReal.bot_mul_coe_of_pos hp]; exact EReal.top_mul_coe_of_pos hp
    | top => rw [EReal.top_mul_coe_of_pos hp]; exact EReal.bot_mul_coe_of_pos hp
    | coe y => rw [EReal.top_sub_coe, EReal.top_mul_coe_of_pos hp, ← EReal.coe_mul, EReal.top_sub_coe]
  | coe x =>
    induction y using EReal.rec with
    | bot => rw [EReal.bot_mul_coe_of_pos hp, ← EReal.coe_mul, EReal.coe_sub_bot, EReal.coe_sub_bot, EReal.top_mul_coe_of_pos hp]
    | top => rw [EReal.top_mul_coe_of_pos hp, ← EReal.coe_mul, EReal.sub_top, EReal.sub_top, EReal.bot_mul_coe_of_pos hp]
    | coe y => norm_cast; ring

theorem sup_mul_perLog {ι : Type*} (s : Finset ι) (R : ι → EReal) : s.sup (fun k => R k * perLog) = s.sup R * perLog := by
  refine (Finset.comp_sup_eq_sup_comp_of_is_total (fun x : EReal => x * perLog) (fun x y h => ?_) ?_).symm
  · exact mul_le_mul_of_nonneg_right h (by unfold perLog; exact_mod_cast perLog_pos.le)
  · exact EReal.bot_mul_coe_of_pos perLog_pos

theorem exp2_nonneg (x : EReal) : 0 ≤ Ideal.exp2 x := by
  induction x using EReal.rec with
  | bot => exact le_refl _
  | top => exact le_top
  | coe r => show (0 : EReal) ≤ ((Real.rpow 2 r : ℝ) : EReal); exact_mod_cast Real.rpow_nonneg (by norm_num) r

theorem exp2_bot : Ideal.exp2 ⊥ = 0 := rfl

theorem sum_mul_of_nonneg {ι : Type*} (s : Finset ι) (f : ι → EReal) (hf : ∀ k, 0 ≤ f k) (g : EReal) : ∑ k ∈ s, f k * g = (∑ k ∈ s, f k) * g := by
  classical
  induction s using Finset.induction_on with
  | empty => simp
  | insert a s ha ih =>
    rw [Finset.sum_insert ha, Finset.sum_insert ha, ih, EReal.right_distrib_of_nonneg (hf a) (Finset.sum_nonneg fun k _ => hf k)]

/-- Weights whose total is neither zero nor infinite do not change when the largest score is taken off. -/
theorem weight_eq {ι : Type*} (s : Finset ι) (M : ι → EReal) (h0 : ∑ k ∈ s, Ideal.exp2 (M k) ≠ 0) (h1 : ∑ k ∈ s, Ideal.exp2 (M k) ≠ ⊤) (k : ι) (hk : k ∈ s) :
    Ideal.exp2 (M k) * Ideal.div 1 (∑ k ∈ s, Ideal.exp2 (M k)) = Ideal.exp2 (M k - s.sup M) * Ideal.div 1 (∑ k ∈ s, Ideal.exp2 (M k - s.sup M)) := by
  have hle : ∀ k ∈ s, Ideal.exp2 (M k) ≤ ∑ k ∈ s, Ideal.exp2 (M k) := fun k hk => Finset.single_le_sum (f := fun k => Ideal.exp2 (M k)) (fun k _ => exp2_nonneg _) hk
  have htop : ∀ k ∈ s, M k ≠ ⊤ := fun k hk h => h1 (top_le_iff.1 (by have := hle k hk; rwa [h] at this))
  obtain ⟨k0, hk0, hk0'⟩ := Finset.exists_ne_zero_of_sum_ne_zero h0
  have hbot : M k0 ≠ ⊥ := fun h => hk0' (by rw [h]; rfl)
  obtain ⟨u, hu⟩ : ∃ u : ℝ, s.sup M = u := by
    refine ⟨(s.sup M).toReal, (EReal.coe_toReal ?_ ?_).symm⟩
    · exact ne_of_lt ((Finset.sup_lt_iff (by exact bot_lt_top)).2 fun k hk => lt_top_iff_ne_top.2 (htop k hk))
    · exact fun h => hbot (le_bot_iff.1 (h ▸ Finset.le_sup (f := M) hk0))
  have hg : (0 : ℝ) < (2 : ℝ) ^ (-u) := Real.rpow_pos_of_pos (by norm_num) _
  have hs : ∀ k ∈ s, Ideal.exp2 (M k - s.sup M) = Ideal.exp2 (M k) * (((2 : ℝ) ^ (-u) : ℝ) : EReal) := by
    intro k hk
    have h := htop k hk
    rw [hu]
    generalize M k = x at h
    induction x using EReal.rec with
    | bot => rw [EReal.bot_sub]; show (0 : EReal) = 0 * _; rw [zero_mul]
    | top => exact absurd rfl h
    | coe r =>
      rw [← EReal.coe_sub]
      show (((2 : ℝ) ^ (r - u) : ℝ) : EReal) = (((2 : ℝ) ^ r : ℝ) : EReal) * _
      rw [← EReal.coe_mul, sub_eq_add_neg, Real.rpow_add (by norm_num)]
  rw [Finset.sum_congr rfl hs, sum_mul_of_nonneg s _ (fun k => exp2_nonneg _), hs k hk]
  have hb : ∑ k ∈ s, Ideal.exp2 (M k) ≠ ⊥ := ne_of_gt (lt_of_lt_of_le EReal.bot_lt_zero (Finset.sum_nonneg fun k _ => exp2_nonneg _))
  have hk1 : Ideal.exp2 (M k) ≠ ⊤ := fun h => h1 (top_le_iff.1 (h ▸ hle k hk))
  have hk2 : Ideal.exp2 (M k) ≠ ⊥ := ne_of_gt (lt_of_lt_of_le EReal.bot_lt_zero (exp2_nonneg _))
  generalize ∑ k ∈ s, Ideal.exp2 (M k) = T at *
  generalize Ideal.exp2 (M k) = e at *
  obtain ⟨t, rfl⟩ : ∃ t : ℝ, T = t := ⟨T.toReal, (EReal.coe_toReal h1 hb).symm⟩
  obtain ⟨e, rfl⟩ : ∃ t : ℝ, e = t := ⟨e.toReal, (EReal.coe_toReal hk1 hk2).symm⟩
  have ht : t ≠ 0 := fun h => h0 (by rw [h]; rfl)
  rw [← EReal.coe_mul t, Ideal.div_coe ht, Ideal.div_coe (mul_ne_zero ht hg.ne')]
  rw [one_mul, one_mul, ← EReal.coe_mul, ← EReal.coe_mul, ← EReal.coe_mul]
  congr 1
  field_simp

/-- A weight in powers of two of scores in that unit is the weight in powers of e. -/
theorem weight_exp {ι : Type*} (s : Finset ι) (R : ι → EReal) (k : ι) :
    Ideal.exp2 (R k * perLog - s.sup (fun k => R k * perLog)) * Ideal.div 1 (∑ k ∈ s, Ideal.exp2 (R k * perLog - s.sup (fun k => R k * perLog)))
      = Ideal.exp (R k - s.sup R) * Ideal.div 1 (∑ k ∈ s, Ideal.exp (R k - s.sup R)) := by
  simp only [sup_mul_perLog, ← sub_mul_perLog, exp2_mul_perLog]

/-! ### Tiles -/

theorem sum_tiles (g : ℕ → EReal) (f m : ℕ) : ∑ j ∈ Finset.range m, ∑ r : Fin 256, g (256 * (f + j) + r.val) = ∑ k ∈ Finset.Ico (256 * f) (256 * (f + m)), g k := by
  induction m with
  | zero => simp
  | succ m ih =>
    rw [Finset.sum_range_succ, ih, ← Finset.sum_Ico_consecutive g (m := 256 * f) (n := 256 * (f + m)) (k := 256 * (f + (m + 1))) (by omega) (by omega)]
    congr 1
    rw [Finset.sum_Ico_eq_sum_range, show 256 * (f + (m + 1)) - 256 * (f + m) = 256 by omega]
    exact (Finset.sum_range fun r => g (256 * (f + m) + r)).symm

/-- A sum over all keys is the sum over the tiles that hold all that is not zero. -/
theorem sum_tiles_all (g : ℕ → EReal) (f m n : ℕ) (hn : 256 * (f + m) ≤ n) (h : ∀ k, k < 256 * f ∨ 256 * (f + m) ≤ k → g k = 0) :
    ∑ j ∈ Finset.range m, ∑ r : Fin 256, g (256 * (f + j) + r.val) = ∑ k ∈ Finset.range n, g k := by
  rw [sum_tiles]
  refine Finset.sum_subset (fun k hk => ?_) fun k _ hk => h k ?_
  · rw [Finset.mem_Ico] at hk; rw [Finset.mem_range]; omega
  · rw [Finset.mem_Ico] at hk; omega

theorem sup_tiles_all (g : ℕ → EReal) (f m n : ℕ) (hn : 256 * (f + m) ≤ n) (h : ∀ k, k < 256 * f ∨ 256 * (f + m) ≤ k → g k = ⊥) :
    (Finset.range m).sup (fun j => (Finset.univ : Finset (Fin 256)).sup fun r => g (256 * (f + j) + r.val)) = (Finset.range n).sup g := by
  apply le_antisymm
  · refine Finset.sup_le fun j hj => Finset.sup_le fun r _ => Finset.le_sup (f := g) ?_
    rw [Finset.mem_range] at hj ⊢; have := r.isLt; omega
  · refine Finset.sup_le fun k hk => ?_
    by_cases hk' : k < 256 * f ∨ 256 * (f + m) ≤ k
    · rw [h k hk']; exact bot_le
    · rw [not_or, not_lt, not_le] at hk'
      have hj : k / 256 - f < m := by omega
      have e : k = 256 * (f + (k / 256 - f)) + (⟨k % 256, Nat.mod_lt _ (by decide)⟩ : Fin 256).val := by show k = 256 * (f + (k / 256 - f)) + k % 256; omega
      calc g k = g (256 * (f + (k / 256 - f)) + (⟨k % 256, Nat.mod_lt _ (by decide)⟩ : Fin 256).val) := congrArg g e
        _ ≤ (Finset.univ : Finset (Fin 256)).sup fun r => g (256 * (f + (k / 256 - f)) + r.val) := Finset.le_sup (f := fun r : Fin 256 => g (256 * (f + (k / 256 - f)) + r.val)) (Finset.mem_univ _)
        _ ≤ _ := Finset.le_sup (f := fun j => (Finset.univ : Finset (Fin 256)).sup fun r => g (256 * (f + j) + r.val)) (Finset.mem_range.2 hj)

/-- Eight sums of every eighth of 256 terms add up to the sum. -/
theorem sum_eighths (g : Fin 256 → EReal) : ∑ s : Fin 8, ∑ a : Fin 32, g ⟨a.val * 8 + s.val, by omega⟩ = ∑ r : Fin 256, g r := by
  rw [Finset.sum_comm, ← Finset.sum_product', Finset.univ_product_univ]
  refine Fintype.sum_equiv (finProdFinEquiv : Fin 32 × Fin 8 ≃ Fin 256) _ _ fun p => congrArg g (Fin.ext ?_)
  show p.1.val * 8 + p.2.val = p.2.val + 8 * p.1.val
  omega

end Cert.DiffAttn

end
-- ==== Proof.Data.lean ====
/-
  The numbers one point of the kernel's grid works with, the masks it applies to a tile's scores, and what its buffers
  hold of those numbers.
-/
module

public import proofs.«01_k».proof.Proof.Tile
public import proofs.«01_k».proof.Proof.Math

@[expose] public section

noncomputable section

namespace Cert.DiffAttn

open Idealize.ShloMosaic Idealize.ShloMosaic.Script
open Cert.KernelIdeal Cert.KernelIdeal.Facts₀ Cert.KernelIdeal.Facts

/-- One batch's keys, values, segments and the queries of tile `i`. Heads, maps and key positions are plain numbers. -/
structure Data where
  K : ℕ → ℕ → ℕ → Fin 160 → EReal
  KS : ℕ → ℕ → ℕ → EReal
  V : ℕ → Fin 320 → ℕ → EReal
  Q : ℕ → ℕ → Fin 160 → Fin 256 → EReal
  QS : ℕ → ℕ → Fin 256 → EReal
  SG : ℕ → BitVec 32
  VSC : ℕ → Fin 320 → EReal
  GA : Fin 320 → EReal
  lam : EReal
  alpha : EReal
  invV : EReal
  i : ℕ
  b : ℕ
  st : ℕ

namespace Data
variable (D : Data)

/-- The tile of the segments' start. -/
def f : ℕ := D.st / 256
/-- A scaled product of a key and a query. -/
def x (H c : ℕ) (q : Fin 256) (k : ℕ) : EReal := (∑ d : Fin 160, D.K H c k d * D.Q H c d q) * D.KS H c k * (D.QS H c q * D.alpha)
/-- The query sees the key. -/
def vis (q : Fin 256) (k : ℕ) : Prop := k ≤ 256 * D.i + q.val ∧ D.SG k = D.SG (256 * D.i + q.val)
instance (q : Fin 256) (k : ℕ) : Decidable (D.vis q k) := by unfold vis; infer_instance
/-- The masked score. -/
def M (H c : ℕ) (q : Fin 256) (k : ℕ) : EReal := if D.vis q k then D.x H c q k else ⊥
def E (H c : ℕ) (q : Fin 256) (k : ℕ) : EReal := Ideal.exp2 (D.M H c q k)
def T (H c : ℕ) (q : Fin 256) : EReal := ∑ k ∈ Finset.range 2048, D.E H c q k
/-- The weights as the fast way takes them. -/
def wf (H c : ℕ) (q : Fin 256) (k : ℕ) : EReal := D.E H c q k * Ideal.div 1 (D.T H c q)
def top (H c : ℕ) (q : Fin 256) : EReal := (Finset.range 2048).sup (D.M H c q)
def B (H c : ℕ) (q : Fin 256) (k : ℕ) : EReal := Ideal.exp2 (D.M H c q k - D.top H c q)
/-- The weights as the slow way takes them. -/
def ws (H c : ℕ) (q : Fin 256) (k : ℕ) : EReal := D.B H c q k * Ideal.div 1 (∑ k ∈ Finset.range 2048, D.B H c q k)
/-- A head's product with the values, under the weights `w`. -/
def av (w : ℕ → ℕ → Fin 256 → ℕ → EReal) (H : ℕ) (q : Fin 256) (e : Fin 320) : EReal :=
  ∑ k ∈ Finset.range 2048, D.V H e k * (w H 0 q k - w H 1 q k * D.lam)
/-- A head's output of its product with the values. -/
def norm (z : Fin 320 → EReal) (H : ℕ) (e : Fin 320) : EReal :=
  z e * D.VSC H e * Ideal.rsqrt ((∑ x : Fin 320, z x * D.VSC H x * (z x * D.VSC H x)) * D.invV + Ideal.ofBits FTy.f32 925353388#32) * D.GA e
def y (w : ℕ → ℕ → Fin 256 → ℕ → EReal) (H : ℕ) (q : Fin 256) (e : Fin 320) : EReal := D.norm (D.av w H q) H e

/-- The segments ascend, and `st` is the start of the segment of the tile's first query. -/
structure Doc : Prop where
  hi : D.i < 8
  hb : D.b < 24
  mono : ∀ k l, k ≤ l → l < 2048 → (D.SG k).toInt ≤ (D.SG l).toInt
  start : ∀ k, k < 2048 → (k < D.st ↔ (D.SG k).toInt < (D.SG (256 * D.i)).toInt)

variable {D} (h : D.Doc)
include h

theorem Doc.st_le : D.st ≤ 256 * D.i := by
  have := h.hi
  by_contra hn
  exact lt_irrefl _ ((h.start (256 * D.i) (by omega)).1 (by omega))

theorem Doc.f_le : D.f ≤ D.i := by have := h.st_le; unfold Data.f; omega

theorem Doc.st_lt {t : ℕ} (ht : D.f < t) : D.st ≤ 256 * t := by unfold Data.f at ht; omega

/-- A key that is seen does not come before the start. -/
theorem Doc.start_le_of_vis {q : Fin 256} {k : ℕ} (hv : D.vis q k) : D.st ≤ k := by
  have := h.hi; have := q.isLt
  by_contra hn
  have h1 := (h.start k (by have := hv.1; omega)).1 (by omega)
  have h2 := h.mono (256 * D.i) (256 * D.i + q.val) (by omega) (by omega)
  rw [hv.2] at h1; omega

theorem Doc.vis_of_same {t : ℕ} {q : Fin 256} {r : Fin 256} (_hf : D.f ≤ t) (ht : t < D.i) (hs : D.SG (256 * D.i + q.val) = D.SG (256 * t + 255)) :
    D.vis q (256 * t + r.val) ↔ D.st ≤ 256 * t + r.val := by
  have := h.hi; have := q.isLt; have := r.isLt
  refine ⟨fun hv => h.start_le_of_vis hv, fun hk => ⟨by omega, ?_⟩⟩
  have h1 : ¬ (D.SG (256 * t + r.val)).toInt < (D.SG (256 * D.i)).toInt := fun hl => by have := (h.start _ (by omega)).2 hl; omega
  have h2 := h.mono (256 * t + r.val) (256 * t + 255) (by omega) (by omega)
  have h3 := h.mono (256 * t + 255) (256 * D.i) (by omega) (by omega)
  have h4 := h.mono (256 * D.i) (256 * D.i + q.val) (by omega) (by omega)
  refine BitVec.eq_of_toInt_eq ?_
  rw [hs] at h4 ⊢; omega

theorem Doc.not_vis_of_other {t : ℕ} {q : Fin 256} {r : Fin 256} (ht : t < D.i) (hs : D.SG (256 * D.i + q.val) ≠ D.SG (256 * t + 255)) : ¬ D.vis q (256 * t + r.val) := by
  have := h.hi; have := q.isLt; have := r.isLt
  intro hv
  have h2 := h.mono (256 * t + r.val) (256 * t + 255) (by omega) (by omega)
  have h3 := h.mono (256 * t + 255) (256 * D.i + q.val) (by omega) (by omega)
  rw [hv.2] at h2
  exact hs (BitVec.eq_of_toInt_eq (by omega))

theorem Doc.not_vis_outside {q : Fin 256} {k n : ℕ} (hn : D.f + n = D.i) (hk : k < 256 * D.f ∨ 256 * (D.f + (n + 1)) ≤ k) : ¬ D.vis q k := by
  intro hv
  have h1 := h.start_le_of_vis hv
  have := hv.1; have := q.isLt
  rcases hk with hk | hk
  · unfold Data.f at hk; omega
  · omega

theorem Doc.E_outside {H c : ℕ} {q : Fin 256} {k n : ℕ} (hn : D.f + n = D.i) (hk : k < 256 * D.f ∨ 256 * (D.f + (n + 1)) ≤ k) : D.E H c q k = 0 := by
  unfold E M; rw [if_neg (h.not_vis_outside hn hk)]; rfl

omit h in
theorem E_eq_zero {H c : ℕ} {q : Fin 256} {k : ℕ} (hv : ¬ D.vis q k) : D.E H c q k = 0 := by
  unfold E M; rw [if_neg hv]; rfl

theorem Doc.total {H c : ℕ} {q : Fin 256} {n : ℕ} (hn : D.f + n = D.i) :
    ∑ j ∈ Finset.range (n + 1), ∑ r : Fin 256, D.E H c q (256 * (D.f + j) + r.val) = D.T H c q :=
  sum_tiles_all (D.E H c q) D.f (n + 1) 2048 (by have := h.hi; omega) fun _ hk => h.E_outside hn hk

theorem Doc.total8 {H c : ℕ} {q : Fin 256} {n : ℕ} (hn : D.f + n = D.i) :
    ∑ s : Fin 8, ∑ j ∈ Finset.range (n + 1), ∑ a : Fin 32, D.E H c q (256 * (D.f + j) + (a.val * 8 + s.val)) = D.T H c q := by
  rw [← h.total hn, Finset.sum_comm]
  exact Finset.sum_congr rfl fun j _ => sum_eighths fun r => D.E H c q (256 * (D.f + j) + r.val)

omit h in
theorem wf_eq_zero {H c : ℕ} {q : Fin 256} {k : ℕ} (hv : ¬ D.vis q k) : D.wf H c q k = 0 := by
  unfold wf; rw [E_eq_zero hv, zero_mul]

omit h in
theorem B_eq_zero {H c : ℕ} {q : Fin 256} {k : ℕ} (hv : ¬ D.vis q k) : D.B H c q k = 0 := by
  unfold B M; rw [if_neg hv, EReal.bot_sub]; rfl

omit h in
theorem ws_eq_zero {H c : ℕ} {q : Fin 256} {k : ℕ} (hv : ¬ D.vis q k) : D.ws H c q k = 0 := by
  unfold ws; rw [B_eq_zero hv, zero_mul]

theorem Doc.av_eq (w : ℕ → ℕ → Fin 256 → ℕ → EReal) (hw : ∀ H c q k, ¬ D.vis q k → w H c q k = 0) {H : ℕ} {q : Fin 256} {e : Fin 320} {n : ℕ} (hn : D.f + n = D.i) :
    ∑ j ∈ Finset.range (n + 1), ∑ r : Fin 256, D.V H e (256 * (D.f + j) + r.val) * (w H 0 q (256 * (D.f + j) + r.val) - w H 1 q (256 * (D.f + j) + r.val) * D.lam) = D.av w H q e :=
  sum_tiles_all (fun k => D.V H e k * (w H 0 q k - w H 1 q k * D.lam)) D.f (n + 1) 2048 (by have := h.hi; omega) fun k hk => by
    have hv := h.not_vis_outside (q := q) hn hk
    show D.V H e k * (w H 0 q k - w H 1 q k * D.lam) = 0
    rw [hw _ _ _ _ hv, hw _ _ _ _ hv, zero_mul, sub_zero, mul_zero]

theorem Doc.top_eq {H c : ℕ} {q : Fin 256} {n : ℕ} (hn : D.f + n = D.i) :
    (Finset.range (n + 1)).sup (fun j => (Finset.univ : Finset (Fin 256)).sup fun r => D.M H c q (256 * (D.f + j) + r.val)) = D.top H c q :=
  sup_tiles_all (D.M H c q) D.f (n + 1) 2048 (by have := h.hi; omega) fun k hk => if_neg (h.not_vis_outside hn hk)

theorem Doc.totalB {H c : ℕ} {q : Fin 256} {n : ℕ} (hn : D.f + n = D.i) :
    ∑ j ∈ Finset.range (n + 1), ∑ r : Fin 256, D.B H c q (256 * (D.f + j) + r.val) = ∑ k ∈ Finset.range 2048, D.B H c q k :=
  sum_tiles_all (D.B H c q) D.f (n + 1) 2048 (by have := h.hi; omega) fun _ hk => B_eq_zero (h.not_vis_outside hn hk)

omit h in
/-- In the safe range the two ways' weights are the same. -/
theorem ws_eq_wf {H c : ℕ} {q : Fin 256} (h0 : D.T H c q ≠ 0) (h1 : D.T H c q ≠ ⊤) (k : ℕ) (hk : k < 2048) : D.wf H c q k = D.ws H c q k :=
  weight_eq (Finset.range 2048) (D.M H c q) h0 h1 k (Finset.mem_range.2 hk)

omit h in
theorem y_congr {w w' : ℕ → ℕ → Fin 256 → ℕ → EReal} {H : ℕ} {q : Fin 256} (hw : ∀ c, c < 2 → ∀ k, k < 2048 → w H c q k = w' H c q k) (e : Fin 320) : D.y w H q e = D.y w' H q e := by
  have : D.av w H q = D.av w' H q := funext fun e => Finset.sum_congr rfl fun k hk => by
    rw [hw 0 (by decide) k (Finset.mem_range.1 hk), hw 1 (by decide) k (Finset.mem_range.1 hk)]
  unfold y; rw [this]

end Data

/-! ### Buffers -/

/-- Everything but the named buffers is as before. -/
def Chg (bs : List Nm) (S S' : St names (Elt Ideal)) : Prop := ∀ b, b ∉ bs → S' b = S b

theorem Chg.trans {bs cs ds : List Nm} {S S' S'' : St names (Elt Ideal)} (h : Chg bs S S') (h' : Chg cs S' S'') (hb : ∀ b, b ∈ bs → b ∈ ds) (hc : ∀ b, b ∈ cs → b ∈ ds) : Chg ds S S'' :=
  fun b hn => (h' b fun hm => hn (hc b hm)).trans (h b fun hm => hn (hb b hm))

theorem Chg.update (b : Nm) (S : St names (Elt Ideal)) (x : (names.shape b).Idx → Elt Ideal (names.elt b)) : Chg [b] S (Function.update S b x) :=
  fun b' hn => Function.update_of_ne (fun e => hn (by rw [e]; exact List.mem_singleton.2 rfl)) _ _

/-- The buffers that hold the point's numbers. -/
def goodNames : List Nm := [.kt, .ksr, .v16, .q, .qs, .k, .ks, .v, .vs, .gain, .last, .causal, .head]

/-- The buffers hold the point's numbers; of this tile's keys and values, those of the heads below `hd`. -/
structure Good (D : Data) (hd : ℕ) (S : St names (Elt Ideal)) : Prop where
  kt : ∀ (h : Fin 6) (c : Fin 2) (r : Fin 2048) (d : Fin 160), r.val < 256 * D.i ∨ (h.val < hd ∧ r.val < 256 * (D.i + 1)) → (S .kt (ix4 h c r d) : EReal) = D.K h.val c.val r.val d
  ksr : ∀ (h : Fin 6) (c : Fin 2) (r : Fin 2048) (l : Fin 128), r.val < 256 * D.i ∨ (h.val < hd ∧ r.val < 256 * (D.i + 1)) → (S .ksr (ix4 h c r l) : EReal) = D.KS h.val c.val r.val
  v16 : ∀ (h : Fin 6) (e : Fin 320) (r : Fin 2048), r.val < 256 * D.i ∨ (h.val < hd ∧ r.val < 256 * (D.i + 1)) → (S .v16 (ix3 h e r) : EReal) = D.V h.val e r.val
  q : ∀ (h : Fin 6) (c : Fin 2) (d : Fin 160) (q : Fin 256), (S .q (ix5 0 h c d q) : EReal) = D.Q h.val c.val d q
  qs : ∀ (h : Fin 6) (c : Fin 2) (q : Fin 256), (S .qs (ix4 0 h c q) : EReal) = D.QS h.val c.val q
  k : ∀ (h : Fin 6) (c : Fin 2) (d : Fin 160) (r : Fin 256), (S .k (ix5 0 h c d r) : EReal) = D.K h.val c.val (256 * D.i + r.val) d
  ks : ∀ (h : Fin 6) (c : Fin 2) (r : Fin 256), (S .ks (ix4 0 h c r) : EReal) = D.KS h.val c.val (256 * D.i + r.val)
  v : ∀ (h : Fin 6) (e : Fin 320) (r : Fin 256), (S .v (ix4 0 h e r) : EReal) = D.V h.val e (256 * D.i + r.val)
  vs : ∀ (h : Fin 6) (e : Fin 320) (l : Fin 128), (S .vs (ix3 h e l) : EReal) = D.VSC h.val e
  gain : ∀ (e : Fin 320) (l : Fin 128), (S .gain (ix2 e l) : EReal) = D.GA e
  last : ∀ (b : Fin 24) (t : Fin 8), b.val = D.b → S .last (ix2 b t) = D.SG (256 * t.val + 255)
  causal : ∀ r q : Fin 256, (S .causal (ix2 r q) : EReal) = if D.SG (256 * D.i + r.val) = D.SG (256 * D.i + q.val) ∧ r.val ≤ q.val then ⊤ else ⊥
  head : ∀ (r : Fin 256) (l : Fin 128), (S .head (ix2 r l) : EReal) = if D.st ≤ 256 * D.f + r.val then ⊤ else ⊥

theorem Good.chg {D : Data} {hd : ℕ} {S S' : St names (Elt Ideal)} {bs : List Nm} (g : Good D hd S) (h : Chg bs S S') (hb : ∀ b, b ∈ goodNames → b ∉ bs) : Good D hd S' := by
  have e : ∀ b, b ∈ goodNames → S' b = S b := fun b hm => h b (hb b hm)
  constructor
  · rw [e .kt (by decide)]; exact g.kt
  · rw [e .ksr (by decide)]; exact g.ksr
  · rw [e .v16 (by decide)]; exact g.v16
  · rw [e .q (by decide)]; exact g.q
  · rw [e .qs (by decide)]; exact g.qs
  · rw [e .k (by decide)]; exact g.k
  · rw [e .ks (by decide)]; exact g.ks
  · rw [e .v (by decide)]; exact g.v
  · rw [e .vs (by decide)]; exact g.vs
  · rw [e .gain (by decide)]; exact g.gain
  · rw [e .last (by decide)]; exact g.last
  · rw [e .causal (by decide)]; exact g.causal
  · rw [e .head (by decide)]; exact g.head

/-! ### Windows -/

theorem win_q {α : Type} (x : S1x6x2x160x256.Idx → α) (H c : ℕ) (hH : H < 6) (hc : c < 2) (d : Fin 160) (q : Fin 256) :
    VecWindow.window x ![0, H, c, 0, 0] S1x1x1x160x256.size (inb_q H c hH hc) (ix5 0 0 0 d q) = x (ix5 0 ⟨H, hH⟩ ⟨c, hc⟩ d q) := by
  refine congrArg x (funext fun a => Fin.ext ?_)
  fin_cases a <;> simp [Rect.unit, Rect.emb, ix5]
theorem win_qs {α : Type} (x : S1x6x2x256.Idx → α) (H c : ℕ) (hH : H < 6) (hc : c < 2) (q : Fin 256) :
    VecWindow.window x ![0, H, c, 0] S1x1x1x256.size (inb_qs H c hH hc) (ix4 0 0 0 q) = x (ix4 0 ⟨H, hH⟩ ⟨c, hc⟩ q) := by
  refine congrArg x (funext fun a => Fin.ext ?_)
  fin_cases a <;> simp [Rect.unit, Rect.emb, ix4]
theorem win_v {α : Type} (x : S1x6x320x256.Idx → α) (H : ℕ) (hH : H < 6) (e : Fin 320) (q : Fin 256) :
    VecWindow.window x ![0, H, 0, 0] S1x1x320x256.size (inb_v H hH) (ix4 0 0 e q) = x (ix4 0 ⟨H, hH⟩ e q) := by
  refine congrArg x (funext fun a => Fin.ext ?_)
  fin_cases a <;> simp [Rect.unit, Rect.emb, ix4]
theorem win_vs {α : Type} (x : S6x320x128.Idx → α) (H : ℕ) (hH : H < 6) (e : Fin 320) (l : Fin 128) :
    VecWindow.window x ![H, 0, 0] S1x320x128.size (inb_vs H hH) (ix3 0 e l) = x (ix3 ⟨H, hH⟩ e l) := by
  refine congrArg x (funext fun a => Fin.ext ?_)
  fin_cases a <;> simp [Rect.unit, Rect.emb, ix3]
theorem win_kt {α : Type} (x : S6x2x2048x160.Idx → α) (H c r0 : ℕ) (hH : H < 6) (hc : c < 2) (hr : r0 + 256 ≤ 2048) (r : Fin 256) (d : Fin 160) :
    VecWindow.window x ![H, c, r0, 0] S1x1x256x160.size (inb_kt H c r0 hH hc hr) (ix4 0 0 r d) = x (ix4 ⟨H, hH⟩ ⟨c, hc⟩ ⟨r0 + r.val, by omega⟩ d) := by
  refine congrArg x (funext fun a => Fin.ext ?_)
  fin_cases a <;> simp [Rect.unit, Rect.emb, ix4]
theorem win_ksr {α : Type} (x : S6x2x2048x128.Idx → α) (H c r0 : ℕ) (hH : H < 6) (hc : c < 2) (hr : r0 + 256 ≤ 2048) (r : Fin 256) (d : Fin 128) :
    VecWindow.window x ![H, c, r0, 0] S1x1x256x128.size (inb_ksr H c r0 hH hc hr) (ix4 0 0 r d) = x (ix4 ⟨H, hH⟩ ⟨c, hc⟩ ⟨r0 + r.val, by omega⟩ d) := by
  refine congrArg x (funext fun a => Fin.ext ?_)
  fin_cases a <;> simp [Rect.unit, Rect.emb, ix4]
theorem win_v16 {α : Type} (x : S6x320x2048.Idx → α) (H r0 : ℕ) (hH : H < 6) (hr : r0 + 256 ≤ 2048) (e : Fin 320) (r : Fin 256) :
    VecWindow.window x ![H, 0, r0] S1x320x256.size (inb_v16 H r0 hH hr) (ix3 0 e r) = x (ix3 ⟨H, hH⟩ e ⟨r0 + r.val, by omega⟩) := by
  refine congrArg x (funext fun a => Fin.ext ?_)
  fin_cases a <;> simp [Rect.unit, Rect.emb, ix3]
theorem win_p {α : Type} (x : S2x2048x256.Idx → α) (c r0 : ℕ) (hc : c < 2) (hr : r0 + 256 ≤ 2048) (r q : Fin 256) :
    VecWindow.window x ![c, r0, 0] S1x256x256.size (inb_p c r0 hc hr) (ix3 0 r q) = x (ix3 ⟨c, hc⟩ ⟨r0 + r.val, by omega⟩ q) := by
  refine congrArg x (funext fun a => Fin.ext ?_)
  fin_cases a <;> simp [Rect.unit, Rect.emb, ix3]
theorem win_tab {α : Type} (x : S24x8.Idx → α) (b t : ℕ) (hb : b < 24) (ht : t < 8) (y : S1x1.Idx) :
    VecWindow.window x ![b, t] S1x1.size (inb_tab b t hb ht) y = x (ix2 ⟨b, hb⟩ ⟨t, ht⟩) := by
  refine congrArg x (funext fun a => Fin.ext ?_)
  have h0 : (y 0).val < 1 := (y 0).isLt
  have h1 : (y 1).val < 1 := (y 1).isLt
  fin_cases a
  · show b + 1 * (y 0).val = b; omega
  · show t + 1 * (y 1).val = t; omega
theorem win_yt {α : Type} (x : S640x256.Idx → α) (r s : ℕ) (hr : r + 320 ≤ 640) (hs : s + 128 ≤ 256) (e : Fin 320) (l : Fin 128) :
    VecWindow.window x ![r, s] S320x128.size (inb_yt r s hr hs) (ix2 e l) = x (ix2 ⟨r + e.val, by omega⟩ ⟨s + l.val, by omega⟩) := by
  refine congrArg x (funext fun a => Fin.ext ?_)
  fin_cases a <;> simp [Rect.unit, Rect.emb, ix2]
theorem win_out {α : Type} (x : S1x256x1920.Idx → α) (r : ℕ) (hr : r + 640 ≤ 1920) (q : Fin 256) (e : Fin 640) :
    VecWindow.window x ![0, 0, r] S1x256x640.size (inb_out r hr) (ix3 0 q e) = x (ix3 0 q ⟨r + e.val, by omega⟩) := by
  refine congrArg x (funext fun a => Fin.ext ?_)
  fin_cases a <;> simp [Rect.unit, Rect.emb, ix3]
/-- The window of everything. -/
theorem win_all {α : Type} {s : Shape} (x : s.Idx → α) (off : Fin s.rank → ℕ) (inb : ∀ a, off a + s.size a ≤ s.size a) (y : s.Idx) :
    VecWindow.window x off s.size inb y = x y := by
  refine congrArg x (funext fun a => Fin.ext ?_)
  show off a + 1 * (y a).val = _
  have := inb a; omega
theorem put_all {α : Type} {s : Shape} (x : s.Idx → α) (off : Fin s.rank → ℕ) (inb : ∀ a, off a + s.size a ≤ s.size a) (w : s.Idx → α) : VecWindow.put x off s.size w = w := by
  funext y
  exact (win_all _ off inb y).symm.trans (congrFun (VecWindow.window_put_same x off s.size inb w) y)

/-- Outside the window a put changes nothing. -/
theorem put_out {α : Type} {s : Shape} (x : s.Idx → α) (off size : Fin s.rank → ℕ) (w : ((a : Fin s.rank) → Fin (size a)) → α) (y : s.Idx) (a : Fin s.rank)
    (h : (y a).val < off a ∨ off a + size a ≤ (y a).val) : VecWindow.put x off size w y = x y :=
  dif_neg fun hn => by have := hn a; omega

end Cert.DiffAttn

end
-- ==== Proof.FastRun.lean ====
/-
  What the fast way of the kernel's body leaves: the weights' totals between the bounds it keeps, and every head's output
  under the weights as the fast way takes them.
-/
module

public import proofs.«01_k».proof.Proof.Data
public import proofs.«01_k».proof.Proof.Safe

@[expose] public section

noncomputable section

namespace Cert.DiffAttn

open Idealize.ShloMosaic Idealize.ShloMosaic.Script
open Cert.KernelIdeal Cert.KernelIdeal.Facts₀ Cert.KernelIdeal.Facts

theorem select_eq {α : Type} (a b : BitVec 32) (x y : α) : Scalar.select (IntOp.cmpi .eq a b) x y = if a = b then x else y := by
  show (if BitVec.ofBool (a == b) = 1#1 then x else y) = _
  by_cases h : a = b
  · rw [if_pos h, h, beq_self_eq_true]; rfl
  · rw [if_neg h, beq_eq_false_iff_ne.mpr h]; rfl

theorem asP_apply (x : FVec Ideal S256x256 .f32) (r q : Fin 256) : asP x (ix3 0 r q) = x (ix2 r q) := by
  unfold asP; pointwise
theorem half0_apply (z : FVec Ideal S320x256 .f32) (e : Fin 320) (l : Fin 128) :
    extractStridedSlice S320x128 ![0, 0] z slices_S320x256_o0_0_S320x128 (ix2 e l) = z (ix2 e ⟨l.val, by omega⟩) := by pointwise
theorem half1_apply (z : FVec Ideal S320x256 .f32) (e : Fin 320) (l : Fin 128) :
    extractStridedSlice S320x128 ![0, 128] z slices_S320x256_o0_128_S320x128 (ix2 e l) = z (ix2 e ⟨128 + l.val, by omega⟩) := by pointwise

theorem min_cap (x : EReal) (P : Prop) [Decidable P] : min x (if P then ⊤ else ⊥) = if P then x else ⊥ := by
  by_cases h : P
  · rw [if_pos h, if_pos h, min_top_right]
  · rw [if_neg h, if_neg h, min_bot_right]

/-- A buffer of exponentials. -/
def Pb (o : Bool) (S : St names (Elt Ideal)) : S2x2048x256.Idx → EReal :=
  match o with
  | false => S .p0
  | true => S .p1

theorem Pb_chg {o : Bool} {S S' : St names (Elt Ideal)} {bs : List Nm} (h : Chg bs S S') (hb : pOf o ∉ bs) : Pb o S' = Pb o S := by
  cases o
  · exact h .p0 hb
  · exact h .p1 hb

variable {sig : RefSig} {M : Mems names sig .tc} (W : ∀ b : Nm, (M b).IsWhole) {α : Type} {Q : α → St names (Elt Ideal) → Prop}

theorem run_prepMap (H c here : ℕ) (hH : H < 6) (hc : c < 2) (hr : here + 256 ≤ 2048) (hd : 256 ∣ here) {k : Scr (Elt Ideal) M α} {S : St names (Elt Ideal)}
    (hk : ∀ S', Chg [.kt, .ksr] S S' →
      (∀ (h : Fin 6) (c' : Fin 2) (r' : Fin 2048) (r : Fin 256) (d : Fin 160), h.val = H → c'.val = c → r'.val = here + r.val → S' .kt (ix4 h c' r' d) = S .k (ix5 0 h c' d r)) →
      (∀ (h : Fin 6) (c' : Fin 2) (r' : Fin 2048) (d : Fin 160), h.val ≠ H ∨ c'.val ≠ c ∨ r'.val < here ∨ here + 256 ≤ r'.val → S' .kt (ix4 h c' r' d) = S .kt (ix4 h c' r' d)) →
      (∀ (h : Fin 6) (c' : Fin 2) (r' : Fin 2048) (r : Fin 256) (d : Fin 128), h.val = H → c'.val = c → r'.val = here + r.val → S' .ksr (ix4 h c' r' d) = S .ks (ix4 0 h c' r)) →
      (∀ (h : Fin 6) (c' : Fin 2) (r' : Fin 2048) (d : Fin 128), h.val ≠ H ∨ c'.val ≠ c ∨ r'.val < here ∨ here + 256 ≤ r'.val → S' .ksr (ix4 h c' r' d) = S .ksr (ix4 h c' r' d)) →
      run k S' Q) :
    run (prepMap W H c here hH hc hr hd k) S Q := by
  refine ⟨rfl, rfl, hk _ ((Chg.update _ _ _).trans (Chg.update _ _ _) (by decide) (by decide)) ?_ ?_ ?_ ?_⟩
  · rintro ⟨_, _⟩ ⟨_, _⟩ ⟨_, _⟩ r d rfl rfl rfl
    rw [Function.update_of_ne (by decide), Function.update_self]
    refine (win_kt _ _ _ here hH hc hr r d).symm.trans ((congrFun (VecWindow.window_put_same _ _ _ _ _) _).trans ?_)
    exact (kTile_apply _ r d).trans (win_q (S .k) _ _ hH hc d r)
  · intro h c' r' d hn
    rw [Function.update_of_ne (by decide), Function.update_self]
    rcases hn with hn | hn | hn
    · exact put_out _ _ _ _ _ (0 : Fin 4) (by show h.val < H ∨ H + 1 ≤ h.val; omega)
    · exact put_out _ _ _ _ _ (1 : Fin 4) (by show c'.val < c ∨ c + 1 ≤ c'.val; omega)
    · exact put_out _ _ _ _ _ (2 : Fin 4) hn
  · rintro ⟨_, _⟩ ⟨_, _⟩ ⟨_, _⟩ r d rfl rfl rfl
    rw [Function.update_self]
    refine (win_ksr _ _ _ here hH hc hr r d).symm.trans ((congrFun (VecWindow.window_put_same _ _ _ _ _) _).trans ?_)
    exact (ksTile_apply _ r d).trans (win_qs (S .ks) _ _ hH hc r)
  · intro h c' r' d hn
    rw [Function.update_self]
    rcases hn with hn | hn | hn
    · exact put_out _ _ _ _ _ (0 : Fin 4) (by show h.val < H ∨ H + 1 ≤ h.val; omega)
    · exact put_out _ _ _ _ _ (1 : Fin 4) (by show c'.val < c ∨ c + 1 ≤ c'.val; omega)
    · exact put_out _ _ _ _ _ (2 : Fin 4) hn

variable {D : Data}

theorem Good.rekey {hd hd' : ℕ} {S S' : St names (Elt Ideal)} (g : Good D hd S) (h : Chg [.kt, .ksr, .v16] S S')
    (kt : ∀ (h : Fin 6) (c : Fin 2) (r : Fin 2048) (d : Fin 160), r.val < 256 * D.i ∨ (h.val < hd' ∧ r.val < 256 * (D.i + 1)) → (S' .kt (ix4 h c r d) : EReal) = D.K h.val c.val r.val d)
    (ksr : ∀ (h : Fin 6) (c : Fin 2) (r : Fin 2048) (l : Fin 128), r.val < 256 * D.i ∨ (h.val < hd' ∧ r.val < 256 * (D.i + 1)) → (S' .ksr (ix4 h c r l) : EReal) = D.KS h.val c.val r.val)
    (v16 : ∀ (h : Fin 6) (e : Fin 320) (r : Fin 2048), r.val < 256 * D.i ∨ (h.val < hd' ∧ r.val < 256 * (D.i + 1)) → (S' .v16 (ix3 h e r) : EReal) = D.V h.val e r.val) : Good D hd' S' where
  kt := kt
  ksr := ksr
  v16 := v16
  q := by rw [h .q (by decide)]; exact g.q
  qs := by rw [h .qs (by decide)]; exact g.qs
  k := by rw [h .k (by decide)]; exact g.k
  ks := by rw [h .ks (by decide)]; exact g.ks
  v := by rw [h .v (by decide)]; exact g.v
  vs := by rw [h .vs (by decide)]; exact g.vs
  gain := by rw [h .gain (by decide)]; exact g.gain
  last := by rw [h .last (by decide)]; exact g.last
  causal := by rw [h .causal (by decide)]; exact g.causal
  head := by rw [h .head (by decide)]; exact g.head

theorem run_prep (H here : ℕ) (hH : H < 6) (hr : here + 256 ≤ 2048) (hd : 256 ∣ here) (hh : here = 256 * D.i) {k : Scr (Elt Ideal) M α} {S : St names (Elt Ideal)} (g : Good D H S)
    (hk : ∀ S', Chg [.kt, .ksr, .v16] S S' → Good D (H + 1) S' → run k S' Q) : run (prep W H here hH hr hd k) S Q := by
  refine run_prepMap W H 0 here hH _ hr hd fun S1 c1 a1 a2 a3 a4 => run_prepMap W H 1 here hH _ hr hd fun S2 c2 b1 b2 b3 b4 => ?_
  have hcc : Chg [.kt, .ksr] S S2 := c1.trans c2 (by decide) (by decide)
  refine ⟨rfl, ?_⟩
  have hC : ∀ x, Chg [.kt, .ksr, .v16] S (Function.update S2 .v16 x) := fun x => hcc.trans (Chg.update _ _ _) (by decide) (by decide)
  refine hk _ (hC _) (g.rekey (hC _) ?_ ?_ ?_)
  · intro h c r d hc
    rw [Function.update_of_ne (by decide)]
    by_cases hn : h.val = H ∧ here ≤ r.val ∧ r.val < here + 256
    · obtain ⟨h1, h2, h3⟩ := hn
      have e : r.val = here + (⟨r.val - here, by omega⟩ : Fin 256).val := by show r.val = here + (r.val - here); omega
      by_cases hc0 : c.val = 0
      · rw [b2 h c r d (by omega), a1 h c r _ d h1 hc0 e]
        refine (g.k h c d _).trans ?_
        rw [← hh, ← e]
      · rw [b1 h c r _ d h1 (by omega) e, c1 .k (by decide)]
        refine (g.k h c d _).trans ?_
        rw [← hh, ← e]
    · rw [b2 h c r d (by omega), a2 h c r d (by omega)]
      exact g.kt h c r d (by omega)
  · intro h c r d hc
    rw [Function.update_of_ne (by decide)]
    by_cases hn : h.val = H ∧ here ≤ r.val ∧ r.val < here + 256
    · obtain ⟨h1, h2, h3⟩ := hn
      have e : r.val = here + (⟨r.val - here, by omega⟩ : Fin 256).val := by show r.val = here + (r.val - here); omega
      by_cases hc0 : c.val = 0
      · rw [b4 h c r d (by omega), a3 h c r _ d h1 hc0 e]
        refine (g.ks h c _).trans ?_
        rw [← hh, ← e]
      · rw [b3 h c r _ d h1 (by omega) e, c1 .ks (by decide)]
        refine (g.ks h c _).trans ?_
        rw [← hh, ← e]
    · rw [b4 h c r d (by omega), a4 h c r d (by omega)]
      exact g.ksr h c r d (by omega)
  · intro h e r hc
    rw [Function.update_self]
    by_cases hn : h.val = H ∧ here ≤ r.val ∧ r.val < here + 256
    · obtain ⟨⟨_, _⟩, h1⟩ : ∃ x : {x : ℕ // x < 6}, h = ⟨x.1, x.2⟩ := ⟨⟨h.val, h.isLt⟩, rfl⟩
      subst h1
      obtain ⟨h1, h2, h3⟩ := hn
      simp only at h1
      subst h1
      have er : r = ⟨here + (⟨r.val - here, by omega⟩ : Fin 256).val, by show here + (r.val - here) < 2048; omega⟩ := Fin.ext (by show r.val = here + (r.val - here); omega)
      rw [er]
      refine (win_v16 _ _ here hH hr e _).symm.trans ((congrFun (VecWindow.window_put_same _ _ _ _ _) _).trans ?_)
      refine (vTile_apply _ e _).trans ((win_v (S2 .v) _ hH e _).trans ?_)
      rw [hcc .v (by decide)]
      refine (g.v _ e _).trans ?_
      show D.V _ e (256 * D.i + (r.val - here)) = D.V _ e (here + (r.val - here))
      rw [hh]
    · have hx : S2 .v16 (ix3 h e r) = S .v16 (ix3 h e r) := by rw [hcc .v16 (by decide)]
      refine (?_ : _ = S2 .v16 (ix3 h e r)).trans (hx.trans (g.v16 h e r (by omega)))
      by_cases h0 : h.val = H
      · exact put_out _ _ _ _ _ (2 : Fin 3) (by show r.val < here ∨ here + 256 ≤ r.val; omega)
      · exact put_out _ _ _ _ _ (0 : Fin 3) (by show h.val < H ∨ H + 1 ≤ h.val; omega)

/-- The places of the point's tiles. -/
structure GOk (D : Data) (G : Geo) (n : ℕ) : Prop where
  hb : G.b = D.b
  hn : D.f + n = D.i
  hm : n + 1 = G.m
  R : ∀ j, j < G.m → G.R j = 256 * (D.f + j)
  T : ∀ j, j < G.m → G.T j = D.f + j

variable {G : Geo} {n : ℕ} (hG : GOk D G n) (C : Cst Ideal) (hC : C.alpha = D.alpha) (hD : D.Doc)

/-- Tile `j` may hold keys that the query sees. -/
def ok (D : Data) (j : ℕ) (q : Fin 256) : Prop := D.f + j = D.i ∨ D.SG (256 * D.i + q.val) = D.SG (256 * (D.f + j) + 255)

include hG in
theorem run_ldLast {hd : ℕ} {S : St names (Elt Ideal)} (g : Good D hd S) (j : ℕ) (hj : j < G.m) {k : BitVec 32 → Scr (Elt Ideal) M α}
    (hk : run (k (D.SG (256 * (D.f + j) + 255))) S Q) : run (ldLast G j hj k) S Q := by
  have e := (win_tab (S .last) _ _ G.hb (G.hT j hj) (Shape.Idx.first (numel1_S1x1.symm ▸ Nat.one_pos))).trans (g.last ⟨G.b, G.hb⟩ ⟨G.T j, G.hT j hj⟩ hG.hb)
  simp only [hG.T j hj] at e
  unfold ldLast
  refine run_ld ?_
  have e' : VecWindow.window (S .last) ![G.b, G.T j] S1x1.size (inb_tab _ _ G.hb (G.hT j hj)) (Shape.Idx.first (numel1_S1x1.symm ▸ Nat.one_pos)) = D.SG (256 * (D.f + j) + 255) := by
    rw [win_tab (S .last) _ _ G.hb (G.hT j hj)]
    refine (g.last ⟨G.b, G.hb⟩ ⟨G.T j, G.hT j hj⟩ hG.hb).trans ?_
    show D.SG (256 * G.T j + 255) = _
    rw [hG.T j hj]
  exact e'.symm ▸ hk

include hG hC in
theorem run_scores {hd : ℕ} {S : St names (Elt Ideal)} (g : Good D hd S) (H : ℕ) (hH : H < 6) (hd' : H < hd) (c : ℕ) (hc : c < 2) (y : Vec Ideal S1x1x1x256 .f32)
    (hy : ∀ q : Fin 256, (y (ix4 0 0 0 q) : EReal) = D.QS H c q) (j : ℕ) (hj : j < G.m) {k : FVec Ideal S256x256 .f32 → Scr (Elt Ideal) M α}
    (hk : ∀ x : FVec Ideal S256x256 .f32, (∀ r q : Fin 256, (x (ix2 r q) : EReal) = D.x H c q (256 * (D.f + j) + r.val)) → run (k x) S Q) :
    run (scores G H hH c hc (alphaRow C y) j hj k) S Q := by
  refine hk _ fun r q => ?_
  have hlt : ∀ r : Fin 256, G.R j + r.val < 256 * (D.i + 1) := fun r => by have := hG.R j hj; have := hG.hn; have := hG.hm; have := r.isLt; omega
  have hR := G.hR j hj
  rw [scoreTile_apply, hy, hC]
  unfold Data.x
  have e1 : ∀ d : Fin 160, (VecWindow.window (S .kt) ![H, c, G.R j, 0] S1x1x256x160.size (inb_kt H c _ hH hc hR) (ix4 0 0 r d) : EReal) = D.K H c (256 * (D.f + j) + r.val) d := fun d => by
    rw [win_kt (S .kt) H c _ hH hc hR r d]
    refine (g.kt ⟨H, hH⟩ ⟨c, hc⟩ ⟨G.R j + r.val, by omega⟩ d (.inr ⟨hd', hlt r⟩)).trans ?_
    show D.K H c (G.R j + r.val) d = _
    rw [hG.R j hj]
  have e2 : ∀ d : Fin 160, (VecWindow.window (S .q) ![0, H, c, 0, 0] S1x1x1x160x256.size (inb_q H c hH hc) (ix5 0 0 0 d q) : EReal) = D.Q H c d q := fun d => by
    rw [win_q (S .q) H c hH hc d q]
    exact g.q ⟨H, hH⟩ ⟨c, hc⟩ d q
  have e3 : ∀ l : Fin 128, (VecWindow.window (S .ksr) ![H, c, G.R j, 0] S1x1x256x128.size (inb_ksr H c _ hH hc hR) (ix4 0 0 r l) : EReal) = D.KS H c (256 * (D.f + j) + r.val) := fun l => by
    rw [win_ksr (S .ksr) H c _ hH hc hR r l]
    refine (g.ksr ⟨H, hH⟩ ⟨c, hc⟩ ⟨G.R j + r.val, by omega⟩ l (.inr ⟨hd', hlt r⟩)).trans ?_
    show D.KS H c (G.R j + r.val) = _
    rw [hG.R j hj]
  refine congrArg₂ (· * ·) (congrArg₂ (· * ·) (Finset.sum_congr rfl fun d _ => congrArg₂ (· * ·) (e1 d) (e2 d)) (e3 _)) rfl

theorem run_expP (o : Bool) (c : ℕ) (hc : c < 2) (j : ℕ) (hj : j < G.m) (x : FVec Ideal S256x256 .f32) {k : Scr (Elt Ideal) M α} {S : St names (Elt Ideal)}
    (hk : ∀ S', Chg [pOf o] S S' →
      (∀ (c' : Fin 2) (k : Fin 2048) (r q : Fin 256), c'.val = c → k.val = 256 * j + r.val → Pb o S' (ix3 c' k q) = x (ix2 r q)) →
      (∀ (c' : Fin 2) (k : Fin 2048) (q : Fin 256), c'.val ≠ c ∨ k.val < 256 * j ∨ 256 * j + 256 ≤ k.val → Pb o S' (ix3 c' k q) = Pb o S (ix3 c' k q)) → run k S' Q) :
    run (expP G o c hc j hj x k) S Q := by
  have key : ∀ X : S2x2048x256.Idx → EReal, (∀ (c' : Fin 2) (k : Fin 2048) (r q : Fin 256), c'.val = c → k.val = 256 * j + r.val →
        VecWindow.put X ![c, 256 * j, 0] S1x256x256.size (asP x) (ix3 c' k q) = x (ix2 r q)) ∧
      (∀ (c' : Fin 2) (k : Fin 2048) (q : Fin 256), c'.val ≠ c ∨ k.val < 256 * j ∨ 256 * j + 256 ≤ k.val → VecWindow.put X ![c, 256 * j, 0] S1x256x256.size (asP x) (ix3 c' k q) = X (ix3 c' k q)) := by
    intro X
    constructor
    · rintro ⟨_, _⟩ ⟨_, _⟩ r q rfl rfl
      exact (win_p _ _ (256 * j) hc (G.row hj) r q).symm.trans ((congrFun (VecWindow.window_put_same X _ _ (inb_p _ _ hc (G.row hj)) _) _).trans (asP_apply x r q))
    · rintro c' k q (hn | hn)
      · exact put_out _ _ _ _ _ (0 : Fin 3) (by show c'.val < c ∨ c + 1 ≤ c'.val; omega)
      · exact put_out _ _ _ _ _ (1 : Fin 3) hn
  cases o
  · refine ⟨rfl, hk _ (Chg.update _ _ _) ?_ ?_⟩
    · intro c' k r q h1 h2
      exact ((key (S .p0)).1 c' k r q h1 h2)
    · intro c' k q h1
      exact ((key (S .p0)).2 c' k q h1)
  · refine ⟨rfl, hk _ (Chg.update _ _ _) ?_ ?_⟩
    · intro c' k r q h1 h2
      exact ((key (S .p1)).1 c' k r q h1 h2)
    · intro c' k q h1
      exact ((key (S .p1)).2 c' k q h1)

/-- The first `m` tiles of map `c` hold the exponentials where they may be seen. -/
def PF (D : Data) (o : Bool) (H c m : ℕ) (S : St names (Elt Ideal)) : Prop :=
  ∀ (c' : Fin 2) (k : Fin 2048) (j : ℕ) (r q : Fin 256), c'.val = c → j < m → k.val = 256 * j + r.val → ok D j q → Pb o S (ix3 c' k q) = D.E H c q (256 * (D.f + j) + r.val)

/-- Tile `j` holds the exponentials where they may be seen. -/
def TileOk (D : Data) (H c j : ℕ) (x : FVec Ideal S256x256 .f32) : Prop :=
  ∀ r q : Fin 256, ok D j q → (x (ix2 r q) : EReal) = D.E H c q (256 * (D.f + j) + r.val)

include hG hD in
theorem not_vis_of_not_ok {j : ℕ} (hj : j < G.m) {q : Fin 256} (ho : ¬ ok D j q) (r : Fin 256) : ¬ D.vis q (256 * (D.f + j) + r.val) := by
  have h1 : D.f + j ≠ D.i := fun h => ho (.inl h)
  exact hD.not_vis_of_other (by have := hG.hn; have := hG.hm; omega) fun h => ho (.inr h)

include hG hD in
theorem fold8_tile {H c j : ℕ} (hj : j < G.m) {x : FVec Ideal S256x256 .f32} (hx : TileOk D H c j x) (hi : D.f + j < D.i) (s : Fin 8) (q : Fin 256) (seg : IVec S1x256 32)
    (hseg : ∀ q : Fin 256, seg (ix2 0 q) = D.SG (256 * D.i + q.val)) :
    (sel8 seg (D.SG (256 * (D.f + j) + 255)) (fold8 x) (ix2 s q) : EReal) = ∑ a : Fin 32, D.E H c q (256 * (D.f + j) + (a.val * 8 + s.val)) := by
  rw [sel8_apply, hseg, select_eq, fold8_apply]
  by_cases h : D.SG (256 * D.i + q.val) = D.SG (256 * (D.f + j) + 255)
  · rw [if_pos h]
    exact Finset.sum_congr rfl fun a _ => hx ⟨a.val * 8 + s.val, by omega⟩ q (.inr h)
  · rw [if_neg h]
    refine (Finset.sum_eq_zero fun a _ => ?_).symm
    refine Data.E_eq_zero (not_vis_of_not_ok hG hD hj (fun ho => ho.elim (fun h => by omega) h) ⟨a.val * 8 + s.val, by omega⟩)

theorem PF.succ {o : Bool} {H c j : ℕ} {S S' : St names (Elt Ideal)} (h : PF D o H c j S) {x : FVec Ideal S256x256 .f32} (hx : TileOk D H c j x)
    (h1 : ∀ (c' : Fin 2) (k : Fin 2048) (r q : Fin 256), c'.val = c → k.val = 256 * j + r.val → Pb o S' (ix3 c' k q) = x (ix2 r q))
    (h2 : ∀ (c' : Fin 2) (k : Fin 2048) (q : Fin 256), c'.val ≠ c ∨ k.val < 256 * j ∨ 256 * j + 256 ≤ k.val → Pb o S' (ix3 c' k q) = Pb o S (ix3 c' k q)) : PF D o H c (j + 1) S' := by
  intro c' k j' r q hc hj hk ho
  by_cases e : j' = j
  · subst e
    exact (h1 c' k r q hc hk).trans (hx r q ho)
  · rw [h2 c' k q (by have := r.isLt; omega)]
    exact h c' k j' r q hc (by omega) hk ho

/-- The sums of the first `j` tiles. -/
def Tot (D : Data) (H c j : ℕ) (total : FVec Ideal S8x256 .f32) : Prop :=
  ∀ (s : Fin 8) (q : Fin 256), (total (ix2 s q) : EReal) = ∑ j' ∈ Finset.range j, ∑ a : Fin 32, D.E H c q (256 * (D.f + j') + (a.val * 8 + s.val))

theorem exp2_apply (x : FVec Ideal S256x256 .f32) (r q : Fin 256) : (exp2 x : FVec Ideal S256x256 .f32) (ix2 r q) = Ideal.exp2 (x (ix2 r q)) := rfl
theorem minimumf_apply (x y : FVec Ideal S256x256 .f32) (r q : Fin 256) : (minimumf x y : FVec Ideal S256x256 .f32) (ix2 r q) = (min (x (ix2 r q)) (y (ix2 r q)) : EReal) := rfl

include hG hD in
theorem tile_last {hd H c : ℕ} {S : St names (Elt Ideal)} (g : Good D hd S) {x : FVec Ideal S256x256 .f32} (hx : ∀ r q : Fin 256, (x (ix2 r q) : EReal) = D.x H c q (256 * (D.f + n) + r.val)) :
    TileOk D H c n (exp2 (minimumf x (VecWindow.window (S .causal) ![0, 0] S256x256.size inb_S256x256_S256x256_0_0))) := by
  intro r q _
  rw [exp2_apply, minimumf_apply, hx, win_all (S .causal) ![0, 0] inb_S256x256_S256x256_0_0, hG.hn]
  unfold Data.E Data.M
  refine congrArg Ideal.exp2 ((congrArg (min _) (g.causal r q)).trans ((min_cap _ _).trans ?_))
  refine if_congr ?_ rfl rfl
  unfold Data.vis
  constructor
  · rintro ⟨h1, h2⟩; exact ⟨by omega, h1⟩
  · rintro ⟨h1, h2⟩; exact ⟨h2, by omega⟩

include hG hD in
theorem tile_first {hd H c : ℕ} {S : St names (Elt Ideal)} (g : Good D hd S) {x : FVec Ideal S256x256 .f32} (hn : 0 < n) (hx : ∀ r q : Fin 256, (x (ix2 r q) : EReal) = D.x H c q (256 * (D.f + 0) + r.val)) :
    TileOk D H c 0 (exp2 (minimumf x (headCap (VecWindow.window (S .head) ![0, 0] S256x128.size inb_S256x128_S256x128_0_0)))) := by
  intro r q ho
  have hi := hG.hn
  rw [exp2_apply, minimumf_apply, hx, headCap_apply, win_all (S .head) ![0, 0] inb_S256x128_S256x128_0_0]
  unfold Data.E Data.M
  refine congrArg Ideal.exp2 ((congrArg (min _) (g.head r _)).trans ((min_cap _ _).trans ?_))
  refine if_congr ?_ rfl rfl
  rw [hD.vis_of_same (by omega) (by omega) (ho.resolve_left (by omega))]
  exact Iff.rfl

include hG hD in
theorem tile_mid {H c j : ℕ} {x : FVec Ideal S256x256 .f32} (hj : j + 1 < n) (hx : ∀ r q : Fin 256, (x (ix2 r q) : EReal) = D.x H c q (256 * (D.f + (j + 1)) + r.val)) :
    TileOk D H c (j + 1) (exp2 x) := by
  intro r q ho
  have hi := hG.hn
  rw [exp2_apply, hx]
  unfold Data.E Data.M
  rw [if_pos ((hD.vis_of_same (by omega) (by omega) (ho.resolve_left (by omega))).2 (by have := hD.st_lt (t := D.f + (j + 1)) (by omega); omega))]

variable (o : Bool) (seg : IVec S1x256 32) (hseg : ∀ q : Fin 256, seg (ix2 0 q) = D.SG (256 * D.i + q.val))

theorem tot_succ {H c j : ℕ} {total y : FVec Ideal S8x256 .f32} (ht : Tot D H c j total)
    (hy : ∀ (s : Fin 8) (q : Fin 256), (y (ix2 s q) : EReal) = ∑ a : Fin 32, D.E H c q (256 * (D.f + j) + (a.val * 8 + s.val))) : Tot D H c (j + 1) (addf total y) := by
  intro s q
  rw [Finset.sum_range_succ]
  exact congrArg₂ (· + ·) (ht s q) (hy s q)

theorem goodNames_p (o : Bool) : ∀ b, b ∈ goodNames → b ∉ [pOf o] := by cases o <;> decide

include hG hC hD hseg in
theorem run_mapTiles (H : ℕ) (hH : H < 6) (c : ℕ) (hc : c < 2) {hd : ℕ} (hd' : H < hd) (y : Vec Ideal S1x1x1x256 .f32) (hy : ∀ q : Fin 256, (y (ix4 0 0 0 q) : EReal) = D.QS H c q)
    {k : FVec Ideal S8x256 .f32 → FVec Ideal S8x256 .f32 → Scr (Elt Ideal) M α} :
    ∀ (n' j : ℕ) (hj : j + n' + 1 = G.m) (total peak : FVec Ideal S8x256 .f32) (S : St names (Elt Ideal)), Good D hd S → Tot D H c j total → PF D o H c j S →
      (∀ S' total' peak', Chg [pOf o] S S' → Tot D H c (n + 1) total' → PF D o H c (n + 1) S' →
        (∀ (c' : Fin 2) (k : Fin 2048) (q : Fin 256), c'.val ≠ c → Pb o S' (ix3 c' k q) = Pb o S (ix3 c' k q)) → run (k total' peak') S' Q) →
      run (mapTiles G o H hH seg c hc (alphaRow C y) n' j hj total peak k) S Q := by
  intro n'
  induction n' with
  | zero =>
    intro j hj total peak S g ht hp hk
    have hjn : j = n := by have := hG.hm; omega
    subst hjn
    refine run_scores hG C hC g H hH hd' c hc y hy j _ fun x hx => ?_
    refine run_expP (G := G) o c hc j (by omega) _ fun S' c1 h1 h2 => ?_
    have tl := tile_last hG hD g hx
    refine hk S' _ _ c1 (tot_succ ht fun s q => ?_) (hp.succ tl h1 h2) fun c' k q hn => h2 c' k q (.inl hn)
    rw [fold8_apply]
    exact Finset.sum_congr rfl fun a _ => tl ⟨a.val * 8 + s.val, by omega⟩ q (.inl hG.hn)
  | succ n' ih =>
    intro j hj total peak S g ht hp hk
    have hm := hG.hm
    have hn := hG.hn
    rcases j with _ | j
    · refine run_scores hG C hC g H hH hd' c hc y hy 0 _ fun x hx => ?_
      refine run_expP (G := G) o c hc 0 (by omega) _ fun S' c1 h1 h2 => ?_
      have tl := tile_first hG hD g (by omega) hx
      have g' := g.chg c1 (goodNames_p o)
      refine run_ldLast hG g' 0 _ ?_
      refine ih 1 _ _ _ S' g' (tot_succ ht fun s q => fold8_tile hG hD (by omega) tl (by omega) s q seg hseg) (hp.succ tl h1 h2) fun S'' t' p' c2 a1 a2 a3 =>
        hk S'' t' p' (c1.trans c2 (fun _ h => h) fun _ h => h) a1 a2 fun c' k q hne => (a3 c' k q hne).trans (h2 c' k q (.inl hne))
    · refine run_scores hG C hC g H hH hd' c hc y hy (j + 1) _ fun x hx => ?_
      refine run_expP (G := G) o c hc (j + 1) (by omega) _ fun S' c1 h1 h2 => ?_
      have tl := tile_mid hG hD (by omega) hx
      have g' := g.chg c1 (goodNames_p o)
      refine run_ldLast hG g' (j + 1) _ ?_
      refine ih (j + 2) _ _ _ S' g' (tot_succ ht fun s q => fold8_tile hG hD (by omega) tl (by omega) s q seg hseg) (hp.succ tl h1 h2) fun S'' t' p' c2 a1 a2 a3 =>
        hk S'' t' p' (c1.trans c2 (fun _ h => h) fun _ h => h) a1 a2 fun c' k q hne => (a3 c' k q hne).trans (h2 c' k q (.inl hne))

include hG hC hD hseg in
theorem run_mapFlow (H : ℕ) (hH : H < 6) (c : ℕ) (hc : c < 2) {hd : ℕ} (hd' : H < hd) (hn : n + 1 = G.m) {k : FVec Ideal S1x256 .f32 → Scr (Elt Ideal) M α}
    {S : St names (Elt Ideal)} (g : Good D hd S)
    (hk : ∀ S' r, Chg [pOf o, .lo, .hi] S S' → PF D o H c (n + 1) S' → (∀ (c' : Fin 2) (k : Fin 2048) (q : Fin 256), c'.val ≠ c → Pb o S' (ix3 c' k q) = Pb o S (ix3 c' k q)) →
      (∀ (s : Fin 8) (q : Fin 256), (S' .lo (ix2 s q) : EReal) ≤ S .lo (ix2 s q) ∧ (S' .lo (ix2 s q) : EReal) ≤ D.T H c q) →
      (∀ (s : Fin 8) (q : Fin 256), (S .hi (ix2 s q) : EReal) ≤ S' .hi (ix2 s q) ∧ D.T H c q ≤ (S' .hi (ix2 s q) : EReal)) →
      (∀ q : Fin 256, (r (ix2 0 q) : EReal) = Ideal.div 1 (D.T H c q)) → run (k r) S' Q) :
    run (mapFlow C G o H hH seg c hc n hn k) S Q := by
  refine run_mapTiles hG C hC hD o seg hseg H hH c hc hd' _ (fun q => (win_qs (S .qs) H c hH hc q).trans (g.qs ⟨H, hH⟩ ⟨c, hc⟩ q)) n 0 _ _ _ S g ?_ ?_ fun S1 tot pk c1 ht hp hq => ?_
  · intro s q; rw [Finset.sum_range_zero]; exact zero8_apply s q
  · intro c' k j r q _ hj; omega
  have hT : ∀ q : Fin 256, (sumRow tot (ix2 0 q) : EReal) = D.T H c q := fun q => by
    rw [sumRow_apply]; exact (Finset.sum_congr rfl fun s _ => ht s q).trans (hD.total8 hG.hn)
  refine ⟨rfl, rfl, hk _ _ ((c1.trans (Chg.update _ _ _) (ds := [pOf o, .lo]) (by simp) (by simp)).trans (Chg.update _ _ _) (by simp) (by simp)) ?_ ?_ ?_ ?_ ?_⟩
  · intro c' k j r q h1 h2 h3 h4
    refine Eq.trans ?_ (hp c' k j r q h1 h2 h3 h4)
    cases o <;> rfl
  · intro c' k q h1
    refine Eq.trans ?_ (hq c' k q h1)
    cases o <;> rfl
  · intro s q
    rw [Function.update_of_ne (by decide), Function.update_self, put_all (S1 .lo) ![0, 0] inb_S8x256_S8x256_0_0, newLo_apply, hT, win_all (S1 .lo) ![0, 0] inb_S8x256_S8x256_0_0, c1 .lo (by cases o <;> decide)]
    exact ⟨min_le_left _ _, min_le_right _ _⟩
  · intro s q
    rw [Function.update_self, Function.update_of_ne (show Nm.hi ≠ Nm.lo by decide), put_all (S1 .hi) ![0, 0] inb_S8x256_S8x256_0_0, newHi_apply, hT]
    have e : VecWindow.window (S1 .hi) ![0, 0] S8x256.size inb_S8x256_S8x256_0_0 (ix2 s q) = S .hi (ix2 s q) := by rw [win_all (S1 .hi) ![0, 0] inb_S8x256_S8x256_0_0, c1 .hi (by cases o <;> decide)]
    refine ⟨?_, (le_max_right _ _).trans (le_max_right _ _)⟩
    exact (le_of_eq e.symm).trans (le_max_left _ _)
  · intro q
    rw [recip_apply, hT]

end Cert.DiffAttn

end
-- ==== Proof.HeadRun.lean ====
/-
  One head by the fast way, its output, and a pair of heads.
-/
module

public import proofs.«01_k».proof.Proof.FastRun

@[expose] public section

noncomputable section

namespace Cert.DiffAttn

open Idealize.ShloMosaic Idealize.ShloMosaic.Script
open Cert.KernelIdeal Cert.KernelIdeal.Facts₀ Cert.KernelIdeal.Facts

variable {sig : RefSig} {M : Mems names sig .tc} (W : ∀ b : Nm, (M b).IsWhole) {α : Type} {Q : α → St names (Elt Ideal) → Prop}
variable {D : Data} {G : Geo} {n : ℕ} (hG : GOk D G n) (C : Cst Ideal) (hC : C.alpha = D.alpha) (hV : C.invV = D.invV) (hD : D.Doc)
variable (o : Bool) (seg : IVec S1x256 32) (hseg : ∀ q : Fin 256, seg (ix2 0 q) = D.SG (256 * D.i + q.val))

theorem ldP_eq (c r : ℕ) (hc : c < 2) (hr : r + 256 ≤ 2048) {k : Vec Ideal S1x256x256 .f32 → Scr (Elt Ideal) M α} {S : St names (Elt Ideal)}
    (hk : ∀ x : Vec Ideal S1x256x256 .f32, (∀ a q : Fin 256, (x (ix3 0 a q) : EReal) = Pb o S (ix3 ⟨c, hc⟩ ⟨r + a.val, by omega⟩ q)) → run (k x) S Q) : run (ldP o c r hc hr k) S Q := by
  cases o
  · exact hk _ fun a q => win_p (S .p0) c r hc hr a q
  · exact hk _ fun a q => win_p (S .p1) c r hc hr a q

/-- The weight's difference at a key, times the values. -/
def Data.term (D : Data) (w : ℕ → ℕ → Fin 256 → ℕ → EReal) (H : ℕ) (q : Fin 256) (e : Fin 320) (k : ℕ) : EReal := D.V H e k * (w H 0 q k - w H 1 q k * D.lam)

include hG hD in
theorem run_attV (H : ℕ) (hH : H < 6) {hd : ℕ} (hd' : H < hd) (j : ℕ) (hj : j < G.m) (r0 r1 : FVec Ideal S1x256 .f32) {S : St names (Elt Ideal)} (g : Good D hd S)
    (p0 : PF D o H 0 (n + 1) S) (p1 : PF D o H 1 (n + 1) S)
    (hr : ∀ q : Fin 256, (ok D j q ∧ (r0 (ix2 0 q) : EReal) = Ideal.div 1 (D.T H 0 q) ∧ (r1 (ix2 0 q) : EReal) = Ideal.div 1 (D.T H 1 q) * D.lam) ∨
      (¬ ok D j q ∧ (r0 (ix2 0 q) : EReal) = 0 ∧ (r1 (ix2 0 q) : EReal) = 0)) {k : FVec Ideal S320x256 .f32 → Scr (Elt Ideal) M α}
    (hk : ∀ x : FVec Ideal S320x256 .f32, (∀ (e : Fin 320) (q : Fin 256), (x (ix2 e q) : EReal) = ∑ r : Fin 256, D.term D.wf H q e (256 * (D.f + j) + r.val)) → run (k x) S Q) :
    run (attV G o H hH j hj r0 r1 k) S Q := by
  refine ldP_eq o 0 _ _ _ fun x0 h0 => ldP_eq o 1 _ _ _ fun x1 h1 => hk _ fun e q => ?_
  rw [av_apply]
  refine Finset.sum_congr rfl fun r _ => ?_
  have e2 : (VecWindow.window (S .v16) ![H, 0, G.R j] S1x320x256.size (inb_v16 H _ hH (G.hR j hj)) (ix3 0 e r) : EReal) = D.V H e (256 * (D.f + j) + r.val) := by
    rw [win_v16 (S .v16) H _ hH (G.hR j hj) e r]
    refine (g.v16 ⟨H, hH⟩ e ⟨G.R j + r.val, by have := G.hR j hj; omega⟩ (.inr ⟨hd', by have := hG.R j hj; have := hG.hn; have := hG.hm; have := r.isLt; show G.R j + r.val < _; omega⟩)).trans ?_
    show D.V H e (G.R j + r.val) = _
    rw [hG.R j hj]
  refine congrArg₂ (· * ·) e2 ?_
  have hm := hG.hm
  rcases hr q with ⟨ho, h2, h3⟩ | ⟨ho, h2, h3⟩
  · rw [h2, h3, h0, h1, p0 _ _ j r q rfl (by omega) rfl ho, p1 _ _ j r q rfl (by omega) rfl ho, ← mul_assoc]
    rfl
  · rw [h2, h3, mul_zero, mul_zero, Data.wf_eq_zero (not_vis_of_not_ok hG hD hj ho r), Data.wf_eq_zero (not_vis_of_not_ok hG hD hj ho r), zero_mul]

/-- The sum so far. -/
def accAt (acc : Option (FVec Ideal S320x256 .f32)) (e : Fin 320) (q : Fin 256) : EReal :=
  match acc with
  | none => 0
  | some a => a (ix2 e q)

include hG hD hseg in
theorem run_valTiles (H : ℕ) (hH : H < 6) {hd : ℕ} (hd' : H < hd) (r0 r1 : FVec Ideal S1x256 .f32) {S : St names (Elt Ideal)} (g : Good D hd S)
    (p0 : PF D o H 0 (n + 1) S) (p1 : PF D o H 1 (n + 1) S) (h0 : ∀ q : Fin 256, (r0 (ix2 0 q) : EReal) = Ideal.div 1 (D.T H 0 q))
    (h1 : ∀ q : Fin 256, (r1 (ix2 0 q) : EReal) = Ideal.div 1 (D.T H 1 q) * D.lam) {k : FVec Ideal S320x256 .f32 → Scr (Elt Ideal) M α}
    (hk : ∀ z : FVec Ideal S320x256 .f32, (∀ (e : Fin 320) (q : Fin 256), (z (ix2 e q) : EReal) = D.av D.wf H q e) → run (k z) S Q) :
    ∀ (n' j : ℕ) (hj : j + n' + 1 = G.m) (acc : Option (FVec Ideal S320x256 .f32)),
      (∀ (e : Fin 320) (q : Fin 256), accAt acc e q = ∑ j' ∈ Finset.range j, ∑ r : Fin 256, D.term D.wf H q e (256 * (D.f + j') + r.val)) →
      run (valTiles G o H hH seg r0 r1 n' j hj acc k) S Q := by
  have hm := hG.hm
  have hn := hG.hn
  have hav : ∀ (e : Fin 320) (q : Fin 256), ∑ j' ∈ Finset.range (n + 1), ∑ r : Fin 256, D.term D.wf H q e (256 * (D.f + j') + r.val) = D.av D.wf H q e := fun e q =>
    hD.av_eq D.wf (fun _ _ _ _ hv => Data.wf_eq_zero hv) hn
  have hlast : ∀ j, j + 1 = G.m → ∀ q : Fin 256, (ok D j q ∧ (r0 (ix2 0 q) : EReal) = Ideal.div 1 (D.T H 0 q) ∧ (r1 (ix2 0 q) : EReal) = Ideal.div 1 (D.T H 1 q) * D.lam) ∨
      (¬ ok D j q ∧ (r0 (ix2 0 q) : EReal) = 0 ∧ (r1 (ix2 0 q) : EReal) = 0) := fun j hj q => .inl ⟨.inl (by omega), h0 q, h1 q⟩
  have hmid : ∀ j, j + 1 < G.m → ∀ q : Fin 256, (ok D j q ∧ (selRow seg (D.SG (256 * (D.f + j) + 255)) r0 (ix2 0 q) : EReal) = Ideal.div 1 (D.T H 0 q) ∧
        (selRow seg (D.SG (256 * (D.f + j) + 255)) r1 (ix2 0 q) : EReal) = Ideal.div 1 (D.T H 1 q) * D.lam) ∨
      (¬ ok D j q ∧ (selRow seg (D.SG (256 * (D.f + j) + 255)) r0 (ix2 0 q) : EReal) = 0 ∧ (selRow seg (D.SG (256 * (D.f + j) + 255)) r1 (ix2 0 q) : EReal) = 0) := fun j hj q => by
    rw [selRow_apply, selRow_apply, hseg, select_eq, select_eq]
    by_cases h : D.SG (256 * D.i + q.val) = D.SG (256 * (D.f + j) + 255)
    · rw [if_pos h, if_pos h]; exact .inl ⟨.inr h, h0 q, h1 q⟩
    · rw [if_neg h, if_neg h]; exact .inr ⟨fun ho => ho.elim (fun h => by omega) h, rfl, rfl⟩
  intro n'
  induction n' with
  | zero =>
    intro j hj acc ha
    have hjn : j = n := by omega
    rcases acc with _ | acc
    · refine run_attV hG hD o H hH hd' j (by omega) r0 r1 g p0 p1 (hlast j (by omega)) fun x hx => hk _ fun e q => ?_
      have := ha e q
      rw [← hav e q, Finset.sum_range_succ, ← hjn, hx, ← ha e q]
      exact (zero_add _).symm
    · refine run_attV hG hD o H hH hd' j (by omega) r0 r1 g p0 p1 (hlast j (by omega)) fun x hx => hk _ fun e q => ?_
      rw [← hav e q, Finset.sum_range_succ, ← hjn, ← hx, ← ha e q]
      rfl
  | succ n' ih =>
    intro j hj acc ha
    rcases acc with _ | acc
    · refine run_ldLast hG g j _ ?_
      refine run_attV hG hD o H hH hd' j (by omega) _ _ g p0 p1 (hmid j (by omega)) fun x hx => ih (j + 1) _ _ fun e q => ?_
      rw [Finset.sum_range_succ, ← hx, ← ha e q]
      exact (zero_add _).symm
    · refine run_ldLast hG g j _ ?_
      refine run_attV hG hD o H hH hd' j (by omega) _ _ g p0 p1 (hmid j (by omega)) fun x hx => ih (j + 1) _ _ fun e q => ?_
      rw [Finset.sum_range_succ, ← hx, ← ha e q]
      rfl

/-- The totals of the heads below `hd` lie between the bounds kept. -/
def Bd (D : Data) (hd : ℕ) (S : St names (Elt Ideal)) : Prop :=
  ∀ (H c : ℕ) (s : Fin 8) (q : Fin 256), H < hd → c < 2 → (S .lo (ix2 s q) : EReal) ≤ D.T H c q ∧ D.T H c q ≤ (S .hi (ix2 s q) : EReal)

theorem Bd.chg {hd : ℕ} {S S' : St names (Elt Ideal)} {bs : List Nm} (h : Bd D hd S) (c : Chg bs S S') (h1 : Nm.lo ∉ bs) (h2 : Nm.hi ∉ bs) : Bd D hd S' := by
  intro H cc s q
  rw [c .lo h1, c .hi h2]
  exact h H cc s q

/-- The buffers a head changes. -/
def headNames (o : Bool) : List Nm := [.kt, .ksr, .v16, pOf o, .lo, .hi]

include hG hC hD hseg in
theorem run_headFlow (H here : ℕ) (hH : H < 6) (hr : here + 256 ≤ 2048) (hd : 256 ∣ here) (hh : here = 256 * D.i) (lam : Vec Ideal S1x1 .f32) (hl : (lam (ix2 0 0) : EReal) = D.lam)
    (hn : n + 1 = G.m) {k : FVec Ideal S320x256 .f32 → Scr (Elt Ideal) M α} {S : St names (Elt Ideal)} (g : Good D H S) (hb : Bd D H S)
    (hk : ∀ S' z, Chg (headNames o) S S' → Good D (H + 1) S' → Bd D (H + 1) S' → (∀ (e : Fin 320) (q : Fin 256), (z (ix2 e q) : EReal) = D.av D.wf H q e) → run (k z) S' Q) :
    run (headFlow C W G o H hH here hr hd seg lam n hn k) S Q := by
  refine run_prep W H here hH hr hd hh g fun S1 c1 g1 => ?_
  refine run_mapFlow hG C hC hD o seg hseg H hH 0 _ (Nat.lt_succ_self H) hn g1 fun S2 r0 c2 p0 q0 l0 u0 d0 => ?_
  have g2 := g1.chg c2 (by cases o <;> decide)
  refine run_mapFlow hG C hC hD o seg hseg H hH 1 _ (Nat.lt_succ_self H) hn g2 fun S3 r1 c3 p1 q1 l1 u1 d1 => ?_
  have g3 := g2.chg c3 (by cases o <;> decide)
  have p0' : PF D o H 0 (n + 1) S3 := fun c' k j r q h1 h2 h3 h4 => (q1 c' k q (by omega)).trans (p0 c' k j r q h1 h2 h3 h4)
  refine run_valTiles hG hD o seg hseg H hH (Nat.lt_succ_self H) r0 (lamRow r1 lam) g3 p0' p1 d0 (fun q => ?_) (fun z hz => ?_) n 0 _ none fun e q => ?_
  · rw [lamRow_apply, d1, hl]
  · refine hk S3 z ?_ g3 ?_ hz
    · exact (c1.trans c2 (ds := headNames o) (by intro b hb; unfold headNames; simp only [List.mem_cons, List.not_mem_nil, or_false] at hb ⊢; tauto)
        (by intro b hb; unfold headNames; simp only [List.mem_cons, List.not_mem_nil, or_false] at hb ⊢; tauto)).trans c3 (fun _ h => h)
        (by intro b hb; unfold headNames; simp only [List.mem_cons, List.not_mem_nil, or_false] at hb ⊢; tauto)
    · intro H' c s q hH' hc
      have e1 : (S1 .lo (ix2 s q) : EReal) = S .lo (ix2 s q) := by rw [c1 .lo (by decide)]
      have e2 : (S1 .hi (ix2 s q) : EReal) = S .hi (ix2 s q) := by rw [c1 .hi (by decide)]
      by_cases he : H' < H
      · have := hb H' c s q he hc
        exact ⟨(l1 s q).1.trans ((l0 s q).1.trans (e1.le.trans this.1)), this.2.trans (e2.ge.trans ((u0 s q).1.trans (u1 s q).1))⟩
      · obtain rfl : H' = H := by omega
        obtain rfl | rfl : c = 0 ∨ c = 1 := by omega
        · exact ⟨(l1 s q).1.trans (l0 s q).2, (u0 s q).2.trans (u1 s q).1⟩
        · exact ⟨(l1 s q).2, (u1 s q).2⟩
  · rw [Finset.sum_range_zero]; rfl

/-! ### Outputs -/

include hV in
theorem run_finHalf {hd : ℕ} (H : ℕ) (hH : H < 6) (r : ℕ) (hr : r + 320 ≤ 640) (hdv : 320 ∣ r) (s : ℕ) (hs : s + 128 ≤ 256) (z : FVec Ideal S320x128 .f32)
    (zz : Fin 256 → Fin 320 → EReal) {S : St names (Elt Ideal)} (g : Good D hd S) (hz : ∀ (e : Fin 320) (l : Fin 128), (z (ix2 e l) : EReal) = zz ⟨s + l.val, by omega⟩ e) {k : Scr (Elt Ideal) M α}
    (hk : ∀ S', Chg [.yt] S S' → (∀ (a : Fin 640) (q : Fin 256) (e : Fin 320) (l : Fin 128), a.val = r + e.val → q.val = s + l.val → (S' .yt (ix2 a q) : EReal) = D.norm (zz q) H e) →
      (∀ (a : Fin 640) (q : Fin 256), a.val < r ∨ r + 320 ≤ a.val ∨ q.val < s ∨ s + 128 ≤ q.val → S' .yt (ix2 a q) = S .yt (ix2 a q)) → run k S' Q) :
    run (finHalf C W H hH r hr hdv s hs z k) S Q := by
  refine ⟨rfl, hk _ (Chg.update _ _ _) ?_ ?_⟩
  · rintro ⟨_, _⟩ ⟨_, _⟩ e l rfl rfl
    rw [Function.update_self]
    refine (win_yt _ r s hr hs e l).symm.trans ((congrFun (VecWindow.window_put_same _ _ _ (inb_yt r s hr hs) _) _).trans ((normHalf_apply C _ _ _ e l).trans ?_))
    have ev : ∀ x : Fin 320, (VecWindow.window (S .vs) ![H, 0, 0] S1x320x128.size (inb_vs H hH) (ix3 0 x l) : EReal) = D.VSC H x := fun x =>
      (win_vs (S .vs) H hH x l).trans (g.vs ⟨H, hH⟩ x l)
    have eg : (VecWindow.window (S .gain) ![0, 0] S320x128.size inb_S320x128_S320x128_0_0 (ix2 e l) : EReal) = D.GA e := (win_all (S .gain) ![0, 0] inb_S320x128_S320x128_0_0 _).trans (g.gain e l)
    unfold Data.norm
    simp only [ev, hz, hV]
    exact congrArg₂ (· * ·) rfl eg
  · intro a q hn
    rw [Function.update_self]
    rcases hn with hn | hn | hn
    · exact put_out _ _ _ _ _ (0 : Fin 2) (.inl hn)
    · exact put_out _ _ _ _ _ (0 : Fin 2) (.inr hn)
    · exact put_out _ _ _ _ _ (1 : Fin 2) hn

include hV in
theorem run_fin {hd : ℕ} (H : ℕ) (hH : H < 6) (r : ℕ) (hr : r + 320 ≤ 640) (hdv : 320 ∣ r) (z : FVec Ideal S320x256 .f32)
    (zz : Fin 256 → Fin 320 → EReal) {S : St names (Elt Ideal)} (g : Good D hd S) (hz : ∀ (e : Fin 320) (q : Fin 256), (z (ix2 e q) : EReal) = zz q e) {k : Scr (Elt Ideal) M α}
    (hk : ∀ S', Chg [.yt] S S' → (∀ (a : Fin 640) (q : Fin 256) (e : Fin 320), a.val = r + e.val → (S' .yt (ix2 a q) : EReal) = D.norm (zz q) H e) →
      (∀ (a : Fin 640) (q : Fin 256), a.val < r ∨ r + 320 ≤ a.val → S' .yt (ix2 a q) = S .yt (ix2 a q)) → run k S' Q) :
    run (fin C W H hH r hr hdv z k) S Q := by
  refine run_finHalf W C hV H hH r hr hdv 0 _ _ zz g (fun e l => (half0_apply z e l).trans ((hz e _).trans (congrArg (fun x => zz x e) (Fin.ext (by simp))))) fun S1 c1 a1 b1 => ?_
  refine run_finHalf W C hV H hH r hr hdv 128 _ _ zz (g.chg c1 (by decide)) (fun e l => (half1_apply z e l).trans (hz e _)) fun S2 c2 a2 b2 => ?_
  refine hk S2 (c1.trans c2 (fun _ h => h) fun _ h => h) ?_ fun a q hn => (b2 a q (by omega)).trans (b1 a q (by omega))
  intro a q e ha
  by_cases hq : q.val < 128
  · rw [b2 a q (by omega)]; exact a1 a q e ⟨q.val, hq⟩ ha (by simp)
  · exact a2 a q e ⟨q.val - 128, by omega⟩ ha (by show q.val = 128 + (q.val - 128); omega)

theorem run_emit (r : ℕ) (hr : r + 640 ≤ 1920) {S : St names (Elt Ideal)} {k : Scr (Elt Ideal) M α}
    (hk : ∀ S', Chg [.out] S S' → (∀ (q : Fin 256) (a : Fin 1920) (e : Fin 640), a.val = r + e.val → S' .out (ix3 0 q a) = S .yt (ix2 e q)) →
      (∀ (q : Fin 256) (a : Fin 1920), a.val < r ∨ r + 640 ≤ a.val → S' .out (ix3 0 q a) = S .out (ix3 0 q a)) → run k S' Q) :
    run (emit W r hr k) S Q := by
  refine ⟨rfl, hk _ (Chg.update _ _ _) ?_ ?_⟩
  · rintro q ⟨_, _⟩ e rfl
    rw [Function.update_self]
    refine (win_out _ r hr q e).symm.trans ((congrFun (VecWindow.window_put_same _ _ _ (inb_out r hr) _) _).trans ((outTile_apply _ q e).trans ?_))
    exact win_all (S .yt) ![0, 0] inb_S640x256_S640x256_0_0 _
  · intro q a hn
    rw [Function.update_self]
    exact put_out _ _ _ _ _ (2 : Fin 3) hn

/-- The outputs of the heads below `hd`, under the weights `w`. -/
def Outs (D : Data) (w : ℕ → ℕ → Fin 256 → ℕ → EReal) (hd : ℕ) (S : St names (Elt Ideal)) : Prop :=
  ∀ (q : Fin 256) (a : Fin 1920) (H : ℕ) (e : Fin 320), H < hd → a.val = 320 * H + e.val → (S .out (ix3 0 q a) : EReal) = D.y w H q e

theorem Outs.emit {w : ℕ → ℕ → Fin 256 → ℕ → EReal} {t : ℕ} {S S1 S' : St names (Elt Ideal)} (h : Outs D w (2 * t) S) (h1 : S1 .out = S .out)
    (hy : ∀ (a : Fin 640) (q : Fin 256) (u : ℕ) (e : Fin 320), u < 2 → a.val = 320 * u + e.val → (S1 .yt (ix2 a q) : EReal) = D.y w (2 * t + u) q e)
    (ho : ∀ (q : Fin 256) (a : Fin 1920) (e : Fin 640), a.val = 640 * t + e.val → S' .out (ix3 0 q a) = S1 .yt (ix2 e q))
    (hn : ∀ (q : Fin 256) (a : Fin 1920), a.val < 640 * t ∨ 640 * t + 640 ≤ a.val → S' .out (ix3 0 q a) = S1 .out (ix3 0 q a)) : Outs D w (2 * (t + 1)) S' := by
  intro q a H e hH ha
  by_cases hlt : H < 2 * t
  · rw [hn q a (.inl (by have := e.isLt; omega)), h1]
    exact h q a H e hlt ha
  · have ea : a.val = 640 * t + (⟨a.val - 640 * t, by have := e.isLt; omega⟩ : Fin 640).val := by show a.val = 640 * t + (a.val - 640 * t); omega
    rw [ho q a _ ea]
    refine (hy _ q (H - 2 * t) e (by omega) (by show a.val - 640 * t = _; omega)).trans ?_
    rw [show 2 * t + (H - 2 * t) = H by omega]

include hG hC hV hD hseg in
theorem run_pairFlow (H0 H1 : ℕ) (hH0 : H0 < 6) (hH1 : H1 < 6) (here : ℕ) (hr : here + 256 ≤ 2048) (hd : 256 ∣ here) (hh : here = 256 * D.i) (col : ℕ) (hcol : col + 640 ≤ 1920)
    (lam : Vec Ideal S1x1 .f32) (hl : (lam (ix2 0 0) : EReal) = D.lam) (hn : n + 1 = G.m) {t : ℕ} (e0 : H0 = 2 * t) (e1 : H1 = 2 * t + 1) (ec : col = 640 * t)
    {k : Scr (Elt Ideal) M α} {S : St names (Elt Ideal)} (g : Good D (2 * t) S) (hb : Bd D (2 * t) S) (ho : Outs D D.wf (2 * t) S)
    (hk : ∀ S', Good D (2 * (t + 1)) S' → Bd D (2 * (t + 1)) S' → Outs D D.wf (2 * (t + 1)) S' → run k S' Q) :
    run (pairFlow C W G H0 H1 hH0 hH1 here hr hd col hcol seg lam n hn k) S Q := by
  subst e0; subst e1; subst ec
  refine run_headFlow W hG C hC hD false seg hseg _ here hH0 hr hd hh lam hl hn g hb fun S1 z1 c1 g1 b1 hz1 => ?_
  refine run_fin W C hV _ hH0 0 _ _ z1 (fun q e => D.av D.wf (2 * t) q e) g1 hz1 fun S2 c2 y2 _ => ?_
  have g2 := g1.chg c2 (by decide)
  have b2 := b1.chg c2 (by decide) (by decide)
  refine run_headFlow W hG C hC hD true seg hseg _ here hH1 hr hd hh lam hl hn g2 b2 fun S3 z3 c3 g3 b3 hz3 => ?_
  refine run_fin W C hV _ hH1 320 _ _ z3 (fun q e => D.av D.wf (2 * t + 1) q e) g3 hz3 fun S4 c4 y4 n4 => ?_
  have g4 := g3.chg c4 (by decide)
  have b4 := b3.chg c4 (by decide) (by decide)
  refine run_emit W _ hcol fun S5 c5 o5 n5 => ?_
  have eo : S4 .out = S .out := by rw [c4 .out (by decide), c3 .out (by decide), c2 .out (by decide), c1 .out (by decide)]
  refine hk S5 (g4.chg c5 (by decide)) (b4.chg c5 (by decide) (by decide)) (ho.emit eo ?_ o5 n5)
  intro a q u e hu ha
  obtain rfl | rfl : u = 0 ∨ u = 1 := by omega
  · rw [n4 a q (.inl (by have := e.isLt; omega)), c3 .yt (by decide)]
    exact y2 a q e (by omega)
  · exact y4 a q e (by omega)

end Cert.DiffAttn

end
-- ==== Proof.FastAll.lean ====
/-
  The fast way for every pair of heads and every number of tiles.
-/
module

public import proofs.«01_k».proof.Proof.HeadRun
public import proofs.«01_k».proof.Proof.Words

@[expose] public section

noncomputable section

namespace Cert.DiffAttn

open Idealize.ShloMosaic Idealize.ShloMosaic.Script
open Cert.KernelIdeal Cert.KernelIdeal.Facts₀ Cert.KernelIdeal.Facts

variable {sig : RefSig} {M : Mems names sig .tc} (W : ∀ b : Nm, (M b).IsWhole) {α : Type} {Q : α → St names (Elt Ideal) → Prop}
variable {D : Data} (C : Cst Ideal) (hC : C.alpha = D.alpha) (hV : C.invV = D.invV) (hD : D.Doc)
variable (seg : IVec S1x256 32) (hseg : ∀ q : Fin 256, seg (ix2 0 q) = D.SG (256 * D.i + q.val))
variable (lam : Vec Ideal S1x1 .f32) (hl : (lam (ix2 0 0) : EReal) = D.lam)
variable {b i : ℕ} (hb : b < 24) (hi : i < 8) (eb : D.b = b) (ei : D.i = i)

include eb ei in
theorem geo_ok {n : ℕ} (hn : n ≤ i) (hf : D.f + n = D.i) : GOk D (geo b i n hb hi hn) n where
  hb := (wordN_eq hb).trans eb.symm
  hn := hf
  hm := rfl
  R j hj := (rowW_eq hi hn hj).trans (by congr 1; omega)
  T j hj := (tabW_eq hi hn hj).trans (by omega)

/-- What the fast way leaves. -/
structure Post (D : Data) (S : St names (Elt Ideal)) : Prop where
  good : Good D 6 S
  bd : Bd D 6 S
  outs : Outs D D.wf 6 S

include hC hV hD hseg hl eb ei in
theorem run_pairs {n : ℕ} (hn : n ≤ i) (hf : D.f + n = D.i) {k : Scr (Elt Ideal) M α} (hk : ∀ S, Post D S → run k S Q) (S : St names (Elt Ideal)) (g : Good D 0 S) :
    run (pairs C W b i hb hi seg lam n hn k) S Q := by
  refine ⟨fun t _ S => Good D (2 * t) S ∧ Bd D (2 * t) S ∧ Outs D D.wf (2 * t) S, ⟨g, fun H c s q h => absurd h (by omega), fun q a H e h => absurd h (by omega)⟩, ?_, ?_⟩
  · rintro t _ S' ⟨g', b', o'⟩
    have ht := t.isLt.trans_eq trips3
    exact run_pairFlow W (geo_ok hb hi eb ei hn hf) C hC hV hD seg hseg _ _ _ _ _ _ _ ((hereW_eq hi).trans (by rw [ei])) _ _ lam hl rfl (evenW_eq ht) (oddW_eq ht) (colW_eq ht) g' b' o'
      fun S'' g'' b'' o'' => ⟨g'', b'', o''⟩
  · rintro _ S' ⟨g', b', o'⟩
    rw [trips3] at g' b' o'
    exact hk S' ⟨g', b', o'⟩

/-- Before the way of `n + 1` tiles was taken, and after. -/
def Way (D : Data) (n m : ℕ) (S : St names (Elt Ideal)) : Prop := (m ≤ n ∧ Good D 0 S) ∨ (n < m ∧ Post D S)

include hC hV hD hseg hl eb ei in
theorem run_opt {n m : ℕ} (hn8 : n < 8) (hm8 : m < 8) (hf : D.f + n = D.i) {t c : BitVec 32} (ht : t = BitVec.ofNat 32 (n + 1)) (hc : c = BitVec.ofNat 32 (m + 1)) (H : isW t c = 1#1 → m ≤ i)
    {k : Scr (Elt Ideal) M α} (hk : ∀ S, Way D n (m + 1) S → run k S Q) (S : St names (Elt Ideal)) (hS : Way D n m S) :
    run (opt (isW t c) (fun h => pairs C W b i hb hi seg lam m (H h)) k) S Q := by
  refine ⟨fun h => ?_, fun h => hk S ?_⟩
  · have e := eq_of_isW h
    rw [ht, hc] at e
    have := congrArg BitVec.toNat e
    rw [BitVec.toNat_ofNat, BitVec.toNat_ofNat] at this
    obtain rfl : n = m := by omega
    rcases hS with ⟨_, g⟩ | ⟨h, _⟩
    · exact run_pairs W C hC hV hD seg hseg lam hl hb hi eb ei _ hf (fun S' p => hk S' (.inr ⟨by omega, p⟩)) S g
    · omega
  · rcases hS with ⟨h1, g⟩ | ⟨h1, p⟩
    · refine .inl ⟨?_, g⟩
      rcases Nat.lt_or_eq_of_le h1 with h2 | h2
      · exact h2
      · exact absurd (by rw [ht, hc, h2]; exact isW_self _) h
    · exact .inr ⟨by omega, p⟩

include hC hV hD hseg hl eb ei in
theorem run_fast {n : ℕ} (hf : D.f + n = D.i) {nT s : BitVec 32} (hnT : nT = BitVec.ofNat 32 (n + 1)) (ht : tilesW i s = BitVec.ofNat 32 (n + 1)) (H0 : isW nT 1#32 = 1#1 → 0 ≤ i)
    (Hn : ∀ n, n < 8 → isW (tilesW i s) (BitVec.ofNat 32 (n + 1)) = 1#1 → n ≤ i) {k : Scr (Elt Ideal) M α} (hk : ∀ S, Post D S → run k S Q) (S : St names (Elt Ideal)) (g : Good D 0 S) :
    run (fast C W b i hb hi seg lam nT s H0 Hn k) S Q := by
  have hn8 : n < 8 := by omega
  have h8 : ∀ S, Way D n 8 S → run k S Q := fun S h => h.elim (fun h => by omega) fun h => hk S h.2
  have h7 := run_opt (m := 7) W C hC hV hD seg hseg lam hl hb hi eb ei hn8 (by decide) hf ht rfl (Hn 7 (by decide)) h8
  have h6 := run_opt (m := 6) W C hC hV hD seg hseg lam hl hb hi eb ei hn8 (by decide) hf ht rfl (Hn 6 (by decide)) h7
  have h5 := run_opt (m := 5) W C hC hV hD seg hseg lam hl hb hi eb ei hn8 (by decide) hf ht rfl (Hn 5 (by decide)) h6
  have h4 := run_opt (m := 4) W C hC hV hD seg hseg lam hl hb hi eb ei hn8 (by decide) hf ht rfl (Hn 4 (by decide)) h5
  have h3 := run_opt (m := 3) W C hC hV hD seg hseg lam hl hb hi eb ei hn8 (by decide) hf ht rfl (Hn 3 (by decide)) h4
  have h2 := run_opt (m := 2) W C hC hV hD seg hseg lam hl hb hi eb ei hn8 (by decide) hf ht rfl (Hn 2 (by decide)) h3
  have h1 := run_opt (m := 1) W C hC hV hD seg hseg lam hl hb hi eb ei hn8 (by decide) hf ht rfl (Hn 1 (by decide)) h2
  exact run_opt (m := 0) W C hC hV hD seg hseg lam hl hb hi eb ei hn8 (by decide) hf hnT rfl H0 h1 S (.inl ⟨by omega, g⟩)

end Cert.DiffAttn

end
-- ==== Proof.SlowRun.lean ====
/-
  What the slow way of the kernel's body leaves: every head's output under the weights as the slow way takes them.
-/
module

public import proofs.«01_k».proof.Proof.HeadRun
public import proofs.«01_k».proof.Proof.Words

@[expose] public section

noncomputable section

namespace Cert.DiffAttn

open Idealize.ShloMosaic Idealize.ShloMosaic.Script
open Cert.KernelIdeal Cert.KernelIdeal.Facts₀ Cert.KernelIdeal.Facts

variable {sig : RefSig} {M : Mems names sig .tc} (W : ∀ b : Nm, (M b).IsWhole) {α : Type} {Q : α → St names (Elt Ideal) → Prop}

theorem neg_inf : (Ideal.ofBits FTy.f32 4286578688#32 : EReal) = ⊥ := by simp [Ideal.ofBits, Ideal.ieee]

theorem accStep_apply (a b : FVec Ideal S320x256 .f32) (e : Fin 320) (q : Fin 256) : shapeCast S320x256 (addf a b) shapeCasts_S320x256_S320x256 (ix2 e q) = (a (ix2 e q) + b (ix2 e q) : EReal) := by pointwise

theorem run_call {β : Type} {q : Scr (Elt Ideal) M β} {k : β → Scr (Elt Ideal) M α} {S : St names (Elt Ideal)} (h : run q S fun b S' => run (k b) S' Q) : run (.call q k) S Q := h

theorem run_ret {a : α} {S : St names (Elt Ideal)} (h : Q a S) : run (.ret a : Scr (Elt Ideal) M α) S Q := h

theorem run_st0 {z : Vec Ideal S320x256 .f32} {k : Scr (Elt Ideal) M α} {S : St names (Elt Ideal)}
    (h : run k (Function.update S .acc (VecWindow.put (S .acc) ![0, 0] S320x256.size z)) Q) :
    run (.ld Nm.acc ![0, 0] S320x256.size inb_S320x256_S320x256_0_0 (View.loadsAt_vmem h_S320x256) fun _ => .st Nm.acc ![0, 0] S320x256.size inb_S320x256_S320x256_0_0 z (View.stores_vmem_bits_univ h_S320x256 rfl) (.inl rfl) k) S Q := ⟨rfl, h⟩

/-- A sweep takes its tiles one after another. -/
theorem run_sweep {A : Type} {s nT : BitVec 32} (Sw : Sweeps s nT) {n : ℕ} (h1 : Scf.trips 0#32 (midW nT) 1#32 = n + 1) (h2 : Scf.trips (midW nT) (endW nT) 1#32 = 0) {init : A}
    {body : (w : BitVec 32) → Fits s w → A → Scr (Elt Ideal) M A} {k : A → Scr (Elt Ideal) M α} {S : St names (Elt Ideal)} (I : ℕ → A → St names (Elt Ideal) → Prop) (h0 : I 0 init S)
    (hs : ∀ j w hw a S', w = BitVec.ofNat 32 j → j < n + 1 → I j a S' → run (body w hw a) S' (I (j + 1)))
    (hk : ∀ a S', I (n + 1) a S' → run (k a) S' Q) : run (sweep s nT Sw init body k) S Q := by
  refine ⟨I, h0, fun t a S' hI => hs t.val _ _ a S' (iv_eq t.val) (t.isLt.trans_eq h1) hI, fun a S' hI => ⟨fun _ a S => I (n + 1) a S, h1 ▸ hI, fun t => absurd (t.isLt.trans_eq h2) (Nat.not_lt_zero _), fun a S' hI => hk a S' hI⟩⟩

theorem run_stP (c r : ℕ) (hc : c < 2) (hr : r + 256 ≤ 2048) (x : FVec Ideal S256x256 .f32) {k : Scr (Elt Ideal) M α} {S : St names (Elt Ideal)}
    (hk : ∀ S', Chg [.p0] S S' →
      (∀ (c' : Fin 2) (k : Fin 2048) (a q : Fin 256), c'.val = c → k.val = r + a.val → Pb false S' (ix3 c' k q) = x (ix2 a q)) →
      (∀ (c' : Fin 2) (k : Fin 2048) (q : Fin 256), c'.val ≠ c ∨ k.val < r ∨ r + 256 ≤ k.val → Pb false S' (ix3 c' k q) = Pb false S (ix3 c' k q)) → run k S' Q) :
    run (ldP false c r hc hr fun _ => stP false c r hc hr (asP x) k) S Q := by
  refine ⟨rfl, hk _ (Chg.update _ _ _) ?_ ?_⟩
  · rintro ⟨_, _⟩ ⟨_, _⟩ a q rfl rfl
    exact (win_p _ _ r hc hr a q).symm.trans ((congrFun (VecWindow.window_put_same (S .p0) _ _ (inb_p _ _ hc hr) _) _).trans (asP_apply x a q))
  · rintro c' k q (hn | hn)
    · exact put_out (S .p0) _ _ _ _ (0 : Fin 3) (by show c'.val < c ∨ c + 1 ≤ c'.val; omega)
    · exact put_out (S .p0) _ _ _ _ (1 : Fin 3) hn

variable {D : Data} {n : ℕ} (hn : D.f + n = D.i) (C : Cst Ideal) (hC : C.alpha = D.alpha) (hV : C.invV = D.invV) (hm : C.masked = (⊥ : EReal)) (hD : D.Doc)
variable (seg : IVec S1x256 32) (hseg : ∀ q : Fin 256, seg (ix2 0 q) = D.SG (256 * D.i + q.val))
variable {b i : ℕ} (hb : b < 24) (eb : D.b = b) (ei : D.i = i) {s nT : BitVec 32} (hs : s.toNat = D.st) (Sw : Sweeps s nT)
  (h1 : Scf.trips 0#32 (midW nT) 1#32 = n + 1) (h2 : Scf.trips (midW nT) (endW nT) 1#32 = 0)

include hn hC hm hD hseg eb ei hs in
theorem run_slowScores (H : ℕ) (hH : H < 6) (c : ℕ) (hc : c < 2) {j : ℕ} {w : BitVec 32} (hw : Fits s w) (ew : w = BitVec.ofNat 32 j) (hj : j < n + 1) {S : St names (Elt Ideal)} (g : Good D 6 S)
    {k : FVec Ideal S256x256 .f32 → Scr (Elt Ideal) M α} (hk : ∀ x : FVec Ideal S256x256 .f32, (∀ r q : Fin 256, (x (ix2 r q) : EReal) = D.M H c q (256 * (D.f + j) + r.val)) → run (k x) S Q) :
    run (slowScores C b i hb s H hH seg c hc w hw k) S Q := by
  subst ew
  have hst := hD.st_le
  have hi := hD.hi
  have hs' : s.toNat ≤ 2048 := by omega
  have hj8 : j < 8 := by omega
  have ef : s.toNat / 256 = D.f := by rw [hs]; rfl
  have eR : rowS s (BitVec.ofNat 32 j) = 256 * (D.f + j) := by rw [rowS_eq hs' hj8, ef]
  have eT : tabS s (BitVec.ofNat 32 j) = D.f + j := by rw [tabS_eq hs' hj8, ef]
  refine hk _ fun r q => ?_
  have hlt : rowS s (BitVec.ofNat 32 j) + r.val < 256 * (D.i + 1) := by rw [eR]; have := r.isLt; omega
  have hR := hw.row
  rw [slowTile_apply, scoreTile_apply, hC, hm, hseg]
  have e0 : (VecWindow.window (S .qs) ![0, H, c, 0] S1x1x1x256.size (inb_qs H c hH hc) (ix4 0 0 0 q) : EReal) = D.QS H c q := (win_qs (S .qs) H c hH hc q).trans (g.qs ⟨H, hH⟩ ⟨c, hc⟩ q)
  have e1 : ∀ d : Fin 160, (VecWindow.window (S .kt) ![H, c, rowS s (BitVec.ofNat 32 j), 0] S1x1x256x160.size (inb_kt H c _ hH hc hR) (ix4 0 0 r d) : EReal) = D.K H c (256 * (D.f + j) + r.val) d := fun d => by
    rw [win_kt (S .kt) H c _ hH hc hR r d]
    refine (g.kt ⟨H, hH⟩ ⟨c, hc⟩ ⟨rowS s (BitVec.ofNat 32 j) + r.val, by omega⟩ d (.inr ⟨hH, hlt⟩)).trans ?_
    show D.K H c (rowS s (BitVec.ofNat 32 j) + r.val) d = _
    rw [eR]
  have e2 : ∀ d : Fin 160, (VecWindow.window (S .q) ![0, H, c, 0, 0] S1x1x1x160x256.size (inb_q H c hH hc) (ix5 0 0 0 d q) : EReal) = D.Q H c d q := fun d => by
    rw [win_q (S .q) H c hH hc d q]
    exact g.q ⟨H, hH⟩ ⟨c, hc⟩ d q
  have e3 : ∀ l : Fin 128, (VecWindow.window (S .ksr) ![H, c, rowS s (BitVec.ofNat 32 j), 0] S1x1x256x128.size (inb_ksr H c _ hH hc hR) (ix4 0 0 r l) : EReal) = D.KS H c (256 * (D.f + j) + r.val) := fun l => by
    rw [win_ksr (S .ksr) H c _ hH hc hR r l]
    refine (g.ksr ⟨H, hH⟩ ⟨c, hc⟩ ⟨rowS s (BitVec.ofNat 32 j) + r.val, by omega⟩ l (.inr ⟨hH, hlt⟩)).trans ?_
    show D.KS H c (rowS s (BitVec.ofNat 32 j) + r.val) = _
    rw [eR]
  have ex : ((∑ d : Fin 160, (VecWindow.window (S .kt) ![H, c, rowS s (BitVec.ofNat 32 j), 0] S1x1x256x160.size (inb_kt H c _ hH hc hR) (ix4 0 0 r d)) * (VecWindow.window (S .q) ![0, H, c, 0, 0] S1x1x1x160x256.size (inb_q H c hH hc) (ix5 0 0 0 d q)) : EReal) *
      (VecWindow.window (S .ksr) ![H, c, rowS s (BitVec.ofNat 32 j), 0] S1x1x256x128.size (inb_ksr H c _ hH hc hR) (ix4 0 0 r ⟨q.val % 128, Nat.mod_lt _ (by decide)⟩)) *
      ((VecWindow.window (S .qs) ![0, H, c, 0] S1x1x1x256.size (inb_qs H c hH hc) (ix4 0 0 0 q)) * D.alpha) : EReal) = D.x H c q (256 * (D.f + j) + r.val) := by
    unfold Data.x
    exact congrArg₂ (· * ·) (congrArg₂ (· * ·) (Finset.sum_congr rfl fun d _ => congrArg₂ (· * ·) (e1 d) (e2 d)) (e3 _)) (congrArg (· * D.alpha) e0)
  have eh : (VecWindow.window (S .head) ![0, 0] S256x128.size inb_S256x128_S256x128_0_0 (ix2 r ⟨q.val % 128, Nat.mod_lt _ (by decide)⟩) : EReal) = if D.st ≤ 256 * D.f + r.val then ⊤ else ⊥ :=
    (win_all (S .head) ![0, 0] inb_S256x128_S256x128_0_0 _).trans (g.head r _)
  have ec : (VecWindow.window (S .causal) ![0, 0] S256x256.size inb_S256x256_S256x256_0_0 (ix2 r q) : EReal) = if D.SG (256 * D.i + r.val) = D.SG (256 * D.i + q.val) ∧ r.val ≤ q.val then ⊤ else ⊥ :=
    (win_all (S .causal) ![0, 0] inb_S256x256_S256x256_0_0 _).trans (g.causal r q)
  have el : VecWindow.window (S .last) ![wordN b, tabS s (BitVec.ofNat 32 j)] S1x1.size (inb_tab _ _ (by rw [wordN_eq hb]; exact hb) hw.tab) (Shape.Idx.first (numel1_S1x1.symm ▸ Nat.one_pos)) = D.SG (256 * (D.f + j) + 255) := by
    rw [win_tab (S .last) _ _ (by rw [wordN_eq hb]; exact hb) hw.tab]
    refine (g.last ⟨wordN b, by rw [wordN_eq hb]; exact hb⟩ ⟨tabS s (BitVec.ofNat 32 j), hw.tab⟩ ((wordN_eq hb).trans eb.symm)).trans ?_
    show D.SG (256 * tabS s (BitVec.ofNat 32 j) + 255) = _
    rw [eT]
  have eS : tileS s (BitVec.ofNat 32 j) = BitVec.ofNat 32 (D.f + j) := by
    show firstW s + BitVec.ofNat 32 j = _
    rw [firstW_eq hs', ef, BitVec.ofNat_add]
  have sel : ∀ {β : Type} (a b : BitVec 32) (x y : β), Scalar.select (Scalar.cmpi .eq a b) x y = if a = b then x else y := fun a b x y => select_eq a b x y
  have q1 : (BitVec.ofNat 32 (D.f + j) = BitVec.ofNat 32 i) ↔ D.f + j = D.i := by
    constructor
    · intro h
      have := congrArg BitVec.toNat h
      rw [BitVec.toNat_ofNat, BitVec.toNat_ofNat] at this; omega
    · intro h; rw [h, ei]
  have q2 : (BitVec.ofNat 32 j = 0#32) ↔ j = 0 := by
    constructor
    · intro h
      have := congrArg BitVec.toNat h
      rw [BitVec.toNat_ofNat, BitVec.toNat_ofNat] at this; omega
    · intro h; rw [h]
  refine (congrArg₂ (fun (u : EReal) (l : BitVec 32) => Scalar.select (IntOp.cmpi .eq (Scalar.select (Scalar.cmpi .eq (tileS s (BitVec.ofNat 32 j)) (BitVec.ofNat 32 i)) (D.SG (256 * D.i + q.val)) l) (D.SG (256 * D.i + q.val)))
      (Scalar.select (Scalar.cmpi .eq (tileS s (BitVec.ofNat 32 j)) (BitVec.ofNat 32 i))
        (min (Scalar.select (Scalar.cmpi .eq (BitVec.ofNat 32 j) 0#32) (min u (VecWindow.window (S .head) ![0, 0] S256x128.size inb_S256x128_S256x128_0_0 (ix2 r ⟨q.val % 128, Nat.mod_lt _ (by decide)⟩))) u : EReal) (VecWindow.window (S .causal) ![0, 0] S256x256.size inb_S256x256_S256x256_0_0 (ix2 r q)))
        (Scalar.select (Scalar.cmpi .eq (BitVec.ofNat 32 j) 0#32) (min u (VecWindow.window (S .head) ![0, 0] S256x128.size inb_S256x128_S256x128_0_0 (ix2 r ⟨q.val % 128, Nat.mod_lt _ (by decide)⟩))) u)) ⊥) ex el).trans ?_
  simp only [eh, ec, sel, select_eq, eS, q1, q2, min_cap]
  unfold Data.M
  have hq := q.isLt
  have hr := r.isLt
  by_cases hl : D.f + j = D.i
  · rw [if_pos hl, if_pos rfl, if_pos hl, hl]
    have hv : D.vis q (256 * D.i + r.val) ↔ (D.SG (256 * D.i + r.val) = D.SG (256 * D.i + q.val) ∧ r.val ≤ q.val) := by
      unfold Data.vis
      exact ⟨fun h => ⟨h.2, by omega⟩, fun h => ⟨by omega, h.1⟩⟩
    rw [← if_congr hv rfl rfl]
    by_cases hv' : D.vis q (256 * D.i + r.val)
    · rw [if_pos hv', if_pos hv']
      by_cases hj0 : j = 0
      · have := hD.start_le_of_vis hv'
        rw [if_pos hj0, if_pos (by subst hj0; rw [← hl] at this; simpa using this)]
      · rw [if_neg hj0]
    · rw [if_neg hv', if_neg hv']
  · rw [if_neg hl, if_neg hl]
    by_cases hsame : D.SG (256 * (D.f + j) + 255) = D.SG (256 * D.i + q.val)
    · rw [if_pos hsame]
      have hv := hD.vis_of_same (t := D.f + j) (q := q) (r := r) (by omega) (by omega) hsame.symm
      rw [if_congr hv rfl rfl]
      by_cases hj0 : j = 0
      · subst hj0; rw [if_pos rfl]; rfl
      · rw [if_neg hj0, if_pos]
        have := hD.st_lt (t := D.f + j) (by omega); omega
    · rw [if_neg hsame, if_neg (hD.not_vis_of_other (by omega) fun h => hsame h.symm)]

/-- The first `m` tiles of map `c` hold the exponentials below the largest score. -/
def PB (D : Data) (H c m : ℕ) (S : St names (Elt Ideal)) : Prop :=
  ∀ (c' : Fin 2) (k : Fin 2048) (j : ℕ) (r q : Fin 256), c'.val = c → j < m → k.val = 256 * j + r.val → Pb false S (ix3 c' k q) = D.B H c q (256 * (D.f + j) + r.val)

/-- The total of the exponentials below the largest score. -/
def Data.TB (D : Data) (H c : ℕ) (q : Fin 256) : EReal := ∑ k ∈ Finset.range 2048, D.B H c q k

include hn hC hm hD hseg eb ei hs h1 h2 in
theorem run_slowMap (H : ℕ) (hH : H < 6) (c : ℕ) (hc : c < 2) {S : St names (Elt Ideal)} (g : Good D 6 S) {k : FVec Ideal S1x256 .f32 → Scr (Elt Ideal) M α}
    (hk : ∀ S' t, Chg [.p0] S S' → PB D H c (n + 1) S' → (∀ (c' : Fin 2) (k : Fin 2048) (q : Fin 256), c'.val ≠ c → Pb false S' (ix3 c' k q) = Pb false S (ix3 c' k q)) →
      (∀ q : Fin 256, (t (ix2 0 q) : EReal) = D.TB H c q) → run (k t) S' Q) :
    run (slowMap C b i hb s nT Sw H hH seg c hc k) S Q := by
  have hi := hD.hi
  refine run_sweep Sw h1 h2 (fun j a S' => S = S' ∧ ∀ q : Fin 256, (a (ix2 0 q) : EReal) = (Finset.range j).sup fun j' => (Finset.univ : Finset (Fin 256)).sup fun r => D.M H c q (256 * (D.f + j') + r.val))
    ⟨rfl, fun q => hm⟩ ?_ ?_
  · rintro j w hw a _ ew hj ⟨rfl, ha⟩
    refine run_slowScores hn C hC hm hD seg hseg hb eb ei hs H hH c hc hw ew hj g fun x hx => ⟨rfl, fun q => ?_⟩
    rw [Finset.range_add_one, Finset.sup_insert]
    refine (max_comm _ _).trans (congrArg₂ max ?_ (ha q))
    rw [colMax_apply, neg_inf]
    exact congrArg (fun f => Finset.fold max (⊥ : EReal) f Finset.univ) (funext fun r => hx r q)
  · rintro top _ ⟨rfl, ht⟩
    have ht' : ∀ q : Fin 256, (top (ix2 0 q) : EReal) = D.top H c q := fun q => (ht q).trans (hD.top_eq hn)
    refine run_sweep Sw h1 h2 (fun j a S' => Chg [.p0] S S' ∧ PB D H c j S' ∧ (∀ (c' : Fin 2) (k : Fin 2048) (q : Fin 256), c'.val ≠ c → Pb false S' (ix3 c' k q) = Pb false S (ix3 c' k q)) ∧
      ∀ q : Fin 256, (a (ix2 0 q) : EReal) = ∑ j' ∈ Finset.range j, ∑ r : Fin 256, D.B H c q (256 * (D.f + j') + r.val)) ?_ ?_ ?_
    · refine ⟨fun _ _ => rfl, fun _ _ j _ _ _ hj => absurd hj (Nat.not_lt_zero j), fun _ _ _ _ => rfl, fun q => ?_⟩
      rw [Finset.sum_range_zero]
      show (Ideal.ofBits FTy.f32 0#32 : EReal) = 0
      exact Ideal.ofBits_zero_f32
    · rintro j w hw a S' ew hj ⟨hc1, hp, ho, ha⟩
      refine run_slowScores hn C hC hm hD seg hseg hb eb ei hs H hH c hc hw ew hj (g.chg hc1 (by decide)) fun x hx => ?_
      have hB : ∀ r q : Fin 256, (below x top (ix2 r q) : EReal) = D.B H c q (256 * (D.f + j) + r.val) := fun r q => by rw [below_apply, hx, ht']; rfl
      have hat : atS w = 256 * j := by rw [ew, atS_eq (by omega)]
      refine run_stP c (atS w) hc hw.at_ (below x top) fun S'' c2 a1 a2 => ⟨hc1.trans c2 (fun _ h => h) (fun _ h => h), ?_, ?_, ?_⟩
      · intro c' k j' r q hc' hj' hk'
        by_cases e : j' = j
        · subst e; rw [a1 c' k r q hc' (by omega)]; exact hB r q
        · rw [a2 c' k q (by have := r.isLt; omega)]; exact hp c' k j' r q hc' (by omega) hk'
      · intro c' k q hne
        exact (a2 c' k q (.inl hne)).trans (ho c' k q hne)
      · intro q
        rw [Finset.sum_range_succ]
        refine congrArg₂ (· + ·) (ha q) ((colSum_apply _ q).trans (Finset.sum_congr rfl fun r _ => hB r q))
    · rintro t S' ⟨hc1, hp, ho, ha⟩
      exact hk S' t hc1 hp ho fun q => (ha q).trans (hD.totalB hn)

include hn hD hs h1 h2 in
theorem run_slowVal (H : ℕ) (hH : H < 6) {S : St names (Elt Ideal)} (g : Good D 6 S) (p0 : PB D H 0 (n + 1) S) (p1 : PB D H 1 (n + 1) S) (r0 r1 : FVec Ideal S1x256 .f32)
    (hr0 : ∀ q : Fin 256, (r0 (ix2 0 q) : EReal) = Ideal.div 1 (D.TB H 0 q)) (hr1 : ∀ q : Fin 256, (r1 (ix2 0 q) : EReal) = Ideal.div 1 (D.TB H 1 q) * D.lam)
    {k : Vec Ideal S320x256 .f32 → Scr (Elt Ideal) M α}
    (hk : ∀ S' z, Chg [.acc] S S' → (∀ (e : Fin 320) (q : Fin 256), (z (ix2 e q) : EReal) = D.av D.ws H q e) → run (k z) S' Q) :
    run (slowVal s nT Sw H hH r0 r1 k) S Q := by
  have hi := hD.hi
  have hst := hD.st_le
  refine run_st0 (run_sweep Sw h1 h2 (fun j _ S' => Chg [.acc] S S' ∧ ∀ (e : Fin 320) (q : Fin 256), (S' .acc (ix2 e q) : EReal) = ∑ j' ∈ Finset.range j, ∑ r : Fin 256, D.term D.ws H q e (256 * (D.f + j') + r.val)) ?_ ?_ ?_)
  · refine ⟨Chg.update _ _ _, fun e q => ?_⟩
    rw [Function.update_self, put_all (S .acc) ![0, 0] inb_S320x256_S320x256_0_0, Finset.sum_range_zero]
    exact zeroAcc_apply e q
  · rintro j w hw _ S' ew hj ⟨hc1, ha⟩
    have hat : atS w = 256 * j := by rw [ew, atS_eq (by omega)]
    have eR : rowS s w = 256 * (D.f + j) := by rw [ew, rowS_eq (by omega) (by omega), hs]; rfl
    have g' := g.chg hc1 (by decide)
    have hP : Pb false S' = Pb false S := Pb_chg hc1 (by decide)
    refine ldP_eq false 0 _ _ _ fun x0 hx0 => ldP_eq false 1 _ _ _ fun x1 hx1 => ⟨rfl, hc1.trans (Chg.update _ _ _) (fun _ h => h) (fun _ h => h), fun e q => ?_⟩
    rw [Function.update_self, put_all (S' .acc) ![0, 0] inb_S320x256_S320x256_0_0, Finset.sum_range_succ]
    refine (accStep_apply _ _ e q).trans (congrArg₂ (· + ·) ((win_all (S' .acc) ![0, 0] inb_S320x256_S320x256_0_0 _).trans (ha e q)) ?_)
    rw [av_apply]
    refine Finset.sum_congr rfl fun r _ => ?_
    have e2 : (VecWindow.window (S' .v16) ![H, 0, rowS s w] S1x320x256.size (inb_v16 H _ hH hw.row) (ix3 0 e r) : EReal) = D.V H e (256 * (D.f + j) + r.val) := by
      rw [win_v16 (S' .v16) H _ hH hw.row e r]
      refine (g'.v16 ⟨H, hH⟩ e ⟨rowS s w + r.val, by have := hw.row; omega⟩ (.inr ⟨hH, by show rowS s w + r.val < _; rw [eR]; have := r.isLt; omega⟩)).trans ?_
      show D.V H e (rowS s w + r.val) = _
      rw [eR]
    refine congrArg₂ (· * ·) e2 ?_
    rw [hx0, hx1, hP, hr0, hr1, p0 _ _ j r q rfl (by omega) (by show atS w + r.val = _; omega), p1 _ _ j r q rfl (by omega) (by show atS w + r.val = _; omega), ← mul_assoc]
    rfl
  · rintro _ S' ⟨hc1, ha⟩
    exact hk S' _ hc1 fun e q => (win_all (S' .acc) ![0, 0] inb_S320x256_S320x256_0_0 _).trans ((ha e q).trans (hD.av_eq D.ws (fun _ _ _ _ hv => Data.ws_eq_zero hv) hn))

variable (lam : Vec Ideal S1x1 .f32) (hl : (lam (ix2 0 0) : EReal) = D.lam)

include hn hC hV hm hD hseg eb ei hs h1 h2 hl in
theorem run_slowPair (t : ℕ) (ht : t < 3) {S : St names (Elt Ideal)} (g : Good D 6 S) (ho : Outs D D.ws (2 * t) S) {k : Scr (Elt Ideal) M α}
    (hk : ∀ S', Good D 6 S' → Outs D D.ws (2 * (t + 1)) S' → run k S' Q) : run (slowPair C W b i hb s nT Sw seg lam t ht k) S Q := by
  have E0 := evenW_eq ht
  have E1 := oddW_eq ht
  have Ec := colW_eq ht
  refine run_call (run_slowMap hn C hC hm hD seg hseg hb eb ei hs Sw h1 h2 (evenW t) _ 0 _ g fun S1 t0 c1 p1 n1 d1 => ?_)
  have g1 := g.chg c1 (by decide)
  refine run_slowMap hn C hC hm hD seg hseg hb eb ei hs Sw h1 h2 (evenW t) _ 1 _ g1 fun S2 t1 c2 p2 n2 d2 => run_ret (run_call ?_)
  have g2 := g1.chg c2 (by decide)
  have p1' : PB D (evenW t) 0 (n + 1) S2 := fun c' k j r q a b c => (n2 c' k q (by omega)).trans (p1 c' k j r q a b c)
  refine run_slowVal hn hD hs Sw h1 h2 (evenW t) _ g2 p1' p2 (recip t0) (lamRow (recip t1) lam) (fun q => by rw [recip_apply, d1]) (fun q => by rw [lamRow_apply, recip_apply, d2, hl]) fun S3 y c3 hy => ?_
  have g3 := g2.chg c3 (by decide)
  refine run_finHalf W C hV (evenW t) _ 0 _ _ 0 _ _ (fun q e => D.av D.ws (evenW t) q e) g3 (fun e l => (half0_apply y e l).trans ((hy e _).trans (congrArg (fun x => D.av D.ws (evenW t) x e) (Fin.ext (by simp))))) fun S4 c4 a4 b4 => run_ret (run_call ?_)
  have g4 := g3.chg c4 (by decide)
  refine run_finHalf W C hV (evenW t) _ 0 _ _ 128 _ _ (fun q e => D.av D.ws (evenW t) q e) g4 (fun e l => (half1_apply y e l).trans (hy e _)) fun S5 c5 a5 b5 => ?_
  have g5 := g4.chg c5 (by decide)
  refine run_slowMap hn C hC hm hD seg hseg hb eb ei hs Sw h1 h2 (oddW t) _ 0 _ g5 fun S6 t0' c6 p6 n6 d6 => run_ret (run_call ?_)
  have g6 := g5.chg c6 (by decide)
  refine run_slowMap hn C hC hm hD seg hseg hb eb ei hs Sw h1 h2 (oddW t) _ 1 _ g6 fun S7 t1' c7 p7 n7 d7 => ?_
  have g7 := g6.chg c7 (by decide)
  have p6' : PB D (oddW t) 0 (n + 1) S7 := fun c' k j r q a b c => (n7 c' k q (by omega)).trans (p6 c' k j r q a b c)
  refine run_slowVal hn hD hs Sw h1 h2 (oddW t) _ g7 p6' p7 (recip t0') (lamRow (recip t1') lam) (fun q => by rw [recip_apply, d6]) (fun q => by rw [lamRow_apply, recip_apply, d7, hl]) fun S8 y' c8 hy' => run_ret ?_
  have g8 := g7.chg c8 (by decide)
  refine run_finHalf W C hV (oddW t) _ 320 _ _ 0 _ _ (fun q e => D.av D.ws (oddW t) q e) g8 (fun e l => (half0_apply y' e l).trans ((hy' e _).trans (congrArg (fun x => D.av D.ws (oddW t) x e) (Fin.ext (by simp))))) fun S9 c9 a9 b9 => ?_
  have g9 := g8.chg c9 (by decide)
  refine run_finHalf W C hV (oddW t) _ 320 _ _ 128 _ _ (fun q e => D.av D.ws (oddW t) q e) g9 (fun e l => (half1_apply y' e l).trans (hy' e _)) fun S10 c10 a10 b10 => ?_
  have g10 := g9.chg c10 (by decide)
  refine run_emit W _ _ fun S11 c11 a11 b11 => ?_
  have eo : S10 .out = S .out := by
    rw [c10 .out (by decide), c9 .out (by decide), c8 .out (by decide), c7 .out (by decide), c6 .out (by decide), c5 .out (by decide), c4 .out (by decide), c3 .out (by decide), c2 .out (by decide), c1 .out (by decide)]
  refine hk S11 (g10.chg c11 (by decide)) (ho.emit eo ?_ (fun q a e h => a11 q a e (by rw [Ec]; exact h)) (fun q a h => b11 q a (by rw [Ec]; exact h)))
  intro a q u e hu ha
  have he := e.isLt
  obtain rfl | rfl : u = 0 ∨ u = 1 := by omega
  · rw [b10 a q (by omega), b9 a q (by omega), c8 .yt (by decide), c7 .yt (by decide), c6 .yt (by decide), ← E0]
    by_cases hq : q.val < 128
    · rw [b5 a q (by omega)]; exact a4 a q e ⟨q.val, hq⟩ (by omega) (by simp)
    · exact a5 a q e ⟨q.val - 128, by omega⟩ (by omega) (by show q.val = 128 + (q.val - 128); omega)
  · rw [← E1]
    by_cases hq : q.val < 128
    · rw [b10 a q (by omega)]; exact a9 a q e ⟨q.val, hq⟩ (by omega) (by simp)
    · exact a10 a q e ⟨q.val - 128, by omega⟩ (by omega) (by show q.val = 128 + (q.val - 128); omega)

include hn hC hV hm hD hseg eb ei hs h1 h2 hl in
theorem run_slow {Q : PUnit → St names (Elt Ideal) → Prop} {S : St names (Elt Ideal)} (g : Good D 6 S) (hk : ∀ S', Good D 6 S' → Outs D D.ws 6 S' → Q PUnit.unit S') : run (slow C W b i hb s nT Sw seg lam) S Q := by
  refine ⟨fun t _ S => Good D 6 S ∧ Outs D D.ws (2 * t) S, ⟨g, fun q a H e h => absurd h (by omega)⟩, ?_, ?_⟩
  · rintro t _ S' ⟨g', o'⟩
    show run (slowPair C W b i hb s nT Sw seg lam t.val (t.isLt.trans_eq trips3) (.ret PUnit.unit)) S' (fun _ S => Good D 6 S ∧ Outs D D.ws (2 * (t.val + 1)) S)
    exact run_slowPair W hn C hC hV hm hD seg hseg hb eb ei hs Sw h1 h2 lam hl t.val _ g' o' fun S'' g'' o'' => run_ret ⟨g'', o''⟩
  · rintro _ S' ⟨g', o'⟩
    rw [trips3] at o'
    exact hk S' g' o'

end Cert.DiffAttn

end
-- ==== Proof.Whole.lean ====
/-
  What the whole body leaves: the tile's output under the weights as the slow way takes them, whichever way was taken, and the keys and the
  values of the tile kept for the tiles that follow.
-/
module

public import proofs.«01_k».proof.Proof.FastAll
public import proofs.«01_k».proof.Proof.SlowRun

@[expose] public section

noncomputable section

namespace Cert.DiffAttn

open Idealize.ShloMosaic Idealize.ShloMosaic.Script
open Cert.KernelIdeal Cert.KernelIdeal.Facts₀ Cert.KernelIdeal.Facts

variable {sig : RefSig} {M : Mems names sig .tc} (W : ∀ b : Nm, (M b).IsWhole) {α : Type} {Q : α → St names (Elt Ideal) → Prop}

theorem win_ca {α : Type} (x : S256x256.Idx → α) (o : ℕ) (inb : ∀ a, (![0, o] : Fin 2 → ℕ) a + S256x128.size a ≤ S256x256.size a) (ho : o + 128 ≤ 256) (r : Fin 256) (l : Fin 128) :
    VecWindow.window x ![0, o] S256x128.size inb (ix2 r l) = x (ix2 r ⟨o + l.val, by omega⟩) := by
  refine congrArg x (funext fun a => Fin.ext ?_)
  fin_cases a <;> simp [Rect.unit, Rect.emb, ix2]

theorem win_lam (x : S1x128.Idx → EReal) (inb : ∀ a, (![0, 0] : Fin 2 → ℕ) a + S1x1.size a ≤ S1x128.size a) :
    VecWindow.window x ![0, 0] S1x1.size inb (ix2 0 0) = x (ix2 0 0) := by
  refine congrArg x (funext fun a => Fin.ext ?_)
  fin_cases a <;> simp [Rect.unit, Rect.emb, ix2]

theorem win_seg {α : Type} (x : S1x1x256.Idx → α) (inb : ∀ a, (![0, 0, 0] : Fin 3 → ℕ) a + S1x1x256.size a ≤ S1x1x256.size a) (y : S1x1x256.Idx) :
    VecWindow.window x ![0, 0, 0] S1x1x256.size inb y = x y := win_all x _ inb y

theorem lamCast_apply (x : FVec Ideal S1x1 .f32) : (shapeCast S1x1 x shapeCasts_S1x1_S1x1 (ix2 0 0) : EReal) = x (ix2 0 0) := by pointwise

theorem one8_apply (s : Fin 8) (q : Fin 256) : (one8 (F := Ideal) (ix2 s q) : EReal) = 1 := by
  have : (one8 (F := Ideal) (ix2 s q) : EReal) = Ideal.ofBits FTy.f32 1065353216#32 := by unfold one8; pointwise
  rw [this]; exact Ideal.ofBits_one_f32

theorem toInt_small {a : ℕ} (h : a < 10000) : (BitVec.ofNat 32 a).toInt = a := by
  rw [BitVec.toInt_eq_toNat_of_lt, BitVec.toNat_ofNat, Nat.mod_eq_of_lt (by omega)]
  rw [BitVec.toNat_ofNat]; omega

theorem sle_small {a b : ℕ} (ha : a < 10000) (hb : b < 10000) : (BitVec.ofNat 32 a).sle (BitVec.ofNat 32 b) = decide (a ≤ b) := by
  rw [BitVec.sle, toInt_small ha, toInt_small hb]
  exact decide_eq_decide.2 Nat.cast_le

theorem select_and {β : Type} {w : ℕ} (a b : BitVec w) (p : Bool) (x y : β) : Scalar.select (IntOp.andi (IntOp.cmpi .eq a b) (BitVec.ofBool p)) x y = if a = b ∧ p = true then x else y := by
  unfold Scalar.select IntOp.andi IntOp.cmpi
  by_cases h : a = b
  · cases p <;> simp [h]
  · have hb : (a == b) = false := beq_eq_false_iff_ne.mpr h
    cases p
    · simp [h]
    · simp only [h, false_and, if_false, hb]
      rfl

theorem select_bool {β : Type} (p : Bool) (x y : β) : Scalar.select (BitVec.ofBool p) x y = if p = true then x else y := by
  unfold Scalar.select
  cases p <;> simp

/-- What the body needs of the buffers. -/
structure Pre (D : Data) (S : St names (Elt Ideal)) : Prop where
  kt : ∀ (h : Fin 6) (c : Fin 2) (r : Fin 2048) (d : Fin 160), r.val < 256 * D.i → (S .kt (ix4 h c r d) : EReal) = D.K h.val c.val r.val d
  ksr : ∀ (h : Fin 6) (c : Fin 2) (r : Fin 2048) (l : Fin 128), r.val < 256 * D.i → (S .ksr (ix4 h c r l) : EReal) = D.KS h.val c.val r.val
  v16 : ∀ (h : Fin 6) (e : Fin 320) (r : Fin 2048), r.val < 256 * D.i → (S .v16 (ix3 h e r) : EReal) = D.V h.val e r.val
  q : ∀ (h : Fin 6) (c : Fin 2) (d : Fin 160) (q : Fin 256), (S .q (ix5 0 h c d q) : EReal) = D.Q h.val c.val d q
  qs : ∀ (h : Fin 6) (c : Fin 2) (q : Fin 256), (S .qs (ix4 0 h c q) : EReal) = D.QS h.val c.val q
  k : ∀ (h : Fin 6) (c : Fin 2) (d : Fin 160) (r : Fin 256), (S .k (ix5 0 h c d r) : EReal) = D.K h.val c.val (256 * D.i + r.val) d
  ks : ∀ (h : Fin 6) (c : Fin 2) (r : Fin 256), (S .ks (ix4 0 h c r) : EReal) = D.KS h.val c.val (256 * D.i + r.val)
  v : ∀ (h : Fin 6) (e : Fin 320) (r : Fin 256), (S .v (ix4 0 h e r) : EReal) = D.V h.val e (256 * D.i + r.val)
  vs : ∀ (h : Fin 6) (e : Fin 320) (l : Fin 128), (S .vs (ix3 h e l) : EReal) = D.VSC h.val e
  gain : ∀ (e : Fin 320) (l : Fin 128), (S .gain (ix2 e l) : EReal) = D.GA e
  last : ∀ (b : Fin 24) (t : Fin 8), b.val = D.b → S .last (ix2 b t) = D.SG (256 * t.val + 255)
  seg : ∀ q : Fin 256, S .seg (ix3 0 0 q) = D.SG (256 * D.i + q.val)
  lam : (S .lam (ix2 0 0) : EReal) = D.lam
  start : ∀ (b : Fin 24) (i : Fin 8), b.val = D.b → i.val = D.i → (S .start (ix2 b i) : BitVec 32).toNat = D.st

variable {D : Data} (C : Cst Ideal) (hC : C.alpha = D.alpha) (hV : C.invV = D.invV) (hm : C.masked = (⊥ : EReal)) (ho : C.opened = (⊤ : EReal)) (hD : D.Doc)

include hm ho hD in
theorem run_prefix {s : BitVec 32} (hs : s.toNat = D.st) {S : St names (Elt Ideal)} (p : Pre D S) {k : IVec S1x256 32 → Vec Ideal S1x1 .f32 → Scr (Elt Ideal) M α}
    (hk : ∀ S' (seg : IVec S1x256 32) (lam : Vec Ideal S1x1 .f32), Good D 0 S' → (∀ (s : Fin 8) (q : Fin 256), (S' .lo (ix2 s q) : EReal) = 1) → (∀ (s : Fin 8) (q : Fin 256), (S' .hi (ix2 s q) : EReal) = 1) →
      (∀ q : Fin 256, seg (ix2 0 q) = D.SG (256 * D.i + q.val)) → (lam (ix2 0 0) : EReal) = D.lam → run (k seg lam) S' Q) : run (prefixFlow C s k) S Q := by
  have hst := hD.st_le
  have hi := hD.hi
  have hf := hD.f_le
  refine ⟨rfl, rfl, rfl, rfl, rfl, hk _ _ _ ?_ ?_ ?_ ?_ ?_⟩
  · have hseg : ∀ q : Fin 256, segRow (F := Ideal) (VecWindow.window (S .seg) ![0, 0, 0] S1x1x256.size inb_S1x1x256_S1x1x256_0_0_0) (ix2 0 q) = D.SG (256 * D.i + q.val) := fun q =>
      (segRow_apply _ q).trans ((win_seg (S .seg) inb_S1x1x256_S1x1x256_0_0_0 _).trans (p.seg q))
    constructor
    · intro h c r d hr; exact p.kt h c r d (by omega)
    · intro h c r d hr; exact p.ksr h c r d (by omega)
    · intro h e r hr; exact p.v16 h e r (by omega)
    · exact p.q
    · exact p.qs
    · exact p.k
    · exact p.ks
    · exact p.v
    · exact p.vs
    · exact p.gain
    · exact p.last
    · intro r q
      rw [Function.update_of_ne (show Nm.causal ≠ Nm.hi by decide), Function.update_of_ne (show Nm.causal ≠ Nm.lo by decide), Function.update_of_ne (show Nm.causal ≠ Nm.head by decide), Function.update_self]
      have hr := r.isLt
      have hq := q.isLt
      by_cases h : q.val < 128
      · refine (put_out _ _ _ _ _ (1 : Fin 2) (.inl h)).trans ?_
        rw [Function.update_self]
        have e : (ix2 r q : S256x256.Idx) = ix2 r ⟨0 + (⟨q.val, h⟩ : Fin 128).val, by show 0 + q.val < 256; omega⟩ := congrArg (fun z : Fin 256 => ix2 r z) (Fin.ext (by simp))
        rw [e]
        refine (win_ca _ 0 inb_S256x256_S256x128_0_0 (by decide) r ⟨q.val, h⟩).symm.trans ((congrFun (VecWindow.window_put_same (S .causal) _ _ inb_S256x256_S256x128_0_0 _) _).trans ?_)
        rw [causal0_apply, hseg, hseg, hm, ho]
        refine (congrArg (fun z => Scalar.select (IntOp.andi (IntOp.cmpi .eq (D.SG (256 * D.i + r.val)) (D.SG (256 * D.i + q.val))) z) (⊤ : EReal) ⊥) (?_ : _ = BitVec.ofBool (decide (r.val ≤ q.val)))).trans ?_
        · show BitVec.ofBool ((BitVec.ofNat 32 r.val).sle (BitVec.ofNat 32 q.val + 0#32)) = _
          rw [BitVec.add_zero, sle_small (by omega) (by omega)]
        · rw [select_and]; simp
      · have e : (ix2 r q : S256x256.Idx) = ix2 r ⟨128 + (⟨q.val - 128, by omega⟩ : Fin 128).val, by show 128 + (q.val - 128) < 256; omega⟩ := congrArg (fun z : Fin 256 => ix2 r z) (Fin.ext (by show q.val = 128 + (q.val - 128); omega))
        have e1 : (⟨128 + (⟨q.val - 128, by omega⟩ : Fin 128).val, by show 128 + (q.val - 128) < 256; omega⟩ : Fin 256) = q := Fin.ext (by show 128 + (q.val - 128) = q.val; omega)
        conv_lhs => rw [e]
        refine (win_ca _ 128 inb_S256x256_S256x128_0_128 (by decide) r ⟨q.val - 128, by omega⟩).symm.trans ((congrFun (VecWindow.window_put_same _ _ _ inb_S256x256_S256x128_0_128 _) _).trans ?_)
        rw [causal1_apply, hseg, hseg, hm, ho, e1]
        refine (congrArg (fun z => Scalar.select (IntOp.andi (IntOp.cmpi .eq (D.SG (256 * D.i + r.val)) (D.SG (256 * D.i + q.val))) z) (⊤ : EReal) ⊥) (?_ : _ = BitVec.ofBool (decide (r.val ≤ q.val)))).trans ?_
        · show BitVec.ofBool ((BitVec.ofNat 32 r.val).sle (BitVec.ofNat 32 (q.val - 128) + BitVec.ofNat 32 128)) = _
          rw [← BitVec.ofNat_add, Nat.sub_add_cancel (by omega), sle_small (by omega) (by omega)]
        · rw [select_and]; simp
    · intro r l
      have hr := r.isLt
      rw [Function.update_of_ne (show Nm.head ≠ Nm.hi by decide), Function.update_of_ne (show Nm.head ≠ Nm.lo by decide), Function.update_self]
      refine (congrFun (put_all (s := S256x128) _ ![0, 0] inb_S256x128_S256x128_0_0 _) _).trans ?_
      rw [headMask_apply, hm, ho, firstW_eq (by omega), hs]
      refine (congrArg (fun z => Scalar.select z (⊤ : EReal) ⊥) (?_ : _ = BitVec.ofBool (decide (D.st ≤ 256 * D.f + r.val)))).trans ?_
      · show BitVec.ofBool (s.sle (BitVec.ofNat 32 r.val + BitVec.ofNat 32 (D.st / 256) * BitVec.ofNat 32 256)) = _
        have hmul : BitVec.ofNat 32 (D.st / 256) * BitVec.ofNat 32 256 = BitVec.ofNat 32 (D.st / 256 * 256) := (BitVec.ofNat_mul (D.st / 256) 256).symm
        have hsw : s = BitVec.ofNat 32 D.st := by rw [← hs, BitVec.ofNat_toNat, BitVec.setWidth_eq]
        rw [hmul, ← BitVec.ofNat_add, hsw, sle_small (by omega) (by omega)]
        refine congrArg BitVec.ofBool (decide_eq_decide.2 ?_)
        unfold Data.f; omega
      · rw [select_bool]; simp
  · intro t q
    rw [Function.update_of_ne (show Nm.lo ≠ Nm.hi by decide), Function.update_self]
    exact (congrFun (put_all (s := S8x256) _ ![0, 0] inb_S8x256_S8x256_0_0 _) _).trans (one8_apply t q)
  · intro t q
    rw [Function.update_self]
    exact (congrFun (put_all (s := S8x256) _ ![0, 0] inb_S8x256_S8x256_0_0 _) _).trans (one8_apply t q)
  · exact fun q => (segRow_apply _ q).trans ((win_seg (S .seg) inb_S1x1x256_S1x1x256_0_0_0 _).trans (p.seg q))
  · exact (lamCast_apply _).trans ((win_lam (S .lam) _).trans p.lam)

/-- What the body leaves. -/
structure Left (D : Data) (S : St names (Elt Ideal)) : Prop where
  kt : ∀ (h : Fin 6) (c : Fin 2) (r : Fin 2048) (d : Fin 160), r.val < 256 * (D.i + 1) → (S .kt (ix4 h c r d) : EReal) = D.K h.val c.val r.val d
  ksr : ∀ (h : Fin 6) (c : Fin 2) (r : Fin 2048) (l : Fin 128), r.val < 256 * (D.i + 1) → (S .ksr (ix4 h c r l) : EReal) = D.KS h.val c.val r.val
  v16 : ∀ (h : Fin 6) (e : Fin 320) (r : Fin 2048), r.val < 256 * (D.i + 1) → (S .v16 (ix3 h e r) : EReal) = D.V h.val e r.val
  out : ∀ (q : Fin 256) (a : Fin 1920) (H : ℕ) (e : Fin 320), H < 6 → a.val = 320 * H + e.val → (S .out (ix3 0 q a) : EReal) = D.y D.ws H q e

theorem Left.of {S : St names (Elt Ideal)} (g : Good D 6 S) (o : Outs D D.ws 6 S) : Left D S where
  kt h c r d hr := g.kt h c r d (.inr ⟨h.isLt, hr⟩)
  ksr h c r d hr := g.ksr h c r d (.inr ⟨h.isLt, hr⟩)
  v16 h c r hr := g.v16 h c r (.inr ⟨h.isLt, hr⟩)
  out q a H e := o q a H e

theorem lo_pos : (0 : EReal) < Ideal.ofBits FTy.f32 562036736#32 := by
  simp [Ideal.ofBits, Ideal.ieee]
  rw [← EReal.coe_mul]
  exact EReal.coe_pos.2 (by positivity)

theorem hi_lt : (Ideal.ofBits FTy.f32 1904214016#32 : EReal) < ⊤ := by
  simp [Ideal.ofBits, Ideal.ieee]
  rw [← EReal.coe_pow, ← EReal.coe_mul]
  exact EReal.coe_lt_top _

theorem run_asm {P : Prop} {d : Decidable P} {k : P → Scr (Elt Ideal) M α} {S : St names (Elt Ideal)} (h : P) (hr : run (k h) S Q) : run (.asm P d k) S Q := ⟨h, hr⟩

theorem run_cond {P : Prop} {d : Decidable P} {t : P → Scr (Elt Ideal) M α} {e : ¬ P → Scr (Elt Ideal) M α} {S : St names (Elt Ideal)} (h : ∀ h : P, run (t h) S Q) (h' : ∀ h : ¬ P, run (e h) S Q) : run (.cond P d t e) S Q := ⟨h, h'⟩

theorem run_ld {b : Nm} {off size : Fin (names.shape b).rank → ℕ} {inb : ∀ a, off a + size a ≤ (names.shape b).size a} {hl : (M b).view.LoadsAt (Rect.unit off size inb).toLoadRect}
    {k : ((Rect.unit off size inb).shape.Idx → Elt Ideal (names.elt b)) → Scr (Elt Ideal) M α} {S : St names (Elt Ideal)} (h : run (k (VecWindow.window (S b) off size inb)) S Q) : run (.ld b off size inb hl k) S Q := h

theorem run_ldStart {b i : ℕ} (hb : b < 24) (hi : i < 8) (eb : D.b = b) (ei : D.i = i) {S : St names (Elt Ideal)} (p : Pre D S) {k : BitVec 32 → Scr (Elt Ideal) M α}
    (hk : ∀ s : BitVec 32, s.toNat = D.st → run (k s) S Q) : run (ldStart (wordN b) (wordN i) (by rw [wordN_eq hb]; exact hb) (by rw [wordN_eq (by omega)]; exact hi) k) S Q := by
  have hbw := wordN_eq hb
  have hiw := wordN_eq (b := i) (by omega)
  refine hk _ ?_
  rw [win_tab (S .start) _ _ (by rw [hbw]; exact hb) (by rw [hiw]; exact hi)]
  exact p.start _ _ (hbw.trans eb.symm) (hiw.trans ei.symm)

/-- In range, the fast way's output is the slow way's. -/
theorem left_of_fast {S2 : St names (Elt Ideal)} (p2 : Post D S2)
    (hno : ¬ outOf (loOk (F := Ideal) (shapeCast S1x8x256 (VecWindow.window (S2 .lo) ![0, 0] S8x256.size inb_S8x256_S8x256_0_0 : FVec Ideal S8x256 .f32) shapeCasts_S8x256_S1x8x256)) (hiOk (F := Ideal) (shapeCast S1x8x256 (VecWindow.window (S2 .hi) ![0, 0] S8x256.size inb_S8x256_S8x256_0_0 : FVec Ideal S8x256 .f32) shapeCasts_S8x256_S1x8x256)) = 1#1) :
    Left D S2 := by
  obtain ⟨l1, l2⟩ := outOf_eq _ _ hno
  refine Left.of p2.good fun q a H e hH ha => ?_
  rw [p2.outs q a H e hH ha]
  refine Data.y_congr (fun c hc k hk => ?_) e
  obtain ⟨b1, b2⟩ := p2.bd H c 0 q hH hc
  refine Data.ws_eq_wf ?_ ?_ k hk
  · exact ne_of_gt (lo_pos.trans_le ((lo_of_loOk _ l1 0 q).trans ((win_all (S2 .lo) ![0, 0] inb_S8x256_S8x256_0_0 _).le.trans b1)))
  · exact ne_of_lt ((b2.trans ((win_all (S2 .hi) ![0, 0] inb_S8x256_S8x256_0_0 _).symm.le.trans (hi_of_hiOk _ l2 0 q))).trans_lt hi_lt)

include hC hV hm ho hD in
theorem run_whole {b i : ℕ} (hb : b < 24) (hi : i < 8) (eb : D.b = b) (ei : D.i = i) {P₁ : BitVec 32 → Prop} {d₁ : ∀ s, Decidable (P₁ s)} {h₁ : ∀ s, P₁ s → ∀ n, n < 8 → isW (tilesW i s) (BitVec.ofNat 32 (n + 1)) = 1#1 → n ≤ i}
    {P₂ : BitVec 32 → BitVec 1 → BitVec 1 → Prop} {d₂ : ∀ s l h, Decidable (P₂ s l h)} {h₂ : ∀ s l h, P₂ s l h → outOf l h = 1#1 → Sweeps s (tilesW i s)}
    (c₁ : ∀ s : BitVec 32, s.toNat ≤ 2048 → P₁ s) (c₂ : ∀ (s : BitVec 32) l u, s.toNat ≤ 2048 → P₂ s l u) {S : St names (Elt Ideal)} (p : Pre D S) :
    run (body C W b i hb hi P₁ d₁ h₁ P₂ d₂ h₂ : Scr (Elt Ideal) M PUnit) S fun _ S' => Left D S' := by
  have hst := hD.st_le
  have hf := hD.f_le
  refine run_ldStart hb hi eb ei p fun s hs => ?_
  have hs' : s.toNat ≤ 2048 := by omega
  refine run_asm (c₁ s hs') ?_
  obtain ⟨n, hn⟩ : ∃ n, D.f + n = D.i := ⟨D.i - D.f, by omega⟩
  have ef : s.toNat / 256 = D.f := by rw [hs]; rfl
  have htw : tilesW i s = BitVec.ofNat 32 i - BitVec.ofNat 32 D.f + 1#32 := by rw [tilesW_eq hs', ef]
  have ht : tilesW i s = BitVec.ofNat 32 (n + 1) := by
    rw [htw, show i = D.f + n by omega, BitVec.ofNat_add, BitVec.ofNat_add]
    rw [BitVec.add_comm (BitVec.ofNat 32 D.f), BitVec.add_sub_cancel]
  have t1 : Scf.trips 0#32 (midW (tilesW i s)) 1#32 = n + 1 := by
    rw [htw]; exact (trips1 ⟨i, hi⟩ ⟨D.f, by omega⟩).trans (by show i + 1 - D.f = _; omega)
  have t2 : Scf.trips (midW (tilesW i s)) (endW (tilesW i s)) 1#32 = 0 := by
    rw [htw]; exact trips2 ⟨i, hi⟩ ⟨D.f, by omega⟩
  refine run_prefix C hm ho hD hs p fun S1 seg lam g1 hlo hhi hseg hl => run_call ?_
  refine run_fast W C hC hV hD seg hseg lam hl hb hi eb ei hn ht ht _ _ (fun S2 p2 => ?_) S1 g1
  refine run_ld ?_
  refine run_ret ?_
  refine run_ld ?_
  refine run_asm (c₂ _ _ _ hs') ?_
  refine run_cond (fun _ => ?_) fun hno => run_ret ?_
  · exact run_slow W hn C hC hV hm hD seg hseg hb eb ei hs _ t1 t2 lam hl p2.good fun S' g' o' => Left.of g' o'
  · exact left_of_fast p2 hno

end Cert.DiffAttn

end
-- ==== Proof.RefVal.lean ====
/-
  The reference program, one element at a time: every element of its result, as a formula over its arguments.
-/
module

public import proofs.«01_k».proof.Proof.Gen.ReferenceIdeal.Read
public import proofs.«01_k».proof.Proof.Whole
public import Idealize.ShloMosaic.Lib.Pointwise
public import Idealize.ShloMosaic.Lib.IdealHost

@[expose] public section

noncomputable section

namespace Cert.DiffAttn.Ref

open Cert.ReferenceIdeal Cert.ReferenceIdeal.Gen Cert.ReferenceIdeal.Read
open Idealize.ShloMosaic

variable (x1 x3 : S24x2048x6x2.Idx → EReal) (x5 : S6x320.Idx → EReal) (x6 : S24x2048.Idx → BitVec 32) (x11 : S320.Idx → EReal)
  (r0 r1 : S24x2048x6x2x160.Idx → EReal) (r2 : S24x2048x6x320.Idx → EReal) (e0 : S_.Idx → EReal)

/-- A scaled score. -/
def score (b : Fin 24) (h : Fin 6) (c : Fin 2) (q k : Fin 2048) : EReal :=
  (∑ d : Fin 160, r0 (ix5 b q h c d) * r1 (ix5 b k h c d)) * x1 (ix4 b q h c) * x3 (ix4 b k h c) * Ideal.ofBits .f32 0x3DA1E89B#32

/-- The scores a query sees; the others are minus infinity. -/
def R (b : Fin 24) (h : Fin 6) (c : Fin 2) (q k : Fin 2048) : EReal :=
  if k.val ≤ q.val ∧ x6 (ix2 b k) = x6 (ix2 b q) then score x1 x3 r0 r1 b h c q k else ⊥

/-- The softmax of a row. -/
def P (b : Fin 24) (h : Fin 6) (c : Fin 2) (q k : Fin 2048) : EReal :=
  Ideal.exp (R x1 x3 x6 r0 r1 b h c q k - Finset.univ.sup (R x1 x3 x6 r0 r1 b h c q))
    * Ideal.div 1 (∑ k : Fin 2048, Ideal.exp (R x1 x3 x6 r0 r1 b h c q k - Finset.univ.sup (R x1 x3 x6 r0 r1 b h c q)))

/-- The difference of the two maps on the values, in the values' scale. -/
def O (b : Fin 24) (s : Fin 2048) (h : Fin 6) (e : Fin 320) : EReal :=
  (∑ k : Fin 2048, r2 (ix4 b k h e) * (P x1 x3 x6 r0 r1 b h 0 s k - e0 ix0 * P x1 x3 x6 r0 r1 b h 1 s k)) * x5 (ix2 h e)

/-- The result. -/
def Y (b : Fin 24) (s : Fin 2048) (h : Fin 6) (e : Fin 320) : EReal :=
  O x1 x3 x5 x6 r0 r1 r2 e0 b s h e
    * Ideal.rsqrt (Ideal.div (∑ e : Fin 320, O x1 x3 x5 x6 r0 r1 r2 e0 b s h e * O x1 x3 x5 x6 r0 r1 r2 e0 b s h e) (Ideal.ofBits .f32 0x43A00000#32) + Ideal.ofBits .f32 0x3727C5AC#32)
    * x11 (ix1 e) * Ideal.ofBits .f32 0x3F4CCCCD#32

section
variable (b : Fin 24) (h : Fin 6) (c : Fin 2) (q k : Fin 2048)

theorem v9_at : val_main_v9 (F := Ideal) r0 r1 (ix5 b h c q k) = ∑ d : Fin 160, r0 (ix5 b q h c d) * r1 (ix5 b k h c d) :=
  (val_main_v9_apply r0 r1 _).trans (Finset.sum_congr rfl fun _ _ => congrArg₂ (fun a b : EReal => a * b) (congrArg r0 (eq_ix5 _)) (congrArg r1 (eq_ix5 _)))

theorem v12_at : val_main_v12 (F := Ideal) x1 (ix5 b h c q k) = x1 (ix4 b q h c) := by
  rw [val_main_v12_apply, val_main_v11_apply, val_main_v10_apply]
  exact congrArg x1 (eq_ix4 _)

theorem v16_at : val_main_v16 (F := Ideal) x3 (ix5 b h c q k) = x3 (ix4 b k h c) := by
  rw [val_main_v16_apply, val_main_v15_apply, val_main_v14_apply]
  exact congrArg x3 (eq_ix4 _)

theorem v18_at : val_main_v18 (F := Ideal) (ix5 b h c q k) = Ideal.ofBits .f32 0x3DA1E89B#32 := by
  rw [val_main_v18_apply]; rfl

theorem v19_at : val_main_v19 (F := Ideal) x1 x3 r0 r1 (ix5 b h c q k) = score x1 x3 r0 r1 b h c q k := by
  rw [val_main_v19_apply, val_main_v17_apply, val_main_v13_apply, v9_at, v12_at, v16_at, v18_at]
  rfl

theorem v25_at : val_main_v25 (F := Ideal) (ix3 (0 : Fin 1) q k) = BitVec.ofBool (decide (k.val ≤ q.val)) := by
  rw [val_main_v25_apply, val_main_v23_apply, val_main_v21_apply, val_main_v20_apply, val_main_v24_apply, val_main_v22_apply, val_main_v20_apply]
  refine congrArg BitVec.ofBool ?_
  exact sle_small (lt_trans k.isLt (by decide)) (lt_trans q.isLt (by decide))

theorem v30_at : val_main_v30 (F := Ideal) x6 (ix3 b q k) = IntOp.cmpi .eq (x6 (ix2 b k)) (x6 (ix2 b q)) := by
  rw [val_main_v30_apply, val_main_v28_apply, val_main_v26_apply, val_main_v29_apply, val_main_v27_apply]
  exact congrArg₂ (IntOp.cmpi .eq) (congrArg x6 (eq_ix2 _)) (congrArg x6 (eq_ix2 _))

theorem mask_at : val_main_call0_v1 (F := Ideal) x6 (ix5 b h c q k)
    = IntOp.andi (BitVec.ofBool (decide (k.val ≤ q.val))) (IntOp.cmpi .eq (x6 (ix2 b k)) (x6 (ix2 b q))) := by
  rw [val_main_call0_v1_apply, val_main_v33_apply, val_main_v32_apply, val_main_v31_apply]
  refine congrArg₂ IntOp.andi ((congrArg (val_main_v25 (F := Ideal)) (eq_ix3 _)).trans (v25_at q k)) ((congrArg (val_main_v30 (F := Ideal) x6) (eq_ix3 _)).trans (v30_at x6 b q k))

theorem v34_at : val_main_v34 (F := Ideal) x1 x3 x6 r0 r1 (ix5 b h c q k) = R x1 x3 x6 r0 r1 b h c q k := by
  have e : IntOp.andi (BitVec.ofBool (decide (k.val ≤ q.val))) (IntOp.cmpi .eq (x6 (ix2 b k)) (x6 (ix2 b q)))
      = IntOp.andi (IntOp.cmpi .eq (x6 (ix2 b k)) (x6 (ix2 b q))) (BitVec.ofBool (decide (k.val ≤ q.val))) := BitVec.and_comm _ _
  rw [val_main_v34_apply, mask_at, v19_at, val_main_call0_v2_apply, val_main_call0_v0_apply, e]
  refine (select_and _ _ _ _ _).trans ?_
  unfold R
  refine if_congr ?_ rfl neg_inf
  rw [decide_eq_true_iff]; exact and_comm

theorem v35_at : val_main_v35 (F := Ideal) x1 x3 x6 r0 r1 (ix4 b h c q) = Finset.univ.sup (R x1 x3 x6 r0 r1 b h c q) := by
  have hr : S24x6x2x2048x2048.Reduces [4] S24x6x2x2048 := by decide
  unfold val_main_v35
  refine (Host.reduce_eq_fold_single (FloatOps.maximumf (F := Ideal) (φ := .f32)) _ _ _ hr _ _).trans ?_
  have hf : (val_main_v34 (F := Ideal) x1 x3 x6 r0 r1 ∘ hr.lift (ix4 b h c q)) = fun k : Fin 2048 => R x1 x3 x6 r0 r1 b h c q k :=
    funext fun k => (congrArg (val_main_v34 (F := Ideal) x1 x3 x6 r0 r1) (show hr.lift (ix4 b h c q) k = ix5 b h c q (⟨k.val, k.isLt⟩ : Fin 2048) by
      funext a; apply Fin.ext; fin_cases a <;> rfl)).trans (v34_at x1 x3 x6 r0 r1 b h c q k)
  refine (congrArg (fun f => Finset.fold (max : EReal → EReal → EReal) (Ideal.ofBits .f32 0xFF800000#32) f (Finset.univ : Finset (Fin 2048))) hf).trans ?_
  rw [show (Ideal.ofBits .f32 0xFF800000#32 : EReal) = ⊥ from neg_inf]
  rfl

theorem v39_at : val_main_v39 (F := Ideal) x1 x3 x6 r0 r1 (ix5 b h c q k) = Ideal.exp (R x1 x3 x6 r0 r1 b h c q k - Finset.univ.sup (R x1 x3 x6 r0 r1 b h c q)) := by
  rw [val_main_v39_apply, val_main_v38_apply, v34_at, val_main_v37_apply, val_main_v36_apply]
  refine (congrArg (fun z : EReal => Ideal.exp (R x1 x3 x6 r0 r1 b h c q k - z)) (?_ : val_main_v35 (F := Ideal) x1 x3 x6 r0 r1 _ = _))
  exact (congrArg (val_main_v35 (F := Ideal) x1 x3 x6 r0 r1) (eq_ix4 _)).trans (v35_at x1 x3 x6 r0 r1 b h c q)

theorem v40_at : val_main_v40 (F := Ideal) x1 x3 x6 r0 r1 (ix4 b h c q) = ∑ k : Fin 2048, Ideal.exp (R x1 x3 x6 r0 r1 b h c q k - Finset.univ.sup (R x1 x3 x6 r0 r1 b h c q)) := by
  rw [val_main_v40_apply]
  refine (congrArg₂ (fun a b : EReal => a + b) (Ideal.ofBits_zero_f32 : _ = (0 : EReal)) (Finset.sum_congr rfl fun k _ => ?_)).trans (zero_add _)
  exact (congrArg (val_main_v39 (F := Ideal) x1 x3 x6 r0 r1) (eq_ix5 _)).trans (v39_at x1 x3 x6 r0 r1 b h c q k)

theorem v45_at : val_main_v45 (F := Ideal) x1 x3 x6 r0 r1 (ix5 b h c q k) = P x1 x3 x6 r0 r1 b h c q k := by
  rw [val_main_v45_apply, v39_at, val_main_v44_apply, val_main_v43_apply, val_main_v42_apply, val_main_v41_apply]
  refine congrArg₂ (fun a b : EReal => a * b) rfl (congrArg₂ Ideal.div Ideal.ofBits_one_f32 ?_)
  exact (congrArg (val_main_v40 (F := Ideal) x1 x3 x6 r0 r1) (eq_ix4 _)).trans (v40_at x1 x3 x6 r0 r1 b h c q)

theorem idx47 : idx_main_v46 (idx_main_v47 (ix4 b h q k)) = ix5 b h 0 q k := by
  have := b.isLt; have := h.isLt; have := q.isLt; have := k.isLt
  refine (eq_ix5 _).trans ((ix5_inj _ _ _ _ _ _ _ _ _ _).2 ⟨Fin.ext ?_, Fin.ext ?_, Fin.ext ?_, Fin.ext ?_, Fin.ext ?_⟩)
  · show (((b.val * 6 + h.val) * 2048 + q.val) * 2048 + k.val) / 25165824 = b.val; omega
  · show (((b.val * 6 + h.val) * 2048 + q.val) * 2048 + k.val) / 4194304 % 6 = h.val; omega
  · rfl
  · show (((b.val * 6 + h.val) * 2048 + q.val) * 2048 + k.val) / 2048 % 2048 = q.val; omega
  · show (((b.val * 6 + h.val) * 2048 + q.val) * 2048 + k.val) % 2048 = k.val; omega

theorem idx49 : idx_main_v48 (idx_main_v49 (ix4 b h q k)) = ix5 b h 1 q k := by
  have := b.isLt; have := h.isLt; have := q.isLt; have := k.isLt
  refine (eq_ix5 _).trans ((ix5_inj _ _ _ _ _ _ _ _ _ _).2 ⟨Fin.ext ?_, Fin.ext ?_, Fin.ext ?_, Fin.ext ?_, Fin.ext ?_⟩)
  · show (((b.val * 6 + h.val) * 2048 + q.val) * 2048 + k.val) / 25165824 = b.val; omega
  · show (((b.val * 6 + h.val) * 2048 + q.val) * 2048 + k.val) / 4194304 % 6 = h.val; omega
  · rfl
  · show (((b.val * 6 + h.val) * 2048 + q.val) * 2048 + k.val) / 2048 % 2048 = q.val; omega
  · show (((b.val * 6 + h.val) * 2048 + q.val) * 2048 + k.val) % 2048 = k.val; omega

theorem v53_at : val_main_v53 (F := Ideal) x1 x3 x6 r0 r1 e0 (ix4 b h q k) = P x1 x3 x6 r0 r1 b h 0 q k - e0 ix0 * P x1 x3 x6 r0 r1 b h 1 q k := by
  rw [val_main_v53_apply, val_main_v52_apply, val_main_v51_apply, val_main_v47_apply, val_main_v46_apply, val_main_v49_apply, val_main_v48_apply, val_main_v50_apply,
    idx47, idx49, v45_at, v45_at]
  exact congrArg (fun z => P x1 x3 x6 r0 r1 b h 0 q k - e0 z * P x1 x3 x6 r0 r1 b h 1 q k) (Subsingleton.elim (α := S_.Idx) _ _)

end

section
variable (b : Fin 24) (s : Fin 2048) (h : Fin 6) (e : Fin 320)

theorem v58_at : val_main_v58 (F := Ideal) x1 x3 x5 x6 r0 r1 r2 e0 (ix4 b s h e) = O x1 x3 x5 x6 r0 r1 r2 e0 b s h e := by
  rw [val_main_v58_apply, val_main_v55_apply, val_main_v54_apply, val_main_v57_apply, val_main_v56_apply]
  refine congrArg₂ (fun a b : EReal => a * b) (Finset.sum_congr rfl fun k _ => congrArg₂ (fun a b : EReal => a * b) (congrArg r2 (eq_ix4 _)) ?_) (congrArg x5 (eq_ix2 _))
  exact (congrArg (val_main_v53 (F := Ideal) x1 x3 x6 r0 r1 e0) (eq_ix4 _)).trans (v53_at x1 x3 x6 r0 r1 e0 b h s k)

theorem v60_at : val_main_v60 (F := Ideal) x1 x3 x5 x6 r0 r1 r2 e0 (ix3 b s h)
    = ∑ e : Fin 320, O x1 x3 x5 x6 r0 r1 r2 e0 b s h e * O x1 x3 x5 x6 r0 r1 r2 e0 b s h e := by
  rw [val_main_v60_apply]
  refine (congrArg₂ (fun a b : EReal => a + b) (Ideal.ofBits_zero_f32 : _ = (0 : EReal)) (Finset.sum_congr rfl fun e _ => ?_)).trans (zero_add _)
  refine (congrArg (val_main_v59 (F := Ideal) x1 x3 x5 x6 r0 r1 r2 e0) (eq_ix4 _)).trans ?_
  refine (val_main_v59_apply (F := Ideal) x1 x3 x5 x6 r0 r1 r2 e0 _).trans ?_
  exact congrArg₂ (fun a b : EReal => a * b) (v58_at x1 x3 x5 x6 r0 r1 r2 e0 b s h e) (v58_at x1 x3 x5 x6 r0 r1 r2 e0 b s h e)

theorem v67_at : val_main_v67 (F := Ideal) x1 x3 x5 x6 r0 r1 r2 e0 (ix4 b s h e)
    = Ideal.rsqrt (Ideal.div (∑ e : Fin 320, O x1 x3 x5 x6 r0 r1 r2 e0 b s h e * O x1 x3 x5 x6 r0 r1 r2 e0 b s h e) (Ideal.ofBits .f32 0x43A00000#32) + Ideal.ofBits .f32 0x3727C5AC#32) := by
  rw [val_main_v67_apply, val_main_v66_apply, val_main_v65_apply, val_main_v63_apply, val_main_v61_apply, val_main_v62_apply, val_main_v64_apply]
  refine congrArg (fun z : EReal => Ideal.rsqrt (Ideal.div z (Ideal.ofBits .f32 0x43A00000#32) + Ideal.ofBits .f32 0x3727C5AC#32)) (?_ : val_main_v60 (F := Ideal) x1 x3 x5 x6 r0 r1 r2 e0 _ = _)
  exact (congrArg (val_main_v60 (F := Ideal) x1 x3 x5 x6 r0 r1 r2 e0) (eq_ix3 _)).trans (v60_at x1 x3 x5 x6 r0 r1 r2 e0 b s h)

theorem v74_at : val_main_v74 (F := Ideal) x1 x3 x5 x6 x11 r0 r1 r2 e0 (ix4 b s h e) = Y x1 x3 x5 x6 x11 r0 r1 r2 e0 b s h e := by
  rw [val_main_v74_apply, val_main_v73_apply, val_main_v71_apply, val_main_v68_apply, v58_at, v67_at, val_main_v70_apply, val_main_v69_apply, val_main_v72_apply]
  exact congrArg (fun z : EReal => O x1 x3 x5 x6 r0 r1 r2 e0 b s h e
    * Ideal.rsqrt (Ideal.div (∑ e : Fin 320, O x1 x3 x5 x6 r0 r1 r2 e0 b s h e * O x1 x3 x5 x6 r0 r1 r2 e0 b s h e) (Ideal.ofBits .f32 0x43A00000#32) + Ideal.ofBits .f32 0x3727C5AC#32)
    * z * Ideal.ofBits .f32 0x3F4CCCCD#32) (congrArg x11 (eq_ix1 _))

theorem v75_at (a : Fin 1920) (ha : a.val = 320 * h.val + e.val) :
    val_main_v75 (F := Ideal) x1 x3 x5 x6 x11 r0 r1 r2 e0 (ix3 b s a) = Y x1 x3 x5 x6 x11 r0 r1 r2 e0 b s h e := by
  rw [val_main_v75_apply]
  refine (congrArg (val_main_v74 (F := Ideal) x1 x3 x5 x6 x11 r0 r1 r2 e0) ?_).trans (v74_at x1 x3 x5 x6 x11 r0 r1 r2 e0 b s h e)
  have := b.isLt; have := h.isLt; have := s.isLt; have := e.isLt
  refine (eq_ix4 _).trans ((ix4_inj _ _ _ _ _ _ _ _).2 ⟨Fin.ext ?_, Fin.ext ?_, Fin.ext ?_, Fin.ext ?_⟩)
  · show ((b.val * 2048 + s.val) * 1920 + a.val) / 3932160 = b.val; omega
  · show ((b.val * 2048 + s.val) * 1920 + a.val) / 1920 % 2048 = s.val; omega
  · show ((b.val * 2048 + s.val) * 1920 + a.val) / 320 % 6 = h.val; omega
  · show ((b.val * 2048 + s.val) * 1920 + a.val) % 320 = e.val; omega

end

end Cert.DiffAttn.Ref

end
-- ==== Proof.HostVals.lean ====
/-
  The arrays the host operations hand to the region, element by element.
-/
module

public import proofs.«01_k».proof.Proof.KernelIdealFrame
public import Idealize.ShloMosaic.Lib.Pointwise
public import Idealize.ShloMosaic.Lib.IdealHost

@[expose] public section

noncomputable section

namespace Cert.DiffAttn.KernelIdeal

open Cert.KernelIdeal Cert.KernelIdeal.Gen
open Idealize.ShloMosaic Idealize.ShloMosaic.Script Idealize.ShloMosaic.Pipeline
open Idealize.ShloMosaic.TcCoe

variable (m : (ℓ : Loc nD τ sig) → Buf (Elt Ideal) ℓ) (c : Dev nD)

/-- An argument of the program. -/
abbrev arg (b : Ref sig .tc) : Buf (Elt Ideal) ((c.tc : Thread nD τ).loc b) := m ((c.tc : Thread nD τ).loc b)

/-- The layer's gain. -/
def gainIn : S320.Idx → EReal := arg m c main_arg11
/-- The four vectors the maps' mixing weight is of. -/
def lamIn0 : S160.Idx → EReal := arg m c main_arg7
def lamIn1 : S160.Idx → EReal := arg m c main_arg8
def lamIn2 : S160.Idx → EReal := arg m c main_arg9
def lamIn3 : S160.Idx → EReal := arg m c main_arg10

theorem v8_at (b : Fin 24) (h : Fin 6) (x : Fin 2) (d : Fin 160) (t : Fin 2048) : V m c main_v8 (ix5 b h x d t) = arg m c main_arg0 (ix5 b t h x d) := by unfold V; after_reads_at
theorem v9_at (b : Fin 24) (h : Fin 6) (x : Fin 2) (d : Fin 160) (t : Fin 2048) : V m c main_v9 (ix5 b h x d t) = arg m c main_arg2 (ix5 b t h x d) := by unfold V; after_reads_at
theorem v10_at (b : Fin 24) (h : Fin 6) (e : Fin 320) (t : Fin 2048) : V m c main_v10 (ix4 b h e t) = arg m c main_arg4 (ix4 b t h e) := by unfold V; after_reads_at
theorem v11_at (b : Fin 24) (h : Fin 6) (x : Fin 2) (t : Fin 2048) : V m c main_v11 (ix4 b h x t) = arg m c main_arg1 (ix4 b t h x) := by unfold V; after_reads_at
theorem v12_at (b : Fin 24) (h : Fin 6) (x : Fin 2) (t : Fin 2048) : V m c main_v12 (ix4 b h x t) = arg m c main_arg3 (ix4 b t h x) := by unfold V; after_reads_at
theorem v14_at (h : Fin 6) (e : Fin 320) (l : Fin 128) : V m c main_v14 (ix3 h e l) = arg m c main_arg5 (ix2 h e) := by unfold V; after_reads_at
theorem v18_at (e : Fin 320) (l : Fin 128) : V m c main_v18 (ix2 e l) = gainIn m c (ix1 e) * Ideal.ofBits FTy.f32 0x3F4CCCCD#32 := by unfold V gainIn; after_reads_at
theorem v27_at (b : Fin 24) (t : Fin 8) : V m c main_v27 (ix2 b t) = arg m c main_arg6 (ix2 b ⟨255 + 256 * t.val, by omega⟩) := by unfold V; after_reads_at
theorem v28_at (b : Fin 24) (t : Fin 2048) : V m c main_v28 (ix3 b 0 t) = arg m c main_arg6 (ix2 b t) := by unfold V; after_reads_at
theorem v29_at (l : Fin 128) : V m c main_v29 (ix2 0 l) = Ideal.exp (∑ d : Fin 160, lamIn0 m c (ix1 d) * lamIn1 m c (ix1 d))
    - Ideal.exp (∑ d : Fin 160, lamIn2 m c (ix1 d) * lamIn3 m c (ix1 d)) + Ideal.ofBits FTy.f32 0x3E4CCCCD#32 := by unfold V lamIn0 lamIn1 lamIn2 lamIn3; after_reads_at
theorem v24_at (b : Fin 24) (t : Fin 8) (k : Fin 2048) : V m c main_v24 (ix3 b t k) = IntOp.cmpi .slt (arg m c main_arg6 (ix2 b k)) (arg m c main_arg6 (ix2 b ⟨256 * t.val, by omega⟩)) := by unfold V; after_reads_at

end Cert.DiffAttn.KernelIdeal

end
-- ==== Proof.Blk.lean ====
/-
  The blocks the region's windows hold at a point, element by element of the arrays they are blocks of.
-/
module

public import proofs.«01_k».proof.Proof.HostVals
public import Idealize.ShloMosaic.Lib.Pipeline.ValueKit.Geometry

@[expose] public section

noncomputable section

namespace Cert.DiffAttn.KernelIdeal

open Cert.KernelIdeal Cert.KernelIdeal.Gen
open Idealize.ShloMosaic Idealize.ShloMosaic.Script Idealize.ShloMosaic.Pipeline
open Idealize.ShloMosaic.TcCoe

variable (m : (ℓ : Loc nD τ sig) → Buf (Elt Ideal) ℓ) (c : Dev nD)

theorem coords0 : ∀ t : Fin grid0.N, (grid0.coords t 0).val = t.val / 8 := by decide +kernel
theorem coords1 : ∀ t : Fin grid0.N, (grid0.coords t 1).val = t.val % 8 := by decide +kernel

/-- The point's batch, as its index maps compute it. -/
theorem batchW (t : Fin grid0.N) : (BitVec.ofNat 32 (grid0.coords t 0).val).toNat = t.val / 8 := by
  have := t.isLt; have : grid0.N = 192 := rfl
  rw [coords0, BitVec.toNat_ofNat, Nat.mod_eq_of_lt (by omega)]
/-- The point's tile, as its index maps compute it. -/
theorem tileW (t : Fin grid0.N) : (BitVec.ofNat 32 (grid0.coords t 1).val).toNat = t.val % 8 := by
  rw [coords1, BitVec.toNat_ofNat, Nat.mod_eq_of_lt (by omega)]

/-- The point's batch. -/
def batch (t : Fin grid0.N) : Fin 24 := ⟨t.val / 8, by have := t.isLt; have : grid0.N = 192 := rfl; omega⟩
/-- A position in the point's tile. -/
def pos (t : Fin grid0.N) (q : Fin 256) : Fin 2048 := ⟨256 * (t.val % 8) + q.val, by have := q.isLt; omega⟩

variable {m c}

theorem rd0 (t : Fin grid0.N) {Y : (w : Fin 10) → (spec0 w).block.Idx → Elt Ideal (spec0 w).elt} (hB : Blocks m c t Y) (h : Fin 6) (x : Fin 2) (d : Fin 160) (q : Fin 256) :
    Y 0 (ix5 0 h x d q) = V m c main_v8 (ix5 (batch t) h x d (pos t q)) := by
  obtain ⟨g, e⟩ := hB (0 : Fin 10) (by show 0 < 9; decide)
  refine (congrFun e _).trans (congrArg (V m c main_v8) ?_)
  funext a
  refine Fin.ext ((Window.rect_emb_val_off ((cfgA m).win (0 : Fin 10)) t (ix5 0 h x d q) a).trans ?_)
  match a with
  | ⟨0, _⟩ => show (BitVec.ofNat 32 (grid0.coords t 0).val).toNat * 1 + 0 = t.val / 8; rw [batchW]; omega
  | ⟨1, _⟩ => show 0 * 6 + h.val = h.val; omega
  | ⟨2, _⟩ => show 0 * 2 + x.val = x.val; omega
  | ⟨3, _⟩ => show 0 * 160 + d.val = d.val; omega
  | ⟨4, _⟩ => show (BitVec.ofNat 32 (grid0.coords t 1).val).toNat * 256 + q.val = 256 * (t.val % 8) + q.val; rw [tileW]; omega

theorem rd1 (t : Fin grid0.N) {Y : (w : Fin 10) → (spec0 w).block.Idx → Elt Ideal (spec0 w).elt} (hB : Blocks m c t Y) (h : Fin 6) (x : Fin 2) (q : Fin 256) :
    Y 1 (ix4 0 h x q) = V m c main_v11 (ix4 (batch t) h x (pos t q)) := by
  obtain ⟨g, e'⟩ := hB (1 : Fin 10) (by show 1 < 9; decide)
  refine (congrFun e' _).trans (congrArg (V m c main_v11) ?_)
  funext a
  refine Fin.ext ((Window.rect_emb_val_off ((cfgA m).win (1 : Fin 10)) t (ix4 0 h x q) a).trans ?_)
  match a with
  | ⟨0, _⟩ => show (BitVec.ofNat 32 (grid0.coords t 0).val).toNat * 1 + 0 = t.val / 8; rw [batchW]; omega
  | ⟨1, _⟩ => show 0 * 6 + h.val = h.val; omega
  | ⟨2, _⟩ => show 0 * 2 + x.val = x.val; omega
  | ⟨3, _⟩ => show (BitVec.ofNat 32 (grid0.coords t 1).val).toNat * 256 + q.val = 256 * (t.val % 8) + q.val; rw [tileW]; omega

theorem rd2 (t : Fin grid0.N) {Y : (w : Fin 10) → (spec0 w).block.Idx → Elt Ideal (spec0 w).elt} (hB : Blocks m c t Y) (h : Fin 6) (x : Fin 2) (d : Fin 160) (q : Fin 256) :
    Y 2 (ix5 0 h x d q) = V m c main_v9 (ix5 (batch t) h x d (pos t q)) := by
  obtain ⟨g, e'⟩ := hB (2 : Fin 10) (by show 2 < 9; decide)
  refine (congrFun e' _).trans (congrArg (V m c main_v9) ?_)
  funext a
  refine Fin.ext ((Window.rect_emb_val_off ((cfgA m).win (2 : Fin 10)) t (ix5 0 h x d q) a).trans ?_)
  match a with
  | ⟨0, _⟩ => show (BitVec.ofNat 32 (grid0.coords t 0).val).toNat * 1 + 0 = t.val / 8; rw [batchW]; omega
  | ⟨1, _⟩ => show 0 * 6 + h.val = h.val; omega
  | ⟨2, _⟩ => show 0 * 2 + x.val = x.val; omega
  | ⟨3, _⟩ => show 0 * 160 + d.val = d.val; omega
  | ⟨4, _⟩ => show (BitVec.ofNat 32 (grid0.coords t 1).val).toNat * 256 + q.val = 256 * (t.val % 8) + q.val; rw [tileW]; omega

theorem rd3 (t : Fin grid0.N) {Y : (w : Fin 10) → (spec0 w).block.Idx → Elt Ideal (spec0 w).elt} (hB : Blocks m c t Y) (h : Fin 6) (x : Fin 2) (q : Fin 256) :
    Y 3 (ix4 0 h x q) = V m c main_v12 (ix4 (batch t) h x (pos t q)) := by
  obtain ⟨g, e'⟩ := hB (3 : Fin 10) (by show 3 < 9; decide)
  refine (congrFun e' _).trans (congrArg (V m c main_v12) ?_)
  funext a
  refine Fin.ext ((Window.rect_emb_val_off ((cfgA m).win (3 : Fin 10)) t (ix4 0 h x q) a).trans ?_)
  match a with
  | ⟨0, _⟩ => show (BitVec.ofNat 32 (grid0.coords t 0).val).toNat * 1 + 0 = t.val / 8; rw [batchW]; omega
  | ⟨1, _⟩ => show 0 * 6 + h.val = h.val; omega
  | ⟨2, _⟩ => show 0 * 2 + x.val = x.val; omega
  | ⟨3, _⟩ => show (BitVec.ofNat 32 (grid0.coords t 1).val).toNat * 256 + q.val = 256 * (t.val % 8) + q.val; rw [tileW]; omega

theorem rd4 (t : Fin grid0.N) {Y : (w : Fin 10) → (spec0 w).block.Idx → Elt Ideal (spec0 w).elt} (hB : Blocks m c t Y) (h : Fin 6) (e : Fin 320) (q : Fin 256) :
    Y 4 (ix4 0 h e q) = V m c main_v10 (ix4 (batch t) h e (pos t q)) := by
  obtain ⟨g, e'⟩ := hB (4 : Fin 10) (by show 4 < 9; decide)
  refine (congrFun e' _).trans (congrArg (V m c main_v10) ?_)
  funext a
  refine Fin.ext ((Window.rect_emb_val_off ((cfgA m).win (4 : Fin 10)) t (ix4 0 h e q) a).trans ?_)
  match a with
  | ⟨0, _⟩ => show (BitVec.ofNat 32 (grid0.coords t 0).val).toNat * 1 + 0 = t.val / 8; rw [batchW]; omega
  | ⟨1, _⟩ => show 0 * 6 + h.val = h.val; omega
  | ⟨2, _⟩ => show 0 * 320 + e.val = e.val; omega
  | ⟨3, _⟩ => show (BitVec.ofNat 32 (grid0.coords t 1).val).toNat * 256 + q.val = 256 * (t.val % 8) + q.val; rw [tileW]; omega

theorem rd5 (t : Fin grid0.N) {Y : (w : Fin 10) → (spec0 w).block.Idx → Elt Ideal (spec0 w).elt} (hB : Blocks m c t Y) (q : Fin 256) :
    Y 5 (ix3 0 0 q) = V m c main_v28 (ix3 (batch t) 0 (pos t q)) := by
  obtain ⟨g, e'⟩ := hB (5 : Fin 10) (by show 5 < 9; decide)
  refine (congrFun e' _).trans (congrArg (V m c main_v28) ?_)
  funext a
  refine Fin.ext ((Window.rect_emb_val_off ((cfgA m).win (5 : Fin 10)) t (ix3 0 0 q) a).trans ?_)
  match a with
  | ⟨0, _⟩ => show (BitVec.ofNat 32 (grid0.coords t 0).val).toNat * 1 + 0 = t.val / 8; rw [batchW]; omega
  | ⟨1, _⟩ => show 0 * 1 + 0 = 0; omega
  | ⟨2, _⟩ => show (BitVec.ofNat 32 (grid0.coords t 1).val).toNat * 256 + q.val = 256 * (t.val % 8) + q.val; rw [tileW]; omega

theorem rd6 (t : Fin grid0.N) {Y : (w : Fin 10) → (spec0 w).block.Idx → Elt Ideal (spec0 w).elt} (hB : Blocks m c t Y) (h : Fin 6) (e : Fin 320) (l : Fin 128) :
    Y 6 (ix3 h e l) = V m c main_v14 (ix3 h e l) := by
  obtain ⟨g, e'⟩ := hB (6 : Fin 10) (by show 6 < 9; decide)
  refine (congrFun e' _).trans (congrArg (V m c main_v14) ?_)
  funext a
  refine Fin.ext ((Window.rect_emb_val_off ((cfgA m).win (6 : Fin 10)) t (ix3 h e l) a).trans ?_)
  match a with
  | ⟨0, _⟩ => show 0 * 6 + h.val = h.val; omega
  | ⟨1, _⟩ => show 0 * 320 + e.val = e.val; omega
  | ⟨2, _⟩ => show 0 * 128 + l.val = l.val; omega

theorem rd7 (t : Fin grid0.N) {Y : (w : Fin 10) → (spec0 w).block.Idx → Elt Ideal (spec0 w).elt} (hB : Blocks m c t Y) (e : Fin 320) (l : Fin 128) :
    Y 7 (ix2 e l) = V m c main_v18 (ix2 e l) := by
  obtain ⟨g, e'⟩ := hB (7 : Fin 10) (by show 7 < 9; decide)
  refine (congrFun e' _).trans (congrArg (V m c main_v18) ?_)
  funext a
  refine Fin.ext ((Window.rect_emb_val_off ((cfgA m).win (7 : Fin 10)) t (ix2 e l) a).trans ?_)
  match a with
  | ⟨0, _⟩ => show 0 * 320 + e.val = e.val; omega
  | ⟨1, _⟩ => show 0 * 128 + l.val = l.val; omega

theorem rd8 (t : Fin grid0.N) {Y : (w : Fin 10) → (spec0 w).block.Idx → Elt Ideal (spec0 w).elt} (hB : Blocks m c t Y) (l : Fin 128) :
    Y 8 (ix2 0 l) = V m c main_v29 (ix2 0 l) := by
  obtain ⟨g, e'⟩ := hB (8 : Fin 10) (by show 8 < 9; decide)
  refine (congrFun e' _).trans (congrArg (V m c main_v29) ?_)
  funext a
  refine Fin.ext ((Window.rect_emb_val_off ((cfgA m).win (8 : Fin 10)) t (ix2 0 l) a).trans ?_)
  match a with
  | ⟨0, _⟩ => show 0 * 1 + 0 = 0; omega
  | ⟨1, _⟩ => show 0 * 128 + l.val = l.val; omega

end Cert.DiffAttn.KernelIdeal

end
-- ==== Proof.Starts.lean ====
/-
  The start of a segment: the count of the keys of smaller segment, which is the first key's position where segments ascend.
-/
module

public import proofs.«01_k».proof.Proof.HostVals
public import proofs.«01_k».proof.Proof.Data
public import proofs.«01_k».proof.Pre_documents_in_order
public import Idealize.ShloMosaic.Lib.Routing.OpsSearch

@[expose] public section

noncomputable section

namespace Cert.DiffAttn

open Idealize.ShloMosaic

/-- The row sums of a mask count each row's set bits. -/
theorem reduce_count_row {a b n : ℕ} (hn : n < 2 ^ 32) (msk : IVec (⟨3, ![a, b, n]⟩ : Shape) 1) (hw : 1 < 32) {u : Shape} (z : u.Idx → BitVec 32) (hz : ∀ i, z i = 0#32)
    (h : (⟨3, ![a, b, n]⟩ : Shape).ReducesTo [2] ⟨2, ![a, b]⟩) (hu : 0 < u.numel) (p : Fin a) (q : Fin b) :
    (Host.reduce IntOp.addi (extui 32 msk hw) z h hu (ix2 p q)).toNat = (Finset.univ.filter fun k : Fin n => msk (ix3 p q k) = 1#1).card := by
  classical
  have hval : ∀ i, (extui 32 msk hw i).toNat = if msk i = 1#1 then 1 else 0 := fun i => StableHlo.Predicate.toNat_setWidth_bit (msk i)
  have hdrop : ∀ i : (⟨3, ![a, b, n]⟩ : Shape).Idx, h.drop i = ix2 p q ↔ i 0 = p ∧ i 1 = q := by
    intro i
    have hv0 : (h.drop i 0 : Nat) = i 0 := Shape.ReducesTo.drop_apply_val h i 0
    have hv1 : (h.drop i 1 : Nat) = i 1 := Shape.ReducesTo.drop_apply_val h i 1
    constructor
    · intro e
      rw [e] at hv0 hv1
      exact ⟨Fin.ext hv0.symm, Fin.ext hv1.symm⟩
    · rintro ⟨e1, e2⟩
      funext c
      match c with
      | ⟨0, _⟩ => exact Fin.ext (hv0.trans (congrArg Fin.val e1))
      | ⟨1, _⟩ => exact Fin.ext (hv1.trans (congrArg Fin.val e2))
  have hback : ∀ i : (⟨3, ![a, b, n]⟩ : Shape).Idx, i 0 = p ∧ i 1 = q → ix3 p q (i 2) = i := fun i hi => by
    funext c
    match c with
    | ⟨0, _⟩ => exact hi.1.symm
    | ⟨1, _⟩ => exact hi.2.symm
    | ⟨2, _⟩ => rfl
  have hsum : ∑ i ∈ Finset.univ.filter (fun i : (⟨3, ![a, b, n]⟩ : Shape).Idx => h.drop i = ix2 p q), (extui 32 msk hw i).toNat
      = (Finset.univ.filter (fun j : Fin n => msk (ix3 p q j) = 1#1)).card := by
    rw [Finset.card_filter]
    refine Finset.sum_bij' (fun i _ => i 2) (fun j _ => ix3 p q j) (fun _ _ => Finset.mem_univ _)
      (fun j _ => Finset.mem_filter.2 ⟨Finset.mem_univ _, (hdrop _).2 ⟨rfl, rfl⟩⟩)
      (fun i hi => hback i ((hdrop i).1 (Finset.mem_filter.1 hi).2)) (fun _ _ => rfl) ?_
    intro i hi
    rw [hval]
    exact (congrArg (fun x => if msk x = 1#1 then 1 else 0) (hback i ((hdrop i).1 (Finset.mem_filter.1 hi).2))).symm
  rw [Host.reduce_eq_fold, hz, StableHlo.Predicate.toNat_fold_addi _ _ (by rw [hsum]; exact lt_of_le_of_lt (Finset.card_le_univ _) (by simpa using hn)), hsum]

/-- A downward closed set of positions is the positions below its count. -/
theorem lt_card_iff {n : ℕ} (P : Fin n → Prop) [DecidablePred P] (hP : ∀ k l, k ≤ l → P l → P k) (k : Fin n) : k.val < (Finset.univ.filter P).card ↔ P k := by
  constructor
  · intro h
    by_contra hk
    have : (Finset.univ.filter P) ⊆ Finset.Iio k := fun l hl => by
      rw [Finset.mem_Iio]
      by_contra hn
      exact hk (hP k l (not_lt.1 hn) (Finset.mem_filter.1 hl).2)
    have := Finset.card_le_card this
    rw [Fin.card_Iio] at this
    omega
  · intro h
    have : Finset.Iic k ⊆ (Finset.univ.filter P) := fun l hl => Finset.mem_filter.2 ⟨Finset.mem_univ _, hP l k (Finset.mem_Iic.1 hl) h⟩
    have := Finset.card_le_card this
    rw [Fin.card_Iic] at this
    omega

/-- A conjunction of bits that is set has every bit set. -/
theorem fold_and {ι : Type} [DecidableEq ι] (x : ι → BitVec 1) (T : Finset ι) (h : T.fold IntOp.andi 1#1 x = 1#1) : ∀ i ∈ T, x i = 1#1 := by
  induction T using Finset.induction_on with
  | empty => simp
  | insert a T ha ih =>
    rw [Finset.fold_insert ha] at h
    have hb : ∀ u v : BitVec 1, IntOp.andi u v = 1#1 → u = 1#1 ∧ v = 1#1 := by decide
    obtain ⟨h1, h2⟩ := hb _ _ h
    intro i hi
    rcases Finset.mem_insert.1 hi with e | hi
    · exact e ▸ h1
    · exact ih h2 i hi

/-- The precondition at two neighbours. -/
theorem step_of_pre [Cert.Pre_documents_in_order.Facts] {x0 x1 x2 x3 x4 x5 x7 x8 x9 x10 x11} {x6 : IVec (⟨2, ![24, 2048]⟩ : Shape) 32}
    (h : Cert.Pre_documents_in_order.fn (F := Ideal) x0 x1 x2 x3 x4 x5 x6 x7 x8 x9 x10 x11 = fun _ => 1#1) (b : Fin 24) (k : ℕ) (hk : k + 1 < 2048) :
    (x6 (ix2 b ⟨k, by omega⟩)).toInt ≤ (x6 (ix2 b ⟨k + 1, hk⟩)).toInt := by
  classical
  have h0 := congrFun h (fun d => d.elim0)
  unfold Cert.Pre_documents_in_order.fn at h0
  simp only [Host.reduce_eq_fold] at h0
  have h1 := fold_and _ _ h0 (ix2 b (⟨k, by omega⟩ : Fin 2047)) (Finset.mem_filter.2 ⟨Finset.mem_univ _, funext fun d => d.elim0⟩)
  have h2 : IntOp.cmpi .sge (x6 (ix2 b ⟨k + 1, hk⟩)) (x6 (ix2 b ⟨k, by omega⟩)) = 1#1 := by
    refine Eq.trans ?_ h1
    show _ = IntOp.cmpi .sge (extractStridedSlice _ _ x6 _ _) (extractStridedSlice _ _ x6 _ _)
    congr 1
    · refine congrArg x6 (funext fun d => Fin.ext ?_)
      match d with
      | ⟨0, _⟩ => show b.val = 0 + b.val; omega
      | ⟨1, _⟩ => show k + 1 = 1 + k; omega
    · refine congrArg x6 (funext fun d => Fin.ext ?_)
      match d with
      | ⟨0, _⟩ => show b.val = 0 + b.val; omega
      | ⟨1, _⟩ => show k = 0 + k; omega
  have h3 : BitVec.ofBool ((x6 (ix2 b ⟨k, by omega⟩)).sle (x6 (ix2 b ⟨k + 1, hk⟩))) = 1#1 := h2
  have h4 : (x6 (ix2 b ⟨k, by omega⟩)).sle (x6 (ix2 b ⟨k + 1, hk⟩)) = true := by
    revert h3; cases ((x6 (ix2 b ⟨k, by omega⟩)).sle (x6 (ix2 b ⟨k + 1, hk⟩))) <;> decide
  exact BitVec.sle_iff_toInt_le.1 h4

/-- The precondition: a batch's segments ascend. -/
theorem mono_of_pre [Cert.Pre_documents_in_order.Facts] {x0 x1 x2 x3 x4 x5 x7 x8 x9 x10 x11} {x6 : IVec (⟨2, ![24, 2048]⟩ : Shape) 32}
    (h : Cert.Pre_documents_in_order.fn (F := Ideal) x0 x1 x2 x3 x4 x5 x6 x7 x8 x9 x10 x11 = fun _ => 1#1) (b : Fin 24) (k l : ℕ) (hkl : k ≤ l) (hl : l < 2048) :
    (x6 (ix2 b ⟨k, by omega⟩)).toInt ≤ (x6 (ix2 b ⟨l, hl⟩)).toInt := by
  induction l, hkl using Nat.le_induction with
  | base => exact le_refl _
  | succ l hkl ih => exact (ih (by omega)).trans (step_of_pre h b l hl)

end Cert.DiffAttn

namespace Cert.DiffAttn.KernelIdeal

open Cert.KernelIdeal Cert.KernelIdeal.Gen
open Idealize.ShloMosaic Idealize.ShloMosaic.TcCoe

variable (m : (ℓ : Loc nD τ sig) → Buf (Elt Ideal) ℓ) (c : Dev nD)

theorem v26_eq : V m c main_v26 = Host.reduce IntOp.addi (extui 32 (V m c main_v24) Facts₀.natLt_1_32) (constantI S_ 32 0#32) Facts₀.reducesTo_S24x8x2048_S24x8_d2 Facts₀.h_S_ := by
  unfold V
  after_reads_simp

/-- The starts the kernel is handed are the counts of the keys of smaller segment. -/
theorem v26_at (b : Fin 24) (i : Fin 8) : (V m c main_v26 (ix2 b i) : BitVec 32).toNat
    = (Finset.univ.filter fun k : Fin 2048 => (arg m c main_arg6 (ix2 b k)).toInt < (arg m c main_arg6 (ix2 b ⟨256 * i.val, by omega⟩)).toInt).card := by
  rw [v26_eq]
  refine (reduce_count_row (by decide) _ _ _ (fun _ => rfl) _ _ b i).trans ?_
  refine congrArg Finset.card (Finset.filter_congr fun k _ => ?_)
  refine (iff_of_eq (congrArg (· = 1#1) (v24_at m c b i k))).trans ?_
  show BitVec.ofBool (BitVec.slt _ _) = 1#1 ↔ _
  rw [← BitVec.slt_iff_toInt_lt]
  cases BitVec.slt (arg m c main_arg6 (ix2 b k)) (arg m c main_arg6 (ix2 b ⟨256 * i.val, by omega⟩)) <;> decide

end Cert.DiffAttn.KernelIdeal

end
-- ==== Proof.Step.lean ====
/-
  One point of the kernel's grid, of the arrays it is handed: what it leaves in its output block, and the keys and values
  it keeps for the batch's next tile.
-/
module

public import proofs.«01_k».proof.Proof.Blk
public import proofs.«01_k».proof.Proof.Starts
public import proofs.«01_k».proof.Proof.Whole

@[expose] public section

noncomputable section

namespace Cert.DiffAttn.KernelIdeal

open Cert.KernelIdeal Cert.KernelIdeal.Gen
open Idealize.ShloMosaic Idealize.ShloMosaic.Script Idealize.ShloMosaic.Pipeline
open Idealize.ShloMosaic.TcCoe

variable (m : (ℓ : Loc nD τ sig) → Buf (Elt Ideal) ℓ)

theorem ofNat_val {n : ℕ} [NeZero n] (a : Fin n) : Fin.ofNat n a.val = a := Fin.ext (Nat.mod_eq_of_lt a.isLt)
theorem ofNat_lt {n : ℕ} [NeZero n] {k : ℕ} (h : k < n) : Fin.ofNat n k = ⟨k, h⟩ := Fin.ext (Nat.mod_eq_of_lt h)

/-- Batch `b` and tile `i` of the program's arguments. -/
def data (b i : ℕ) : Data where
  K H x k d := arg m 0 main_arg2 (ix5 (Fin.ofNat 24 b) (Fin.ofNat 2048 k) (Fin.ofNat 6 H) (Fin.ofNat 2 x) d)
  KS H x k := arg m 0 main_arg3 (ix4 (Fin.ofNat 24 b) (Fin.ofNat 2048 k) (Fin.ofNat 6 H) (Fin.ofNat 2 x))
  V H e k := arg m 0 main_arg4 (ix4 (Fin.ofNat 24 b) (Fin.ofNat 2048 k) (Fin.ofNat 6 H) e)
  Q H x d q := arg m 0 main_arg0 (ix5 (Fin.ofNat 24 b) (Fin.ofNat 2048 (256 * i + q.val)) (Fin.ofNat 6 H) (Fin.ofNat 2 x) d)
  QS H x q := arg m 0 main_arg1 (ix4 (Fin.ofNat 24 b) (Fin.ofNat 2048 (256 * i + q.val)) (Fin.ofNat 6 H) (Fin.ofNat 2 x))
  SG k := arg m 0 main_arg6 (ix2 (Fin.ofNat 24 b) (Fin.ofNat 2048 k))
  VSC H e := arg m 0 main_arg5 (ix2 (Fin.ofNat 6 H) e)
  GA e := gainIn m 0 (ix1 e) * Ideal.ofBits FTy.f32 0x3F4CCCCD#32
  lam := V m 0 main_v29 (ix2 0 0)
  alpha := (cst (F := Ideal)).alpha
  invV := (cst (F := Ideal)).invV
  i := i
  b := b
  st := (V m 0 main_v26 (ix2 (Fin.ofNat 24 b) (Fin.ofNat 8 i)) : BitVec 32).toNat

/-- The kept keys and values: those of the batch's earlier tiles. -/
structure Kept (n : ℕ) (S : St names (Elt Ideal)) : Prop where
  kt : ∀ (h : Fin 6) (c : Fin 2) (r : Fin 2048) (d : Fin 160), r.val < 256 * (n % 8) → (S .kt (ix4 h c r d) : EReal) = (data m (n / 8) (n % 8)).K h.val c.val r.val d
  ksr : ∀ (h : Fin 6) (c : Fin 2) (r : Fin 2048) (l : Fin 128), r.val < 256 * (n % 8) → (S .ksr (ix4 h c r l) : EReal) = (data m (n / 8) (n % 8)).KS h.val c.val r.val
  v16 : ∀ (h : Fin 6) (e : Fin 320) (r : Fin 2048), r.val < 256 * (n % 8) → (S .v16 (ix3 h e r) : EReal) = (data m (n / 8) (n % 8)).V h.val e r.val

/-- What a point leaves in its output block. -/
def Out (t : Fin grid0.N) (X : (names.shape .out).Idx → Elt Ideal .bf16) : Prop :=
  ∀ (q : Fin 256) (a : Fin 1920) (H : ℕ) (e : Fin 320), H < 6 → a.val = 320 * H + e.val → (X (ix3 0 q a) : EReal) = (data m (t.val / 8) (t.val % 8)).y (data m (t.val / 8) (t.val % 8)).ws H q e

theorem kept_zero (S : St names (Elt Ideal)) : Kept m 0 S where
  kt _ _ _ _ hr := absurd hr (by simp)
  ksr _ _ _ _ hr := absurd hr (by simp)
  v16 _ _ _ hr := absurd hr (by simp)

theorem kept_loc (n : ℕ) (S S' : St names (Elt Ideal)) (h : ∀ b, b ∈ scratchNames → S b = S' b) (k : Kept m n S) : Kept m n S' where
  kt a b c d hr := (congrFun (h .kt (by decide)) _).symm.trans (k.kt a b c d hr)
  ksr a b c d hr := (congrFun (h .ksr (by decide)) _).symm.trans (k.ksr a b c d hr)
  v16 a b c hr := (congrFun (h .v16 (by decide)) _).symm.trans (k.v16 a b c hr)

theorem kept_succ {n : ℕ} {S : St names (Elt Ideal)} (l : Left (data m (n / 8) (n % 8)) S) : Kept m (n + 1) S := by
  by_cases h7 : n % 8 = 7
  · have e : (n + 1) % 8 = 0 := by omega
    constructor
    · intro _ _ _ _ hr; rw [e] at hr; omega
    · intro _ _ _ _ hr; rw [e] at hr; omega
    · intro _ _ _ hr; rw [e] at hr; omega
  · have e : (n + 1) % 8 = n % 8 + 1 := by omega
    have e' : (n + 1) / 8 = n / 8 := by omega
    constructor
    · intro a b c d hr; rw [e] at hr; rw [e']; exact l.kt a b c d hr
    · intro a b c d hr; rw [e] at hr; rw [e']; exact l.ksr a b c d hr
    · intro a b c hr; rw [e] at hr; rw [e']; exact l.v16 a b c hr

/-- The batches' segments ascend. -/
def Sorted : Prop := ∀ (b : Fin 24) (k l : ℕ) (hkl : k ≤ l) (hl : l < 2048), (arg m 0 main_arg6 (ix2 b ⟨k, by omega⟩) : BitVec 32).toInt ≤ (arg m 0 main_arg6 (ix2 b ⟨l, hl⟩) : BitVec 32).toInt

variable {m} (hs : Sorted m)

include hs in
theorem doc {b i : ℕ} (hb : b < 24) (hi : i < 8) : (data m b i).Doc where
  hi := hi
  hb := hb
  mono k l hkl hl := by
    show (arg m 0 main_arg6 (ix2 (Fin.ofNat 24 b) (Fin.ofNat 2048 k)) : BitVec 32).toInt ≤ (arg m 0 main_arg6 (ix2 (Fin.ofNat 24 b) (Fin.ofNat 2048 l)) : BitVec 32).toInt
    rw [ofNat_lt hl, ofNat_lt (n := 2048) (k := k) (by omega)]
    exact hs _ k l hkl hl
  start k hk := by
    dsimp only [data]
    rw [v26_at, ofNat_lt hi, ofNat_lt hk, ofNat_lt (n := 2048) (k := 256 * i) (by omega)]
    exact lt_card_iff (fun k : Fin 2048 => (arg m 0 main_arg6 (ix2 (Fin.ofNat 24 b) k) : BitVec 32).toInt < (arg m 0 main_arg6 (ix2 (Fin.ofNat 24 b) ⟨256 * i, by omega⟩) : BitVec 32).toInt)
      (fun k l hkl hl => lt_of_le_of_lt (hs _ k.val l.val hkl l.isLt) hl) ⟨k, hk⟩

theorem pre (t : Fin grid0.N) {Y : (w : Fin 10) → (spec0 w).block.Idx → Elt Ideal (spec0 w).elt} (hB : Blocks m 0 t Y) {S : St names (Elt Ideal)} (k : Kept m t.val S) :
    Pre (data m (t.val / 8) (t.val % 8)) (join (tables m) Y S) := by
  have hb : Fin.ofNat 24 (t.val / 8) = batch t := ofNat_lt (batch t).isLt
  have hp : ∀ q : Fin 256, Fin.ofNat 2048 (256 * (t.val % 8) + q.val) = pos t q := fun q => ofNat_lt (pos t q).isLt
  constructor
  · exact k.kt
  · exact k.ksr
  · exact k.v16
  · intro h x d q
    refine (rd0 t hB h x d q).trans ((v8_at m 0 _ _ _ _ _).trans ?_)
    unfold data; simp only [hb, hp, ofNat_val]
  · intro h x q
    refine (rd1 t hB h x q).trans ((v11_at m 0 _ _ _ _).trans ?_)
    unfold data; simp only [hb, hp, ofNat_val]
  · intro h x d q
    refine (rd2 t hB h x d q).trans ((v9_at m 0 _ _ _ _ _).trans ?_)
    unfold data; simp only [hb, hp, ofNat_val]
  · intro h x q
    refine (rd3 t hB h x q).trans ((v12_at m 0 _ _ _ _).trans ?_)
    unfold data; simp only [hb, hp, ofNat_val]
  · intro h e q
    refine (rd4 t hB h e q).trans ((v10_at m 0 _ _ _ _).trans ?_)
    unfold data; simp only [hb, hp, ofNat_val]
  · intro h e l
    refine (rd6 t hB h e l).trans ((v14_at m 0 _ _ _).trans ?_)
    unfold data; simp only [ofNat_val]
  · intro e l
    exact (rd7 t hB e l).trans (v18_at m 0 _ _)
  · intro b u hbu
    refine (v27_at m 0 b u).trans ?_
    have e : Fin.ofNat 24 (t.val / 8) = b := hb.trans (Fin.ext hbu.symm)
    have e2 : Fin.ofNat 2048 (256 * u.val + 255) = ⟨255 + 256 * u.val, by omega⟩ := (ofNat_lt (by omega)).trans (Fin.ext (by show 256 * u.val + 255 = 255 + 256 * u.val; omega))
    unfold data; simp only [e, e2]
  · intro q
    refine (rd5 t hB q).trans ((v28_at m 0 _ _).trans ?_)
    unfold data; simp only [hb, hp]
  · exact rd8 t hB 0
  · intro b i hbb hii
    have e : Fin.ofNat 24 (t.val / 8) = b := hb.trans (Fin.ext hbb.symm)
    have e2 : Fin.ofNat 8 (t.val % 8) = i := (ofNat_lt (by omega)).trans (Fin.ext hii.symm)
    show (V m 0 main_v26 (ix2 b i) : BitVec 32).toNat = _
    unfold data; simp only [e, e2]

theorem named_masked : (cst (F := Ideal)).masked = (⊥ : EReal) := rfl
theorem named_open : (cst (F := Ideal)).opened = (⊤ : EReal) := rfl

include hs in
/-- Every point's script leaves its output block as `Out` says, and keeps its keys and values. -/
theorem step : Step m (Kept m) (Out m) := by
  intro c t s Y S hB hk
  obtain rfl : c = 0 := Subsingleton.elim _ _
  have hN : t.val < 192 := t.isLt
  have p := pre t hB hk
  generalize join (tables m) Y S = A at p
  have e0 := coords0 t
  have e1 := coords1 t
  refine run_mono _ A _ _ (fun _ S' l => ⟨kept_succ m (n := t.val) l, fun q a H e hH ha => l.out q a H e hH ha⟩) ?_
  exact run_whole (memWhole s) cst rfl rfl named_masked named_open (doc hs (b := t.val / 8) (i := t.val % 8) (by omega) (by omega)) (hb (grid0.coords t)) (hi (grid0.coords t)) e0.symm e1.symm
    (fun s h => check1 (grid0.coords t) s h) (fun s l u h => check2 (grid0.coords t) s h l u) p

end Cert.DiffAttn.KernelIdeal

end
-- ==== Proof.Final.lean ====
/-
  The kernel's result array, element by element.
-/
module

public import proofs.«01_k».proof.Proof.Step
public import Idealize.ShloMosaic.Lib.Pipeline.ArrRel

@[expose] public section

noncomputable section

namespace Cert.DiffAttn.KernelIdeal

open Cert.KernelIdeal Cert.KernelIdeal.Gen
open Idealize.ShloMosaic Idealize.ShloMosaic.Script Idealize.ShloMosaic.Pipeline
open Idealize.ShloMosaic.TcCoe

variable {m : (ℓ : Loc nD τ sig) → Buf (Elt Ideal) ℓ}

theorem flushes : ∀ t : Fin grid0.N, Window.flushOf grid0 true (fun i => (![(BitVec.ofNat 32 (i 0).val).toNat, (BitVec.ofNat 32 (i 1).val).toNat, 0] : Fin 3 → ℕ)) t = true := by decide +kernel

theorem flush9 (t : Fin grid0.N) : ((cfgA m).win (9 : Fin 10)).flush t = true := (Window.flush_eq_flushOf _ _).trans (flushes t)

theorem index9 (t t' : Fin grid0.N) (h : ((cfgA m).win (9 : Fin 10)).index t = ((cfgA m).win (9 : Fin 10)).index t') : t = t' := by
  have h0 : (BitVec.ofNat 32 (grid0.coords t 0).val).toNat = (BitVec.ofNat 32 (grid0.coords t' 0).val).toNat := congrFun h (0 : Fin 3)
  have h1 : (BitVec.ofNat 32 (grid0.coords t 1).val).toNat = (BitVec.ofNat 32 (grid0.coords t' 1).val).toNat := congrFun h (1 : Fin 3)
  rw [batchW, batchW] at h0
  rw [tileW, tileW] at h1
  exact Fin.ext (by omega)

theorem emb9 (t : Fin grid0.N) (q : Fin 256) (a : Fin 1920) : (((cfgA m).win (9 : Fin 10)).blk t).view.emb (ix3 0 q a) = ix3 (batch t) (pos t q) a := by
  funext d
  refine Fin.ext ((Window.rect_emb_val_off ((cfgA m).win (9 : Fin 10)) t (ix3 0 q a) d).trans ?_)
  match d with
  | ⟨0, _⟩ => show (BitVec.ofNat 32 (grid0.coords t 0).val).toNat * 1 + 0 = t.val / 8; rw [batchW]; omega
  | ⟨1, _⟩ => show (BitVec.ofNat 32 (grid0.coords t 1).val).toNat * 256 + q.val = 256 * (t.val % 8) + q.val; rw [tileW]; omega
  | ⟨2, _⟩ => show 0 * 1920 + a.val = a.val; omega

/-- The array the run ends with. -/
theorem array {r : PUnit × MemSt nD τ sig (Elt Ideal)} (h : RDat.FramePost (cfgA m) (dat m (Kept m) (Out m)) (V m) r) (t : Fin grid0.N) (q : Fin 256) (a : Fin 1920) (H : ℕ) (e : Fin 320)
    (hH : H < 6) (ha : a.val = 320 * H + e.val) :
    r.2.mem (((0 : Dev nD).tc : Thread nD τ).loc main_v30) (ix3 (batch t) (pos t q) a) = (data m (t.val / 8) (t.val % 8)).y (data m (t.val / 8) (t.val % 8)).ws H q e := by
  obtain ⟨after, hL, hA⟩ := h.exists_exact 0
  have hdisj := Window.hdisj_of_index_inj ((cfgA m).win (9 : Fin 10)) (fun t t' _ _ e => index9 t t' e)
  refine (congrFun (hA (9 : Fin 10)) (ix3 (batch t) (pos t q) a)).trans ?_
  refine (congrArg (((dat m (Kept m) (Out m) 0).withAfter after).arrAt (9 : Fin 10) (cfgA m).N) (emb9 (m := m) t q a)).symm.trans ?_
  refine (Dat.arrAt_emb_eq_flushed ((dat m (Kept m) (Out m) 0).withAfter after) (9 : Fin 10) hdisj t (flush9 t) (ix3 0 q a)).trans ?_
  obtain ⟨Y, _, hO⟩ := hL (9 : Fin 10) t (flush9 t)
  have hO' : Out m t (after (9 : Fin 10) t) := hO
  exact hO' q a H e hH ha

end Cert.DiffAttn.KernelIdeal

end
-- ==== Proof.RefData.lean ====
/-
  The reference's result and the kernel's, element by element: the same number.
-/
module

public import proofs.«01_k».proof.Proof.RefVal
public import proofs.«01_k».proof.Proof.Final

@[expose] public section

noncomputable section

namespace Cert.DiffAttn.Ref

open Idealize.ShloMosaic
open Cert.DiffAttn.KernelIdeal

theorem sup_range {n : ℕ} (f : ℕ → EReal) : (Finset.range n).sup f = (Finset.univ : Finset (Fin n)).sup fun k => f k.val := by
  refine le_antisymm (Finset.sup_le fun k hk => ?_) (Finset.sup_le fun k _ => ?_)
  · exact Finset.le_sup (f := fun k : Fin n => f k.val) (Finset.mem_univ (⟨k, Finset.mem_range.1 hk⟩ : Fin n))
  · exact Finset.le_sup (f := f) (Finset.mem_range.2 k.isLt)

/-- The scores' scale. -/
def sc : ℝ := 10610843 / 134217728

theorem ofBits_sc : Ideal.ofBits .f32 0x3DA1E89B#32 = ((sc : ℝ) : EReal) := by
  unfold sc
  simp [Ideal.ofBits, Ideal.ieee, -EReal.coe_mul]; norm_num

theorem ofBits_320 : Ideal.ofBits .f32 0x43A00000#32 = ((320 : ℝ) : EReal) := by
  simp [Ideal.ofBits, Ideal.ieee, -EReal.coe_mul]; norm_num

theorem alpha_eq : (cst (F := Ideal)).alpha = ((sc : ℝ) : EReal) * perLog := by
  unfold perLog sc
  rw [← EReal.coe_mul]; rfl

theorem invV_eq : (cst (F := Ideal)).invV = ((1 / 320 : ℝ) : EReal) := rfl

theorem bot_mul_perLog : (⊥ : EReal) * perLog = ⊥ := by unfold perLog; exact EReal.bot_mul_coe_of_pos perLog_pos

section
variable (x1 x3 : Cert.ReferenceIdeal.S24x2048x6x2.Idx → EReal) (x5 : Cert.ReferenceIdeal.S6x320.Idx → EReal) (x6 : Cert.ReferenceIdeal.S24x2048.Idx → BitVec 32) (x11 : Cert.ReferenceIdeal.S320.Idx → EReal)
  (r0 r1 : Cert.ReferenceIdeal.S24x2048x6x2x160.Idx → EReal) (r2 : Cert.ReferenceIdeal.S24x2048x6x320.Idx → EReal) (e0 : Cert.ReferenceIdeal.S_.Idx → EReal)

/-- The two programs' numbers for one batch and tile. -/
structure Same (D : Data) (b : Fin 24) : Prop where
  hi : D.i < 8
  q : ∀ (h : Fin 6) (c : Fin 2) (d : Fin 160) (q : Fin 256) (s : Fin 2048), s.val = 256 * D.i + q.val → D.Q h.val c.val d q = r0 (ix5 b s h c d)
  qs : ∀ (h : Fin 6) (c : Fin 2) (q : Fin 256) (s : Fin 2048), s.val = 256 * D.i + q.val → D.QS h.val c.val q = x1 (ix4 b s h c)
  k : ∀ (h : Fin 6) (c : Fin 2) (k : Fin 2048) (d : Fin 160), D.K h.val c.val k.val d = r1 (ix5 b k h c d)
  ks : ∀ (h : Fin 6) (c : Fin 2) (k : Fin 2048), D.KS h.val c.val k.val = x3 (ix4 b k h c)
  v : ∀ (h : Fin 6) (e : Fin 320) (k : Fin 2048), D.V h.val e k.val = r2 (ix4 b k h e)
  sg : ∀ k : Fin 2048, D.SG k.val = x6 (ix2 b k)
  vsc : ∀ (h : Fin 6) (e : Fin 320), D.VSC h.val e = x5 (ix2 h e)
  ga : ∀ e : Fin 320, D.GA e = x11 (ix1 e) * Ideal.ofBits FTy.f32 0x3F4CCCCD#32
  lam : D.lam = e0 ix0
  alpha : D.alpha = ((sc : ℝ) : EReal) * perLog
  invV : D.invV = ((1 / 320 : ℝ) : EReal)

variable {x1 x3 x5 x6 x11 r0 r1 r2 e0} {D : Data} {b : Fin 24} (S : Same x1 x3 x5 x6 x11 r0 r1 r2 e0 D b)
include S

theorem Same.score (h : Fin 6) (c : Fin 2) {q : Fin 256} {s : Fin 2048} (hs : s.val = 256 * D.i + q.val) (k : Fin 2048) :
    D.x h.val c.val q k.val = score x1 x3 r0 r1 b h c s k * perLog := by
  unfold Data.x Ref.score
  have e : (∑ d : Fin 160, D.K h.val c.val k.val d * D.Q h.val c.val d q) = ∑ d : Fin 160, r0 (ix5 b s h c d) * r1 (ix5 b k h c d) :=
    Finset.sum_congr rfl fun d _ => by rw [S.k, S.q h c d q s hs, mul_comm]
  rw [e, S.ks, S.qs h c q s hs, S.alpha, ofBits_sc]
  simp only [mul_assoc]
  rw [mul_left_comm (x3 (ix4 b k h c))]

theorem Same.masked (h : Fin 6) (c : Fin 2) {q : Fin 256} {s : Fin 2048} (hs : s.val = 256 * D.i + q.val) (k : Fin 2048) :
    D.M h.val c.val q k.val = R x1 x3 x6 r0 r1 b h c s k * perLog := by
  have hv : D.vis q k.val ↔ (k.val ≤ s.val ∧ x6 (ix2 b k) = x6 (ix2 b s)) := by
    unfold Data.vis; rw [← hs, S.sg, S.sg]
  unfold Data.M R
  by_cases h' : D.vis q k.val
  · rw [if_pos h', if_pos (hv.1 h')]; exact S.score h c hs k
  · rw [if_neg h', if_neg (fun z => h' (hv.2 z)), bot_mul_perLog]

theorem Same.weight (h : Fin 6) (c : Fin 2) {q : Fin 256} {s : Fin 2048} (hs : s.val = 256 * D.i + q.val) (k : Fin 2048) :
    D.ws h.val c.val q k.val = P x1 x3 x6 r0 r1 b h c s k := by
  have ht : D.top h.val c.val q = Finset.univ.sup fun k : Fin 2048 => R x1 x3 x6 r0 r1 b h c s k * perLog := by
    unfold Data.top; rw [sup_range]
    exact Finset.sup_congr rfl fun k _ => S.masked h c hs k
  have hB : ∀ k : Fin 2048, D.B h.val c.val q k.val = Ideal.exp2 (R x1 x3 x6 r0 r1 b h c s k * perLog - Finset.univ.sup fun k : Fin 2048 => R x1 x3 x6 r0 r1 b h c s k * perLog) :=
    fun k => by unfold Data.B; rw [ht, S.masked h c hs k]
  unfold Data.ws P
  rw [Finset.sum_range, hB, Finset.sum_congr rfl fun k _ => hB k]
  exact weight_exp Finset.univ (R x1 x3 x6 r0 r1 b h c s) k

theorem Same.out (h : Fin 6) (e : Fin 320) {q : Fin 256} {s : Fin 2048} (hs : s.val = 256 * D.i + q.val) :
    D.av D.ws h.val q e * D.VSC h.val e = O x1 x3 x5 x6 r0 r1 r2 e0 b s h e := by
  unfold Data.av O
  rw [Finset.sum_range, S.vsc]
  refine congrArg (fun z : EReal => z * x5 (ix2 h e)) (Finset.sum_congr rfl fun k _ => ?_)
  have w0 := S.weight h 0 hs k
  have w1 := S.weight h 1 hs k
  rw [S.v, S.lam, mul_comm (e0 ix0), ← w0, ← w1]; rfl

/-- The result's element. -/
theorem Same.y (h : Fin 6) (e : Fin 320) {q : Fin 256} {s : Fin 2048} (hs : s.val = 256 * D.i + q.val) :
    D.y D.ws h.val q e = Y x1 x3 x5 x6 x11 r0 r1 r2 e0 b s h e := by
  unfold Data.y Data.norm Y
  simp only [S.out h _ hs]
  rw [S.ga, S.invV, ofBits_320, Ideal.div_coe (by norm_num), ← mul_assoc]

end

end Cert.DiffAttn.Ref

end
-- ==== Proof.RefRegion.lean ====
/-
  What the reference's region leaves: its arguments in the wider format, which as numbers are the arguments.
-/
module

public import proofs.«01_k».proof.Proof.Gen.ReferenceIdeal.Run
public import Idealize.ShloMosaic.Lib.Pipeline.ValueKit
public import Idealize.ShloMosaic.Lib.Pointwise
public import Idealize.ShloMosaic.Lib.IdealHost

@[expose] public section

noncomputable section

namespace Cert.DiffAttn.Ref

open Cert.ReferenceIdeal Cert.ReferenceIdeal.Gen
open Idealize.ShloMosaic Idealize.ShloMosaic.Pipeline
open Idealize.ShloMosaic.TcCoe

variable (m : (ℓ : Loc nD τ sig) → Buf (Elt Ideal) ℓ) (c : Dev nD)

/-- The arguments the region reads. -/
def queries : S24x2048x6x2x160.Idx → EReal := m ((c.tc : Thread nD τ).loc main_arg0)
def keys : S24x2048x6x2x160.Idx → EReal := m ((c.tc : Thread nD τ).loc main_arg2)
def values : S24x2048x6x320.Idx → EReal := m ((c.tc : Thread nD τ).loc main_arg4)

/-- Every window's block index at the grid's one point. -/
theorem idx : ∀ t : Fin cfg0.N, win0_0.index t = ![0, 0, 0, 0, 0] ∧ win0_1.index t = ![0, 0, 0, 0, 0] ∧ win0_2.index t = ![0, 0, 0, 0] :=
  (by decide +kernel : ∀ t : Fin grid0.N, _)

/-- The blocks at that point are the arguments. -/
theorem iblk0 : iblk m c 0 t0_0 = queries m c := by
  unfold queries
  blk_ext! [iblk, V, idx t0_0]
theorem iblk1 : iblk m c 1 t0_0 = keys m c := by
  unfold keys
  blk_ext! [iblk, V, idx t0_0]
theorem iblk2 : iblk m c 2 t0_0 = values m c := by
  unfold values
  blk_ext! [iblk, V, idx t0_0]

theorem reg0 : Value.reg_main_v8_0 m c = queries m c := by
  refine (dats m 0 c).arrAt_eq_of_after_last 3 t0_0 (by decide +kernel) _ fun j => ?_
  blk_simp
  rw [after0_3]
  frame_out
  rw [iblk0]
  rfl

theorem reg1 : Value.reg_main_v8_1 m c = keys m c := by
  refine (dats m 0 c).arrAt_eq_of_after_last 4 t0_0 (by decide +kernel) _ fun j => ?_
  blk_simp
  rw [after0_4]
  frame_out
  rw [iblk1]
  rfl

theorem reg2 : Value.reg_main_v8_2 m c = values m c := by
  refine (dats m 0 c).arrAt_eq_of_after_last 5 t0_0 (by decide +kernel) _ fun j => ?_
  blk_simp
  rw [after0_5]
  frame_out
  rw [iblk2]
  rfl

/-- The four vectors the mixing weight is of. -/
def lam0 : S160.Idx → EReal := m ((c.tc : Thread nD τ).loc main_arg7)
def lam1 : S160.Idx → EReal := m ((c.tc : Thread nD τ).loc main_arg8)
def lam2 : S160.Idx → EReal := m ((c.tc : Thread nD τ).loc main_arg9)
def lam3 : S160.Idx → EReal := m ((c.tc : Thread nD τ).loc main_arg10)

/-- The mixing weight. -/
theorem mix : Value.exitV m c (Proc.devRef .tc main_v7) ix0 = Ideal.exp (∑ d : Fin 160, lam0 m c (ix1 d) * lam1 m c (ix1 d))
    - Ideal.exp (∑ d : Fin 160, lam2 m c (ix1 d) * lam3 m c (ix1 d)) + Ideal.ofBits FTy.f32 0x3E4CCCCD#32 := by
  rw [Value.exit_main_v7]
  unfold lam0 lam1 lam2 lam3
  pointwise

end Cert.DiffAttn.Ref

end
-- ==== Proof.Value.lean ====
/-
  The two programs' results are one array.
-/
module

public import proofs.«01_k».proof.Defs
public import proofs.«01_k».proof.Proof.RefData
public import proofs.«01_k».proof.Proof.RefRegion

@[expose] public section

noncomputable section

namespace Cert.DiffAttn

open Idealize.ShloMosaic Idealize.ShloMosaic.Pipeline
open Idealize.ShloMosaic.TcCoe
open Cert.DiffAttn.KernelIdeal

/-- The side conditions of the precondition's function. -/
theorem preFacts : Cert.Pre_documents_in_order.Facts where
  slices_S24x2048_S24x2047_0_1 := by decide
  slices_S24x2048_S24x2047_0_0 := by decide
  reducesTo_S24x2047_S_d0_1 := by decide
  h_S_ := by decide

/-- The two programs are given the same arguments. -/
abbrev Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

section
variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

/-- The reference's scales of the queries, under their type. -/
def rx1 (m' : (ℓ : Loc Cert.ReferenceIdeal.nD Cert.ReferenceIdeal.τ Cert.ReferenceIdeal.sig) → Buf (Elt Ideal) ℓ) : Cert.ReferenceIdeal.S24x2048x6x2.Idx → EReal :=
  m' (((0 : Dev Cert.ReferenceIdeal.nD).tc : Thread Cert.ReferenceIdeal.nD Cert.ReferenceIdeal.τ).loc Cert.ReferenceIdeal.main_arg1)
/-- The reference's scales of the keys, under their type. -/
def rx3 (m' : (ℓ : Loc Cert.ReferenceIdeal.nD Cert.ReferenceIdeal.τ Cert.ReferenceIdeal.sig) → Buf (Elt Ideal) ℓ) : Cert.ReferenceIdeal.S24x2048x6x2.Idx → EReal :=
  m' (((0 : Dev Cert.ReferenceIdeal.nD).tc : Thread Cert.ReferenceIdeal.nD Cert.ReferenceIdeal.τ).loc Cert.ReferenceIdeal.main_arg3)
/-- The reference's scales of the values, under their type. -/
def rx5 (m' : (ℓ : Loc Cert.ReferenceIdeal.nD Cert.ReferenceIdeal.τ Cert.ReferenceIdeal.sig) → Buf (Elt Ideal) ℓ) : Cert.ReferenceIdeal.S6x320.Idx → EReal :=
  m' (((0 : Dev Cert.ReferenceIdeal.nD).tc : Thread Cert.ReferenceIdeal.nD Cert.ReferenceIdeal.τ).loc Cert.ReferenceIdeal.main_arg5)
/-- The reference's segment ids, under their type. -/
def rx6 (m' : (ℓ : Loc Cert.ReferenceIdeal.nD Cert.ReferenceIdeal.τ Cert.ReferenceIdeal.sig) → Buf (Elt Ideal) ℓ) : Cert.ReferenceIdeal.S24x2048.Idx → BitVec 32 :=
  m' (((0 : Dev Cert.ReferenceIdeal.nD).tc : Thread Cert.ReferenceIdeal.nD Cert.ReferenceIdeal.τ).loc Cert.ReferenceIdeal.main_arg6)
/-- The reference's gain, under its type. -/
def rx11 (m' : (ℓ : Loc Cert.ReferenceIdeal.nD Cert.ReferenceIdeal.τ Cert.ReferenceIdeal.sig) → Buf (Elt Ideal) ℓ) : Cert.ReferenceIdeal.S320.Idx → EReal :=
  m' (((0 : Dev Cert.ReferenceIdeal.nD).tc : Thread Cert.ReferenceIdeal.nD Cert.ReferenceIdeal.τ).loc Cert.ReferenceIdeal.main_arg11)
/-- The reference's weight of the second score map. -/
def re0 (m' : (ℓ : Loc Cert.ReferenceIdeal.nD Cert.ReferenceIdeal.τ Cert.ReferenceIdeal.sig) → Buf (Elt Ideal) ℓ) : Cert.ReferenceIdeal.S_.Idx → EReal :=
  Cert.ReferenceIdeal.Value.exitV m' 0 (Proc.devRef .tc Cert.ReferenceIdeal.main_v7)

/-- A grid point's data in the kernel are the reference's arguments, read at its batch and its query tile. -/
theorem same (h : Agree m m' 0) (b : Fin 24) (i : ℕ) (hi : i < 8) :
    Ref.Same (rx1 m') (rx3 m') (rx5 m') (rx6 m') (rx11 m') (Ref.queries m' 0) (Ref.keys m' 0) (Ref.values m' 0) (re0 m') (data m b.val i) b := by
  obtain ⟨h0, h1, h2, h3, h4, h5, h6, h7, h8, h9, h10, h11⟩ := h
  constructor
  · exact hi
  · intro hh c d q s hs
    unfold Ref.queries; rw [h0]
    dsimp only [data] at hs ⊢
    rw [← hs]; simp only [ofNat_val]
  · intro hh c q s hs
    unfold rx1; rw [h1]
    dsimp only [data] at hs ⊢
    rw [← hs]; simp only [ofNat_val]
  · intro hh c k d
    unfold Ref.keys; rw [h2]
    dsimp only [data]
    simp only [ofNat_val]
  · intro hh c k
    unfold rx3; rw [h3]
    dsimp only [data]
    simp only [ofNat_val]
  · intro hh e k
    unfold Ref.values; rw [h4]
    dsimp only [data]
    simp only [ofNat_val]
  · intro k
    unfold rx6; rw [h6]
    dsimp only [data]
    simp only [ofNat_val]
  · intro hh e
    unfold rx5; rw [h5]
    dsimp only [data]
    simp only [ofNat_val]
  · intro e
    unfold rx11; rw [h11]
    rfl
  · have e0 : Ref.lam0 m' 0 = lamIn0 m 0 := h7
    have e1 : Ref.lam1 m' 0 = lamIn1 m 0 := h8
    have e2 : Ref.lam2 m' 0 = lamIn2 m 0 := h9
    have e3 : Ref.lam3 m' 0 = lamIn3 m 0 := h10
    refine (v29_at m 0 0).trans ?_
    rw [← e0, ← e1, ← e2, ← e3]
    exact (Ref.mix m' 0).symm
  · exact Ref.alpha_eq
  · exact Ref.invV_eq

/-- What both programs end with. -/
def res (m' : (ℓ : Loc Cert.ReferenceIdeal.nD Cert.ReferenceIdeal.τ Cert.ReferenceIdeal.sig) → Buf (Elt Ideal) ℓ) : Cert.ReferenceIdeal.S24x2048x1920.Idx → EReal :=
  Cert.ReferenceIdeal.Read.val_main_v75 (F := Ideal) (rx1 m') (rx3 m') (rx5 m') (rx6 m') (rx11 m') (Ref.queries m' 0) (Ref.keys m' 0) (Ref.values m' 0) (re0 m')

/-- The array that the kernel leaves is the reference's result, element by element. -/
theorem kernel_res (h : Agree m m' 0) {r : PUnit × MemSt Cert.KernelIdeal.nD Cert.KernelIdeal.τ Cert.KernelIdeal.sig (Elt Ideal)}
    (hr : RDat.FramePost (cfgA m) (dat m (Kept m) (Out m)) (V m) r) :
    r.2.mem (((0 : Dev Cert.KernelIdeal.nD).tc : Thread Cert.KernelIdeal.nD Cert.KernelIdeal.τ).loc Cert.KernelIdeal.main_v30) = res m' := by
  have key : ∀ (b : Fin 24) (s : Fin 2048) (a : Fin 1920),
      (r.2.mem (((0 : Dev Cert.KernelIdeal.nD).tc : Thread Cert.KernelIdeal.nD Cert.KernelIdeal.τ).loc Cert.KernelIdeal.main_v30) (ix3 b s a) : Elt Ideal .bf16) = res m' (ix3 b s a) := by
    intro b s a
    have hb := b.isLt; have hs := s.isLt; have ha := a.isLt
    have hN : (8 * b.val + s.val / 256) < Cert.KernelIdeal.grid0.N := by
      rw [Cert.KernelIdeal.Gen.N_0]; omega
    have e1 : (8 * b.val + s.val / 256) / 8 = b.val := by omega
    have e2 : (8 * b.val + s.val / 256) % 8 = s.val / 256 := by omega
    have hk := array hr ⟨8 * b.val + s.val / 256, hN⟩ ⟨s.val % 256, by omega⟩ a (a.val / 320) ⟨a.val % 320, by omega⟩ (by omega) (by show a.val = 320 * (a.val / 320) + a.val % 320; omega)
    have eb : batch ⟨8 * b.val + s.val / 256, hN⟩ = b := Fin.ext e1
    have es : pos ⟨8 * b.val + s.val / 256, hN⟩ ⟨s.val % 256, by omega⟩ = s := Fin.ext (by
      show 256 * ((8 * b.val + s.val / 256) % 8) + s.val % 256 = s.val; omega)
    rw [eb, es] at hk
    refine hk.trans ?_
    have S := same (m := m) (m' := m') h b (s.val / 256) (by omega)
    have hy := S.y ⟨a.val / 320, by omega⟩ ⟨a.val % 320, by omega⟩ (q := ⟨s.val % 256, by omega⟩) (s := s) (by show s.val = 256 * (s.val / 256) + s.val % 256; omega)
    refine Eq.trans ?_ (hy.trans (Ref.v75_at (rx1 m') (rx3 m') (rx5 m') (rx6 m') (rx11 m') (Ref.queries m' 0) (Ref.keys m' 0) (Ref.values m' 0) (re0 m') b s
      ⟨a.val / 320, by omega⟩ ⟨a.val % 320, by omega⟩ a (by show a.val = 320 * (a.val / 320) + a.val % 320; omega)).symm)
    show (data m ((8 * b.val + s.val / 256) / 8) ((8 * b.val + s.val / 256) % 8)).y (data m ((8 * b.val + s.val / 256) / 8) ((8 * b.val + s.val / 256) % 8)).ws (a.val / 320) _ _ = _
    rw [e1, e2]
  funext i
  have hi := eq_ix3 (n0 := 24) (n1 := 2048) (n2 := 1920) i
  rw [hi]
  exact key _ _ _

end

/-- The kernel and the reference end with the same array. -/
theorem algebraic : Cert.algebraic_KernelIdeal_ReferenceIdeal_pre_documents_in_order (hKernelIdeal := Cert.KernelIdeal.Gen.facts) (hReferenceIdeal := Cert.ReferenceIdeal.Gen.facts)
    (hPre_documents_in_order := preFacts) := by
  intro m g m' g' hpre hag
  have hs : Sorted m := fun b k l hkl hl => @mono_of_pre preFacts _ _ _ _ _ _ _ _ _ _ _ _ (hpre 0) b k l hkl hl
  refine ⟨fun _ => res m', ?_, ?_⟩
  · refine (θ_run _ _ _).mono (fun r hr c => ?_) (run_main m (step hs) (kept_loc m) (kept_zero m) g)
    obtain rfl := Subsingleton.elim c (0 : Dev Cert.KernelIdeal.nD)
    exact ⟨kernel_res (hag 0) hr.1, args_kept m hr.1 0⟩
  · refine (θ_run _ _ _).mono (fun r hr c => ⟨(hr c).1.trans ?_, (hr c).2⟩) (Cert.ReferenceIdeal.Value.run m' g')
    obtain rfl := Subsingleton.elim c (0 : Dev Cert.ReferenceIdeal.nD)
    refine (Cert.ReferenceIdeal.Read.val_main_v75_eq (Cert.ReferenceIdeal.Value.exitV m' 0)).trans ?_
    rw [Cert.ReferenceIdeal.Value.exit_main_arg1, Cert.ReferenceIdeal.Value.exit_main_arg3, Cert.ReferenceIdeal.Value.exit_main_arg5, Cert.ReferenceIdeal.Value.exit_main_arg6,
      Cert.ReferenceIdeal.Value.exit_main_arg11, Cert.ReferenceIdeal.Value.exit_main_v8_0, Cert.ReferenceIdeal.Value.exit_main_v8_1, Cert.ReferenceIdeal.Value.exit_main_v8_2,
      Ref.reg0, Ref.reg1, Ref.reg2]
    rfl

end Cert.DiffAttn

end
-- ==== Proof.lean ====
/-
  The certificate: the frames of the three programs, that the kernel with named constants is the kernel, and that it
  ends with the reference's array when a batch's documents are in order.
-/
module

public import proofs.«01_k».proof.Defs
public import proofs.«01_k».proof.Proof.Gen.ReferenceIdeal.Frame
public import proofs.«01_k».proof.Proof.KernelFrame
public import proofs.«01_k».proof.Proof.KernelIdealFrame
public import proofs.«01_k».proof.Proof.Value

@[expose] public section

noncomputable section

namespace Cert.Proof

open Idealize.ShloMosaic

/-- The kernel's four named constants are the values that the table gives them. -/
theorem preserves : Cert.preserves_Kernel_KernelIdeal :=
  ⟨IdealRules.named_const.statement Cert.KernelIdeal.κ "open" .f32 0x7149F2CA#32 ⊤ rfl,
    IdealRules.named_const.statement Cert.KernelIdeal.κ "masked" .f32 0xF149F2CA#32 ⊥ rfl,
    IdealRules.named_const.statement Cert.KernelIdeal.κ "alpha" .f32 0x3DE995B3#32 (((10610843/134217728) * (Real.log 2)⁻¹ : ℝ) : EReal) rfl,
    IdealRules.named_const.statement Cert.KernelIdeal.κ "inv_v" .f32 0x3B4CCCCD#32 ((1/320 : ℝ) : EReal) rfl⟩

/-- Everything the certificate claims. -/
theorem claim : Cert.Claim :=
  ⟨Cert.Kernel.Gen.facts, Cert.KernelIdeal.Gen.facts, Cert.ReferenceIdeal.Gen.facts, Cert.DiffAttn.preFacts,
    fun m g _ => Cert.DiffAttn.Kernel.frame m g, fun m g _ => Cert.DiffAttn.KernelIdeal.frame m g, fun m g _ => Cert.DiffAttn.KernelIdeal.frame m g,
    fun m ρ _ => Cert.ReferenceIdeal.Gen.frame m ρ, fun m ρ _ => Cert.ReferenceIdeal.Gen.frame m ρ, preserves, Cert.DiffAttn.algebraic⟩

end Cert.Proof

end
